-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite [hPre_finite : Cert.Pre_finite.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).1 = (fun _ => 1#1)
    ∧ (Cert.Pre_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).2.1 = (fun _ => 1#1)
    ∧ (Cert.Pre_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite [hPre_finite : Cert.Pre_finite.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).1 = (fun _ => 1#1)
    ∧ (Cert.Pre_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).2.1 = (fun _ => 1#1)
    ∧ (Cert.Pre_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Reference28Ideal (m : (ℓ : Loc Cert.Reference28Ideal.nD Cert.Reference28Ideal.τ Cert.Reference28Ideal.sig) → Buf (Elt Ideal) ℓ) : Prop :=
  True

def Pre_Kernel29 (m : (ℓ : Loc Cert.Kernel29.nD Cert.Kernel29.τ Cert.Kernel29.sig) → Buf (Elt Bits) ℓ) : Prop :=
  True

def Pre_Kernel29Ideal (m : (ℓ : Loc Cert.Kernel29Ideal.nD Cert.Kernel29Ideal.τ Cert.Kernel29Ideal.sig) → Buf (Elt Ideal) ℓ) : Prop :=
  True

def Pre_Reference29Ideal (m : (ℓ : Loc Cert.Reference29Ideal.nD Cert.Reference29Ideal.τ Cert.Reference29Ideal.sig) → Buf (Elt Ideal) ℓ) : Prop :=
  True

def Pre_Kernel30 (m : (ℓ : Loc Cert.Kernel30.nD Cert.Kernel30.τ Cert.Kernel30.sig) → Buf (Elt Bits) ℓ) : Prop :=
  True

def Pre_Kernel30Ideal (m : (ℓ : Loc Cert.Kernel30Ideal.nD Cert.Kernel30Ideal.τ Cert.Kernel30Ideal.sig) → Buf (Elt Ideal) ℓ) : Prop :=
  True

def Pre_Reference30Ideal (m : (ℓ : Loc Cert.Reference30Ideal.nD Cert.Reference30Ideal.τ Cert.Reference30Ideal.sig) → Buf (Elt Ideal) ℓ) : Prop :=
  True

def Pre_Kernel31 (m : (ℓ : Loc Cert.Kernel31.nD Cert.Kernel31.τ Cert.Kernel31.sig) → Buf (Elt Bits) ℓ) : Prop :=
  True

def Pre_Kernel31Ideal (m : (ℓ : Loc Cert.Kernel31Ideal.nD Cert.Kernel31Ideal.τ Cert.Kernel31Ideal.sig) → Buf (Elt Ideal) ℓ) : Prop :=
  True

def Pre_Reference31Ideal (m : (ℓ : Loc Cert.Reference31Ideal.nD Cert.Reference31Ideal.τ Cert.Reference31Ideal.sig) → Buf (Elt Ideal) ℓ) : Prop :=
  True

def Pre_Kernel32 (m : (ℓ : Loc Cert.Kernel32.nD Cert.Kernel32.τ Cert.Kernel32.sig) → Buf (Elt Bits) ℓ) : Prop :=
  True

def Pre_Kernel32Ideal (m : (ℓ : Loc Cert.Kernel32Ideal.nD Cert.Kernel32Ideal.τ Cert.Kernel32Ideal.sig) → Buf (Elt Ideal) ℓ) : Prop :=
  True

def Pre_Reference32Ideal (m : (ℓ : Loc Cert.Reference32Ideal.nD Cert.Reference32Ideal.τ Cert.Reference32Ideal.sig) → Buf (Elt Ideal) ℓ) : Prop :=
  True

def Pre_Kernel33 (m : (ℓ : Loc Cert.Kernel33.nD Cert.Kernel33.τ Cert.Kernel33.sig) → Buf (Elt Bits) ℓ) : Prop :=
  True

def Pre_Kernel33Ideal (m : (ℓ : Loc Cert.Kernel33Ideal.nD Cert.Kernel33Ideal.τ Cert.Kernel33Ideal.sig) → Buf (Elt Ideal) ℓ) : Prop :=
  True

def Pre_Reference33Ideal (m : (ℓ : Loc Cert.Reference33Ideal.nD Cert.Reference33Ideal.τ Cert.Reference33Ideal.sig) → Buf (Elt Ideal) ℓ) : Prop :=
  True

def Pre_Kernel34 (m : (ℓ : Loc Cert.Kernel34.nD Cert.Kernel34.τ Cert.Kernel34.sig) → Buf (Elt Bits) ℓ) : Prop :=
  True

def Pre_Kernel34Ideal (m : (ℓ : Loc Cert.Kernel34Ideal.nD Cert.Kernel34Ideal.τ Cert.Kernel34Ideal.sig) → Buf (Elt Ideal) ℓ) : Prop :=
  True

def Pre_Reference34Ideal (m : (ℓ : Loc Cert.Reference34Ideal.nD Cert.Reference34Ideal.τ Cert.Reference34Ideal.sig) → Buf (Elt Ideal) ℓ) : Prop :=
  True

def Pre_Kernel35 (m : (ℓ : Loc Cert.Kernel35.nD Cert.Kernel35.τ Cert.Kernel35.sig) → Buf (Elt Bits) ℓ) : Prop :=
  True

def Pre_Kernel35Ideal (m : (ℓ : Loc Cert.Kernel35Ideal.nD Cert.Kernel35Ideal.τ Cert.Kernel35Ideal.sig) → Buf (Elt Ideal) ℓ) : Prop :=
  True

def Pre_Reference35Ideal (m : (ℓ : Loc Cert.Reference35Ideal.nD Cert.Reference35Ideal.τ Cert.Reference35Ideal.sig) → Buf (Elt Ideal) ℓ) : Prop :=
  True

def Pre_Kernel36 (m : (ℓ : Loc Cert.Kernel36.nD Cert.Kernel36.τ Cert.Kernel36.sig) → Buf (Elt Bits) ℓ) : Prop :=
  True

def Pre_Kernel36Ideal (m : (ℓ : Loc Cert.Kernel36Ideal.nD Cert.Kernel36Ideal.τ Cert.Kernel36Ideal.sig) → Buf (Elt Ideal) ℓ) : Prop :=
  True

def Pre_Reference36Ideal (m : (ℓ : Loc Cert.Reference36Ideal.nD Cert.Reference36Ideal.τ Cert.Reference36Ideal.sig) → Buf (Elt Ideal) ℓ) : Prop :=
  True

def Pre_Kernel37 (m : (ℓ : Loc Cert.Kernel37.nD Cert.Kernel37.τ Cert.Kernel37.sig) → Buf (Elt Bits) ℓ) : Prop :=
  True

def Pre_Kernel37Ideal (m : (ℓ : Loc Cert.Kernel37Ideal.nD Cert.Kernel37Ideal.τ Cert.Kernel37Ideal.sig) → Buf (Elt Ideal) ℓ) : Prop :=
  True

def Pre_Reference37Ideal (m : (ℓ : Loc Cert.Reference37Ideal.nD Cert.Reference37Ideal.τ Cert.Reference37Ideal.sig) → Buf (Elt Ideal) ℓ) : Prop :=
  True

def Pre_Kernel38 (m : (ℓ : Loc Cert.Kernel38.nD Cert.Kernel38.τ Cert.Kernel38.sig) → Buf (Elt Bits) ℓ) : Prop :=
  True

def Pre_Kernel38Ideal (m : (ℓ : Loc Cert.Kernel38Ideal.nD Cert.Kernel38Ideal.τ Cert.Kernel38Ideal.sig) → Buf (Elt Ideal) ℓ) : Prop :=
  True

def Pre_Reference38Ideal (m : (ℓ : Loc Cert.Reference38Ideal.nD Cert.Reference38Ideal.τ Cert.Reference38Ideal.sig) → Buf (Elt Ideal) ℓ) : Prop :=
  True

def Pre_Kernel39 (m : (ℓ : Loc Cert.Kernel39.nD Cert.Kernel39.τ Cert.Kernel39.sig) → Buf (Elt Bits) ℓ) : Prop :=
  True

def Pre_Kernel39Ideal (m : (ℓ : Loc Cert.Kernel39Ideal.nD Cert.Kernel39Ideal.τ Cert.Kernel39Ideal.sig) → Buf (Elt Ideal) ℓ) : Prop :=
  True

def Pre_Kernel39Ideal_finite_gate [hPre_finite_gate : Cert.Pre_finite_gate.Facts] (m : (ℓ : Loc Cert.Kernel39Ideal.nD Cert.Kernel39Ideal.τ Cert.Kernel39Ideal.sig) → Buf (Elt Ideal) ℓ) : Prop :=
  ∀ c : Dev Cert.Kernel39Ideal.nD,
    (Cert.Pre_finite_gate.fn (F := Ideal) (m ((c.tc : Thread Cert.Kernel39Ideal.nD Cert.Kernel39Ideal.τ).loc Cert.Kernel39Ideal.main_arg0)) (m ((c.tc : Thread Cert.Kernel39Ideal.nD Cert.Kernel39Ideal.τ).loc Cert.Kernel39Ideal.main_arg1)) (m ((c.tc : Thread Cert.Kernel39Ideal.nD Cert.Kernel39Ideal.τ).loc Cert.Kernel39Ideal.main_arg2)) (m ((c.tc : Thread Cert.Kernel39Ideal.nD Cert.Kernel39Ideal.τ).loc Cert.Kernel39Ideal.main_arg3)) (m ((c.tc : Thread Cert.Kernel39Ideal.nD Cert.Kernel39Ideal.τ).loc Cert.Kernel39Ideal.main_arg4)) (m ((c.tc : Thread Cert.Kernel39Ideal.nD Cert.Kernel39Ideal.τ).loc Cert.Kernel39Ideal.main_arg5)) (m ((c.tc : Thread Cert.Kernel39Ideal.nD Cert.Kernel39Ideal.τ).loc Cert.Kernel39Ideal.main_arg6)) (m ((c.tc : Thread Cert.Kernel39Ideal.nD Cert.Kernel39Ideal.τ).loc Cert.Kernel39Ideal.main_arg7)) (m ((c.tc : Thread Cert.Kernel39Ideal.nD Cert.Kernel39Ideal.τ).loc Cert.Kernel39Ideal.main_arg8)) (m ((c.tc : Thread Cert.Kernel39Ideal.nD Cert.Kernel39Ideal.τ).loc Cert.Kernel39Ideal.main_arg9)) (m ((c.tc : Thread Cert.Kernel39Ideal.nD Cert.Kernel39Ideal.τ).loc Cert.Kernel39Ideal.main_arg10))).1 = (fun _ => 1#1)
    ∧ (Cert.Pre_finite_gate.fn (F := Ideal) (m ((c.tc : Thread Cert.Kernel39Ideal.nD Cert.Kernel39Ideal.τ).loc Cert.Kernel39Ideal.main_arg0)) (m ((c.tc : Thread Cert.Kernel39Ideal.nD Cert.Kernel39Ideal.τ).loc Cert.Kernel39Ideal.main_arg1)) (m ((c.tc : Thread Cert.Kernel39Ideal.nD Cert.Kernel39Ideal.τ).loc Cert.Kernel39Ideal.main_arg2)) (m ((c.tc : Thread Cert.Kernel39Ideal.nD Cert.Kernel39Ideal.τ).loc Cert.Kernel39Ideal.main_arg3)) (m ((c.tc : Thread Cert.Kernel39Ideal.nD Cert.Kernel39Ideal.τ).loc Cert.Kernel39Ideal.main_arg4)) (m ((c.tc : Thread Cert.Kernel39Ideal.nD Cert.Kernel39Ideal.τ).loc Cert.Kernel39Ideal.main_arg5)) (m ((c.tc : Thread Cert.Kernel39Ideal.nD Cert.Kernel39Ideal.τ).loc Cert.Kernel39Ideal.main_arg6)) (m ((c.tc : Thread Cert.Kernel39Ideal.nD Cert.Kernel39Ideal.τ).loc Cert.Kernel39Ideal.main_arg7)) (m ((c.tc : Thread Cert.Kernel39Ideal.nD Cert.Kernel39Ideal.τ).loc Cert.Kernel39Ideal.main_arg8)) (m ((c.tc : Thread Cert.Kernel39Ideal.nD Cert.Kernel39Ideal.τ).loc Cert.Kernel39Ideal.main_arg9)) (m ((c.tc : Thread Cert.Kernel39Ideal.nD Cert.Kernel39Ideal.τ).loc Cert.Kernel39Ideal.main_arg10))).2 = (fun _ => 1#1)

def Pre_Reference39Ideal (m : (ℓ : Loc Cert.Reference39Ideal.nD Cert.Reference39Ideal.τ Cert.Reference39Ideal.sig) → Buf (Elt Ideal) ℓ) : Prop :=
  True

def Pre_Reference39Ideal_finite_gate [hPre_finite_gate : Cert.Pre_finite_gate.Facts] (m : (ℓ : Loc Cert.Reference39Ideal.nD Cert.Reference39Ideal.τ Cert.Reference39Ideal.sig) → Buf (Elt Ideal) ℓ) : Prop :=
  ∀ c : Dev Cert.Reference39Ideal.nD,
    (Cert.Pre_finite_gate.fn (F := Ideal) (m ((c.tc : Thread Cert.Reference39Ideal.nD Cert.Reference39Ideal.τ).loc Cert.Reference39Ideal.main_arg0)) (m ((c.tc : Thread Cert.Reference39Ideal.nD Cert.Reference39Ideal.τ).loc Cert.Reference39Ideal.main_arg1)) (m ((c.tc : Thread Cert.Reference39Ideal.nD Cert.Reference39Ideal.τ).loc Cert.Reference39Ideal.main_arg2)) (m ((c.tc : Thread Cert.Reference39Ideal.nD Cert.Reference39Ideal.τ).loc Cert.Reference39Ideal.main_arg3)) (m ((c.tc : Thread Cert.Reference39Ideal.nD Cert.Reference39Ideal.τ).loc Cert.Reference39Ideal.main_arg4)) (m ((c.tc : Thread Cert.Reference39Ideal.nD Cert.Reference39Ideal.τ).loc Cert.Reference39Ideal.main_arg5)) (m ((c.tc : Thread Cert.Reference39Ideal.nD Cert.Reference39Ideal.τ).loc Cert.Reference39Ideal.main_arg6)) (m ((c.tc : Thread Cert.Reference39Ideal.nD Cert.Reference39Ideal.τ).loc Cert.Reference39Ideal.main_arg7)) (m ((c.tc : Thread Cert.Reference39Ideal.nD Cert.Reference39Ideal.τ).loc Cert.Reference39Ideal.main_arg8)) (m ((c.tc : Thread Cert.Reference39Ideal.nD Cert.Reference39Ideal.τ).loc Cert.Reference39Ideal.main_arg9)) (m ((c.tc : Thread Cert.Reference39Ideal.nD Cert.Reference39Ideal.τ).loc Cert.Reference39Ideal.main_arg10))).1 = (fun _ => 1#1)
    ∧ (Cert.Pre_finite_gate.fn (F := Ideal) (m ((c.tc : Thread Cert.Reference39Ideal.nD Cert.Reference39Ideal.τ).loc Cert.Reference39Ideal.main_arg0)) (m ((c.tc : Thread Cert.Reference39Ideal.nD Cert.Reference39Ideal.τ).loc Cert.Reference39Ideal.main_arg1)) (m ((c.tc : Thread Cert.Reference39Ideal.nD Cert.Reference39Ideal.τ).loc Cert.Reference39Ideal.main_arg2)) (m ((c.tc : Thread Cert.Reference39Ideal.nD Cert.Reference39Ideal.τ).loc Cert.Reference39Ideal.main_arg3)) (m ((c.tc : Thread Cert.Reference39Ideal.nD Cert.Reference39Ideal.τ).loc Cert.Reference39Ideal.main_arg4)) (m ((c.tc : Thread Cert.Reference39Ideal.nD Cert.Reference39Ideal.τ).loc Cert.Reference39Ideal.main_arg5)) (m ((c.tc : Thread Cert.Reference39Ideal.nD Cert.Reference39Ideal.τ).loc Cert.Reference39Ideal.main_arg6)) (m ((c.tc : Thread Cert.Reference39Ideal.nD Cert.Reference39Ideal.τ).loc Cert.Reference39Ideal.main_arg7)) (m ((c.tc : Thread Cert.Reference39Ideal.nD Cert.Reference39Ideal.τ).loc Cert.Reference39Ideal.main_arg8)) (m ((c.tc : Thread Cert.Reference39Ideal.nD Cert.Reference39Ideal.τ).loc Cert.Reference39Ideal.main_arg9)) (m ((c.tc : Thread Cert.Reference39Ideal.nD Cert.Reference39Ideal.τ).loc Cert.Reference39Ideal.main_arg10))).2 = (fun _ => 1#1)

def Pre_Kernel40 (m : (ℓ : Loc Cert.Kernel40.nD Cert.Kernel40.τ Cert.Kernel40.sig) → Buf (Elt Bits) ℓ) : Prop :=
  True

def Pre_Kernel40Ideal (m : (ℓ : Loc Cert.Kernel40Ideal.nD Cert.Kernel40Ideal.τ Cert.Kernel40Ideal.sig) → Buf (Elt Ideal) ℓ) : Prop :=
  True

def Pre_Kernel40Ideal_finite_conv [hPre_finite_conv : Cert.Pre_finite_conv.Facts] (m : (ℓ : Loc Cert.Kernel40Ideal.nD Cert.Kernel40Ideal.τ Cert.Kernel40Ideal.sig) → Buf (Elt Ideal) ℓ) : Prop :=
  ∀ c : Dev Cert.Kernel40Ideal.nD,
    (Cert.Pre_finite_conv.fn (F := Ideal) (m ((c.tc : Thread Cert.Kernel40Ideal.nD Cert.Kernel40Ideal.τ).loc Cert.Kernel40Ideal.main_arg0)) (m ((c.tc : Thread Cert.Kernel40Ideal.nD Cert.Kernel40Ideal.τ).loc Cert.Kernel40Ideal.main_arg1)) (m ((c.tc : Thread Cert.Kernel40Ideal.nD Cert.Kernel40Ideal.τ).loc Cert.Kernel40Ideal.main_arg2)) (m ((c.tc : Thread Cert.Kernel40Ideal.nD Cert.Kernel40Ideal.τ).loc Cert.Kernel40Ideal.main_arg3)) (m ((c.tc : Thread Cert.Kernel40Ideal.nD Cert.Kernel40Ideal.τ).loc Cert.Kernel40Ideal.main_arg4)) (m ((c.tc : Thread Cert.Kernel40Ideal.nD Cert.Kernel40Ideal.τ).loc Cert.Kernel40Ideal.main_arg5))).1 = (fun _ => 1#1)
    ∧ (Cert.Pre_finite_conv.fn (F := Ideal) (m ((c.tc : Thread Cert.Kernel40Ideal.nD Cert.Kernel40Ideal.τ).loc Cert.Kernel40Ideal.main_arg0)) (m ((c.tc : Thread Cert.Kernel40Ideal.nD Cert.Kernel40Ideal.τ).loc Cert.Kernel40Ideal.main_arg1)) (m ((c.tc : Thread Cert.Kernel40Ideal.nD Cert.Kernel40Ideal.τ).loc Cert.Kernel40Ideal.main_arg2)) (m ((c.tc : Thread Cert.Kernel40Ideal.nD Cert.Kernel40Ideal.τ).loc Cert.Kernel40Ideal.main_arg3)) (m ((c.tc : Thread Cert.Kernel40Ideal.nD Cert.Kernel40Ideal.τ).loc Cert.Kernel40Ideal.main_arg4)) (m ((c.tc : Thread Cert.Kernel40Ideal.nD Cert.Kernel40Ideal.τ).loc Cert.Kernel40Ideal.main_arg5))).2.1 = (fun _ => 1#1)
    ∧ (Cert.Pre_finite_conv.fn (F := Ideal) (m ((c.tc : Thread Cert.Kernel40Ideal.nD Cert.Kernel40Ideal.τ).loc Cert.Kernel40Ideal.main_arg0)) (m ((c.tc : Thread Cert.Kernel40Ideal.nD Cert.Kernel40Ideal.τ).loc Cert.Kernel40Ideal.main_arg1)) (m ((c.tc : Thread Cert.Kernel40Ideal.nD Cert.Kernel40Ideal.τ).loc Cert.Kernel40Ideal.main_arg2)) (m ((c.tc : Thread Cert.Kernel40Ideal.nD Cert.Kernel40Ideal.τ).loc Cert.Kernel40Ideal.main_arg3)) (m ((c.tc : Thread Cert.Kernel40Ideal.nD Cert.Kernel40Ideal.τ).loc Cert.Kernel40Ideal.main_arg4)) (m ((c.tc : Thread Cert.Kernel40Ideal.nD Cert.Kernel40Ideal.τ).loc Cert.Kernel40Ideal.main_arg5))).2.2 = (fun _ => 1#1)

def Pre_Reference40Ideal (m : (ℓ : Loc Cert.Reference40Ideal.nD Cert.Reference40Ideal.τ Cert.Reference40Ideal.sig) → Buf (Elt Ideal) ℓ) : Prop :=
  True

def Pre_Reference40Ideal_finite_conv [hPre_finite_conv : Cert.Pre_finite_conv.Facts] (m : (ℓ : Loc Cert.Reference40Ideal.nD Cert.Reference40Ideal.τ Cert.Reference40Ideal.sig) → Buf (Elt Ideal) ℓ) : Prop :=
  ∀ c : Dev Cert.Reference40Ideal.nD,
    (Cert.Pre_finite_conv.fn (F := Ideal) (m ((c.tc : Thread Cert.Reference40Ideal.nD Cert.Reference40Ideal.τ).loc Cert.Reference40Ideal.main_arg0)) (m ((c.tc : Thread Cert.Reference40Ideal.nD Cert.Reference40Ideal.τ).loc Cert.Reference40Ideal.main_arg1)) (m ((c.tc : Thread Cert.Reference40Ideal.nD Cert.Reference40Ideal.τ).loc Cert.Reference40Ideal.main_arg2)) (m ((c.tc : Thread Cert.Reference40Ideal.nD Cert.Reference40Ideal.τ).loc Cert.Reference40Ideal.main_arg3)) (m ((c.tc : Thread Cert.Reference40Ideal.nD Cert.Reference40Ideal.τ).loc Cert.Reference40Ideal.main_arg4)) (m ((c.tc : Thread Cert.Reference40Ideal.nD Cert.Reference40Ideal.τ).loc Cert.Reference40Ideal.main_arg5))).1 = (fun _ => 1#1)
    ∧ (Cert.Pre_finite_conv.fn (F := Ideal) (m ((c.tc : Thread Cert.Reference40Ideal.nD Cert.Reference40Ideal.τ).loc Cert.Reference40Ideal.main_arg0)) (m ((c.tc : Thread Cert.Reference40Ideal.nD Cert.Reference40Ideal.τ).loc Cert.Reference40Ideal.main_arg1)) (m ((c.tc : Thread Cert.Reference40Ideal.nD Cert.Reference40Ideal.τ).loc Cert.Reference40Ideal.main_arg2)) (m ((c.tc : Thread Cert.Reference40Ideal.nD Cert.Reference40Ideal.τ).loc Cert.Reference40Ideal.main_arg3)) (m ((c.tc : Thread Cert.Reference40Ideal.nD Cert.Reference40Ideal.τ).loc Cert.Reference40Ideal.main_arg4)) (m ((c.tc : Thread Cert.Reference40Ideal.nD Cert.Reference40Ideal.τ).loc Cert.Reference40Ideal.main_arg5))).2.1 = (fun _ => 1#1)
    ∧ (Cert.Pre_finite_conv.fn (F := Ideal) (m ((c.tc : Thread Cert.Reference40Ideal.nD Cert.Reference40Ideal.τ).loc Cert.Reference40Ideal.main_arg0)) (m ((c.tc : Thread Cert.Reference40Ideal.nD Cert.Reference40Ideal.τ).loc Cert.Reference40Ideal.main_arg1)) (m ((c.tc : Thread Cert.Reference40Ideal.nD Cert.Reference40Ideal.τ).loc Cert.Reference40Ideal.main_arg2)) (m ((c.tc : Thread Cert.Reference40Ideal.nD Cert.Reference40Ideal.τ).loc Cert.Reference40Ideal.main_arg3)) (m ((c.tc : Thread Cert.Reference40Ideal.nD Cert.Reference40Ideal.τ).loc Cert.Reference40Ideal.main_arg4)) (m ((c.tc : Thread Cert.Reference40Ideal.nD Cert.Reference40Ideal.τ).loc Cert.Reference40Ideal.main_arg5))).2.2 = (fun _ => 1#1)

def Pre_Kernel41 (m : (ℓ : Loc Cert.Kernel41.nD Cert.Kernel41.τ Cert.Kernel41.sig) → Buf (Elt Bits) ℓ) : Prop :=
  True

def Pre_Kernel41Ideal (m : (ℓ : Loc Cert.Kernel41Ideal.nD Cert.Kernel41Ideal.τ Cert.Kernel41Ideal.sig) → Buf (Elt Ideal) ℓ) : Prop :=
  True

def Pre_Kernel41Ideal_finite_steps [hPre_finite_steps : Cert.Pre_finite_steps.Facts] (m : (ℓ : Loc Cert.Kernel41Ideal.nD Cert.Kernel41Ideal.τ Cert.Kernel41Ideal.sig) → Buf (Elt Ideal) ℓ) : Prop :=
  ∀ c : Dev Cert.Kernel41Ideal.nD,
    (Cert.Pre_finite_steps.fn (F := Ideal) (m ((c.tc : Thread Cert.Kernel41Ideal.nD Cert.Kernel41Ideal.τ).loc Cert.Kernel41Ideal.main_arg0)) (m ((c.tc : Thread Cert.Kernel41Ideal.nD Cert.Kernel41Ideal.τ).loc Cert.Kernel41Ideal.main_arg1)) (m ((c.tc : Thread Cert.Kernel41Ideal.nD Cert.Kernel41Ideal.τ).loc Cert.Kernel41Ideal.main_arg2)) (m ((c.tc : Thread Cert.Kernel41Ideal.nD Cert.Kernel41Ideal.τ).loc Cert.Kernel41Ideal.main_arg3)) (m ((c.tc : Thread Cert.Kernel41Ideal.nD Cert.Kernel41Ideal.τ).loc Cert.Kernel41Ideal.main_arg4)) (m ((c.tc : Thread Cert.Kernel41Ideal.nD Cert.Kernel41Ideal.τ).loc Cert.Kernel41Ideal.main_arg5)) (m ((c.tc : Thread Cert.Kernel41Ideal.nD Cert.Kernel41Ideal.τ).loc Cert.Kernel41Ideal.main_arg6))).1 = (fun _ => 1#1)
    ∧ (Cert.Pre_finite_steps.fn (F := Ideal) (m ((c.tc : Thread Cert.Kernel41Ideal.nD Cert.Kernel41Ideal.τ).loc Cert.Kernel41Ideal.main_arg0)) (m ((c.tc : Thread Cert.Kernel41Ideal.nD Cert.Kernel41Ideal.τ).loc Cert.Kernel41Ideal.main_arg1)) (m ((c.tc : Thread Cert.Kernel41Ideal.nD Cert.Kernel41Ideal.τ).loc Cert.Kernel41Ideal.main_arg2)) (m ((c.tc : Thread Cert.Kernel41Ideal.nD Cert.Kernel41Ideal.τ).loc Cert.Kernel41Ideal.main_arg3)) (m ((c.tc : Thread Cert.Kernel41Ideal.nD Cert.Kernel41Ideal.τ).loc Cert.Kernel41Ideal.main_arg4)) (m ((c.tc : Thread Cert.Kernel41Ideal.nD Cert.Kernel41Ideal.τ).loc Cert.Kernel41Ideal.main_arg5)) (m ((c.tc : Thread Cert.Kernel41Ideal.nD Cert.Kernel41Ideal.τ).loc Cert.Kernel41Ideal.main_arg6))).2.1 = (fun _ => 1#1)
    ∧ (Cert.Pre_finite_steps.fn (F := Ideal) (m ((c.tc : Thread Cert.Kernel41Ideal.nD Cert.Kernel41Ideal.τ).loc Cert.Kernel41Ideal.main_arg0)) (m ((c.tc : Thread Cert.Kernel41Ideal.nD Cert.Kernel41Ideal.τ).loc Cert.Kernel41Ideal.main_arg1)) (m ((c.tc : Thread Cert.Kernel41Ideal.nD Cert.Kernel41Ideal.τ).loc Cert.Kernel41Ideal.main_arg2)) (m ((c.tc : Thread Cert.Kernel41Ideal.nD Cert.Kernel41Ideal.τ).loc Cert.Kernel41Ideal.main_arg3)) (m ((c.tc : Thread Cert.Kernel41Ideal.nD Cert.Kernel41Ideal.τ).loc Cert.Kernel41Ideal.main_arg4)) (m ((c.tc : Thread Cert.Kernel41Ideal.nD Cert.Kernel41Ideal.τ).loc Cert.Kernel41Ideal.main_arg5)) (m ((c.tc : Thread Cert.Kernel41Ideal.nD Cert.Kernel41Ideal.τ).loc Cert.Kernel41Ideal.main_arg6))).2.2.1 = (fun _ => 1#1)
    ∧ (Cert.Pre_finite_steps.fn (F := Ideal) (m ((c.tc : Thread Cert.Kernel41Ideal.nD Cert.Kernel41Ideal.τ).loc Cert.Kernel41Ideal.main_arg0)) (m ((c.tc : Thread Cert.Kernel41Ideal.nD Cert.Kernel41Ideal.τ).loc Cert.Kernel41Ideal.main_arg1)) (m ((c.tc : Thread Cert.Kernel41Ideal.nD Cert.Kernel41Ideal.τ).loc Cert.Kernel41Ideal.main_arg2)) (m ((c.tc : Thread Cert.Kernel41Ideal.nD Cert.Kernel41Ideal.τ).loc Cert.Kernel41Ideal.main_arg3)) (m ((c.tc : Thread Cert.Kernel41Ideal.nD Cert.Kernel41Ideal.τ).loc Cert.Kernel41Ideal.main_arg4)) (m ((c.tc : Thread Cert.Kernel41Ideal.nD Cert.Kernel41Ideal.τ).loc Cert.Kernel41Ideal.main_arg5)) (m ((c.tc : Thread Cert.Kernel41Ideal.nD Cert.Kernel41Ideal.τ).loc Cert.Kernel41Ideal.main_arg6))).2.2.2.1 = (fun _ => 1#1)
    ∧ (Cert.Pre_finite_steps.fn (F := Ideal) (m ((c.tc : Thread Cert.Kernel41Ideal.nD Cert.Kernel41Ideal.τ).loc Cert.Kernel41Ideal.main_arg0)) (m ((c.tc : Thread Cert.Kernel41Ideal.nD Cert.Kernel41Ideal.τ).loc Cert.Kernel41Ideal.main_arg1)) (m ((c.tc : Thread Cert.Kernel41Ideal.nD Cert.Kernel41Ideal.τ).loc Cert.Kernel41Ideal.main_arg2)) (m ((c.tc : Thread Cert.Kernel41Ideal.nD Cert.Kernel41Ideal.τ).loc Cert.Kernel41Ideal.main_arg3)) (m ((c.tc : Thread Cert.Kernel41Ideal.nD Cert.Kernel41Ideal.τ).loc Cert.Kernel41Ideal.main_arg4)) (m ((c.tc : Thread Cert.Kernel41Ideal.nD Cert.Kernel41Ideal.τ).loc Cert.Kernel41Ideal.main_arg5)) (m ((c.tc : Thread Cert.Kernel41Ideal.nD Cert.Kernel41Ideal.τ).loc Cert.Kernel41Ideal.main_arg6))).2.2.2.2 = (fun _ => 1#1)

def Pre_Reference41Ideal (m : (ℓ : Loc Cert.Reference41Ideal.nD Cert.Reference41Ideal.τ Cert.Reference41Ideal.sig) → Buf (Elt Ideal) ℓ) : Prop :=
  True

def Pre_Reference41Ideal_finite_steps [hPre_finite_steps : Cert.Pre_finite_steps.Facts] (m : (ℓ : Loc Cert.Reference41Ideal.nD Cert.Reference41Ideal.τ Cert.Reference41Ideal.sig) → Buf (Elt Ideal) ℓ) : Prop :=
  ∀ c : Dev Cert.Reference41Ideal.nD,
    (Cert.Pre_finite_steps.fn (F := Ideal) (m ((c.tc : Thread Cert.Reference41Ideal.nD Cert.Reference41Ideal.τ).loc Cert.Reference41Ideal.main_arg0)) (m ((c.tc : Thread Cert.Reference41Ideal.nD Cert.Reference41Ideal.τ).loc Cert.Reference41Ideal.main_arg1)) (m ((c.tc : Thread Cert.Reference41Ideal.nD Cert.Reference41Ideal.τ).loc Cert.Reference41Ideal.main_arg2)) (m ((c.tc : Thread Cert.Reference41Ideal.nD Cert.Reference41Ideal.τ).loc Cert.Reference41Ideal.main_arg3)) (m ((c.tc : Thread Cert.Reference41Ideal.nD Cert.Reference41Ideal.τ).loc Cert.Reference41Ideal.main_arg4)) (m ((c.tc : Thread Cert.Reference41Ideal.nD Cert.Reference41Ideal.τ).loc Cert.Reference41Ideal.main_arg5)) (m ((c.tc : Thread Cert.Reference41Ideal.nD Cert.Reference41Ideal.τ).loc Cert.Reference41Ideal.main_arg6))).1 = (fun _ => 1#1)
    ∧ (Cert.Pre_finite_steps.fn (F := Ideal) (m ((c.tc : Thread Cert.Reference41Ideal.nD Cert.Reference41Ideal.τ).loc Cert.Reference41Ideal.main_arg0)) (m ((c.tc : Thread Cert.Reference41Ideal.nD Cert.Reference41Ideal.τ).loc Cert.Reference41Ideal.main_arg1)) (m ((c.tc : Thread Cert.Reference41Ideal.nD Cert.Reference41Ideal.τ).loc Cert.Reference41Ideal.main_arg2)) (m ((c.tc : Thread Cert.Reference41Ideal.nD Cert.Reference41Ideal.τ).loc Cert.Reference41Ideal.main_arg3)) (m ((c.tc : Thread Cert.Reference41Ideal.nD Cert.Reference41Ideal.τ).loc Cert.Reference41Ideal.main_arg4)) (m ((c.tc : Thread Cert.Reference41Ideal.nD Cert.Reference41Ideal.τ).loc Cert.Reference41Ideal.main_arg5)) (m ((c.tc : Thread Cert.Reference41Ideal.nD Cert.Reference41Ideal.τ).loc Cert.Reference41Ideal.main_arg6))).2.1 = (fun _ => 1#1)
    ∧ (Cert.Pre_finite_steps.fn (F := Ideal) (m ((c.tc : Thread Cert.Reference41Ideal.nD Cert.Reference41Ideal.τ).loc Cert.Reference41Ideal.main_arg0)) (m ((c.tc : Thread Cert.Reference41Ideal.nD Cert.Reference41Ideal.τ).loc Cert.Reference41Ideal.main_arg1)) (m ((c.tc : Thread Cert.Reference41Ideal.nD Cert.Reference41Ideal.τ).loc Cert.Reference41Ideal.main_arg2)) (m ((c.tc : Thread Cert.Reference41Ideal.nD Cert.Reference41Ideal.τ).loc Cert.Reference41Ideal.main_arg3)) (m ((c.tc : Thread Cert.Reference41Ideal.nD Cert.Reference41Ideal.τ).loc Cert.Reference41Ideal.main_arg4)) (m ((c.tc : Thread Cert.Reference41Ideal.nD Cert.Reference41Ideal.τ).loc Cert.Reference41Ideal.main_arg5)) (m ((c.tc : Thread Cert.Reference41Ideal.nD Cert.Reference41Ideal.τ).loc Cert.Reference41Ideal.main_arg6))).2.2.1 = (fun _ => 1#1)
    ∧ (Cert.Pre_finite_steps.fn (F := Ideal) (m ((c.tc : Thread Cert.Reference41Ideal.nD Cert.Reference41Ideal.τ).loc Cert.Reference41Ideal.main_arg0)) (m ((c.tc : Thread Cert.Reference41Ideal.nD Cert.Reference41Ideal.τ).loc Cert.Reference41Ideal.main_arg1)) (m ((c.tc : Thread Cert.Reference41Ideal.nD Cert.Reference41Ideal.τ).loc Cert.Reference41Ideal.main_arg2)) (m ((c.tc : Thread Cert.Reference41Ideal.nD Cert.Reference41Ideal.τ).loc Cert.Reference41Ideal.main_arg3)) (m ((c.tc : Thread Cert.Reference41Ideal.nD Cert.Reference41Ideal.τ).loc Cert.Reference41Ideal.main_arg4)) (m ((c.tc : Thread Cert.Reference41Ideal.nD Cert.Reference41Ideal.τ).loc Cert.Reference41Ideal.main_arg5)) (m ((c.tc : Thread Cert.Reference41Ideal.nD Cert.Reference41Ideal.τ).loc Cert.Reference41Ideal.main_arg6))).2.2.2.1 = (fun _ => 1#1)
    ∧ (Cert.Pre_finite_steps.fn (F := Ideal) (m ((c.tc : Thread Cert.Reference41Ideal.nD Cert.Reference41Ideal.τ).loc Cert.Reference41Ideal.main_arg0)) (m ((c.tc : Thread Cert.Reference41Ideal.nD Cert.Reference41Ideal.τ).loc Cert.Reference41Ideal.main_arg1)) (m ((c.tc : Thread Cert.Reference41Ideal.nD Cert.Reference41Ideal.τ).loc Cert.Reference41Ideal.main_arg2)) (m ((c.tc : Thread Cert.Reference41Ideal.nD Cert.Reference41Ideal.τ).loc Cert.Reference41Ideal.main_arg3)) (m ((c.tc : Thread Cert.Reference41Ideal.nD Cert.Reference41Ideal.τ).loc Cert.Reference41Ideal.main_arg4)) (m ((c.tc : Thread Cert.Reference41Ideal.nD Cert.Reference41Ideal.τ).loc Cert.Reference41Ideal.main_arg5)) (m ((c.tc : Thread Cert.Reference41Ideal.nD Cert.Reference41Ideal.τ).loc Cert.Reference41Ideal.main_arg6))).2.2.2.2 = (fun _ => 1#1)

def Pre_Kernel42 (m : (ℓ : Loc Cert.Kernel42.nD Cert.Kernel42.τ Cert.Kernel42.sig) → Buf (Elt Bits) ℓ) : Prop :=
  True

def Pre_Kernel42Ideal (m : (ℓ : Loc Cert.Kernel42Ideal.nD Cert.Kernel42Ideal.τ Cert.Kernel42Ideal.sig) → Buf (Elt Ideal) ℓ) : Prop :=
  True

def Pre_Reference42Ideal (m : (ℓ : Loc Cert.Reference42Ideal.nD Cert.Reference42Ideal.τ Cert.Reference42Ideal.sig) → Buf (Elt Ideal) ℓ) : Prop :=
  True

def Pre_Kernel43 (m : (ℓ : Loc Cert.Kernel43.nD Cert.Kernel43.τ Cert.Kernel43.sig) → Buf (Elt Bits) ℓ) : Prop :=
  True

def Pre_Kernel43Ideal (m : (ℓ : Loc Cert.Kernel43Ideal.nD Cert.Kernel43Ideal.τ Cert.Kernel43Ideal.sig) → Buf (Elt Ideal) ℓ) : Prop :=
  True

def Pre_Reference43Ideal (m : (ℓ : Loc Cert.Reference43Ideal.nD Cert.Reference43Ideal.τ Cert.Reference43Ideal.sig) → Buf (Elt Ideal) ℓ) : Prop :=
  True

def Pre_Kernel44 (m : (ℓ : Loc Cert.Kernel44.nD Cert.Kernel44.τ Cert.Kernel44.sig) → Buf (Elt Bits) ℓ) : Prop :=
  True

def Pre_Kernel44Ideal (m : (ℓ : Loc Cert.Kernel44Ideal.nD Cert.Kernel44Ideal.τ Cert.Kernel44Ideal.sig) → Buf (Elt Ideal) ℓ) : Prop :=
  True

def Pre_Reference44Ideal (m : (ℓ : Loc Cert.Reference44Ideal.nD Cert.Reference44Ideal.τ Cert.Reference44Ideal.sig) → Buf (Elt Ideal) ℓ) : Prop :=
  True

def Pre_Kernel45 (m : (ℓ : Loc Cert.Kernel45.nD Cert.Kernel45.τ Cert.Kernel45.sig) → Buf (Elt Bits) ℓ) : Prop :=
  True

def Pre_Kernel45Ideal (m : (ℓ : Loc Cert.Kernel45Ideal.nD Cert.Kernel45Ideal.τ Cert.Kernel45Ideal.sig) → Buf (Elt Ideal) ℓ) : Prop :=
  True

def Pre_Reference45Ideal (m : (ℓ : Loc Cert.Reference45Ideal.nD Cert.Reference45Ideal.τ Cert.Reference45Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Kernel2Ideal_pre_finite [hKernel2Ideal : Cert.Kernel2Ideal.Facts] [hPre_finite : Cert.Pre_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Reference2Ideal_pre_finite [hReference2Ideal : Cert.Reference2Ideal.Facts] [hPre_finite : Cert.Pre_finite.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1))
      ∧ r.2.sem = fun _ => 0)

def quiescent_Kernel29 [hKernel29 : Cert.Kernel29.Facts] : Prop :=
  ∀ (m : (ℓ : Loc Cert.Kernel29.nD Cert.Kernel29.τ Cert.Kernel29.sig) → Buf (Elt Bits) ℓ) (g : Dev Cert.Kernel29.nD → PrngReg), Pre_Kernel29 m →
    θ_run (Cert.Kernel29.defs (F := Bits)) (onTc (τ := Cert.Kernel29.τ) (Cert.Kernel29.main (F := Bits))) ⟨m, fun _ => 0, g⟩ (fun r => (∀ c : Dev Cert.Kernel29.nD,
      r.2.mem ((c.tc : Thread Cert.Kernel29.nD Cert.Kernel29.τ).loc Cert.Kernel29.main_arg0) = m ((c.tc : Thread Cert.Kernel29.nD Cert.Kernel29.τ).loc Cert.Kernel29.main_arg0)
      ∧ r.2.mem ((c.tc : Thread Cert.Kernel29.nD Cert.Kernel29.τ).loc Cert.Kernel29.main_arg1) = m ((c.tc : Thread Cert.Kernel29.nD Cert.Kernel29.τ).loc Cert.Kernel29.main_arg1))
      ∧ r.2.sem = fun _ => 0)

def quiescent_Kernel29Ideal [hKernel29Ideal : Cert.Kernel29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1))
      ∧ r.2.sem = fun _ => 0)

def quiescent_Reference29Ideal [hReference29Ideal : Cert.Reference29Ideal.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1))
      ∧ r.2.sem = fun _ => 0)

def quiescent_Kernel30 [hKernel30 : Cert.Kernel30.Facts] : Prop :=
  ∀ (m : (ℓ : Loc Cert.Kernel30.nD Cert.Kernel30.τ Cert.Kernel30.sig) → Buf (Elt Bits) ℓ) (g : Dev Cert.Kernel30.nD → PrngReg), Pre_Kernel30 m →
    θ_run (Cert.Kernel30.defs (F := Bits)) (onTc (τ := Cert.Kernel30.τ) (Cert.Kernel30.main (F := Bits))) ⟨m, fun _ => 0, g⟩ (fun r => (∀ c : Dev Cert.Kernel30.nD,
      r.2.mem ((c.tc : Thread Cert.Kernel30.nD Cert.Kernel30.τ).loc Cert.Kernel30.main_arg0) = m ((c.tc : Thread Cert.Kernel30.nD Cert.Kernel30.τ).loc Cert.Kernel30.main_arg0)
      ∧ r.2.mem ((c.tc : Thread Cert.Kernel30.nD Cert.Kernel30.τ).loc Cert.Kernel30.main_arg1) = m ((c.tc : Thread Cert.Kernel30.nD Cert.Kernel30.τ).loc Cert.Kernel30.main_arg1)
      ∧ r.2.mem ((c.tc : Thread Cert.Kernel30.nD Cert.Kernel30.τ).loc Cert.Kernel30.main_arg2) = m ((c.tc : Thread Cert.Kernel30.nD Cert.Kernel30.τ).loc Cert.Kernel30.main_arg2))
      ∧ r.2.sem = fun _ => 0)

def quiescent_Kernel30Ideal [hKernel30Ideal : Cert.Kernel30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg), Pre_Kernel30Ideal m →
    θ_run (Cert.Kernel30Ideal.defs (F := Ideal)) (onTc (τ := Cert.Kernel30Ideal.τ) (Cert.Kernel30Ideal.main (F := Ideal))) ⟨m, fun _ => 0, g⟩ (fun r => (∀ c : Dev Cert.Kernel30Ideal.nD,
      r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
      ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
      ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2))
      ∧ r.2.sem = fun _ => 0)

def quiescent_Reference30Ideal [hReference30Ideal : Cert.Reference30Ideal.Facts] : Prop :=
  ∀ (m : (ℓ : Loc Cert.Reference30Ideal.nD Cert.Reference30Ideal.τ Cert.Reference30Ideal.sig) → Buf (Elt Ideal) ℓ) (g : Dev Cert.Reference30Ideal.nD → PrngReg), Pre_Reference30Ideal m →
    θ_run (Cert.Reference30Ideal.defs (F := Ideal)) (onTc (τ := Cert.Reference30Ideal.τ) (Cert.Reference30Ideal.main (F := Ideal))) ⟨m, fun _ => 0, g⟩ (fun r => (∀ c : Dev Cert.Reference30Ideal.nD,
      r.2.mem ((c.tc : Thread Cert.Reference30Ideal.nD Cert.Reference30Ideal.τ).loc Cert.Reference30Ideal.main_arg0) = m ((c.tc : Thread Cert.Reference30Ideal.nD Cert.Reference30Ideal.τ).loc Cert.Reference30Ideal.main_arg0)
      ∧ r.2.mem ((c.tc : Thread Cert.Reference30Ideal.nD Cert.Reference30Ideal.τ).loc Cert.Reference30Ideal.main_arg1) = m ((c.tc : Thread Cert.Reference30Ideal.nD Cert.Reference30Ideal.τ).loc Cert.Reference30Ideal.main_arg1)
      ∧ r.2.mem ((c.tc : Thread Cert.Reference30Ideal.nD Cert.Reference30Ideal.τ).loc Cert.Reference30Ideal.main_arg2) = m ((c.tc : Thread Cert.Reference30Ideal.nD Cert.Reference30Ideal.τ).loc Cert.Reference30Ideal.main_arg2))
      ∧ r.2.sem = fun _ => 0)

def quiescent_Kernel31 [hKernel31 : Cert.Kernel31.Facts] : Prop :=
  ∀ (m : (ℓ : Loc Cert.Kernel31.nD Cert.Kernel31.τ Cert.Kernel31.sig) → Buf (Elt Bits) ℓ) (g : Dev Cert.Kernel31.nD → PrngReg), Pre_Kernel31 m →
    θ_run (Cert.Kernel31.defs (F := Bits)) (onTc (τ := Cert.Kernel31.τ) (Cert.Kernel31.main (F := Bits))) ⟨m, fun _ => 0, g⟩ (fun r => (∀ c : Dev Cert.Kernel31.nD,
      r.2.mem ((c.tc : Thread Cert.Kernel31.nD Cert.Kernel31.τ).loc Cert.Kernel31.main_arg0) = m ((c.tc : Thread Cert.Kernel31.nD Cert.Kernel31.τ).loc Cert.Kernel31.main_arg0)
      ∧ r.2.mem ((c.tc : Thread Cert.Kernel31.nD Cert.Kernel31.τ).loc Cert.Kernel31.main_arg1) = m ((c.tc : Thread Cert.Kernel31.nD Cert.Kernel31.τ).loc Cert.Kernel31.main_arg1))
      ∧ r.2.sem = fun _ => 0)

def quiescent_Kernel31Ideal [hKernel31Ideal : Cert.Kernel31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg), Pre_Kernel31Ideal m →
    θ_run (Cert.Kernel31Ideal.defs (F := Ideal)) (onTc (τ := Cert.Kernel31Ideal.τ) (Cert.Kernel31Ideal.main (F := Ideal))) ⟨m, fun _ => 0, g⟩ (fun r => (∀ c : Dev Cert.Kernel31Ideal.nD,
      r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
      ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1))
      ∧ r.2.sem = fun _ => 0)

def quiescent_Reference31Ideal [hReference31Ideal : Cert.Reference31Ideal.Facts] : Prop :=
  ∀ (m : (ℓ : Loc Cert.Reference31Ideal.nD Cert.Reference31Ideal.τ Cert.Reference31Ideal.sig) → Buf (Elt Ideal) ℓ) (g : Dev Cert.Reference31Ideal.nD → PrngReg), Pre_Reference31Ideal m →
    θ_run (Cert.Reference31Ideal.defs (F := Ideal)) (onTc (τ := Cert.Reference31Ideal.τ) (Cert.Reference31Ideal.main (F := Ideal))) ⟨m, fun _ => 0, g⟩ (fun r => (∀ c : Dev Cert.Reference31Ideal.nD,
      r.2.mem ((c.tc : Thread Cert.Reference31Ideal.nD Cert.Reference31Ideal.τ).loc Cert.Reference31Ideal.main_arg0) = m ((c.tc : Thread Cert.Reference31Ideal.nD Cert.Reference31Ideal.τ).loc Cert.Reference31Ideal.main_arg0)
      ∧ r.2.mem ((c.tc : Thread Cert.Reference31Ideal.nD Cert.Reference31Ideal.τ).loc Cert.Reference31Ideal.main_arg1) = m ((c.tc : Thread Cert.Reference31Ideal.nD Cert.Reference31Ideal.τ).loc Cert.Reference31Ideal.main_arg1))
      ∧ r.2.sem = fun _ => 0)

def quiescent_Kernel32 [hKernel32 : Cert.Kernel32.Facts] : Prop :=
  ∀ (m : (ℓ : Loc Cert.Kernel32.nD Cert.Kernel32.τ Cert.Kernel32.sig) → Buf (Elt Bits) ℓ) (g : Dev Cert.Kernel32.nD → PrngReg), Pre_Kernel32 m →
    θ_run (Cert.Kernel32.defs (F := Bits)) (onTc (τ := Cert.Kernel32.τ) (Cert.Kernel32.main (F := Bits))) ⟨m, fun _ => 0, g⟩ (fun r => (∀ c : Dev Cert.Kernel32.nD,
      r.2.mem ((c.tc : Thread Cert.Kernel32.nD Cert.Kernel32.τ).loc Cert.Kernel32.main_arg0) = m ((c.tc : Thread Cert.Kernel32.nD Cert.Kernel32.τ).loc Cert.Kernel32.main_arg0)
      ∧ r.2.mem ((c.tc : Thread Cert.Kernel32.nD Cert.Kernel32.τ).loc Cert.Kernel32.main_arg1) = m ((c.tc : Thread Cert.Kernel32.nD Cert.Kernel32.τ).loc Cert.Kernel32.main_arg1))
      ∧ r.2.sem = fun _ => 0)

def quiescent_Kernel32Ideal [hKernel32Ideal : Cert.Kernel32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg), Pre_Kernel32Ideal m →
    θ_run (Cert.Kernel32Ideal.defs (F := Ideal)) (onTc (τ := Cert.Kernel32Ideal.τ) (Cert.Kernel32Ideal.main (F := Ideal))) ⟨m, fun _ => 0, g⟩ (fun r => (∀ c : Dev Cert.Kernel32Ideal.nD,
      r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
      ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1))
      ∧ r.2.sem = fun _ => 0)

def quiescent_Reference32Ideal [hReference32Ideal : Cert.Reference32Ideal.Facts] : Prop :=
  ∀ (m : (ℓ : Loc Cert.Reference32Ideal.nD Cert.Reference32Ideal.τ Cert.Reference32Ideal.sig) → Buf (Elt Ideal) ℓ) (g : Dev Cert.Reference32Ideal.nD → PrngReg), Pre_Reference32Ideal m →
    θ_run (Cert.Reference32Ideal.defs (F := Ideal)) (onTc (τ := Cert.Reference32Ideal.τ) (Cert.Reference32Ideal.main (F := Ideal))) ⟨m, fun _ => 0, g⟩ (fun r => (∀ c : Dev Cert.Reference32Ideal.nD,
      r.2.mem ((c.tc : Thread Cert.Reference32Ideal.nD Cert.Reference32Ideal.τ).loc Cert.Reference32Ideal.main_arg0) = m ((c.tc : Thread Cert.Reference32Ideal.nD Cert.Reference32Ideal.τ).loc Cert.Reference32Ideal.main_arg0)
      ∧ r.2.mem ((c.tc : Thread Cert.Reference32Ideal.nD Cert.Reference32Ideal.τ).loc Cert.Reference32Ideal.main_arg1) = m ((c.tc : Thread Cert.Reference32Ideal.nD Cert.Reference32Ideal.τ).loc Cert.Reference32Ideal.main_arg1))
      ∧ r.2.sem = fun _ => 0)

def quiescent_Kernel33 [hKernel33 : Cert.Kernel33.Facts] : Prop :=
  ∀ (m : (ℓ : Loc Cert.Kernel33.nD Cert.Kernel33.τ Cert.Kernel33.sig) → Buf (Elt Bits) ℓ) (g : Dev Cert.Kernel33.nD → PrngReg), Pre_Kernel33 m →
    θ_run (Cert.Kernel33.defs (F := Bits)) (onTc (τ := Cert.Kernel33.τ) (Cert.Kernel33.main (F := Bits))) ⟨m, fun _ => 0, g⟩ (fun r => (∀ c : Dev Cert.Kernel33.nD,
      r.2.mem ((c.tc : Thread Cert.Kernel33.nD Cert.Kernel33.τ).loc Cert.Kernel33.main_arg0) = m ((c.tc : Thread Cert.Kernel33.nD Cert.Kernel33.τ).loc Cert.Kernel33.main_arg0)
      ∧ r.2.mem ((c.tc : Thread Cert.Kernel33.nD Cert.Kernel33.τ).loc Cert.Kernel33.main_arg1) = m ((c.tc : Thread Cert.Kernel33.nD Cert.Kernel33.τ).loc Cert.Kernel33.main_arg1))
      ∧ r.2.sem = fun _ => 0)

def quiescent_Kernel33Ideal [hKernel33Ideal : Cert.Kernel33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg), Pre_Kernel33Ideal m →
    θ_run (Cert.Kernel33Ideal.defs (F := Ideal)) (onTc (τ := Cert.Kernel33Ideal.τ) (Cert.Kernel33Ideal.main (F := Ideal))) ⟨m, fun _ => 0, g⟩ (fun r => (∀ c : Dev Cert.Kernel33Ideal.nD,
      r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
      ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1))
      ∧ r.2.sem = fun _ => 0)

def quiescent_Reference33Ideal [hReference33Ideal : Cert.Reference33Ideal.Facts] : Prop :=
  ∀ (m : (ℓ : Loc Cert.Reference33Ideal.nD Cert.Reference33Ideal.τ Cert.Reference33Ideal.sig) → Buf (Elt Ideal) ℓ) (g : Dev Cert.Reference33Ideal.nD → PrngReg), Pre_Reference33Ideal m →
    θ_run (Cert.Reference33Ideal.defs (F := Ideal)) (onTc (τ := Cert.Reference33Ideal.τ) (Cert.Reference33Ideal.main (F := Ideal))) ⟨m, fun _ => 0, g⟩ (fun r => (∀ c : Dev Cert.Reference33Ideal.nD,
      r.2.mem ((c.tc : Thread Cert.Reference33Ideal.nD Cert.Reference33Ideal.τ).loc Cert.Reference33Ideal.main_arg0) = m ((c.tc : Thread Cert.Reference33Ideal.nD Cert.Reference33Ideal.τ).loc Cert.Reference33Ideal.main_arg0)
      ∧ r.2.mem ((c.tc : Thread Cert.Reference33Ideal.nD Cert.Reference33Ideal.τ).loc Cert.Reference33Ideal.main_arg1) = m ((c.tc : Thread Cert.Reference33Ideal.nD Cert.Reference33Ideal.τ).loc Cert.Reference33Ideal.main_arg1))
      ∧ r.2.sem = fun _ => 0)

def quiescent_Kernel34 [hKernel34 : Cert.Kernel34.Facts] : Prop :=
  ∀ (m : (ℓ : Loc Cert.Kernel34.nD Cert.Kernel34.τ Cert.Kernel34.sig) → Buf (Elt Bits) ℓ) (g : Dev Cert.Kernel34.nD → PrngReg), Pre_Kernel34 m →
    θ_run (Cert.Kernel34.defs (F := Bits)) (onTc (τ := Cert.Kernel34.τ) (Cert.Kernel34.main (F := Bits))) ⟨m, fun _ => 0, g⟩ (fun r => (∀ c : Dev Cert.Kernel34.nD,
      r.2.mem ((c.tc : Thread Cert.Kernel34.nD Cert.Kernel34.τ).loc Cert.Kernel34.main_arg0) = m ((c.tc : Thread Cert.Kernel34.nD Cert.Kernel34.τ).loc Cert.Kernel34.main_arg0)
      ∧ r.2.mem ((c.tc : Thread Cert.Kernel34.nD Cert.Kernel34.τ).loc Cert.Kernel34.main_arg1) = m ((c.tc : Thread Cert.Kernel34.nD Cert.Kernel34.τ).loc Cert.Kernel34.main_arg1))
      ∧ r.2.sem = fun _ => 0)

def quiescent_Kernel34Ideal [hKernel34Ideal : Cert.Kernel34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg), Pre_Kernel34Ideal m →
    θ_run (Cert.Kernel34Ideal.defs (F := Ideal)) (onTc (τ := Cert.Kernel34Ideal.τ) (Cert.Kernel34Ideal.main (F := Ideal))) ⟨m, fun _ => 0, g⟩ (fun r => (∀ c : Dev Cert.Kernel34Ideal.nD,
      r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
      ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1))
      ∧ r.2.sem = fun _ => 0)

def quiescent_Reference34Ideal [hReference34Ideal : Cert.Reference34Ideal.Facts] : Prop :=
  ∀ (m : (ℓ : Loc Cert.Reference34Ideal.nD Cert.Reference34Ideal.τ Cert.Reference34Ideal.sig) → Buf (Elt Ideal) ℓ) (g : Dev Cert.Reference34Ideal.nD → PrngReg), Pre_Reference34Ideal m →
    θ_run (Cert.Reference34Ideal.defs (F := Ideal)) (onTc (τ := Cert.Reference34Ideal.τ) (Cert.Reference34Ideal.main (F := Ideal))) ⟨m, fun _ => 0, g⟩ (fun r => (∀ c : Dev Cert.Reference34Ideal.nD,
      r.2.mem ((c.tc : Thread Cert.Reference34Ideal.nD Cert.Reference34Ideal.τ).loc Cert.Reference34Ideal.main_arg0) = m ((c.tc : Thread Cert.Reference34Ideal.nD Cert.Reference34Ideal.τ).loc Cert.Reference34Ideal.main_arg0)
      ∧ r.2.mem ((c.tc : Thread Cert.Reference34Ideal.nD Cert.Reference34Ideal.τ).loc Cert.Reference34Ideal.main_arg1) = m ((c.tc : Thread Cert.Reference34Ideal.nD Cert.Reference34Ideal.τ).loc Cert.Reference34Ideal.main_arg1))
      ∧ r.2.sem = fun _ => 0)

def quiescent_Kernel35 [hKernel35 : Cert.Kernel35.Facts] : Prop :=
  ∀ (m : (ℓ : Loc Cert.Kernel35.nD Cert.Kernel35.τ Cert.Kernel35.sig) → Buf (Elt Bits) ℓ) (g : Dev Cert.Kernel35.nD → PrngReg), Pre_Kernel35 m →
    θ_run (Cert.Kernel35.defs (F := Bits)) (onTc (τ := Cert.Kernel35.τ) (Cert.Kernel35.main (F := Bits))) ⟨m, fun _ => 0, g⟩ (fun r => (∀ c : Dev Cert.Kernel35.nD,
      r.2.mem ((c.tc : Thread Cert.Kernel35.nD Cert.Kernel35.τ).loc Cert.Kernel35.main_arg0) = m ((c.tc : Thread Cert.Kernel35.nD Cert.Kernel35.τ).loc Cert.Kernel35.main_arg0)
      ∧ r.2.mem ((c.tc : Thread Cert.Kernel35.nD Cert.Kernel35.τ).loc Cert.Kernel35.main_arg1) = m ((c.tc : Thread Cert.Kernel35.nD Cert.Kernel35.τ).loc Cert.Kernel35.main_arg1))
      ∧ r.2.sem = fun _ => 0)

def quiescent_Kernel35Ideal [hKernel35Ideal : Cert.Kernel35Ideal.Facts] : Prop :=
  ∀ (m : (ℓ : Loc Cert.Kernel35Ideal.nD Cert.Kernel35Ideal.τ Cert.Kernel35Ideal.sig) → Buf (Elt Ideal) ℓ) (g : Dev Cert.Kernel35Ideal.nD → PrngReg), Pre_Kernel35Ideal m →
    θ_run (Cert.Kernel35Ideal.defs (F := Ideal)) (onTc (τ := Cert.Kernel35Ideal.τ) (Cert.Kernel35Ideal.main (F := Ideal))) ⟨m, fun _ => 0, g⟩ (fun r => (∀ c : Dev Cert.Kernel35Ideal.nD,
      r.2.mem ((c.tc : Thread Cert.Kernel35Ideal.nD Cert.Kernel35Ideal.τ).loc Cert.Kernel35Ideal.main_arg0) = m ((c.tc : Thread Cert.Kernel35Ideal.nD Cert.Kernel35Ideal.τ).loc Cert.Kernel35Ideal.main_arg0)
      ∧ r.2.mem ((c.tc : Thread Cert.Kernel35Ideal.nD Cert.Kernel35Ideal.τ).loc Cert.Kernel35Ideal.main_arg1) = m ((c.tc : Thread Cert.Kernel35Ideal.nD Cert.Kernel35Ideal.τ).loc Cert.Kernel35Ideal.main_arg1))
      ∧ r.2.sem = fun _ => 0)

def quiescent_Reference35Ideal [hReference35Ideal : Cert.Reference35Ideal.Facts] : Prop :=
  ∀ (m : (ℓ : Loc Cert.Reference35Ideal.nD Cert.Reference35Ideal.τ Cert.Reference35Ideal.sig) → Buf (Elt Ideal) ℓ) (g : Dev Cert.Reference35Ideal.nD → PrngReg), Pre_Reference35Ideal m →
    θ_run (Cert.Reference35Ideal.defs (F := Ideal)) (onTc (τ := Cert.Reference35Ideal.τ) (Cert.Reference35Ideal.main (F := Ideal))) ⟨m, fun _ => 0, g⟩ (fun r => (∀ c : Dev Cert.Reference35Ideal.nD,
      r.2.mem ((c.tc : Thread Cert.Reference35Ideal.nD Cert.Reference35Ideal.τ).loc Cert.Reference35Ideal.main_arg0) = m ((c.tc : Thread Cert.Reference35Ideal.nD Cert.Reference35Ideal.τ).loc Cert.Reference35Ideal.main_arg0)
      ∧ r.2.mem ((c.tc : Thread Cert.Reference35Ideal.nD Cert.Reference35Ideal.τ).loc Cert.Reference35Ideal.main_arg1) = m ((c.tc : Thread Cert.Reference35Ideal.nD Cert.Reference35Ideal.τ).loc Cert.Reference35Ideal.main_arg1))
      ∧ r.2.sem = fun _ => 0)

def quiescent_Kernel36 [hKernel36 : Cert.Kernel36.Facts] : Prop :=
  ∀ (m : (ℓ : Loc Cert.Kernel36.nD Cert.Kernel36.τ Cert.Kernel36.sig) → Buf (Elt Bits) ℓ) (g : Dev Cert.Kernel36.nD → PrngReg), Pre_Kernel36 m →
    θ_run (Cert.Kernel36.defs (F := Bits)) (onTc (τ := Cert.Kernel36.τ) (Cert.Kernel36.main (F := Bits))) ⟨m, fun _ => 0, g⟩ (fun r => (∀ c : Dev Cert.Kernel36.nD,
      r.2.mem ((c.tc : Thread Cert.Kernel36.nD Cert.Kernel36.τ).loc Cert.Kernel36.main_arg0) = m ((c.tc : Thread Cert.Kernel36.nD Cert.Kernel36.τ).loc Cert.Kernel36.main_arg0)
      ∧ r.2.mem ((c.tc : Thread Cert.Kernel36.nD Cert.Kernel36.τ).loc Cert.Kernel36.main_arg1) = m ((c.tc : Thread Cert.Kernel36.nD Cert.Kernel36.τ).loc Cert.Kernel36.main_arg1))
      ∧ r.2.sem = fun _ => 0)

def quiescent_Kernel36Ideal [hKernel36Ideal : Cert.Kernel36Ideal.Facts] : Prop :=
  ∀ (m : (ℓ : Loc Cert.Kernel36Ideal.nD Cert.Kernel36Ideal.τ Cert.Kernel36Ideal.sig) → Buf (Elt Ideal) ℓ) (g : Dev Cert.Kernel36Ideal.nD → PrngReg), Pre_Kernel36Ideal m →
    θ_run (Cert.Kernel36Ideal.defs (F := Ideal)) (onTc (τ := Cert.Kernel36Ideal.τ) (Cert.Kernel36Ideal.main (F := Ideal))) ⟨m, fun _ => 0, g⟩ (fun r => (∀ c : Dev Cert.Kernel36Ideal.nD,
      r.2.mem ((c.tc : Thread Cert.Kernel36Ideal.nD Cert.Kernel36Ideal.τ).loc Cert.Kernel36Ideal.main_arg0) = m ((c.tc : Thread Cert.Kernel36Ideal.nD Cert.Kernel36Ideal.τ).loc Cert.Kernel36Ideal.main_arg0)
      ∧ r.2.mem ((c.tc : Thread Cert.Kernel36Ideal.nD Cert.Kernel36Ideal.τ).loc Cert.Kernel36Ideal.main_arg1) = m ((c.tc : Thread Cert.Kernel36Ideal.nD Cert.Kernel36Ideal.τ).loc Cert.Kernel36Ideal.main_arg1))
      ∧ r.2.sem = fun _ => 0)

def quiescent_Reference36Ideal [hReference36Ideal : Cert.Reference36Ideal.Facts] : Prop :=
  ∀ (m : (ℓ : Loc Cert.Reference36Ideal.nD Cert.Reference36Ideal.τ Cert.Reference36Ideal.sig) → Buf (Elt Ideal) ℓ) (g : Dev Cert.Reference36Ideal.nD → PrngReg), Pre_Reference36Ideal m →
    θ_run (Cert.Reference36Ideal.defs (F := Ideal)) (onTc (τ := Cert.Reference36Ideal.τ) (Cert.Reference36Ideal.main (F := Ideal))) ⟨m, fun _ => 0, g⟩ (fun r => (∀ c : Dev Cert.Reference36Ideal.nD,
      r.2.mem ((c.tc : Thread Cert.Reference36Ideal.nD Cert.Reference36Ideal.τ).loc Cert.Reference36Ideal.main_arg0) = m ((c.tc : Thread Cert.Reference36Ideal.nD Cert.Reference36Ideal.τ).loc Cert.Reference36Ideal.main_arg0)
      ∧ r.2.mem ((c.tc : Thread Cert.Reference36Ideal.nD Cert.Reference36Ideal.τ).loc Cert.Reference36Ideal.main_arg1) = m ((c.tc : Thread Cert.Reference36Ideal.nD Cert.Reference36Ideal.τ).loc Cert.Reference36Ideal.main_arg1))
      ∧ r.2.sem = fun _ => 0)

def quiescent_Kernel37 [hKernel37 : Cert.Kernel37.Facts] : Prop :=
  ∀ (m : (ℓ : Loc Cert.Kernel37.nD Cert.Kernel37.τ Cert.Kernel37.sig) → Buf (Elt Bits) ℓ) (g : Dev Cert.Kernel37.nD → PrngReg), Pre_Kernel37 m →
    θ_run (Cert.Kernel37.defs (F := Bits)) (onTc (τ := Cert.Kernel37.τ) (Cert.Kernel37.main (F := Bits))) ⟨m, fun _ => 0, g⟩ (fun r => (∀ c : Dev Cert.Kernel37.nD,
      r.2.mem ((c.tc : Thread Cert.Kernel37.nD Cert.Kernel37.τ).loc Cert.Kernel37.main_arg0) = m ((c.tc : Thread Cert.Kernel37.nD Cert.Kernel37.τ).loc Cert.Kernel37.main_arg0)
      ∧ r.2.mem ((c.tc : Thread Cert.Kernel37.nD Cert.Kernel37.τ).loc Cert.Kernel37.main_arg1) = m ((c.tc : Thread Cert.Kernel37.nD Cert.Kernel37.τ).loc Cert.Kernel37.main_arg1)
      ∧ r.2.mem ((c.tc : Thread Cert.Kernel37.nD Cert.Kernel37.τ).loc Cert.Kernel37.main_arg2) = m ((c.tc : Thread Cert.Kernel37.nD Cert.Kernel37.τ).loc Cert.Kernel37.main_arg2))
      ∧ r.2.sem = fun _ => 0)

def quiescent_Kernel37Ideal [hKernel37Ideal : Cert.Kernel37Ideal.Facts] : Prop :=
  ∀ (m : (ℓ : Loc Cert.Kernel37Ideal.nD Cert.Kernel37Ideal.τ Cert.Kernel37Ideal.sig) → Buf (Elt Ideal) ℓ) (g : Dev Cert.Kernel37Ideal.nD → PrngReg), Pre_Kernel37Ideal m →
    θ_run (Cert.Kernel37Ideal.defs (F := Ideal)) (onTc (τ := Cert.Kernel37Ideal.τ) (Cert.Kernel37Ideal.main (F := Ideal))) ⟨m, fun _ => 0, g⟩ (fun r => (∀ c : Dev Cert.Kernel37Ideal.nD,
      r.2.mem ((c.tc : Thread Cert.Kernel37Ideal.nD Cert.Kernel37Ideal.τ).loc Cert.Kernel37Ideal.main_arg0) = m ((c.tc : Thread Cert.Kernel37Ideal.nD Cert.Kernel37Ideal.τ).loc Cert.Kernel37Ideal.main_arg0)
      ∧ r.2.mem ((c.tc : Thread Cert.Kernel37Ideal.nD Cert.Kernel37Ideal.τ).loc Cert.Kernel37Ideal.main_arg1) = m ((c.tc : Thread Cert.Kernel37Ideal.nD Cert.Kernel37Ideal.τ).loc Cert.Kernel37Ideal.main_arg1)
      ∧ r.2.mem ((c.tc : Thread Cert.Kernel37Ideal.nD Cert.Kernel37Ideal.τ).loc Cert.Kernel37Ideal.main_arg2) = m ((c.tc : Thread Cert.Kernel37Ideal.nD Cert.Kernel37Ideal.τ).loc Cert.Kernel37Ideal.main_arg2))
      ∧ r.2.sem = fun _ => 0)

def quiescent_Reference37Ideal [hReference37Ideal : Cert.Reference37Ideal.Facts] : Prop :=
  ∀ (m : (ℓ : Loc Cert.Reference37Ideal.nD Cert.Reference37Ideal.τ Cert.Reference37Ideal.sig) → Buf (Elt Ideal) ℓ) (g : Dev Cert.Reference37Ideal.nD → PrngReg), Pre_Reference37Ideal m →
    θ_run (Cert.Reference37Ideal.defs (F := Ideal)) (onTc (τ := Cert.Reference37Ideal.τ) (Cert.Reference37Ideal.main (F := Ideal))) ⟨m, fun _ => 0, g⟩ (fun r => (∀ c : Dev Cert.Reference37Ideal.nD,
      r.2.mem ((c.tc : Thread Cert.Reference37Ideal.nD Cert.Reference37Ideal.τ).loc Cert.Reference37Ideal.main_arg0) = m ((c.tc : Thread Cert.Reference37Ideal.nD Cert.Reference37Ideal.τ).loc Cert.Reference37Ideal.main_arg0)
      ∧ r.2.mem ((c.tc : Thread Cert.Reference37Ideal.nD Cert.Reference37Ideal.τ).loc Cert.Reference37Ideal.main_arg1) = m ((c.tc : Thread Cert.Reference37Ideal.nD Cert.Reference37Ideal.τ).loc Cert.Reference37Ideal.main_arg1)
      ∧ r.2.mem ((c.tc : Thread Cert.Reference37Ideal.nD Cert.Reference37Ideal.τ).loc Cert.Reference37Ideal.main_arg2) = m ((c.tc : Thread Cert.Reference37Ideal.nD Cert.Reference37Ideal.τ).loc Cert.Reference37Ideal.main_arg2))
      ∧ r.2.sem = fun _ => 0)

def quiescent_Kernel38 [hKernel38 : Cert.Kernel38.Facts] : Prop :=
  ∀ (m : (ℓ : Loc Cert.Kernel38.nD Cert.Kernel38.τ Cert.Kernel38.sig) → Buf (Elt Bits) ℓ) (g : Dev Cert.Kernel38.nD → PrngReg), Pre_Kernel38 m →
    θ_run (Cert.Kernel38.defs (F := Bits)) (onTc (τ := Cert.Kernel38.τ) (Cert.Kernel38.main (F := Bits))) ⟨m, fun _ => 0, g⟩ (fun r => (∀ c : Dev Cert.Kernel38.nD,
      r.2.mem ((c.tc : Thread Cert.Kernel38.nD Cert.Kernel38.τ).loc Cert.Kernel38.main_arg0) = m ((c.tc : Thread Cert.Kernel38.nD Cert.Kernel38.τ).loc Cert.Kernel38.main_arg0)
      ∧ r.2.mem ((c.tc : Thread Cert.Kernel38.nD Cert.Kernel38.τ).loc Cert.Kernel38.main_arg1) = m ((c.tc : Thread Cert.Kernel38.nD Cert.Kernel38.τ).loc Cert.Kernel38.main_arg1)
      ∧ r.2.mem ((c.tc : Thread Cert.Kernel38.nD Cert.Kernel38.τ).loc Cert.Kernel38.main_arg2) = m ((c.tc : Thread Cert.Kernel38.nD Cert.Kernel38.τ).loc Cert.Kernel38.main_arg2))
      ∧ r.2.sem = fun _ => 0)

def quiescent_Kernel38Ideal [hKernel38Ideal : Cert.Kernel38Ideal.Facts] : Prop :=
  ∀ (m : (ℓ : Loc Cert.Kernel38Ideal.nD Cert.Kernel38Ideal.τ Cert.Kernel38Ideal.sig) → Buf (Elt Ideal) ℓ) (g : Dev Cert.Kernel38Ideal.nD → PrngReg), Pre_Kernel38Ideal m →
    θ_run (Cert.Kernel38Ideal.defs (F := Ideal)) (onTc (τ := Cert.Kernel38Ideal.τ) (Cert.Kernel38Ideal.main (F := Ideal))) ⟨m, fun _ => 0, g⟩ (fun r => (∀ c : Dev Cert.Kernel38Ideal.nD,
      r.2.mem ((c.tc : Thread Cert.Kernel38Ideal.nD Cert.Kernel38Ideal.τ).loc Cert.Kernel38Ideal.main_arg0) = m ((c.tc : Thread Cert.Kernel38Ideal.nD Cert.Kernel38Ideal.τ).loc Cert.Kernel38Ideal.main_arg0)
      ∧ r.2.mem ((c.tc : Thread Cert.Kernel38Ideal.nD Cert.Kernel38Ideal.τ).loc Cert.Kernel38Ideal.main_arg1) = m ((c.tc : Thread Cert.Kernel38Ideal.nD Cert.Kernel38Ideal.τ).loc Cert.Kernel38Ideal.main_arg1)
      ∧ r.2.mem ((c.tc : Thread Cert.Kernel38Ideal.nD Cert.Kernel38Ideal.τ).loc Cert.Kernel38Ideal.main_arg2) = m ((c.tc : Thread Cert.Kernel38Ideal.nD Cert.Kernel38Ideal.τ).loc Cert.Kernel38Ideal.main_arg2))
      ∧ r.2.sem = fun _ => 0)

def quiescent_Reference38Ideal [hReference38Ideal : Cert.Reference38Ideal.Facts] : Prop :=
  ∀ (m : (ℓ : Loc Cert.Reference38Ideal.nD Cert.Reference38Ideal.τ Cert.Reference38Ideal.sig) → Buf (Elt Ideal) ℓ) (g : Dev Cert.Reference38Ideal.nD → PrngReg), Pre_Reference38Ideal m →
    θ_run (Cert.Reference38Ideal.defs (F := Ideal)) (onTc (τ := Cert.Reference38Ideal.τ) (Cert.Reference38Ideal.main (F := Ideal))) ⟨m, fun _ => 0, g⟩ (fun r => (∀ c : Dev Cert.Reference38Ideal.nD,
      r.2.mem ((c.tc : Thread Cert.Reference38Ideal.nD Cert.Reference38Ideal.τ).loc Cert.Reference38Ideal.main_arg0) = m ((c.tc : Thread Cert.Reference38Ideal.nD Cert.Reference38Ideal.τ).loc Cert.Reference38Ideal.main_arg0)
      ∧ r.2.mem ((c.tc : Thread Cert.Reference38Ideal.nD Cert.Reference38Ideal.τ).loc Cert.Reference38Ideal.main_arg1) = m ((c.tc : Thread Cert.Reference38Ideal.nD Cert.Reference38Ideal.τ).loc Cert.Reference38Ideal.main_arg1)
      ∧ r.2.mem ((c.tc : Thread Cert.Reference38Ideal.nD Cert.Reference38Ideal.τ).loc Cert.Reference38Ideal.main_arg2) = m ((c.tc : Thread Cert.Reference38Ideal.nD Cert.Reference38Ideal.τ).loc Cert.Reference38Ideal.main_arg2))
      ∧ r.2.sem = fun _ => 0)

def quiescent_Kernel39 [hKernel39 : Cert.Kernel39.Facts] : Prop :=
  ∀ (m : (ℓ : Loc Cert.Kernel39.nD Cert.Kernel39.τ Cert.Kernel39.sig) → Buf (Elt Bits) ℓ) (g : Dev Cert.Kernel39.nD → PrngReg), Pre_Kernel39 m →
    θ_run (Cert.Kernel39.defs (F := Bits)) (onTc (τ := Cert.Kernel39.τ) (Cert.Kernel39.main (F := Bits))) ⟨m, fun _ => 0, g⟩ (fun r => (∀ c : Dev Cert.Kernel39.nD,
      r.2.mem ((c.tc : Thread Cert.Kernel39.nD Cert.Kernel39.τ).loc Cert.Kernel39.main_arg0) = m ((c.tc : Thread Cert.Kernel39.nD Cert.Kernel39.τ).loc Cert.Kernel39.main_arg0)
      ∧ r.2.mem ((c.tc : Thread Cert.Kernel39.nD Cert.Kernel39.τ).loc Cert.Kernel39.main_arg1) = m ((c.tc : Thread Cert.Kernel39.nD Cert.Kernel39.τ).loc Cert.Kernel39.main_arg1)
      ∧ r.2.mem ((c.tc : Thread Cert.Kernel39.nD Cert.Kernel39.τ).loc Cert.Kernel39.main_arg2) = m ((c.tc : Thread Cert.Kernel39.nD Cert.Kernel39.τ).loc Cert.Kernel39.main_arg2)
      ∧ r.2.mem ((c.tc : Thread Cert.Kernel39.nD Cert.Kernel39.τ).loc Cert.Kernel39.main_arg3) = m ((c.tc : Thread Cert.Kernel39.nD Cert.Kernel39.τ).loc Cert.Kernel39.main_arg3)
      ∧ r.2.mem ((c.tc : Thread Cert.Kernel39.nD Cert.Kernel39.τ).loc Cert.Kernel39.main_arg4) = m ((c.tc : Thread Cert.Kernel39.nD Cert.Kernel39.τ).loc Cert.Kernel39.main_arg4)
      ∧ r.2.mem ((c.tc : Thread Cert.Kernel39.nD Cert.Kernel39.τ).loc Cert.Kernel39.main_arg5) = m ((c.tc : Thread Cert.Kernel39.nD Cert.Kernel39.τ).loc Cert.Kernel39.main_arg5)
      ∧ r.2.mem ((c.tc : Thread Cert.Kernel39.nD Cert.Kernel39.τ).loc Cert.Kernel39.main_arg6) = m ((c.tc : Thread Cert.Kernel39.nD Cert.Kernel39.τ).loc Cert.Kernel39.main_arg6)
      ∧ r.2.mem ((c.tc : Thread Cert.Kernel39.nD Cert.Kernel39.τ).loc Cert.Kernel39.main_arg7) = m ((c.tc : Thread Cert.Kernel39.nD Cert.Kernel39.τ).loc Cert.Kernel39.main_arg7)
      ∧ r.2.mem ((c.tc : Thread Cert.Kernel39.nD Cert.Kernel39.τ).loc Cert.Kernel39.main_arg8) = m ((c.tc : Thread Cert.Kernel39.nD Cert.Kernel39.τ).loc Cert.Kernel39.main_arg8)
      ∧ r.2.mem ((c.tc : Thread Cert.Kernel39.nD Cert.Kernel39.τ).loc Cert.Kernel39.main_arg9) = m ((c.tc : Thread Cert.Kernel39.nD Cert.Kernel39.τ).loc Cert.Kernel39.main_arg9)
      ∧ r.2.mem ((c.tc : Thread Cert.Kernel39.nD Cert.Kernel39.τ).loc Cert.Kernel39.main_arg10) = m ((c.tc : Thread Cert.Kernel39.nD Cert.Kernel39.τ).loc Cert.Kernel39.main_arg10))
      ∧ r.2.sem = fun _ => 0)

def quiescent_Kernel39Ideal [hKernel39Ideal : Cert.Kernel39Ideal.Facts] : Prop :=
  ∀ (m : (ℓ : Loc Cert.Kernel39Ideal.nD Cert.Kernel39Ideal.τ Cert.Kernel39Ideal.sig) → Buf (Elt Ideal) ℓ) (g : Dev Cert.Kernel39Ideal.nD → PrngReg), Pre_Kernel39Ideal m →
    θ_run (Cert.Kernel39Ideal.defs (F := Ideal)) (onTc (τ := Cert.Kernel39Ideal.τ) (Cert.Kernel39Ideal.main (F := Ideal))) ⟨m, fun _ => 0, g⟩ (fun r => (∀ c : Dev Cert.Kernel39Ideal.nD,
      r.2.mem ((c.tc : Thread Cert.Kernel39Ideal.nD Cert.Kernel39Ideal.τ).loc Cert.Kernel39Ideal.main_arg0) = m ((c.tc : Thread Cert.Kernel39Ideal.nD Cert.Kernel39Ideal.τ).loc Cert.Kernel39Ideal.main_arg0)
      ∧ r.2.mem ((c.tc : Thread Cert.Kernel39Ideal.nD Cert.Kernel39Ideal.τ).loc Cert.Kernel39Ideal.main_arg1) = m ((c.tc : Thread Cert.Kernel39Ideal.nD Cert.Kernel39Ideal.τ).loc Cert.Kernel39Ideal.main_arg1)
      ∧ r.2.mem ((c.tc : Thread Cert.Kernel39Ideal.nD Cert.Kernel39Ideal.τ).loc Cert.Kernel39Ideal.main_arg2) = m ((c.tc : Thread Cert.Kernel39Ideal.nD Cert.Kernel39Ideal.τ).loc Cert.Kernel39Ideal.main_arg2)
      ∧ r.2.mem ((c.tc : Thread Cert.Kernel39Ideal.nD Cert.Kernel39Ideal.τ).loc Cert.Kernel39Ideal.main_arg3) = m ((c.tc : Thread Cert.Kernel39Ideal.nD Cert.Kernel39Ideal.τ).loc Cert.Kernel39Ideal.main_arg3)
      ∧ r.2.mem ((c.tc : Thread Cert.Kernel39Ideal.nD Cert.Kernel39Ideal.τ).loc Cert.Kernel39Ideal.main_arg4) = m ((c.tc : Thread Cert.Kernel39Ideal.nD Cert.Kernel39Ideal.τ).loc Cert.Kernel39Ideal.main_arg4)
      ∧ r.2.mem ((c.tc : Thread Cert.Kernel39Ideal.nD Cert.Kernel39Ideal.τ).loc Cert.Kernel39Ideal.main_arg5) = m ((c.tc : Thread Cert.Kernel39Ideal.nD Cert.Kernel39Ideal.τ).loc Cert.Kernel39Ideal.main_arg5)
      ∧ r.2.mem ((c.tc : Thread Cert.Kernel39Ideal.nD Cert.Kernel39Ideal.τ).loc Cert.Kernel39Ideal.main_arg6) = m ((c.tc : Thread Cert.Kernel39Ideal.nD Cert.Kernel39Ideal.τ).loc Cert.Kernel39Ideal.main_arg6)
      ∧ r.2.mem ((c.tc : Thread Cert.Kernel39Ideal.nD Cert.Kernel39Ideal.τ).loc Cert.Kernel39Ideal.main_arg7) = m ((c.tc : Thread Cert.Kernel39Ideal.nD Cert.Kernel39Ideal.τ).loc Cert.Kernel39Ideal.main_arg7)
      ∧ r.2.mem ((c.tc : Thread Cert.Kernel39Ideal.nD Cert.Kernel39Ideal.τ).loc Cert.Kernel39Ideal.main_arg8) = m ((c.tc : Thread Cert.Kernel39Ideal.nD Cert.Kernel39Ideal.τ).loc Cert.Kernel39Ideal.main_arg8)
      ∧ r.2.mem ((c.tc : Thread Cert.Kernel39Ideal.nD Cert.Kernel39Ideal.τ).loc Cert.Kernel39Ideal.main_arg9) = m ((c.tc : Thread Cert.Kernel39Ideal.nD Cert.Kernel39Ideal.τ).loc Cert.Kernel39Ideal.main_arg9)
      ∧ r.2.mem ((c.tc : Thread Cert.Kernel39Ideal.nD Cert.Kernel39Ideal.τ).loc Cert.Kernel39Ideal.main_arg10) = m ((c.tc : Thread Cert.Kernel39Ideal.nD Cert.Kernel39Ideal.τ).loc Cert.Kernel39Ideal.main_arg10))
      ∧ r.2.sem = fun _ => 0)

def quiescent_Kernel39Ideal_pre_finite_gate [hKernel39Ideal : Cert.Kernel39Ideal.Facts] [hPre_finite_gate : Cert.Pre_finite_gate.Facts] : Prop :=
  ∀ (m : (ℓ : Loc Cert.Kernel39Ideal.nD Cert.Kernel39Ideal.τ Cert.Kernel39Ideal.sig) → Buf (Elt Ideal) ℓ) (g : Dev Cert.Kernel39Ideal.nD → PrngReg), Pre_Kernel39Ideal_finite_gate m →
    θ_run (Cert.Kernel39Ideal.defs (F := Ideal)) (onTc (τ := Cert.Kernel39Ideal.τ) (Cert.Kernel39Ideal.main (F := Ideal))) ⟨m, fun _ => 0, g⟩ (fun r => (∀ c : Dev Cert.Kernel39Ideal.nD,
      r.2.mem ((c.tc : Thread Cert.Kernel39Ideal.nD Cert.Kernel39Ideal.τ).loc Cert.Kernel39Ideal.main_arg0) = m ((c.tc : Thread Cert.Kernel39Ideal.nD Cert.Kernel39Ideal.τ).loc Cert.Kernel39Ideal.main_arg0)
      ∧ r.2.mem ((c.tc : Thread Cert.Kernel39Ideal.nD Cert.Kernel39Ideal.τ).loc Cert.Kernel39Ideal.main_arg1) = m ((c.tc : Thread Cert.Kernel39Ideal.nD Cert.Kernel39Ideal.τ).loc Cert.Kernel39Ideal.main_arg1)
      ∧ r.2.mem ((c.tc : Thread Cert.Kernel39Ideal.nD Cert.Kernel39Ideal.τ).loc Cert.Kernel39Ideal.main_arg2) = m ((c.tc : Thread Cert.Kernel39Ideal.nD Cert.Kernel39Ideal.τ).loc Cert.Kernel39Ideal.main_arg2)
      ∧ r.2.mem ((c.tc : Thread Cert.Kernel39Ideal.nD Cert.Kernel39Ideal.τ).loc Cert.Kernel39Ideal.main_arg3) = m ((c.tc : Thread Cert.Kernel39Ideal.nD Cert.Kernel39Ideal.τ).loc Cert.Kernel39Ideal.main_arg3)
      ∧ r.2.mem ((c.tc : Thread Cert.Kernel39Ideal.nD Cert.Kernel39Ideal.τ).loc Cert.Kernel39Ideal.main_arg4) = m ((c.tc : Thread Cert.Kernel39Ideal.nD Cert.Kernel39Ideal.τ).loc Cert.Kernel39Ideal.main_arg4)
      ∧ r.2.mem ((c.tc : Thread Cert.Kernel39Ideal.nD Cert.Kernel39Ideal.τ).loc Cert.Kernel39Ideal.main_arg5) = m ((c.tc : Thread Cert.Kernel39Ideal.nD Cert.Kernel39Ideal.τ).loc Cert.Kernel39Ideal.main_arg5)
      ∧ r.2.mem ((c.tc : Thread Cert.Kernel39Ideal.nD Cert.Kernel39Ideal.τ).loc Cert.Kernel39Ideal.main_arg6) = m ((c.tc : Thread Cert.Kernel39Ideal.nD Cert.Kernel39Ideal.τ).loc Cert.Kernel39Ideal.main_arg6)
      ∧ r.2.mem ((c.tc : Thread Cert.Kernel39Ideal.nD Cert.Kernel39Ideal.τ).loc Cert.Kernel39Ideal.main_arg7) = m ((c.tc : Thread Cert.Kernel39Ideal.nD Cert.Kernel39Ideal.τ).loc Cert.Kernel39Ideal.main_arg7)
      ∧ r.2.mem ((c.tc : Thread Cert.Kernel39Ideal.nD Cert.Kernel39Ideal.τ).loc Cert.Kernel39Ideal.main_arg8) = m ((c.tc : Thread Cert.Kernel39Ideal.nD Cert.Kernel39Ideal.τ).loc Cert.Kernel39Ideal.main_arg8)
      ∧ r.2.mem ((c.tc : Thread Cert.Kernel39Ideal.nD Cert.Kernel39Ideal.τ).loc Cert.Kernel39Ideal.main_arg9) = m ((c.tc : Thread Cert.Kernel39Ideal.nD Cert.Kernel39Ideal.τ).loc Cert.Kernel39Ideal.main_arg9)
      ∧ r.2.mem ((c.tc : Thread Cert.Kernel39Ideal.nD Cert.Kernel39Ideal.τ).loc Cert.Kernel39Ideal.main_arg10) = m ((c.tc : Thread Cert.Kernel39Ideal.nD Cert.Kernel39Ideal.τ).loc Cert.Kernel39Ideal.main_arg10))
      ∧ r.2.sem = fun _ => 0)

def quiescent_Reference39Ideal [hReference39Ideal : Cert.Reference39Ideal.Facts] : Prop :=
  ∀ (m : (ℓ : Loc Cert.Reference39Ideal.nD Cert.Reference39Ideal.τ Cert.Reference39Ideal.sig) → Buf (Elt Ideal) ℓ) (g : Dev Cert.Reference39Ideal.nD → PrngReg), Pre_Reference39Ideal m →
    θ_run (Cert.Reference39Ideal.defs (F := Ideal)) (onTc (τ := Cert.Reference39Ideal.τ) (Cert.Reference39Ideal.main (F := Ideal))) ⟨m, fun _ => 0, g⟩ (fun r => (∀ c : Dev Cert.Reference39Ideal.nD,
      r.2.mem ((c.tc : Thread Cert.Reference39Ideal.nD Cert.Reference39Ideal.τ).loc Cert.Reference39Ideal.main_arg0) = m ((c.tc : Thread Cert.Reference39Ideal.nD Cert.Reference39Ideal.τ).loc Cert.Reference39Ideal.main_arg0)
      ∧ r.2.mem ((c.tc : Thread Cert.Reference39Ideal.nD Cert.Reference39Ideal.τ).loc Cert.Reference39Ideal.main_arg1) = m ((c.tc : Thread Cert.Reference39Ideal.nD Cert.Reference39Ideal.τ).loc Cert.Reference39Ideal.main_arg1)
      ∧ r.2.mem ((c.tc : Thread Cert.Reference39Ideal.nD Cert.Reference39Ideal.τ).loc Cert.Reference39Ideal.main_arg2) = m ((c.tc : Thread Cert.Reference39Ideal.nD Cert.Reference39Ideal.τ).loc Cert.Reference39Ideal.main_arg2)
      ∧ r.2.mem ((c.tc : Thread Cert.Reference39Ideal.nD Cert.Reference39Ideal.τ).loc Cert.Reference39Ideal.main_arg3) = m ((c.tc : Thread Cert.Reference39Ideal.nD Cert.Reference39Ideal.τ).loc Cert.Reference39Ideal.main_arg3)
      ∧ r.2.mem ((c.tc : Thread Cert.Reference39Ideal.nD Cert.Reference39Ideal.τ).loc Cert.Reference39Ideal.main_arg4) = m ((c.tc : Thread Cert.Reference39Ideal.nD Cert.Reference39Ideal.τ).loc Cert.Reference39Ideal.main_arg4)
      ∧ r.2.mem ((c.tc : Thread Cert.Reference39Ideal.nD Cert.Reference39Ideal.τ).loc Cert.Reference39Ideal.main_arg5) = m ((c.tc : Thread Cert.Reference39Ideal.nD Cert.Reference39Ideal.τ).loc Cert.Reference39Ideal.main_arg5)
      ∧ r.2.mem ((c.tc : Thread Cert.Reference39Ideal.nD Cert.Reference39Ideal.τ).loc Cert.Reference39Ideal.main_arg6) = m ((c.tc : Thread Cert.Reference39Ideal.nD Cert.Reference39Ideal.τ).loc Cert.Reference39Ideal.main_arg6)
      ∧ r.2.mem ((c.tc : Thread Cert.Reference39Ideal.nD Cert.Reference39Ideal.τ).loc Cert.Reference39Ideal.main_arg7) = m ((c.tc : Thread Cert.Reference39Ideal.nD Cert.Reference39Ideal.τ).loc Cert.Reference39Ideal.main_arg7)
      ∧ r.2.mem ((c.tc : Thread Cert.Reference39Ideal.nD Cert.Reference39Ideal.τ).loc Cert.Reference39Ideal.main_arg8) = m ((c.tc : Thread Cert.Reference39Ideal.nD Cert.Reference39Ideal.τ).loc Cert.Reference39Ideal.main_arg8)
      ∧ r.2.mem ((c.tc : Thread Cert.Reference39Ideal.nD Cert.Reference39Ideal.τ).loc Cert.Reference39Ideal.main_arg9) = m ((c.tc : Thread Cert.Reference39Ideal.nD Cert.Reference39Ideal.τ).loc Cert.Reference39Ideal.main_arg9)
      ∧ r.2.mem ((c.tc : Thread Cert.Reference39Ideal.nD Cert.Reference39Ideal.τ).loc Cert.Reference39Ideal.main_arg10) = m ((c.tc : Thread Cert.Reference39Ideal.nD Cert.Reference39Ideal.τ).loc Cert.Reference39Ideal.main_arg10))
      ∧ r.2.sem = fun _ => 0)

def quiescent_Reference39Ideal_pre_finite_gate [hReference39Ideal : Cert.Reference39Ideal.Facts] [hPre_finite_gate : Cert.Pre_finite_gate.Facts] : Prop :=
  ∀ (m : (ℓ : Loc Cert.Reference39Ideal.nD Cert.Reference39Ideal.τ Cert.Reference39Ideal.sig) → Buf (Elt Ideal) ℓ) (g : Dev Cert.Reference39Ideal.nD → PrngReg), Pre_Reference39Ideal_finite_gate m →
    θ_run (Cert.Reference39Ideal.defs (F := Ideal)) (onTc (τ := Cert.Reference39Ideal.τ) (Cert.Reference39Ideal.main (F := Ideal))) ⟨m, fun _ => 0, g⟩ (fun r => (∀ c : Dev Cert.Reference39Ideal.nD,
      r.2.mem ((c.tc : Thread Cert.Reference39Ideal.nD Cert.Reference39Ideal.τ).loc Cert.Reference39Ideal.main_arg0) = m ((c.tc : Thread Cert.Reference39Ideal.nD Cert.Reference39Ideal.τ).loc Cert.Reference39Ideal.main_arg0)
      ∧ r.2.mem ((c.tc : Thread Cert.Reference39Ideal.nD Cert.Reference39Ideal.τ).loc Cert.Reference39Ideal.main_arg1) = m ((c.tc : Thread Cert.Reference39Ideal.nD Cert.Reference39Ideal.τ).loc Cert.Reference39Ideal.main_arg1)
      ∧ r.2.mem ((c.tc : Thread Cert.Reference39Ideal.nD Cert.Reference39Ideal.τ).loc Cert.Reference39Ideal.main_arg2) = m ((c.tc : Thread Cert.Reference39Ideal.nD Cert.Reference39Ideal.τ).loc Cert.Reference39Ideal.main_arg2)
      ∧ r.2.mem ((c.tc : Thread Cert.Reference39Ideal.nD Cert.Reference39Ideal.τ).loc Cert.Reference39Ideal.main_arg3) = m ((c.tc : Thread Cert.Reference39Ideal.nD Cert.Reference39Ideal.τ).loc Cert.Reference39Ideal.main_arg3)
      ∧ r.2.mem ((c.tc : Thread Cert.Reference39Ideal.nD Cert.Reference39Ideal.τ).loc Cert.Reference39Ideal.main_arg4) = m ((c.tc : Thread Cert.Reference39Ideal.nD Cert.Reference39Ideal.τ).loc Cert.Reference39Ideal.main_arg4)
      ∧ r.2.mem ((c.tc : Thread Cert.Reference39Ideal.nD Cert.Reference39Ideal.τ).loc Cert.Reference39Ideal.main_arg5) = m ((c.tc : Thread Cert.Reference39Ideal.nD Cert.Reference39Ideal.τ).loc Cert.Reference39Ideal.main_arg5)
      ∧ r.2.mem ((c.tc : Thread Cert.Reference39Ideal.nD Cert.Reference39Ideal.τ).loc Cert.Reference39Ideal.main_arg6) = m ((c.tc : Thread Cert.Reference39Ideal.nD Cert.Reference39Ideal.τ).loc Cert.Reference39Ideal.main_arg6)
      ∧ r.2.mem ((c.tc : Thread Cert.Reference39Ideal.nD Cert.Reference39Ideal.τ).loc Cert.Reference39Ideal.main_arg7) = m ((c.tc : Thread Cert.Reference39Ideal.nD Cert.Reference39Ideal.τ).loc Cert.Reference39Ideal.main_arg7)
      ∧ r.2.mem ((c.tc : Thread Cert.Reference39Ideal.nD Cert.Reference39Ideal.τ).loc Cert.Reference39Ideal.main_arg8) = m ((c.tc : Thread Cert.Reference39Ideal.nD Cert.Reference39Ideal.τ).loc Cert.Reference39Ideal.main_arg8)
      ∧ r.2.mem ((c.tc : Thread Cert.Reference39Ideal.nD Cert.Reference39Ideal.τ).loc Cert.Reference39Ideal.main_arg9) = m ((c.tc : Thread Cert.Reference39Ideal.nD Cert.Reference39Ideal.τ).loc Cert.Reference39Ideal.main_arg9)
      ∧ r.2.mem ((c.tc : Thread Cert.Reference39Ideal.nD Cert.Reference39Ideal.τ).loc Cert.Reference39Ideal.main_arg10) = m ((c.tc : Thread Cert.Reference39Ideal.nD Cert.Reference39Ideal.τ).loc Cert.Reference39Ideal.main_arg10))
      ∧ r.2.sem = fun _ => 0)

def quiescent_Kernel40 [hKernel40 : Cert.Kernel40.Facts] : Prop :=
  ∀ (m : (ℓ : Loc Cert.Kernel40.nD Cert.Kernel40.τ Cert.Kernel40.sig) → Buf (Elt Bits) ℓ) (g : Dev Cert.Kernel40.nD → PrngReg), Pre_Kernel40 m →
    θ_run (Cert.Kernel40.defs (F := Bits)) (onTc (τ := Cert.Kernel40.τ) (Cert.Kernel40.main (F := Bits))) ⟨m, fun _ => 0, g⟩ (fun r => (∀ c : Dev Cert.Kernel40.nD,
      r.2.mem ((c.tc : Thread Cert.Kernel40.nD Cert.Kernel40.τ).loc Cert.Kernel40.main_arg0) = m ((c.tc : Thread Cert.Kernel40.nD Cert.Kernel40.τ).loc Cert.Kernel40.main_arg0)
      ∧ r.2.mem ((c.tc : Thread Cert.Kernel40.nD Cert.Kernel40.τ).loc Cert.Kernel40.main_arg1) = m ((c.tc : Thread Cert.Kernel40.nD Cert.Kernel40.τ).loc Cert.Kernel40.main_arg1)
      ∧ r.2.mem ((c.tc : Thread Cert.Kernel40.nD Cert.Kernel40.τ).loc Cert.Kernel40.main_arg2) = m ((c.tc : Thread Cert.Kernel40.nD Cert.Kernel40.τ).loc Cert.Kernel40.main_arg2)
      ∧ r.2.mem ((c.tc : Thread Cert.Kernel40.nD Cert.Kernel40.τ).loc Cert.Kernel40.main_arg3) = m ((c.tc : Thread Cert.Kernel40.nD Cert.Kernel40.τ).loc Cert.Kernel40.main_arg3)
      ∧ r.2.mem ((c.tc : Thread Cert.Kernel40.nD Cert.Kernel40.τ).loc Cert.Kernel40.main_arg4) = m ((c.tc : Thread Cert.Kernel40.nD Cert.Kernel40.τ).loc Cert.Kernel40.main_arg4)
      ∧ r.2.mem ((c.tc : Thread Cert.Kernel40.nD Cert.Kernel40.τ).loc Cert.Kernel40.main_arg5) = m ((c.tc : Thread Cert.Kernel40.nD Cert.Kernel40.τ).loc Cert.Kernel40.main_arg5))
      ∧ r.2.sem = fun _ => 0)

def quiescent_Kernel40Ideal [hKernel40Ideal : Cert.Kernel40Ideal.Facts] : Prop :=
  ∀ (m : (ℓ : Loc Cert.Kernel40Ideal.nD Cert.Kernel40Ideal.τ Cert.Kernel40Ideal.sig) → Buf (Elt Ideal) ℓ) (g : Dev Cert.Kernel40Ideal.nD → PrngReg), Pre_Kernel40Ideal m →
    θ_run (Cert.Kernel40Ideal.defs (F := Ideal)) (onTc (τ := Cert.Kernel40Ideal.τ) (Cert.Kernel40Ideal.main (F := Ideal))) ⟨m, fun _ => 0, g⟩ (fun r => (∀ c : Dev Cert.Kernel40Ideal.nD,
      r.2.mem ((c.tc : Thread Cert.Kernel40Ideal.nD Cert.Kernel40Ideal.τ).loc Cert.Kernel40Ideal.main_arg0) = m ((c.tc : Thread Cert.Kernel40Ideal.nD Cert.Kernel40Ideal.τ).loc Cert.Kernel40Ideal.main_arg0)
      ∧ r.2.mem ((c.tc : Thread Cert.Kernel40Ideal.nD Cert.Kernel40Ideal.τ).loc Cert.Kernel40Ideal.main_arg1) = m ((c.tc : Thread Cert.Kernel40Ideal.nD Cert.Kernel40Ideal.τ).loc Cert.Kernel40Ideal.main_arg1)
      ∧ r.2.mem ((c.tc : Thread Cert.Kernel40Ideal.nD Cert.Kernel40Ideal.τ).loc Cert.Kernel40Ideal.main_arg2) = m ((c.tc : Thread Cert.Kernel40Ideal.nD Cert.Kernel40Ideal.τ).loc Cert.Kernel40Ideal.main_arg2)
      ∧ r.2.mem ((c.tc : Thread Cert.Kernel40Ideal.nD Cert.Kernel40Ideal.τ).loc Cert.Kernel40Ideal.main_arg3) = m ((c.tc : Thread Cert.Kernel40Ideal.nD Cert.Kernel40Ideal.τ).loc Cert.Kernel40Ideal.main_arg3)
      ∧ r.2.mem ((c.tc : Thread Cert.Kernel40Ideal.nD Cert.Kernel40Ideal.τ).loc Cert.Kernel40Ideal.main_arg4) = m ((c.tc : Thread Cert.Kernel40Ideal.nD Cert.Kernel40Ideal.τ).loc Cert.Kernel40Ideal.main_arg4)
      ∧ r.2.mem ((c.tc : Thread Cert.Kernel40Ideal.nD Cert.Kernel40Ideal.τ).loc Cert.Kernel40Ideal.main_arg5) = m ((c.tc : Thread Cert.Kernel40Ideal.nD Cert.Kernel40Ideal.τ).loc Cert.Kernel40Ideal.main_arg5))
      ∧ r.2.sem = fun _ => 0)

def quiescent_Kernel40Ideal_pre_finite_conv [hKernel40Ideal : Cert.Kernel40Ideal.Facts] [hPre_finite_conv : Cert.Pre_finite_conv.Facts] : Prop :=
  ∀ (m : (ℓ : Loc Cert.Kernel40Ideal.nD Cert.Kernel40Ideal.τ Cert.Kernel40Ideal.sig) → Buf (Elt Ideal) ℓ) (g : Dev Cert.Kernel40Ideal.nD → PrngReg), Pre_Kernel40Ideal_finite_conv m →
    θ_run (Cert.Kernel40Ideal.defs (F := Ideal)) (onTc (τ := Cert.Kernel40Ideal.τ) (Cert.Kernel40Ideal.main (F := Ideal))) ⟨m, fun _ => 0, g⟩ (fun r => (∀ c : Dev Cert.Kernel40Ideal.nD,
      r.2.mem ((c.tc : Thread Cert.Kernel40Ideal.nD Cert.Kernel40Ideal.τ).loc Cert.Kernel40Ideal.main_arg0) = m ((c.tc : Thread Cert.Kernel40Ideal.nD Cert.Kernel40Ideal.τ).loc Cert.Kernel40Ideal.main_arg0)
      ∧ r.2.mem ((c.tc : Thread Cert.Kernel40Ideal.nD Cert.Kernel40Ideal.τ).loc Cert.Kernel40Ideal.main_arg1) = m ((c.tc : Thread Cert.Kernel40Ideal.nD Cert.Kernel40Ideal.τ).loc Cert.Kernel40Ideal.main_arg1)
      ∧ r.2.mem ((c.tc : Thread Cert.Kernel40Ideal.nD Cert.Kernel40Ideal.τ).loc Cert.Kernel40Ideal.main_arg2) = m ((c.tc : Thread Cert.Kernel40Ideal.nD Cert.Kernel40Ideal.τ).loc Cert.Kernel40Ideal.main_arg2)
      ∧ r.2.mem ((c.tc : Thread Cert.Kernel40Ideal.nD Cert.Kernel40Ideal.τ).loc Cert.Kernel40Ideal.main_arg3) = m ((c.tc : Thread Cert.Kernel40Ideal.nD Cert.Kernel40Ideal.τ).loc Cert.Kernel40Ideal.main_arg3)
      ∧ r.2.mem ((c.tc : Thread Cert.Kernel40Ideal.nD Cert.Kernel40Ideal.τ).loc Cert.Kernel40Ideal.main_arg4) = m ((c.tc : Thread Cert.Kernel40Ideal.nD Cert.Kernel40Ideal.τ).loc Cert.Kernel40Ideal.main_arg4)
      ∧ r.2.mem ((c.tc : Thread Cert.Kernel40Ideal.nD Cert.Kernel40Ideal.τ).loc Cert.Kernel40Ideal.main_arg5) = m ((c.tc : Thread Cert.Kernel40Ideal.nD Cert.Kernel40Ideal.τ).loc Cert.Kernel40Ideal.main_arg5))
      ∧ r.2.sem = fun _ => 0)

def quiescent_Reference40Ideal [hReference40Ideal : Cert.Reference40Ideal.Facts] : Prop :=
  ∀ (m : (ℓ : Loc Cert.Reference40Ideal.nD Cert.Reference40Ideal.τ Cert.Reference40Ideal.sig) → Buf (Elt Ideal) ℓ) (g : Dev Cert.Reference40Ideal.nD → PrngReg), Pre_Reference40Ideal m →
    θ_run (Cert.Reference40Ideal.defs (F := Ideal)) (onTc (τ := Cert.Reference40Ideal.τ) (Cert.Reference40Ideal.main (F := Ideal))) ⟨m, fun _ => 0, g⟩ (fun r => (∀ c : Dev Cert.Reference40Ideal.nD,
      r.2.mem ((c.tc : Thread Cert.Reference40Ideal.nD Cert.Reference40Ideal.τ).loc Cert.Reference40Ideal.main_arg0) = m ((c.tc : Thread Cert.Reference40Ideal.nD Cert.Reference40Ideal.τ).loc Cert.Reference40Ideal.main_arg0)
      ∧ r.2.mem ((c.tc : Thread Cert.Reference40Ideal.nD Cert.Reference40Ideal.τ).loc Cert.Reference40Ideal.main_arg1) = m ((c.tc : Thread Cert.Reference40Ideal.nD Cert.Reference40Ideal.τ).loc Cert.Reference40Ideal.main_arg1)
      ∧ r.2.mem ((c.tc : Thread Cert.Reference40Ideal.nD Cert.Reference40Ideal.τ).loc Cert.Reference40Ideal.main_arg2) = m ((c.tc : Thread Cert.Reference40Ideal.nD Cert.Reference40Ideal.τ).loc Cert.Reference40Ideal.main_arg2)
      ∧ r.2.mem ((c.tc : Thread Cert.Reference40Ideal.nD Cert.Reference40Ideal.τ).loc Cert.Reference40Ideal.main_arg3) = m ((c.tc : Thread Cert.Reference40Ideal.nD Cert.Reference40Ideal.τ).loc Cert.Reference40Ideal.main_arg3)
      ∧ r.2.mem ((c.tc : Thread Cert.Reference40Ideal.nD Cert.Reference40Ideal.τ).loc Cert.Reference40Ideal.main_arg4) = m ((c.tc : Thread Cert.Reference40Ideal.nD Cert.Reference40Ideal.τ).loc Cert.Reference40Ideal.main_arg4)
      ∧ r.2.mem ((c.tc : Thread Cert.Reference40Ideal.nD Cert.Reference40Ideal.τ).loc Cert.Reference40Ideal.main_arg5) = m ((c.tc : Thread Cert.Reference40Ideal.nD Cert.Reference40Ideal.τ).loc Cert.Reference40Ideal.main_arg5))
      ∧ r.2.sem = fun _ => 0)

def quiescent_Reference40Ideal_pre_finite_conv [hReference40Ideal : Cert.Reference40Ideal.Facts] [hPre_finite_conv : Cert.Pre_finite_conv.Facts] : Prop :=
  ∀ (m : (ℓ : Loc Cert.Reference40Ideal.nD Cert.Reference40Ideal.τ Cert.Reference40Ideal.sig) → Buf (Elt Ideal) ℓ) (g : Dev Cert.Reference40Ideal.nD → PrngReg), Pre_Reference40Ideal_finite_conv m →
    θ_run (Cert.Reference40Ideal.defs (F := Ideal)) (onTc (τ := Cert.Reference40Ideal.τ) (Cert.Reference40Ideal.main (F := Ideal))) ⟨m, fun _ => 0, g⟩ (fun r => (∀ c : Dev Cert.Reference40Ideal.nD,
      r.2.mem ((c.tc : Thread Cert.Reference40Ideal.nD Cert.Reference40Ideal.τ).loc Cert.Reference40Ideal.main_arg0) = m ((c.tc : Thread Cert.Reference40Ideal.nD Cert.Reference40Ideal.τ).loc Cert.Reference40Ideal.main_arg0)
      ∧ r.2.mem ((c.tc : Thread Cert.Reference40Ideal.nD Cert.Reference40Ideal.τ).loc Cert.Reference40Ideal.main_arg1) = m ((c.tc : Thread Cert.Reference40Ideal.nD Cert.Reference40Ideal.τ).loc Cert.Reference40Ideal.main_arg1)
      ∧ r.2.mem ((c.tc : Thread Cert.Reference40Ideal.nD Cert.Reference40Ideal.τ).loc Cert.Reference40Ideal.main_arg2) = m ((c.tc : Thread Cert.Reference40Ideal.nD Cert.Reference40Ideal.τ).loc Cert.Reference40Ideal.main_arg2)
      ∧ r.2.mem ((c.tc : Thread Cert.Reference40Ideal.nD Cert.Reference40Ideal.τ).loc Cert.Reference40Ideal.main_arg3) = m ((c.tc : Thread Cert.Reference40Ideal.nD Cert.Reference40Ideal.τ).loc Cert.Reference40Ideal.main_arg3)
      ∧ r.2.mem ((c.tc : Thread Cert.Reference40Ideal.nD Cert.Reference40Ideal.τ).loc Cert.Reference40Ideal.main_arg4) = m ((c.tc : Thread Cert.Reference40Ideal.nD Cert.Reference40Ideal.τ).loc Cert.Reference40Ideal.main_arg4)
      ∧ r.2.mem ((c.tc : Thread Cert.Reference40Ideal.nD Cert.Reference40Ideal.τ).loc Cert.Reference40Ideal.main_arg5) = m ((c.tc : Thread Cert.Reference40Ideal.nD Cert.Reference40Ideal.τ).loc Cert.Reference40Ideal.main_arg5))
      ∧ r.2.sem = fun _ => 0)

def quiescent_Kernel41 [hKernel41 : Cert.Kernel41.Facts] : Prop :=
  ∀ (m : (ℓ : Loc Cert.Kernel41.nD Cert.Kernel41.τ Cert.Kernel41.sig) → Buf (Elt Bits) ℓ) (g : Dev Cert.Kernel41.nD → PrngReg), Pre_Kernel41 m →
    θ_run (Cert.Kernel41.defs (F := Bits)) (onTc (τ := Cert.Kernel41.τ) (Cert.Kernel41.main (F := Bits))) ⟨m, fun _ => 0, g⟩ (fun r => (∀ c : Dev Cert.Kernel41.nD,
      r.2.mem ((c.tc : Thread Cert.Kernel41.nD Cert.Kernel41.τ).loc Cert.Kernel41.main_arg0) = m ((c.tc : Thread Cert.Kernel41.nD Cert.Kernel41.τ).loc Cert.Kernel41.main_arg0)
      ∧ r.2.mem ((c.tc : Thread Cert.Kernel41.nD Cert.Kernel41.τ).loc Cert.Kernel41.main_arg1) = m ((c.tc : Thread Cert.Kernel41.nD Cert.Kernel41.τ).loc Cert.Kernel41.main_arg1)
      ∧ r.2.mem ((c.tc : Thread Cert.Kernel41.nD Cert.Kernel41.τ).loc Cert.Kernel41.main_arg2) = m ((c.tc : Thread Cert.Kernel41.nD Cert.Kernel41.τ).loc Cert.Kernel41.main_arg2)
      ∧ r.2.mem ((c.tc : Thread Cert.Kernel41.nD Cert.Kernel41.τ).loc Cert.Kernel41.main_arg3) = m ((c.tc : Thread Cert.Kernel41.nD Cert.Kernel41.τ).loc Cert.Kernel41.main_arg3)
      ∧ r.2.mem ((c.tc : Thread Cert.Kernel41.nD Cert.Kernel41.τ).loc Cert.Kernel41.main_arg4) = m ((c.tc : Thread Cert.Kernel41.nD Cert.Kernel41.τ).loc Cert.Kernel41.main_arg4)
      ∧ r.2.mem ((c.tc : Thread Cert.Kernel41.nD Cert.Kernel41.τ).loc Cert.Kernel41.main_arg5) = m ((c.tc : Thread Cert.Kernel41.nD Cert.Kernel41.τ).loc Cert.Kernel41.main_arg5)
      ∧ r.2.mem ((c.tc : Thread Cert.Kernel41.nD Cert.Kernel41.τ).loc Cert.Kernel41.main_arg6) = m ((c.tc : Thread Cert.Kernel41.nD Cert.Kernel41.τ).loc Cert.Kernel41.main_arg6))
      ∧ r.2.sem = fun _ => 0)

def quiescent_Kernel41Ideal [hKernel41Ideal : Cert.Kernel41Ideal.Facts] : Prop :=
  ∀ (m : (ℓ : Loc Cert.Kernel41Ideal.nD Cert.Kernel41Ideal.τ Cert.Kernel41Ideal.sig) → Buf (Elt Ideal) ℓ) (g : Dev Cert.Kernel41Ideal.nD → PrngReg), Pre_Kernel41Ideal m →
    θ_run (Cert.Kernel41Ideal.defs (F := Ideal)) (onTc (τ := Cert.Kernel41Ideal.τ) (Cert.Kernel41Ideal.main (F := Ideal))) ⟨m, fun _ => 0, g⟩ (fun r => (∀ c : Dev Cert.Kernel41Ideal.nD,
      r.2.mem ((c.tc : Thread Cert.Kernel41Ideal.nD Cert.Kernel41Ideal.τ).loc Cert.Kernel41Ideal.main_arg0) = m ((c.tc : Thread Cert.Kernel41Ideal.nD Cert.Kernel41Ideal.τ).loc Cert.Kernel41Ideal.main_arg0)
      ∧ r.2.mem ((c.tc : Thread Cert.Kernel41Ideal.nD Cert.Kernel41Ideal.τ).loc Cert.Kernel41Ideal.main_arg1) = m ((c.tc : Thread Cert.Kernel41Ideal.nD Cert.Kernel41Ideal.τ).loc Cert.Kernel41Ideal.main_arg1)
      ∧ r.2.mem ((c.tc : Thread Cert.Kernel41Ideal.nD Cert.Kernel41Ideal.τ).loc Cert.Kernel41Ideal.main_arg2) = m ((c.tc : Thread Cert.Kernel41Ideal.nD Cert.Kernel41Ideal.τ).loc Cert.Kernel41Ideal.main_arg2)
      ∧ r.2.mem ((c.tc : Thread Cert.Kernel41Ideal.nD Cert.Kernel41Ideal.τ).loc Cert.Kernel41Ideal.main_arg3) = m ((c.tc : Thread Cert.Kernel41Ideal.nD Cert.Kernel41Ideal.τ).loc Cert.Kernel41Ideal.main_arg3)
      ∧ r.2.mem ((c.tc : Thread Cert.Kernel41Ideal.nD Cert.Kernel41Ideal.τ).loc Cert.Kernel41Ideal.main_arg4) = m ((c.tc : Thread Cert.Kernel41Ideal.nD Cert.Kernel41Ideal.τ).loc Cert.Kernel41Ideal.main_arg4)
      ∧ r.2.mem ((c.tc : Thread Cert.Kernel41Ideal.nD Cert.Kernel41Ideal.τ).loc Cert.Kernel41Ideal.main_arg5) = m ((c.tc : Thread Cert.Kernel41Ideal.nD Cert.Kernel41Ideal.τ).loc Cert.Kernel41Ideal.main_arg5)
      ∧ r.2.mem ((c.tc : Thread Cert.Kernel41Ideal.nD Cert.Kernel41Ideal.τ).loc Cert.Kernel41Ideal.main_arg6) = m ((c.tc : Thread Cert.Kernel41Ideal.nD Cert.Kernel41Ideal.τ).loc Cert.Kernel41Ideal.main_arg6))
      ∧ r.2.sem = fun _ => 0)

def quiescent_Kernel41Ideal_pre_finite_steps [hKernel41Ideal : Cert.Kernel41Ideal.Facts] [hPre_finite_steps : Cert.Pre_finite_steps.Facts] : Prop :=
  ∀ (m : (ℓ : Loc Cert.Kernel41Ideal.nD Cert.Kernel41Ideal.τ Cert.Kernel41Ideal.sig) → Buf (Elt Ideal) ℓ) (g : Dev Cert.Kernel41Ideal.nD → PrngReg), Pre_Kernel41Ideal_finite_steps m →
    θ_run (Cert.Kernel41Ideal.defs (F := Ideal)) (onTc (τ := Cert.Kernel41Ideal.τ) (Cert.Kernel41Ideal.main (F := Ideal))) ⟨m, fun _ => 0, g⟩ (fun r => (∀ c : Dev Cert.Kernel41Ideal.nD,
      r.2.mem ((c.tc : Thread Cert.Kernel41Ideal.nD Cert.Kernel41Ideal.τ).loc Cert.Kernel41Ideal.main_arg0) = m ((c.tc : Thread Cert.Kernel41Ideal.nD Cert.Kernel41Ideal.τ).loc Cert.Kernel41Ideal.main_arg0)
      ∧ r.2.mem ((c.tc : Thread Cert.Kernel41Ideal.nD Cert.Kernel41Ideal.τ).loc Cert.Kernel41Ideal.main_arg1) = m ((c.tc : Thread Cert.Kernel41Ideal.nD Cert.Kernel41Ideal.τ).loc Cert.Kernel41Ideal.main_arg1)
      ∧ r.2.mem ((c.tc : Thread Cert.Kernel41Ideal.nD Cert.Kernel41Ideal.τ).loc Cert.Kernel41Ideal.main_arg2) = m ((c.tc : Thread Cert.Kernel41Ideal.nD Cert.Kernel41Ideal.τ).loc Cert.Kernel41Ideal.main_arg2)
      ∧ r.2.mem ((c.tc : Thread Cert.Kernel41Ideal.nD Cert.Kernel41Ideal.τ).loc Cert.Kernel41Ideal.main_arg3) = m ((c.tc : Thread Cert.Kernel41Ideal.nD Cert.Kernel41Ideal.τ).loc Cert.Kernel41Ideal.main_arg3)
      ∧ r.2.mem ((c.tc : Thread Cert.Kernel41Ideal.nD Cert.Kernel41Ideal.τ).loc Cert.Kernel41Ideal.main_arg4) = m ((c.tc : Thread Cert.Kernel41Ideal.nD Cert.Kernel41Ideal.τ).loc Cert.Kernel41Ideal.main_arg4)
      ∧ r.2.mem ((c.tc : Thread Cert.Kernel41Ideal.nD Cert.Kernel41Ideal.τ).loc Cert.Kernel41Ideal.main_arg5) = m ((c.tc : Thread Cert.Kernel41Ideal.nD Cert.Kernel41Ideal.τ).loc Cert.Kernel41Ideal.main_arg5)
      ∧ r.2.mem ((c.tc : Thread Cert.Kernel41Ideal.nD Cert.Kernel41Ideal.τ).loc Cert.Kernel41Ideal.main_arg6) = m ((c.tc : Thread Cert.Kernel41Ideal.nD Cert.Kernel41Ideal.τ).loc Cert.Kernel41Ideal.main_arg6))
      ∧ r.2.sem = fun _ => 0)

def quiescent_Reference41Ideal [hReference41Ideal : Cert.Reference41Ideal.Facts] : Prop :=
  ∀ (m : (ℓ : Loc Cert.Reference41Ideal.nD Cert.Reference41Ideal.τ Cert.Reference41Ideal.sig) → Buf (Elt Ideal) ℓ) (g : Dev Cert.Reference41Ideal.nD → PrngReg), Pre_Reference41Ideal m →
    θ_run (Cert.Reference41Ideal.defs (F := Ideal)) (onTc (τ := Cert.Reference41Ideal.τ) (Cert.Reference41Ideal.main (F := Ideal))) ⟨m, fun _ => 0, g⟩ (fun r => (∀ c : Dev Cert.Reference41Ideal.nD,
      r.2.mem ((c.tc : Thread Cert.Reference41Ideal.nD Cert.Reference41Ideal.τ).loc Cert.Reference41Ideal.main_arg0) = m ((c.tc : Thread Cert.Reference41Ideal.nD Cert.Reference41Ideal.τ).loc Cert.Reference41Ideal.main_arg0)
      ∧ r.2.mem ((c.tc : Thread Cert.Reference41Ideal.nD Cert.Reference41Ideal.τ).loc Cert.Reference41Ideal.main_arg1) = m ((c.tc : Thread Cert.Reference41Ideal.nD Cert.Reference41Ideal.τ).loc Cert.Reference41Ideal.main_arg1)
      ∧ r.2.mem ((c.tc : Thread Cert.Reference41Ideal.nD Cert.Reference41Ideal.τ).loc Cert.Reference41Ideal.main_arg2) = m ((c.tc : Thread Cert.Reference41Ideal.nD Cert.Reference41Ideal.τ).loc Cert.Reference41Ideal.main_arg2)
      ∧ r.2.mem ((c.tc : Thread Cert.Reference41Ideal.nD Cert.Reference41Ideal.τ).loc Cert.Reference41Ideal.main_arg3) = m ((c.tc : Thread Cert.Reference41Ideal.nD Cert.Reference41Ideal.τ).loc Cert.Reference41Ideal.main_arg3)
      ∧ r.2.mem ((c.tc : Thread Cert.Reference41Ideal.nD Cert.Reference41Ideal.τ).loc Cert.Reference41Ideal.main_arg4) = m ((c.tc : Thread Cert.Reference41Ideal.nD Cert.Reference41Ideal.τ).loc Cert.Reference41Ideal.main_arg4)
      ∧ r.2.mem ((c.tc : Thread Cert.Reference41Ideal.nD Cert.Reference41Ideal.τ).loc Cert.Reference41Ideal.main_arg5) = m ((c.tc : Thread Cert.Reference41Ideal.nD Cert.Reference41Ideal.τ).loc Cert.Reference41Ideal.main_arg5)
      ∧ r.2.mem ((c.tc : Thread Cert.Reference41Ideal.nD Cert.Reference41Ideal.τ).loc Cert.Reference41Ideal.main_arg6) = m ((c.tc : Thread Cert.Reference41Ideal.nD Cert.Reference41Ideal.τ).loc Cert.Reference41Ideal.main_arg6))
      ∧ r.2.sem = fun _ => 0)

def quiescent_Reference41Ideal_pre_finite_steps [hReference41Ideal : Cert.Reference41Ideal.Facts] [hPre_finite_steps : Cert.Pre_finite_steps.Facts] : Prop :=
  ∀ (m : (ℓ : Loc Cert.Reference41Ideal.nD Cert.Reference41Ideal.τ Cert.Reference41Ideal.sig) → Buf (Elt Ideal) ℓ) (g : Dev Cert.Reference41Ideal.nD → PrngReg), Pre_Reference41Ideal_finite_steps m →
    θ_run (Cert.Reference41Ideal.defs (F := Ideal)) (onTc (τ := Cert.Reference41Ideal.τ) (Cert.Reference41Ideal.main (F := Ideal))) ⟨m, fun _ => 0, g⟩ (fun r => (∀ c : Dev Cert.Reference41Ideal.nD,
      r.2.mem ((c.tc : Thread Cert.Reference41Ideal.nD Cert.Reference41Ideal.τ).loc Cert.Reference41Ideal.main_arg0) = m ((c.tc : Thread Cert.Reference41Ideal.nD Cert.Reference41Ideal.τ).loc Cert.Reference41Ideal.main_arg0)
      ∧ r.2.mem ((c.tc : Thread Cert.Reference41Ideal.nD Cert.Reference41Ideal.τ).loc Cert.Reference41Ideal.main_arg1) = m ((c.tc : Thread Cert.Reference41Ideal.nD Cert.Reference41Ideal.τ).loc Cert.Reference41Ideal.main_arg1)
      ∧ r.2.mem ((c.tc : Thread Cert.Reference41Ideal.nD Cert.Reference41Ideal.τ).loc Cert.Reference41Ideal.main_arg2) = m ((c.tc : Thread Cert.Reference41Ideal.nD Cert.Reference41Ideal.τ).loc Cert.Reference41Ideal.main_arg2)
      ∧ r.2.mem ((c.tc : Thread Cert.Reference41Ideal.nD Cert.Reference41Ideal.τ).loc Cert.Reference41Ideal.main_arg3) = m ((c.tc : Thread Cert.Reference41Ideal.nD Cert.Reference41Ideal.τ).loc Cert.Reference41Ideal.main_arg3)
      ∧ r.2.mem ((c.tc : Thread Cert.Reference41Ideal.nD Cert.Reference41Ideal.τ).loc Cert.Reference41Ideal.main_arg4) = m ((c.tc : Thread Cert.Reference41Ideal.nD Cert.Reference41Ideal.τ).loc Cert.Reference41Ideal.main_arg4)
      ∧ r.2.mem ((c.tc : Thread Cert.Reference41Ideal.nD Cert.Reference41Ideal.τ).loc Cert.Reference41Ideal.main_arg5) = m ((c.tc : Thread Cert.Reference41Ideal.nD Cert.Reference41Ideal.τ).loc Cert.Reference41Ideal.main_arg5)
      ∧ r.2.mem ((c.tc : Thread Cert.Reference41Ideal.nD Cert.Reference41Ideal.τ).loc Cert.Reference41Ideal.main_arg6) = m ((c.tc : Thread Cert.Reference41Ideal.nD Cert.Reference41Ideal.τ).loc Cert.Reference41Ideal.main_arg6))
      ∧ r.2.sem = fun _ => 0)

def quiescent_Kernel42 [hKernel42 : Cert.Kernel42.Facts] : Prop :=
  ∀ (m : (ℓ : Loc Cert.Kernel42.nD Cert.Kernel42.τ Cert.Kernel42.sig) → Buf (Elt Bits) ℓ) (g : Dev Cert.Kernel42.nD → PrngReg), Pre_Kernel42 m →
    θ_run (Cert.Kernel42.defs (F := Bits)) (onTc (τ := Cert.Kernel42.τ) (Cert.Kernel42.main (F := Bits))) ⟨m, fun _ => 0, g⟩ (fun r => (∀ c : Dev Cert.Kernel42.nD,
      r.2.mem ((c.tc : Thread Cert.Kernel42.nD Cert.Kernel42.τ).loc Cert.Kernel42.main_arg0) = m ((c.tc : Thread Cert.Kernel42.nD Cert.Kernel42.τ).loc Cert.Kernel42.main_arg0)
      ∧ r.2.mem ((c.tc : Thread Cert.Kernel42.nD Cert.Kernel42.τ).loc Cert.Kernel42.main_arg1) = m ((c.tc : Thread Cert.Kernel42.nD Cert.Kernel42.τ).loc Cert.Kernel42.main_arg1))
      ∧ r.2.sem = fun _ => 0)

def quiescent_Kernel42Ideal [hKernel42Ideal : Cert.Kernel42Ideal.Facts] : Prop :=
  ∀ (m : (ℓ : Loc Cert.Kernel42Ideal.nD Cert.Kernel42Ideal.τ Cert.Kernel42Ideal.sig) → Buf (Elt Ideal) ℓ) (g : Dev Cert.Kernel42Ideal.nD → PrngReg), Pre_Kernel42Ideal m →
    θ_run (Cert.Kernel42Ideal.defs (F := Ideal)) (onTc (τ := Cert.Kernel42Ideal.τ) (Cert.Kernel42Ideal.main (F := Ideal))) ⟨m, fun _ => 0, g⟩ (fun r => (∀ c : Dev Cert.Kernel42Ideal.nD,
      r.2.mem ((c.tc : Thread Cert.Kernel42Ideal.nD Cert.Kernel42Ideal.τ).loc Cert.Kernel42Ideal.main_arg0) = m ((c.tc : Thread Cert.Kernel42Ideal.nD Cert.Kernel42Ideal.τ).loc Cert.Kernel42Ideal.main_arg0)
      ∧ r.2.mem ((c.tc : Thread Cert.Kernel42Ideal.nD Cert.Kernel42Ideal.τ).loc Cert.Kernel42Ideal.main_arg1) = m ((c.tc : Thread Cert.Kernel42Ideal.nD Cert.Kernel42Ideal.τ).loc Cert.Kernel42Ideal.main_arg1))
      ∧ r.2.sem = fun _ => 0)

def quiescent_Reference42Ideal [hReference42Ideal : Cert.Reference42Ideal.Facts] : Prop :=
  ∀ (m : (ℓ : Loc Cert.Reference42Ideal.nD Cert.Reference42Ideal.τ Cert.Reference42Ideal.sig) → Buf (Elt Ideal) ℓ) (g : Dev Cert.Reference42Ideal.nD → PrngReg), Pre_Reference42Ideal m →
    θ_run (Cert.Reference42Ideal.defs (F := Ideal)) (onTc (τ := Cert.Reference42Ideal.τ) (Cert.Reference42Ideal.main (F := Ideal))) ⟨m, fun _ => 0, g⟩ (fun r => (∀ c : Dev Cert.Reference42Ideal.nD,
      r.2.mem ((c.tc : Thread Cert.Reference42Ideal.nD Cert.Reference42Ideal.τ).loc Cert.Reference42Ideal.main_arg0) = m ((c.tc : Thread Cert.Reference42Ideal.nD Cert.Reference42Ideal.τ).loc Cert.Reference42Ideal.main_arg0)
      ∧ r.2.mem ((c.tc : Thread Cert.Reference42Ideal.nD Cert.Reference42Ideal.τ).loc Cert.Reference42Ideal.main_arg1) = m ((c.tc : Thread Cert.Reference42Ideal.nD Cert.Reference42Ideal.τ).loc Cert.Reference42Ideal.main_arg1))
      ∧ r.2.sem = fun _ => 0)

def quiescent_Kernel43 [hKernel43 : Cert.Kernel43.Facts] : Prop :=
  ∀ (m : (ℓ : Loc Cert.Kernel43.nD Cert.Kernel43.τ Cert.Kernel43.sig) → Buf (Elt Bits) ℓ) (g : Dev Cert.Kernel43.nD → PrngReg), Pre_Kernel43 m →
    θ_run (Cert.Kernel43.defs (F := Bits)) (onTc (τ := Cert.Kernel43.τ) (Cert.Kernel43.main (F := Bits))) ⟨m, fun _ => 0, g⟩ (fun r => (∀ c : Dev Cert.Kernel43.nD,
      r.2.mem ((c.tc : Thread Cert.Kernel43.nD Cert.Kernel43.τ).loc Cert.Kernel43.main_arg0) = m ((c.tc : Thread Cert.Kernel43.nD Cert.Kernel43.τ).loc Cert.Kernel43.main_arg0)
      ∧ r.2.mem ((c.tc : Thread Cert.Kernel43.nD Cert.Kernel43.τ).loc Cert.Kernel43.main_arg1) = m ((c.tc : Thread Cert.Kernel43.nD Cert.Kernel43.τ).loc Cert.Kernel43.main_arg1))
      ∧ r.2.sem = fun _ => 0)

def quiescent_Kernel43Ideal [hKernel43Ideal : Cert.Kernel43Ideal.Facts] : Prop :=
  ∀ (m : (ℓ : Loc Cert.Kernel43Ideal.nD Cert.Kernel43Ideal.τ Cert.Kernel43Ideal.sig) → Buf (Elt Ideal) ℓ) (g : Dev Cert.Kernel43Ideal.nD → PrngReg), Pre_Kernel43Ideal m →
    θ_run (Cert.Kernel43Ideal.defs (F := Ideal)) (onTc (τ := Cert.Kernel43Ideal.τ) (Cert.Kernel43Ideal.main (F := Ideal))) ⟨m, fun _ => 0, g⟩ (fun r => (∀ c : Dev Cert.Kernel43Ideal.nD,
      r.2.mem ((c.tc : Thread Cert.Kernel43Ideal.nD Cert.Kernel43Ideal.τ).loc Cert.Kernel43Ideal.main_arg0) = m ((c.tc : Thread Cert.Kernel43Ideal.nD Cert.Kernel43Ideal.τ).loc Cert.Kernel43Ideal.main_arg0)
      ∧ r.2.mem ((c.tc : Thread Cert.Kernel43Ideal.nD Cert.Kernel43Ideal.τ).loc Cert.Kernel43Ideal.main_arg1) = m ((c.tc : Thread Cert.Kernel43Ideal.nD Cert.Kernel43Ideal.τ).loc Cert.Kernel43Ideal.main_arg1))
      ∧ r.2.sem = fun _ => 0)

def quiescent_Reference43Ideal [hReference43Ideal : Cert.Reference43Ideal.Facts] : Prop :=
  ∀ (m : (ℓ : Loc Cert.Reference43Ideal.nD Cert.Reference43Ideal.τ Cert.Reference43Ideal.sig) → Buf (Elt Ideal) ℓ) (g : Dev Cert.Reference43Ideal.nD → PrngReg), Pre_Reference43Ideal m →
    θ_run (Cert.Reference43Ideal.defs (F := Ideal)) (onTc (τ := Cert.Reference43Ideal.τ) (Cert.Reference43Ideal.main (F := Ideal))) ⟨m, fun _ => 0, g⟩ (fun r => (∀ c : Dev Cert.Reference43Ideal.nD,
      r.2.mem ((c.tc : Thread Cert.Reference43Ideal.nD Cert.Reference43Ideal.τ).loc Cert.Reference43Ideal.main_arg0) = m ((c.tc : Thread Cert.Reference43Ideal.nD Cert.Reference43Ideal.τ).loc Cert.Reference43Ideal.main_arg0)
      ∧ r.2.mem ((c.tc : Thread Cert.Reference43Ideal.nD Cert.Reference43Ideal.τ).loc Cert.Reference43Ideal.main_arg1) = m ((c.tc : Thread Cert.Reference43Ideal.nD Cert.Reference43Ideal.τ).loc Cert.Reference43Ideal.main_arg1))
      ∧ r.2.sem = fun _ => 0)

def quiescent_Kernel44 [hKernel44 : Cert.Kernel44.Facts] : Prop :=
  ∀ (m : (ℓ : Loc Cert.Kernel44.nD Cert.Kernel44.τ Cert.Kernel44.sig) → Buf (Elt Bits) ℓ) (g : Dev Cert.Kernel44.nD → PrngReg), Pre_Kernel44 m →
    θ_run (Cert.Kernel44.defs (F := Bits)) (onTc (τ := Cert.Kernel44.τ) (Cert.Kernel44.main (F := Bits))) ⟨m, fun _ => 0, g⟩ (fun r => (∀ c : Dev Cert.Kernel44.nD,
      r.2.mem ((c.tc : Thread Cert.Kernel44.nD Cert.Kernel44.τ).loc Cert.Kernel44.main_arg0) = m ((c.tc : Thread Cert.Kernel44.nD Cert.Kernel44.τ).loc Cert.Kernel44.main_arg0)
      ∧ r.2.mem ((c.tc : Thread Cert.Kernel44.nD Cert.Kernel44.τ).loc Cert.Kernel44.main_arg1) = m ((c.tc : Thread Cert.Kernel44.nD Cert.Kernel44.τ).loc Cert.Kernel44.main_arg1)
      ∧ r.2.mem ((c.tc : Thread Cert.Kernel44.nD Cert.Kernel44.τ).loc Cert.Kernel44.main_arg2) = m ((c.tc : Thread Cert.Kernel44.nD Cert.Kernel44.τ).loc Cert.Kernel44.main_arg2))
      ∧ r.2.sem = fun _ => 0)

def quiescent_Kernel44Ideal [hKernel44Ideal : Cert.Kernel44Ideal.Facts] : Prop :=
  ∀ (m : (ℓ : Loc Cert.Kernel44Ideal.nD Cert.Kernel44Ideal.τ Cert.Kernel44Ideal.sig) → Buf (Elt Ideal) ℓ) (g : Dev Cert.Kernel44Ideal.nD → PrngReg), Pre_Kernel44Ideal m →
    θ_run (Cert.Kernel44Ideal.defs (F := Ideal)) (onTc (τ := Cert.Kernel44Ideal.τ) (Cert.Kernel44Ideal.main (F := Ideal))) ⟨m, fun _ => 0, g⟩ (fun r => (∀ c : Dev Cert.Kernel44Ideal.nD,
      r.2.mem ((c.tc : Thread Cert.Kernel44Ideal.nD Cert.Kernel44Ideal.τ).loc Cert.Kernel44Ideal.main_arg0) = m ((c.tc : Thread Cert.Kernel44Ideal.nD Cert.Kernel44Ideal.τ).loc Cert.Kernel44Ideal.main_arg0)
      ∧ r.2.mem ((c.tc : Thread Cert.Kernel44Ideal.nD Cert.Kernel44Ideal.τ).loc Cert.Kernel44Ideal.main_arg1) = m ((c.tc : Thread Cert.Kernel44Ideal.nD Cert.Kernel44Ideal.τ).loc Cert.Kernel44Ideal.main_arg1)
      ∧ r.2.mem ((c.tc : Thread Cert.Kernel44Ideal.nD Cert.Kernel44Ideal.τ).loc Cert.Kernel44Ideal.main_arg2) = m ((c.tc : Thread Cert.Kernel44Ideal.nD Cert.Kernel44Ideal.τ).loc Cert.Kernel44Ideal.main_arg2))
      ∧ r.2.sem = fun _ => 0)

def quiescent_Reference44Ideal [hReference44Ideal : Cert.Reference44Ideal.Facts] : Prop :=
  ∀ (m : (ℓ : Loc Cert.Reference44Ideal.nD Cert.Reference44Ideal.τ Cert.Reference44Ideal.sig) → Buf (Elt Ideal) ℓ) (g : Dev Cert.Reference44Ideal.nD → PrngReg), Pre_Reference44Ideal m →
    θ_run (Cert.Reference44Ideal.defs (F := Ideal)) (onTc (τ := Cert.Reference44Ideal.τ) (Cert.Reference44Ideal.main (F := Ideal))) ⟨m, fun _ => 0, g⟩ (fun r => (∀ c : Dev Cert.Reference44Ideal.nD,
      r.2.mem ((c.tc : Thread Cert.Reference44Ideal.nD Cert.Reference44Ideal.τ).loc Cert.Reference44Ideal.main_arg0) = m ((c.tc : Thread Cert.Reference44Ideal.nD Cert.Reference44Ideal.τ).loc Cert.Reference44Ideal.main_arg0)
      ∧ r.2.mem ((c.tc : Thread Cert.Reference44Ideal.nD Cert.Reference44Ideal.τ).loc Cert.Reference44Ideal.main_arg1) = m ((c.tc : Thread Cert.Reference44Ideal.nD Cert.Reference44Ideal.τ).loc Cert.Reference44Ideal.main_arg1)
      ∧ r.2.mem ((c.tc : Thread Cert.Reference44Ideal.nD Cert.Reference44Ideal.τ).loc Cert.Reference44Ideal.main_arg2) = m ((c.tc : Thread Cert.Reference44Ideal.nD Cert.Reference44Ideal.τ).loc Cert.Reference44Ideal.main_arg2))
      ∧ r.2.sem = fun _ => 0)

def quiescent_Kernel45 [hKernel45 : Cert.Kernel45.Facts] : Prop :=
  ∀ (m : (ℓ : Loc Cert.Kernel45.nD Cert.Kernel45.τ Cert.Kernel45.sig) → Buf (Elt Bits) ℓ) (g : Dev Cert.Kernel45.nD → PrngReg), Pre_Kernel45 m →
    θ_run (Cert.Kernel45.defs (F := Bits)) (onTc (τ := Cert.Kernel45.τ) (Cert.Kernel45.main (F := Bits))) ⟨m, fun _ => 0, g⟩ (fun r => (∀ c : Dev Cert.Kernel45.nD,
      r.2.mem ((c.tc : Thread Cert.Kernel45.nD Cert.Kernel45.τ).loc Cert.Kernel45.main_arg0) = m ((c.tc : Thread Cert.Kernel45.nD Cert.Kernel45.τ).loc Cert.Kernel45.main_arg0)
      ∧ r.2.mem ((c.tc : Thread Cert.Kernel45.nD Cert.Kernel45.τ).loc Cert.Kernel45.main_arg1) = m ((c.tc : Thread Cert.Kernel45.nD Cert.Kernel45.τ).loc Cert.Kernel45.main_arg1)
      ∧ r.2.mem ((c.tc : Thread Cert.Kernel45.nD Cert.Kernel45.τ).loc Cert.Kernel45.main_arg2) = m ((c.tc : Thread Cert.Kernel45.nD Cert.Kernel45.τ).loc Cert.Kernel45.main_arg2))
      ∧ r.2.sem = fun _ => 0)

def quiescent_Kernel45Ideal [hKernel45Ideal : Cert.Kernel45Ideal.Facts] : Prop :=
  ∀ (m : (ℓ : Loc Cert.Kernel45Ideal.nD Cert.Kernel45Ideal.τ Cert.Kernel45Ideal.sig) → Buf (Elt Ideal) ℓ) (g : Dev Cert.Kernel45Ideal.nD → PrngReg), Pre_Kernel45Ideal m →
    θ_run (Cert.Kernel45Ideal.defs (F := Ideal)) (onTc (τ := Cert.Kernel45Ideal.τ) (Cert.Kernel45Ideal.main (F := Ideal))) ⟨m, fun _ => 0, g⟩ (fun r => (∀ c : Dev Cert.Kernel45Ideal.nD,
      r.2.mem ((c.tc : Thread Cert.Kernel45Ideal.nD Cert.Kernel45Ideal.τ).loc Cert.Kernel45Ideal.main_arg0) = m ((c.tc : Thread Cert.Kernel45Ideal.nD Cert.Kernel45Ideal.τ).loc Cert.Kernel45Ideal.main_arg0)
      ∧ r.2.mem ((c.tc : Thread Cert.Kernel45Ideal.nD Cert.Kernel45Ideal.τ).loc Cert.Kernel45Ideal.main_arg1) = m ((c.tc : Thread Cert.Kernel45Ideal.nD Cert.Kernel45Ideal.τ).loc Cert.Kernel45Ideal.main_arg1)
      ∧ r.2.mem ((c.tc : Thread Cert.Kernel45Ideal.nD Cert.Kernel45Ideal.τ).loc Cert.Kernel45Ideal.main_arg2) = m ((c.tc : Thread Cert.Kernel45Ideal.nD Cert.Kernel45Ideal.τ).loc Cert.Kernel45Ideal.main_arg2))
      ∧ r.2.sem = fun _ => 0)

def quiescent_Reference45Ideal [hReference45Ideal : Cert.Reference45Ideal.Facts] : Prop :=
  ∀ (m : (ℓ : Loc Cert.Reference45Ideal.nD Cert.Reference45Ideal.τ Cert.Reference45Ideal.sig) → Buf (Elt Ideal) ℓ) (g : Dev Cert.Reference45Ideal.nD → PrngReg), Pre_Reference45Ideal m →
    θ_run (Cert.Reference45Ideal.defs (F := Ideal)) (onTc (τ := Cert.Reference45Ideal.τ) (Cert.Reference45Ideal.main (F := Ideal))) ⟨m, fun _ => 0, g⟩ (fun r => (∀ c : Dev Cert.Reference45Ideal.nD,
      r.2.mem ((c.tc : Thread Cert.Reference45Ideal.nD Cert.Reference45Ideal.τ).loc Cert.Reference45Ideal.main_arg0) = m ((c.tc : Thread Cert.Reference45Ideal.nD Cert.Reference45Ideal.τ).loc Cert.Reference45Ideal.main_arg0)
      ∧ r.2.mem ((c.tc : Thread Cert.Reference45Ideal.nD Cert.Reference45Ideal.τ).loc Cert.Reference45Ideal.main_arg1) = m ((c.tc : Thread Cert.Reference45Ideal.nD Cert.Reference45Ideal.τ).loc Cert.Reference45Ideal.main_arg1)
      ∧ r.2.mem ((c.tc : Thread Cert.Reference45Ideal.nD Cert.Reference45Ideal.τ).loc Cert.Reference45Ideal.main_arg2) = m ((c.tc : Thread Cert.Reference45Ideal.nD Cert.Reference45Ideal.τ).loc Cert.Reference45Ideal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_v69) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal_pre_finite [hKernel2Ideal : Cert.Kernel2Ideal.Facts] [hReference2Ideal : Cert.Reference2Ideal.Facts] [hPre_finite : Cert.Pre_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v14) = v0 c
          ∧ r.2.mem ((c.tc : Thread Cert.Reference2Ideal.nD Cert.Reference2Ideal.τ).loc Cert.Reference2Ideal.main_v15) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v9) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v6) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v5) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v6) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0_0)) (v1 : (c : Dev Cert.Kernel7Ideal.nD) → Buf (Elt Ideal) ((c.tc : Thread Cert.Kernel7Ideal.nD Cert.Kernel7Ideal.τ).loc Cert.Kernel7Ideal.main_v0_1)) (v2 : (c : Dev Cert.Kernel7Ideal.nD) → Buf (Elt Ideal) ((c.tc : Thread Cert.Kernel7Ideal.nD Cert.Kernel7Ideal.τ).loc Cert.Kernel7Ideal.main_v0_2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0_0) = v0 c
          ∧ r.2.mem ((c.tc : Thread Cert.Kernel7Ideal.nD Cert.Kernel7Ideal.τ).loc Cert.Kernel7Ideal.main_v0_1) = v1 c
          ∧ r.2.mem ((c.tc : Thread Cert.Kernel7Ideal.nD Cert.Kernel7Ideal.τ).loc Cert.Kernel7Ideal.main_v0_2) = v2 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v7) = v0 c
          ∧ r.2.mem ((c.tc : Thread Cert.Reference7Ideal.nD Cert.Reference7Ideal.τ).loc Cert.Reference7Ideal.main_v8) = v1 c
          ∧ r.2.mem ((c.tc : Thread Cert.Reference7Ideal.nD Cert.Reference7Ideal.τ).loc Cert.Reference7Ideal.main_v9) = v2 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v5) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)) →
    ∃ (v0 : (c : Dev Cert.Kernel9Ideal.nD) → Buf (Elt Ideal) ((c.tc : Thread Cert.Kernel9Ideal.nD Cert.Kernel9Ideal.τ).loc Cert.Kernel9Ideal.main_v0_0)) (v1 : (c : Dev Cert.Kernel9Ideal.nD) → Buf (Elt Ideal) ((c.tc : Thread Cert.Kernel9Ideal.nD Cert.Kernel9Ideal.τ).loc Cert.Kernel9Ideal.main_v0_1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0_0) = v0 c
          ∧ r.2.mem ((c.tc : Thread Cert.Kernel9Ideal.nD Cert.Kernel9Ideal.τ).loc Cert.Kernel9Ideal.main_v0_1) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v34) = v0 c
          ∧ r.2.mem ((c.tc : Thread Cert.Reference9Ideal.nD Cert.Reference9Ideal.τ).loc Cert.Reference9Ideal.main_v17) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v0_0)) (v1 : (c : Dev Cert.Kernel10Ideal.nD) → Buf (Elt Ideal) ((c.tc : Thread Cert.Kernel10Ideal.nD Cert.Kernel10Ideal.τ).loc Cert.Kernel10Ideal.main_v0_1)) (v2 : (c : Dev Cert.Kernel10Ideal.nD) → Buf (Elt Ideal) ((c.tc : Thread Cert.Kernel10Ideal.nD Cert.Kernel10Ideal.τ).loc Cert.Kernel10Ideal.main_v0_2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0_0) = v0 c
          ∧ r.2.mem ((c.tc : Thread Cert.Kernel10Ideal.nD Cert.Kernel10Ideal.τ).loc Cert.Kernel10Ideal.main_v0_1) = v1 c
          ∧ r.2.mem ((c.tc : Thread Cert.Kernel10Ideal.nD Cert.Kernel10Ideal.τ).loc Cert.Kernel10Ideal.main_v0_2) = v2 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v49) = v0 c
          ∧ r.2.mem ((c.tc : Thread Cert.Reference10Ideal.nD Cert.Reference10Ideal.τ).loc Cert.Reference10Ideal.main_v48) = v1 c
          ∧ r.2.mem ((c.tc : Thread Cert.Reference10Ideal.nD Cert.Reference10Ideal.τ).loc Cert.Reference10Ideal.main_v32) = v2 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)) →
    ∃ (v0 : (c : Dev Cert.Kernel11Ideal.nD) → Buf (Elt Ideal) ((c.tc : Thread Cert.Kernel11Ideal.nD Cert.Kernel11Ideal.τ).loc Cert.Kernel11Ideal.main_v0_0)) (v1 : (c : Dev Cert.Kernel11Ideal.nD) → Buf (Elt Ideal) ((c.tc : Thread Cert.Kernel11Ideal.nD Cert.Kernel11Ideal.τ).loc Cert.Kernel11Ideal.main_v0_1)) (v2 : (c : Dev Cert.Kernel11Ideal.nD) → Buf (Elt Ideal) ((c.tc : Thread Cert.Kernel11Ideal.nD Cert.Kernel11Ideal.τ).loc Cert.Kernel11Ideal.main_v0_2)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0_0) = v0 c
          ∧ r.2.mem ((c.tc : Thread Cert.Kernel11Ideal.nD Cert.Kernel11Ideal.τ).loc Cert.Kernel11Ideal.main_v0_1) = v1 c
          ∧ r.2.mem ((c.tc : Thread Cert.Kernel11Ideal.nD Cert.Kernel11Ideal.τ).loc Cert.Kernel11Ideal.main_v0_2) = v2 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v23) = v0 c
          ∧ r.2.mem ((c.tc : Thread Cert.Reference11Ideal.nD Cert.Reference11Ideal.τ).loc Cert.Reference11Ideal.main_v4) = v1 c
          ∧ r.2.mem ((c.tc : Thread Cert.Reference11Ideal.nD Cert.Reference11Ideal.τ).loc Cert.Reference11Ideal.main_v10) = v2 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)) →
    ∃ (v0 : (c : Dev Cert.Kernel12Ideal.nD) → Buf (Elt Ideal) ((c.tc : Thread Cert.Kernel12Ideal.nD Cert.Kernel12Ideal.τ).loc Cert.Kernel12Ideal.main_v0_0)) (v1 : (c : Dev Cert.Kernel12Ideal.nD) → Buf (Elt Ideal) ((c.tc : Thread Cert.Kernel12Ideal.nD Cert.Kernel12Ideal.τ).loc Cert.Kernel12Ideal.main_v0_1)) (v2 : (c : Dev Cert.Kernel12Ideal.nD) → Buf (Elt Ideal) ((c.tc : Thread Cert.Kernel12Ideal.nD Cert.Kernel12Ideal.τ).loc Cert.Kernel12Ideal.main_v0_2)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0_0) = v0 c
          ∧ r.2.mem ((c.tc : Thread Cert.Kernel12Ideal.nD Cert.Kernel12Ideal.τ).loc Cert.Kernel12Ideal.main_v0_1) = v1 c
          ∧ r.2.mem ((c.tc : Thread Cert.Kernel12Ideal.nD Cert.Kernel12Ideal.τ).loc Cert.Kernel12Ideal.main_v0_2) = v2 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v23) = v0 c
          ∧ r.2.mem ((c.tc : Thread Cert.Reference12Ideal.nD Cert.Reference12Ideal.τ).loc Cert.Reference12Ideal.main_v4) = v1 c
          ∧ r.2.mem ((c.tc : Thread Cert.Reference12Ideal.nD Cert.Reference12Ideal.τ).loc Cert.Reference12Ideal.main_v10) = v2 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)) →
    ∃ (v0 : (c : Dev Cert.Kernel13Ideal.nD) → Buf (Elt Ideal) ((c.tc : Thread Cert.Kernel13Ideal.nD Cert.Kernel13Ideal.τ).loc Cert.Kernel13Ideal.main_v0_0)) (v1 : (c : Dev Cert.Kernel13Ideal.nD) → Buf (Elt Ideal) ((c.tc : Thread Cert.Kernel13Ideal.nD Cert.Kernel13Ideal.τ).loc Cert.Kernel13Ideal.main_v0_1)) (v2 : (c : Dev Cert.Kernel13Ideal.nD) → Buf (Elt Ideal) ((c.tc : Thread Cert.Kernel13Ideal.nD Cert.Kernel13Ideal.τ).loc Cert.Kernel13Ideal.main_v0_2)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0_0) = v0 c
          ∧ r.2.mem ((c.tc : Thread Cert.Kernel13Ideal.nD Cert.Kernel13Ideal.τ).loc Cert.Kernel13Ideal.main_v0_1) = v1 c
          ∧ r.2.mem ((c.tc : Thread Cert.Kernel13Ideal.nD Cert.Kernel13Ideal.τ).loc Cert.Kernel13Ideal.main_v0_2) = v2 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v23) = v0 c
          ∧ r.2.mem ((c.tc : Thread Cert.Reference13Ideal.nD Cert.Reference13Ideal.τ).loc Cert.Reference13Ideal.main_v4) = v1 c
          ∧ r.2.mem ((c.tc : Thread Cert.Reference13Ideal.nD Cert.Reference13Ideal.τ).loc Cert.Reference13Ideal.main_v10) = v2 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)) →
    ∃ (v0 : (c : Dev Cert.Kernel14Ideal.nD) → Buf (Elt Ideal) ((c.tc : Thread Cert.Kernel14Ideal.nD Cert.Kernel14Ideal.τ).loc Cert.Kernel14Ideal.main_v0_0)) (v1 : (c : Dev Cert.Kernel14Ideal.nD) → Buf (Elt Ideal) ((c.tc : Thread Cert.Kernel14Ideal.nD Cert.Kernel14Ideal.τ).loc Cert.Kernel14Ideal.main_v0_1)) (v2 : (c : Dev Cert.Kernel14Ideal.nD) → Buf (Elt Ideal) ((c.tc : Thread Cert.Kernel14Ideal.nD Cert.Kernel14Ideal.τ).loc Cert.Kernel14Ideal.main_v0_2)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0_0) = v0 c
          ∧ r.2.mem ((c.tc : Thread Cert.Kernel14Ideal.nD Cert.Kernel14Ideal.τ).loc Cert.Kernel14Ideal.main_v0_1) = v1 c
          ∧ r.2.mem ((c.tc : Thread Cert.Kernel14Ideal.nD Cert.Kernel14Ideal.τ).loc Cert.Kernel14Ideal.main_v0_2) = v2 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v23) = v0 c
          ∧ r.2.mem ((c.tc : Thread Cert.Reference14Ideal.nD Cert.Reference14Ideal.τ).loc Cert.Reference14Ideal.main_v4) = v1 c
          ∧ r.2.mem ((c.tc : Thread Cert.Reference14Ideal.nD Cert.Reference14Ideal.τ).loc Cert.Reference14Ideal.main_v10) = v2 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)) (v2 : (c : Dev Cert.Kernel15Ideal.nD) → Buf (Elt Ideal) ((c.tc : Thread Cert.Kernel15Ideal.nD Cert.Kernel15Ideal.τ).loc Cert.Kernel15Ideal.main_v0_2)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_v0_2) = v2 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v23) = v0 c
          ∧ r.2.mem ((c.tc : Thread Cert.Reference15Ideal.nD Cert.Reference15Ideal.τ).loc Cert.Reference15Ideal.main_v4) = v1 c
          ∧ r.2.mem ((c.tc : Thread Cert.Reference15Ideal.nD Cert.Reference15Ideal.τ).loc Cert.Reference15Ideal.main_v10) = v2 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)) →
    ∃ (v0 : (c : Dev Cert.Kernel16Ideal.nD) → Buf (Elt Ideal) ((c.tc : Thread Cert.Kernel16Ideal.nD Cert.Kernel16Ideal.τ).loc Cert.Kernel16Ideal.main_v0_0)) (v1 : (c : Dev Cert.Kernel16Ideal.nD) → Buf (Elt Ideal) ((c.tc : Thread Cert.Kernel16Ideal.nD Cert.Kernel16Ideal.τ).loc Cert.Kernel16Ideal.main_v0_1)) (v2 : (c : Dev Cert.Kernel16Ideal.nD) → Buf (Elt Ideal) ((c.tc : Thread Cert.Kernel16Ideal.nD Cert.Kernel16Ideal.τ).loc Cert.Kernel16Ideal.main_v0_2)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0_0) = v0 c
          ∧ r.2.mem ((c.tc : Thread Cert.Kernel16Ideal.nD Cert.Kernel16Ideal.τ).loc Cert.Kernel16Ideal.main_v0_1) = v1 c
          ∧ r.2.mem ((c.tc : Thread Cert.Kernel16Ideal.nD Cert.Kernel16Ideal.τ).loc Cert.Kernel16Ideal.main_v0_2) = v2 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v23) = v0 c
          ∧ r.2.mem ((c.tc : Thread Cert.Reference16Ideal.nD Cert.Reference16Ideal.τ).loc Cert.Reference16Ideal.main_v4) = v1 c
          ∧ r.2.mem ((c.tc : Thread Cert.Reference16Ideal.nD Cert.Reference16Ideal.τ).loc Cert.Reference16Ideal.main_v10) = v2 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)) →
    ∃ (v0 : (c : Dev Cert.Kernel17Ideal.nD) → Buf (Elt Ideal) ((c.tc : Thread Cert.Kernel17Ideal.nD Cert.Kernel17Ideal.τ).loc Cert.Kernel17Ideal.main_v0_0)) (v1 : (c : Dev Cert.Kernel17Ideal.nD) → Buf (Elt Ideal) ((c.tc : Thread Cert.Kernel17Ideal.nD Cert.Kernel17Ideal.τ).loc Cert.Kernel17Ideal.main_v0_1)) (v2 : (c : Dev Cert.Kernel17Ideal.nD) → Buf (Elt Ideal) ((c.tc : Thread Cert.Kernel17Ideal.nD Cert.Kernel17Ideal.τ).loc Cert.Kernel17Ideal.main_v0_2)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0_0) = v0 c
          ∧ r.2.mem ((c.tc : Thread Cert.Kernel17Ideal.nD Cert.Kernel17Ideal.τ).loc Cert.Kernel17Ideal.main_v0_1) = v1 c
          ∧ r.2.mem ((c.tc : Thread Cert.Kernel17Ideal.nD Cert.Kernel17Ideal.τ).loc Cert.Kernel17Ideal.main_v0_2) = v2 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v23) = v0 c
          ∧ r.2.mem ((c.tc : Thread Cert.Reference17Ideal.nD Cert.Reference17Ideal.τ).loc Cert.Reference17Ideal.main_v4) = v1 c
          ∧ r.2.mem ((c.tc : Thread Cert.Reference17Ideal.nD Cert.Reference17Ideal.τ).loc Cert.Reference17Ideal.main_v10) = v2 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)) →
    ∃ (v0 : (c : Dev Cert.Kernel18Ideal.nD) → Buf (Elt Ideal) ((c.tc : Thread Cert.Kernel18Ideal.nD Cert.Kernel18Ideal.τ).loc Cert.Kernel18Ideal.main_v0_0)) (v1 : (c : Dev Cert.Kernel18Ideal.nD) → Buf (Elt Ideal) ((c.tc : Thread Cert.Kernel18Ideal.nD Cert.Kernel18Ideal.τ).loc Cert.Kernel18Ideal.main_v0_1)) (v2 : (c : Dev Cert.Kernel18Ideal.nD) → Buf (Elt Ideal) ((c.tc : Thread Cert.Kernel18Ideal.nD Cert.Kernel18Ideal.τ).loc Cert.Kernel18Ideal.main_v0_2)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0_0) = v0 c
          ∧ r.2.mem ((c.tc : Thread Cert.Kernel18Ideal.nD Cert.Kernel18Ideal.τ).loc Cert.Kernel18Ideal.main_v0_1) = v1 c
          ∧ r.2.mem ((c.tc : Thread Cert.Kernel18Ideal.nD Cert.Kernel18Ideal.τ).loc Cert.Kernel18Ideal.main_v0_2) = v2 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v23) = v0 c
          ∧ r.2.mem ((c.tc : Thread Cert.Reference18Ideal.nD Cert.Reference18Ideal.τ).loc Cert.Reference18Ideal.main_v4) = v1 c
          ∧ r.2.mem ((c.tc : Thread Cert.Reference18Ideal.nD Cert.Reference18Ideal.τ).loc Cert.Reference18Ideal.main_v10) = v2 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)) →
    ∃ (v0 : (c : Dev Cert.Kernel19Ideal.nD) → Buf (Elt Ideal) ((c.tc : Thread Cert.Kernel19Ideal.nD Cert.Kernel19Ideal.τ).loc Cert.Kernel19Ideal.main_v0)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v3) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)) →
    ∃ (v0 : (c : Dev Cert.Kernel20Ideal.nD) → Buf (Elt Ideal) ((c.tc : Thread Cert.Kernel20Ideal.nD Cert.Kernel20Ideal.τ).loc Cert.Kernel20Ideal.main_v0)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v2) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)) →
    ∃ (v0 : (c : Dev Cert.Kernel21Ideal.nD) → Buf (Elt Ideal) ((c.tc : Thread Cert.Kernel21Ideal.nD Cert.Kernel21Ideal.τ).loc Cert.Kernel21Ideal.main_v0)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v3) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)) →
    ∃ (v0 : (c : Dev Cert.Kernel22Ideal.nD) → Buf (Elt Ideal) ((c.tc : Thread Cert.Kernel22Ideal.nD Cert.Kernel22Ideal.τ).loc Cert.Kernel22Ideal.main_v0)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0) = v0 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v5) = v0 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)) →
    ∃ (v0 : (c : Dev Cert.Kernel23Ideal.nD) → Buf (Elt Ideal) ((c.tc : Thread Cert.Kernel23Ideal.nD Cert.Kernel23Ideal.τ).loc Cert.Kernel23Ideal.main_v0)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0) = v0 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v4) = v0 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)) →
    ∃ (v0 : (c : Dev Cert.Kernel24Ideal.nD) → Buf (Elt Ideal) ((c.tc : Thread Cert.Kernel24Ideal.nD Cert.Kernel24Ideal.τ).loc Cert.Kernel24Ideal.main_v0)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0) = v0 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v3) = v0 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)) →
    ∃ (v0 : (c : Dev Cert.Kernel25Ideal.nD) → Buf (Elt Ideal) ((c.tc : Thread Cert.Kernel25Ideal.nD Cert.Kernel25Ideal.τ).loc Cert.Kernel25Ideal.main_v0)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0) = v0 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v6) = v0 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)) →
    ∃ (v0 : (c : Dev Cert.Kernel26Ideal.nD) → Buf (Elt Ideal) ((c.tc : Thread Cert.Kernel26Ideal.nD Cert.Kernel26Ideal.τ).loc Cert.Kernel26Ideal.main_v0)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v0) = v0 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v4) = v0 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)) →
    ∃ (v0 : (c : Dev Cert.Kernel27Ideal.nD) → Buf (Elt Ideal) ((c.tc : Thread Cert.Kernel27Ideal.nD Cert.Kernel27Ideal.τ).loc Cert.Kernel27Ideal.main_v0)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v0) = v0 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v2) = v0 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1))

def preserves_Kernel28_Kernel28Ideal : Prop :=
  True

def algebraic_Kernel28Ideal_Reference28Ideal [hKernel28Ideal : Cert.Kernel28Ideal.Facts] [hReference28Ideal : Cert.Reference28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)) →
    ∃ (v0 : (c : Dev Cert.Kernel28Ideal.nD) → Buf (Elt Ideal) ((c.tc : Thread Cert.Kernel28Ideal.nD Cert.Kernel28Ideal.τ).loc Cert.Kernel28Ideal.main_v0)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v0) = v0 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v2) = v0 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1))

def preserves_Kernel29_Kernel29Ideal : Prop :=
  True

def algebraic_Kernel29Ideal_Reference29Ideal [hKernel29Ideal : Cert.Kernel29Ideal.Facts] [hReference29Ideal : Cert.Reference29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg)
    (m' : (ℓ : Loc Cert.Reference29Ideal.nD Cert.Reference29Ideal.τ Cert.Reference29Ideal.sig) → Buf (Elt Ideal) ℓ) (g' : Dev Cert.Reference29Ideal.nD → PrngReg), Pre_Kernel29Ideal m →
    (∀ c : Dev Cert.Kernel29Ideal.nD,
      m' ((c.tc : Thread Cert.Reference29Ideal.nD Cert.Reference29Ideal.τ).loc Cert.Reference29Ideal.main_arg0) = m ((c.tc : Thread Cert.Kernel29Ideal.nD Cert.Kernel29Ideal.τ).loc Cert.Kernel29Ideal.main_arg0)
      ∧ m' ((c.tc : Thread Cert.Reference29Ideal.nD Cert.Reference29Ideal.τ).loc Cert.Reference29Ideal.main_arg1) = m ((c.tc : Thread Cert.Kernel29Ideal.nD Cert.Kernel29Ideal.τ).loc Cert.Kernel29Ideal.main_arg1)) →
    ∃ (v0 : (c : Dev Cert.Kernel29Ideal.nD) → Buf (Elt Ideal) ((c.tc : Thread Cert.Kernel29Ideal.nD Cert.Kernel29Ideal.τ).loc Cert.Kernel29Ideal.main_v0)),
      θ_run (Cert.Kernel29Ideal.defs (F := Ideal)) (onTc (τ := Cert.Kernel29Ideal.τ) (Cert.Kernel29Ideal.main (F := Ideal))) ⟨m, fun _ => 0, g⟩ (fun r => ∀ c : Dev Cert.Kernel29Ideal.nD,
          r.2.mem ((c.tc : Thread Cert.Kernel29Ideal.nD Cert.Kernel29Ideal.τ).loc Cert.Kernel29Ideal.main_v0) = v0 c
          ∧ r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
          ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1))
      ∧ θ_run (Cert.Reference29Ideal.defs (F := Ideal)) (onTc (τ := Cert.Reference29Ideal.τ) (Cert.Reference29Ideal.main (F := Ideal))) ⟨m', fun _ => 0, g'⟩ (fun r => ∀ c : Dev Cert.Reference29Ideal.nD,
          r.2.mem ((c.tc : Thread Cert.Reference29Ideal.nD Cert.Reference29Ideal.τ).loc Cert.Reference29Ideal.main_v2) = v0 c
          ∧ r.2.mem ((c.tc : Thread Cert.Reference29Ideal.nD Cert.Reference29Ideal.τ).loc Cert.Reference29Ideal.main_arg0) = m' ((c.tc : Thread Cert.Reference29Ideal.nD Cert.Reference29Ideal.τ).loc Cert.Reference29Ideal.main_arg0)
          ∧ r.2.mem ((c.tc : Thread Cert.Reference29Ideal.nD Cert.Reference29Ideal.τ).loc Cert.Reference29Ideal.main_arg1) = m' ((c.tc : Thread Cert.Reference29Ideal.nD Cert.Reference29Ideal.τ).loc Cert.Reference29Ideal.main_arg1))

def preserves_Kernel30_Kernel30Ideal : Prop :=
  True

def algebraic_Kernel30Ideal_Reference30Ideal [hKernel30Ideal : Cert.Kernel30Ideal.Facts] [hReference30Ideal : Cert.Reference30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg)
    (m' : (ℓ : Loc Cert.Reference30Ideal.nD Cert.Reference30Ideal.τ Cert.Reference30Ideal.sig) → Buf (Elt Ideal) ℓ) (g' : Dev Cert.Reference30Ideal.nD → PrngReg), Pre_Kernel30Ideal m →
    (∀ c : Dev Cert.Kernel30Ideal.nD,
      m' ((c.tc : Thread Cert.Reference30Ideal.nD Cert.Reference30Ideal.τ).loc Cert.Reference30Ideal.main_arg0) = m ((c.tc : Thread Cert.Kernel30Ideal.nD Cert.Kernel30Ideal.τ).loc Cert.Kernel30Ideal.main_arg0)
      ∧ m' ((c.tc : Thread Cert.Reference30Ideal.nD Cert.Reference30Ideal.τ).loc Cert.Reference30Ideal.main_arg1) = m ((c.tc : Thread Cert.Kernel30Ideal.nD Cert.Kernel30Ideal.τ).loc Cert.Kernel30Ideal.main_arg1)
      ∧ m' ((c.tc : Thread Cert.Reference30Ideal.nD Cert.Reference30Ideal.τ).loc Cert.Reference30Ideal.main_arg2) = m ((c.tc : Thread Cert.Kernel30Ideal.nD Cert.Kernel30Ideal.τ).loc Cert.Kernel30Ideal.main_arg2)) →
    ∃ (v0 : (c : Dev Cert.Kernel30Ideal.nD) → Buf (Elt Ideal) ((c.tc : Thread Cert.Kernel30Ideal.nD Cert.Kernel30Ideal.τ).loc Cert.Kernel30Ideal.main_v0)),
      θ_run (Cert.Kernel30Ideal.defs (F := Ideal)) (onTc (τ := Cert.Kernel30Ideal.τ) (Cert.Kernel30Ideal.main (F := Ideal))) ⟨m, fun _ => 0, g⟩ (fun r => ∀ c : Dev Cert.Kernel30Ideal.nD,
          r.2.mem ((c.tc : Thread Cert.Kernel30Ideal.nD Cert.Kernel30Ideal.τ).loc Cert.Kernel30Ideal.main_v0) = v0 c
          ∧ r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
          ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
          ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2))
      ∧ θ_run (Cert.Reference30Ideal.defs (F := Ideal)) (onTc (τ := Cert.Reference30Ideal.τ) (Cert.Reference30Ideal.main (F := Ideal))) ⟨m', fun _ => 0, g'⟩ (fun r => ∀ c : Dev Cert.Reference30Ideal.nD,
          r.2.mem ((c.tc : Thread Cert.Reference30Ideal.nD Cert.Reference30Ideal.τ).loc Cert.Reference30Ideal.main_v3) = v0 c
          ∧ r.2.mem ((c.tc : Thread Cert.Reference30Ideal.nD Cert.Reference30Ideal.τ).loc Cert.Reference30Ideal.main_arg0) = m' ((c.tc : Thread Cert.Reference30Ideal.nD Cert.Reference30Ideal.τ).loc Cert.Reference30Ideal.main_arg0)
          ∧ r.2.mem ((c.tc : Thread Cert.Reference30Ideal.nD Cert.Reference30Ideal.τ).loc Cert.Reference30Ideal.main_arg1) = m' ((c.tc : Thread Cert.Reference30Ideal.nD Cert.Reference30Ideal.τ).loc Cert.Reference30Ideal.main_arg1)
          ∧ r.2.mem ((c.tc : Thread Cert.Reference30Ideal.nD Cert.Reference30Ideal.τ).loc Cert.Reference30Ideal.main_arg2) = m' ((c.tc : Thread Cert.Reference30Ideal.nD Cert.Reference30Ideal.τ).loc Cert.Reference30Ideal.main_arg2))

def preserves_Kernel31_Kernel31Ideal : Prop :=
  True

def algebraic_Kernel31Ideal_Reference31Ideal [hKernel31Ideal : Cert.Kernel31Ideal.Facts] [hReference31Ideal : Cert.Reference31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg)
    (m' : (ℓ : Loc Cert.Reference31Ideal.nD Cert.Reference31Ideal.τ Cert.Reference31Ideal.sig) → Buf (Elt Ideal) ℓ) (g' : Dev Cert.Reference31Ideal.nD → PrngReg), Pre_Kernel31Ideal m →
    (∀ c : Dev Cert.Kernel31Ideal.nD,
      m' ((c.tc : Thread Cert.Reference31Ideal.nD Cert.Reference31Ideal.τ).loc Cert.Reference31Ideal.main_arg0) = m ((c.tc : Thread Cert.Kernel31Ideal.nD Cert.Kernel31Ideal.τ).loc Cert.Kernel31Ideal.main_arg0)
      ∧ m' ((c.tc : Thread Cert.Reference31Ideal.nD Cert.Reference31Ideal.τ).loc Cert.Reference31Ideal.main_arg1) = m ((c.tc : Thread Cert.Kernel31Ideal.nD Cert.Kernel31Ideal.τ).loc Cert.Kernel31Ideal.main_arg1)) →
    ∃ (v0 : (c : Dev Cert.Kernel31Ideal.nD) → Buf (Elt Ideal) ((c.tc : Thread Cert.Kernel31Ideal.nD Cert.Kernel31Ideal.τ).loc Cert.Kernel31Ideal.main_v0)),
      θ_run (Cert.Kernel31Ideal.defs (F := Ideal)) (onTc (τ := Cert.Kernel31Ideal.τ) (Cert.Kernel31Ideal.main (F := Ideal))) ⟨m, fun _ => 0, g⟩ (fun r => ∀ c : Dev Cert.Kernel31Ideal.nD,
          r.2.mem ((c.tc : Thread Cert.Kernel31Ideal.nD Cert.Kernel31Ideal.τ).loc Cert.Kernel31Ideal.main_v0) = v0 c
          ∧ r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
          ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1))
      ∧ θ_run (Cert.Reference31Ideal.defs (F := Ideal)) (onTc (τ := Cert.Reference31Ideal.τ) (Cert.Reference31Ideal.main (F := Ideal))) ⟨m', fun _ => 0, g'⟩ (fun r => ∀ c : Dev Cert.Reference31Ideal.nD,
          r.2.mem ((c.tc : Thread Cert.Reference31Ideal.nD Cert.Reference31Ideal.τ).loc Cert.Reference31Ideal.main_v5) = v0 c
          ∧ r.2.mem ((c.tc : Thread Cert.Reference31Ideal.nD Cert.Reference31Ideal.τ).loc Cert.Reference31Ideal.main_arg0) = m' ((c.tc : Thread Cert.Reference31Ideal.nD Cert.Reference31Ideal.τ).loc Cert.Reference31Ideal.main_arg0)
          ∧ r.2.mem ((c.tc : Thread Cert.Reference31Ideal.nD Cert.Reference31Ideal.τ).loc Cert.Reference31Ideal.main_arg1) = m' ((c.tc : Thread Cert.Reference31Ideal.nD Cert.Reference31Ideal.τ).loc Cert.Reference31Ideal.main_arg1))

def preserves_Kernel32_Kernel32Ideal : Prop :=
  True

def algebraic_Kernel32Ideal_Reference32Ideal [hKernel32Ideal : Cert.Kernel32Ideal.Facts] [hReference32Ideal : Cert.Reference32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg)
    (m' : (ℓ : Loc Cert.Reference32Ideal.nD Cert.Reference32Ideal.τ Cert.Reference32Ideal.sig) → Buf (Elt Ideal) ℓ) (g' : Dev Cert.Reference32Ideal.nD → PrngReg), Pre_Kernel32Ideal m →
    (∀ c : Dev Cert.Kernel32Ideal.nD,
      m' ((c.tc : Thread Cert.Reference32Ideal.nD Cert.Reference32Ideal.τ).loc Cert.Reference32Ideal.main_arg0) = m ((c.tc : Thread Cert.Kernel32Ideal.nD Cert.Kernel32Ideal.τ).loc Cert.Kernel32Ideal.main_arg0)
      ∧ m' ((c.tc : Thread Cert.Reference32Ideal.nD Cert.Reference32Ideal.τ).loc Cert.Reference32Ideal.main_arg1) = m ((c.tc : Thread Cert.Kernel32Ideal.nD Cert.Kernel32Ideal.τ).loc Cert.Kernel32Ideal.main_arg1)) →
    ∃ (v0 : (c : Dev Cert.Kernel32Ideal.nD) → Buf (Elt Ideal) ((c.tc : Thread Cert.Kernel32Ideal.nD Cert.Kernel32Ideal.τ).loc Cert.Kernel32Ideal.main_v0)),
      θ_run (Cert.Kernel32Ideal.defs (F := Ideal)) (onTc (τ := Cert.Kernel32Ideal.τ) (Cert.Kernel32Ideal.main (F := Ideal))) ⟨m, fun _ => 0, g⟩ (fun r => ∀ c : Dev Cert.Kernel32Ideal.nD,
          r.2.mem ((c.tc : Thread Cert.Kernel32Ideal.nD Cert.Kernel32Ideal.τ).loc Cert.Kernel32Ideal.main_v0) = v0 c
          ∧ r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
          ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1))
      ∧ θ_run (Cert.Reference32Ideal.defs (F := Ideal)) (onTc (τ := Cert.Reference32Ideal.τ) (Cert.Reference32Ideal.main (F := Ideal))) ⟨m', fun _ => 0, g'⟩ (fun r => ∀ c : Dev Cert.Reference32Ideal.nD,
          r.2.mem ((c.tc : Thread Cert.Reference32Ideal.nD Cert.Reference32Ideal.τ).loc Cert.Reference32Ideal.main_v3) = v0 c
          ∧ r.2.mem ((c.tc : Thread Cert.Reference32Ideal.nD Cert.Reference32Ideal.τ).loc Cert.Reference32Ideal.main_arg0) = m' ((c.tc : Thread Cert.Reference32Ideal.nD Cert.Reference32Ideal.τ).loc Cert.Reference32Ideal.main_arg0)
          ∧ r.2.mem ((c.tc : Thread Cert.Reference32Ideal.nD Cert.Reference32Ideal.τ).loc Cert.Reference32Ideal.main_arg1) = m' ((c.tc : Thread Cert.Reference32Ideal.nD Cert.Reference32Ideal.τ).loc Cert.Reference32Ideal.main_arg1))

def preserves_Kernel33_Kernel33Ideal : Prop :=
  True

def algebraic_Kernel33Ideal_Reference33Ideal [hKernel33Ideal : Cert.Kernel33Ideal.Facts] [hReference33Ideal : Cert.Reference33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg)
    (m' : (ℓ : Loc Cert.Reference33Ideal.nD Cert.Reference33Ideal.τ Cert.Reference33Ideal.sig) → Buf (Elt Ideal) ℓ) (g' : Dev Cert.Reference33Ideal.nD → PrngReg), Pre_Kernel33Ideal m →
    (∀ c : Dev Cert.Kernel33Ideal.nD,
      m' ((c.tc : Thread Cert.Reference33Ideal.nD Cert.Reference33Ideal.τ).loc Cert.Reference33Ideal.main_arg0) = m ((c.tc : Thread Cert.Kernel33Ideal.nD Cert.Kernel33Ideal.τ).loc Cert.Kernel33Ideal.main_arg0)
      ∧ m' ((c.tc : Thread Cert.Reference33Ideal.nD Cert.Reference33Ideal.τ).loc Cert.Reference33Ideal.main_arg1) = m ((c.tc : Thread Cert.Kernel33Ideal.nD Cert.Kernel33Ideal.τ).loc Cert.Kernel33Ideal.main_arg1)) →
    ∃ (v0 : (c : Dev Cert.Kernel33Ideal.nD) → Buf (Elt Ideal) ((c.tc : Thread Cert.Kernel33Ideal.nD Cert.Kernel33Ideal.τ).loc Cert.Kernel33Ideal.main_v0)),
      θ_run (Cert.Kernel33Ideal.defs (F := Ideal)) (onTc (τ := Cert.Kernel33Ideal.τ) (Cert.Kernel33Ideal.main (F := Ideal))) ⟨m, fun _ => 0, g⟩ (fun r => ∀ c : Dev Cert.Kernel33Ideal.nD,
          r.2.mem ((c.tc : Thread Cert.Kernel33Ideal.nD Cert.Kernel33Ideal.τ).loc Cert.Kernel33Ideal.main_v0) = v0 c
          ∧ r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
          ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1))
      ∧ θ_run (Cert.Reference33Ideal.defs (F := Ideal)) (onTc (τ := Cert.Reference33Ideal.τ) (Cert.Reference33Ideal.main (F := Ideal))) ⟨m', fun _ => 0, g'⟩ (fun r => ∀ c : Dev Cert.Reference33Ideal.nD,
          r.2.mem ((c.tc : Thread Cert.Reference33Ideal.nD Cert.Reference33Ideal.τ).loc Cert.Reference33Ideal.main_v6) = v0 c
          ∧ r.2.mem ((c.tc : Thread Cert.Reference33Ideal.nD Cert.Reference33Ideal.τ).loc Cert.Reference33Ideal.main_arg0) = m' ((c.tc : Thread Cert.Reference33Ideal.nD Cert.Reference33Ideal.τ).loc Cert.Reference33Ideal.main_arg0)
          ∧ r.2.mem ((c.tc : Thread Cert.Reference33Ideal.nD Cert.Reference33Ideal.τ).loc Cert.Reference33Ideal.main_arg1) = m' ((c.tc : Thread Cert.Reference33Ideal.nD Cert.Reference33Ideal.τ).loc Cert.Reference33Ideal.main_arg1))

def preserves_Kernel34_Kernel34Ideal : Prop :=
  True

def algebraic_Kernel34Ideal_Reference34Ideal [hKernel34Ideal : Cert.Kernel34Ideal.Facts] [hReference34Ideal : Cert.Reference34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg)
    (m' : (ℓ : Loc Cert.Reference34Ideal.nD Cert.Reference34Ideal.τ Cert.Reference34Ideal.sig) → Buf (Elt Ideal) ℓ) (g' : Dev Cert.Reference34Ideal.nD → PrngReg), Pre_Kernel34Ideal m →
    (∀ c : Dev Cert.Kernel34Ideal.nD,
      m' ((c.tc : Thread Cert.Reference34Ideal.nD Cert.Reference34Ideal.τ).loc Cert.Reference34Ideal.main_arg0) = m ((c.tc : Thread Cert.Kernel34Ideal.nD Cert.Kernel34Ideal.τ).loc Cert.Kernel34Ideal.main_arg0)
      ∧ m' ((c.tc : Thread Cert.Reference34Ideal.nD Cert.Reference34Ideal.τ).loc Cert.Reference34Ideal.main_arg1) = m ((c.tc : Thread Cert.Kernel34Ideal.nD Cert.Kernel34Ideal.τ).loc Cert.Kernel34Ideal.main_arg1)) →
    ∃ (v0 : (c : Dev Cert.Kernel34Ideal.nD) → Buf (Elt Ideal) ((c.tc : Thread Cert.Kernel34Ideal.nD Cert.Kernel34Ideal.τ).loc Cert.Kernel34Ideal.main_v0)),
      θ_run (Cert.Kernel34Ideal.defs (F := Ideal)) (onTc (τ := Cert.Kernel34Ideal.τ) (Cert.Kernel34Ideal.main (F := Ideal))) ⟨m, fun _ => 0, g⟩ (fun r => ∀ c : Dev Cert.Kernel34Ideal.nD,
          r.2.mem ((c.tc : Thread Cert.Kernel34Ideal.nD Cert.Kernel34Ideal.τ).loc Cert.Kernel34Ideal.main_v0) = v0 c
          ∧ r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
          ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1))
      ∧ θ_run (Cert.Reference34Ideal.defs (F := Ideal)) (onTc (τ := Cert.Reference34Ideal.τ) (Cert.Reference34Ideal.main (F := Ideal))) ⟨m', fun _ => 0, g'⟩ (fun r => ∀ c : Dev Cert.Reference34Ideal.nD,
          r.2.mem ((c.tc : Thread Cert.Reference34Ideal.nD Cert.Reference34Ideal.τ).loc Cert.Reference34Ideal.main_v6) = v0 c
          ∧ r.2.mem ((c.tc : Thread Cert.Reference34Ideal.nD Cert.Reference34Ideal.τ).loc Cert.Reference34Ideal.main_arg0) = m' ((c.tc : Thread Cert.Reference34Ideal.nD Cert.Reference34Ideal.τ).loc Cert.Reference34Ideal.main_arg0)
          ∧ r.2.mem ((c.tc : Thread Cert.Reference34Ideal.nD Cert.Reference34Ideal.τ).loc Cert.Reference34Ideal.main_arg1) = m' ((c.tc : Thread Cert.Reference34Ideal.nD Cert.Reference34Ideal.τ).loc Cert.Reference34Ideal.main_arg1))

def preserves_Kernel35_Kernel35Ideal : Prop :=
  True

def algebraic_Kernel35Ideal_Reference35Ideal [hKernel35Ideal : Cert.Kernel35Ideal.Facts] [hReference35Ideal : Cert.Reference35Ideal.Facts] : Prop :=
  ∀ (m : (ℓ : Loc Cert.Kernel35Ideal.nD Cert.Kernel35Ideal.τ Cert.Kernel35Ideal.sig) → Buf (Elt Ideal) ℓ) (g : Dev Cert.Kernel35Ideal.nD → PrngReg)
    (m' : (ℓ : Loc Cert.Reference35Ideal.nD Cert.Reference35Ideal.τ Cert.Reference35Ideal.sig) → Buf (Elt Ideal) ℓ) (g' : Dev Cert.Reference35Ideal.nD → PrngReg), Pre_Kernel35Ideal m →
    (∀ c : Dev Cert.Kernel35Ideal.nD,
      m' ((c.tc : Thread Cert.Reference35Ideal.nD Cert.Reference35Ideal.τ).loc Cert.Reference35Ideal.main_arg0) = m ((c.tc : Thread Cert.Kernel35Ideal.nD Cert.Kernel35Ideal.τ).loc Cert.Kernel35Ideal.main_arg0)
      ∧ m' ((c.tc : Thread Cert.Reference35Ideal.nD Cert.Reference35Ideal.τ).loc Cert.Reference35Ideal.main_arg1) = m ((c.tc : Thread Cert.Kernel35Ideal.nD Cert.Kernel35Ideal.τ).loc Cert.Kernel35Ideal.main_arg1)) →
    ∃ (v0 : (c : Dev Cert.Kernel35Ideal.nD) → Buf (Elt Ideal) ((c.tc : Thread Cert.Kernel35Ideal.nD Cert.Kernel35Ideal.τ).loc Cert.Kernel35Ideal.main_v0)),
      θ_run (Cert.Kernel35Ideal.defs (F := Ideal)) (onTc (τ := Cert.Kernel35Ideal.τ) (Cert.Kernel35Ideal.main (F := Ideal))) ⟨m, fun _ => 0, g⟩ (fun r => ∀ c : Dev Cert.Kernel35Ideal.nD,
          r.2.mem ((c.tc : Thread Cert.Kernel35Ideal.nD Cert.Kernel35Ideal.τ).loc Cert.Kernel35Ideal.main_v0) = v0 c
          ∧ r.2.mem ((c.tc : Thread Cert.Kernel35Ideal.nD Cert.Kernel35Ideal.τ).loc Cert.Kernel35Ideal.main_arg0) = m ((c.tc : Thread Cert.Kernel35Ideal.nD Cert.Kernel35Ideal.τ).loc Cert.Kernel35Ideal.main_arg0)
          ∧ r.2.mem ((c.tc : Thread Cert.Kernel35Ideal.nD Cert.Kernel35Ideal.τ).loc Cert.Kernel35Ideal.main_arg1) = m ((c.tc : Thread Cert.Kernel35Ideal.nD Cert.Kernel35Ideal.τ).loc Cert.Kernel35Ideal.main_arg1))
      ∧ θ_run (Cert.Reference35Ideal.defs (F := Ideal)) (onTc (τ := Cert.Reference35Ideal.τ) (Cert.Reference35Ideal.main (F := Ideal))) ⟨m', fun _ => 0, g'⟩ (fun r => ∀ c : Dev Cert.Reference35Ideal.nD,
          r.2.mem ((c.tc : Thread Cert.Reference35Ideal.nD Cert.Reference35Ideal.τ).loc Cert.Reference35Ideal.main_v5) = v0 c
          ∧ r.2.mem ((c.tc : Thread Cert.Reference35Ideal.nD Cert.Reference35Ideal.τ).loc Cert.Reference35Ideal.main_arg0) = m' ((c.tc : Thread Cert.Reference35Ideal.nD Cert.Reference35Ideal.τ).loc Cert.Reference35Ideal.main_arg0)
          ∧ r.2.mem ((c.tc : Thread Cert.Reference35Ideal.nD Cert.Reference35Ideal.τ).loc Cert.Reference35Ideal.main_arg1) = m' ((c.tc : Thread Cert.Reference35Ideal.nD Cert.Reference35Ideal.τ).loc Cert.Reference35Ideal.main_arg1))

def preserves_Kernel36_Kernel36Ideal : Prop :=
  True

def algebraic_Kernel36Ideal_Reference36Ideal [hKernel36Ideal : Cert.Kernel36Ideal.Facts] [hReference36Ideal : Cert.Reference36Ideal.Facts] : Prop :=
  ∀ (m : (ℓ : Loc Cert.Kernel36Ideal.nD Cert.Kernel36Ideal.τ Cert.Kernel36Ideal.sig) → Buf (Elt Ideal) ℓ) (g : Dev Cert.Kernel36Ideal.nD → PrngReg)
    (m' : (ℓ : Loc Cert.Reference36Ideal.nD Cert.Reference36Ideal.τ Cert.Reference36Ideal.sig) → Buf (Elt Ideal) ℓ) (g' : Dev Cert.Reference36Ideal.nD → PrngReg), Pre_Kernel36Ideal m →
    (∀ c : Dev Cert.Kernel36Ideal.nD,
      m' ((c.tc : Thread Cert.Reference36Ideal.nD Cert.Reference36Ideal.τ).loc Cert.Reference36Ideal.main_arg0) = m ((c.tc : Thread Cert.Kernel36Ideal.nD Cert.Kernel36Ideal.τ).loc Cert.Kernel36Ideal.main_arg0)
      ∧ m' ((c.tc : Thread Cert.Reference36Ideal.nD Cert.Reference36Ideal.τ).loc Cert.Reference36Ideal.main_arg1) = m ((c.tc : Thread Cert.Kernel36Ideal.nD Cert.Kernel36Ideal.τ).loc Cert.Kernel36Ideal.main_arg1)) →
    ∃ (v0 : (c : Dev Cert.Kernel36Ideal.nD) → Buf (Elt Ideal) ((c.tc : Thread Cert.Kernel36Ideal.nD Cert.Kernel36Ideal.τ).loc Cert.Kernel36Ideal.main_v0)),
      θ_run (Cert.Kernel36Ideal.defs (F := Ideal)) (onTc (τ := Cert.Kernel36Ideal.τ) (Cert.Kernel36Ideal.main (F := Ideal))) ⟨m, fun _ => 0, g⟩ (fun r => ∀ c : Dev Cert.Kernel36Ideal.nD,
          r.2.mem ((c.tc : Thread Cert.Kernel36Ideal.nD Cert.Kernel36Ideal.τ).loc Cert.Kernel36Ideal.main_v0) = v0 c
          ∧ r.2.mem ((c.tc : Thread Cert.Kernel36Ideal.nD Cert.Kernel36Ideal.τ).loc Cert.Kernel36Ideal.main_arg0) = m ((c.tc : Thread Cert.Kernel36Ideal.nD Cert.Kernel36Ideal.τ).loc Cert.Kernel36Ideal.main_arg0)
          ∧ r.2.mem ((c.tc : Thread Cert.Kernel36Ideal.nD Cert.Kernel36Ideal.τ).loc Cert.Kernel36Ideal.main_arg1) = m ((c.tc : Thread Cert.Kernel36Ideal.nD Cert.Kernel36Ideal.τ).loc Cert.Kernel36Ideal.main_arg1))
      ∧ θ_run (Cert.Reference36Ideal.defs (F := Ideal)) (onTc (τ := Cert.Reference36Ideal.τ) (Cert.Reference36Ideal.main (F := Ideal))) ⟨m', fun _ => 0, g'⟩ (fun r => ∀ c : Dev Cert.Reference36Ideal.nD,
          r.2.mem ((c.tc : Thread Cert.Reference36Ideal.nD Cert.Reference36Ideal.τ).loc Cert.Reference36Ideal.main_v4) = v0 c
          ∧ r.2.mem ((c.tc : Thread Cert.Reference36Ideal.nD Cert.Reference36Ideal.τ).loc Cert.Reference36Ideal.main_arg0) = m' ((c.tc : Thread Cert.Reference36Ideal.nD Cert.Reference36Ideal.τ).loc Cert.Reference36Ideal.main_arg0)
          ∧ r.2.mem ((c.tc : Thread Cert.Reference36Ideal.nD Cert.Reference36Ideal.τ).loc Cert.Reference36Ideal.main_arg1) = m' ((c.tc : Thread Cert.Reference36Ideal.nD Cert.Reference36Ideal.τ).loc Cert.Reference36Ideal.main_arg1))

def preserves_Kernel37_Kernel37Ideal : Prop :=
  True

def algebraic_Kernel37Ideal_Reference37Ideal [hKernel37Ideal : Cert.Kernel37Ideal.Facts] [hReference37Ideal : Cert.Reference37Ideal.Facts] : Prop :=
  ∀ (m : (ℓ : Loc Cert.Kernel37Ideal.nD Cert.Kernel37Ideal.τ Cert.Kernel37Ideal.sig) → Buf (Elt Ideal) ℓ) (g : Dev Cert.Kernel37Ideal.nD → PrngReg)
    (m' : (ℓ : Loc Cert.Reference37Ideal.nD Cert.Reference37Ideal.τ Cert.Reference37Ideal.sig) → Buf (Elt Ideal) ℓ) (g' : Dev Cert.Reference37Ideal.nD → PrngReg), Pre_Kernel37Ideal m →
    (∀ c : Dev Cert.Kernel37Ideal.nD,
      m' ((c.tc : Thread Cert.Reference37Ideal.nD Cert.Reference37Ideal.τ).loc Cert.Reference37Ideal.main_arg0) = m ((c.tc : Thread Cert.Kernel37Ideal.nD Cert.Kernel37Ideal.τ).loc Cert.Kernel37Ideal.main_arg0)
      ∧ m' ((c.tc : Thread Cert.Reference37Ideal.nD Cert.Reference37Ideal.τ).loc Cert.Reference37Ideal.main_arg1) = m ((c.tc : Thread Cert.Kernel37Ideal.nD Cert.Kernel37Ideal.τ).loc Cert.Kernel37Ideal.main_arg1)
      ∧ m' ((c.tc : Thread Cert.Reference37Ideal.nD Cert.Reference37Ideal.τ).loc Cert.Reference37Ideal.main_arg2) = m ((c.tc : Thread Cert.Kernel37Ideal.nD Cert.Kernel37Ideal.τ).loc Cert.Kernel37Ideal.main_arg2)) →
    ∃ (v0 : (c : Dev Cert.Kernel37Ideal.nD) → Buf (Elt Ideal) ((c.tc : Thread Cert.Kernel37Ideal.nD Cert.Kernel37Ideal.τ).loc Cert.Kernel37Ideal.main_v0)),
      θ_run (Cert.Kernel37Ideal.defs (F := Ideal)) (onTc (τ := Cert.Kernel37Ideal.τ) (Cert.Kernel37Ideal.main (F := Ideal))) ⟨m, fun _ => 0, g⟩ (fun r => ∀ c : Dev Cert.Kernel37Ideal.nD,
          r.2.mem ((c.tc : Thread Cert.Kernel37Ideal.nD Cert.Kernel37Ideal.τ).loc Cert.Kernel37Ideal.main_v0) = v0 c
          ∧ r.2.mem ((c.tc : Thread Cert.Kernel37Ideal.nD Cert.Kernel37Ideal.τ).loc Cert.Kernel37Ideal.main_arg0) = m ((c.tc : Thread Cert.Kernel37Ideal.nD Cert.Kernel37Ideal.τ).loc Cert.Kernel37Ideal.main_arg0)
          ∧ r.2.mem ((c.tc : Thread Cert.Kernel37Ideal.nD Cert.Kernel37Ideal.τ).loc Cert.Kernel37Ideal.main_arg1) = m ((c.tc : Thread Cert.Kernel37Ideal.nD Cert.Kernel37Ideal.τ).loc Cert.Kernel37Ideal.main_arg1)
          ∧ r.2.mem ((c.tc : Thread Cert.Kernel37Ideal.nD Cert.Kernel37Ideal.τ).loc Cert.Kernel37Ideal.main_arg2) = m ((c.tc : Thread Cert.Kernel37Ideal.nD Cert.Kernel37Ideal.τ).loc Cert.Kernel37Ideal.main_arg2))
      ∧ θ_run (Cert.Reference37Ideal.defs (F := Ideal)) (onTc (τ := Cert.Reference37Ideal.τ) (Cert.Reference37Ideal.main (F := Ideal))) ⟨m', fun _ => 0, g'⟩ (fun r => ∀ c : Dev Cert.Reference37Ideal.nD,
          r.2.mem ((c.tc : Thread Cert.Reference37Ideal.nD Cert.Reference37Ideal.τ).loc Cert.Reference37Ideal.main_v5) = v0 c
          ∧ r.2.mem ((c.tc : Thread Cert.Reference37Ideal.nD Cert.Reference37Ideal.τ).loc Cert.Reference37Ideal.main_arg0) = m' ((c.tc : Thread Cert.Reference37Ideal.nD Cert.Reference37Ideal.τ).loc Cert.Reference37Ideal.main_arg0)
          ∧ r.2.mem ((c.tc : Thread Cert.Reference37Ideal.nD Cert.Reference37Ideal.τ).loc Cert.Reference37Ideal.main_arg1) = m' ((c.tc : Thread Cert.Reference37Ideal.nD Cert.Reference37Ideal.τ).loc Cert.Reference37Ideal.main_arg1)
          ∧ r.2.mem ((c.tc : Thread Cert.Reference37Ideal.nD Cert.Reference37Ideal.τ).loc Cert.Reference37Ideal.main_arg2) = m' ((c.tc : Thread Cert.Reference37Ideal.nD Cert.Reference37Ideal.τ).loc Cert.Reference37Ideal.main_arg2))

def preserves_Kernel38_Kernel38Ideal : Prop :=
  True

def algebraic_Kernel38Ideal_Reference38Ideal [hKernel38Ideal : Cert.Kernel38Ideal.Facts] [hReference38Ideal : Cert.Reference38Ideal.Facts] : Prop :=
  ∀ (m : (ℓ : Loc Cert.Kernel38Ideal.nD Cert.Kernel38Ideal.τ Cert.Kernel38Ideal.sig) → Buf (Elt Ideal) ℓ) (g : Dev Cert.Kernel38Ideal.nD → PrngReg)
    (m' : (ℓ : Loc Cert.Reference38Ideal.nD Cert.Reference38Ideal.τ Cert.Reference38Ideal.sig) → Buf (Elt Ideal) ℓ) (g' : Dev Cert.Reference38Ideal.nD → PrngReg), Pre_Kernel38Ideal m →
    (∀ c : Dev Cert.Kernel38Ideal.nD,
      m' ((c.tc : Thread Cert.Reference38Ideal.nD Cert.Reference38Ideal.τ).loc Cert.Reference38Ideal.main_arg0) = m ((c.tc : Thread Cert.Kernel38Ideal.nD Cert.Kernel38Ideal.τ).loc Cert.Kernel38Ideal.main_arg0)
      ∧ m' ((c.tc : Thread Cert.Reference38Ideal.nD Cert.Reference38Ideal.τ).loc Cert.Reference38Ideal.main_arg1) = m ((c.tc : Thread Cert.Kernel38Ideal.nD Cert.Kernel38Ideal.τ).loc Cert.Kernel38Ideal.main_arg1)
      ∧ m' ((c.tc : Thread Cert.Reference38Ideal.nD Cert.Reference38Ideal.τ).loc Cert.Reference38Ideal.main_arg2) = m ((c.tc : Thread Cert.Kernel38Ideal.nD Cert.Kernel38Ideal.τ).loc Cert.Kernel38Ideal.main_arg2)) →
    ∃ (v0 : (c : Dev Cert.Kernel38Ideal.nD) → Buf (Elt Ideal) ((c.tc : Thread Cert.Kernel38Ideal.nD Cert.Kernel38Ideal.τ).loc Cert.Kernel38Ideal.main_v0)),
      θ_run (Cert.Kernel38Ideal.defs (F := Ideal)) (onTc (τ := Cert.Kernel38Ideal.τ) (Cert.Kernel38Ideal.main (F := Ideal))) ⟨m, fun _ => 0, g⟩ (fun r => ∀ c : Dev Cert.Kernel38Ideal.nD,
          r.2.mem ((c.tc : Thread Cert.Kernel38Ideal.nD Cert.Kernel38Ideal.τ).loc Cert.Kernel38Ideal.main_v0) = v0 c
          ∧ r.2.mem ((c.tc : Thread Cert.Kernel38Ideal.nD Cert.Kernel38Ideal.τ).loc Cert.Kernel38Ideal.main_arg0) = m ((c.tc : Thread Cert.Kernel38Ideal.nD Cert.Kernel38Ideal.τ).loc Cert.Kernel38Ideal.main_arg0)
          ∧ r.2.mem ((c.tc : Thread Cert.Kernel38Ideal.nD Cert.Kernel38Ideal.τ).loc Cert.Kernel38Ideal.main_arg1) = m ((c.tc : Thread Cert.Kernel38Ideal.nD Cert.Kernel38Ideal.τ).loc Cert.Kernel38Ideal.main_arg1)
          ∧ r.2.mem ((c.tc : Thread Cert.Kernel38Ideal.nD Cert.Kernel38Ideal.τ).loc Cert.Kernel38Ideal.main_arg2) = m ((c.tc : Thread Cert.Kernel38Ideal.nD Cert.Kernel38Ideal.τ).loc Cert.Kernel38Ideal.main_arg2))
      ∧ θ_run (Cert.Reference38Ideal.defs (F := Ideal)) (onTc (τ := Cert.Reference38Ideal.τ) (Cert.Reference38Ideal.main (F := Ideal))) ⟨m', fun _ => 0, g'⟩ (fun r => ∀ c : Dev Cert.Reference38Ideal.nD,
          r.2.mem ((c.tc : Thread Cert.Reference38Ideal.nD Cert.Reference38Ideal.τ).loc Cert.Reference38Ideal.main_v4) = v0 c
          ∧ r.2.mem ((c.tc : Thread Cert.Reference38Ideal.nD Cert.Reference38Ideal.τ).loc Cert.Reference38Ideal.main_arg0) = m' ((c.tc : Thread Cert.Reference38Ideal.nD Cert.Reference38Ideal.τ).loc Cert.Reference38Ideal.main_arg0)
          ∧ r.2.mem ((c.tc : Thread Cert.Reference38Ideal.nD Cert.Reference38Ideal.τ).loc Cert.Reference38Ideal.main_arg1) = m' ((c.tc : Thread Cert.Reference38Ideal.nD Cert.Reference38Ideal.τ).loc Cert.Reference38Ideal.main_arg1)
          ∧ r.2.mem ((c.tc : Thread Cert.Reference38Ideal.nD Cert.Reference38Ideal.τ).loc Cert.Reference38Ideal.main_arg2) = m' ((c.tc : Thread Cert.Reference38Ideal.nD Cert.Reference38Ideal.τ).loc Cert.Reference38Ideal.main_arg2))

def preserves_Kernel39_Kernel39Ideal : Prop :=
  True

def algebraic_Kernel39Ideal_Reference39Ideal_pre_finite_gate [hKernel39Ideal : Cert.Kernel39Ideal.Facts] [hReference39Ideal : Cert.Reference39Ideal.Facts] [hPre_finite_gate : Cert.Pre_finite_gate.Facts] : Prop :=
  ∀ (m : (ℓ : Loc Cert.Kernel39Ideal.nD Cert.Kernel39Ideal.τ Cert.Kernel39Ideal.sig) → Buf (Elt Ideal) ℓ) (g : Dev Cert.Kernel39Ideal.nD → PrngReg)
    (m' : (ℓ : Loc Cert.Reference39Ideal.nD Cert.Reference39Ideal.τ Cert.Reference39Ideal.sig) → Buf (Elt Ideal) ℓ) (g' : Dev Cert.Reference39Ideal.nD → PrngReg), Pre_Kernel39Ideal_finite_gate m →
    (∀ c : Dev Cert.Kernel39Ideal.nD,
      m' ((c.tc : Thread Cert.Reference39Ideal.nD Cert.Reference39Ideal.τ).loc Cert.Reference39Ideal.main_arg0) = m ((c.tc : Thread Cert.Kernel39Ideal.nD Cert.Kernel39Ideal.τ).loc Cert.Kernel39Ideal.main_arg0)
      ∧ m' ((c.tc : Thread Cert.Reference39Ideal.nD Cert.Reference39Ideal.τ).loc Cert.Reference39Ideal.main_arg1) = m ((c.tc : Thread Cert.Kernel39Ideal.nD Cert.Kernel39Ideal.τ).loc Cert.Kernel39Ideal.main_arg1)
      ∧ m' ((c.tc : Thread Cert.Reference39Ideal.nD Cert.Reference39Ideal.τ).loc Cert.Reference39Ideal.main_arg2) = m ((c.tc : Thread Cert.Kernel39Ideal.nD Cert.Kernel39Ideal.τ).loc Cert.Kernel39Ideal.main_arg2)
      ∧ m' ((c.tc : Thread Cert.Reference39Ideal.nD Cert.Reference39Ideal.τ).loc Cert.Reference39Ideal.main_arg3) = m ((c.tc : Thread Cert.Kernel39Ideal.nD Cert.Kernel39Ideal.τ).loc Cert.Kernel39Ideal.main_arg3)
      ∧ m' ((c.tc : Thread Cert.Reference39Ideal.nD Cert.Reference39Ideal.τ).loc Cert.Reference39Ideal.main_arg4) = m ((c.tc : Thread Cert.Kernel39Ideal.nD Cert.Kernel39Ideal.τ).loc Cert.Kernel39Ideal.main_arg4)
      ∧ m' ((c.tc : Thread Cert.Reference39Ideal.nD Cert.Reference39Ideal.τ).loc Cert.Reference39Ideal.main_arg5) = m ((c.tc : Thread Cert.Kernel39Ideal.nD Cert.Kernel39Ideal.τ).loc Cert.Kernel39Ideal.main_arg5)
      ∧ m' ((c.tc : Thread Cert.Reference39Ideal.nD Cert.Reference39Ideal.τ).loc Cert.Reference39Ideal.main_arg6) = m ((c.tc : Thread Cert.Kernel39Ideal.nD Cert.Kernel39Ideal.τ).loc Cert.Kernel39Ideal.main_arg6)
      ∧ m' ((c.tc : Thread Cert.Reference39Ideal.nD Cert.Reference39Ideal.τ).loc Cert.Reference39Ideal.main_arg7) = m ((c.tc : Thread Cert.Kernel39Ideal.nD Cert.Kernel39Ideal.τ).loc Cert.Kernel39Ideal.main_arg7)
      ∧ m' ((c.tc : Thread Cert.Reference39Ideal.nD Cert.Reference39Ideal.τ).loc Cert.Reference39Ideal.main_arg8) = m ((c.tc : Thread Cert.Kernel39Ideal.nD Cert.Kernel39Ideal.τ).loc Cert.Kernel39Ideal.main_arg8)
      ∧ m' ((c.tc : Thread Cert.Reference39Ideal.nD Cert.Reference39Ideal.τ).loc Cert.Reference39Ideal.main_arg9) = m ((c.tc : Thread Cert.Kernel39Ideal.nD Cert.Kernel39Ideal.τ).loc Cert.Kernel39Ideal.main_arg9)
      ∧ m' ((c.tc : Thread Cert.Reference39Ideal.nD Cert.Reference39Ideal.τ).loc Cert.Reference39Ideal.main_arg10) = m ((c.tc : Thread Cert.Kernel39Ideal.nD Cert.Kernel39Ideal.τ).loc Cert.Kernel39Ideal.main_arg10)) →
    ∃ (v0 : (c : Dev Cert.Kernel39Ideal.nD) → Buf (Elt Ideal) ((c.tc : Thread Cert.Kernel39Ideal.nD Cert.Kernel39Ideal.τ).loc Cert.Kernel39Ideal.main_v0_3)) (v1 : (c : Dev Cert.Kernel39Ideal.nD) → Buf (Elt Ideal) ((c.tc : Thread Cert.Kernel39Ideal.nD Cert.Kernel39Ideal.τ).loc Cert.Kernel39Ideal.main_v0_6)) (v2 : (c : Dev Cert.Kernel39Ideal.nD) → Buf (Elt Ideal) ((c.tc : Thread Cert.Kernel39Ideal.nD Cert.Kernel39Ideal.τ).loc Cert.Kernel39Ideal.main_v0_7)),
      θ_run (Cert.Kernel39Ideal.defs (F := Ideal)) (onTc (τ := Cert.Kernel39Ideal.τ) (Cert.Kernel39Ideal.main (F := Ideal))) ⟨m, fun _ => 0, g⟩ (fun r => ∀ c : Dev Cert.Kernel39Ideal.nD,
          r.2.mem ((c.tc : Thread Cert.Kernel39Ideal.nD Cert.Kernel39Ideal.τ).loc Cert.Kernel39Ideal.main_v0_3) = v0 c
          ∧ r.2.mem ((c.tc : Thread Cert.Kernel39Ideal.nD Cert.Kernel39Ideal.τ).loc Cert.Kernel39Ideal.main_v0_6) = v1 c
          ∧ r.2.mem ((c.tc : Thread Cert.Kernel39Ideal.nD Cert.Kernel39Ideal.τ).loc Cert.Kernel39Ideal.main_v0_7) = v2 c
          ∧ r.2.mem ((c.tc : Thread Cert.Kernel39Ideal.nD Cert.Kernel39Ideal.τ).loc Cert.Kernel39Ideal.main_arg0) = m ((c.tc : Thread Cert.Kernel39Ideal.nD Cert.Kernel39Ideal.τ).loc Cert.Kernel39Ideal.main_arg0)
          ∧ r.2.mem ((c.tc : Thread Cert.Kernel39Ideal.nD Cert.Kernel39Ideal.τ).loc Cert.Kernel39Ideal.main_arg1) = m ((c.tc : Thread Cert.Kernel39Ideal.nD Cert.Kernel39Ideal.τ).loc Cert.Kernel39Ideal.main_arg1)
          ∧ r.2.mem ((c.tc : Thread Cert.Kernel39Ideal.nD Cert.Kernel39Ideal.τ).loc Cert.Kernel39Ideal.main_arg2) = m ((c.tc : Thread Cert.Kernel39Ideal.nD Cert.Kernel39Ideal.τ).loc Cert.Kernel39Ideal.main_arg2)
          ∧ r.2.mem ((c.tc : Thread Cert.Kernel39Ideal.nD Cert.Kernel39Ideal.τ).loc Cert.Kernel39Ideal.main_arg3) = m ((c.tc : Thread Cert.Kernel39Ideal.nD Cert.Kernel39Ideal.τ).loc Cert.Kernel39Ideal.main_arg3)
          ∧ r.2.mem ((c.tc : Thread Cert.Kernel39Ideal.nD Cert.Kernel39Ideal.τ).loc Cert.Kernel39Ideal.main_arg4) = m ((c.tc : Thread Cert.Kernel39Ideal.nD Cert.Kernel39Ideal.τ).loc Cert.Kernel39Ideal.main_arg4)
          ∧ r.2.mem ((c.tc : Thread Cert.Kernel39Ideal.nD Cert.Kernel39Ideal.τ).loc Cert.Kernel39Ideal.main_arg5) = m ((c.tc : Thread Cert.Kernel39Ideal.nD Cert.Kernel39Ideal.τ).loc Cert.Kernel39Ideal.main_arg5)
          ∧ r.2.mem ((c.tc : Thread Cert.Kernel39Ideal.nD Cert.Kernel39Ideal.τ).loc Cert.Kernel39Ideal.main_arg6) = m ((c.tc : Thread Cert.Kernel39Ideal.nD Cert.Kernel39Ideal.τ).loc Cert.Kernel39Ideal.main_arg6)
          ∧ r.2.mem ((c.tc : Thread Cert.Kernel39Ideal.nD Cert.Kernel39Ideal.τ).loc Cert.Kernel39Ideal.main_arg7) = m ((c.tc : Thread Cert.Kernel39Ideal.nD Cert.Kernel39Ideal.τ).loc Cert.Kernel39Ideal.main_arg7)
          ∧ r.2.mem ((c.tc : Thread Cert.Kernel39Ideal.nD Cert.Kernel39Ideal.τ).loc Cert.Kernel39Ideal.main_arg8) = m ((c.tc : Thread Cert.Kernel39Ideal.nD Cert.Kernel39Ideal.τ).loc Cert.Kernel39Ideal.main_arg8)
          ∧ r.2.mem ((c.tc : Thread Cert.Kernel39Ideal.nD Cert.Kernel39Ideal.τ).loc Cert.Kernel39Ideal.main_arg9) = m ((c.tc : Thread Cert.Kernel39Ideal.nD Cert.Kernel39Ideal.τ).loc Cert.Kernel39Ideal.main_arg9)
          ∧ r.2.mem ((c.tc : Thread Cert.Kernel39Ideal.nD Cert.Kernel39Ideal.τ).loc Cert.Kernel39Ideal.main_arg10) = m ((c.tc : Thread Cert.Kernel39Ideal.nD Cert.Kernel39Ideal.τ).loc Cert.Kernel39Ideal.main_arg10))
      ∧ θ_run (Cert.Reference39Ideal.defs (F := Ideal)) (onTc (τ := Cert.Reference39Ideal.τ) (Cert.Reference39Ideal.main (F := Ideal))) ⟨m', fun _ => 0, g'⟩ (fun r => ∀ c : Dev Cert.Reference39Ideal.nD,
          r.2.mem ((c.tc : Thread Cert.Reference39Ideal.nD Cert.Reference39Ideal.τ).loc Cert.Reference39Ideal.main_v65) = v0 c
          ∧ r.2.mem ((c.tc : Thread Cert.Reference39Ideal.nD Cert.Reference39Ideal.τ).loc Cert.Reference39Ideal.main_v66) = v1 c
          ∧ r.2.mem ((c.tc : Thread Cert.Reference39Ideal.nD Cert.Reference39Ideal.τ).loc Cert.Reference39Ideal.main_v28) = v2 c
          ∧ r.2.mem ((c.tc : Thread Cert.Reference39Ideal.nD Cert.Reference39Ideal.τ).loc Cert.Reference39Ideal.main_arg0) = m' ((c.tc : Thread Cert.Reference39Ideal.nD Cert.Reference39Ideal.τ).loc Cert.Reference39Ideal.main_arg0)
          ∧ r.2.mem ((c.tc : Thread Cert.Reference39Ideal.nD Cert.Reference39Ideal.τ).loc Cert.Reference39Ideal.main_arg1) = m' ((c.tc : Thread Cert.Reference39Ideal.nD Cert.Reference39Ideal.τ).loc Cert.Reference39Ideal.main_arg1)
          ∧ r.2.mem ((c.tc : Thread Cert.Reference39Ideal.nD Cert.Reference39Ideal.τ).loc Cert.Reference39Ideal.main_arg2) = m' ((c.tc : Thread Cert.Reference39Ideal.nD Cert.Reference39Ideal.τ).loc Cert.Reference39Ideal.main_arg2)
          ∧ r.2.mem ((c.tc : Thread Cert.Reference39Ideal.nD Cert.Reference39Ideal.τ).loc Cert.Reference39Ideal.main_arg3) = m' ((c.tc : Thread Cert.Reference39Ideal.nD Cert.Reference39Ideal.τ).loc Cert.Reference39Ideal.main_arg3)
          ∧ r.2.mem ((c.tc : Thread Cert.Reference39Ideal.nD Cert.Reference39Ideal.τ).loc Cert.Reference39Ideal.main_arg4) = m' ((c.tc : Thread Cert.Reference39Ideal.nD Cert.Reference39Ideal.τ).loc Cert.Reference39Ideal.main_arg4)
          ∧ r.2.mem ((c.tc : Thread Cert.Reference39Ideal.nD Cert.Reference39Ideal.τ).loc Cert.Reference39Ideal.main_arg5) = m' ((c.tc : Thread Cert.Reference39Ideal.nD Cert.Reference39Ideal.τ).loc Cert.Reference39Ideal.main_arg5)
          ∧ r.2.mem ((c.tc : Thread Cert.Reference39Ideal.nD Cert.Reference39Ideal.τ).loc Cert.Reference39Ideal.main_arg6) = m' ((c.tc : Thread Cert.Reference39Ideal.nD Cert.Reference39Ideal.τ).loc Cert.Reference39Ideal.main_arg6)
          ∧ r.2.mem ((c.tc : Thread Cert.Reference39Ideal.nD Cert.Reference39Ideal.τ).loc Cert.Reference39Ideal.main_arg7) = m' ((c.tc : Thread Cert.Reference39Ideal.nD Cert.Reference39Ideal.τ).loc Cert.Reference39Ideal.main_arg7)
          ∧ r.2.mem ((c.tc : Thread Cert.Reference39Ideal.nD Cert.Reference39Ideal.τ).loc Cert.Reference39Ideal.main_arg8) = m' ((c.tc : Thread Cert.Reference39Ideal.nD Cert.Reference39Ideal.τ).loc Cert.Reference39Ideal.main_arg8)
          ∧ r.2.mem ((c.tc : Thread Cert.Reference39Ideal.nD Cert.Reference39Ideal.τ).loc Cert.Reference39Ideal.main_arg9) = m' ((c.tc : Thread Cert.Reference39Ideal.nD Cert.Reference39Ideal.τ).loc Cert.Reference39Ideal.main_arg9)
          ∧ r.2.mem ((c.tc : Thread Cert.Reference39Ideal.nD Cert.Reference39Ideal.τ).loc Cert.Reference39Ideal.main_arg10) = m' ((c.tc : Thread Cert.Reference39Ideal.nD Cert.Reference39Ideal.τ).loc Cert.Reference39Ideal.main_arg10))

def preserves_Kernel40_Kernel40Ideal : Prop :=
  True

def algebraic_Kernel40Ideal_Reference40Ideal_pre_finite_conv [hKernel40Ideal : Cert.Kernel40Ideal.Facts] [hReference40Ideal : Cert.Reference40Ideal.Facts] [hPre_finite_conv : Cert.Pre_finite_conv.Facts] : Prop :=
  ∀ (m : (ℓ : Loc Cert.Kernel40Ideal.nD Cert.Kernel40Ideal.τ Cert.Kernel40Ideal.sig) → Buf (Elt Ideal) ℓ) (g : Dev Cert.Kernel40Ideal.nD → PrngReg)
    (m' : (ℓ : Loc Cert.Reference40Ideal.nD Cert.Reference40Ideal.τ Cert.Reference40Ideal.sig) → Buf (Elt Ideal) ℓ) (g' : Dev Cert.Reference40Ideal.nD → PrngReg), Pre_Kernel40Ideal_finite_conv m →
    (∀ c : Dev Cert.Kernel40Ideal.nD,
      m' ((c.tc : Thread Cert.Reference40Ideal.nD Cert.Reference40Ideal.τ).loc Cert.Reference40Ideal.main_arg0) = m ((c.tc : Thread Cert.Kernel40Ideal.nD Cert.Kernel40Ideal.τ).loc Cert.Kernel40Ideal.main_arg0)
      ∧ m' ((c.tc : Thread Cert.Reference40Ideal.nD Cert.Reference40Ideal.τ).loc Cert.Reference40Ideal.main_arg1) = m ((c.tc : Thread Cert.Kernel40Ideal.nD Cert.Kernel40Ideal.τ).loc Cert.Kernel40Ideal.main_arg1)
      ∧ m' ((c.tc : Thread Cert.Reference40Ideal.nD Cert.Reference40Ideal.τ).loc Cert.Reference40Ideal.main_arg2) = m ((c.tc : Thread Cert.Kernel40Ideal.nD Cert.Kernel40Ideal.τ).loc Cert.Kernel40Ideal.main_arg2)
      ∧ m' ((c.tc : Thread Cert.Reference40Ideal.nD Cert.Reference40Ideal.τ).loc Cert.Reference40Ideal.main_arg3) = m ((c.tc : Thread Cert.Kernel40Ideal.nD Cert.Kernel40Ideal.τ).loc Cert.Kernel40Ideal.main_arg3)
      ∧ m' ((c.tc : Thread Cert.Reference40Ideal.nD Cert.Reference40Ideal.τ).loc Cert.Reference40Ideal.main_arg4) = m ((c.tc : Thread Cert.Kernel40Ideal.nD Cert.Kernel40Ideal.τ).loc Cert.Kernel40Ideal.main_arg4)
      ∧ m' ((c.tc : Thread Cert.Reference40Ideal.nD Cert.Reference40Ideal.τ).loc Cert.Reference40Ideal.main_arg5) = m ((c.tc : Thread Cert.Kernel40Ideal.nD Cert.Kernel40Ideal.τ).loc Cert.Kernel40Ideal.main_arg5)) →
    ∃ (v0 : (c : Dev Cert.Kernel40Ideal.nD) → Buf (Elt Ideal) ((c.tc : Thread Cert.Kernel40Ideal.nD Cert.Kernel40Ideal.τ).loc Cert.Kernel40Ideal.main_v0_0)) (v1 : (c : Dev Cert.Kernel40Ideal.nD) → Buf (Elt Ideal) ((c.tc : Thread Cert.Kernel40Ideal.nD Cert.Kernel40Ideal.τ).loc Cert.Kernel40Ideal.main_v0_1)) (v2 : (c : Dev Cert.Kernel40Ideal.nD) → Buf (Elt Ideal) ((c.tc : Thread Cert.Kernel40Ideal.nD Cert.Kernel40Ideal.τ).loc Cert.Kernel40Ideal.main_v0_2)),
      θ_run (Cert.Kernel40Ideal.defs (F := Ideal)) (onTc (τ := Cert.Kernel40Ideal.τ) (Cert.Kernel40Ideal.main (F := Ideal))) ⟨m, fun _ => 0, g⟩ (fun r => ∀ c : Dev Cert.Kernel40Ideal.nD,
          r.2.mem ((c.tc : Thread Cert.Kernel40Ideal.nD Cert.Kernel40Ideal.τ).loc Cert.Kernel40Ideal.main_v0_0) = v0 c
          ∧ r.2.mem ((c.tc : Thread Cert.Kernel40Ideal.nD Cert.Kernel40Ideal.τ).loc Cert.Kernel40Ideal.main_v0_1) = v1 c
          ∧ r.2.mem ((c.tc : Thread Cert.Kernel40Ideal.nD Cert.Kernel40Ideal.τ).loc Cert.Kernel40Ideal.main_v0_2) = v2 c
          ∧ r.2.mem ((c.tc : Thread Cert.Kernel40Ideal.nD Cert.Kernel40Ideal.τ).loc Cert.Kernel40Ideal.main_arg0) = m ((c.tc : Thread Cert.Kernel40Ideal.nD Cert.Kernel40Ideal.τ).loc Cert.Kernel40Ideal.main_arg0)
          ∧ r.2.mem ((c.tc : Thread Cert.Kernel40Ideal.nD Cert.Kernel40Ideal.τ).loc Cert.Kernel40Ideal.main_arg1) = m ((c.tc : Thread Cert.Kernel40Ideal.nD Cert.Kernel40Ideal.τ).loc Cert.Kernel40Ideal.main_arg1)
          ∧ r.2.mem ((c.tc : Thread Cert.Kernel40Ideal.nD Cert.Kernel40Ideal.τ).loc Cert.Kernel40Ideal.main_arg2) = m ((c.tc : Thread Cert.Kernel40Ideal.nD Cert.Kernel40Ideal.τ).loc Cert.Kernel40Ideal.main_arg2)
          ∧ r.2.mem ((c.tc : Thread Cert.Kernel40Ideal.nD Cert.Kernel40Ideal.τ).loc Cert.Kernel40Ideal.main_arg3) = m ((c.tc : Thread Cert.Kernel40Ideal.nD Cert.Kernel40Ideal.τ).loc Cert.Kernel40Ideal.main_arg3)
          ∧ r.2.mem ((c.tc : Thread Cert.Kernel40Ideal.nD Cert.Kernel40Ideal.τ).loc Cert.Kernel40Ideal.main_arg4) = m ((c.tc : Thread Cert.Kernel40Ideal.nD Cert.Kernel40Ideal.τ).loc Cert.Kernel40Ideal.main_arg4)
          ∧ r.2.mem ((c.tc : Thread Cert.Kernel40Ideal.nD Cert.Kernel40Ideal.τ).loc Cert.Kernel40Ideal.main_arg5) = m ((c.tc : Thread Cert.Kernel40Ideal.nD Cert.Kernel40Ideal.τ).loc Cert.Kernel40Ideal.main_arg5))
      ∧ θ_run (Cert.Reference40Ideal.defs (F := Ideal)) (onTc (τ := Cert.Reference40Ideal.τ) (Cert.Reference40Ideal.main (F := Ideal))) ⟨m', fun _ => 0, g'⟩ (fun r => ∀ c : Dev Cert.Reference40Ideal.nD,
          r.2.mem ((c.tc : Thread Cert.Reference40Ideal.nD Cert.Reference40Ideal.τ).loc Cert.Reference40Ideal.main_v84) = v0 c
          ∧ r.2.mem ((c.tc : Thread Cert.Reference40Ideal.nD Cert.Reference40Ideal.τ).loc Cert.Reference40Ideal.main_v85) = v1 c
          ∧ r.2.mem ((c.tc : Thread Cert.Reference40Ideal.nD Cert.Reference40Ideal.τ).loc Cert.Reference40Ideal.main_v39) = v2 c
          ∧ r.2.mem ((c.tc : Thread Cert.Reference40Ideal.nD Cert.Reference40Ideal.τ).loc Cert.Reference40Ideal.main_arg0) = m' ((c.tc : Thread Cert.Reference40Ideal.nD Cert.Reference40Ideal.τ).loc Cert.Reference40Ideal.main_arg0)
          ∧ r.2.mem ((c.tc : Thread Cert.Reference40Ideal.nD Cert.Reference40Ideal.τ).loc Cert.Reference40Ideal.main_arg1) = m' ((c.tc : Thread Cert.Reference40Ideal.nD Cert.Reference40Ideal.τ).loc Cert.Reference40Ideal.main_arg1)
          ∧ r.2.mem ((c.tc : Thread Cert.Reference40Ideal.nD Cert.Reference40Ideal.τ).loc Cert.Reference40Ideal.main_arg2) = m' ((c.tc : Thread Cert.Reference40Ideal.nD Cert.Reference40Ideal.τ).loc Cert.Reference40Ideal.main_arg2)
          ∧ r.2.mem ((c.tc : Thread Cert.Reference40Ideal.nD Cert.Reference40Ideal.τ).loc Cert.Reference40Ideal.main_arg3) = m' ((c.tc : Thread Cert.Reference40Ideal.nD Cert.Reference40Ideal.τ).loc Cert.Reference40Ideal.main_arg3)
          ∧ r.2.mem ((c.tc : Thread Cert.Reference40Ideal.nD Cert.Reference40Ideal.τ).loc Cert.Reference40Ideal.main_arg4) = m' ((c.tc : Thread Cert.Reference40Ideal.nD Cert.Reference40Ideal.τ).loc Cert.Reference40Ideal.main_arg4)
          ∧ r.2.mem ((c.tc : Thread Cert.Reference40Ideal.nD Cert.Reference40Ideal.τ).loc Cert.Reference40Ideal.main_arg5) = m' ((c.tc : Thread Cert.Reference40Ideal.nD Cert.Reference40Ideal.τ).loc Cert.Reference40Ideal.main_arg5))

def preserves_Kernel41_Kernel41Ideal : Prop :=
  True

def algebraic_Kernel41Ideal_Reference41Ideal_pre_finite_steps [hKernel41Ideal : Cert.Kernel41Ideal.Facts] [hReference41Ideal : Cert.Reference41Ideal.Facts] [hPre_finite_steps : Cert.Pre_finite_steps.Facts] : Prop :=
  ∀ (m : (ℓ : Loc Cert.Kernel41Ideal.nD Cert.Kernel41Ideal.τ Cert.Kernel41Ideal.sig) → Buf (Elt Ideal) ℓ) (g : Dev Cert.Kernel41Ideal.nD → PrngReg)
    (m' : (ℓ : Loc Cert.Reference41Ideal.nD Cert.Reference41Ideal.τ Cert.Reference41Ideal.sig) → Buf (Elt Ideal) ℓ) (g' : Dev Cert.Reference41Ideal.nD → PrngReg), Pre_Kernel41Ideal_finite_steps m →
    (∀ c : Dev Cert.Kernel41Ideal.nD,
      m' ((c.tc : Thread Cert.Reference41Ideal.nD Cert.Reference41Ideal.τ).loc Cert.Reference41Ideal.main_arg0) = m ((c.tc : Thread Cert.Kernel41Ideal.nD Cert.Kernel41Ideal.τ).loc Cert.Kernel41Ideal.main_arg0)
      ∧ m' ((c.tc : Thread Cert.Reference41Ideal.nD Cert.Reference41Ideal.τ).loc Cert.Reference41Ideal.main_arg1) = m ((c.tc : Thread Cert.Kernel41Ideal.nD Cert.Kernel41Ideal.τ).loc Cert.Kernel41Ideal.main_arg1)
      ∧ m' ((c.tc : Thread Cert.Reference41Ideal.nD Cert.Reference41Ideal.τ).loc Cert.Reference41Ideal.main_arg2) = m ((c.tc : Thread Cert.Kernel41Ideal.nD Cert.Kernel41Ideal.τ).loc Cert.Kernel41Ideal.main_arg2)
      ∧ m' ((c.tc : Thread Cert.Reference41Ideal.nD Cert.Reference41Ideal.τ).loc Cert.Reference41Ideal.main_arg3) = m ((c.tc : Thread Cert.Kernel41Ideal.nD Cert.Kernel41Ideal.τ).loc Cert.Kernel41Ideal.main_arg3)
      ∧ m' ((c.tc : Thread Cert.Reference41Ideal.nD Cert.Reference41Ideal.τ).loc Cert.Reference41Ideal.main_arg4) = m ((c.tc : Thread Cert.Kernel41Ideal.nD Cert.Kernel41Ideal.τ).loc Cert.Kernel41Ideal.main_arg4)
      ∧ m' ((c.tc : Thread Cert.Reference41Ideal.nD Cert.Reference41Ideal.τ).loc Cert.Reference41Ideal.main_arg5) = m ((c.tc : Thread Cert.Kernel41Ideal.nD Cert.Kernel41Ideal.τ).loc Cert.Kernel41Ideal.main_arg5)
      ∧ m' ((c.tc : Thread Cert.Reference41Ideal.nD Cert.Reference41Ideal.τ).loc Cert.Reference41Ideal.main_arg6) = m ((c.tc : Thread Cert.Kernel41Ideal.nD Cert.Kernel41Ideal.τ).loc Cert.Kernel41Ideal.main_arg6)) →
    ∃ (v0 : (c : Dev Cert.Kernel41Ideal.nD) → Buf (Elt Ideal) ((c.tc : Thread Cert.Kernel41Ideal.nD Cert.Kernel41Ideal.τ).loc Cert.Kernel41Ideal.main_v0_0)) (v1 : (c : Dev Cert.Kernel41Ideal.nD) → Buf (Elt Ideal) ((c.tc : Thread Cert.Kernel41Ideal.nD Cert.Kernel41Ideal.τ).loc Cert.Kernel41Ideal.main_v0_1)) (v2 : (c : Dev Cert.Kernel41Ideal.nD) → Buf (Elt Ideal) ((c.tc : Thread Cert.Kernel41Ideal.nD Cert.Kernel41Ideal.τ).loc Cert.Kernel41Ideal.main_v0_2)),
      θ_run (Cert.Kernel41Ideal.defs (F := Ideal)) (onTc (τ := Cert.Kernel41Ideal.τ) (Cert.Kernel41Ideal.main (F := Ideal))) ⟨m, fun _ => 0, g⟩ (fun r => ∀ c : Dev Cert.Kernel41Ideal.nD,
          r.2.mem ((c.tc : Thread Cert.Kernel41Ideal.nD Cert.Kernel41Ideal.τ).loc Cert.Kernel41Ideal.main_v0_0) = v0 c
          ∧ r.2.mem ((c.tc : Thread Cert.Kernel41Ideal.nD Cert.Kernel41Ideal.τ).loc Cert.Kernel41Ideal.main_v0_1) = v1 c
          ∧ r.2.mem ((c.tc : Thread Cert.Kernel41Ideal.nD Cert.Kernel41Ideal.τ).loc Cert.Kernel41Ideal.main_v0_2) = v2 c
          ∧ r.2.mem ((c.tc : Thread Cert.Kernel41Ideal.nD Cert.Kernel41Ideal.τ).loc Cert.Kernel41Ideal.main_arg0) = m ((c.tc : Thread Cert.Kernel41Ideal.nD Cert.Kernel41Ideal.τ).loc Cert.Kernel41Ideal.main_arg0)
          ∧ r.2.mem ((c.tc : Thread Cert.Kernel41Ideal.nD Cert.Kernel41Ideal.τ).loc Cert.Kernel41Ideal.main_arg1) = m ((c.tc : Thread Cert.Kernel41Ideal.nD Cert.Kernel41Ideal.τ).loc Cert.Kernel41Ideal.main_arg1)
          ∧ r.2.mem ((c.tc : Thread Cert.Kernel41Ideal.nD Cert.Kernel41Ideal.τ).loc Cert.Kernel41Ideal.main_arg2) = m ((c.tc : Thread Cert.Kernel41Ideal.nD Cert.Kernel41Ideal.τ).loc Cert.Kernel41Ideal.main_arg2)
          ∧ r.2.mem ((c.tc : Thread Cert.Kernel41Ideal.nD Cert.Kernel41Ideal.τ).loc Cert.Kernel41Ideal.main_arg3) = m ((c.tc : Thread Cert.Kernel41Ideal.nD Cert.Kernel41Ideal.τ).loc Cert.Kernel41Ideal.main_arg3)
          ∧ r.2.mem ((c.tc : Thread Cert.Kernel41Ideal.nD Cert.Kernel41Ideal.τ).loc Cert.Kernel41Ideal.main_arg4) = m ((c.tc : Thread Cert.Kernel41Ideal.nD Cert.Kernel41Ideal.τ).loc Cert.Kernel41Ideal.main_arg4)
          ∧ r.2.mem ((c.tc : Thread Cert.Kernel41Ideal.nD Cert.Kernel41Ideal.τ).loc Cert.Kernel41Ideal.main_arg5) = m ((c.tc : Thread Cert.Kernel41Ideal.nD Cert.Kernel41Ideal.τ).loc Cert.Kernel41Ideal.main_arg5)
          ∧ r.2.mem ((c.tc : Thread Cert.Kernel41Ideal.nD Cert.Kernel41Ideal.τ).loc Cert.Kernel41Ideal.main_arg6) = m ((c.tc : Thread Cert.Kernel41Ideal.nD Cert.Kernel41Ideal.τ).loc Cert.Kernel41Ideal.main_arg6))
      ∧ θ_run (Cert.Reference41Ideal.defs (F := Ideal)) (onTc (τ := Cert.Reference41Ideal.τ) (Cert.Reference41Ideal.main (F := Ideal))) ⟨m', fun _ => 0, g'⟩ (fun r => ∀ c : Dev Cert.Reference41Ideal.nD,
          r.2.mem ((c.tc : Thread Cert.Reference41Ideal.nD Cert.Reference41Ideal.τ).loc Cert.Reference41Ideal.main_v25) = v0 c
          ∧ r.2.mem ((c.tc : Thread Cert.Reference41Ideal.nD Cert.Reference41Ideal.τ).loc Cert.Reference41Ideal.main_v24) = v1 c
          ∧ r.2.mem ((c.tc : Thread Cert.Reference41Ideal.nD Cert.Reference41Ideal.τ).loc Cert.Reference41Ideal.main_v27) = v2 c
          ∧ r.2.mem ((c.tc : Thread Cert.Reference41Ideal.nD Cert.Reference41Ideal.τ).loc Cert.Reference41Ideal.main_arg0) = m' ((c.tc : Thread Cert.Reference41Ideal.nD Cert.Reference41Ideal.τ).loc Cert.Reference41Ideal.main_arg0)
          ∧ r.2.mem ((c.tc : Thread Cert.Reference41Ideal.nD Cert.Reference41Ideal.τ).loc Cert.Reference41Ideal.main_arg1) = m' ((c.tc : Thread Cert.Reference41Ideal.nD Cert.Reference41Ideal.τ).loc Cert.Reference41Ideal.main_arg1)
          ∧ r.2.mem ((c.tc : Thread Cert.Reference41Ideal.nD Cert.Reference41Ideal.τ).loc Cert.Reference41Ideal.main_arg2) = m' ((c.tc : Thread Cert.Reference41Ideal.nD Cert.Reference41Ideal.τ).loc Cert.Reference41Ideal.main_arg2)
          ∧ r.2.mem ((c.tc : Thread Cert.Reference41Ideal.nD Cert.Reference41Ideal.τ).loc Cert.Reference41Ideal.main_arg3) = m' ((c.tc : Thread Cert.Reference41Ideal.nD Cert.Reference41Ideal.τ).loc Cert.Reference41Ideal.main_arg3)
          ∧ r.2.mem ((c.tc : Thread Cert.Reference41Ideal.nD Cert.Reference41Ideal.τ).loc Cert.Reference41Ideal.main_arg4) = m' ((c.tc : Thread Cert.Reference41Ideal.nD Cert.Reference41Ideal.τ).loc Cert.Reference41Ideal.main_arg4)
          ∧ r.2.mem ((c.tc : Thread Cert.Reference41Ideal.nD Cert.Reference41Ideal.τ).loc Cert.Reference41Ideal.main_arg5) = m' ((c.tc : Thread Cert.Reference41Ideal.nD Cert.Reference41Ideal.τ).loc Cert.Reference41Ideal.main_arg5)
          ∧ r.2.mem ((c.tc : Thread Cert.Reference41Ideal.nD Cert.Reference41Ideal.τ).loc Cert.Reference41Ideal.main_arg6) = m' ((c.tc : Thread Cert.Reference41Ideal.nD Cert.Reference41Ideal.τ).loc Cert.Reference41Ideal.main_arg6))

def preserves_Kernel42_Kernel42Ideal : Prop :=
  True

def algebraic_Kernel42Ideal_Reference42Ideal [hKernel42Ideal : Cert.Kernel42Ideal.Facts] [hReference42Ideal : Cert.Reference42Ideal.Facts] : Prop :=
  ∀ (m : (ℓ : Loc Cert.Kernel42Ideal.nD Cert.Kernel42Ideal.τ Cert.Kernel42Ideal.sig) → Buf (Elt Ideal) ℓ) (g : Dev Cert.Kernel42Ideal.nD → PrngReg)
    (m' : (ℓ : Loc Cert.Reference42Ideal.nD Cert.Reference42Ideal.τ Cert.Reference42Ideal.sig) → Buf (Elt Ideal) ℓ) (g' : Dev Cert.Reference42Ideal.nD → PrngReg), Pre_Kernel42Ideal m →
    (∀ c : Dev Cert.Kernel42Ideal.nD,
      m' ((c.tc : Thread Cert.Reference42Ideal.nD Cert.Reference42Ideal.τ).loc Cert.Reference42Ideal.main_arg0) = m ((c.tc : Thread Cert.Kernel42Ideal.nD Cert.Kernel42Ideal.τ).loc Cert.Kernel42Ideal.main_arg0)
      ∧ m' ((c.tc : Thread Cert.Reference42Ideal.nD Cert.Reference42Ideal.τ).loc Cert.Reference42Ideal.main_arg1) = m ((c.tc : Thread Cert.Kernel42Ideal.nD Cert.Kernel42Ideal.τ).loc Cert.Kernel42Ideal.main_arg1)) →
    ∃ (v0 : (c : Dev Cert.Kernel42Ideal.nD) → Buf (Elt Ideal) ((c.tc : Thread Cert.Kernel42Ideal.nD Cert.Kernel42Ideal.τ).loc Cert.Kernel42Ideal.main_v0)),
      θ_run (Cert.Kernel42Ideal.defs (F := Ideal)) (onTc (τ := Cert.Kernel42Ideal.τ) (Cert.Kernel42Ideal.main (F := Ideal))) ⟨m, fun _ => 0, g⟩ (fun r => ∀ c : Dev Cert.Kernel42Ideal.nD,
          r.2.mem ((c.tc : Thread Cert.Kernel42Ideal.nD Cert.Kernel42Ideal.τ).loc Cert.Kernel42Ideal.main_v0) = v0 c
          ∧ r.2.mem ((c.tc : Thread Cert.Kernel42Ideal.nD Cert.Kernel42Ideal.τ).loc Cert.Kernel42Ideal.main_arg0) = m ((c.tc : Thread Cert.Kernel42Ideal.nD Cert.Kernel42Ideal.τ).loc Cert.Kernel42Ideal.main_arg0)
          ∧ r.2.mem ((c.tc : Thread Cert.Kernel42Ideal.nD Cert.Kernel42Ideal.τ).loc Cert.Kernel42Ideal.main_arg1) = m ((c.tc : Thread Cert.Kernel42Ideal.nD Cert.Kernel42Ideal.τ).loc Cert.Kernel42Ideal.main_arg1))
      ∧ θ_run (Cert.Reference42Ideal.defs (F := Ideal)) (onTc (τ := Cert.Reference42Ideal.τ) (Cert.Reference42Ideal.main (F := Ideal))) ⟨m', fun _ => 0, g'⟩ (fun r => ∀ c : Dev Cert.Reference42Ideal.nD,
          r.2.mem ((c.tc : Thread Cert.Reference42Ideal.nD Cert.Reference42Ideal.τ).loc Cert.Reference42Ideal.main_v12) = v0 c
          ∧ r.2.mem ((c.tc : Thread Cert.Reference42Ideal.nD Cert.Reference42Ideal.τ).loc Cert.Reference42Ideal.main_arg0) = m' ((c.tc : Thread Cert.Reference42Ideal.nD Cert.Reference42Ideal.τ).loc Cert.Reference42Ideal.main_arg0)
          ∧ r.2.mem ((c.tc : Thread Cert.Reference42Ideal.nD Cert.Reference42Ideal.τ).loc Cert.Reference42Ideal.main_arg1) = m' ((c.tc : Thread Cert.Reference42Ideal.nD Cert.Reference42Ideal.τ).loc Cert.Reference42Ideal.main_arg1))

def preserves_Kernel43_Kernel43Ideal : Prop :=
  True

def algebraic_Kernel43Ideal_Reference43Ideal [hKernel43Ideal : Cert.Kernel43Ideal.Facts] [hReference43Ideal : Cert.Reference43Ideal.Facts] : Prop :=
  ∀ (m : (ℓ : Loc Cert.Kernel43Ideal.nD Cert.Kernel43Ideal.τ Cert.Kernel43Ideal.sig) → Buf (Elt Ideal) ℓ) (g : Dev Cert.Kernel43Ideal.nD → PrngReg)
    (m' : (ℓ : Loc Cert.Reference43Ideal.nD Cert.Reference43Ideal.τ Cert.Reference43Ideal.sig) → Buf (Elt Ideal) ℓ) (g' : Dev Cert.Reference43Ideal.nD → PrngReg), Pre_Kernel43Ideal m →
    (∀ c : Dev Cert.Kernel43Ideal.nD,
      m' ((c.tc : Thread Cert.Reference43Ideal.nD Cert.Reference43Ideal.τ).loc Cert.Reference43Ideal.main_arg0) = m ((c.tc : Thread Cert.Kernel43Ideal.nD Cert.Kernel43Ideal.τ).loc Cert.Kernel43Ideal.main_arg0)
      ∧ m' ((c.tc : Thread Cert.Reference43Ideal.nD Cert.Reference43Ideal.τ).loc Cert.Reference43Ideal.main_arg1) = m ((c.tc : Thread Cert.Kernel43Ideal.nD Cert.Kernel43Ideal.τ).loc Cert.Kernel43Ideal.main_arg1)) →
    ∃ (v0 : (c : Dev Cert.Kernel43Ideal.nD) → Buf (Elt Ideal) ((c.tc : Thread Cert.Kernel43Ideal.nD Cert.Kernel43Ideal.τ).loc Cert.Kernel43Ideal.main_v0)),
      θ_run (Cert.Kernel43Ideal.defs (F := Ideal)) (onTc (τ := Cert.Kernel43Ideal.τ) (Cert.Kernel43Ideal.main (F := Ideal))) ⟨m, fun _ => 0, g⟩ (fun r => ∀ c : Dev Cert.Kernel43Ideal.nD,
          r.2.mem ((c.tc : Thread Cert.Kernel43Ideal.nD Cert.Kernel43Ideal.τ).loc Cert.Kernel43Ideal.main_v0) = v0 c
          ∧ r.2.mem ((c.tc : Thread Cert.Kernel43Ideal.nD Cert.Kernel43Ideal.τ).loc Cert.Kernel43Ideal.main_arg0) = m ((c.tc : Thread Cert.Kernel43Ideal.nD Cert.Kernel43Ideal.τ).loc Cert.Kernel43Ideal.main_arg0)
          ∧ r.2.mem ((c.tc : Thread Cert.Kernel43Ideal.nD Cert.Kernel43Ideal.τ).loc Cert.Kernel43Ideal.main_arg1) = m ((c.tc : Thread Cert.Kernel43Ideal.nD Cert.Kernel43Ideal.τ).loc Cert.Kernel43Ideal.main_arg1))
      ∧ θ_run (Cert.Reference43Ideal.defs (F := Ideal)) (onTc (τ := Cert.Reference43Ideal.τ) (Cert.Reference43Ideal.main (F := Ideal))) ⟨m', fun _ => 0, g'⟩ (fun r => ∀ c : Dev Cert.Reference43Ideal.nD,
          r.2.mem ((c.tc : Thread Cert.Reference43Ideal.nD Cert.Reference43Ideal.τ).loc Cert.Reference43Ideal.main_v29) = v0 c
          ∧ r.2.mem ((c.tc : Thread Cert.Reference43Ideal.nD Cert.Reference43Ideal.τ).loc Cert.Reference43Ideal.main_arg0) = m' ((c.tc : Thread Cert.Reference43Ideal.nD Cert.Reference43Ideal.τ).loc Cert.Reference43Ideal.main_arg0)
          ∧ r.2.mem ((c.tc : Thread Cert.Reference43Ideal.nD Cert.Reference43Ideal.τ).loc Cert.Reference43Ideal.main_arg1) = m' ((c.tc : Thread Cert.Reference43Ideal.nD Cert.Reference43Ideal.τ).loc Cert.Reference43Ideal.main_arg1))

def preserves_Kernel44_Kernel44Ideal : Prop :=
  True

def algebraic_Kernel44Ideal_Reference44Ideal [hKernel44Ideal : Cert.Kernel44Ideal.Facts] [hReference44Ideal : Cert.Reference44Ideal.Facts] : Prop :=
  ∀ (m : (ℓ : Loc Cert.Kernel44Ideal.nD Cert.Kernel44Ideal.τ Cert.Kernel44Ideal.sig) → Buf (Elt Ideal) ℓ) (g : Dev Cert.Kernel44Ideal.nD → PrngReg)
    (m' : (ℓ : Loc Cert.Reference44Ideal.nD Cert.Reference44Ideal.τ Cert.Reference44Ideal.sig) → Buf (Elt Ideal) ℓ) (g' : Dev Cert.Reference44Ideal.nD → PrngReg), Pre_Kernel44Ideal m →
    (∀ c : Dev Cert.Kernel44Ideal.nD,
      m' ((c.tc : Thread Cert.Reference44Ideal.nD Cert.Reference44Ideal.τ).loc Cert.Reference44Ideal.main_arg0) = m ((c.tc : Thread Cert.Kernel44Ideal.nD Cert.Kernel44Ideal.τ).loc Cert.Kernel44Ideal.main_arg0)
      ∧ m' ((c.tc : Thread Cert.Reference44Ideal.nD Cert.Reference44Ideal.τ).loc Cert.Reference44Ideal.main_arg1) = m ((c.tc : Thread Cert.Kernel44Ideal.nD Cert.Kernel44Ideal.τ).loc Cert.Kernel44Ideal.main_arg1)
      ∧ m' ((c.tc : Thread Cert.Reference44Ideal.nD Cert.Reference44Ideal.τ).loc Cert.Reference44Ideal.main_arg2) = m ((c.tc : Thread Cert.Kernel44Ideal.nD Cert.Kernel44Ideal.τ).loc Cert.Kernel44Ideal.main_arg2)) →
    ∃ (v0 : (c : Dev Cert.Kernel44Ideal.nD) → Buf (Elt Ideal) ((c.tc : Thread Cert.Kernel44Ideal.nD Cert.Kernel44Ideal.τ).loc Cert.Kernel44Ideal.main_v0_0)) (v1 : (c : Dev Cert.Kernel44Ideal.nD) → Buf (Elt Ideal) ((c.tc : Thread Cert.Kernel44Ideal.nD Cert.Kernel44Ideal.τ).loc Cert.Kernel44Ideal.main_v0_1)),
      θ_run (Cert.Kernel44Ideal.defs (F := Ideal)) (onTc (τ := Cert.Kernel44Ideal.τ) (Cert.Kernel44Ideal.main (F := Ideal))) ⟨m, fun _ => 0, g⟩ (fun r => ∀ c : Dev Cert.Kernel44Ideal.nD,
          r.2.mem ((c.tc : Thread Cert.Kernel44Ideal.nD Cert.Kernel44Ideal.τ).loc Cert.Kernel44Ideal.main_v0_0) = v0 c
          ∧ r.2.mem ((c.tc : Thread Cert.Kernel44Ideal.nD Cert.Kernel44Ideal.τ).loc Cert.Kernel44Ideal.main_v0_1) = v1 c
          ∧ r.2.mem ((c.tc : Thread Cert.Kernel44Ideal.nD Cert.Kernel44Ideal.τ).loc Cert.Kernel44Ideal.main_arg0) = m ((c.tc : Thread Cert.Kernel44Ideal.nD Cert.Kernel44Ideal.τ).loc Cert.Kernel44Ideal.main_arg0)
          ∧ r.2.mem ((c.tc : Thread Cert.Kernel44Ideal.nD Cert.Kernel44Ideal.τ).loc Cert.Kernel44Ideal.main_arg1) = m ((c.tc : Thread Cert.Kernel44Ideal.nD Cert.Kernel44Ideal.τ).loc Cert.Kernel44Ideal.main_arg1)
          ∧ r.2.mem ((c.tc : Thread Cert.Kernel44Ideal.nD Cert.Kernel44Ideal.τ).loc Cert.Kernel44Ideal.main_arg2) = m ((c.tc : Thread Cert.Kernel44Ideal.nD Cert.Kernel44Ideal.τ).loc Cert.Kernel44Ideal.main_arg2))
      ∧ θ_run (Cert.Reference44Ideal.defs (F := Ideal)) (onTc (τ := Cert.Reference44Ideal.τ) (Cert.Reference44Ideal.main (F := Ideal))) ⟨m', fun _ => 0, g'⟩ (fun r => ∀ c : Dev Cert.Reference44Ideal.nD,
          r.2.mem ((c.tc : Thread Cert.Reference44Ideal.nD Cert.Reference44Ideal.τ).loc Cert.Reference44Ideal.main_v32) = v0 c
          ∧ r.2.mem ((c.tc : Thread Cert.Reference44Ideal.nD Cert.Reference44Ideal.τ).loc Cert.Reference44Ideal.main_v33) = v1 c
          ∧ r.2.mem ((c.tc : Thread Cert.Reference44Ideal.nD Cert.Reference44Ideal.τ).loc Cert.Reference44Ideal.main_arg0) = m' ((c.tc : Thread Cert.Reference44Ideal.nD Cert.Reference44Ideal.τ).loc Cert.Reference44Ideal.main_arg0)
          ∧ r.2.mem ((c.tc : Thread Cert.Reference44Ideal.nD Cert.Reference44Ideal.τ).loc Cert.Reference44Ideal.main_arg1) = m' ((c.tc : Thread Cert.Reference44Ideal.nD Cert.Reference44Ideal.τ).loc Cert.Reference44Ideal.main_arg1)
          ∧ r.2.mem ((c.tc : Thread Cert.Reference44Ideal.nD Cert.Reference44Ideal.τ).loc Cert.Reference44Ideal.main_arg2) = m' ((c.tc : Thread Cert.Reference44Ideal.nD Cert.Reference44Ideal.τ).loc Cert.Reference44Ideal.main_arg2))

def preserves_Kernel45_Kernel45Ideal : Prop :=
  True

def algebraic_Kernel45Ideal_Reference45Ideal [hKernel45Ideal : Cert.Kernel45Ideal.Facts] [hReference45Ideal : Cert.Reference45Ideal.Facts] : Prop :=
  ∀ (m : (ℓ : Loc Cert.Kernel45Ideal.nD Cert.Kernel45Ideal.τ Cert.Kernel45Ideal.sig) → Buf (Elt Ideal) ℓ) (g : Dev Cert.Kernel45Ideal.nD → PrngReg)
    (m' : (ℓ : Loc Cert.Reference45Ideal.nD Cert.Reference45Ideal.τ Cert.Reference45Ideal.sig) → Buf (Elt Ideal) ℓ) (g' : Dev Cert.Reference45Ideal.nD → PrngReg), Pre_Kernel45Ideal m →
    (∀ c : Dev Cert.Kernel45Ideal.nD,
      m' ((c.tc : Thread Cert.Reference45Ideal.nD Cert.Reference45Ideal.τ).loc Cert.Reference45Ideal.main_arg0) = m ((c.tc : Thread Cert.Kernel45Ideal.nD Cert.Kernel45Ideal.τ).loc Cert.Kernel45Ideal.main_arg0)
      ∧ m' ((c.tc : Thread Cert.Reference45Ideal.nD Cert.Reference45Ideal.τ).loc Cert.Reference45Ideal.main_arg1) = m ((c.tc : Thread Cert.Kernel45Ideal.nD Cert.Kernel45Ideal.τ).loc Cert.Kernel45Ideal.main_arg1)
      ∧ m' ((c.tc : Thread Cert.Reference45Ideal.nD Cert.Reference45Ideal.τ).loc Cert.Reference45Ideal.main_arg2) = m ((c.tc : Thread Cert.Kernel45Ideal.nD Cert.Kernel45Ideal.τ).loc Cert.Kernel45Ideal.main_arg2)) →
    ∃ (v0 : (c : Dev Cert.Kernel45Ideal.nD) → Buf (Elt Ideal) ((c.tc : Thread Cert.Kernel45Ideal.nD Cert.Kernel45Ideal.τ).loc Cert.Kernel45Ideal.main_v0_0)) (v1 : (c : Dev Cert.Kernel45Ideal.nD) → Buf (Elt Ideal) ((c.tc : Thread Cert.Kernel45Ideal.nD Cert.Kernel45Ideal.τ).loc Cert.Kernel45Ideal.main_v0_1)) (v2 : (c : Dev Cert.Kernel45Ideal.nD) → Buf (Elt Ideal) ((c.tc : Thread Cert.Kernel45Ideal.nD Cert.Kernel45Ideal.τ).loc Cert.Kernel45Ideal.main_v0_2)) (v3 : (c : Dev Cert.Kernel45Ideal.nD) → Buf (Elt Ideal) ((c.tc : Thread Cert.Kernel45Ideal.nD Cert.Kernel45Ideal.τ).loc Cert.Kernel45Ideal.main_v0_3)),
      θ_run (Cert.Kernel45Ideal.defs (F := Ideal)) (onTc (τ := Cert.Kernel45Ideal.τ) (Cert.Kernel45Ideal.main (F := Ideal))) ⟨m, fun _ => 0, g⟩ (fun r => ∀ c : Dev Cert.Kernel45Ideal.nD,
          r.2.mem ((c.tc : Thread Cert.Kernel45Ideal.nD Cert.Kernel45Ideal.τ).loc Cert.Kernel45Ideal.main_v0_0) = v0 c
          ∧ r.2.mem ((c.tc : Thread Cert.Kernel45Ideal.nD Cert.Kernel45Ideal.τ).loc Cert.Kernel45Ideal.main_v0_1) = v1 c
          ∧ r.2.mem ((c.tc : Thread Cert.Kernel45Ideal.nD Cert.Kernel45Ideal.τ).loc Cert.Kernel45Ideal.main_v0_2) = v2 c
          ∧ r.2.mem ((c.tc : Thread Cert.Kernel45Ideal.nD Cert.Kernel45Ideal.τ).loc Cert.Kernel45Ideal.main_v0_3) = v3 c
          ∧ r.2.mem ((c.tc : Thread Cert.Kernel45Ideal.nD Cert.Kernel45Ideal.τ).loc Cert.Kernel45Ideal.main_arg0) = m ((c.tc : Thread Cert.Kernel45Ideal.nD Cert.Kernel45Ideal.τ).loc Cert.Kernel45Ideal.main_arg0)
          ∧ r.2.mem ((c.tc : Thread Cert.Kernel45Ideal.nD Cert.Kernel45Ideal.τ).loc Cert.Kernel45Ideal.main_arg1) = m ((c.tc : Thread Cert.Kernel45Ideal.nD Cert.Kernel45Ideal.τ).loc Cert.Kernel45Ideal.main_arg1)
          ∧ r.2.mem ((c.tc : Thread Cert.Kernel45Ideal.nD Cert.Kernel45Ideal.τ).loc Cert.Kernel45Ideal.main_arg2) = m ((c.tc : Thread Cert.Kernel45Ideal.nD Cert.Kernel45Ideal.τ).loc Cert.Kernel45Ideal.main_arg2))
      ∧ θ_run (Cert.Reference45Ideal.defs (F := Ideal)) (onTc (τ := Cert.Reference45Ideal.τ) (Cert.Reference45Ideal.main (F := Ideal))) ⟨m', fun _ => 0, g'⟩ (fun r => ∀ c : Dev Cert.Reference45Ideal.nD,
          r.2.mem ((c.tc : Thread Cert.Reference45Ideal.nD Cert.Reference45Ideal.τ).loc Cert.Reference45Ideal.main_v2) = v0 c
          ∧ r.2.mem ((c.tc : Thread Cert.Reference45Ideal.nD Cert.Reference45Ideal.τ).loc Cert.Reference45Ideal.main_v9) = v1 c
          ∧ r.2.mem ((c.tc : Thread Cert.Reference45Ideal.nD Cert.Reference45Ideal.τ).loc Cert.Reference45Ideal.main_v10) = v2 c
          ∧ r.2.mem ((c.tc : Thread Cert.Reference45Ideal.nD Cert.Reference45Ideal.τ).loc Cert.Reference45Ideal.main_v11) = v3 c
          ∧ r.2.mem ((c.tc : Thread Cert.Reference45Ideal.nD Cert.Reference45Ideal.τ).loc Cert.Reference45Ideal.main_arg0) = m' ((c.tc : Thread Cert.Reference45Ideal.nD Cert.Reference45Ideal.τ).loc Cert.Reference45Ideal.main_arg0)
          ∧ r.2.mem ((c.tc : Thread Cert.Reference45Ideal.nD Cert.Reference45Ideal.τ).loc Cert.Reference45Ideal.main_arg1) = m' ((c.tc : Thread Cert.Reference45Ideal.nD Cert.Reference45Ideal.τ).loc Cert.Reference45Ideal.main_arg1)
          ∧ r.2.mem ((c.tc : Thread Cert.Reference45Ideal.nD Cert.Reference45Ideal.τ).loc Cert.Reference45Ideal.main_arg2) = m' ((c.tc : Thread Cert.Reference45Ideal.nD Cert.Reference45Ideal.τ).loc Cert.Reference45Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hKernel29 : Cert.Kernel29.Facts) (hKernel29Ideal : Cert.Kernel29Ideal.Facts) (hReference29Ideal : Cert.Reference29Ideal.Facts) (hKernel30 : Cert.Kernel30.Facts) (hKernel30Ideal : Cert.Kernel30Ideal.Facts) (hReference30Ideal : Cert.Reference30Ideal.Facts) (hKernel31 : Cert.Kernel31.Facts) (hKernel31Ideal : Cert.Kernel31Ideal.Facts) (hReference31Ideal : Cert.Reference31Ideal.Facts) (hKernel32 : Cert.Kernel32.Facts) (hKernel32Ideal : Cert.Kernel32Ideal.Facts) (hReference32Ideal : Cert.Reference32Ideal.Facts) (hKernel33 : Cert.Kernel33.Facts) (hKernel33Ideal : Cert.Kernel33Ideal.Facts) (hReference33Ideal : Cert.Reference33Ideal.Facts) (hKernel34 : Cert.Kernel34.Facts) (hKernel34Ideal : Cert.Kernel34Ideal.Facts) (hReference34Ideal : Cert.Reference34Ideal.Facts) (hKernel35 : Cert.Kernel35.Facts) (hKernel35Ideal : Cert.Kernel35Ideal.Facts) (hReference35Ideal : Cert.Reference35Ideal.Facts) (hKernel36 : Cert.Kernel36.Facts) (hKernel36Ideal : Cert.Kernel36Ideal.Facts) (hReference36Ideal : Cert.Reference36Ideal.Facts) (hKernel37 : Cert.Kernel37.Facts) (hKernel37Ideal : Cert.Kernel37Ideal.Facts) (hReference37Ideal : Cert.Reference37Ideal.Facts) (hKernel38 : Cert.Kernel38.Facts) (hKernel38Ideal : Cert.Kernel38Ideal.Facts) (hReference38Ideal : Cert.Reference38Ideal.Facts) (hKernel39 : Cert.Kernel39.Facts) (hKernel39Ideal : Cert.Kernel39Ideal.Facts) (hReference39Ideal : Cert.Reference39Ideal.Facts) (hKernel40 : Cert.Kernel40.Facts) (hKernel40Ideal : Cert.Kernel40Ideal.Facts) (hReference40Ideal : Cert.Reference40Ideal.Facts) (hKernel41 : Cert.Kernel41.Facts) (hKernel41Ideal : Cert.Kernel41Ideal.Facts) (hReference41Ideal : Cert.Reference41Ideal.Facts) (hKernel42 : Cert.Kernel42.Facts) (hKernel42Ideal : Cert.Kernel42Ideal.Facts) (hReference42Ideal : Cert.Reference42Ideal.Facts) (hKernel43 : Cert.Kernel43.Facts) (hKernel43Ideal : Cert.Kernel43Ideal.Facts) (hReference43Ideal : Cert.Reference43Ideal.Facts) (hKernel44 : Cert.Kernel44.Facts) (hKernel44Ideal : Cert.Kernel44Ideal.Facts) (hReference44Ideal : Cert.Reference44Ideal.Facts) (hKernel45 : Cert.Kernel45.Facts) (hKernel45Ideal : Cert.Kernel45Ideal.Facts) (hReference45Ideal : Cert.Reference45Ideal.Facts) (hPre_finite : Cert.Pre_finite.Facts) (hPre_finite_gate : Cert.Pre_finite_gate.Facts) (hPre_finite_conv : Cert.Pre_finite_conv.Facts) (hPre_finite_steps : Cert.Pre_finite_steps.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Kernel2Ideal_pre_finite (hKernel2Ideal := hKernel2Ideal) (hPre_finite := hPre_finite)
    ∧ quiescent_Reference2Ideal (hReference2Ideal := hReference2Ideal)
    ∧ quiescent_Reference2Ideal_pre_finite (hReference2Ideal := hReference2Ideal) (hPre_finite := hPre_finite)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel28 (hKernel28 := hKernel28)
    ∧ quiescent_Kernel28Ideal (hKernel28Ideal := hKernel28Ideal)
    ∧ quiescent_Reference28Ideal (hReference28Ideal := hReference28Ideal)
    ∧ quiescent_Kernel29 (hKernel29 := hKernel29)
    ∧ quiescent_Kernel29Ideal (hKernel29Ideal := hKernel29Ideal)
    ∧ quiescent_Reference29Ideal (hReference29Ideal := hReference29Ideal)
    ∧ quiescent_Kernel30 (hKernel30 := hKernel30)
    ∧ quiescent_Kernel30Ideal (hKernel30Ideal := hKernel30Ideal)
    ∧ quiescent_Reference30Ideal (hReference30Ideal := hReference30Ideal)
    ∧ quiescent_Kernel31 (hKernel31 := hKernel31)
    ∧ quiescent_Kernel31Ideal (hKernel31Ideal := hKernel31Ideal)
    ∧ quiescent_Reference31Ideal (hReference31Ideal := hReference31Ideal)
    ∧ quiescent_Kernel32 (hKernel32 := hKernel32)
    ∧ quiescent_Kernel32Ideal (hKernel32Ideal := hKernel32Ideal)
    ∧ quiescent_Reference32Ideal (hReference32Ideal := hReference32Ideal)
    ∧ quiescent_Kernel33 (hKernel33 := hKernel33)
    ∧ quiescent_Kernel33Ideal (hKernel33Ideal := hKernel33Ideal)
    ∧ quiescent_Reference33Ideal (hReference33Ideal := hReference33Ideal)
    ∧ quiescent_Kernel34 (hKernel34 := hKernel34)
    ∧ quiescent_Kernel34Ideal (hKernel34Ideal := hKernel34Ideal)
    ∧ quiescent_Reference34Ideal (hReference34Ideal := hReference34Ideal)
    ∧ quiescent_Kernel35 (hKernel35 := hKernel35)
    ∧ quiescent_Kernel35Ideal (hKernel35Ideal := hKernel35Ideal)
    ∧ quiescent_Reference35Ideal (hReference35Ideal := hReference35Ideal)
    ∧ quiescent_Kernel36 (hKernel36 := hKernel36)
    ∧ quiescent_Kernel36Ideal (hKernel36Ideal := hKernel36Ideal)
    ∧ quiescent_Reference36Ideal (hReference36Ideal := hReference36Ideal)
    ∧ quiescent_Kernel37 (hKernel37 := hKernel37)
    ∧ quiescent_Kernel37Ideal (hKernel37Ideal := hKernel37Ideal)
    ∧ quiescent_Reference37Ideal (hReference37Ideal := hReference37Ideal)
    ∧ quiescent_Kernel38 (hKernel38 := hKernel38)
    ∧ quiescent_Kernel38Ideal (hKernel38Ideal := hKernel38Ideal)
    ∧ quiescent_Reference38Ideal (hReference38Ideal := hReference38Ideal)
    ∧ quiescent_Kernel39 (hKernel39 := hKernel39)
    ∧ quiescent_Kernel39Ideal (hKernel39Ideal := hKernel39Ideal)
    ∧ quiescent_Kernel39Ideal_pre_finite_gate (hKernel39Ideal := hKernel39Ideal) (hPre_finite_gate := hPre_finite_gate)
    ∧ quiescent_Reference39Ideal (hReference39Ideal := hReference39Ideal)
    ∧ quiescent_Reference39Ideal_pre_finite_gate (hReference39Ideal := hReference39Ideal) (hPre_finite_gate := hPre_finite_gate)
    ∧ quiescent_Kernel40 (hKernel40 := hKernel40)
    ∧ quiescent_Kernel40Ideal (hKernel40Ideal := hKernel40Ideal)
    ∧ quiescent_Kernel40Ideal_pre_finite_conv (hKernel40Ideal := hKernel40Ideal) (hPre_finite_conv := hPre_finite_conv)
    ∧ quiescent_Reference40Ideal (hReference40Ideal := hReference40Ideal)
    ∧ quiescent_Reference40Ideal_pre_finite_conv (hReference40Ideal := hReference40Ideal) (hPre_finite_conv := hPre_finite_conv)
    ∧ quiescent_Kernel41 (hKernel41 := hKernel41)
    ∧ quiescent_Kernel41Ideal (hKernel41Ideal := hKernel41Ideal)
    ∧ quiescent_Kernel41Ideal_pre_finite_steps (hKernel41Ideal := hKernel41Ideal) (hPre_finite_steps := hPre_finite_steps)
    ∧ quiescent_Reference41Ideal (hReference41Ideal := hReference41Ideal)
    ∧ quiescent_Reference41Ideal_pre_finite_steps (hReference41Ideal := hReference41Ideal) (hPre_finite_steps := hPre_finite_steps)
    ∧ quiescent_Kernel42 (hKernel42 := hKernel42)
    ∧ quiescent_Kernel42Ideal (hKernel42Ideal := hKernel42Ideal)
    ∧ quiescent_Reference42Ideal (hReference42Ideal := hReference42Ideal)
    ∧ quiescent_Kernel43 (hKernel43 := hKernel43)
    ∧ quiescent_Kernel43Ideal (hKernel43Ideal := hKernel43Ideal)
    ∧ quiescent_Reference43Ideal (hReference43Ideal := hReference43Ideal)
    ∧ quiescent_Kernel44 (hKernel44 := hKernel44)
    ∧ quiescent_Kernel44Ideal (hKernel44Ideal := hKernel44Ideal)
    ∧ quiescent_Reference44Ideal (hReference44Ideal := hReference44Ideal)
    ∧ quiescent_Kernel45 (hKernel45 := hKernel45)
    ∧ quiescent_Kernel45Ideal (hKernel45Ideal := hKernel45Ideal)
    ∧ quiescent_Reference45Ideal (hReference45Ideal := hReference45Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal_pre_finite (hKernel2Ideal := hKernel2Ideal) (hReference2Ideal := hReference2Ideal) (hPre_finite := hPre_finite)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
    ∧ preserves_Kernel28_Kernel28Ideal
    ∧ algebraic_Kernel28Ideal_Reference28Ideal (hKernel28Ideal := hKernel28Ideal) (hReference28Ideal := hReference28Ideal)
    ∧ preserves_Kernel29_Kernel29Ideal
    ∧ algebraic_Kernel29Ideal_Reference29Ideal (hKernel29Ideal := hKernel29Ideal) (hReference29Ideal := hReference29Ideal)
    ∧ preserves_Kernel30_Kernel30Ideal
    ∧ algebraic_Kernel30Ideal_Reference30Ideal (hKernel30Ideal := hKernel30Ideal) (hReference30Ideal := hReference30Ideal)
    ∧ preserves_Kernel31_Kernel31Ideal
    ∧ algebraic_Kernel31Ideal_Reference31Ideal (hKernel31Ideal := hKernel31Ideal) (hReference31Ideal := hReference31Ideal)
    ∧ preserves_Kernel32_Kernel32Ideal
    ∧ algebraic_Kernel32Ideal_Reference32Ideal (hKernel32Ideal := hKernel32Ideal) (hReference32Ideal := hReference32Ideal)
    ∧ preserves_Kernel33_Kernel33Ideal
    ∧ algebraic_Kernel33Ideal_Reference33Ideal (hKernel33Ideal := hKernel33Ideal) (hReference33Ideal := hReference33Ideal)
    ∧ preserves_Kernel34_Kernel34Ideal
    ∧ algebraic_Kernel34Ideal_Reference34Ideal (hKernel34Ideal := hKernel34Ideal) (hReference34Ideal := hReference34Ideal)
    ∧ preserves_Kernel35_Kernel35Ideal
    ∧ algebraic_Kernel35Ideal_Reference35Ideal (hKernel35Ideal := hKernel35Ideal) (hReference35Ideal := hReference35Ideal)
    ∧ preserves_Kernel36_Kernel36Ideal
    ∧ algebraic_Kernel36Ideal_Reference36Ideal (hKernel36Ideal := hKernel36Ideal) (hReference36Ideal := hReference36Ideal)
    ∧ preserves_Kernel37_Kernel37Ideal
    ∧ algebraic_Kernel37Ideal_Reference37Ideal (hKernel37Ideal := hKernel37Ideal) (hReference37Ideal := hReference37Ideal)
    ∧ preserves_Kernel38_Kernel38Ideal
    ∧ algebraic_Kernel38Ideal_Reference38Ideal (hKernel38Ideal := hKernel38Ideal) (hReference38Ideal := hReference38Ideal)
    ∧ preserves_Kernel39_Kernel39Ideal
    ∧ algebraic_Kernel39Ideal_Reference39Ideal_pre_finite_gate (hKernel39Ideal := hKernel39Ideal) (hReference39Ideal := hReference39Ideal) (hPre_finite_gate := hPre_finite_gate)
    ∧ preserves_Kernel40_Kernel40Ideal
    ∧ algebraic_Kernel40Ideal_Reference40Ideal_pre_finite_conv (hKernel40Ideal := hKernel40Ideal) (hReference40Ideal := hReference40Ideal) (hPre_finite_conv := hPre_finite_conv)
    ∧ preserves_Kernel41_Kernel41Ideal
    ∧ algebraic_Kernel41Ideal_Reference41Ideal_pre_finite_steps (hKernel41Ideal := hKernel41Ideal) (hReference41Ideal := hReference41Ideal) (hPre_finite_steps := hPre_finite_steps)
    ∧ preserves_Kernel42_Kernel42Ideal
    ∧ algebraic_Kernel42Ideal_Reference42Ideal (hKernel42Ideal := hKernel42Ideal) (hReference42Ideal := hReference42Ideal)
    ∧ preserves_Kernel43_Kernel43Ideal
    ∧ algebraic_Kernel43Ideal_Reference43Ideal (hKernel43Ideal := hKernel43Ideal) (hReference43Ideal := hReference43Ideal)
    ∧ preserves_Kernel44_Kernel44Ideal
    ∧ algebraic_Kernel44Ideal_Reference44Ideal (hKernel44Ideal := hKernel44Ideal) (hReference44Ideal := hReference44Ideal)
    ∧ preserves_Kernel45_Kernel45Ideal
    ∧ algebraic_Kernel45Ideal_Reference45Ideal (hKernel45Ideal := hKernel45Ideal) (hReference45Ideal := hReference45Ideal)
-- ==== Pre_finite.lean ====
abbrev S4096x1024 : Shape := ⟨2, ![4096, 1024]⟩
abbrev S2816x1024 : Shape := ⟨2, ![2816, 1024]⟩
abbrev S4096x2816 : Shape := ⟨2, ![4096, 2816]⟩
abbrev S_ : Shape := ⟨0, ![]⟩

class Facts : Prop where
  bitsLt_bf16_f32 : FTy.bits .bf16 < FTy.bits .f32
  bcast_S_S4096x1024 : S_.BroadcastsInDim S4096x1024 (![] : Fin 0 → Fin S4096x1024.rank)
  bcast_S_S2816x1024 : S_.BroadcastsInDim S2816x1024 (![] : Fin 0 → Fin S2816x1024.rank)
  bcast_S_S4096x2816 : S_.BroadcastsInDim S4096x2816 (![] : Fin 0 → Fin S4096x2816.rank)

variable [Facts]

def fn {F : FTy → Type} [FloatOps F] (main_arg0 : FVec F S4096x1024 .f32) (main_arg1 : FVec F S2816x1024 .bf16) (main_arg2 : FVec F S4096x2816 .bf16) (main_arg3 : FVec F S4096x2816 .bf16) : IVec S4096x1024 1 × IVec S2816x1024 1 × IVec S4096x2816 1 :=
  let main_v0 : FVec F S2816x1024 .f32 := (extf .f32 · bitsLt_bf16_f32) main_arg1
  let main_v1 : FVec F S4096x2816 .f32 := (extf .f32 · bitsLt_bf16_f32) main_arg3
  let main_v2 : FVec F S4096x1024 .f32 := Host.absf main_arg0
  let main_cst : FVec F S_ .f32 := constant S_ .f32 0x7F7FFFFF#32
  let main_v3 : FVec F S4096x1024 .f32 := broadcastInDim S4096x1024 ![] bcast_S_S4096x1024 main_cst
  let main_v4 : IVec S4096x1024 1 := cmpf .ole main_v2 main_v3
  let main_v5 : FVec F S2816x1024 .f32 := Host.absf main_v0
  let main_cst_0 : FVec F S_ .f32 := constant S_ .f32 0x7F7FFFFF#32
  let main_v6 : FVec F S2816x1024 .f32 := broadcastInDim S2816x1024 ![] bcast_S_S2816x1024 main_cst_0
  let main_v7 : IVec S2816x1024 1 := cmpf .ole main_v5 main_v6
  let main_v8 : FVec F S4096x2816 .f32 := Host.absf main_v1
  let main_cst_1 : FVec F S_ .f32 := constant S_ .f32 0x7F7FFFFF#32
  let main_v9 : FVec F S4096x2816 .f32 := broadcastInDim S4096x2816 ![] bcast_S_S4096x2816 main_cst_1
  let main_v10 : IVec S4096x2816 1 := cmpf .ole main_v8 main_v9
  (main_v4, main_v7, main_v10)
-- ==== Pre_finite_conv.lean ====
abbrev S4096x2048 : Shape := ⟨2, ![4096, 2048]⟩
abbrev S4096x1024 : Shape := ⟨2, ![4096, 1024]⟩
abbrev S4096x4096 : Shape := ⟨2, ![4096, 4096]⟩
abbrev S4x4096 : Shape := ⟨2, ![4, 4096]⟩
abbrev S_ : Shape := ⟨0, ![]⟩

class Facts : Prop where
  bcast_S_S4096x2048 : S_.BroadcastsInDim S4096x2048 (![] : Fin 0 → Fin S4096x2048.rank)
  bcast_S_S4096x1024 : S_.BroadcastsInDim S4096x1024 (![] : Fin 0 → Fin S4096x1024.rank)

variable [Facts]

def fn {F : FTy → Type} [FloatOps F] (main_arg0 : FVec F S4096x2048 .f32) (main_arg1 : FVec F S4096x1024 .f32) (main_arg2 : FVec F S4096x1024 .f32) (main_arg3 : FVec F S4096x4096 .f32) (main_arg4 : FVec F S4096x4096 .f32) (main_arg5 : FVec F S4x4096 .f32) : IVec S4096x2048 1 × IVec S4096x1024 1 × IVec S4096x1024 1 :=
  let main_v0 : FVec F S4096x2048 .f32 := Host.absf main_arg0
  let main_cst : FVec F S_ .f32 := constant S_ .f32 0x7F7FFFFF#32
  let main_v1 : FVec F S4096x2048 .f32 := broadcastInDim S4096x2048 ![] bcast_S_S4096x2048 main_cst
  let main_v2 : IVec S4096x2048 1 := cmpf .ole main_v0 main_v1
  let main_v3 : FVec F S4096x1024 .f32 := Host.absf main_arg1
  let main_cst_0 : FVec F S_ .f32 := constant S_ .f32 0x7F7FFFFF#32
  let main_v4 : FVec F S4096x1024 .f32 := broadcastInDim S4096x1024 ![] bcast_S_S4096x1024 main_cst_0
  let main_v5 : IVec S4096x1024 1 := cmpf .ole main_v3 main_v4
  let main_v6 : FVec F S4096x1024 .f32 := Host.absf main_arg2
  let main_cst_1 : FVec F S_ .f32 := constant S_ .f32 0x7F7FFFFF#32
  let main_v7 : FVec F S4096x1024 .f32 := broadcastInDim S4096x1024 ![] bcast_S_S4096x1024 main_cst_1
  let main_v8 : IVec S4096x1024 1 := cmpf .ole main_v6 main_v7
  (main_v2, main_v5, main_v8)
-- ==== Pre_finite_gate.lean ====
abbrev S4096x2048 : Shape := ⟨2, ![4096, 2048]⟩
abbrev S4096x4096 : Shape := ⟨2, ![4096, 4096]⟩
abbrev S8x32x4x64x128 : Shape := ⟨5, ![8, 32, 4, 64, 128]⟩
abbrev S4096x128 : Shape := ⟨2, ![4096, 128]⟩
abbrev S128x4096 : Shape := ⟨2, ![128, 4096]⟩
abbrev S1x128 : Shape := ⟨2, ![1, 128]⟩
abbrev S1x2048 : Shape := ⟨2, ![1, 2048]⟩
abbrev S_ : Shape := ⟨0, ![]⟩

class Facts : Prop where
  bcast_S_S4096x2048 : S_.BroadcastsInDim S4096x2048 (![] : Fin 0 → Fin S4096x2048.rank)
  bcast_S_S1x2048 : S_.BroadcastsInDim S1x2048 (![] : Fin 0 → Fin S1x2048.rank)

variable [Facts]

def fn {F : FTy → Type} [FloatOps F] (main_arg0 : FVec F S4096x2048 .f32) (main_arg1 : FVec F S4096x4096 .f32) (main_arg2 : FVec F S4096x2048 .f32) (main_arg3 : FVec F S4096x2048 .f32) (main_arg4 : FVec F S8x32x4x64x128 .f32) (main_arg5 : FVec F S4096x128 .f32) (main_arg6 : FVec F S4096x128 .f32) (main_arg7 : FVec F S128x4096 .f32) (main_arg8 : FVec F S128x4096 .f32) (main_arg9 : FVec F S1x128 .f32) (main_arg10 : FVec F S1x2048 .f32) : IVec S4096x2048 1 × IVec S1x2048 1 :=
  let main_v0 : FVec F S4096x2048 .f32 := Host.absf main_arg0
  let main_cst : FVec F S_ .f32 := constant S_ .f32 0x7F7FFFFF#32
  let main_v1 : FVec F S4096x2048 .f32 := broadcastInDim S4096x2048 ![] bcast_S_S4096x2048 main_cst
  let main_v2 : IVec S4096x2048 1 := cmpf .ole main_v0 main_v1
  let main_v3 : FVec F S1x2048 .f32 := Host.absf main_arg10
  let main_cst_0 : FVec F S_ .f32 := constant S_ .f32 0x7F7FFFFF#32
  let main_v4 : FVec F S1x2048 .f32 := broadcastInDim S1x2048 ![] bcast_S_S1x2048 main_cst_0
  let main_v5 : IVec S1x2048 1 := cmpf .ole main_v3 main_v4
  (main_v2, main_v5)
-- ==== Pre_finite_steps.lean ====
abbrev S4096x128 : Shape := ⟨2, ![4096, 128]⟩
abbrev S128x4096 : Shape := ⟨2, ![128, 4096]⟩
abbrev S1x128 : Shape := ⟨2, ![1, 128]⟩
abbrev S_ : Shape := ⟨0, ![]⟩

class Facts : Prop where
  bcast_S_S4096x128 : S_.BroadcastsInDim S4096x128 (![] : Fin 0 → Fin S4096x128.rank)
  bcast_S_S128x4096 : S_.BroadcastsInDim S128x4096 (![] : Fin 0 → Fin S128x4096.rank)
  bcast_S_S1x128 : S_.BroadcastsInDim S1x128 (![] : Fin 0 → Fin S1x128.rank)

variable [Facts]

def fn {F : FTy → Type} [FloatOps F] (main_arg0 : FVec F S4096x128 .f32) (main_arg1 : FVec F S4096x128 .f32) (main_arg2 : FVec F S128x4096 .f32) (main_arg3 : FVec F S128x4096 .f32) (main_arg4 : FVec F S4096x128 .f32) (main_arg5 : FVec F S1x128 .f32) (main_arg6 : FVec F S1x128 .f32) : IVec S4096x128 1 × IVec S128x4096 1 × IVec S4096x128 1 × IVec S1x128 1 × IVec S1x128 1 :=
  let main_v0 : FVec F S4096x128 .f32 := Host.absf main_arg0
  let main_cst : FVec F S_ .f32 := constant S_ .f32 0x7F7FFFFF#32
  let main_v1 : FVec F S4096x128 .f32 := broadcastInDim S4096x128 ![] bcast_S_S4096x128 main_cst
  let main_v2 : IVec S4096x128 1 := cmpf .ole main_v0 main_v1
  let main_v3 : FVec F S128x4096 .f32 := Host.absf main_arg2
  let main_cst_0 : FVec F S_ .f32 := constant S_ .f32 0x7F7FFFFF#32
  let main_v4 : FVec F S128x4096 .f32 := broadcastInDim S128x4096 ![] bcast_S_S128x4096 main_cst_0
  let main_v5 : IVec S128x4096 1 := cmpf .ole main_v3 main_v4
  let main_v6 : FVec F S4096x128 .f32 := Host.absf main_arg4
  let main_cst_1 : FVec F S_ .f32 := constant S_ .f32 0x7F7FFFFF#32
  let main_v7 : FVec F S4096x128 .f32 := broadcastInDim S4096x128 ![] bcast_S_S4096x128 main_cst_1
  let main_v8 : IVec S4096x128 1 := cmpf .ole main_v6 main_v7
  let main_v9 : FVec F S1x128 .f32 := Host.absf main_arg5
  let main_cst_2 : FVec F S_ .f32 := constant S_ .f32 0x7F7FFFFF#32
  let main_v10 : FVec F S1x128 .f32 := broadcastInDim S1x128 ![] bcast_S_S1x128 main_cst_2
  let main_v11 : IVec S1x128 1 := cmpf .ole main_v9 main_v10
  let main_v12 : FVec F S1x128 .f32 := Host.absf main_arg6
  let main_cst_3 : FVec F S_ .f32 := constant S_ .f32 0x7F7FFFFF#32
  let main_v13 : FVec F S1x128 .f32 := broadcastInDim S1x128 ![] bcast_S_S1x128 main_cst_3
  let main_v14 : IVec S1x128 1 := cmpf .ole main_v12 main_v13
  (main_v2, main_v5, main_v8, main_v11, main_v14)
-- ==== Kernel.lean ====
abbrev S4096x1024 : Shape := ⟨2, ![4096, 1024]⟩
abbrev S4096x3072 : Shape := ⟨2, ![4096, 3072]⟩
abbrev S3x1024 : Shape := ⟨2, ![3, 1024]⟩
abbrev S8x1024 : Shape := ⟨2, ![8, 1024]⟩
abbrev S256x1024 : Shape := ⟨2, ![256, 1024]⟩
abbrev S256x3072 : Shape := ⟨2, ![256, 3072]⟩
abbrev S8x3072 : Shape := ⟨2, ![8, 3072]⟩
abbrev S248x1024 : Shape := ⟨2, ![248, 1024]⟩
abbrev S1x1024 : Shape := ⟨2, ![1, 1024]⟩
abbrev S1024 : Shape := ⟨1, ![1024]⟩
abbrev S5x1024 : Shape := ⟨2, ![5, 1024]⟩

abbrev nBuf : Space → Nat
  | .hbm => 5
  | .vmem => 14
  | .smem => 0
  | _ => 0

abbrev bufTy : (tb : Table) → Fin (tcTables nBuf tb) → BufTy
  | .hbm, ⟨0, _⟩ => ⟨S4096x1024, .f32⟩
  | .hbm, ⟨1, _⟩ => ⟨S4096x3072, .f32⟩
  | .hbm, ⟨2, _⟩ => ⟨S3x1024, .f32⟩
  | .hbm, ⟨3, _⟩ => ⟨S4096x3072, .bf16⟩
  | .hbm, ⟨4, _⟩ => ⟨S8x1024, .f32⟩
  | .local _ .vmem, ⟨0, _⟩ => ⟨S256x1024, .f32⟩
  | .local _ .vmem, ⟨1, _⟩ => ⟨S256x1024, .f32⟩
  | .local _ .vmem, ⟨2, _⟩ => ⟨S8x1024, .f32⟩
  | .local _ .vmem, ⟨3, _⟩ => ⟨S8x1024, .f32⟩
  | .local _ .vmem, ⟨4, _⟩ => ⟨S256x3072, .f32⟩
  | .local _ .vmem, ⟨5, _⟩ => ⟨S256x3072, .f32⟩
  | .local _ .vmem, ⟨6, _⟩ => ⟨S8x3072, .f32⟩
  | .local _ .vmem, ⟨7, _⟩ => ⟨S8x3072, .f32⟩
  | .local _ .vmem, ⟨8, _⟩ => ⟨S8x3072, .f32⟩
  | .local _ .vmem, ⟨9, _⟩ => ⟨S8x3072, .f32⟩
  | .local _ .vmem, ⟨10, _⟩ => ⟨S3x1024, .f32⟩
  | .local _ .vmem, ⟨11, _⟩ => ⟨S256x3072, .bf16⟩
  | .local _ .vmem, ⟨12, _⟩ => ⟨S256x3072, .bf16⟩
  | .local _ .vmem, ⟨13, _⟩ => ⟨S8x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c511_i32 : BitVec 32 := 511#32
  let v2 : BitVec 32 := Scalar.minsi v1 c511_i32
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_4 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c511_i32 : BitVec 32 := 511#32
  let v2 : BitVec 32 := Scalar.minsi v1 c511_i32
  let c0_i32 : BitVec 32 := 0#32
  let c0_i32_0 : BitVec 32 := 0#32
  ![v2.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x3072 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x3072 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x3072 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S3x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x3072 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ReferenceIdeal.lean ====
abbrev S4096x1024 : Shape := ⟨2, ![4096, 1024]⟩
abbrev S4096x3072 : Shape := ⟨2, ![4096, 3072]⟩
abbrev S3x1024 : Shape := ⟨2, ![3, 1024]⟩
abbrev S_ : Shape := ⟨0, ![]⟩
abbrev S2x1024 : Shape := ⟨2, ![2, 1024]⟩
abbrev S4098x1024 : Shape := ⟨2, ![4098, 1024]⟩
abbrev S1x1024 : Shape := ⟨2, ![1, 1024]⟩
abbrev S1024 : Shape := ⟨1, ![1024]⟩
abbrev S8x1024 : Shape := ⟨2, ![8, 1024]⟩

abbrev nBuf : Space → Nat
  | .hbm => 90
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x3072, .f32⟩
  | .hbm, ⟨2, _⟩ => ⟨S3x1024, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S2x1024, .f32⟩
  | .hbm, ⟨9, _⟩ => ⟨S4098x1024, .f32⟩
  | .hbm, ⟨10, _⟩ => ⟨S_, .f32⟩
  | .hbm, ⟨11, _⟩ => ⟨S2x1024, .f32⟩
  | .hbm, ⟨12, _⟩ => ⟨S1x1024, .f32⟩
  | .hbm, ⟨13, _⟩ => ⟨S1024, .f32⟩
  | .hbm, ⟨14, _⟩ => ⟨S4096x1024, .f32⟩
  | .hbm, ⟨15, _⟩ => ⟨S1x1024, .f32⟩
  | .hbm, ⟨16, _⟩ => ⟨S4096x1024, .f32⟩
  | .hbm, ⟨17, _⟩ => ⟨S4096x1024, .f32⟩
  | .hbm, ⟨18, _⟩ => ⟨S_, .f32⟩
  | .hbm, ⟨19, _⟩ => ⟨S4096x1024, .f32⟩
  | .hbm, ⟨20, _⟩ => ⟨S4096x1024, .f32⟩
  | .hbm, ⟨21, _⟩ => ⟨S1x1024, .f32⟩
  | .hbm, ⟨22, _⟩ => ⟨S1024, .f32⟩
  | .hbm, ⟨23, _⟩ => ⟨S4096x1024, .f32⟩
  | .hbm, ⟨24, _⟩ => ⟨S1x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S1x1024, .f32⟩
  | .hbm, ⟨29, _⟩ => ⟨S1024, .f32⟩
  | .hbm, ⟨30, _⟩ => ⟨S4096x1024, .f32⟩
  | .hbm, ⟨31, _⟩ => ⟨S1x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S_, .f32⟩
  | .hbm, ⟨42, _⟩ => ⟨S1024, .f32⟩
  | .hbm, ⟨43, _⟩ => ⟨S1x1024, .f32⟩
  | .hbm, ⟨44, _⟩ => ⟨S_, .f32⟩
  | .hbm, ⟨45, _⟩ => ⟨S1024, .f32⟩
  | .hbm, ⟨46, _⟩ => ⟨S_, .f32⟩
  | .hbm, ⟨47, _⟩ => ⟨S4098x1024, .f32⟩
  | .hbm, ⟨48, _⟩ => ⟨S1x1024, .f32⟩
  | .hbm, ⟨49, _⟩ => ⟨S_, .f32⟩
  | .hbm, ⟨50, _⟩ => ⟨S3x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S_, .f32⟩
  | .hbm, ⟨55, _⟩ => ⟨S1024, .f32⟩
  | .hbm, ⟨56, _⟩ => ⟨S1x1024, .f32⟩
  | .hbm, ⟨57, _⟩ => ⟨S_, .f32⟩
  | .hbm, ⟨58, _⟩ => ⟨S1024, .f32⟩
  | .hbm, ⟨59, _⟩ => ⟨S_, .f32⟩
  | .hbm, ⟨60, _⟩ => ⟨S4098x1024, .f32⟩
  | .hbm, ⟨61, _⟩ => ⟨S4098x1024, .f32⟩
  | .hbm, ⟨62, _⟩ => ⟨S1x1024, .f32⟩
  | .hbm, ⟨63, _⟩ => ⟨S_, .f32⟩
  | .hbm, ⟨64, _⟩ => ⟨S3x1024, .f32⟩
  | .hbm, ⟨65, _⟩ => ⟨S3x1024, .f32⟩
  | .hbm, ⟨66, _⟩ => ⟨S4096x1024, .f32⟩
  | .hbm, ⟨67, _⟩ => ⟨S4096x1024, .f32⟩
  | .hbm, ⟨68, _⟩ => ⟨S4096x1024, .f32⟩
  | .hbm, ⟨69, _⟩ => ⟨S_, .f32⟩
  | .hbm, ⟨70, _⟩ => ⟨S1024, .f32⟩
  | .hbm, ⟨71, _⟩ => ⟨S1x1024, .f32⟩
  | .hbm, ⟨72, _⟩ => ⟨S_, .f32⟩
  | .hbm, ⟨73, _⟩ => ⟨S1024, .f32⟩
  | .hbm, ⟨74, _⟩ => ⟨S_, .f32⟩
  | .hbm, ⟨75, _⟩ => ⟨S4098x1024, .f32⟩
  | .hbm, ⟨76, _⟩ => ⟨S4098x1024, .f32⟩
  | .hbm, ⟨77, _⟩ => ⟨S1x1024, .f32⟩
  | .hbm, ⟨78, _⟩ => ⟨S_, .f32⟩
  | .hbm, ⟨79, _⟩ => ⟨S3x1024, .f32⟩
  | .hbm, ⟨80, _⟩ => ⟨S3x1024, .f32⟩
  | .hbm, ⟨81, _⟩ => ⟨S2x1024, .f32⟩
  | .hbm, ⟨82, _⟩ => ⟨S4096x1024, .f32⟩
  | .hbm, ⟨83, _⟩ => ⟨S4096x1024, .f32⟩
  | .hbm, ⟨84, _⟩ => ⟨S4096x1024, .f32⟩
  | .hbm, ⟨85, _⟩ => ⟨S4096x3072, .f32⟩
  | .hbm, ⟨86, _⟩ => ⟨S4096x3072, .bf16⟩
  | .hbm, ⟨87, _⟩ => ⟨S_, .i32⟩
  | .hbm, ⟨88, _⟩ => ⟨S_, .f32⟩
  | .hbm, ⟨89, _⟩ => ⟨S8x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_cst_2 : Ref sig .tc := ⟨.hbm, 41, rfl⟩
abbrev main_v35 : Ref sig .tc := ⟨.hbm, 42, rfl⟩
abbrev main_v36 : Ref sig .tc := ⟨.hbm, 43, rfl⟩
abbrev main_cst_3 : Ref sig .tc := ⟨.hbm, 44, rfl⟩
abbrev main_v37 : Ref sig .tc := ⟨.hbm, 45, rfl⟩
abbrev main_cst_4 : Ref sig .tc := ⟨.hbm, 46, rfl⟩
abbrev main_v38 : Ref sig .tc := ⟨.hbm, 47, rfl⟩
abbrev main_v39 : Ref sig .tc := ⟨.hbm, 48, rfl⟩
abbrev main_cst_5 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_cst_6 : Ref sig .tc := ⟨.hbm, 54, rfl⟩
abbrev main_v44 : Ref sig .tc := ⟨.hbm, 55, rfl⟩
abbrev main_v45 : Ref sig .tc := ⟨.hbm, 56, rfl⟩
abbrev main_cst_7 : Ref sig .tc := ⟨.hbm, 57, rfl⟩
abbrev main_v46 : Ref sig .tc := ⟨.hbm, 58, rfl⟩
abbrev main_cst_8 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_cst_9 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_cst_10 : Ref sig .tc := ⟨.hbm, 69, rfl⟩
abbrev main_v55 : Ref sig .tc := ⟨.hbm, 70, rfl⟩
abbrev main_v56 : Ref sig .tc := ⟨.hbm, 71, rfl⟩
abbrev main_cst_11 : Ref sig .tc := ⟨.hbm, 72, rfl⟩
abbrev main_v57 : Ref sig .tc := ⟨.hbm, 73, rfl⟩
abbrev main_cst_12 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_cst_13 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_c : Ref sig .tc := ⟨.hbm, 87, rfl⟩
abbrev main_call0_v0 : Ref sig .tc := ⟨.hbm, 88, rfl⟩
abbrev main_v69 : Ref sig .tc := ⟨.hbm, 89, rfl⟩

abbrev nD : Nat := 1
abbrev τ : Topo := Topo.v7x

variable {F : FTy → Type} [FloatOps F]
-- ==== Kernel2.lean ====
abbrev S4096x1024 : Shape := ⟨2, ![4096, 1024]⟩
abbrev S2816x1024 : Shape := ⟨2, ![2816, 1024]⟩
abbrev S4096x2816 : Shape := ⟨2, ![4096, 2816]⟩
abbrev S512x1024 : Shape := ⟨2, ![512, 1024]⟩
abbrev S1408x1024 : Shape := ⟨2, ![1408, 1024]⟩
abbrev S512x1408 : Shape := ⟨2, ![512, 1408]⟩

abbrev nBuf : Space → Nat
  | .hbm => 6
  | .vmem => 12
  | .smem => 0
  | _ => 0

abbrev bufTy : (tb : Table) → Fin (tcTables nBuf tb) → BufTy
  | .hbm, ⟨0, _⟩ => ⟨S4096x1024, .f32⟩
  | .hbm, ⟨1, _⟩ => ⟨S2816x1024, .bf16⟩
  | .hbm, ⟨2, _⟩ => ⟨S4096x2816, .bf16⟩
  | .hbm, ⟨3, _⟩ => ⟨S4096x2816, .bf16⟩
  | .hbm, ⟨4, _⟩ => ⟨S4096x2816, .bf16⟩
  | .hbm, ⟨5, _⟩ => ⟨S4096x2816, .bf16⟩
  | .local _ .vmem, ⟨0, _⟩ => ⟨S512x1024, .f32⟩
  | .local _ .vmem, ⟨1, _⟩ => ⟨S512x1024, .f32⟩
  | .local _ .vmem, ⟨2, _⟩ => ⟨S1408x1024, .bf16⟩
  | .local _ .vmem, ⟨3, _⟩ => ⟨S1408x1024, .bf16⟩
  | .local _ .vmem, ⟨4, _⟩ => ⟨S512x1408, .bf16⟩
  | .local _ .vmem, ⟨5, _⟩ => ⟨S512x1408, .bf16⟩
  | .local _ .vmem, ⟨6, _⟩ => ⟨S512x1408, .bf16⟩
  | .local _ .vmem, ⟨7, _⟩ => ⟨S512x1408, .bf16⟩
  | .local _ .vmem, ⟨8, _⟩ => ⟨S512x1408, .bf16⟩
  | .local _ .vmem, ⟨9, _⟩ => ⟨S512x1408, .bf16⟩
  | .local _ .vmem, ⟨10, _⟩ => ⟨S512x1408, .bf16⟩
  | .local _ .vmem, ⟨11, _⟩ => ⟨S512x1408, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference2Ideal.lean ====
abbrev S4096x1024 : Shape := ⟨2, ![4096, 1024]⟩
abbrev S2816x1024 : Shape := ⟨2, ![2816, 1024]⟩
abbrev S4096x2816 : Shape := ⟨2, ![4096, 2816]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S2816x1024, .bf16⟩
  | .hbm, ⟨2, _⟩ => ⟨S4096x2816, .bf16⟩
  | .hbm, ⟨3, _⟩ => ⟨S4096x2816, .bf16⟩
  | .hbm, ⟨4, _⟩ => ⟨S2816x1024, .f32⟩
  | .hbm, ⟨5, _⟩ => ⟨S4096x2816, .f32⟩
  | .hbm, ⟨6, _⟩ => ⟨S4096x2816, .f32⟩
  | .hbm, ⟨7, _⟩ => ⟨S4096x2816, .f32⟩
  | .hbm, ⟨8, _⟩ => ⟨S4096x2816, .f32⟩
  | .hbm, ⟨9, _⟩ => ⟨S_, .f32⟩
  | .hbm, ⟨10, _⟩ => ⟨S4096x2816, .f32⟩
  | .hbm, ⟨11, _⟩ => ⟨S4096x2816, .f32⟩
  | .hbm, ⟨12, _⟩ => ⟨S_, .f32⟩
  | .hbm, ⟨13, _⟩ => ⟨S4096x2816, .f32⟩
  | .hbm, ⟨14, _⟩ => ⟨S4096x2816, .f32⟩
  | .hbm, ⟨15, _⟩ => ⟨S_, .f32⟩
  | .hbm, ⟨16, _⟩ => ⟨S4096x2816, .f32⟩
  | .hbm, ⟨17, _⟩ => ⟨S4096x2816, .f32⟩
  | .hbm, ⟨18, _⟩ => ⟨S4096x2816, .f32⟩
  | .hbm, ⟨19, _⟩ => ⟨S4096x2816, .f32⟩
  | .hbm, ⟨20, _⟩ => ⟨S4096x2816, .f32⟩
  | .hbm, ⟨21, _⟩ => ⟨S4096x1024, .f32⟩
  | .hbm, ⟨22, _⟩ => ⟨S_, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S4096x1024, .f32⟩
  | .hbm, ⟨27, _⟩ => ⟨S4096x1024, .f32⟩
  | .hbm, ⟨28, _⟩ => ⟨S4096x2816, .f32⟩
  | .hbm, ⟨29, _⟩ => ⟨S4096x2816, .f32⟩
  | .hbm, ⟨30, _⟩ => ⟨S4096x2816, .f32⟩
  | .hbm, ⟨31, _⟩ => ⟨S4096x2816, .f32⟩
  | .hbm, ⟨32, _⟩ => ⟨S4096x2816, .f32⟩
  | .hbm, ⟨33, _⟩ => ⟨S4096x2816, .f32⟩
  | .hbm, ⟨34, _⟩ => ⟨S4096x2816, .f32⟩
  | .hbm, ⟨35, _⟩ => ⟨S4096x2816, .bf16⟩
  | .hbm, ⟨36, _⟩ => ⟨S4096x2816, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_v3_2 : Ref sig .tc := ⟨.hbm, 14, rfl⟩
abbrev main_call0_cst_1 : Ref sig .tc := ⟨.hbm, 15, rfl⟩
abbrev main_call0_v6 : Ref sig .tc := ⟨.hbm, 16, rfl⟩
abbrev main_call0_v7 : Ref sig .tc := ⟨.hbm, 17, rfl⟩
abbrev main_v3_1 : Ref sig .tc := ⟨.hbm, 18, rfl⟩
abbrev main_v3_0 : Ref sig .tc := ⟨.hbm, 19, rfl⟩
abbrev main_v4 : Ref sig .tc := ⟨.hbm, 20, rfl⟩
abbrev main_v5 : Ref sig .tc := ⟨.hbm, 21, rfl⟩
abbrev main_cst : Ref sig .tc := ⟨.hbm, 22, rfl⟩
abbrev main_v6 : Ref sig .tc := ⟨.hbm, 23, rfl⟩
abbrev main_v7 : Ref sig .tc := ⟨.hbm, 24, rfl⟩
abbrev main_cst_0 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_call1_v0 : Ref sig .tc := ⟨.hbm, 31, rfl⟩
abbrev main_call1_v1 : Ref sig .tc := ⟨.hbm, 32, rfl⟩
abbrev main_call1_v2 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩

abbrev nD : Nat := 1
abbrev τ : Topo := Topo.v7x

variable {F : FTy → Type} [FloatOps F]
-- ==== Kernel3.lean ====
abbrev S4096x2816 : Shape := ⟨2, ![4096, 2816]⟩
abbrev S4096x1024 : Shape := ⟨2, ![4096, 1024]⟩
abbrev S2816x1024 : Shape := ⟨2, ![2816, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .f32⟩
  | .hbm, ⟨2, _⟩ => ⟨S2816x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .f32⟩
  | .local _ .vmem, ⟨3, _⟩ => ⟨S2048x1024, .f32⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 2], ![false, false, false]⟩

def k0_cond3 (i : grid0.Coords) : BitVec 1 :=
  let arg2 : BitVec 32 := BitVec.ofNat 32 (i 2).val
  let c1_i32_6 : BitVec 32 := 1#32
  let v12 : BitVec 1 := Scalar.cmpi .eq arg2 c1_i32_6
  let v13 : BitVec 32 := Scalar.extui v12
  let c0_i32_7 : BitVec 32 := 0#32
  let v14 : BitVec 1 := Scalar.cmpi .ne v13 c0_i32_7
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S4096x2816 : Shape := ⟨2, ![4096, 2816]⟩
abbrev S4096x1024 : Shape := ⟨2, ![4096, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 15
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .f32⟩
  | .hbm, ⟨2, _⟩ => ⟨S_, .f32⟩
  | .hbm, ⟨3, _⟩ => ⟨S2816x1024, .f32⟩
  | .hbm, ⟨4, _⟩ => ⟨S4096x2816, .f32⟩
  | .hbm, ⟨5, _⟩ => ⟨S4096x1024, .f32⟩
  | .hbm, ⟨6, _⟩ => ⟨S_, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S4096x1024, .f32⟩
  | .hbm, ⟨11, _⟩ => ⟨S4096x1024, .f32⟩
  | .hbm, ⟨12, _⟩ => ⟨S1024x2816, .f32⟩
  | .hbm, ⟨13, _⟩ => ⟨S2816x1024, .f32⟩
  | .hbm, ⟨14, _⟩ => ⟨S2816x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]
-- ==== Kernel4.lean ====
abbrev S4096x1024 : Shape := ⟨2, ![4096, 1024]⟩
abbrev S4096x2816 : Shape := ⟨2, ![4096, 2816]⟩
abbrev S1024x2816 : Shape := ⟨2, ![1024, 2816]⟩
abbrev S2048x1024 : Shape := ⟨2, ![2048, 1024]⟩
abbrev S2048x1408 : Shape := ⟨2, ![2048, 1408]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x2816, .bf16⟩
  | .hbm, ⟨2, _⟩ => ⟨S1024x2816, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1408, .bf16⟩
  | .local _ .vmem, ⟨3, _⟩ => ⟨S2048x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 2], ![false, false, false]⟩

def k0_cond3 (i : grid0.Coords) : BitVec 1 :=
  let arg2 : BitVec 32 := BitVec.ofNat 32 (i 2).val
  let c1_i32_6 : BitVec 32 := 1#32
  let v11 : BitVec 1 := Scalar.cmpi .eq arg2 c1_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S4096x1024 : Shape := ⟨2, ![4096, 1024]⟩
abbrev S4096x2816 : Shape := ⟨2, ![4096, 2816]⟩
abbrev S_ : Shape := ⟨0, ![]⟩
abbrev S1024x2816 : Shape := ⟨2, ![1024, 2816]⟩
abbrev S2816x1024 : Shape := ⟨2, ![2816, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x2816, .bf16⟩
  | .hbm, ⟨2, _⟩ => ⟨S4096x1024, .f32⟩
  | .hbm, ⟨3, _⟩ => ⟨S4096x2816, .f32⟩
  | .hbm, ⟨4, _⟩ => ⟨S_, .f32⟩
  | .hbm, ⟨5, _⟩ => ⟨S1024x2816, .f32⟩
  | .hbm, ⟨6, _⟩ => ⟨S4096x2816, .f32⟩
  | .hbm, ⟨7, _⟩ => ⟨S2816x1024, .f32⟩
  | .hbm, ⟨8, _⟩ => ⟨S1024x2816, .f32⟩
  | .hbm, ⟨9, _⟩ => ⟨S1024x2816, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel5.lean ====
abbrev S4096x2816 : Shape := ⟨2, ![4096, 2816]⟩
abbrev S1024x5632 : Shape := ⟨2, ![1024, 5632]⟩
abbrev S4096x1024 : Shape := ⟨2, ![4096, 1024]⟩
abbrev S1024x1408 : Shape := ⟨2, ![1024, 1408]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2816, .bf16⟩
  | .hbm, ⟨1, _⟩ => ⟨S1024x5632, .bf16⟩
  | .hbm, ⟨2, _⟩ => ⟨S4096x1024, .f32⟩
  | .local _ .vmem, ⟨0, _⟩ => ⟨S1024x1408, .bf16⟩
  | .local _ .vmem, ⟨1, _⟩ => ⟨S1024x1408, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def k0_cond3 (i : grid0.Coords) : BitVec 1 :=
  let arg2 : BitVec 32 := BitVec.ofNat 32 (i 2).val
  let c1_i32_6 : BitVec 32 := 1#32
  let v11 : BitVec 1 := Scalar.cmpi .eq arg2 c1_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S4096x2816 : Shape := ⟨2, ![4096, 2816]⟩
abbrev S1024x5632 : Shape := ⟨2, ![1024, 5632]⟩
abbrev S_ : Shape := ⟨0, ![]⟩
abbrev S4096x1024 : Shape := ⟨2, ![4096, 1024]⟩
abbrev S1024x2816 : Shape := ⟨2, ![1024, 2816]⟩

abbrev nBuf : Space → Nat
  | .hbm => 9
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S1024x5632, .bf16⟩
  | .hbm, ⟨2, _⟩ => ⟨S4096x2816, .f32⟩
  | .hbm, ⟨3, _⟩ => ⟨S1024x5632, .f32⟩
  | .hbm, ⟨4, _⟩ => ⟨S_, .f32⟩
  | .hbm, ⟨5, _⟩ => ⟨S4096x1024, .f32⟩
  | .hbm, ⟨6, _⟩ => ⟨S1024x2816, .f32⟩
  | .hbm, ⟨7, _⟩ => ⟨S4096x2816, .f32⟩
  | .hbm, ⟨8, _⟩ => ⟨S4096x1024, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel6.lean ====
abbrev S4096x2816 : Shape := ⟨2, ![4096, 2816]⟩
abbrev S1024x5632 : Shape := ⟨2, ![1024, 5632]⟩
abbrev S4096x1024 : Shape := ⟨2, ![4096, 1024]⟩
abbrev S1024x1408 : Shape := ⟨2, ![1024, 1408]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S4096x2816, .bf16⟩
  | .hbm, ⟨1, _⟩ => ⟨S1024x5632, .bf16⟩
  | .hbm, ⟨2, _⟩ => ⟨S4096x1024, .f32⟩
  | .hbm, ⟨3, _⟩ => ⟨S4096x1024, .f32⟩
  | .local _ .vmem, ⟨0, _⟩ => ⟨S1024x1408, .bf16⟩
  | .local _ .vmem, ⟨1, _⟩ => ⟨S1024x1408, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 1, 2], ![false, false, false]⟩

def k0_cond3 (i : grid0.Coords) : BitVec 1 :=
  let arg2 : BitVec 32 := BitVec.ofNat 32 (i 2).val
  let c1_i32_6 : BitVec 32 := 1#32
  let v11 : BitVec 1 := Scalar.cmpi .eq arg2 c1_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi arg2 c2_i32
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference6Ideal.lean ====
abbrev S4096x2816 : Shape := ⟨2, ![4096, 2816]⟩
abbrev S1024x5632 : Shape := ⟨2, ![1024, 5632]⟩
abbrev S4096x1024 : Shape := ⟨2, ![4096, 1024]⟩
abbrev S_ : Shape := ⟨0, ![]⟩
abbrev S1024x2816 : Shape := ⟨2, ![1024, 2816]⟩

abbrev nBuf : Space → Nat
  | .hbm => 11
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S1024x5632, .bf16⟩
  | .hbm, ⟨2, _⟩ => ⟨S4096x1024, .f32⟩
  | .hbm, ⟨3, _⟩ => ⟨S4096x2816, .f32⟩
  | .hbm, ⟨4, _⟩ => ⟨S1024x5632, .f32⟩
  | .hbm, ⟨5, _⟩ => ⟨S_, .f32⟩
  | .hbm, ⟨6, _⟩ => ⟨S4096x1024, .f32⟩
  | .hbm, ⟨7, _⟩ => ⟨S1024x2816, .f32⟩
  | .hbm, ⟨8, _⟩ => ⟨S4096x2816, .f32⟩
  | .hbm, ⟨9, _⟩ => ⟨S4096x1024, .f32⟩
  | .hbm, ⟨10, _⟩ => ⟨S4096x1024, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Kernel7.lean ====
abbrev S4096x1024 : Shape := ⟨2, ![4096, 1024]⟩
abbrev S1024x5632 : Shape := ⟨2, ![1024, 5632]⟩
abbrev S4096x2816 : Shape := ⟨2, ![4096, 2816]⟩
abbrev S512x1024 : Shape := ⟨2, ![512, 1024]⟩
abbrev S1024x1408 : Shape := ⟨2, ![1024, 1408]⟩
abbrev S512x1408 : Shape := ⟨2, ![512, 1408]⟩

abbrev nBuf : Space → Nat
  | .hbm => 5
  | .vmem => 12
  | .smem => 0
  | _ => 0

abbrev bufTy : (tb : Table) → Fin (tcTables nBuf tb) → BufTy
  | .hbm, ⟨0, _⟩ => ⟨S4096x1024, .bf16⟩
  | .hbm, ⟨1, _⟩ => ⟨S1024x5632, .bf16⟩
  | .hbm, ⟨2, _⟩ => ⟨S4096x2816, .bf16⟩
  | .hbm, ⟨3, _⟩ => ⟨S4096x2816, .bf16⟩
  | .hbm, ⟨4, _⟩ => ⟨S4096x2816, .bf16⟩
  | .local _ .vmem, ⟨0, _⟩ => ⟨S512x1024, .bf16⟩
  | .local _ .vmem, ⟨1, _⟩ => ⟨S512x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S512x1408, .bf16⟩
  | .local _ .vmem, ⟨7, _⟩ => ⟨S512x1408, .bf16⟩
  | .local _ .vmem, ⟨8, _⟩ => ⟨S512x1408, .bf16⟩
  | .local _ .vmem, ⟨9, _⟩ => ⟨S512x1408, .bf16⟩
  | .local _ .vmem, ⟨10, _⟩ => ⟨S512x1408, .bf16⟩
  | .local _ .vmem, ⟨11, _⟩ => ⟨S512x1408, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference7Ideal.lean ====
abbrev S4096x1024 : Shape := ⟨2, ![4096, 1024]⟩
abbrev S1024x5632 : Shape := ⟨2, ![1024, 5632]⟩
abbrev S4096x5632 : Shape := ⟨2, ![4096, 5632]⟩
abbrev S4096x2816 : Shape := ⟨2, ![4096, 2816]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x5632, .bf16⟩
  | .hbm, ⟨2, _⟩ => ⟨S4096x1024, .f32⟩
  | .hbm, ⟨3, _⟩ => ⟨S1024x5632, .f32⟩
  | .hbm, ⟨4, _⟩ => ⟨S4096x5632, .f32⟩
  | .hbm, ⟨5, _⟩ => ⟨S4096x2816, .f32⟩
  | .hbm, ⟨6, _⟩ => ⟨S4096x2816, .f32⟩
  | .hbm, ⟨7, _⟩ => ⟨S4096x2816, .f32⟩
  | .hbm, ⟨8, _⟩ => ⟨S4096x2816, .f32⟩
  | .hbm, ⟨9, _⟩ => ⟨S_, .f32⟩
  | .hbm, ⟨10, _⟩ => ⟨S4096x2816, .f32⟩
  | .hbm, ⟨11, _⟩ => ⟨S4096x2816, .f32⟩
  | .hbm, ⟨12, _⟩ => ⟨S_, .f32⟩
  | .hbm, ⟨13, _⟩ => ⟨S4096x2816, .f32⟩
  | .hbm, ⟨14, _⟩ => ⟨S4096x2816, .f32⟩
  | .hbm, ⟨15, _⟩ => ⟨S4096x2816, .f32⟩
  | .hbm, ⟨16, _⟩ => ⟨S4096x2816, .f32⟩
  | .hbm, ⟨17, _⟩ => ⟨S4096x2816, .bf16⟩
  | .hbm, ⟨18, _⟩ => ⟨S4096x2816, .bf16⟩
  | .hbm, ⟨19, _⟩ => ⟨S4096x2816, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩

abbrev nD : Nat := 1
abbrev τ : Topo := Topo.v7x

variable {F : FTy → Type} [FloatOps F]
-- ==== Kernel8.lean ====
abbrev S4096x2816 : Shape := ⟨2, ![4096, 2816]⟩
abbrev S2816x1024 : Shape := ⟨2, ![2816, 1024]⟩
abbrev S4096x1024 : Shape := ⟨2, ![4096, 1024]⟩
abbrev S1024x1408 : Shape := ⟨2, ![1024, 1408]⟩
abbrev S1408x1024 : Shape := ⟨2, ![1408, 1024]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .hbm, ⟨3, _⟩ => ⟨S4096x1024, .f32⟩
  | .local _ .vmem, ⟨0, _⟩ => ⟨S1024x1408, .bf16⟩
  | .local _ .vmem, ⟨1, _⟩ => ⟨S1024x1408, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 1, 2], ![false, false, false]⟩

def k0_cond3 (i : grid0.Coords) : BitVec 1 :=
  let arg2 : BitVec 32 := BitVec.ofNat 32 (i 2).val
  let c1_i32_6 : BitVec 32 := 1#32
  let v11 : BitVec 1 := Scalar.cmpi .eq arg2 c1_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference8Ideal.lean ====
abbrev S4096x2816 : Shape := ⟨2, ![4096, 2816]⟩
abbrev S2816x1024 : Shape := ⟨2, ![2816, 1024]⟩
abbrev S4096x1024 : Shape := ⟨2, ![4096, 1024]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .hbm, ⟨3, _⟩ => ⟨S4096x2816, .f32⟩
  | .hbm, ⟨4, _⟩ => ⟨S2816x1024, .f32⟩
  | .hbm, ⟨5, _⟩ => ⟨S4096x1024, .f32⟩
  | .hbm, ⟨6, _⟩ => ⟨S_, .f32⟩
  | .hbm, ⟨7, _⟩ => ⟨S4096x1024, .f32⟩
  | .hbm, ⟨8, _⟩ => ⟨S4096x1024, .f32⟩
  | .hbm, ⟨9, _⟩ => ⟨S4096x1024, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Kernel9.lean ====
abbrev S4096x1024 : Shape := ⟨2, ![4096, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 6
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S4096x1024, .f32⟩
  | .hbm, ⟨4, _⟩ => ⟨S4096x1024, .f32⟩
  | .hbm, ⟨5, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference9Ideal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 47
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S4096x1024, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S_, .f32⟩
  | .hbm, ⟨25, _⟩ => ⟨S1024, .f32⟩
  | .hbm, ⟨26, _⟩ => ⟨S1x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S4096, .f32⟩
  | .hbm, ⟨32, _⟩ => ⟨S4096x1, .f32⟩
  | .hbm, ⟨33, _⟩ => ⟨S4096x1024, .f32⟩
  | .hbm, ⟨34, _⟩ => ⟨S4096x1024, .f32⟩
  | .hbm, ⟨35, _⟩ => ⟨S4096x1, .f32⟩
  | .hbm, ⟨36, _⟩ => ⟨S_, .f32⟩
  | .hbm, ⟨37, _⟩ => ⟨S4096x1, .f32⟩
  | .hbm, ⟨38, _⟩ => ⟨S4096x1, .f32⟩
  | .hbm, ⟨39, _⟩ => ⟨S_, .f32⟩
  | .hbm, ⟨40, _⟩ => ⟨S4096, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩

abbrev nD : Nat := 1
abbrev τ : Topo := Topo.v7x

variable {F : FTy → Type} [FloatOps F]
-- ==== Kernel10.lean ====
abbrev S4096x1024 : Shape := ⟨2, ![4096, 1024]⟩
abbrev S1x1024 : Shape := ⟨2, ![1, 1024]⟩
abbrev S1x128 : Shape := ⟨2, ![1, 128]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1x1 : Shape := ⟨2, ![1, 1]⟩
abbrev S1024 : Shape := ⟨1, ![1024]⟩

abbrev nBuf : Space → Nat
  | .hbm => 6
  | .vmem => 9
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .f32⟩
  | .hbm, ⟨3, _⟩ => ⟨S1x128, .f32⟩
  | .hbm, ⟨4, _⟩ => ⟨S4096x1024, .f32⟩
  | .hbm, ⟨5, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S1x128, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference10Ideal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩
abbrev S1x128 : Shape := ⟨2, ![1, 128]⟩

abbrev nBuf : Space → Nat
  | .hbm => 69
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S_, .f32⟩
  | .hbm, ⟨25, _⟩ => ⟨S4096x1024, .f32⟩
  | .hbm, ⟨26, _⟩ => ⟨S4096x1024, .f32⟩
  | .hbm, ⟨27, _⟩ => ⟨S_, .f32⟩
  | .hbm, ⟨28, _⟩ => ⟨S4096, .f32⟩
  | .hbm, ⟨29, _⟩ => ⟨S_, .f32⟩
  | .hbm, ⟨30, _⟩ => ⟨S4096, .f32⟩
  | .hbm, ⟨31, _⟩ => ⟨S4096, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S4096, .f32⟩
  | .hbm, ⟨40, _⟩ => ⟨S_, .f32⟩
  | .hbm, ⟨41, _⟩ => ⟨S4096, .f32⟩
  | .hbm, ⟨42, _⟩ => ⟨S4096, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S_, .f32⟩
  | .hbm, ⟨47, _⟩ => ⟨S1024, .f32⟩
  | .hbm, ⟨48, _⟩ => ⟨S1x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S_, .f32⟩
  | .hbm, ⟨53, _⟩ => ⟨S4096, .f32⟩
  | .hbm, ⟨54, _⟩ => ⟨S4096x1, .f32⟩
  | .hbm, ⟨55, _⟩ => ⟨S4096x1024, .f32⟩
  | .hbm, ⟨56, _⟩ => ⟨S4096x1024, .f32⟩
  | .hbm, ⟨57, _⟩ => ⟨S4096x1, .f32⟩
  | .hbm, ⟨58, _⟩ => ⟨S_, .f32⟩
  | .hbm, ⟨59, _⟩ => ⟨S4096x1, .f32⟩
  | .hbm, ⟨60, _⟩ => ⟨S4096x1, .f32⟩
  | .hbm, ⟨61, _⟩ => ⟨S_, .f32⟩
  | .hbm, ⟨62, _⟩ => ⟨S4096, .f32⟩
  | .hbm, ⟨63, _⟩ => ⟨S4096x1024, .f32⟩
  | .hbm, ⟨64, _⟩ => ⟨S4096x1024, .f32⟩
  | .hbm, ⟨65, _⟩ => ⟨S4096x1024, .f32⟩
  | .hbm, ⟨66, _⟩ => ⟨S4096x1024, .f32⟩
  | .hbm, ⟨67, _⟩ => ⟨S4096x1024, .f32⟩
  | .hbm, ⟨68, _⟩ => ⟨S1x128, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_cst_5 : Ref sig .tc := ⟨.hbm, 29, rfl⟩
abbrev main_v20 : Ref sig .tc := ⟨.hbm, 30, rfl⟩
abbrev main_v21 : Ref sig .tc := ⟨.hbm, 31, rfl⟩
abbrev main_cst_6 : Ref sig .tc := ⟨.hbm, 32, rfl⟩
abbrev main_v22 : Ref sig .tc := ⟨.hbm, 33, rfl⟩
abbrev main_cst_7 : Ref sig .tc := ⟨.hbm, 34, rfl⟩
abbrev main_v23 : Ref sig .tc := ⟨.hbm, 35, rfl⟩
abbrev main_cst_8 : Ref sig .tc := ⟨.hbm, 36, rfl⟩
abbrev main_cst_9 : Ref sig .tc := ⟨.hbm, 37, rfl⟩
abbrev main_v24 : Ref sig .tc := ⟨.hbm, 38, rfl⟩
abbrev main_v25 : Ref sig .tc := ⟨.hbm, 39, rfl⟩
abbrev main_cst_10 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_11 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_13 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩

abbrev nD : Nat := 1
abbrev τ : Topo := Topo.v7x

variable {F : FTy → Type} [FloatOps F]
-- ==== Kernel11.lean ====
abbrev S192x128 : Shape := ⟨2, ![192, 128]⟩

abbrev nBuf : Space → Nat
  | .hbm => 7
  | .vmem => 7
  | .smem => 0
  | _ => 0

abbrev bufTy : (tb : Table) → Fin (tcTables nBuf tb) → BufTy
  | .hbm, ⟨0, _⟩ => ⟨S192x128, .f32⟩
  | .hbm, ⟨1, _⟩ => ⟨S192x128, .f32⟩
  | .hbm, ⟨2, _⟩ => ⟨S192x128, .f32⟩
  | .hbm, ⟨3, _⟩ => ⟨S192x128, .f32⟩
  | .hbm, ⟨4, _⟩ => ⟨S192x128, .f32⟩
  | .hbm, ⟨5, _⟩ => ⟨S192x128, .f32⟩
  | .hbm, ⟨6, _⟩ => ⟨S192x128, .f32⟩
  | .local _ .vmem, ⟨0, _⟩ => ⟨S192x128, .f32⟩
  | .local _ .vmem, ⟨1, _⟩ => ⟨S192x128, .f32⟩
  | .local _ .vmem, ⟨2, _⟩ => ⟨S192x128, .f32⟩
  | .local _ .vmem, ⟨3, _⟩ => ⟨S192x128, .f32⟩
  | .local _ .vmem, ⟨4, _⟩ => ⟨S192x128, .f32⟩
  | .local _ .vmem, ⟨5, _⟩ => ⟨S192x128, .f32⟩
  | .local _ .vmem, ⟨6, _⟩ => ⟨S192x128, .f32⟩
  | _, _ => ⟨S192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S192x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S192x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S192x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S192x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S192x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S192x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S192x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference11Ideal.lean ====
abbrev S192x128 : Shape := ⟨2, ![192, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S192x128, .f32⟩
  | .hbm, ⟨1, _⟩ => ⟨S192x128, .f32⟩
  | .hbm, ⟨2, _⟩ => ⟨S192x128, .f32⟩
  | .hbm, ⟨3, _⟩ => ⟨S192x128, .f32⟩
  | .hbm, ⟨4, _⟩ => ⟨S_, .f32⟩
  | .hbm, ⟨5, _⟩ => ⟨S192x128, .f32⟩
  | .hbm, ⟨6, _⟩ => ⟨S192x128, .f32⟩
  | .hbm, ⟨7, _⟩ => ⟨S_, .f32⟩
  | .hbm, ⟨8, _⟩ => ⟨S192x128, .f32⟩
  | .hbm, ⟨9, _⟩ => ⟨S192x128, .f32⟩
  | .hbm, ⟨10, _⟩ => ⟨S192x128, .f32⟩
  | .hbm, ⟨11, _⟩ => ⟨S_, .f32⟩
  | .hbm, ⟨12, _⟩ => ⟨S192x128, .f32⟩
  | .hbm, ⟨13, _⟩ => ⟨S192x128, .f32⟩
  | .hbm, ⟨14, _⟩ => ⟨S192x128, .f32⟩
  | .hbm, ⟨15, _⟩ => ⟨S_, .f32⟩
  | .hbm, ⟨16, _⟩ => ⟨S192x128, .f32⟩
  | .hbm, ⟨17, _⟩ => ⟨S192x128, .f32⟩
  | .hbm, ⟨18, _⟩ => ⟨S192x128, .f32⟩
  | .hbm, ⟨19, _⟩ => ⟨S_, .f32⟩
  | .hbm, ⟨20, _⟩ => ⟨S192x128, .f32⟩
  | .hbm, ⟨21, _⟩ => ⟨S192x128, .f32⟩
  | .hbm, ⟨22, _⟩ => ⟨S_, .f32⟩
  | .hbm, ⟨23, _⟩ => ⟨S192x128, .f32⟩
  | .hbm, ⟨24, _⟩ => ⟨S192x128, .f32⟩
  | .hbm, ⟨25, _⟩ => ⟨S192x128, .f32⟩
  | .hbm, ⟨26, _⟩ => ⟨S_, .f32⟩
  | .hbm, ⟨27, _⟩ => ⟨S192x128, .f32⟩
  | .hbm, ⟨28, _⟩ => ⟨S192x128, .f32⟩
  | .hbm, ⟨29, _⟩ => ⟨S192x128, .f32⟩
  | .hbm, ⟨30, _⟩ => ⟨S_, .f32⟩
  | .hbm, ⟨31, _⟩ => ⟨S192x128, .f32⟩
  | .hbm, ⟨32, _⟩ => ⟨S192x128, .f32⟩
  | .hbm, ⟨33, _⟩ => ⟨S192x128, .f32⟩
  | .hbm, ⟨34, _⟩ => ⟨S_, .f32⟩
  | .hbm, ⟨35, _⟩ => ⟨S192x128, .f32⟩
  | .hbm, ⟨36, _⟩ => ⟨S192x128, .f32⟩
  | _, _ => ⟨S192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel12.lean ====
abbrev S4096x1408 : Shape := ⟨2, ![4096, 1408]⟩
abbrev S128x1408 : Shape := ⟨2, ![128, 1408]⟩

abbrev nBuf : Space → Nat
  | .hbm => 7
  | .vmem => 14
  | .smem => 0
  | _ => 0

abbrev bufTy : (tb : Table) → Fin (tcTables nBuf tb) → BufTy
  | .hbm, ⟨0, _⟩ => ⟨S4096x1408, .f32⟩
  | .hbm, ⟨1, _⟩ => ⟨S4096x1408, .f32⟩
  | .hbm, ⟨2, _⟩ => ⟨S4096x1408, .f32⟩
  | .hbm, ⟨3, _⟩ => ⟨S4096x1408, .f32⟩
  | .hbm, ⟨4, _⟩ => ⟨S4096x1408, .f32⟩
  | .hbm, ⟨5, _⟩ => ⟨S4096x1408, .f32⟩
  | .hbm, ⟨6, _⟩ => ⟨S4096x1408, .f32⟩
  | .local _ .vmem, ⟨0, _⟩ => ⟨S128x1408, .f32⟩
  | .local _ .vmem, ⟨1, _⟩ => ⟨S128x1408, .f32⟩
  | .local _ .vmem, ⟨2, _⟩ => ⟨S128x1408, .f32⟩
  | .local _ .vmem, ⟨3, _⟩ => ⟨S128x1408, .f32⟩
  | .local _ .vmem, ⟨4, _⟩ => ⟨S128x1408, .f32⟩
  | .local _ .vmem, ⟨5, _⟩ => ⟨S128x1408, .f32⟩
  | .local _ .vmem, ⟨6, _⟩ => ⟨S128x1408, .f32⟩
  | .local _ .vmem, ⟨7, _⟩ => ⟨S128x1408, .f32⟩
  | .local _ .vmem, ⟨8, _⟩ => ⟨S128x1408, .f32⟩
  | .local _ .vmem, ⟨9, _⟩ => ⟨S128x1408, .f32⟩
  | .local _ .vmem, ⟨10, _⟩ => ⟨S128x1408, .f32⟩
  | .local _ .vmem, ⟨11, _⟩ => ⟨S128x1408, .f32⟩
  | .local _ .vmem, ⟨12, _⟩ => ⟨S128x1408, .f32⟩
  | .local _ .vmem, ⟨13, _⟩ => ⟨S128x1408, .f32⟩
  | _, _ => ⟨S4096x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference12Ideal.lean ====
abbrev S4096x1408 : Shape := ⟨2, ![4096, 1408]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4096x1408, .f32⟩
  | .hbm, ⟨1, _⟩ => ⟨S4096x1408, .f32⟩
  | .hbm, ⟨2, _⟩ => ⟨S4096x1408, .f32⟩
  | .hbm, ⟨3, _⟩ => ⟨S4096x1408, .f32⟩
  | .hbm, ⟨4, _⟩ => ⟨S_, .f32⟩
  | .hbm, ⟨5, _⟩ => ⟨S4096x1408, .f32⟩
  | .hbm, ⟨6, _⟩ => ⟨S4096x1408, .f32⟩
  | .hbm, ⟨7, _⟩ => ⟨S_, .f32⟩
  | .hbm, ⟨8, _⟩ => ⟨S4096x1408, .f32⟩
  | .hbm, ⟨9, _⟩ => ⟨S4096x1408, .f32⟩
  | .hbm, ⟨10, _⟩ => ⟨S4096x1408, .f32⟩
  | .hbm, ⟨11, _⟩ => ⟨S_, .f32⟩
  | .hbm, ⟨12, _⟩ => ⟨S4096x1408, .f32⟩
  | .hbm, ⟨13, _⟩ => ⟨S4096x1408, .f32⟩
  | .hbm, ⟨14, _⟩ => ⟨S4096x1408, .f32⟩
  | .hbm, ⟨15, _⟩ => ⟨S_, .f32⟩
  | .hbm, ⟨16, _⟩ => ⟨S4096x1408, .f32⟩
  | .hbm, ⟨17, _⟩ => ⟨S4096x1408, .f32⟩
  | .hbm, ⟨18, _⟩ => ⟨S4096x1408, .f32⟩
  | .hbm, ⟨19, _⟩ => ⟨S_, .f32⟩
  | .hbm, ⟨20, _⟩ => ⟨S4096x1408, .f32⟩
  | .hbm, ⟨21, _⟩ => ⟨S4096x1408, .f32⟩
  | .hbm, ⟨22, _⟩ => ⟨S_, .f32⟩
  | .hbm, ⟨23, _⟩ => ⟨S4096x1408, .f32⟩
  | .hbm, ⟨24, _⟩ => ⟨S4096x1408, .f32⟩
  | .hbm, ⟨25, _⟩ => ⟨S4096x1408, .f32⟩
  | .hbm, ⟨26, _⟩ => ⟨S_, .f32⟩
  | .hbm, ⟨27, _⟩ => ⟨S4096x1408, .f32⟩
  | .hbm, ⟨28, _⟩ => ⟨S4096x1408, .f32⟩
  | .hbm, ⟨29, _⟩ => ⟨S4096x1408, .f32⟩
  | .hbm, ⟨30, _⟩ => ⟨S_, .f32⟩
  | .hbm, ⟨31, _⟩ => ⟨S4096x1408, .f32⟩
  | .hbm, ⟨32, _⟩ => ⟨S4096x1408, .f32⟩
  | .hbm, ⟨33, _⟩ => ⟨S4096x1408, .f32⟩
  | .hbm, ⟨34, _⟩ => ⟨S_, .f32⟩
  | .hbm, ⟨35, _⟩ => ⟨S4096x1408, .f32⟩
  | .hbm, ⟨36, _⟩ => ⟨S4096x1408, .f32⟩
  | _, _ => ⟨S4096x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel13.lean ====
abbrev S2816x1024 : Shape := ⟨2, ![2816, 1024]⟩
abbrev S256x1024 : Shape := ⟨2, ![256, 1024]⟩

abbrev nBuf : Space → Nat
  | .hbm => 7
  | .vmem => 14
  | .smem => 0
  | _ => 0

abbrev bufTy : (tb : Table) → Fin (tcTables nBuf tb) → BufTy
  | .hbm, ⟨0, _⟩ => ⟨S2816x1024, .f32⟩
  | .hbm, ⟨1, _⟩ => ⟨S2816x1024, .f32⟩
  | .hbm, ⟨2, _⟩ => ⟨S2816x1024, .f32⟩
  | .hbm, ⟨3, _⟩ => ⟨S2816x1024, .f32⟩
  | .hbm, ⟨4, _⟩ => ⟨S2816x1024, .f32⟩
  | .hbm, ⟨5, _⟩ => ⟨S2816x1024, .f32⟩
  | .hbm, ⟨6, _⟩ => ⟨S2816x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S2816x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference13Ideal.lean ====
abbrev S2816x1024 : Shape := ⟨2, ![2816, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2816x1024, .f32⟩
  | .hbm, ⟨1, _⟩ => ⟨S2816x1024, .f32⟩
  | .hbm, ⟨2, _⟩ => ⟨S2816x1024, .f32⟩
  | .hbm, ⟨3, _⟩ => ⟨S2816x1024, .f32⟩
  | .hbm, ⟨4, _⟩ => ⟨S_, .f32⟩
  | .hbm, ⟨5, _⟩ => ⟨S2816x1024, .f32⟩
  | .hbm, ⟨6, _⟩ => ⟨S2816x1024, .f32⟩
  | .hbm, ⟨7, _⟩ => ⟨S_, .f32⟩
  | .hbm, ⟨8, _⟩ => ⟨S2816x1024, .f32⟩
  | .hbm, ⟨9, _⟩ => ⟨S2816x1024, .f32⟩
  | .hbm, ⟨10, _⟩ => ⟨S2816x1024, .f32⟩
  | .hbm, ⟨11, _⟩ => ⟨S_, .f32⟩
  | .hbm, ⟨12, _⟩ => ⟨S2816x1024, .f32⟩
  | .hbm, ⟨13, _⟩ => ⟨S2816x1024, .f32⟩
  | .hbm, ⟨14, _⟩ => ⟨S2816x1024, .f32⟩
  | .hbm, ⟨15, _⟩ => ⟨S_, .f32⟩
  | .hbm, ⟨16, _⟩ => ⟨S2816x1024, .f32⟩
  | .hbm, ⟨17, _⟩ => ⟨S2816x1024, .f32⟩
  | .hbm, ⟨18, _⟩ => ⟨S2816x1024, .f32⟩
  | .hbm, ⟨19, _⟩ => ⟨S_, .f32⟩
  | .hbm, ⟨20, _⟩ => ⟨S2816x1024, .f32⟩
  | .hbm, ⟨21, _⟩ => ⟨S2816x1024, .f32⟩
  | .hbm, ⟨22, _⟩ => ⟨S_, .f32⟩
  | .hbm, ⟨23, _⟩ => ⟨S2816x1024, .f32⟩
  | .hbm, ⟨24, _⟩ => ⟨S2816x1024, .f32⟩
  | .hbm, ⟨25, _⟩ => ⟨S2816x1024, .f32⟩
  | .hbm, ⟨26, _⟩ => ⟨S_, .f32⟩
  | .hbm, ⟨27, _⟩ => ⟨S2816x1024, .f32⟩
  | .hbm, ⟨28, _⟩ => ⟨S2816x1024, .f32⟩
  | .hbm, ⟨29, _⟩ => ⟨S2816x1024, .f32⟩
  | .hbm, ⟨30, _⟩ => ⟨S_, .f32⟩
  | .hbm, ⟨31, _⟩ => ⟨S2816x1024, .f32⟩
  | .hbm, ⟨32, _⟩ => ⟨S2816x1024, .f32⟩
  | .hbm, ⟨33, _⟩ => ⟨S2816x1024, .f32⟩
  | .hbm, ⟨34, _⟩ => ⟨S_, .f32⟩
  | .hbm, ⟨35, _⟩ => ⟨S2816x1024, .f32⟩
  | .hbm, ⟨36, _⟩ => ⟨S2816x1024, .f32⟩
  | _, _ => ⟨S2816x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel14.lean ====
abbrev S2048x768 : Shape := ⟨2, ![2048, 768]⟩
abbrev S256x768 : Shape := ⟨2, ![256, 768]⟩

abbrev nBuf : Space → Nat
  | .hbm => 7
  | .vmem => 14
  | .smem => 0
  | _ => 0

abbrev bufTy : (tb : Table) → Fin (tcTables nBuf tb) → BufTy
  | .hbm, ⟨0, _⟩ => ⟨S2048x768, .f32⟩
  | .hbm, ⟨1, _⟩ => ⟨S2048x768, .f32⟩
  | .hbm, ⟨2, _⟩ => ⟨S2048x768, .f32⟩
  | .hbm, ⟨3, _⟩ => ⟨S2048x768, .f32⟩
  | .hbm, ⟨4, _⟩ => ⟨S2048x768, .f32⟩
  | .hbm, ⟨5, _⟩ => ⟨S2048x768, .f32⟩
  | .hbm, ⟨6, _⟩ => ⟨S2048x768, .f32⟩
  | .local _ .vmem, ⟨0, _⟩ => ⟨S256x768, .f32⟩
  | .local _ .vmem, ⟨1, _⟩ => ⟨S256x768, .f32⟩
  | .local _ .vmem, ⟨2, _⟩ => ⟨S256x768, .f32⟩
  | .local _ .vmem, ⟨3, _⟩ => ⟨S256x768, .f32⟩
  | .local _ .vmem, ⟨4, _⟩ => ⟨S256x768, .f32⟩
  | .local _ .vmem, ⟨5, _⟩ => ⟨S256x768, .f32⟩
  | .local _ .vmem, ⟨6, _⟩ => ⟨S256x768, .f32⟩
  | .local _ .vmem, ⟨7, _⟩ => ⟨S256x768, .f32⟩
  | .local _ .vmem, ⟨8, _⟩ => ⟨S256x768, .f32⟩
  | .local _ .vmem, ⟨9, _⟩ => ⟨S256x768, .f32⟩
  | .local _ .vmem, ⟨10, _⟩ => ⟨S256x768, .f32⟩
  | .local _ .vmem, ⟨11, _⟩ => ⟨S256x768, .f32⟩
  | .local _ .vmem, ⟨12, _⟩ => ⟨S256x768, .f32⟩
  | .local _ .vmem, ⟨13, _⟩ => ⟨S256x768, .f32⟩
  | _, _ => ⟨S2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference14Ideal.lean ====
abbrev S2048x768 : Shape := ⟨2, ![2048, 768]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x768, .f32⟩
  | .hbm, ⟨1, _⟩ => ⟨S2048x768, .f32⟩
  | .hbm, ⟨2, _⟩ => ⟨S2048x768, .f32⟩
  | .hbm, ⟨3, _⟩ => ⟨S2048x768, .f32⟩
  | .hbm, ⟨4, _⟩ => ⟨S_, .f32⟩
  | .hbm, ⟨5, _⟩ => ⟨S2048x768, .f32⟩
  | .hbm, ⟨6, _⟩ => ⟨S2048x768, .f32⟩
  | .hbm, ⟨7, _⟩ => ⟨S_, .f32⟩
  | .hbm, ⟨8, _⟩ => ⟨S2048x768, .f32⟩
  | .hbm, ⟨9, _⟩ => ⟨S2048x768, .f32⟩
  | .hbm, ⟨10, _⟩ => ⟨S2048x768, .f32⟩
  | .hbm, ⟨11, _⟩ => ⟨S_, .f32⟩
  | .hbm, ⟨12, _⟩ => ⟨S2048x768, .f32⟩
  | .hbm, ⟨13, _⟩ => ⟨S2048x768, .f32⟩
  | .hbm, ⟨14, _⟩ => ⟨S2048x768, .f32⟩
  | .hbm, ⟨15, _⟩ => ⟨S_, .f32⟩
  | .hbm, ⟨16, _⟩ => ⟨S2048x768, .f32⟩
  | .hbm, ⟨17, _⟩ => ⟨S2048x768, .f32⟩
  | .hbm, ⟨18, _⟩ => ⟨S2048x768, .f32⟩
  | .hbm, ⟨19, _⟩ => ⟨S_, .f32⟩
  | .hbm, ⟨20, _⟩ => ⟨S2048x768, .f32⟩
  | .hbm, ⟨21, _⟩ => ⟨S2048x768, .f32⟩
  | .hbm, ⟨22, _⟩ => ⟨S_, .f32⟩
  | .hbm, ⟨23, _⟩ => ⟨S2048x768, .f32⟩
  | .hbm, ⟨24, _⟩ => ⟨S2048x768, .f32⟩
  | .hbm, ⟨25, _⟩ => ⟨S2048x768, .f32⟩
  | .hbm, ⟨26, _⟩ => ⟨S_, .f32⟩
  | .hbm, ⟨27, _⟩ => ⟨S2048x768, .f32⟩
  | .hbm, ⟨28, _⟩ => ⟨S2048x768, .f32⟩
  | .hbm, ⟨29, _⟩ => ⟨S2048x768, .f32⟩
  | .hbm, ⟨30, _⟩ => ⟨S_, .f32⟩
  | .hbm, ⟨31, _⟩ => ⟨S2048x768, .f32⟩
  | .hbm, ⟨32, _⟩ => ⟨S2048x768, .f32⟩
  | .hbm, ⟨33, _⟩ => ⟨S2048x768, .f32⟩
  | .hbm, ⟨34, _⟩ => ⟨S_, .f32⟩
  | .hbm, ⟨35, _⟩ => ⟨S2048x768, .f32⟩
  | .hbm, ⟨36, _⟩ => ⟨S2048x768, .f32⟩
  | _, _ => ⟨S2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel15.lean ====
abbrev S512x1024 : Shape := ⟨2, ![512, 1024]⟩
abbrev S256x1024 : Shape := ⟨2, ![256, 1024]⟩

abbrev nBuf : Space → Nat
  | .hbm => 7
  | .vmem => 14
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S512x1024, .f32⟩
  | .hbm, ⟨3, _⟩ => ⟨S512x1024, .f32⟩
  | .hbm, ⟨4, _⟩ => ⟨S512x1024, .f32⟩
  | .hbm, ⟨5, _⟩ => ⟨S512x1024, .f32⟩
  | .hbm, ⟨6, _⟩ => ⟨S512x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference15Ideal.lean ====
abbrev S512x1024 : Shape := ⟨2, ![512, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S512x1024, .f32⟩
  | .hbm, ⟨3, _⟩ => ⟨S512x1024, .f32⟩
  | .hbm, ⟨4, _⟩ => ⟨S_, .f32⟩
  | .hbm, ⟨5, _⟩ => ⟨S512x1024, .f32⟩
  | .hbm, ⟨6, _⟩ => ⟨S512x1024, .f32⟩
  | .hbm, ⟨7, _⟩ => ⟨S_, .f32⟩
  | .hbm, ⟨8, _⟩ => ⟨S512x1024, .f32⟩
  | .hbm, ⟨9, _⟩ => ⟨S512x1024, .f32⟩
  | .hbm, ⟨10, _⟩ => ⟨S512x1024, .f32⟩
  | .hbm, ⟨11, _⟩ => ⟨S_, .f32⟩
  | .hbm, ⟨12, _⟩ => ⟨S512x1024, .f32⟩
  | .hbm, ⟨13, _⟩ => ⟨S512x1024, .f32⟩
  | .hbm, ⟨14, _⟩ => ⟨S512x1024, .f32⟩
  | .hbm, ⟨15, _⟩ => ⟨S_, .f32⟩
  | .hbm, ⟨16, _⟩ => ⟨S512x1024, .f32⟩
  | .hbm, ⟨17, _⟩ => ⟨S512x1024, .f32⟩
  | .hbm, ⟨18, _⟩ => ⟨S512x1024, .f32⟩
  | .hbm, ⟨19, _⟩ => ⟨S_, .f32⟩
  | .hbm, ⟨20, _⟩ => ⟨S512x1024, .f32⟩
  | .hbm, ⟨21, _⟩ => ⟨S512x1024, .f32⟩
  | .hbm, ⟨22, _⟩ => ⟨S_, .f32⟩
  | .hbm, ⟨23, _⟩ => ⟨S512x1024, .f32⟩
  | .hbm, ⟨24, _⟩ => ⟨S512x1024, .f32⟩
  | .hbm, ⟨25, _⟩ => ⟨S512x1024, .f32⟩
  | .hbm, ⟨26, _⟩ => ⟨S_, .f32⟩
  | .hbm, ⟨27, _⟩ => ⟨S512x1024, .f32⟩
  | .hbm, ⟨28, _⟩ => ⟨S512x1024, .f32⟩
  | .hbm, ⟨29, _⟩ => ⟨S512x1024, .f32⟩
  | .hbm, ⟨30, _⟩ => ⟨S_, .f32⟩
  | .hbm, ⟨31, _⟩ => ⟨S512x1024, .f32⟩
  | .hbm, ⟨32, _⟩ => ⟨S512x1024, .f32⟩
  | .hbm, ⟨33, _⟩ => ⟨S512x1024, .f32⟩
  | .hbm, ⟨34, _⟩ => ⟨S_, .f32⟩
  | .hbm, ⟨35, _⟩ => ⟨S512x1024, .f32⟩
  | .hbm, ⟨36, _⟩ => ⟨S512x1024, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel16.lean ====
abbrev S1024x1544 : Shape := ⟨2, ![1024, 1544]⟩
abbrev S128x1544 : Shape := ⟨2, ![128, 1544]⟩

abbrev nBuf : Space → Nat
  | .hbm => 7
  | .vmem => 14
  | .smem => 0
  | _ => 0

abbrev bufTy : (tb : Table) → Fin (tcTables nBuf tb) → BufTy
  | .hbm, ⟨0, _⟩ => ⟨S1024x1544, .f32⟩
  | .hbm, ⟨1, _⟩ => ⟨S1024x1544, .f32⟩
  | .hbm, ⟨2, _⟩ => ⟨S1024x1544, .f32⟩
  | .hbm, ⟨3, _⟩ => ⟨S1024x1544, .f32⟩
  | .hbm, ⟨4, _⟩ => ⟨S1024x1544, .f32⟩
  | .hbm, ⟨5, _⟩ => ⟨S1024x1544, .f32⟩
  | .hbm, ⟨6, _⟩ => ⟨S1024x1544, .f32⟩
  | .local _ .vmem, ⟨0, _⟩ => ⟨S128x1544, .f32⟩
  | .local _ .vmem, ⟨1, _⟩ => ⟨S128x1544, .f32⟩
  | .local _ .vmem, ⟨2, _⟩ => ⟨S128x1544, .f32⟩
  | .local _ .vmem, ⟨3, _⟩ => ⟨S128x1544, .f32⟩
  | .local _ .vmem, ⟨4, _⟩ => ⟨S128x1544, .f32⟩
  | .local _ .vmem, ⟨5, _⟩ => ⟨S128x1544, .f32⟩
  | .local _ .vmem, ⟨6, _⟩ => ⟨S128x1544, .f32⟩
  | .local _ .vmem, ⟨7, _⟩ => ⟨S128x1544, .f32⟩
  | .local _ .vmem, ⟨8, _⟩ => ⟨S128x1544, .f32⟩
  | .local _ .vmem, ⟨9, _⟩ => ⟨S128x1544, .f32⟩
  | .local _ .vmem, ⟨10, _⟩ => ⟨S128x1544, .f32⟩
  | .local _ .vmem, ⟨11, _⟩ => ⟨S128x1544, .f32⟩
  | .local _ .vmem, ⟨12, _⟩ => ⟨S128x1544, .f32⟩
  | .local _ .vmem, ⟨13, _⟩ => ⟨S128x1544, .f32⟩
  | _, _ => ⟨S1024x1544, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1544 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1544 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1544 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1544 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1544 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1544 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1544 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference16Ideal.lean ====
abbrev S1024x1544 : Shape := ⟨2, ![1024, 1544]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x1544, .f32⟩
  | .hbm, ⟨1, _⟩ => ⟨S1024x1544, .f32⟩
  | .hbm, ⟨2, _⟩ => ⟨S1024x1544, .f32⟩
  | .hbm, ⟨3, _⟩ => ⟨S1024x1544, .f32⟩
  | .hbm, ⟨4, _⟩ => ⟨S_, .f32⟩
  | .hbm, ⟨5, _⟩ => ⟨S1024x1544, .f32⟩
  | .hbm, ⟨6, _⟩ => ⟨S1024x1544, .f32⟩
  | .hbm, ⟨7, _⟩ => ⟨S_, .f32⟩
  | .hbm, ⟨8, _⟩ => ⟨S1024x1544, .f32⟩
  | .hbm, ⟨9, _⟩ => ⟨S1024x1544, .f32⟩
  | .hbm, ⟨10, _⟩ => ⟨S1024x1544, .f32⟩
  | .hbm, ⟨11, _⟩ => ⟨S_, .f32⟩
  | .hbm, ⟨12, _⟩ => ⟨S1024x1544, .f32⟩
  | .hbm, ⟨13, _⟩ => ⟨S1024x1544, .f32⟩
  | .hbm, ⟨14, _⟩ => ⟨S1024x1544, .f32⟩
  | .hbm, ⟨15, _⟩ => ⟨S_, .f32⟩
  | .hbm, ⟨16, _⟩ => ⟨S1024x1544, .f32⟩
  | .hbm, ⟨17, _⟩ => ⟨S1024x1544, .f32⟩
  | .hbm, ⟨18, _⟩ => ⟨S1024x1544, .f32⟩
  | .hbm, ⟨19, _⟩ => ⟨S_, .f32⟩
  | .hbm, ⟨20, _⟩ => ⟨S1024x1544, .f32⟩
  | .hbm, ⟨21, _⟩ => ⟨S1024x1544, .f32⟩
  | .hbm, ⟨22, _⟩ => ⟨S_, .f32⟩
  | .hbm, ⟨23, _⟩ => ⟨S1024x1544, .f32⟩
  | .hbm, ⟨24, _⟩ => ⟨S1024x1544, .f32⟩
  | .hbm, ⟨25, _⟩ => ⟨S1024x1544, .f32⟩
  | .hbm, ⟨26, _⟩ => ⟨S_, .f32⟩
  | .hbm, ⟨27, _⟩ => ⟨S1024x1544, .f32⟩
  | .hbm, ⟨28, _⟩ => ⟨S1024x1544, .f32⟩
  | .hbm, ⟨29, _⟩ => ⟨S1024x1544, .f32⟩
  | .hbm, ⟨30, _⟩ => ⟨S_, .f32⟩
  | .hbm, ⟨31, _⟩ => ⟨S1024x1544, .f32⟩
  | .hbm, ⟨32, _⟩ => ⟨S1024x1544, .f32⟩
  | .hbm, ⟨33, _⟩ => ⟨S1024x1544, .f32⟩
  | .hbm, ⟨34, _⟩ => ⟨S_, .f32⟩
  | .hbm, ⟨35, _⟩ => ⟨S1024x1544, .f32⟩
  | .hbm, ⟨36, _⟩ => ⟨S1024x1544, .f32⟩
  | _, _ => ⟨S1024x1544, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel17.lean ====
abbrev S1024x768 : Shape := ⟨2, ![1024, 768]⟩
abbrev S256x768 : Shape := ⟨2, ![256, 768]⟩

abbrev nBuf : Space → Nat
  | .hbm => 7
  | .vmem => 14
  | .smem => 0
  | _ => 0

abbrev bufTy : (tb : Table) → Fin (tcTables nBuf tb) → BufTy
  | .hbm, ⟨0, _⟩ => ⟨S1024x768, .f32⟩
  | .hbm, ⟨1, _⟩ => ⟨S1024x768, .f32⟩
  | .hbm, ⟨2, _⟩ => ⟨S1024x768, .f32⟩
  | .hbm, ⟨3, _⟩ => ⟨S1024x768, .f32⟩
  | .hbm, ⟨4, _⟩ => ⟨S1024x768, .f32⟩
  | .hbm, ⟨5, _⟩ => ⟨S1024x768, .f32⟩
  | .hbm, ⟨6, _⟩ => ⟨S1024x768, .f32⟩
  | .local _ .vmem, ⟨0, _⟩ => ⟨S256x768, .f32⟩
  | .local _ .vmem, ⟨1, _⟩ => ⟨S256x768, .f32⟩
  | .local _ .vmem, ⟨2, _⟩ => ⟨S256x768, .f32⟩
  | .local _ .vmem, ⟨3, _⟩ => ⟨S256x768, .f32⟩
  | .local _ .vmem, ⟨4, _⟩ => ⟨S256x768, .f32⟩
  | .local _ .vmem, ⟨5, _⟩ => ⟨S256x768, .f32⟩
  | .local _ .vmem, ⟨6, _⟩ => ⟨S256x768, .f32⟩
  | .local _ .vmem, ⟨7, _⟩ => ⟨S256x768, .f32⟩
  | .local _ .vmem, ⟨8, _⟩ => ⟨S256x768, .f32⟩
  | .local _ .vmem, ⟨9, _⟩ => ⟨S256x768, .f32⟩
  | .local _ .vmem, ⟨10, _⟩ => ⟨S256x768, .f32⟩
  | .local _ .vmem, ⟨11, _⟩ => ⟨S256x768, .f32⟩
  | .local _ .vmem, ⟨12, _⟩ => ⟨S256x768, .f32⟩
  | .local _ .vmem, ⟨13, _⟩ => ⟨S256x768, .f32⟩
  | _, _ => ⟨S1024x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference17Ideal.lean ====
abbrev S1024x768 : Shape := ⟨2, ![1024, 768]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x768, .f32⟩
  | .hbm, ⟨1, _⟩ => ⟨S1024x768, .f32⟩
  | .hbm, ⟨2, _⟩ => ⟨S1024x768, .f32⟩
  | .hbm, ⟨3, _⟩ => ⟨S1024x768, .f32⟩
  | .hbm, ⟨4, _⟩ => ⟨S_, .f32⟩
  | .hbm, ⟨5, _⟩ => ⟨S1024x768, .f32⟩
  | .hbm, ⟨6, _⟩ => ⟨S1024x768, .f32⟩
  | .hbm, ⟨7, _⟩ => ⟨S_, .f32⟩
  | .hbm, ⟨8, _⟩ => ⟨S1024x768, .f32⟩
  | .hbm, ⟨9, _⟩ => ⟨S1024x768, .f32⟩
  | .hbm, ⟨10, _⟩ => ⟨S1024x768, .f32⟩
  | .hbm, ⟨11, _⟩ => ⟨S_, .f32⟩
  | .hbm, ⟨12, _⟩ => ⟨S1024x768, .f32⟩
  | .hbm, ⟨13, _⟩ => ⟨S1024x768, .f32⟩
  | .hbm, ⟨14, _⟩ => ⟨S1024x768, .f32⟩
  | .hbm, ⟨15, _⟩ => ⟨S_, .f32⟩
  | .hbm, ⟨16, _⟩ => ⟨S1024x768, .f32⟩
  | .hbm, ⟨17, _⟩ => ⟨S1024x768, .f32⟩
  | .hbm, ⟨18, _⟩ => ⟨S1024x768, .f32⟩
  | .hbm, ⟨19, _⟩ => ⟨S_, .f32⟩
  | .hbm, ⟨20, _⟩ => ⟨S1024x768, .f32⟩
  | .hbm, ⟨21, _⟩ => ⟨S1024x768, .f32⟩
  | .hbm, ⟨22, _⟩ => ⟨S_, .f32⟩
  | .hbm, ⟨23, _⟩ => ⟨S1024x768, .f32⟩
  | .hbm, ⟨24, _⟩ => ⟨S1024x768, .f32⟩
  | .hbm, ⟨25, _⟩ => ⟨S1024x768, .f32⟩
  | .hbm, ⟨26, _⟩ => ⟨S_, .f32⟩
  | .hbm, ⟨27, _⟩ => ⟨S1024x768, .f32⟩
  | .hbm, ⟨28, _⟩ => ⟨S1024x768, .f32⟩
  | .hbm, ⟨29, _⟩ => ⟨S1024x768, .f32⟩
  | .hbm, ⟨30, _⟩ => ⟨S_, .f32⟩
  | .hbm, ⟨31, _⟩ => ⟨S1024x768, .f32⟩
  | .hbm, ⟨32, _⟩ => ⟨S1024x768, .f32⟩
  | .hbm, ⟨33, _⟩ => ⟨S1024x768, .f32⟩
  | .hbm, ⟨34, _⟩ => ⟨S_, .f32⟩
  | .hbm, ⟨35, _⟩ => ⟨S1024x768, .f32⟩
  | .hbm, ⟨36, _⟩ => ⟨S1024x768, .f32⟩
  | _, _ => ⟨S1024x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel18.lean ====
abbrev S256x1024 : Shape := ⟨2, ![256, 1024]⟩

abbrev nBuf : Space → Nat
  | .hbm => 7
  | .vmem => 7
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference18Ideal.lean ====
abbrev S256x1024 : Shape := ⟨2, ![256, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S_, .f32⟩
  | .hbm, ⟨5, _⟩ => ⟨S256x1024, .f32⟩
  | .hbm, ⟨6, _⟩ => ⟨S256x1024, .f32⟩
  | .hbm, ⟨7, _⟩ => ⟨S_, .f32⟩
  | .hbm, ⟨8, _⟩ => ⟨S256x1024, .f32⟩
  | .hbm, ⟨9, _⟩ => ⟨S256x1024, .f32⟩
  | .hbm, ⟨10, _⟩ => ⟨S256x1024, .f32⟩
  | .hbm, ⟨11, _⟩ => ⟨S_, .f32⟩
  | .hbm, ⟨12, _⟩ => ⟨S256x1024, .f32⟩
  | .hbm, ⟨13, _⟩ => ⟨S256x1024, .f32⟩
  | .hbm, ⟨14, _⟩ => ⟨S256x1024, .f32⟩
  | .hbm, ⟨15, _⟩ => ⟨S_, .f32⟩
  | .hbm, ⟨16, _⟩ => ⟨S256x1024, .f32⟩
  | .hbm, ⟨17, _⟩ => ⟨S256x1024, .f32⟩
  | .hbm, ⟨18, _⟩ => ⟨S256x1024, .f32⟩
  | .hbm, ⟨19, _⟩ => ⟨S_, .f32⟩
  | .hbm, ⟨20, _⟩ => ⟨S256x1024, .f32⟩
  | .hbm, ⟨21, _⟩ => ⟨S256x1024, .f32⟩
  | .hbm, ⟨22, _⟩ => ⟨S_, .f32⟩
  | .hbm, ⟨23, _⟩ => ⟨S256x1024, .f32⟩
  | .hbm, ⟨24, _⟩ => ⟨S256x1024, .f32⟩
  | .hbm, ⟨25, _⟩ => ⟨S256x1024, .f32⟩
  | .hbm, ⟨26, _⟩ => ⟨S_, .f32⟩
  | .hbm, ⟨27, _⟩ => ⟨S256x1024, .f32⟩
  | .hbm, ⟨28, _⟩ => ⟨S256x1024, .f32⟩
  | .hbm, ⟨29, _⟩ => ⟨S256x1024, .f32⟩
  | .hbm, ⟨30, _⟩ => ⟨S_, .f32⟩
  | .hbm, ⟨31, _⟩ => ⟨S256x1024, .f32⟩
  | .hbm, ⟨32, _⟩ => ⟨S256x1024, .f32⟩
  | .hbm, ⟨33, _⟩ => ⟨S256x1024, .f32⟩
  | .hbm, ⟨34, _⟩ => ⟨S_, .f32⟩
  | .hbm, ⟨35, _⟩ => ⟨S256x1024, .f32⟩
  | .hbm, ⟨36, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel19.lean ====
abbrev S4096x1024 : Shape := ⟨2, ![4096, 1024]⟩
abbrev S1024x3072 : Shape := ⟨2, ![1024, 3072]⟩
abbrev S4096x3072 : Shape := ⟨2, ![4096, 3072]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x3072, .bf16⟩
  | .hbm, ⟨2, _⟩ => ⟨S4096x3072, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference19Ideal.lean ====
abbrev S4096x1024 : Shape := ⟨2, ![4096, 1024]⟩
abbrev S1024x3072 : Shape := ⟨2, ![1024, 3072]⟩
abbrev S4096x3072 : Shape := ⟨2, ![4096, 3072]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x3072, .bf16⟩
  | .hbm, ⟨2, _⟩ => ⟨S4096x1024, .f32⟩
  | .hbm, ⟨3, _⟩ => ⟨S1024x3072, .f32⟩
  | .hbm, ⟨4, _⟩ => ⟨S4096x3072, .f32⟩
  | .hbm, ⟨5, _⟩ => ⟨S4096x3072, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel20.lean ====
abbrev S4096x1024 : Shape := ⟨2, ![4096, 1024]⟩
abbrev S1024x3072 : Shape := ⟨2, ![1024, 3072]⟩
abbrev S4096x3072 : Shape := ⟨2, ![4096, 3072]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x3072, .bf16⟩
  | .hbm, ⟨2, _⟩ => ⟨S4096x3072, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference20Ideal.lean ====
abbrev S4096x1024 : Shape := ⟨2, ![4096, 1024]⟩
abbrev S1024x3072 : Shape := ⟨2, ![1024, 3072]⟩
abbrev S4096x3072 : Shape := ⟨2, ![4096, 3072]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x3072, .bf16⟩
  | .hbm, ⟨2, _⟩ => ⟨S4096x1024, .f32⟩
  | .hbm, ⟨3, _⟩ => ⟨S1024x3072, .f32⟩
  | .hbm, ⟨4, _⟩ => ⟨S4096x3072, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel21.lean ====
abbrev S4096x1024 : Shape := ⟨2, ![4096, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference21Ideal.lean ====
abbrev S4096x1024 : Shape := ⟨2, ![4096, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S4096x1024, .f32⟩
  | .hbm, ⟨4, _⟩ => ⟨S1024x1024, .f32⟩
  | .hbm, ⟨5, _⟩ => ⟨S4096x1024, .f32⟩
  | .hbm, ⟨6, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel22.lean ====
abbrev S4096x1024 : Shape := ⟨2, ![4096, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .f32⟩
  | .hbm, ⟨2, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .f32⟩
  | .local _ .vmem, ⟨3, _⟩ => ⟨S2048x1024, .f32⟩
  | .local _ .vmem, ⟨4, _⟩ => ⟨S1024x1024, .bf16⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond3 (i : grid0.Coords) : BitVec 1 :=
  let arg2 : BitVec 32 := BitVec.ofNat 32 (i 2).val
  let c1_i32_6 : BitVec 32 := 1#32
  let v12 : BitVec 1 := Scalar.cmpi .eq arg2 c1_i32_6
  let v13 : BitVec 32 := Scalar.extui v12
  let c0_i32_7 : BitVec 32 := 0#32
  let v14 : BitVec 1 := Scalar.cmpi .ne v13 c0_i32_7
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference22Ideal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .f32⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S1024x1024, .f32⟩
  | .hbm, ⟨7, _⟩ => ⟨S1024x1024, .f32⟩
  | .hbm, ⟨8, _⟩ => ⟨S1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel23.lean ====
abbrev S4096x1024 : Shape := ⟨2, ![4096, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024x1024, .bf16⟩
  | .hbm, ⟨2, _⟩ => ⟨S4096x1024, .bf16⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference23Ideal.lean ====
abbrev S4096x1024 : Shape := ⟨2, ![4096, 1024]⟩
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .bf16⟩
  | .hbm, ⟨2, _⟩ => ⟨S_, .f32⟩
  | .hbm, ⟨3, _⟩ => ⟨S4096x1024, .f32⟩
  | .hbm, ⟨4, _⟩ => ⟨S1024x1024, .f32⟩
  | .hbm, ⟨5, _⟩ => ⟨S4096x1024, .f32⟩
  | .hbm, ⟨6, _⟩ => ⟨S4096x1024, .f32⟩
  | .hbm, ⟨7, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel24.lean ====
abbrev S4096x1024 : Shape := ⟨2, ![4096, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024x1024, .bf16⟩
  | .hbm, ⟨2, _⟩ => ⟨S4096x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference24Ideal.lean ====
abbrev S4096x1024 : Shape := ⟨2, ![4096, 1024]⟩
abbrev S1024x1024 : Shape := ⟨2, ![1024, 1024]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .bf16⟩
  | .hbm, ⟨2, _⟩ => ⟨S_, .f32⟩
  | .hbm, ⟨3, _⟩ => ⟨S4096x1024, .f32⟩
  | .hbm, ⟨4, _⟩ => ⟨S1024x1024, .f32⟩
  | .hbm, ⟨5, _⟩ => ⟨S4096x1024, .f32⟩
  | .hbm, ⟨6, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel25.lean ====
abbrev S4096x1024 : Shape := ⟨2, ![4096, 1024]⟩
abbrev S4096x3072 : Shape := ⟨2, ![4096, 3072]⟩
abbrev S1024x3072 : Shape := ⟨2, ![1024, 3072]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x3072, .bf16⟩
  | .hbm, ⟨2, _⟩ => ⟨S1024x3072, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 3, 2], ![false, false, false]⟩

def k0_cond3 (i : grid0.Coords) : BitVec 1 :=
  let arg2 : BitVec 32 := BitVec.ofNat 32 (i 2).val
  let c1_i32_6 : BitVec 32 := 1#32
  let v11 : BitVec 1 := Scalar.cmpi .eq arg2 c1_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference25Ideal.lean ====
abbrev S4096x1024 : Shape := ⟨2, ![4096, 1024]⟩
abbrev S4096x3072 : Shape := ⟨2, ![4096, 3072]⟩
abbrev S_ : Shape := ⟨0, ![]⟩
abbrev S1024x3072 : Shape := ⟨2, ![1024, 3072]⟩
abbrev S3072x1024 : Shape := ⟨2, ![3072, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x3072, .bf16⟩
  | .hbm, ⟨2, _⟩ => ⟨S4096x1024, .f32⟩
  | .hbm, ⟨3, _⟩ => ⟨S4096x3072, .f32⟩
  | .hbm, ⟨4, _⟩ => ⟨S_, .f32⟩
  | .hbm, ⟨5, _⟩ => ⟨S1024x3072, .f32⟩
  | .hbm, ⟨6, _⟩ => ⟨S4096x3072, .f32⟩
  | .hbm, ⟨7, _⟩ => ⟨S3072x1024, .f32⟩
  | .hbm, ⟨8, _⟩ => ⟨S1024x3072, .f32⟩
  | .hbm, ⟨9, _⟩ => ⟨S1024x3072, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel26.lean ====
abbrev S4096x3072 : Shape := ⟨2, ![4096, 3072]⟩
abbrev S1024x3072 : Shape := ⟨2, ![1024, 3072]⟩
abbrev S4096x1024 : Shape := ⟨2, ![4096, 1024]⟩
abbrev S1024x1536 : Shape := ⟨2, ![1024, 1536]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x3072, .bf16⟩
  | .hbm, ⟨1, _⟩ => ⟨S1024x3072, .bf16⟩
  | .hbm, ⟨2, _⟩ => ⟨S4096x1024, .f32⟩
  | .local _ .vmem, ⟨0, _⟩ => ⟨S1024x1536, .bf16⟩
  | .local _ .vmem, ⟨1, _⟩ => ⟨S1024x1536, .bf16⟩
  | .local _ .vmem, ⟨2, _⟩ => ⟨S1024x1536, .bf16⟩
  | .local _ .vmem, ⟨3, _⟩ => ⟨S1024x1536, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def k0_cond3 (i : grid0.Coords) : BitVec 1 :=
  let arg2 : BitVec 32 := BitVec.ofNat 32 (i 2).val
  let c1_i32_6 : BitVec 32 := 1#32
  let v11 : BitVec 1 := Scalar.cmpi .eq arg2 c1_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference26Ideal.lean ====
abbrev S4096x3072 : Shape := ⟨2, ![4096, 3072]⟩
abbrev S1024x3072 : Shape := ⟨2, ![1024, 3072]⟩
abbrev S_ : Shape := ⟨0, ![]⟩
abbrev S4096x1024 : Shape := ⟨2, ![4096, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x3072, .bf16⟩
  | .hbm, ⟨1, _⟩ => ⟨S1024x3072, .bf16⟩
  | .hbm, ⟨2, _⟩ => ⟨S4096x3072, .f32⟩
  | .hbm, ⟨3, _⟩ => ⟨S1024x3072, .f32⟩
  | .hbm, ⟨4, _⟩ => ⟨S_, .f32⟩
  | .hbm, ⟨5, _⟩ => ⟨S4096x1024, .f32⟩
  | .hbm, ⟨6, _⟩ => ⟨S4096x3072, .f32⟩
  | .hbm, ⟨7, _⟩ => ⟨S4096x1024, .f32⟩
  | _, _ => ⟨S4096x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel27.lean ====
abbrev S4096x1024 : Shape := ⟨2, ![4096, 1024]⟩
abbrev S1024x2048 : Shape := ⟨2, ![1024, 2048]⟩
abbrev S4096x2048 : Shape := ⟨2, ![4096, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x2048, .bf16⟩
  | .hbm, ⟨2, _⟩ => ⟨S4096x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference27Ideal.lean ====
abbrev S4096x1024 : Shape := ⟨2, ![4096, 1024]⟩
abbrev S1024x2048 : Shape := ⟨2, ![1024, 2048]⟩
abbrev S4096x2048 : Shape := ⟨2, ![4096, 2048]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x2048, .bf16⟩
  | .hbm, ⟨2, _⟩ => ⟨S4096x1024, .f32⟩
  | .hbm, ⟨3, _⟩ => ⟨S1024x2048, .f32⟩
  | .hbm, ⟨4, _⟩ => ⟨S4096x2048, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel28.lean ====
abbrev S4096x1024 : Shape := ⟨2, ![4096, 1024]⟩
abbrev S1024x4096 : Shape := ⟨2, ![1024, 4096]⟩
abbrev S4096x4096 : Shape := ⟨2, ![4096, 4096]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x4096, .bf16⟩
  | .hbm, ⟨2, _⟩ => ⟨S4096x4096, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference28Ideal.lean ====
abbrev S4096x1024 : Shape := ⟨2, ![4096, 1024]⟩
abbrev S1024x4096 : Shape := ⟨2, ![1024, 4096]⟩
abbrev S4096x4096 : Shape := ⟨2, ![4096, 4096]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x4096, .bf16⟩
  | .hbm, ⟨2, _⟩ => ⟨S4096x1024, .f32⟩
  | .hbm, ⟨3, _⟩ => ⟨S1024x4096, .f32⟩
  | .hbm, ⟨4, _⟩ => ⟨S4096x4096, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel29.lean ====
abbrev S4096x1024 : Shape := ⟨2, ![4096, 1024]⟩
abbrev S1024x128 : Shape := ⟨2, ![1024, 128]⟩
abbrev S4096x128 : Shape := ⟨2, ![4096, 128]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x128, .bf16⟩
  | .hbm, ⟨2, _⟩ => ⟨S4096x128, .f32⟩
  | .local _ .vmem, ⟨0, _⟩ => ⟨S1024x1024, .bf16⟩
  | .local _ .vmem, ⟨1, _⟩ => ⟨S1024x1024, .bf16⟩
  | .local _ .vmem, ⟨2, _⟩ => ⟨S1024x128, .bf16⟩
  | .local _ .vmem, ⟨3, _⟩ => ⟨S1024x128, .f32⟩
  | .local _ .vmem, ⟨4, _⟩ => ⟨S1024x128, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference29Ideal.lean ====
abbrev S4096x1024 : Shape := ⟨2, ![4096, 1024]⟩
abbrev S1024x128 : Shape := ⟨2, ![1024, 128]⟩
abbrev S4096x128 : Shape := ⟨2, ![4096, 128]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x128, .bf16⟩
  | .hbm, ⟨2, _⟩ => ⟨S4096x1024, .f32⟩
  | .hbm, ⟨3, _⟩ => ⟨S1024x128, .f32⟩
  | .hbm, ⟨4, _⟩ => ⟨S4096x128, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel30.lean ====
abbrev S4096x2048 : Shape := ⟨2, ![4096, 2048]⟩
abbrev S2048x1024 : Shape := ⟨2, ![2048, 1024]⟩
abbrev S4096x1024 : Shape := ⟨2, ![4096, 1024]⟩
abbrev S1024x2048 : Shape := ⟨2, ![1024, 2048]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S2048x1024, .bf16⟩
  | .hbm, ⟨2, _⟩ => ⟨S4096x1024, .f32⟩
  | .hbm, ⟨3, _⟩ => ⟨S4096x1024, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference30Ideal.lean ====
abbrev S4096x2048 : Shape := ⟨2, ![4096, 2048]⟩
abbrev S2048x1024 : Shape := ⟨2, ![2048, 1024]⟩
abbrev S4096x1024 : Shape := ⟨2, ![4096, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x1024, .bf16⟩
  | .hbm, ⟨2, _⟩ => ⟨S4096x1024, .f32⟩
  | .hbm, ⟨3, _⟩ => ⟨S4096x2048, .f32⟩
  | .hbm, ⟨4, _⟩ => ⟨S2048x1024, .f32⟩
  | .hbm, ⟨5, _⟩ => ⟨S4096x1024, .f32⟩
  | .hbm, ⟨6, _⟩ => ⟨S4096x1024, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel31.lean ====
abbrev S4096x2048 : Shape := ⟨2, ![4096, 2048]⟩
abbrev S4096x1024 : Shape := ⟨2, ![4096, 1024]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x1024, .f32⟩
  | .hbm, ⟨2, _⟩ => ⟨S2048x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .f32⟩
  | .local _ .vmem, ⟨3, _⟩ => ⟨S2048x1024, .f32⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 2], ![false, false, false]⟩

def k0_cond3 (i : grid0.Coords) : BitVec 1 :=
  let arg2 : BitVec 32 := BitVec.ofNat 32 (i 2).val
  let c1_i32_6 : BitVec 32 := 1#32
  let v12 : BitVec 1 := Scalar.cmpi .eq arg2 c1_i32_6
  let v13 : BitVec 32 := Scalar.extui v12
  let c0_i32_7 : BitVec 32 := 0#32
  let v14 : BitVec 1 := Scalar.cmpi .ne v13 c0_i32_7
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference31Ideal.lean ====
abbrev S4096x2048 : Shape := ⟨2, ![4096, 2048]⟩
abbrev S4096x1024 : Shape := ⟨2, ![4096, 1024]⟩
abbrev S_ : Shape := ⟨0, ![]⟩
abbrev S2048x1024 : Shape := ⟨2, ![2048, 1024]⟩
abbrev S1024x2048 : Shape := ⟨2, ![1024, 2048]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x1024, .f32⟩
  | .hbm, ⟨2, _⟩ => ⟨S_, .f32⟩
  | .hbm, ⟨3, _⟩ => ⟨S2048x1024, .f32⟩
  | .hbm, ⟨4, _⟩ => ⟨S4096x2048, .f32⟩
  | .hbm, ⟨5, _⟩ => ⟨S4096x1024, .f32⟩
  | .hbm, ⟨6, _⟩ => ⟨S1024x2048, .f32⟩
  | .hbm, ⟨7, _⟩ => ⟨S2048x1024, .f32⟩
  | .hbm, ⟨8, _⟩ => ⟨S2048x1024, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel32.lean ====
abbrev S4096x1024 : Shape := ⟨2, ![4096, 1024]⟩
abbrev S2048x1024 : Shape := ⟨2, ![2048, 1024]⟩
abbrev S4096x2048 : Shape := ⟨2, ![4096, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S2048x1024, .bf16⟩
  | .hbm, ⟨2, _⟩ => ⟨S4096x2048, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference32Ideal.lean ====
abbrev S4096x1024 : Shape := ⟨2, ![4096, 1024]⟩
abbrev S2048x1024 : Shape := ⟨2, ![2048, 1024]⟩
abbrev S_ : Shape := ⟨0, ![]⟩
abbrev S4096x2048 : Shape := ⟨2, ![4096, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S2048x1024, .bf16⟩
  | .hbm, ⟨2, _⟩ => ⟨S_, .f32⟩
  | .hbm, ⟨3, _⟩ => ⟨S4096x2048, .f32⟩
  | .hbm, ⟨4, _⟩ => ⟨S2048x1024, .f32⟩
  | .hbm, ⟨5, _⟩ => ⟨S4096x1024, .f32⟩
  | .hbm, ⟨6, _⟩ => ⟨S4096x2048, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel33.lean ====
abbrev S4096x1024 : Shape := ⟨2, ![4096, 1024]⟩
abbrev S4096x2048 : Shape := ⟨2, ![4096, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x2048, .bf16⟩
  | .hbm, ⟨2, _⟩ => ⟨S1024x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 2], ![false, false, false]⟩

def k0_cond3 (i : grid0.Coords) : BitVec 1 :=
  let arg2 : BitVec 32 := BitVec.ofNat 32 (i 2).val
  let c1_i32_6 : BitVec 32 := 1#32
  let v11 : BitVec 1 := Scalar.cmpi .eq arg2 c1_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference33Ideal.lean ====
abbrev S4096x1024 : Shape := ⟨2, ![4096, 1024]⟩
abbrev S4096x2048 : Shape := ⟨2, ![4096, 2048]⟩
abbrev S_ : Shape := ⟨0, ![]⟩
abbrev S1024x2048 : Shape := ⟨2, ![1024, 2048]⟩
abbrev S2048x1024 : Shape := ⟨2, ![2048, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x2048, .bf16⟩
  | .hbm, ⟨2, _⟩ => ⟨S4096x1024, .f32⟩
  | .hbm, ⟨3, _⟩ => ⟨S4096x2048, .f32⟩
  | .hbm, ⟨4, _⟩ => ⟨S_, .f32⟩
  | .hbm, ⟨5, _⟩ => ⟨S1024x2048, .f32⟩
  | .hbm, ⟨6, _⟩ => ⟨S4096x2048, .f32⟩
  | .hbm, ⟨7, _⟩ => ⟨S2048x1024, .f32⟩
  | .hbm, ⟨8, _⟩ => ⟨S1024x2048, .f32⟩
  | .hbm, ⟨9, _⟩ => ⟨S1024x2048, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel34.lean ====
abbrev S4096x1024 : Shape := ⟨2, ![4096, 1024]⟩
abbrev S4096x4096 : Shape := ⟨2, ![4096, 4096]⟩
abbrev S1024x4096 : Shape := ⟨2, ![1024, 4096]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x4096, .bf16⟩
  | .hbm, ⟨2, _⟩ => ⟨S1024x4096, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 2], ![false, false, false]⟩

def k0_cond3 (i : grid0.Coords) : BitVec 1 :=
  let arg2 : BitVec 32 := BitVec.ofNat 32 (i 2).val
  let c1_i32_6 : BitVec 32 := 1#32
  let v11 : BitVec 1 := Scalar.cmpi .eq arg2 c1_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference34Ideal.lean ====
abbrev S4096x1024 : Shape := ⟨2, ![4096, 1024]⟩
abbrev S4096x4096 : Shape := ⟨2, ![4096, 4096]⟩
abbrev S_ : Shape := ⟨0, ![]⟩
abbrev S1024x4096 : Shape := ⟨2, ![1024, 4096]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x4096, .bf16⟩
  | .hbm, ⟨2, _⟩ => ⟨S4096x1024, .f32⟩
  | .hbm, ⟨3, _⟩ => ⟨S4096x4096, .f32⟩
  | .hbm, ⟨4, _⟩ => ⟨S_, .f32⟩
  | .hbm, ⟨5, _⟩ => ⟨S1024x4096, .f32⟩
  | .hbm, ⟨6, _⟩ => ⟨S4096x4096, .f32⟩
  | .hbm, ⟨7, _⟩ => ⟨S4096x1024, .f32⟩
  | .hbm, ⟨8, _⟩ => ⟨S1024x4096, .f32⟩
  | .hbm, ⟨9, _⟩ => ⟨S1024x4096, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel35.lean ====
abbrev S4096x1024 : Shape := ⟨2, ![4096, 1024]⟩
abbrev S4096x128 : Shape := ⟨2, ![4096, 128]⟩
abbrev S1024x128 : Shape := ⟨2, ![1024, 128]⟩
abbrev S2048x1024 : Shape := ⟨2, ![2048, 1024]⟩
abbrev S2048x128 : Shape := ⟨2, ![2048, 128]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x128, .f32⟩
  | .hbm, ⟨2, _⟩ => ⟨S1024x128, .bf16⟩
  | .local _ .vmem, ⟨0, _⟩ => ⟨S2048x1024, .bf16⟩
  | .local _ .vmem, ⟨1, _⟩ => ⟨S2048x1024, .bf16⟩
  | .local _ .vmem, ⟨2, _⟩ => ⟨S2048x128, .f32⟩
  | .local _ .vmem, ⟨3, _⟩ => ⟨S2048x128, .f32⟩
  | .local _ .vmem, ⟨4, _⟩ => ⟨S1024x128, .bf16⟩
  | .local _ .vmem, ⟨5, _⟩ => ⟨S1024x128, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond3 (i : grid0.Coords) : BitVec 1 :=
  let arg2 : BitVec 32 := BitVec.ofNat 32 (i 2).val
  let c1_i32_6 : BitVec 32 := 1#32
  let v12 : BitVec 1 := Scalar.cmpi .eq arg2 c1_i32_6
  let v13 : BitVec 32 := Scalar.extui v12
  let c0_i32_7 : BitVec 32 := 0#32
  let v14 : BitVec 1 := Scalar.cmpi .ne v13 c0_i32_7
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference35Ideal.lean ====
abbrev S4096x1024 : Shape := ⟨2, ![4096, 1024]⟩
abbrev S4096x128 : Shape := ⟨2, ![4096, 128]⟩
abbrev S_ : Shape := ⟨0, ![]⟩
abbrev S1024x128 : Shape := ⟨2, ![1024, 128]⟩
abbrev S128x1024 : Shape := ⟨2, ![128, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x128, .f32⟩
  | .hbm, ⟨2, _⟩ => ⟨S4096x1024, .f32⟩
  | .hbm, ⟨3, _⟩ => ⟨S_, .f32⟩
  | .hbm, ⟨4, _⟩ => ⟨S1024x128, .f32⟩
  | .hbm, ⟨5, _⟩ => ⟨S4096x128, .f32⟩
  | .hbm, ⟨6, _⟩ => ⟨S128x1024, .f32⟩
  | .hbm, ⟨7, _⟩ => ⟨S1024x128, .f32⟩
  | .hbm, ⟨8, _⟩ => ⟨S1024x128, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel36.lean ====
abbrev S4096x2048 : Shape := ⟨2, ![4096, 2048]⟩
abbrev S1024x2048 : Shape := ⟨2, ![1024, 2048]⟩
abbrev S4096x1024 : Shape := ⟨2, ![4096, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x2048, .bf16⟩
  | .hbm, ⟨1, _⟩ => ⟨S1024x2048, .bf16⟩
  | .hbm, ⟨2, _⟩ => ⟨S4096x1024, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x1024, .f32⟩
  | .local _ .vmem, ⟨4, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference36Ideal.lean ====
abbrev S4096x2048 : Shape := ⟨2, ![4096, 2048]⟩
abbrev S1024x2048 : Shape := ⟨2, ![1024, 2048]⟩
abbrev S_ : Shape := ⟨0, ![]⟩
abbrev S4096x1024 : Shape := ⟨2, ![4096, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S1024x2048, .bf16⟩
  | .hbm, ⟨2, _⟩ => ⟨S4096x2048, .f32⟩
  | .hbm, ⟨3, _⟩ => ⟨S1024x2048, .f32⟩
  | .hbm, ⟨4, _⟩ => ⟨S_, .f32⟩
  | .hbm, ⟨5, _⟩ => ⟨S4096x1024, .f32⟩
  | .hbm, ⟨6, _⟩ => ⟨S4096x2048, .f32⟩
  | .hbm, ⟨7, _⟩ => ⟨S4096x1024, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel37.lean ====
abbrev S4096x4096 : Shape := ⟨2, ![4096, 4096]⟩
abbrev S1024x4096 : Shape := ⟨2, ![1024, 4096]⟩
abbrev S4096x1024 : Shape := ⟨2, ![4096, 1024]⟩
abbrev S1024x2048 : Shape := ⟨2, ![1024, 2048]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S4096x4096, .bf16⟩
  | .hbm, ⟨1, _⟩ => ⟨S1024x4096, .bf16⟩
  | .hbm, ⟨2, _⟩ => ⟨S4096x1024, .f32⟩
  | .hbm, ⟨3, _⟩ => ⟨S4096x1024, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 1, 2], ![false, false, false]⟩

def k0_cond3 (i : grid0.Coords) : BitVec 1 :=
  let arg2 : BitVec 32 := BitVec.ofNat 32 (i 2).val
  let c1_i32_6 : BitVec 32 := 1#32
  let v11 : BitVec 1 := Scalar.cmpi .eq arg2 c1_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference37Ideal.lean ====
abbrev S4096x4096 : Shape := ⟨2, ![4096, 4096]⟩
abbrev S1024x4096 : Shape := ⟨2, ![1024, 4096]⟩
abbrev S4096x1024 : Shape := ⟨2, ![4096, 1024]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S1024x4096, .bf16⟩
  | .hbm, ⟨2, _⟩ => ⟨S4096x1024, .f32⟩
  | .hbm, ⟨3, _⟩ => ⟨S4096x4096, .f32⟩
  | .hbm, ⟨4, _⟩ => ⟨S1024x4096, .f32⟩
  | .hbm, ⟨5, _⟩ => ⟨S_, .f32⟩
  | .hbm, ⟨6, _⟩ => ⟨S4096x1024, .f32⟩
  | .hbm, ⟨7, _⟩ => ⟨S4096x4096, .f32⟩
  | .hbm, ⟨8, _⟩ => ⟨S4096x1024, .f32⟩
  | .hbm, ⟨9, _⟩ => ⟨S4096x1024, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Kernel38.lean ====
abbrev S4096x128 : Shape := ⟨2, ![4096, 128]⟩
abbrev S1024x128 : Shape := ⟨2, ![1024, 128]⟩
abbrev S4096x1024 : Shape := ⟨2, ![4096, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x128, .f32⟩
  | .hbm, ⟨1, _⟩ => ⟨S1024x128, .bf16⟩
  | .hbm, ⟨2, _⟩ => ⟨S4096x1024, .f32⟩
  | .hbm, ⟨3, _⟩ => ⟨S4096x1024, .f32⟩
  | .local _ .vmem, ⟨0, _⟩ => ⟨S1024x128, .f32⟩
  | .local _ .vmem, ⟨1, _⟩ => ⟨S1024x128, .f32⟩
  | .local _ .vmem, ⟨2, _⟩ => ⟨S1024x128, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference38Ideal.lean ====
abbrev S4096x128 : Shape := ⟨2, ![4096, 128]⟩
abbrev S1024x128 : Shape := ⟨2, ![1024, 128]⟩
abbrev S4096x1024 : Shape := ⟨2, ![4096, 1024]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S4096x128, .f32⟩
  | .hbm, ⟨1, _⟩ => ⟨S1024x128, .bf16⟩
  | .hbm, ⟨2, _⟩ => ⟨S4096x1024, .f32⟩
  | .hbm, ⟨3, _⟩ => ⟨S_, .f32⟩
  | .hbm, ⟨4, _⟩ => ⟨S4096x1024, .f32⟩
  | .hbm, ⟨5, _⟩ => ⟨S1024x128, .f32⟩
  | .hbm, ⟨6, _⟩ => ⟨S4096x128, .f32⟩
  | .hbm, ⟨7, _⟩ => ⟨S4096x1024, .f32⟩
  | .hbm, ⟨8, _⟩ => ⟨S4096x1024, .f32⟩
  | _, _ => ⟨S4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Kernel39.lean ====
abbrev S4096x2048 : Shape := ⟨2, ![4096, 2048]⟩
abbrev S4096x4096 : Shape := ⟨2, ![4096, 4096]⟩
abbrev S8x32x4x64x128 : Shape := ⟨5, ![8, 32, 4, 64, 128]⟩
abbrev S4096x128 : Shape := ⟨2, ![4096, 128]⟩
abbrev S128x4096 : Shape := ⟨2, ![128, 4096]⟩
abbrev S1x128 : Shape := ⟨2, ![1, 128]⟩
abbrev S1x2048 : Shape := ⟨2, ![1, 2048]⟩
abbrev S4096x1024 : Shape := ⟨2, ![4096, 1024]⟩
abbrev S8x4096x128 : Shape := ⟨3, ![8, 4096, 128]⟩
abbrev S8x8x4096 : Shape := ⟨3, ![8, 8, 4096]⟩
abbrev S8x1x128 : Shape := ⟨3, ![8, 1, 128]⟩
abbrev S128x256 : Shape := ⟨2, ![128, 256]⟩
abbrev S128x128 : Shape := ⟨2, ![128, 128]⟩
abbrev S1x1x4x64x128 : Shape := ⟨5, ![1, 1, 4, 64, 128]⟩
abbrev S1x256 : Shape := ⟨2, ![1, 256]⟩
abbrev S1x128x128 : Shape := ⟨3, ![1, 128, 128]⟩
abbrev S1x8x128 : Shape := ⟨3, ![1, 8, 128]⟩
abbrev S1x1x128 : Shape := ⟨3, ![1, 1, 128]⟩
abbrev S4x64x128 : Shape := ⟨3, ![4, 64, 128]⟩
abbrev S128 : Shape := ⟨1, ![128]⟩
abbrev S128x1 : Shape := ⟨2, ![128, 1]⟩
abbrev S256 : Shape := ⟨1, ![256]⟩
abbrev S8x128 : Shape := ⟨2, ![8, 128]⟩
abbrev S128x64 : Shape := ⟨2, ![128, 64]⟩
abbrev S1x1x1x64x128 : Shape := ⟨5, ![1, 1, 1, 64, 128]⟩
abbrev S64x128 : Shape := ⟨2, ![64, 128]⟩
abbrev S1x64x128 : Shape := ⟨3, ![1, 64, 128]⟩
abbrev S1 : Shape := ⟨1, ![1]⟩
abbrev S1x1 : Shape := ⟨2, ![1, 1]⟩
abbrev S64 : Shape := ⟨1, ![64]⟩
abbrev S64x1 : Shape := ⟨2, ![64, 1]⟩

abbrev nBuf : Space → Nat
  | .hbm => 19
  | .vmem => 42
  | .smem => 0
  | _ => 0

abbrev bufTy : (tb : Table) → Fin (tcTables nBuf tb) → BufTy
  | .hbm, ⟨0, _⟩ => ⟨S4096x2048, .f32⟩
  | .hbm, ⟨1, _⟩ => ⟨S4096x4096, .f32⟩
  | .hbm, ⟨2, _⟩ => ⟨S4096x2048, .f32⟩
  | .hbm, ⟨3, _⟩ => ⟨S4096x2048, .f32⟩
  | .hbm, ⟨4, _⟩ => ⟨S8x32x4x64x128, .f32⟩
  | .hbm, ⟨5, _⟩ => ⟨S4096x128, .f32⟩
  | .hbm, ⟨6, _⟩ => ⟨S4096x128, .f32⟩
  | .hbm, ⟨7, _⟩ => ⟨S128x4096, .f32⟩
  | .hbm, ⟨8, _⟩ => ⟨S128x4096, .f32⟩
  | .hbm, ⟨9, _⟩ => ⟨S1x128, .f32⟩
  | .hbm, ⟨10, _⟩ => ⟨S1x2048, .f32⟩
  | .hbm, ⟨11, _⟩ => ⟨S4096x2048, .f32⟩
  | .hbm, ⟨12, _⟩ => ⟨S4096x1024, .f32⟩
  | .hbm, ⟨13, _⟩ => ⟨S4096x1024, .f32⟩
  | .hbm, ⟨14, _⟩ => ⟨S4096x2048, .bf16⟩
  | .hbm, ⟨15, _⟩ => ⟨S8x4096x128, .f32⟩
  | .hbm, ⟨16, _⟩ => ⟨S8x8x4096, .f32⟩
  | .hbm, ⟨17, _⟩ => ⟨S8x1x128, .f32⟩
  | .hbm, ⟨18, _⟩ => ⟨S1x2048, .f32⟩
  | .local _ .vmem, ⟨0, _⟩ => ⟨S128x256, .f32⟩
  | .local _ .vmem, ⟨1, _⟩ => ⟨S128x256, .f32⟩
  | .local _ .vmem, ⟨2, _⟩ => ⟨S128x256, .f32⟩
  | .local _ .vmem, ⟨3, _⟩ => ⟨S128x256, .f32⟩
  | .local _ .vmem, ⟨4, _⟩ => ⟨S128x128, .f32⟩
  | .local _ .vmem, ⟨5, _⟩ => ⟨S128x128, .f32⟩
  | .local _ .vmem, ⟨6, _⟩ => ⟨S128x128, .f32⟩
  | .local _ .vmem, ⟨7, _⟩ => ⟨S128x128, .f32⟩
  | .local _ .vmem, ⟨8, _⟩ => ⟨S128x256, .f32⟩
  | .local _ .vmem, ⟨9, _⟩ => ⟨S128x256, .f32⟩
  | .local _ .vmem, ⟨10, _⟩ => ⟨S128x256, .f32⟩
  | .local _ .vmem, ⟨11, _⟩ => ⟨S128x256, .f32⟩
  | .local _ .vmem, ⟨12, _⟩ => ⟨S1x1x4x64x128, .f32⟩
  | .local _ .vmem, ⟨13, _⟩ => ⟨S1x1x4x64x128, .f32⟩
  | .local _ .vmem, ⟨14, _⟩ => ⟨S128x128, .f32⟩
  | .local _ .vmem, ⟨15, _⟩ => ⟨S128x128, .f32⟩
  | .local _ .vmem, ⟨16, _⟩ => ⟨S128x128, .f32⟩
  | .local _ .vmem, ⟨17, _⟩ => ⟨S128x128, .f32⟩
  | .local _ .vmem, ⟨18, _⟩ => ⟨S128x128, .f32⟩
  | .local _ .vmem, ⟨19, _⟩ => ⟨S128x128, .f32⟩
  | .local _ .vmem, ⟨20, _⟩ => ⟨S128x128, .f32⟩
  | .local _ .vmem, ⟨21, _⟩ => ⟨S128x128, .f32⟩
  | .local _ .vmem, ⟨22, _⟩ => ⟨S1x128, .f32⟩
  | .local _ .vmem, ⟨23, _⟩ => ⟨S1x256, .f32⟩
  | .local _ .vmem, ⟨24, _⟩ => ⟨S1x256, .f32⟩
  | .local _ .vmem, ⟨25, _⟩ => ⟨S128x256, .f32⟩
  | .local _ .vmem, ⟨26, _⟩ => ⟨S128x256, .f32⟩
  | .local _ .vmem, ⟨27, _⟩ => ⟨S128x128, .f32⟩
  | .local _ .vmem, ⟨28, _⟩ => ⟨S128x128, .f32⟩
  | .local _ .vmem, ⟨29, _⟩ => ⟨S128x128, .f32⟩
  | .local _ .vmem, ⟨30, _⟩ => ⟨S128x128, .f32⟩
  | .local _ .vmem, ⟨31, _⟩ => ⟨S128x256, .bf16⟩
  | .local _ .vmem, ⟨32, _⟩ => ⟨S128x256, .bf16⟩
  | .local _ .vmem, ⟨33, _⟩ => ⟨S1x128x128, .f32⟩
  | .local _ .vmem, ⟨34, _⟩ => ⟨S1x128x128, .f32⟩
  | .local _ .vmem, ⟨35, _⟩ => ⟨S1x8x128, .f32⟩
  | .local _ .vmem, ⟨36, _⟩ => ⟨S1x8x128, .f32⟩
  | .local _ .vmem, ⟨37, _⟩ => ⟨S1x1x128, .f32⟩
  | .local _ .vmem, ⟨38, _⟩ => ⟨S1x1x128, .f32⟩
  | .local _ .vmem, ⟨39, _⟩ => ⟨S1x256, .f32⟩
  | .local _ .vmem, ⟨40, _⟩ => ⟨S1x256, .f32⟩
  | .local _ .vmem, ⟨41, _⟩ => ⟨S4x64x128, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 41 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | _ => false

abbrev sig : RefSig :=
  ofTc nBuf bufTy 0 41 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0_0 : Ref sig .tc := ⟨.hbm, 11, rfl⟩
abbrev main_v0_1 : Ref sig .tc := ⟨.hbm, 12, rfl⟩
abbrev main_v0_2 : Ref sig .tc := ⟨.hbm, 13, rfl⟩
abbrev main_v0_3 : Ref sig .tc := ⟨.hbm, 14, rfl⟩
abbrev main_v0_4 : Ref sig .tc := ⟨.hbm, 15, rfl⟩
abbrev main_v0_5 : Ref sig .tc := ⟨.hbm, 16, rfl⟩
abbrev main_v0_6 : Ref sig .tc := ⟨.hbm, 17, rfl⟩
abbrev main_v0_7 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_stg13_1 : Ref sig .tc := ⟨.vmem, 26, rfl⟩
abbrev cc0_stg14_0 : Ref sig .tc := ⟨.vmem, 27, rfl⟩
abbrev cc0_stg14_1 : Ref sig .tc := ⟨.vmem, 28, rfl⟩
abbrev cc0_stg15_0 : Ref sig .tc := ⟨.vmem, 29, rfl⟩
abbrev cc0_stg15_1 : Ref sig .tc := ⟨.vmem, 30, rfl⟩
abbrev cc0_stg16_0 : Ref sig .tc := ⟨.vmem, 31, rfl⟩
abbrev cc0_stg16_1 : Ref sig .tc := ⟨.vmem, 32, rfl⟩
abbrev cc0_stg17_0 : Ref sig .tc := ⟨.vmem, 33, rfl⟩
abbrev cc0_stg17_1 : Ref sig .tc := ⟨.vmem, 34, rfl⟩
abbrev cc0_stg18_0 : Ref sig .tc := ⟨.vmem, 35, rfl⟩
abbrev cc0_stg18_1 : Ref sig .tc := ⟨.vmem, 36, rfl⟩
abbrev cc0_stg19_0 : Ref sig .tc := ⟨.vmem, 37, rfl⟩
abbrev cc0_stg19_1 : Ref sig .tc := ⟨.vmem, 38, rfl⟩
abbrev cc0_stg20_0 : Ref sig .tc := ⟨.vmem, 39, rfl⟩
abbrev cc0_stg20_1 : Ref sig .tc := ⟨.vmem, 40, rfl⟩
abbrev cc0_scratch0 : Ref sig .tc := ⟨.vmem, 41, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem12_0 : DmaSem sig := 23
abbrev cc0_sem12_1 : DmaSem sig := 24
abbrev cc0_sem13_0 : DmaSem sig := 25
abbrev cc0_sem13_1 : DmaSem sig := 26
abbrev cc0_sem14_0 : DmaSem sig := 27
abbrev cc0_sem14_1 : DmaSem sig := 28
abbrev cc0_sem15_0 : DmaSem sig := 29
abbrev cc0_sem15_1 : DmaSem sig := 30
abbrev cc0_sem16_0 : DmaSem sig := 31
abbrev cc0_sem16_1 : DmaSem sig := 32
abbrev cc0_sem17_0 : DmaSem sig := 33
abbrev cc0_sem17_1 : DmaSem sig := 34
abbrev cc0_sem18_0 : DmaSem sig := 35
abbrev cc0_sem18_1 : DmaSem sig := 36
abbrev cc0_sem19_0 : DmaSem sig := 37
abbrev cc0_sem19_1 : DmaSem sig := 38
abbrev cc0_sem20_0 : DmaSem sig := 39
abbrev cc0_sem20_1 : DmaSem sig := 40

abbrev nD : Nat := 1
abbrev τ : Topo := Topo.v7x

variable {F : FTy → Type} [FloatOps F]

abbrev grid0 : Pipeline.Grid := ⟨2, ![8, 32], ![false, false]⟩

def cc0_transform_0 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  ![v0.toNat, arg0.toNat]

def cc0_transform_1 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  ![v0.toNat, arg0.toNat]

def cc0_transform_2 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c16_i32 : BitVec 32 := 16#32
  let v1 : BitVec 32 := Scalar.addi c16_i32 arg0
  let c0_i32 : BitVec 32 := 0#32
  ![v0.toNat, v1.toNat]

def cc0_transform_3 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c24_i32 : BitVec 32 := 24#32
  let v1 : BitVec 32 := Scalar.addi c24_i32 arg0
  let c0_i32 : BitVec 32 := 0#32
  ![v0.toNat, v1.toNat]

def cc0_transform_4 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  ![v0.toNat, arg0.toNat]

def cc0_transform_5 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  ![v0.toNat, arg0.toNat]

def cc0_transform_6 (i : grid0.Coords) : Fin 5 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  let c0_i32_0 : BitVec 32 := 0#32
  let c0_i32_1 : BitVec 32 := 0#32
  let c0_i32_2 : BitVec 32 := 0#32
  ![arg0.toNat, v0.toNat, c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  let c0_i32_0 : BitVec 32 := 0#32
  ![c0_i32.toNat, v0.toNat]

def cc0_transform_10 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  let c0_i32_0 : BitVec 32 := 0#32
  ![c0_i32.toNat, v0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_13 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  ![v0.toNat, arg0.toNat]

def cc0_transform_14 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  ![v0.toNat, arg0.toNat]

def cc0_transform_15 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  ![v0.toNat, arg0.toNat]

def cc0_transform_16 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  ![v0.toNat, arg0.toNat]

def cc0_transform_17 (i : grid0.Coords) : Fin 3 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  let c0_i32_0 : BitVec 32 := 0#32
  ![arg0.toNat, v0.toNat, c0_i32.toNat]

def cc0_transform_18 (i : grid0.Coords) : Fin 3 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  let c0_i32_0 : BitVec 32 := 0#32
  ![arg0.toNat, c0_i32.toNat, v0.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_20 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S128x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x4x64x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S128x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S128x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S128x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S128x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S128x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S128x256 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x128x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x8x128 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x1x128 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, false]

abbrev stage0_20 : Fin 2 → Memref sig .tc .vmem S1x256 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, false]
-- ==== Reference39Ideal.lean ====
abbrev S4096x2048 : Shape := ⟨2, ![4096, 2048]⟩
abbrev S4096x4096 : Shape := ⟨2, ![4096, 4096]⟩
abbrev S8x32x4x64x128 : Shape := ⟨5, ![8, 32, 4, 64, 128]⟩
abbrev S4096x128 : Shape := ⟨2, ![4096, 128]⟩
abbrev S128x4096 : Shape := ⟨2, ![128, 4096]⟩
abbrev S1x128 : Shape := ⟨2, ![1, 128]⟩
abbrev S1x2048 : Shape := ⟨2, ![1, 2048]⟩
abbrev S_ : Shape := ⟨0, ![]⟩
abbrev S4096x8x256 : Shape := ⟨3, ![4096, 8, 256]⟩
abbrev S4096x8 : Shape := ⟨2, ![4096, 8]⟩
abbrev S4096x8x1 : Shape := ⟨3, ![4096, 8, 1]⟩
abbrev S8x256 : Shape := ⟨2, ![8, 256]⟩
abbrev S1x8x256 : Shape := ⟨3, ![1, 8, 256]⟩
abbrev S1x32 : Shape := ⟨2, ![1, 32]⟩
abbrev S8x4x1 : Shape := ⟨3, ![8, 4, 1]⟩
abbrev S4096x8x4x64 : Shape := ⟨4, ![4096, 8, 4, 64]⟩
abbrev S1x8x4x1 : Shape := ⟨4, ![1, 8, 4, 1]⟩
abbrev S8x4 : Shape := ⟨2, ![8, 4]⟩
abbrev S8x124 : Shape := ⟨2, ![8, 124]⟩
abbrev S8x128 : Shape := ⟨2, ![8, 128]⟩
abbrev S8x1x128 : Shape := ⟨3, ![8, 1, 128]⟩

abbrev nBuf : Space → Nat
  | .hbm => 105
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x4096, .f32⟩
  | .hbm, ⟨2, _⟩ => ⟨S4096x2048, .f32⟩
  | .hbm, ⟨3, _⟩ => ⟨S4096x2048, .f32⟩
  | .hbm, ⟨4, _⟩ => ⟨S8x32x4x64x128, .f32⟩
  | .hbm, ⟨5, _⟩ => ⟨S4096x128, .f32⟩
  | .hbm, ⟨6, _⟩ => ⟨S4096x128, .f32⟩
  | .hbm, ⟨7, _⟩ => ⟨S128x4096, .f32⟩
  | .hbm, ⟨8, _⟩ => ⟨S128x4096, .f32⟩
  | .hbm, ⟨9, _⟩ => ⟨S1x128, .f32⟩
  | .hbm, ⟨10, _⟩ => ⟨S1x2048, .f32⟩
  | .hbm, ⟨11, _⟩ => ⟨S4096x2048, .f32⟩
  | .hbm, ⟨12, _⟩ => ⟨S4096x2048, .f32⟩
  | .hbm, ⟨13, _⟩ => ⟨S_, .f32⟩
  | .hbm, ⟨14, _⟩ => ⟨S4096x2048, .f32⟩
  | .hbm, ⟨15, _⟩ => ⟨S4096x2048, .f32⟩
  | .hbm, ⟨16, _⟩ => ⟨S_, .f32⟩
  | .hbm, ⟨17, _⟩ => ⟨S4096x2048, .f32⟩
  | .hbm, ⟨18, _⟩ => ⟨S4096x2048, .f32⟩
  | .hbm, ⟨19, _⟩ => ⟨S_, .f32⟩
  | .hbm, ⟨20, _⟩ => ⟨S4096x2048, .f32⟩
  | .hbm, ⟨21, _⟩ => ⟨S4096x2048, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S4096x8x256, .f32⟩
  | .hbm, ⟨26, _⟩ => ⟨S4096x8x256, .f32⟩
  | .hbm, ⟨27, _⟩ => ⟨S_, .f32⟩
  | .hbm, ⟨28, _⟩ => ⟨S4096x8, .f32⟩
  | .hbm, ⟨29, _⟩ => ⟨S4096x8x1, .f32⟩
  | .hbm, ⟨30, _⟩ => ⟨S_, .f32⟩
  | .hbm, ⟨31, _⟩ => ⟨S4096x8x1, .f32⟩
  | .hbm, ⟨32, _⟩ => ⟨S4096x8x1, .f32⟩
  | .hbm, ⟨33, _⟩ => ⟨S_, .f32⟩
  | .hbm, ⟨34, _⟩ => ⟨S4096x8x1, .f32⟩
  | .hbm, ⟨35, _⟩ => ⟨S4096x8x1, .f32⟩
  | .hbm, ⟨36, _⟩ => ⟨S4096x8x1, .f32⟩
  | .hbm, ⟨37, _⟩ => ⟨S4096x8x1, .f32⟩
  | .hbm, ⟨38, _⟩ => ⟨S_, .f32⟩
  | .hbm, ⟨39, _⟩ => ⟨S4096x8x1, .f32⟩
  | .hbm, ⟨40, _⟩ => ⟨S4096x8x1, .f32⟩
  | .hbm, ⟨41, _⟩ => ⟨S4096x8x256, .f32⟩
  | .hbm, ⟨42, _⟩ => ⟨S4096x8x256, .f32⟩
  | .hbm, ⟨43, _⟩ => ⟨S8x256, .f32⟩
  | .hbm, ⟨44, _⟩ => ⟨S1x8x256, .f32⟩
  | .hbm, ⟨45, _⟩ => ⟨S4096x8x256, .f32⟩
  | .hbm, ⟨46, _⟩ => ⟨S4096x8x256, .f32⟩
  | .hbm, ⟨47, _⟩ => ⟨S4096x2048, .f32⟩
  | .hbm, ⟨48, _⟩ => ⟨S4096x8x256, .f32⟩
  | .hbm, ⟨49, _⟩ => ⟨S4096x8x256, .f32⟩
  | .hbm, ⟨50, _⟩ => ⟨S_, .f32⟩
  | .hbm, ⟨51, _⟩ => ⟨S8x256, .f32⟩
  | .hbm, ⟨52, _⟩ => ⟨S1x8x256, .f32⟩
  | .hbm, ⟨53, _⟩ => ⟨S4096x8x256, .f32⟩
  | .hbm, ⟨54, _⟩ => ⟨S4096x8x256, .f32⟩
  | .hbm, ⟨55, _⟩ => ⟨S_, .f32⟩
  | .hbm, ⟨56, _⟩ => ⟨S8x256, .f32⟩
  | .hbm, ⟨57, _⟩ => ⟨S1x2048, .f32⟩
  | .hbm, ⟨58, _⟩ => ⟨S4096x8x256, .f32⟩
  | .hbm, ⟨59, _⟩ => ⟨S_, .f32⟩
  | .hbm, ⟨60, _⟩ => ⟨S4096x8, .f32⟩
  | .hbm, ⟨61, _⟩ => ⟨S4096x8x1, .f32⟩
  | .hbm, ⟨62, _⟩ => ⟨S4096x8x256, .f32⟩
  | .hbm, ⟨63, _⟩ => ⟨S4096x8x256, .f32⟩
  | .hbm, ⟨64, _⟩ => ⟨S4096x8x1, .f32⟩
  | .hbm, ⟨65, _⟩ => ⟨S_, .f32⟩
  | .hbm, ⟨66, _⟩ => ⟨S4096x8x1, .f32⟩
  | .hbm, ⟨67, _⟩ => ⟨S4096x8x1, .f32⟩
  | .hbm, ⟨68, _⟩ => ⟨S_, .f32⟩
  | .hbm, ⟨69, _⟩ => ⟨S4096x8, .f32⟩
  | .hbm, ⟨70, _⟩ => ⟨S4096x8x256, .f32⟩
  | .hbm, ⟨71, _⟩ => ⟨S4096x8x256, .f32⟩
  | .hbm, ⟨72, _⟩ => ⟨S4096x8x256, .f32⟩
  | .hbm, ⟨73, _⟩ => ⟨S4096x8x256, .f32⟩
  | .hbm, ⟨74, _⟩ => ⟨S4096x8x256, .f32⟩
  | .hbm, ⟨75, _⟩ => ⟨S4096x2048, .f32⟩
  | .hbm, ⟨76, _⟩ => ⟨S4096x2048, .f32⟩
  | .hbm, ⟨77, _⟩ => ⟨S4096x2048, .f32⟩
  | .hbm, ⟨78, _⟩ => ⟨S4096x2048, .f32⟩
  | .hbm, ⟨79, _⟩ => ⟨S4096x2048, .f32⟩
  | .hbm, ⟨80, _⟩ => ⟨S4096x2048, .f32⟩
  | .hbm, ⟨81, _⟩ => ⟨S4096x2048, .f32⟩
  | .hbm, ⟨82, _⟩ => ⟨S1x32, .f32⟩
  | .hbm, ⟨83, _⟩ => ⟨S4096x2048, .f32⟩
  | .hbm, ⟨84, _⟩ => ⟨S8x4x1, .f32⟩
  | .hbm, ⟨85, _⟩ => ⟨S4096x8x4x64, .f32⟩
  | .hbm, ⟨86, _⟩ => ⟨S1x8x4x1, .f32⟩
  | .hbm, ⟨87, _⟩ => ⟨S4096x8x4x64, .f32⟩
  | .hbm, ⟨88, _⟩ => ⟨S4096x8x4x64, .f32⟩
  | .hbm, ⟨89, _⟩ => ⟨S4096x2048, .f32⟩
  | .hbm, ⟨90, _⟩ => ⟨S4096x8x4x64, .f32⟩
  | .hbm, ⟨91, _⟩ => ⟨S4096x8x4x64, .f32⟩
  | .hbm, ⟨92, _⟩ => ⟨S_, .f32⟩
  | .hbm, ⟨93, _⟩ => ⟨S8x4, .f32⟩
  | .hbm, ⟨94, _⟩ => ⟨S1x8x4x1, .f32⟩
  | .hbm, ⟨95, _⟩ => ⟨S_, .f32⟩
  | .hbm, ⟨96, _⟩ => ⟨S8x4, .f32⟩
  | .hbm, ⟨97, _⟩ => ⟨S8x4x1, .f32⟩
  | .hbm, ⟨98, _⟩ => ⟨S1x32, .f32⟩
  | .hbm, ⟨99, _⟩ => ⟨S8x4, .f32⟩
  | .hbm, ⟨100, _⟩ => ⟨S_, .f32⟩
  | .hbm, ⟨101, _⟩ => ⟨S8x124, .f32⟩
  | .hbm, ⟨102, _⟩ => ⟨S8x128, .f32⟩
  | .hbm, ⟨103, _⟩ => ⟨S4096x2048, .bf16⟩
  | .hbm, ⟨104, _⟩ => ⟨S8x1x128, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_v0_2 : Ref sig .tc := ⟨.hbm, 18, rfl⟩
abbrev main_call0_cst_1 : Ref sig .tc := ⟨.hbm, 19, rfl⟩
abbrev main_call0_v6 : Ref sig .tc := ⟨.hbm, 20, rfl⟩
abbrev main_call0_v7 : Ref sig .tc := ⟨.hbm, 21, rfl⟩
abbrev main_v0_1 : Ref sig .tc := ⟨.hbm, 22, rfl⟩
abbrev main_v0_0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_cst : Ref sig .tc := ⟨.hbm, 27, rfl⟩
abbrev main_v4 : Ref sig .tc := ⟨.hbm, 28, rfl⟩
abbrev main_v5 : Ref sig .tc := ⟨.hbm, 29, rfl⟩
abbrev main_cst_0 : Ref sig .tc := ⟨.hbm, 30, rfl⟩
abbrev main_v6 : Ref sig .tc := ⟨.hbm, 31, rfl⟩
abbrev main_v7 : Ref sig .tc := ⟨.hbm, 32, rfl⟩
abbrev main_cst_1 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_cst_2 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_cst_3 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_cst_4 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_cst_5 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_cst_6 : Ref sig .tc := ⟨.hbm, 65, rfl⟩
abbrev main_v35 : Ref sig .tc := ⟨.hbm, 66, rfl⟩
abbrev main_v36 : Ref sig .tc := ⟨.hbm, 67, rfl⟩
abbrev main_cst_7 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_call1_v0 : Ref sig .tc := ⟨.hbm, 78, rfl⟩
abbrev main_call1_v1 : Ref sig .tc := ⟨.hbm, 79, rfl⟩
abbrev main_call1_v2 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_cst_8 : Ref sig .tc := ⟨.hbm, 92, rfl⟩
abbrev main_v57 : Ref sig .tc := ⟨.hbm, 93, rfl⟩
abbrev main_v58 : Ref sig .tc := ⟨.hbm, 94, rfl⟩
abbrev main_cst_9 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_cst_10 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩

abbrev nD : Nat := 1
abbrev τ : Topo := Topo.v7x

variable {F : FTy → Type} [FloatOps F]
-- ==== Kernel40.lean ====
abbrev S4096x2048 : Shape := ⟨2, ![4096, 2048]⟩
abbrev S4096x1024 : Shape := ⟨2, ![4096, 1024]⟩
abbrev S4096x4096 : Shape := ⟨2, ![4096, 4096]⟩
abbrev S4x4096 : Shape := ⟨2, ![4, 4096]⟩
abbrev S8x4096 : Shape := ⟨2, ![8, 4096]⟩
abbrev S1x4096 : Shape := ⟨2, ![1, 4096]⟩
abbrev S256x2048 : Shape := ⟨2, ![256, 2048]⟩
abbrev S8x2048 : Shape := ⟨2, ![8, 2048]⟩
abbrev S256x1024 : Shape := ⟨2, ![256, 1024]⟩
abbrev S8x1024 : Shape := ⟨2, ![8, 1024]⟩
abbrev S256x4096 : Shape := ⟨2, ![256, 4096]⟩
abbrev S248x4096 : Shape := ⟨2, ![248, 4096]⟩
abbrev S4096 : Shape := ⟨1, ![4096]⟩

abbrev nBuf : Space → Nat
  | .hbm => 9
  | .vmem => 25
  | .smem => 0
  | _ => 0

abbrev bufTy : (tb : Table) → Fin (tcTables nBuf tb) → BufTy
  | .hbm, ⟨0, _⟩ => ⟨S4096x2048, .f32⟩
  | .hbm, ⟨1, _⟩ => ⟨S4096x1024, .f32⟩
  | .hbm, ⟨2, _⟩ => ⟨S4096x1024, .f32⟩
  | .hbm, ⟨3, _⟩ => ⟨S4096x4096, .f32⟩
  | .hbm, ⟨4, _⟩ => ⟨S4096x4096, .f32⟩
  | .hbm, ⟨5, _⟩ => ⟨S4x4096, .f32⟩
  | .hbm, ⟨6, _⟩ => ⟨S4096x4096, .bf16⟩
  | .hbm, ⟨7, _⟩ => ⟨S8x4096, .f32⟩
  | .hbm, ⟨8, _⟩ => ⟨S1x4096, .f32⟩
  | .local _ .vmem, ⟨0, _⟩ => ⟨S256x2048, .f32⟩
  | .local _ .vmem, ⟨1, _⟩ => ⟨S256x2048, .f32⟩
  | .local _ .vmem, ⟨2, _⟩ => ⟨S8x2048, .f32⟩
  | .local _ .vmem, ⟨3, _⟩ => ⟨S8x2048, .f32⟩
  | .local _ .vmem, ⟨4, _⟩ => ⟨S256x1024, .f32⟩
  | .local _ .vmem, ⟨5, _⟩ => ⟨S256x1024, .f32⟩
  | .local _ .vmem, ⟨6, _⟩ => ⟨S8x1024, .f32⟩
  | .local _ .vmem, ⟨7, _⟩ => ⟨S8x1024, .f32⟩
  | .local _ .vmem, ⟨8, _⟩ => ⟨S256x1024, .f32⟩
  | .local _ .vmem, ⟨9, _⟩ => ⟨S256x1024, .f32⟩
  | .local _ .vmem, ⟨10, _⟩ => ⟨S8x1024, .f32⟩
  | .local _ .vmem, ⟨11, _⟩ => ⟨S8x1024, .f32⟩
  | .local _ .vmem, ⟨12, _⟩ => ⟨S256x4096, .f32⟩
  | .local _ .vmem, ⟨13, _⟩ => ⟨S256x4096, .f32⟩
  | .local _ .vmem, ⟨14, _⟩ => ⟨S8x4096, .f32⟩
  | .local _ .vmem, ⟨15, _⟩ => ⟨S8x4096, .f32⟩
  | .local _ .vmem, ⟨16, _⟩ => ⟨S256x4096, .f32⟩
  | .local _ .vmem, ⟨17, _⟩ => ⟨S256x4096, .f32⟩
  | .local _ .vmem, ⟨18, _⟩ => ⟨S8x4096, .f32⟩
  | .local _ .vmem, ⟨19, _⟩ => ⟨S8x4096, .f32⟩
  | .local _ .vmem, ⟨20, _⟩ => ⟨S4x4096, .f32⟩
  | .local _ .vmem, ⟨21, _⟩ => ⟨S256x4096, .bf16⟩
  | .local _ .vmem, ⟨22, _⟩ => ⟨S256x4096, .bf16⟩
  | .local _ .vmem, ⟨23, _⟩ => ⟨S8x4096, .f32⟩
  | .local _ .vmem, ⟨24, _⟩ => ⟨S1x4096, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg13_0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem11_1 : DmaSem sig := 22
abbrev cc0_sem12_0 : DmaSem sig := 23
abbrev cc0_sem13_0 : DmaSem sig := 24

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c511_i32 : BitVec 32 := 511#32
  let v2 : BitVec 32 := Scalar.minsi v1 c511_i32
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c511_i32 : BitVec 32 := 511#32
  let v2 : BitVec 32 := Scalar.minsi v1 c511_i32
  let c0_i32 : BitVec 32 := 0#32
  let c0_i32_0 : BitVec 32 := 0#32
  ![v2.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c511_i32 : BitVec 32 := 511#32
  let v2 : BitVec 32 := Scalar.minsi v1 c511_i32
  let c0_i32 : BitVec 32 := 0#32
  let c0_i32_0 : BitVec 32 := 0#32
  ![v2.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c511_i32 : BitVec 32 := 511#32
  let v2 : BitVec 32 := Scalar.minsi v1 c511_i32
  let c0_i32 : BitVec 32 := 0#32
  let c0_i32_0 : BitVec 32 := 0#32
  ![v2.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x4096 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S8x4096 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S4x4096 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x4096 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S8x4096 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x4096 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== Reference40Ideal.lean ====
abbrev S4096x2048 : Shape := ⟨2, ![4096, 2048]⟩
abbrev S4096x1024 : Shape := ⟨2, ![4096, 1024]⟩
abbrev S4096x4096 : Shape := ⟨2, ![4096, 4096]⟩
abbrev S4x4096 : Shape := ⟨2, ![4, 4096]⟩
abbrev S_ : Shape := ⟨0, ![]⟩
abbrev S1x4096 : Shape := ⟨2, ![1, 4096]⟩
abbrev S3x4096 : Shape := ⟨2, ![3, 4096]⟩
abbrev S4099x4096 : Shape := ⟨2, ![4099, 4096]⟩
abbrev S4096 : Shape := ⟨1, ![4096]⟩
abbrev S8x4096 : Shape := ⟨2, ![8, 4096]⟩

abbrev nBuf : Space → Nat
  | .hbm => 130
  | .vmem => 0
  | .smem => 0
  | _ => 0

abbrev hbmTy0_0 (i : Nat) : BufTy := match i % 128 with
  | 0 => ⟨S4096x2048, .f32⟩
  | 1 => ⟨S4096x1024, .f32⟩
  | 2 => ⟨S4096x1024, .f32⟩
  | 3 => ⟨S4096x4096, .f32⟩
  | 4 => ⟨S4096x4096, .f32⟩
  | 5 => ⟨S4x4096, .f32⟩
  | 6 => ⟨S4096x4096, .f32⟩
  | 7 => ⟨S4096x4096, .f32⟩
  | 8 => ⟨S_, .f32⟩
  | 9 => ⟨S4096x4096, .f32⟩
  | 10 => ⟨S4096x4096, .f32⟩
  | 11 => ⟨S_, .f32⟩
  | 12 => ⟨S4096x4096, .f32⟩
  | 13 => ⟨S4096x4096, .f32⟩
  | 14 => ⟨S_, .f32⟩
  | 15 => ⟨S4096x4096, .f32⟩
  | 16 => ⟨S4096x4096, .f32⟩
  | 17 => ⟨S4096x4096, .f32⟩
  | 18 => ⟨S4096x4096, .f32⟩
  | 19 => ⟨S4096x4096, .f32⟩
  | 20 => ⟨S4096x4096, .f32⟩
  | 21 => ⟨S4096x4096, .f32⟩
  | 22 => ⟨S4096x4096, .f32⟩
  | 23 => ⟨S4096x4096, .f32⟩
  | 24 => ⟨S_, .f32⟩
  | 25 => ⟨S1x4096, .f32⟩
  | 26 => ⟨S_, .f32⟩
  | 27 => ⟨S3x4096, .f32⟩
  | 28 => ⟨S4099x4096, .f32⟩
  | 29 => ⟨S_, .f32⟩
  | 30 => ⟨S3x4096, .f32⟩
  | 31 => ⟨S1x4096, .f32⟩
  | 32 => ⟨S4096, .f32⟩
  | 33 => ⟨S4096x4096, .f32⟩
  | 34 => ⟨S1x4096, .f32⟩
  | 35 => ⟨S4096x4096, .f32⟩
  | 36 => ⟨S4096x4096, .f32⟩
  | 37 => ⟨S_, .f32⟩
  | 38 => ⟨S4096x4096, .f32⟩
  | 39 => ⟨S4096x4096, .f32⟩
  | 40 => ⟨S1x4096, .f32⟩
  | 41 => ⟨S4096, .f32⟩
  | 42 => ⟨S4096x4096, .f32⟩
  | 43 => ⟨S1x4096, .f32⟩
  | 44 => ⟨S4096x4096, .f32⟩
  | 45 => ⟨S4096x4096, .f32⟩
  | 46 => ⟨S4096x4096, .f32⟩
  | 47 => ⟨S1x4096, .f32⟩
  | 48 => ⟨S4096, .f32⟩
  | 49 => ⟨S4096x4096, .f32⟩
  | 50 => ⟨S1x4096, .f32⟩
  | 51 => ⟨S4096x4096, .f32⟩
  | 52 => ⟨S4096x4096, .f32⟩
  | 53 => ⟨S4096x4096, .f32⟩
  | 54 => ⟨S1x4096, .f32⟩
  | 55 => ⟨S4096, .f32⟩
  | 56 => ⟨S4096x4096, .f32⟩
  | 57 => ⟨S1x4096, .f32⟩
  | 58 => ⟨S4096x4096, .f32⟩
  | 59 => ⟨S4096x4096, .f32⟩
  | 60 => ⟨S4096x4096, .f32⟩
  | 61 => ⟨S4096x4096, .f32⟩
  | 62 => ⟨S4096x4096, .f32⟩
  | 63 => ⟨S_, .f32⟩
  | 64 => ⟨S4096, .f32⟩
  | 65 => ⟨S1x4096, .f32⟩
  | 66 => ⟨S4096x4096, .f32⟩
  | 67 => ⟨S4096x4096, .f32⟩
  | 68 => ⟨S4096x4096, .f32⟩
  | 69 => ⟨S_, .f32⟩
  | 70 => ⟨S4096, .f32⟩
  | 71 => ⟨S1x4096, .f32⟩
  | 72 => ⟨S_, .f32⟩
  | 73 => ⟨S4096, .f32⟩
  | 74 => ⟨S_, .f32⟩
  | 75 => ⟨S4099x4096, .f32⟩
  | 76 => ⟨S1x4096, .f32⟩
  | 77 => ⟨S_, .f32⟩
  | 78 => ⟨S4x4096, .f32⟩
  | 79 => ⟨S4096x4096, .f32⟩
  | 80 => ⟨S4096x4096, .f32⟩
  | 81 => ⟨S4096x4096, .f32⟩
  | 82 => ⟨S_, .f32⟩
  | 83 => ⟨S4096, .f32⟩
  | 84 => ⟨S1x4096, .f32⟩
  | 85 => ⟨S_, .f32⟩
  | 86 => ⟨S4096, .f32⟩
  | 87 => ⟨S_, .f32⟩
  | 88 => ⟨S4099x4096, .f32⟩
  | 89 => ⟨S4099x4096, .f32⟩
  | 90 => ⟨S1x4096, .f32⟩
  | 91 => ⟨S_, .f32⟩
  | 92 => ⟨S4x4096, .f32⟩
  | 93 => ⟨S4x4096, .f32⟩
  | 94 => ⟨S4096x4096, .f32⟩
  | 95 => ⟨S4096x4096, .f32⟩
  | 96 => ⟨S4096x4096, .f32⟩
  | 97 => ⟨S_, .f32⟩
  | 98 => ⟨S4096, .f32⟩
  | 99 => ⟨S1x4096, .f32⟩
  | 100 => ⟨S_, .f32⟩
  | 101 => ⟨S4096, .f32⟩
  | 102 => ⟨S_, .f32⟩
  | 103 => ⟨S4099x4096, .f32⟩
  | 104 => ⟨S4099x4096, .f32⟩
  | 105 => ⟨S1x4096, .f32⟩
  | 106 => ⟨S_, .f32⟩
  | 107 => ⟨S4x4096, .f32⟩
  | 108 => ⟨S4x4096, .f32⟩
  | 109 => ⟨S4096x4096, .f32⟩
  | 110 => ⟨S4096x4096, .f32⟩
  | 111 => ⟨S4096x4096, .f32⟩
  | 112 => ⟨S_, .f32⟩
  | 113 => ⟨S4096, .f32⟩
  | 114 => ⟨S1x4096, .f32⟩
  | 115 => ⟨S_, .f32⟩
  | 116 => ⟨S4096, .f32⟩
  | 117 => ⟨S_, .f32⟩
  | 118 => ⟨S4099x4096, .f32⟩
  | 119 => ⟨S4099x4096, .f32⟩
  | 120 => ⟨S1x4096, .f32⟩
  | 121 => ⟨S_, .f32⟩
  | 122 => ⟨S4x4096, .f32⟩
  | 123 => ⟨S4x4096, .f32⟩
  | 124 => ⟨S3x4096, .f32⟩
  | 125 => ⟨S4096x4096, .f32⟩
  | 126 => ⟨S4096x4096, .bf16⟩
  | 127 => ⟨S_, .i32⟩
  | _ => ⟨S4096x2048, .f32⟩

abbrev hbmTy0_1 (i : Nat) : BufTy := match i % 128 with
  | 0 => ⟨S_, .f32⟩
  | 1 => ⟨S8x4096, .f32⟩
  | _ => ⟨S4096x2048, .f32⟩

abbrev hbmTy (i : Nat) : BufTy := match i / 128 with
  | 0 => hbmTy0_0 i
  | 1 => hbmTy0_1 i
  | _ => ⟨S4096x2048, .f32⟩

abbrev bufTy : (tb : Table) → Fin (tcTables nBuf tb) → BufTy
  | .hbm, ⟨i, _⟩ => hbmTy i
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_v0_2 : Ref sig .tc := ⟨.hbm, 13, rfl⟩
abbrev main_call0_cst_1 : Ref sig .tc := ⟨.hbm, 14, rfl⟩
abbrev main_call0_v6 : Ref sig .tc := ⟨.hbm, 15, rfl⟩
abbrev main_call0_v7 : Ref sig .tc := ⟨.hbm, 16, rfl⟩
abbrev main_v0_1 : Ref sig .tc := ⟨.hbm, 17, rfl⟩
abbrev main_v0_0 : Ref sig .tc := ⟨.hbm, 18, rfl⟩
abbrev main_v1 : Ref sig .tc := ⟨.hbm, 19, rfl⟩
abbrev main_call1_v0 : Ref sig .tc := ⟨.hbm, 20, rfl⟩
abbrev main_call1_v1 : Ref sig .tc := ⟨.hbm, 21, rfl⟩
abbrev main_call1_v2 : Ref sig .tc := ⟨.hbm, 22, rfl⟩
abbrev main_v2 : Ref sig .tc := ⟨.hbm, 23, rfl⟩
abbrev main_cst : Ref sig .tc := ⟨.hbm, 24, rfl⟩
abbrev main_v3 : Ref sig .tc := ⟨.hbm, 25, rfl⟩
abbrev main_cst_0 : Ref sig .tc := ⟨.hbm, 26, rfl⟩
abbrev main_v4 : Ref sig .tc := ⟨.hbm, 27, rfl⟩
abbrev main_v5 : Ref sig .tc := ⟨.hbm, 28, rfl⟩
abbrev main_cst_1 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_cst_2 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_cst_3 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_cst_4 : Ref sig .tc := ⟨.hbm, 69, rfl⟩
abbrev main_v43 : Ref sig .tc := ⟨.hbm, 70, rfl⟩
abbrev main_v44 : Ref sig .tc := ⟨.hbm, 71, rfl⟩
abbrev main_cst_5 : Ref sig .tc := ⟨.hbm, 72, rfl⟩
abbrev main_v45 : Ref sig .tc := ⟨.hbm, 73, rfl⟩
abbrev main_cst_6 : Ref sig .tc := ⟨.hbm, 74, rfl⟩
abbrev main_v46 : Ref sig .tc := ⟨.hbm, 75, rfl⟩
abbrev main_v47 : Ref sig .tc := ⟨.hbm, 76, rfl⟩
abbrev main_cst_7 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_cst_8 : Ref sig .tc := ⟨.hbm, 82, rfl⟩
abbrev main_v52 : Ref sig .tc := ⟨.hbm, 83, rfl⟩
abbrev main_v53 : Ref sig .tc := ⟨.hbm, 84, rfl⟩
abbrev main_cst_9 : Ref sig .tc := ⟨.hbm, 85, rfl⟩
abbrev main_v54 : Ref sig .tc := ⟨.hbm, 86, rfl⟩
abbrev main_cst_10 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_cst_11 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_cst_12 : Ref sig .tc := ⟨.hbm, 97, rfl⟩
abbrev main_v63 : Ref sig .tc := ⟨.hbm, 98, rfl⟩
abbrev main_v64 : Ref sig .tc := ⟨.hbm, 99, rfl⟩
abbrev main_cst_13 : Ref sig .tc := ⟨.hbm, 100, rfl⟩
abbrev main_v65 : Ref sig .tc := ⟨.hbm, 101, rfl⟩
abbrev main_cst_14 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_cst_15 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_cst_16 : Ref sig .tc := ⟨.hbm, 112, rfl⟩
abbrev main_v74 : Ref sig .tc := ⟨.hbm, 113, rfl⟩
abbrev main_v75 : Ref sig .tc := ⟨.hbm, 114, rfl⟩
abbrev main_cst_17 : Ref sig .tc := ⟨.hbm, 115, rfl⟩
abbrev main_v76 : Ref sig .tc := ⟨.hbm, 116, rfl⟩
abbrev main_cst_18 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_cst_19 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_c : Ref sig .tc := ⟨.hbm, 127, rfl⟩
abbrev main_call2_v0 : Ref sig .tc := ⟨.hbm, 128, rfl⟩
abbrev main_v85 : Ref sig .tc := ⟨.hbm, 129, rfl⟩

abbrev nD : Nat := 1
abbrev τ : Topo := Topo.v7x

variable {F : FTy → Type} [FloatOps F]
-- ==== Kernel41.lean ====
abbrev S4096x128 : Shape := ⟨2, ![4096, 128]⟩
abbrev S128x4096 : Shape := ⟨2, ![128, 4096]⟩
abbrev S1x128 : Shape := ⟨2, ![1, 128]⟩
abbrev S128x128 : Shape := ⟨2, ![128, 128]⟩
abbrev S128 : Shape := ⟨1, ![128]⟩

abbrev nBuf : Space → Nat
  | .hbm => 10
  | .vmem => 16
  | .smem => 0
  | _ => 0

abbrev bufTy : (tb : Table) → Fin (tcTables nBuf tb) → BufTy
  | .hbm, ⟨0, _⟩ => ⟨S4096x128, .f32⟩
  | .hbm, ⟨1, _⟩ => ⟨S4096x128, .f32⟩
  | .hbm, ⟨2, _⟩ => ⟨S128x4096, .f32⟩
  | .hbm, ⟨3, _⟩ => ⟨S128x4096, .f32⟩
  | .hbm, ⟨4, _⟩ => ⟨S4096x128, .f32⟩
  | .hbm, ⟨5, _⟩ => ⟨S1x128, .f32⟩
  | .hbm, ⟨6, _⟩ => ⟨S1x128, .f32⟩
  | .hbm, ⟨7, _⟩ => ⟨S4096x128, .f32⟩
  | .hbm, ⟨8, _⟩ => ⟨S1x128, .f32⟩
  | .hbm, ⟨9, _⟩ => ⟨S1x128, .f32⟩
  | .local _ .vmem, ⟨0, _⟩ => ⟨S128x128, .f32⟩
  | .local _ .vmem, ⟨1, _⟩ => ⟨S128x128, .f32⟩
  | .local _ .vmem, ⟨2, _⟩ => ⟨S128x128, .f32⟩
  | .local _ .vmem, ⟨3, _⟩ => ⟨S128x128, .f32⟩
  | .local _ .vmem, ⟨4, _⟩ => ⟨S128x128, .f32⟩
  | .local _ .vmem, ⟨5, _⟩ => ⟨S128x128, .f32⟩
  | .local _ .vmem, ⟨6, _⟩ => ⟨S128x128, .f32⟩
  | .local _ .vmem, ⟨7, _⟩ => ⟨S128x128, .f32⟩
  | .local _ .vmem, ⟨8, _⟩ => ⟨S128x128, .f32⟩
  | .local _ .vmem, ⟨9, _⟩ => ⟨S128x128, .f32⟩
  | .local _ .vmem, ⟨10, _⟩ => ⟨S1x128, .f32⟩
  | .local _ .vmem, ⟨11, _⟩ => ⟨S1x128, .f32⟩
  | .local _ .vmem, ⟨12, _⟩ => ⟨S128x128, .f32⟩
  | .local _ .vmem, ⟨13, _⟩ => ⟨S128x128, .f32⟩
  | .local _ .vmem, ⟨14, _⟩ => ⟨S1x128, .f32⟩
  | .local _ .vmem, ⟨15, _⟩ => ⟨S1x128, .f32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem9_0 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference41Ideal.lean ====
abbrev S4096x128 : Shape := ⟨2, ![4096, 128]⟩
abbrev S128x4096 : Shape := ⟨2, ![128, 4096]⟩
abbrev S1x128 : Shape := ⟨2, ![1, 128]⟩
abbrev S_ : Shape := ⟨0, ![]⟩
abbrev S32x128x128 : Shape := ⟨3, ![32, 128, 128]⟩
abbrev S128 : Shape := ⟨1, ![128]⟩

abbrev nBuf : Space → Nat
  | .hbm => 86
  | .vmem => 0
  | .smem => 0
  | _ => 0

abbrev bufTy : (tb : Table) → Fin (tcTables nBuf tb) → BufTy
  | .hbm, ⟨0, _⟩ => ⟨S4096x128, .f32⟩
  | .hbm, ⟨1, _⟩ => ⟨S4096x128, .f32⟩
  | .hbm, ⟨2, _⟩ => ⟨S128x4096, .f32⟩
  | .hbm, ⟨3, _⟩ => ⟨S128x4096, .f32⟩
  | .hbm, ⟨4, _⟩ => ⟨S4096x128, .f32⟩
  | .hbm, ⟨5, _⟩ => ⟨S1x128, .f32⟩
  | .hbm, ⟨6, _⟩ => ⟨S1x128, .f32⟩
  | .hbm, ⟨7, _⟩ => ⟨S4096x128, .f32⟩
  | .hbm, ⟨8, _⟩ => ⟨S4096x128, .f32⟩
  | .hbm, ⟨9, _⟩ => ⟨S_, .f32⟩
  | .hbm, ⟨10, _⟩ => ⟨S4096x128, .f32⟩
  | .hbm, ⟨11, _⟩ => ⟨S4096x128, .f32⟩
  | .hbm, ⟨12, _⟩ => ⟨S4096x128, .f32⟩
  | .hbm, ⟨13, _⟩ => ⟨S4096x128, .f32⟩
  | .hbm, ⟨14, _⟩ => ⟨S4096x128, .i1⟩
  | .hbm, ⟨15, _⟩ => ⟨S4096x128, .f32⟩
  | .hbm, ⟨16, _⟩ => ⟨S4096x128, .f32⟩
  | .hbm, ⟨17, _⟩ => ⟨S4096x128, .f32⟩
  | .hbm, ⟨18, _⟩ => ⟨S4096x128, .f32⟩
  | .hbm, ⟨19, _⟩ => ⟨S4096x128, .f32⟩
  | .hbm, ⟨20, _⟩ => ⟨S4096x128, .f32⟩
  | .hbm, ⟨21, _⟩ => ⟨S4096x128, .f32⟩
  | .hbm, ⟨22, _⟩ => ⟨S4096x128, .f32⟩
  | .hbm, ⟨23, _⟩ => ⟨S_, .f32⟩
  | .hbm, ⟨24, _⟩ => ⟨S4096x128, .f32⟩
  | .hbm, ⟨25, _⟩ => ⟨S4096x128, .i1⟩
  | .hbm, ⟨26, _⟩ => ⟨S_, .f32⟩
  | .hbm, ⟨27, _⟩ => ⟨S4096x128, .f32⟩
  | .hbm, ⟨28, _⟩ => ⟨S4096x128, .f32⟩
  | .hbm, ⟨29, _⟩ => ⟨S_, .f32⟩
  | .hbm, ⟨30, _⟩ => ⟨S4096x128, .f32⟩
  | .hbm, ⟨31, _⟩ => ⟨S4096x128, .i1⟩
  | .hbm, ⟨32, _⟩ => ⟨S_, .f32⟩
  | .hbm, ⟨33, _⟩ => ⟨S4096x128, .f32⟩
  | .hbm, ⟨34, _⟩ => ⟨S4096x128, .f32⟩
  | .hbm, ⟨35, _⟩ => ⟨S4096x128, .f32⟩
  | .hbm, ⟨36, _⟩ => ⟨S4096x128, .f32⟩
  | .hbm, ⟨37, _⟩ => ⟨S_, .f32⟩
  | .hbm, ⟨38, _⟩ => ⟨S_, .f32⟩
  | .hbm, ⟨39, _⟩ => ⟨S_, .i1⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S4096x128, .f32⟩
  | .hbm, ⟨45, _⟩ => ⟨S4096x128, .i1⟩
  | .hbm, ⟨46, _⟩ => ⟨S_, .f32⟩
  | .hbm, ⟨47, _⟩ => ⟨S4096x128, .f32⟩
  | .hbm, ⟨48, _⟩ => ⟨S4096x128, .f32⟩
  | .hbm, ⟨49, _⟩ => ⟨S4096x128, .f32⟩
  | .hbm, ⟨50, _⟩ => ⟨S4096x128, .f32⟩
  | .hbm, ⟨51, _⟩ => ⟨S4096x128, .f32⟩
  | .hbm, ⟨52, _⟩ => ⟨S_, .f32⟩
  | .hbm, ⟨53, _⟩ => ⟨S4096x128, .f32⟩
  | .hbm, ⟨54, _⟩ => ⟨S4096x128, .f32⟩
  | .hbm, ⟨55, _⟩ => ⟨S1x128, .f32⟩
  | .hbm, ⟨56, _⟩ => ⟨S1x128, .f32⟩
  | .hbm, ⟨57, _⟩ => ⟨S4096x128, .f32⟩
  | .hbm, ⟨58, _⟩ => ⟨S4096x128, .f32⟩
  | .hbm, ⟨59, _⟩ => ⟨S32x128x128, .f32⟩
  | .hbm, ⟨60, _⟩ => ⟨S_, .f32⟩
  | .hbm, ⟨61, _⟩ => ⟨S_, .f32⟩
  | .hbm, ⟨62, _⟩ => ⟨S32x128x128, .f32⟩
  | .hbm, ⟨63, _⟩ => ⟨S4096x128, .f32⟩
  | .hbm, ⟨64, _⟩ => ⟨S4096x128, .f32⟩
  | .hbm, ⟨65, _⟩ => ⟨S4096x128, .f32⟩
  | .hbm, ⟨66, _⟩ => ⟨S4096x128, .f32⟩
  | .hbm, ⟨67, _⟩ => ⟨S4096x128, .f32⟩
  | .hbm, ⟨68, _⟩ => ⟨S32x128x128, .f32⟩
  | .hbm, ⟨69, _⟩ => ⟨S_, .f32⟩
  | .hbm, ⟨70, _⟩ => ⟨S_, .f32⟩
  | .hbm, ⟨71, _⟩ => ⟨S32x128x128, .f32⟩
  | .hbm, ⟨72, _⟩ => ⟨S4096x128, .f32⟩
  | .hbm, ⟨73, _⟩ => ⟨S4096x128, .f32⟩
  | .hbm, ⟨74, _⟩ => ⟨S_, .f32⟩
  | .hbm, ⟨75, _⟩ => ⟨S128, .f32⟩
  | .hbm, ⟨76, _⟩ => ⟨S1x128, .f32⟩
  | .hbm, ⟨77, _⟩ => ⟨S4096x128, .f32⟩
  | .hbm, ⟨78, _⟩ => ⟨S4096x128, .f32⟩
  | .hbm, ⟨79, _⟩ => ⟨S4096x128, .f32⟩
  | .hbm, ⟨80, _⟩ => ⟨S1x128, .f32⟩
  | .hbm, ⟨81, _⟩ => ⟨S1x128, .f32⟩
  | .hbm, ⟨82, _⟩ => ⟨S4096x128, .f32⟩
  | .hbm, ⟨83, _⟩ => ⟨S_, .f32⟩
  | .hbm, ⟨84, _⟩ => ⟨S128, .f32⟩
  | .hbm, ⟨85, _⟩ => ⟨S1x128, .f32⟩
  | _, _ => ⟨S4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_call0_cst : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_v2_0 : Ref sig .tc := ⟨.hbm, 22, rfl⟩
abbrev main_call0_cst_0 : Ref sig .tc := ⟨.hbm, 23, rfl⟩
abbrev main_call0_v13 : Ref sig .tc := ⟨.hbm, 24, rfl⟩
abbrev main_call0_v14 : Ref sig .tc := ⟨.hbm, 25, rfl⟩
abbrev main_call0_cst_1 : Ref sig .tc := ⟨.hbm, 26, rfl⟩
abbrev main_call0_v15 : Ref sig .tc := ⟨.hbm, 27, rfl⟩
abbrev main_call0_v16 : Ref sig .tc := ⟨.hbm, 28, rfl⟩
abbrev main_call0_cst_2 : Ref sig .tc := ⟨.hbm, 29, rfl⟩
abbrev main_call0_v17 : Ref sig .tc := ⟨.hbm, 30, rfl⟩
abbrev main_call0_v18 : Ref sig .tc := ⟨.hbm, 31, rfl⟩
abbrev main_call0_cst_3 : Ref sig .tc := ⟨.hbm, 32, rfl⟩
abbrev main_call0_v19 : Ref sig .tc := ⟨.hbm, 33, rfl⟩
abbrev main_call0_v20 : Ref sig .tc := ⟨.hbm, 34, rfl⟩
abbrev main_call0_v21 : Ref sig .tc := ⟨.hbm, 35, rfl⟩
abbrev main_v2_1 : Ref sig .tc := ⟨.hbm, 36, rfl⟩
abbrev main_call0_cst_4 : Ref sig .tc := ⟨.hbm, 37, rfl⟩
abbrev main_call0_cst_5 : Ref sig .tc := ⟨.hbm, 38, rfl⟩
abbrev main_call0_v23 : Ref sig .tc := ⟨.hbm, 39, rfl⟩
abbrev main_call0_cst_6 : Ref sig .tc := ⟨.hbm, 40, rfl⟩
abbrev main_call0_cst_7 : Ref sig .tc := ⟨.hbm, 41, rfl⟩
abbrev main_call0_v24 : Ref sig .tc := ⟨.hbm, 42, rfl⟩
abbrev main_call0_cst_8 : Ref sig .tc := ⟨.hbm, 43, rfl⟩
abbrev main_call0_v25 : Ref sig .tc := ⟨.hbm, 44, rfl⟩
abbrev main_call0_v26 : Ref sig .tc := ⟨.hbm, 45, rfl⟩
abbrev main_call0_cst_9 : Ref sig .tc := ⟨.hbm, 46, rfl⟩
abbrev main_call0_v27 : Ref sig .tc := ⟨.hbm, 47, rfl⟩
abbrev main_call0_v28 : Ref sig .tc := ⟨.hbm, 48, rfl⟩
abbrev main_call0_v29 : Ref sig .tc := ⟨.hbm, 49, rfl⟩
abbrev main_call0_v30 : Ref sig .tc := ⟨.hbm, 50, rfl⟩
abbrev main_call0_v31 : Ref sig .tc := ⟨.hbm, 51, rfl⟩
abbrev main_call0_cst_10 : Ref sig .tc := ⟨.hbm, 52, rfl⟩
abbrev main_call0_v32 : Ref sig .tc := ⟨.hbm, 53, rfl⟩
abbrev main_v2_2 : Ref sig .tc := ⟨.hbm, 54, rfl⟩
abbrev main_v3 : Ref sig .tc := ⟨.hbm, 55, rfl⟩
abbrev main_v4 : Ref sig .tc := ⟨.hbm, 56, rfl⟩
abbrev main_v5 : Ref sig .tc := ⟨.hbm, 57, rfl⟩
abbrev main_v6 : Ref sig .tc := ⟨.hbm, 58, rfl⟩
abbrev main_v7 : Ref sig .tc := ⟨.hbm, 59, rfl⟩
abbrev main_call1_call0_cst : Ref sig .tc := ⟨.hbm, 60, rfl⟩
abbrev main_call1_call0_v0 : Ref sig .tc := ⟨.hbm, 61, rfl⟩
abbrev main_v8 : Ref sig .tc := ⟨.hbm, 62, rfl⟩
abbrev main_v9 : Ref sig .tc := ⟨.hbm, 63, rfl⟩
abbrev main_v10 : Ref sig .tc := ⟨.hbm, 64, rfl⟩
abbrev main_v11 : Ref sig .tc := ⟨.hbm, 65, rfl⟩
abbrev main_v12 : Ref sig .tc := ⟨.hbm, 66, rfl⟩
abbrev main_v13 : Ref sig .tc := ⟨.hbm, 67, rfl⟩
abbrev main_v14 : Ref sig .tc := ⟨.hbm, 68, rfl⟩
abbrev main_call2_call0_cst : Ref sig .tc := ⟨.hbm, 69, rfl⟩
abbrev main_call2_call0_v0 : Ref sig .tc := ⟨.hbm, 70, rfl⟩
abbrev main_v15 : Ref sig .tc := ⟨.hbm, 71, rfl⟩
abbrev main_v16 : Ref sig .tc := ⟨.hbm, 72, rfl⟩
abbrev main_v17 : Ref sig .tc := ⟨.hbm, 73, rfl⟩
abbrev main_cst : Ref sig .tc := ⟨.hbm, 74, rfl⟩
abbrev main_v18 : Ref sig .tc := ⟨.hbm, 75, rfl⟩
abbrev main_v19 : Ref sig .tc := ⟨.hbm, 76, rfl⟩
abbrev main_v20 : Ref sig .tc := ⟨.hbm, 77, rfl⟩
abbrev main_v21 : Ref sig .tc := ⟨.hbm, 78, rfl⟩
abbrev main_v22 : Ref sig .tc := ⟨.hbm, 79, rfl⟩
abbrev main_v23 : Ref sig .tc := ⟨.hbm, 80, rfl⟩
abbrev main_v24 : Ref sig .tc := ⟨.hbm, 81, rfl⟩
abbrev main_v25 : Ref sig .tc := ⟨.hbm, 82, rfl⟩
abbrev main_cst_0 : Ref sig .tc := ⟨.hbm, 83, rfl⟩
abbrev main_v26 : Ref sig .tc := ⟨.hbm, 84, rfl⟩
abbrev main_v27 : Ref sig .tc := ⟨.hbm, 85, rfl⟩

abbrev nD : Nat := 1
abbrev τ : Topo := Topo.v7x

variable {F : FTy → Type} [FloatOps F]
-- ==== Kernel42.lean ====
abbrev S4096x1024 : Shape := ⟨2, ![4096, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference42Ideal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 18
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Kernel43.lean ====
abbrev S4096x3072 : Shape := ⟨2, ![4096, 3072]⟩
abbrev S3x1024 : Shape := ⟨2, ![3, 1024]⟩
abbrev S4096x1024 : Shape := ⟨2, ![4096, 1024]⟩
abbrev S256x3072 : Shape := ⟨2, ![256, 3072]⟩
abbrev S8x3072 : Shape := ⟨2, ![8, 3072]⟩
abbrev S256x1024 : Shape := ⟨2, ![256, 1024]⟩
abbrev S8x1024 : Shape := ⟨2, ![8, 1024]⟩
abbrev S1x1024 : Shape := ⟨2, ![1, 1024]⟩
abbrev S248x1024 : Shape := ⟨2, ![248, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x3072, .f32⟩
  | .hbm, ⟨1, _⟩ => ⟨S3x1024, .f32⟩
  | .hbm, ⟨2, _⟩ => ⟨S4096x1024, .bf16⟩
  | .local _ .vmem, ⟨0, _⟩ => ⟨S256x3072, .f32⟩
  | .local _ .vmem, ⟨1, _⟩ => ⟨S256x3072, .f32⟩
  | .local _ .vmem, ⟨2, _⟩ => ⟨S8x3072, .f32⟩
  | .local _ .vmem, ⟨3, _⟩ => ⟨S8x3072, .f32⟩
  | .local _ .vmem, ⟨4, _⟩ => ⟨S3x1024, .f32⟩
  | .local _ .vmem, ⟨5, _⟩ => ⟨S256x1024, .bf16⟩
  | .local _ .vmem, ⟨6, _⟩ => ⟨S256x1024, .bf16⟩
  | _, _ => ⟨S4096x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x3072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x3072 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S3x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference43Ideal.lean ====
abbrev S4096x3072 : Shape := ⟨2, ![4096, 3072]⟩
abbrev S3x1024 : Shape := ⟨2, ![3, 1024]⟩
abbrev S4096x1024 : Shape := ⟨2, ![4096, 1024]⟩
abbrev S_ : Shape := ⟨0, ![]⟩
abbrev S2x1024 : Shape := ⟨2, ![2, 1024]⟩
abbrev S4098x1024 : Shape := ⟨2, ![4098, 1024]⟩
abbrev S1x1024 : Shape := ⟨2, ![1, 1024]⟩
abbrev S1024 : Shape := ⟨1, ![1024]⟩

abbrev nBuf : Space → Nat
  | .hbm => 34
  | .vmem => 0
  | .smem => 0
  | _ => 0

abbrev bufTy : (tb : Table) → Fin (tcTables nBuf tb) → BufTy
  | .hbm, ⟨0, _⟩ => ⟨S4096x3072, .f32⟩
  | .hbm, ⟨1, _⟩ => ⟨S3x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S2x1024, .f32⟩
  | .hbm, ⟨8, _⟩ => ⟨S4098x1024, .f32⟩
  | .hbm, ⟨9, _⟩ => ⟨S1x1024, .f32⟩
  | .hbm, ⟨10, _⟩ => ⟨S1024, .f32⟩
  | .hbm, ⟨11, _⟩ => ⟨S4096x1024, .f32⟩
  | .hbm, ⟨12, _⟩ => ⟨S1x1024, .f32⟩
  | .hbm, ⟨13, _⟩ => ⟨S4096x1024, .f32⟩
  | .hbm, ⟨14, _⟩ => ⟨S4096x1024, .f32⟩
  | .hbm, ⟨15, _⟩ => ⟨S_, .f32⟩
  | .hbm, ⟨16, _⟩ => ⟨S4096x1024, .f32⟩
  | .hbm, ⟨17, _⟩ => ⟨S4096x1024, .f32⟩
  | .hbm, ⟨18, _⟩ => ⟨S1x1024, .f32⟩
  | .hbm, ⟨19, _⟩ => ⟨S1024, .f32⟩
  | .hbm, ⟨20, _⟩ => ⟨S4096x1024, .f32⟩
  | .hbm, ⟨21, _⟩ => ⟨S1x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S1x1024, .f32⟩
  | .hbm, ⟨26, _⟩ => ⟨S1024, .f32⟩
  | .hbm, ⟨27, _⟩ => ⟨S4096x1024, .f32⟩
  | .hbm, ⟨28, _⟩ => ⟨S1x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x1024, .bf16⟩
  | _, _ => ⟨S4096x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst_0 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩

abbrev nD : Nat := 1
abbrev τ : Topo := Topo.v7x

variable {F : FTy → Type} [FloatOps F]
-- ==== Kernel44.lean ====
abbrev S4096x4096 : Shape := ⟨2, ![4096, 4096]⟩
abbrev S4x4096 : Shape := ⟨2, ![4, 4096]⟩
abbrev S1x4096 : Shape := ⟨2, ![1, 4096]⟩
abbrev S256x4096 : Shape := ⟨2, ![256, 4096]⟩
abbrev S8x4096 : Shape := ⟨2, ![8, 4096]⟩
abbrev S248x4096 : Shape := ⟨2, ![248, 4096]⟩

abbrev nBuf : Space → Nat
  | .hbm => 5
  | .vmem => 10
  | .smem => 0
  | _ => 0

abbrev bufTy : (tb : Table) → Fin (tcTables nBuf tb) → BufTy
  | .hbm, ⟨0, _⟩ => ⟨S4096x4096, .f32⟩
  | .hbm, ⟨1, _⟩ => ⟨S4x4096, .f32⟩
  | .hbm, ⟨2, _⟩ => ⟨S1x4096, .f32⟩
  | .hbm, ⟨3, _⟩ => ⟨S4096x4096, .f32⟩
  | .hbm, ⟨4, _⟩ => ⟨S4096x4096, .f32⟩
  | .local _ .vmem, ⟨0, _⟩ => ⟨S256x4096, .f32⟩
  | .local _ .vmem, ⟨1, _⟩ => ⟨S256x4096, .f32⟩
  | .local _ .vmem, ⟨2, _⟩ => ⟨S8x4096, .f32⟩
  | .local _ .vmem, ⟨3, _⟩ => ⟨S8x4096, .f32⟩
  | .local _ .vmem, ⟨4, _⟩ => ⟨S4x4096, .f32⟩
  | .local _ .vmem, ⟨5, _⟩ => ⟨S1x4096, .f32⟩
  | .local _ .vmem, ⟨6, _⟩ => ⟨S256x4096, .f32⟩
  | .local _ .vmem, ⟨7, _⟩ => ⟨S256x4096, .f32⟩
  | .local _ .vmem, ⟨8, _⟩ => ⟨S256x4096, .f32⟩
  | .local _ .vmem, ⟨9, _⟩ => ⟨S256x4096, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference44Ideal.lean ====
abbrev S4096x4096 : Shape := ⟨2, ![4096, 4096]⟩
abbrev S4x4096 : Shape := ⟨2, ![4, 4096]⟩
abbrev S1x4096 : Shape := ⟨2, ![1, 4096]⟩
abbrev S_ : Shape := ⟨0, ![]⟩
abbrev S3x4096 : Shape := ⟨2, ![3, 4096]⟩
abbrev S4099x4096 : Shape := ⟨2, ![4099, 4096]⟩
abbrev S4096 : Shape := ⟨1, ![4096]⟩

abbrev nBuf : Space → Nat
  | .hbm => 47
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4x4096, .f32⟩
  | .hbm, ⟨2, _⟩ => ⟨S1x4096, .f32⟩
  | .hbm, ⟨3, _⟩ => ⟨S_, .f32⟩
  | .hbm, ⟨4, _⟩ => ⟨S3x4096, .f32⟩
  | .hbm, ⟨5, _⟩ => ⟨S4099x4096, .f32⟩
  | .hbm, ⟨6, _⟩ => ⟨S1x4096, .f32⟩
  | .hbm, ⟨7, _⟩ => ⟨S4096, .f32⟩
  | .hbm, ⟨8, _⟩ => ⟨S4096x4096, .f32⟩
  | .hbm, ⟨9, _⟩ => ⟨S1x4096, .f32⟩
  | .hbm, ⟨10, _⟩ => ⟨S4096x4096, .f32⟩
  | .hbm, ⟨11, _⟩ => ⟨S4096x4096, .f32⟩
  | .hbm, ⟨12, _⟩ => ⟨S_, .f32⟩
  | .hbm, ⟨13, _⟩ => ⟨S4096x4096, .f32⟩
  | .hbm, ⟨14, _⟩ => ⟨S4096x4096, .f32⟩
  | .hbm, ⟨15, _⟩ => ⟨S1x4096, .f32⟩
  | .hbm, ⟨16, _⟩ => ⟨S4096, .f32⟩
  | .hbm, ⟨17, _⟩ => ⟨S4096x4096, .f32⟩
  | .hbm, ⟨18, _⟩ => ⟨S1x4096, .f32⟩
  | .hbm, ⟨19, _⟩ => ⟨S4096x4096, .f32⟩
  | .hbm, ⟨20, _⟩ => ⟨S4096x4096, .f32⟩
  | .hbm, ⟨21, _⟩ => ⟨S4096x4096, .f32⟩
  | .hbm, ⟨22, _⟩ => ⟨S1x4096, .f32⟩
  | .hbm, ⟨23, _⟩ => ⟨S4096, .f32⟩
  | .hbm, ⟨24, _⟩ => ⟨S4096x4096, .f32⟩
  | .hbm, ⟨25, _⟩ => ⟨S1x4096, .f32⟩
  | .hbm, ⟨26, _⟩ => ⟨S4096x4096, .f32⟩
  | .hbm, ⟨27, _⟩ => ⟨S4096x4096, .f32⟩
  | .hbm, ⟨28, _⟩ => ⟨S4096x4096, .f32⟩
  | .hbm, ⟨29, _⟩ => ⟨S1x4096, .f32⟩
  | .hbm, ⟨30, _⟩ => ⟨S4096, .f32⟩
  | .hbm, ⟨31, _⟩ => ⟨S4096x4096, .f32⟩
  | .hbm, ⟨32, _⟩ => ⟨S1x4096, .f32⟩
  | .hbm, ⟨33, _⟩ => ⟨S4096x4096, .f32⟩
  | .hbm, ⟨34, _⟩ => ⟨S4096x4096, .f32⟩
  | .hbm, ⟨35, _⟩ => ⟨S4096x4096, .f32⟩
  | .hbm, ⟨36, _⟩ => ⟨S4096x4096, .f32⟩
  | .hbm, ⟨37, _⟩ => ⟨S4096x4096, .f32⟩
  | .hbm, ⟨38, _⟩ => ⟨S4096x4096, .f32⟩
  | .hbm, ⟨39, _⟩ => ⟨S4096x4096, .f32⟩
  | .hbm, ⟨40, _⟩ => ⟨S_, .f32⟩
  | .hbm, ⟨41, _⟩ => ⟨S4096x4096, .f32⟩
  | .hbm, ⟨42, _⟩ => ⟨S4096x4096, .f32⟩
  | .hbm, ⟨43, _⟩ => ⟨S_, .f32⟩
  | .hbm, ⟨44, _⟩ => ⟨S4096x4096, .f32⟩
  | .hbm, ⟨45, _⟩ => ⟨S4096x4096, .f32⟩
  | .hbm, ⟨46, _⟩ => ⟨S4096x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_call0_v0 : Ref sig .tc := ⟨.hbm, 38, rfl⟩
abbrev main_call0_v1 : Ref sig .tc := ⟨.hbm, 39, rfl⟩
abbrev main_call0_cst : Ref sig .tc := ⟨.hbm, 40, rfl⟩
abbrev main_call0_v2 : Ref sig .tc := ⟨.hbm, 41, rfl⟩
abbrev main_call0_v3 : Ref sig .tc := ⟨.hbm, 42, rfl⟩
abbrev main_call0_cst_0 : Ref sig .tc := ⟨.hbm, 43, rfl⟩
abbrev main_call0_v4 : Ref sig .tc := ⟨.hbm, 44, rfl⟩
abbrev main_call0_v5 : Ref sig .tc := ⟨.hbm, 45, rfl⟩
abbrev main_v33 : Ref sig .tc := ⟨.hbm, 46, rfl⟩

abbrev nD : Nat := 1
abbrev τ : Topo := Topo.v7x

variable {F : FTy → Type} [FloatOps F]
-- ==== Kernel45.lean ====
abbrev S4096x128 : Shape := ⟨2, ![4096, 128]⟩
abbrev S1x128 : Shape := ⟨2, ![1, 128]⟩
abbrev S128x4096 : Shape := ⟨2, ![128, 4096]⟩
abbrev S128x128 : Shape := ⟨2, ![128, 128]⟩

abbrev nBuf : Space → Nat
  | .hbm => 7
  | .vmem => 12
  | .smem => 0
  | _ => 0

abbrev bufTy : (tb : Table) → Fin (tcTables nBuf tb) → BufTy
  | .hbm, ⟨0, _⟩ => ⟨S4096x128, .f32⟩
  | .hbm, ⟨1, _⟩ => ⟨S1x128, .f32⟩
  | .hbm, ⟨2, _⟩ => ⟨S1x128, .f32⟩
  | .hbm, ⟨3, _⟩ => ⟨S4096x128, .f32⟩
  | .hbm, ⟨4, _⟩ => ⟨S4096x128, .f32⟩
  | .hbm, ⟨5, _⟩ => ⟨S128x4096, .f32⟩
  | .hbm, ⟨6, _⟩ => ⟨S128x4096, .f32⟩
  | .local _ .vmem, ⟨0, _⟩ => ⟨S128x128, .f32⟩
  | .local _ .vmem, ⟨1, _⟩ => ⟨S128x128, .f32⟩
  | .local _ .vmem, ⟨2, _⟩ => ⟨S1x128, .f32⟩
  | .local _ .vmem, ⟨3, _⟩ => ⟨S1x128, .f32⟩
  | .local _ .vmem, ⟨4, _⟩ => ⟨S128x128, .f32⟩
  | .local _ .vmem, ⟨5, _⟩ => ⟨S128x128, .f32⟩
  | .local _ .vmem, ⟨6, _⟩ => ⟨S128x128, .f32⟩
  | .local _ .vmem, ⟨7, _⟩ => ⟨S128x128, .f32⟩
  | .local _ .vmem, ⟨8, _⟩ => ⟨S128x128, .f32⟩
  | .local _ .vmem, ⟨9, _⟩ => ⟨S128x128, .f32⟩
  | .local _ .vmem, ⟨10, _⟩ => ⟨S128x128, .f32⟩
  | .local _ .vmem, ⟨11, _⟩ => ⟨S128x128, .f32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference45Ideal.lean ====
abbrev S4096x128 : Shape := ⟨2, ![4096, 128]⟩
abbrev S1x128 : Shape := ⟨2, ![1, 128]⟩
abbrev S_ : Shape := ⟨0, ![]⟩
abbrev S32x128x128 : Shape := ⟨3, ![32, 128, 128]⟩
abbrev S128x4096 : Shape := ⟨2, ![128, 4096]⟩

abbrev nBuf : Space → Nat
  | .hbm => 30
  | .vmem => 0
  | .smem => 0
  | _ => 0

abbrev bufTy : (tb : Table) → Fin (tcTables nBuf tb) → BufTy
  | .hbm, ⟨0, _⟩ => ⟨S4096x128, .f32⟩
  | .hbm, ⟨1, _⟩ => ⟨S1x128, .f32⟩
  | .hbm, ⟨2, _⟩ => ⟨S1x128, .f32⟩
  | .hbm, ⟨3, _⟩ => ⟨S4096x128, .f32⟩
  | .hbm, ⟨4, _⟩ => ⟨S4096x128, .f32⟩
  | .hbm, ⟨5, _⟩ => ⟨S_, .f32⟩
  | .hbm, ⟨6, _⟩ => ⟨S4096x128, .f32⟩
  | .hbm, ⟨7, _⟩ => ⟨S4096x128, .f32⟩
  | .hbm, ⟨8, _⟩ => ⟨S4096x128, .f32⟩
  | .hbm, ⟨9, _⟩ => ⟨S4096x128, .f32⟩
  | .hbm, ⟨10, _⟩ => ⟨S4096x128, .i1⟩
  | .hbm, ⟨11, _⟩ => ⟨S4096x128, .f32⟩
  | .hbm, ⟨12, _⟩ => ⟨S4096x128, .f32⟩
  | .hbm, ⟨13, _⟩ => ⟨S4096x128, .f32⟩
  | .hbm, ⟨14, _⟩ => ⟨S4096x128, .f32⟩
  | .hbm, ⟨15, _⟩ => ⟨S4096x128, .f32⟩
  | .hbm, ⟨16, _⟩ => ⟨S4096x128, .f32⟩
  | .hbm, ⟨17, _⟩ => ⟨S4096x128, .f32⟩
  | .hbm, ⟨18, _⟩ => ⟨S4096x128, .f32⟩
  | .hbm, ⟨19, _⟩ => ⟨S1x128, .f32⟩
  | .hbm, ⟨20, _⟩ => ⟨S1x128, .f32⟩
  | .hbm, ⟨21, _⟩ => ⟨S4096x128, .f32⟩
  | .hbm, ⟨22, _⟩ => ⟨S4096x128, .f32⟩
  | .hbm, ⟨23, _⟩ => ⟨S32x128x128, .f32⟩
  | .hbm, ⟨24, _⟩ => ⟨S_, .f32⟩
  | .hbm, ⟨25, _⟩ => ⟨S_, .f32⟩
  | .hbm, ⟨26, _⟩ => ⟨S32x128x128, .f32⟩
  | .hbm, ⟨27, _⟩ => ⟨S4096x128, .f32⟩
  | .hbm, ⟨28, _⟩ => ⟨S128x4096, .f32⟩
  | .hbm, ⟨29, _⟩ => ⟨S128x4096, .f32⟩
  | _, _ => ⟨S4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_cst : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_call1_call0_cst : Ref sig .tc := ⟨.hbm, 24, rfl⟩
abbrev main_call1_call0_v0 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩

abbrev nD : Nat := 1
abbrev τ : Topo := Topo.v7x

variable {F : FTy → Type} [FloatOps F]
-- ==== Proof.ConvSpec.lean ====
module

public import Idealize.ShloMosaic.Lib.Pipeline.ValueKit
public import Idealize.ShloMosaic.Lib.Pointwise
public import Idealize.ShloMosaic.Lib.IdealHost
public import Idealize.ShloMosaic.Lib.Affine
public import Idealize.ShloMosaic.Lib.WordCmp
public import Idealize.ShloMosaic.Lib.Tactic

@[expose] public section

noncomputable section

/-! The gradient of the gated short convolution, element by element, as both programs compute it over the extended reals. -/

namespace Cert.ConvGrad

open Idealize.ShloMosaic

abbrev S3x1024 : Shape := ⟨2, ![3, 1024]⟩
abbrev S4096x1024 : Shape := ⟨2, ![4096, 1024]⟩
abbrev S4096x3072 : Shape := ⟨2, ![4096, 3072]⟩

/-- The product of the second and third thirds of row `T` (the values the convolution runs over), zero past the last row. -/
def cu (P : S4096x3072.Idx → EReal) (T : ℕ) (q : Fin 1024) : EReal :=
  if h : T < 4096 then P (ix2 ⟨T, h⟩ ⟨1024 + q.val, by omega⟩) * P (ix2 ⟨T, h⟩ ⟨2048 + q.val, by omega⟩) else 0

/-- `cu` `s` rows earlier, zero before the first row. -/
def cuBack (P : S4096x3072.Idx → EReal) (s T : ℕ) (q : Fin 1024) : EReal := if s ≤ T then cu P (T - s) q else 0

/-- The first third of row `T` times the incoming gradient, zero past the last row. -/
def bg (D : S4096x1024.Idx → EReal) (P : S4096x3072.Idx → EReal) (T : ℕ) (q : Fin 1024) : EReal :=
  if h : T < 4096 then P (ix2 ⟨T, h⟩ ⟨q.val, by omega⟩) * D (ix2 ⟨T, h⟩ q) else 0

/-- The gradient at the products, row `T`: the gradient of the convolution's input, each weight times the incoming gradient of a later row. -/
def dpF (D : S4096x1024.Idx → EReal) (P : S4096x3072.Idx → EReal) (W : S3x1024.Idx → EReal) (T : ℕ) (q : Fin 1024) : EReal :=
  W (ix2 0 q) * bg D P (T + 2) q + W (ix2 1 q) * bg D P (T + 1) q + W (ix2 2 q) * bg D P T q

/-- The convolution at row `T`: each weight times the product of an earlier row. -/
def uF (P : S4096x3072.Idx → EReal) (W : S3x1024.Idx → EReal) (T : ℕ) (q : Fin 1024) : EReal :=
  W (ix2 0 q) * cuBack P 2 T q + W (ix2 1 q) * cuBack P 1 T q + W (ix2 2 q) * cu P T q

/-- The gradient of the projection at row `T` and column `k`, from the three pieces of its columns. -/
def dprojF (D : S4096x1024.Idx → EReal) (P : S4096x3072.Idx → EReal) (W : S3x1024.Idx → EReal) (T : Fin 4096) (k : Fin 3072) : EReal :=
  if h : k.val < 1024 then D (ix2 T ⟨k.val, h⟩) * uF P W T.val ⟨k.val, h⟩
  else if h' : k.val < 2048 then dpF D P W T.val ⟨k.val - 1024, by omega⟩ * P (ix2 T ⟨k.val + 1024, by omega⟩)
  else dpF D P W T.val ⟨k.val - 2048, by omega⟩ * P (ix2 T ⟨k.val - 1024, by omega⟩)

/-- The first third of the columns. -/
theorem dprojF_first (D : S4096x1024.Idx → EReal) (P : S4096x3072.Idx → EReal) (W : S3x1024.Idx → EReal) (T : Fin 4096) (k : Fin 3072) (q : Fin 1024)
    (h : k.val = q.val) : dprojF D P W T k = D (ix2 T q) * uF P W T.val q := by
  rw [dprojF, dif_pos (by omega)]
  congr 3; exact Fin.ext h

/-- The second third of the columns. -/
theorem dprojF_second (D : S4096x1024.Idx → EReal) (P : S4096x3072.Idx → EReal) (W : S3x1024.Idx → EReal) (T : Fin 4096) (k : Fin 3072) (q : Fin 1024)
    (h : k.val = 1024 + q.val) : dprojF D P W T k = dpF D P W T.val q * P (ix2 T ⟨2048 + q.val, by omega⟩) := by
  rw [dprojF, dif_neg (by omega), dif_pos (by omega)]
  exact congrArg₂ (· * ·) (congrArg _ (Fin.ext (by dsimp only; omega))) (congrArg (fun z => P (ix2 T z)) (Fin.ext (by dsimp only; omega)))

/-- The last third of the columns. -/
theorem dprojF_third (D : S4096x1024.Idx → EReal) (P : S4096x3072.Idx → EReal) (W : S3x1024.Idx → EReal) (T : Fin 4096) (k : Fin 3072) (q : Fin 1024)
    (h : k.val = 2048 + q.val) : dprojF D P W T k = dpF D P W T.val q * P (ix2 T ⟨1024 + q.val, by omega⟩) := by
  rw [dprojF, dif_neg (by omega), dif_neg (by omega)]
  exact congrArg₂ (· * ·) (congrArg _ (Fin.ext (by dsimp only; omega))) (congrArg (fun z => P (ix2 T z)) (Fin.ext (by dsimp only; omega)))

/-- One term of the weight gradient: the gradient at row `T` times the product `2 - row` rows earlier. -/
def dwT (D : S4096x1024.Idx → EReal) (P : S4096x3072.Idx → EReal) (row : Fin 8) (T : ℕ) (q : Fin 1024) : EReal :=
  if row.val < 3 then bg D P T q * cuBack P (2 - row.val) T q else 0

/-- Two readings of an array at equal rows are equal. -/
theorem row_congr {n k : ℕ} {α : Type} (f : (⟨2, ![n, k]⟩ : Shape).Idx → α) {a b : ℕ} (h : a = b) (ha : a < n) (hb : b < n) (q : Fin k) :
    f (ix2 ⟨a, ha⟩ q) = f (ix2 ⟨b, hb⟩ q) := by subst h; rfl

/-- A two-dimensional index is the pair of its coordinates. -/
theorem pair_eq {n k : ℕ} (x : (⟨2, ![n, k]⟩ : Shape).Idx) : x = ix2 (x 0) (x 1) := by
  funext a; fin_cases a <;> rfl

/-- A choice by a comparison of two small words is the choice by the comparison of the numbers: less than. -/
theorem sel_slt {α : Type} (a b : ℕ) (ha : a < 2 ^ 31) (hb : b < 2 ^ 31) (x y : α) :
    Scalar.select (IntOp.cmpi .slt (BitVec.ofNat 32 a) (BitVec.ofNat 32 b)) x y = if a < b then x else y := by
  have e : (IntOp.cmpi .slt (BitVec.ofNat 32 a) (BitVec.ofNat 32 b) = 1#1) ↔ a < b := by
    rw [IntOp.cmpi_slt, WordCmp.toInt_ofNat_of_lt (a := a) ha, WordCmp.toInt_ofNat_of_lt (a := b) hb]; norm_cast
  unfold Scalar.select
  exact if_congr e rfl rfl

/-- The same for greater or equal. -/
theorem sel_sge {α : Type} (a b : ℕ) (ha : a < 2 ^ 31) (hb : b < 2 ^ 31) (x y : α) :
    Scalar.select (IntOp.cmpi .sge (BitVec.ofNat 32 a) (BitVec.ofNat 32 b)) x y = if b ≤ a then x else y := by
  have e : (IntOp.cmpi .sge (BitVec.ofNat 32 a) (BitVec.ofNat 32 b) = 1#1) ↔ b ≤ a := by
    rw [IntOp.cmpi_sge, WordCmp.toInt_ofNat_of_lt (a := a) ha, WordCmp.toInt_ofNat_of_lt (a := b) hb]; norm_cast
  unfold Scalar.select
  exact if_congr e rfl rfl

/-- The same for greater. -/
theorem sel_sgt {α : Type} (a b : ℕ) (ha : a < 2 ^ 31) (hb : b < 2 ^ 31) (x y : α) :
    Scalar.select (IntOp.cmpi .sgt (BitVec.ofNat 32 a) (BitVec.ofNat 32 b)) x y = if b < a then x else y := by
  have e : (IntOp.cmpi .sgt (BitVec.ofNat 32 a) (BitVec.ofNat 32 b) = 1#1) ↔ b < a := by
    rw [IntOp.cmpi_sgt, WordCmp.toInt_ofNat_of_lt (a := a) ha, WordCmp.toInt_ofNat_of_lt (a := b) hb]; norm_cast
  unfold Scalar.select
  exact if_congr e rfl rfl

/-- The product at a row that exists. -/
theorem cu_row (P : S4096x3072.Idx → EReal) (T : Fin 4096) (q : Fin 1024) :
    P (ix2 T ⟨1024 + q.val, by omega⟩) * P (ix2 T ⟨2048 + q.val, by omega⟩) = cu P T.val q := by
  rw [cu, dif_pos T.isLt]

/-- The gated gradient at a row that exists. -/
theorem bg_row (D : S4096x1024.Idx → EReal) (P : S4096x3072.Idx → EReal) (T : Fin 4096) (q : Fin 1024) :
    P (ix2 T ⟨q.val, by omega⟩) * D (ix2 T q) = bg D P T.val q := by
  rw [bg, dif_pos T.isLt]

/-- Row `n` of the products with two rows of zeros put in front, for `n` between `T` and `T + 2`. -/
theorem cu_padded (P : S4096x3072.Idx → EReal) (s T n : ℕ) (hn : n + s = T + 2) (hs : s ≤ 2) (hT : T < 4096) (q : Fin 1024)
    (hb : ∀ _ : ¬ n < 2, n - 2 < 4096) :
    (if h : n < 2 then (0 : EReal) else P (ix2 ⟨n - 2, hb h⟩ ⟨1024 + q.val, by omega⟩) * P (ix2 ⟨n - 2, hb h⟩ ⟨2048 + q.val, by omega⟩))
      = cuBack P s T q := by
  by_cases h : n < 2
  · rw [dif_pos h, cuBack, if_neg (by omega)]
  · rw [dif_neg h, cuBack, if_pos (by omega), cu_row]
    exact congrArg (cu P · q) (show n - 2 = T - s by omega)

/-- The sum over the sixteen blocks of the sums over their rows is the sum over all the rows. -/
theorem sum_rows (f : ℕ → EReal) : ∑ s ∈ Finset.range (15 + 1), ∑ j : Fin 256, f (256 * s + j.val) = ∑ T : Fin 4096, f T.val := by
  rw [Finset.sum_range, ← Fintype.sum_prod_type']
  exact Fintype.sum_equiv (finProdFinEquiv (m := 16) (n := 256)) _ _ fun x => congrArg f (Nat.add_comm _ _)

/-- Moving the products back by two rows is moving the gradient forward by two. -/
theorem sum_shift (D : S4096x1024.Idx → EReal) (P : S4096x3072.Idx → EReal) (q : Fin 1024) :
    ∑ x : Fin 4094, bg D P (2 + x.val) q * cu P x.val q = ∑ T : Fin 4096, bg D P T.val q * cuBack P 2 T.val q := by
  refine Eq.trans ?_ (Fin.sum_univ_add (a := 2) (b := 4094) fun T : Fin (2 + 4094) => bg D P T.val q * cuBack P 2 T.val q).symm
  rw [Fin.sum_univ_two]
  simp [cuBack]

end Cert.ConvGrad
-- ==== Proof.ConvKernel.lean ====
module

public import proofs.«01_k».proof.Proof.Gen.KernelIdeal.Value
public import proofs.«01_k».proof.Proof.ConvSpec
public import Idealize.ShloMosaic.Lib.Pipeline.ValueKit
public import Idealize.ShloMosaic.Lib.Pointwise
public import Idealize.ShloMosaic.Lib.IdealHost
public import Idealize.ShloMosaic.Lib.Tactic

@[expose] public section

set_option maxRecDepth 16384

noncomputable section

namespace Cert.KernelIdeal.ConvGrad

open Cert.KernelIdeal Cert.KernelIdeal.Gen Idealize.ShloMosaic Idealize.ShloMosaic.TcCoe Idealize.SL.Sem
open Idealize.ShloMosaic.Pipeline (Dat)
open Cert.ConvGrad (cu cuBack bg dpF uF dprojF dprojF_first dprojF_second dprojF_third dwT row_congr pair_eq sum_rows sel_slt sel_sge sel_sgt)

variable (m : (ℓ : Loc nD τ sig) → Buf (Elt Ideal) ℓ)

theorem idx : ∀ t : Fin cfg0.N, win0_0.index t = ![t.val, 0] ∧ win0_1.index t = ![min (32 * (t.val + 1)) 511, 0]
    ∧ win0_2.index t = ![t.val, 0] ∧ win0_3.index t = ![32 * t.val - 1, 0]
    ∧ win0_4.index t = ![min (32 * (t.val + 1)) 511, 0] ∧ win0_5.index t = ![0, 0] ∧ win0_6.index t = ![t.val, 0] ∧ win0_7.index t = ![0, 0] := by
  decide +kernel

/-- The grid has sixteen points. -/
theorem lt16 (t : Fin cfg0.N) : t.val < 16 := lt_of_lt_of_eq t.isLt N_0

/-- The point's coordinate is its number. -/
theorem coord (t : Fin cfg0.N) : (grid0.coords t 0).val = t.val := by
  revert t; decide +kernel

/-- The arrays of the arguments, as functions of an index. -/
abbrev aD (c : Dev nD) : S4096x1024.Idx → EReal := m ((c : Thread nD τ).loc main_arg0)
/-- The projection. -/
abbrev aP (c : Dev nD) : S4096x3072.Idx → EReal := m ((c : Thread nD τ).loc main_arg1)
/-- The convolution's weights. -/
abbrev aW (c : Dev nD) : S3x1024.Idx → EReal := m ((c : Thread nD τ).loc main_arg2)

/-- A block of the incoming gradient. -/
theorem blk0 (c : Dev nD) (t : Fin cfg0.N) (r : Fin 256) (k : Fin 1024) :
    (iblk m c 0 t : S256x1024.Idx → EReal) (ix2 r k) = aD m c (ix2 ⟨256 * t.val + r.val, by have := lt16 t; omega⟩ k) := by
  rw [aD, ← V_main_arg0 m c]
  blk_ext [iblk, (idx t).1]
/-- The eight rows of the gradient after a block, or the array's last eight. -/
theorem blk1 (c : Dev nD) (t : Fin cfg0.N) (r : Fin 8) (k : Fin 1024) :
    (iblk m c 1 t : S8x1024.Idx → EReal) (ix2 r k)
      = aD m c (ix2 ⟨8 * min (32 * (t.val + 1)) 511 + r.val, by have := lt16 t; omega⟩ k) := by
  rw [aD, ← V_main_arg0 m c]
  blk_ext [iblk, (idx t).2.1]
/-- A block of the projection. -/
theorem blk2 (c : Dev nD) (t : Fin cfg0.N) (r : Fin 256) (k : Fin 3072) :
    (iblk m c 2 t : S256x3072.Idx → EReal) (ix2 r k) = aP m c (ix2 ⟨256 * t.val + r.val, by have := lt16 t; omega⟩ k) := by
  rw [aP, ← V_main_arg1 m c]
  blk_ext [iblk, (idx t).2.2.1]
/-- The eight rows of the projection before a block, or the array's first eight. -/
theorem blk3 (c : Dev nD) (t : Fin cfg0.N) (r : Fin 8) (k : Fin 3072) :
    (iblk m c 3 t : S8x3072.Idx → EReal) (ix2 r k) = aP m c (ix2 ⟨8 * (32 * t.val - 1) + r.val, by have := lt16 t; omega⟩ k) := by
  rw [aP, ← V_main_arg1 m c]
  blk_ext [iblk, (idx t).2.2.2.1]
/-- The eight rows of the projection after a block, or the array's last eight. -/
theorem blk4 (c : Dev nD) (t : Fin cfg0.N) (r : Fin 8) (k : Fin 3072) :
    (iblk m c 4 t : S8x3072.Idx → EReal) (ix2 r k)
      = aP m c (ix2 ⟨8 * min (32 * (t.val + 1)) 511 + r.val, by have := lt16 t; omega⟩ k) := by
  rw [aP, ← V_main_arg1 m c]
  blk_ext [iblk, (idx t).2.2.2.2.1]
/-- The weights, whole at every point. -/
theorem blk5 (c : Dev nD) (t : Fin cfg0.N) (r : Fin 3) (k : Fin 1024) :
    (iblk m c 5 t : S3x1024.Idx → EReal) (ix2 r k) = aW m c (ix2 r k) := by
  rw [aW, ← V_main_arg2 m c]
  blk_ext [iblk, (idx t).2.2.2.2.2.1]

/-! ## The values of one block's body -/

/-- The products of the point's rows. -/
abbrev cuB (c : Dev nD) (t : Fin cfg0.N) : FVec Ideal S256x1024 .f32 :=
  k0_pay7 (View.ld (iblk m c 2 t) (Rect.unit ![0, 1024] ![256, 1024] inb_S256x3072_S256x1024_0_1024))
    (View.ld (iblk m c 2 t) (Rect.unit ![0, 2048] ![256, 1024] inb_S256x3072_S256x1024_0_2048))
/-- The gated gradient of the point's rows. -/
abbrev bgB (c : Dev nD) (t : Fin cfg0.N) : FVec Ideal S256x1024 .f32 :=
  k0_pay9 (View.ld (iblk m c 2 t) (Rect.unit ![0, 0] ![256, 1024] inb_S256x3072_S256x1024_0_0)) (iblk m c 0 t)
/-- The products of the eight rows before. -/
abbrev prevB (c : Dev nD) (t : Fin cfg0.N) : FVec Ideal S8x1024 .f32 :=
  k0_pay8 (grid0.coords t) (View.ld (iblk m c 3 t) (Rect.unit ![0, 1024] ![8, 1024] inb_S8x3072_S8x1024_0_1024))
    (View.ld (iblk m c 3 t) (Rect.unit ![0, 2048] ![8, 1024] inb_S8x3072_S8x1024_0_2048))
/-- The gated gradient of the eight rows after. -/
abbrev nextB (c : Dev nD) (t : Fin cfg0.N) : FVec Ideal S8x1024 .f32 :=
  k0_pay10 (grid0.coords t) (iblk m c 1 t) (View.ld (iblk m c 4 t) (Rect.unit ![0, 0] ![8, 1024] inb_S8x3072_S8x1024_0_0))

/-- The products of one block. -/
theorem cu_block (c : Dev nD) (t : Fin cfg0.N) (r : Fin 256) (q : Fin 1024) :
    cuB m c t (ix2 r q)
      = cu (aP m c) (256 * t.val + r.val) q := by
  have ht := lt16 t
  unfold cuB k0_pay7
  pointwise
  rw [blk2, blk2, cu, dif_pos (by omega)]

/-- The gated gradient of one block. -/
theorem bg_block (c : Dev nD) (t : Fin cfg0.N) (r : Fin 256) (q : Fin 1024) :
    bgB m c t (ix2 r q)
      = bg (aD m c) (aP m c) (256 * t.val + r.val) q := by
  have ht := lt16 t
  unfold bgB k0_pay9
  pointwise
  rw [blk2, blk0, bg, dif_pos (by omega), mul_comm]

/-- The eight rows before the block: zero before the first row. -/
theorem halo_prev (c : Dev nD) (t : Fin cfg0.N) (r : Fin 8) (q : Fin 1024) :
    prevB m c t (ix2 r q) = cuBack (aP m c) (8 - r.val) (256 * t.val) q := by
  have ht := lt16 t
  unfold prevB k0_pay8
  pointwise
  rw [coord, show Scalar.cmpi = @IntOp.cmpi 32 from rfl, sel_sgt _ _ (by omega) (by omega), blk3, blk3, cuBack]
  by_cases h : 0 < t.val
  · rw [if_pos h, if_pos (by omega), cu, dif_pos (by omega)]
    exact congrArg₂ (· * ·) (row_congr _ (by omega) _ _ _) (row_congr _ (by omega) _ _ _)
  · rw [if_neg h, if_neg (by omega)]

/-- The eight rows after the block: zero past the last row. -/
theorem halo_next (c : Dev nD) (t : Fin cfg0.N) (r : Fin 8) (q : Fin 1024) :
    nextB m c t (ix2 r q) = bg (aD m c) (aP m c) (256 * t.val + 256 + r.val) q := by
  have ht := lt16 t
  unfold nextB k0_pay10
  pointwise
  rw [coord, show Scalar.cmpi = @IntOp.cmpi 32 from rfl, sel_slt _ _ (by omega) (by omega), blk1, blk4, bg]
  by_cases h : t.val < 15
  · rw [if_pos h, dif_pos (by omega), mul_comm]
    exact congrArg₂ (· * ·) (row_congr _ (by omega) _ _ _) (row_congr _ (by omega) _ _ _)
  · rw [if_neg h, dif_neg (by omega)]

/-- The rows moved down by `s`: the first `s` are the last of the rows before. -/
theorem back_one (A : FVec Ideal S256x1024 .f32) (B : FVec Ideal S8x1024 .f32) (r : Fin 256) (q : Fin 1024) :
    k0_pay16 A B (ix2 r q) = if h : r.val < 1 then B (ix2 ⟨r.val + 7, by omega⟩ q) else A (ix2 ⟨r.val - 1, by omega⟩ q) := by
  unfold k0_pay16
  pointwise
  rw [sel_slt _ _ (by omega) (by omega)]
  by_cases h : r.val < 1
  · rw [if_pos h, dif_pos h, dif_pos (show r.val < 8 by omega)]
    exact row_congr B (by omega) _ _ _
  · rw [if_neg h, dif_neg h]
    exact row_congr A (by omega) _ _ _

/-- The rows moved down by two. -/
theorem back_two (i : grid0.Coords) (v1 v2 : Vec Ideal S256x1024 .f32) (v5 v6 : Vec Ideal S8x1024 .f32) (r : Fin 256) (q : Fin 1024) :
    k0_pay13 i v1 v2 v5 v6 (ix2 r q)
      = if h : r.val < 2 then k0_pay8 i v5 v6 (ix2 ⟨r.val + 6, by omega⟩ q) else k0_pay7 v1 v2 (ix2 ⟨r.val - 2, by omega⟩ q) := by
  unfold k0_pay13
  generalize k0_pay8 i v5 v6 = B
  generalize k0_pay7 v1 v2 = A
  pointwise
  rw [sel_slt _ _ (by omega) (by omega)]
  by_cases h : r.val < 2
  · rw [if_pos h, dif_pos h, dif_pos (show r.val < 8 by omega)]
    exact row_congr B (by omega) _ _ _
  · rw [if_neg h, dif_neg h]
    exact row_congr A (by omega) _ _ _

/-- The two later rows of the block's gradient, weighted: the last rows are the first of the rows after. -/
theorem ahead (A : FVec Ideal S256x1024 .f32) (B : FVec Ideal S8x1024 .f32) (v19 : FVec Ideal S256x1024 .f32) (v32 v59 : Vec Ideal S1x1024 .f32)
    (r : Fin 256) (q : Fin 1024) :
    k0_pay18 A B v19 v32 v59 (ix2 r q)
      = v19 (ix2 r q)
        + v32 (ix2 0 q) * (if h : 254 ≤ r.val then B (ix2 ⟨r.val - 254, by omega⟩ q) else A (ix2 ⟨r.val + 2, by omega⟩ q))
        + v59 (ix2 0 q) * (if h : 255 ≤ r.val then B (ix2 ⟨r.val - 255, by omega⟩ q) else A (ix2 ⟨r.val + 1, by omega⟩ q)) := by
  unfold k0_pay18
  pointwise
  rw [sel_sge _ _ (by omega) (by omega), sel_sge _ _ (by omega) (by omega)]
  refine congrArg₂ (· + ·) (congrArg (fun z : EReal => v19 (ix2 r q) + v32 (ix2 0 q) * z) ?_) (congrArg (fun z : EReal => v59 (ix2 0 q) * z) ?_)
  · by_cases h : 254 ≤ r.val
    · rw [if_pos h, dif_pos h, dif_neg (show ¬ r.val < 248 by omega)]
      exact row_congr B (by omega) _ _ _
    · rw [if_neg h, dif_neg h]
      exact row_congr A (by omega) _ _ _
  · by_cases h : 255 ≤ r.val
    · rw [if_pos h, dif_pos h, dif_neg (show ¬ r.val < 248 by omega)]
      exact row_congr B (by omega) _ _ _
    · rw [if_neg h, dif_neg h]
      exact row_congr A (by omega) _ _ _

/-- The block's products one row earlier. -/
theorem cuBack_one_block (c : Dev nD) (t : Fin cfg0.N) (r : Fin 256) (q : Fin 1024) :
    k0_pay16 (cuB m c t) (prevB m c t) (ix2 r q) = cuBack (aP m c) 1 (256 * t.val + r.val) q := by
  rw [back_one]
  by_cases h : r.val < 1
  · rw [dif_pos h, halo_prev]
    simp only [cuBack]
    rw [show 8 - (r.val + 7) = 1 by omega, show 256 * t.val + r.val = 256 * t.val by omega]
  · rw [dif_neg h, cu_block, cuBack, if_pos (by omega)]
    congr 1
    show 256 * t.val + (r.val - 1) = _
    omega

/-- The block's products two rows earlier. -/
theorem cuBack_two_block (c : Dev nD) (t : Fin cfg0.N) (r : Fin 256) (q : Fin 1024) :
    k0_pay13 (grid0.coords t) (View.ld (iblk m c 2 t) (Rect.unit ![0, 1024] ![256, 1024] inb_S256x3072_S256x1024_0_1024))
            (View.ld (iblk m c 2 t) (Rect.unit ![0, 2048] ![256, 1024] inb_S256x3072_S256x1024_0_2048))
            (View.ld (iblk m c 3 t) (Rect.unit ![0, 1024] ![8, 1024] inb_S8x3072_S8x1024_0_1024))
            (View.ld (iblk m c 3 t) (Rect.unit ![0, 2048] ![8, 1024] inb_S8x3072_S8x1024_0_2048)) (ix2 r q)
     = cuBack (aP m c) 2 (256 * t.val + r.val) q := by
  rw [back_two]
  by_cases h : r.val < 2
  · rw [dif_pos h]
    refine (halo_prev m c t ⟨r.val + 6, by omega⟩ q).trans ?_
    simp only [cuBack]
    by_cases h0 : t.val = 0
    · rw [if_neg (by omega), if_neg (by omega)]
    · rw [if_pos (by omega), if_pos (by omega)]
      congr 1; omega
  · rw [dif_neg h, cuBack, if_pos (by omega)]
    refine (cu_block m c t ⟨r.val - 2, by omega⟩ q).trans ?_
    congr 1
    show 256 * t.val + (r.val - 2) = _
    omega

/-- The gradient at the products, on one block. -/
theorem dp_block (c : Dev nD) (t : Fin cfg0.N) (r : Fin 256) (q : Fin 1024) :
    k0_pay1 (bgB m c t) (k0_pay18 (bgB m c t) (nextB m c t) k0_pay12
                (View.ld (iblk m c 5 t) (Rect.unit ![0, 0] ![1, 1024] inb_S3x1024_S1x1024_0_0))
                (View.ld (iblk m c 5 t) (Rect.unit ![1, 0] ![1, 1024] inb_S3x1024_S1x1024_1_0)))
              (View.ld (iblk m c 5 t) (Rect.unit ![2, 0] ![1, 1024] inb_S3x1024_S1x1024_2_0)) (ix2 r q)
      = dpF (aD m c) (aP m c) (aW m c) (256 * t.val + r.val) q := by
  have ht := lt16 t
  have e2 : (if h : 254 ≤ r.val then nextB m c t (ix2 ⟨r.val - 254, by omega⟩ q) else bgB m c t (ix2 ⟨r.val + 2, by omega⟩ q))
      = bg (aD m c) (aP m c) (256 * t.val + r.val + 2) q := by
    by_cases h : 254 ≤ r.val
    · rw [dif_pos h, halo_next]; congr 1; dsimp only; omega
    · rw [dif_neg h, bg_block]; congr 1
  have e1 : (if h : 255 ≤ r.val then nextB m c t (ix2 ⟨r.val - 255, by omega⟩ q) else bgB m c t (ix2 ⟨r.val + 1, by omega⟩ q))
      = bg (aD m c) (aP m c) (256 * t.val + r.val + 1) q := by
    by_cases h : 255 ≤ r.val
    · rw [dif_pos h, halo_next]; congr 1; dsimp only; omega
    · rw [dif_neg h, bg_block]; congr 1
  have e0 := bg_block m c t r q
  unfold k0_pay1
  generalize hX : k0_pay18 (F := Ideal) _ _ _ _ _ = X
  generalize hA : bgB m c t = A at hX e0
  pointwise
  rw [e0, ← hX, ← hA, ahead, e2, e1, dpF]
  unfold k0_pay12
  pointwise
  simp only [blk5]

/-- The gradient of the first third on one block: the incoming gradient times the convolution. -/
theorem u_block (c : Dev nD) (t : Fin cfg0.N) (r : Fin 256) (q : Fin 1024) :
            k0_pay2 (cuB m c t) (iblk m c 0 t)
              (k0_pay17 (cuB m c t) (prevB m c t) k0_pay11
                (k0_pay14 (grid0.coords t)
                  (View.ld (iblk m c 2 t) (Rect.unit ![0, 1024] ![256, 1024] inb_S256x3072_S256x1024_0_1024))
                  (View.ld (iblk m c 2 t) (Rect.unit ![0, 2048] ![256, 1024] inb_S256x3072_S256x1024_0_2048))
                  (View.ld (iblk m c 3 t) (Rect.unit ![0, 1024] ![8, 1024] inb_S8x3072_S8x1024_0_1024))
                  (View.ld (iblk m c 3 t) (Rect.unit ![0, 2048] ![8, 1024] inb_S8x3072_S8x1024_0_2048))
                  (View.ld (iblk m c 5 t) (Rect.unit ![0, 0] ![1, 1024] inb_S3x1024_S1x1024_0_0)))
                (View.ld (iblk m c 5 t) (Rect.unit ![1, 0] ![1, 1024] inb_S3x1024_S1x1024_1_0)))
              (View.ld (iblk m c 5 t) (Rect.unit ![2, 0] ![1, 1024] inb_S3x1024_S1x1024_2_0)) (ix2 r q)
      = aD m c (ix2 ⟨256 * t.val + r.val, by have := lt16 t; omega⟩ q) * uF (aP m c) (aW m c) (256 * t.val + r.val) q := by
  have e2 := cuBack_two_block m c t r q
  have e1 := cuBack_one_block m c t r q
  have e0 := cu_block m c t r q
  unfold k0_pay2 k0_pay17 k0_pay14 k0_pay11
  generalize k0_pay13 (F := Ideal) _ _ _ _ _ = B2 at *
  generalize k0_pay16 (F := Ideal) _ _ = B1 at *
  generalize cuB m c t = A at *
  pointwise
  rw [e2, e1, e0, uF]
  simp only [blk5, blk0]

/-- The piece the body stores in the last third of the columns. -/
theorem third (c : Dev nD) (t : Fin cfg0.N) (r : Fin 256) (q : Fin 1024) (k : Fin 3072) (hk : k.val = 2048 + q.val) :
    k0_pay4 (View.ld (iblk m c 2 t) (Rect.unit ![0, 1024] ![256, 1024] inb_S256x3072_S256x1024_0_1024)) (bgB m c t)
       (k0_pay18 (bgB m c t) (nextB m c t) k0_pay12
                (View.ld (iblk m c 5 t) (Rect.unit ![0, 0] ![1, 1024] inb_S3x1024_S1x1024_0_0))
                (View.ld (iblk m c 5 t) (Rect.unit ![1, 0] ![1, 1024] inb_S3x1024_S1x1024_1_0)))
              (View.ld (iblk m c 5 t) (Rect.unit ![2, 0] ![1, 1024] inb_S3x1024_S1x1024_2_0)) (ix2 r q)
      = dprojF (aD m c) (aP m c) (aW m c) ⟨256 * t.val + r.val, by have := lt16 t; omega⟩ k := by
  have e := dp_block m c t r q
  unfold k0_pay4
  generalize k0_pay1 (F := Ideal) _ _ _ = X at *
  pointwise
  rw [e, blk2, dprojF_third _ _ _ _ k q hk]

/-- The piece the body stores in the second third of the columns. -/
theorem second (c : Dev nD) (t : Fin cfg0.N) (r : Fin 256) (q : Fin 1024) (k : Fin 3072) (hk : k.val = 1024 + q.val) :
    k0_pay3 (View.ld (iblk m c 2 t) (Rect.unit ![0, 2048] ![256, 1024] inb_S256x3072_S256x1024_0_2048)) (bgB m c t)
       (k0_pay18 (bgB m c t) (nextB m c t) k0_pay12
                (View.ld (iblk m c 5 t) (Rect.unit ![0, 0] ![1, 1024] inb_S3x1024_S1x1024_0_0))
                (View.ld (iblk m c 5 t) (Rect.unit ![1, 0] ![1, 1024] inb_S3x1024_S1x1024_1_0)))
              (View.ld (iblk m c 5 t) (Rect.unit ![2, 0] ![1, 1024] inb_S3x1024_S1x1024_2_0)) (ix2 r q)
      = dprojF (aD m c) (aP m c) (aW m c) ⟨256 * t.val + r.val, by have := lt16 t; omega⟩ k := by
  have e := dp_block m c t r q
  unfold k0_pay3
  generalize k0_pay1 (F := Ideal) _ _ _ = X at *
  pointwise
  rw [e, blk2, dprojF_second _ _ _ _ k q hk]

/-- One point adds its rows' terms to the weights' gradient. -/
theorem dw_step (c : Dev nD) (t : Fin cfg0.N) (prev : FVec Ideal S8x1024 .f32) (r : Fin 8) (q : Fin 1024) :
    k0_pay6 (cuB m c t) (bgB m c t) (k0_pay15 (bgB m c t) (k0_pay13 (grid0.coords t)
                  (View.ld (iblk m c 2 t) (Rect.unit ![0, 1024] ![256, 1024] inb_S256x3072_S256x1024_0_1024))
                  (View.ld (iblk m c 2 t) (Rect.unit ![0, 2048] ![256, 1024] inb_S256x3072_S256x1024_0_2048))
                  (View.ld (iblk m c 3 t) (Rect.unit ![0, 1024] ![8, 1024] inb_S8x3072_S8x1024_0_1024))
                  (View.ld (iblk m c 3 t) (Rect.unit ![0, 2048] ![8, 1024] inb_S8x3072_S8x1024_0_2048))))
       (k0_pay19 (cuB m c t) (prevB m c t) (bgB m c t)) prev (ix2 r q)
     = prev (ix2 r q) + ∑ j : Fin 256, dwT (aD m c) (aP m c) r (256 * t.val + j.val) q := by
  have e2 := fun r => cuBack_two_block m c t r q
  have e1 := fun r => cuBack_one_block m c t r q
  have e0 := fun r => cu_block m c t r q
  have eb := fun r => bg_block m c t r q
  unfold k0_pay6 k0_pay15 k0_pay19
  generalize k0_pay13 (F := Ideal) _ _ _ _ _ = B2 at *
  generalize k0_pay16 (F := Ideal) _ _ = B1 at *
  generalize cuB m c t = A at *
  generalize bgB m c t = B at *
  pointwise
  simp only [e2, e1, e0, eb, dwT]
  congr 1
  by_cases h3 : r.val < 3
  · simp only [if_pos h3]
    rcases (by omega : r.val = 0 ∨ r.val = 1 ∨ r.val = 2) with h | h | h
    · rw [dif_pos (by omega), h]
    · rw [dif_neg (by omega), dif_pos (by omega), h]
    · rw [dif_neg (by omega), dif_neg (by omega), dif_pos (by omega), h]
      simp [cuBack]
  · rw [dif_neg (by omega), dif_neg (by omega), dif_neg (by omega)]
    simp [h3]

/-- What a point leaves in its block of the first result. -/
theorem out6_at (c : Dev nD) (t : Fin cfg0.N) (r : Fin 256) (k : Fin 3072) :
    (outsAt0 m c t.val t.isLt).1 (ix2 r k) = dprojF (aD m c) (aP m c) (aW m c) ⟨256 * t.val + r.val, by have := lt16 t; omega⟩ k := by
  by_cases h : t.val % 16 = 0
  · rw [Gen.outsAt0_A m c t h]
    frame_out
    canon_tiles x hx
    · obtain ⟨a, b, rfl⟩ : ∃ a b, x = ix2 a b := ⟨x 0, x 1, pair_eq x⟩
      obtain rfl : r = a := Fin.ext hx0
      exact third m c t r b k hx1
    · obtain ⟨a, b, rfl⟩ : ∃ a b, x = ix2 a b := ⟨x 0, x 1, pair_eq x⟩
      obtain rfl : r = a := Fin.ext hx0
      exact second m c t r b k hx1
    · obtain ⟨a, b, rfl⟩ : ∃ a b, x = ix2 a b := ⟨x 0, x 1, pair_eq x⟩
      obtain rfl : r = a := Fin.ext hx0
      exact (u_block m c t r b).trans (dprojF_first (aD m c) (aP m c) (aW m c) ⟨256 * t.val + r.val, by have := lt16 t; omega⟩ k b hx1).symm
  · rw [Gen.outsAt0_B m c t h]
    frame_out
    canon_tiles x hx
    · obtain ⟨a, b, rfl⟩ : ∃ a b, x = ix2 a b := ⟨x 0, x 1, pair_eq x⟩
      obtain rfl : r = a := Fin.ext hx0
      exact third m c t r b k hx1
    · obtain ⟨a, b, rfl⟩ : ∃ a b, x = ix2 a b := ⟨x 0, x 1, pair_eq x⟩
      obtain rfl : r = a := Fin.ext hx0
      exact second m c t r b k hx1
    · obtain ⟨a, b, rfl⟩ : ∃ a b, x = ix2 a b := ⟨x 0, x 1, pair_eq x⟩
      obtain rfl : r = a := Fin.ext hx0
      exact (u_block m c t r b).trans (dprojF_first (aD m c) (aP m c) (aW m c) ⟨256 * t.val + r.val, by have := lt16 t; omega⟩ k b hx1).symm

/-- The first point starts the weights' gradient from zero. -/
theorem out7_A (c : Dev nD) (t : Fin cfg0.N) (h : t.val % 16 = 0) (r : Fin 8) (q : Fin 1024) :
    (outsAt0 m c t.val t.isLt).2 (ix2 r q) = 0 + ∑ j : Fin 256, dwT (aD m c) (aP m c) r (256 * t.val + j.val) q := by
  rw [Gen.outsAt0_A m c t h]
  frame_out
  refine (dw_step m c t k0_pay5 r q).trans ?_
  unfold k0_pay5
  pointwise

/-- A later point adds to what the point before left. -/
theorem out7_B (c : Dev nD) (t : Fin cfg0.N) (h : ¬ t.val % 16 = 0) (r : Fin 8) (q : Fin 1024) :
    (outsAt0 m c t.val t.isLt).2 (ix2 r q) = (outsAt0 m c (t.val - 1) (by omega)).2 (ix2 r q) + ∑ j : Fin 256, dwT (aD m c) (aP m c) r (256 * t.val + j.val) q := by
  rw [Gen.outsAt0_B m c t h]
  frame_out
  exact dw_step m c t _ r q

/-- After a point the weights' gradient is the sum over the rows so far. -/
theorem out7_at (c : Dev nD) (t : Fin cfg0.N) (r : Fin 8) (q : Fin 1024) :
    (outsAt0 m c t.val t.isLt).2 (ix2 r q)
      = 0 + ∑ s ∈ Finset.range (t.val + 1), ∑ j : Fin 256, dwT (aD m c) (aP m c) r (256 * s + j.val) q := by
  have h := Pipeline.eq_sum_of_reset_step_apply (fun n h => fun i : Fin 8 × Fin 1024 => (outsAt0 m c n h).2 (ix2 i.1 i.2)) 16 (fun _ => 0)
    (fun s i => ∑ j : Fin 256, dwT (aD m c) (aP m c) i.1 (256 * s + j.val) i.2)
    (fun t h i => out7_A m c t h i.1 i.2) (fun t h i => out7_B m c t h i.1 i.2) t (r, q)
  refine h.trans ?_
  have ht := lt16 t
  rw [Nat.mod_eq_of_lt ht, Nat.div_eq_of_lt ht]
  simp only [Nat.mul_zero, zero_add]

/-- The whole gradient of the projection. -/
def G6 (c : Dev nD) : S4096x3072.Idx → EReal :=
  fun i => dprojF (aD m c) (aP m c) (aW m c) (i 0) (i 1)

/-- The first result after the run. -/
theorem arr6 (c : Dev nD) : (dats m 0 c).arrAt 6 cfg0.N = G6 m c := by
  refine (dats m 0 c).arrAt_eq_of_covers 6 (G6 m c) (by decide +kernel) (fun t hf y => ?_)
  blk_simp
  rw [after0_6]
  obtain ⟨a, b, rfl⟩ : ∃ (a : Fin 256) (b : Fin 3072), y = ix2 a b := ⟨y 0, y 1, pair_eq (n := 256) (k := 3072) y⟩
  refine (out6_at m c t a b).trans ?_
  unfold G6
  have h6 := (idx t).2.2.2.2.2.2.1
  congr 1 <;> (apply Fin.ext; blk_simp [h6])
  exact congrArg (· + a.val) (Nat.mul_comm _ _)

/-- The whole gradient of the weights, in eight rows. -/
def G7 (c : Dev nD) : S8x1024.Idx → EReal :=
  fun i => ∑ T : Fin 4096, dwT (aD m c) (aP m c) (i 0) T.val (i 1)

/-- The second result after the run. -/
theorem arr7 (c : Dev nD) : (dats m 0 c).arrAt 7 cfg0.N = G7 m c := by
  obtain ⟨t, ht⟩ : ∃ t : Fin cfg0.N, t.val = 15 := ⟨⟨15, by decide +kernel⟩, rfl⟩
  have hw : (cfg0.win 7).WholeAt t := by
    obtain rfl : t = ⟨15, by decide +kernel⟩ := Fin.ext ht
    decide +kernel
  refine (dats m 0 c).arrAt_eq_of_after_last 7 t hw (G7 m c) (fun j => ?_)
  blk_simp
  rw [after0_7]
  obtain ⟨a, b, rfl⟩ : ∃ (a : Fin 8) (b : Fin 1024), j = ix2 a b := ⟨j 0, j 1, pair_eq (n := 8) (k := 1024) j⟩
  refine (out7_at m c t a b).trans ?_
  rw [zero_add, ht]
  exact sum_rows fun T => dwT (aD m c) (aP m c) a T b

variable (ρ : Dev nD → PrngReg)

theorem run : θ_run defs (onTc (τ := τ) (main (F := Ideal))) ⟨m, fun _ => 0, ρ⟩ fun r => ∀ c : Dev nD,
      r.2.mem ((c : Thread nD τ).loc main_v0_0) = G6 m c
      ∧ r.2.mem ((c : Thread nD τ).loc main_v0_1) = G7 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (arr6 m c), (h c).2.1.trans (arr7 m c), (h c).2.2⟩) (Value.run_blocks m ρ)

end Cert.KernelIdeal.ConvGrad
-- ==== Proof.ConvRef.lean ====
module

public import proofs.«01_k».proof.Proof.Gen.ReferenceIdeal.Read
public import proofs.«01_k».proof.Proof.Gen.ReferenceIdeal.Run
public import proofs.«01_k».proof.Proof.ConvSpec
public import Idealize.ShloMosaic.Lib.KernelVsHost
public import Idealize.ShloMosaic.Lib.Pipeline.ValueKit.Acc
public import Idealize.ShloMosaic.Lib.Pointwise
public import Idealize.ShloMosaic.Lib.IdealHost
public import Idealize.ShloMosaic.Lib.Tactic

@[expose] public section

set_option maxRecDepth 16384

noncomputable section

namespace Cert.ReferenceIdeal.ConvGrad

open Cert.ConvGrad (cu cuBack bg dpF uF dprojF dprojF_first dprojF_second dprojF_third dwT cu_row bg_row cu_padded row_congr pair_eq sum_shift)
open Cert.ReferenceIdeal Cert.ReferenceIdeal.Gen Cert.ReferenceIdeal.Read Idealize.ShloMosaic Idealize.ShloMosaic.TcCoe Idealize.SL.Sem

variable (x0 : (⟨S4096x1024, .f32⟩ : BufTy).Contents (Elt Ideal)) (x1 : (⟨S4096x3072, .f32⟩ : BufTy).Contents (Elt Ideal)) (x2 : (⟨S3x1024, .f32⟩ : BufTy).Contents (Elt Ideal))

/-- The convolution of row `r`. -/
theorem conv_ref (r : Fin 4096) (q : Fin 1024) : val_main_v28 x1 x2 (ix2 r q) = uF x1 x2 r.val q := by
  have h := r.isLt
  simp only [val_main_v28, val_main_v27, val_main_v21, val_main_v26, val_main_v25, val_main_v24, val_main_v23, val_main_v22, val_main_v20,
    val_main_v19, val_main_v18, val_main_v17, val_main_v16, val_main_v15, val_main_v14, val_main_v13, val_main_v12, val_main_v11, val_main_v10,
    val_main_v9, val_main_v8, val_main_v7, val_main_v5, val_main_v4, val_main_v3, val_main_v2, val_main_v1, val_main_cst, val_main_cst_1]
  pointwise
  rw [uF]
  exact congrArg₂ (· + ·) (congrArg₂ (· + ·) (congrArg (fun z => x2 (ix2 0 q) * z) (cu_padded x1 2 r.val r.val rfl le_rfl h q fun _ => by omega))
    (congrArg (fun z => x2 (ix2 1 q) * z) (cu_padded x1 1 r.val (1 + r.val) (by omega) (by omega) h q fun _ => by omega)))
    (congrArg (fun z => x2 (ix2 2 q) * z) (cu_row x1 r q))

/-- The gradient at the products of the second and third thirds. -/
theorem back_ref (r : Fin 4096) (q : Fin 1024) : val_main_v64 x0 x1 x2 (ix2 r q) = dpF x0 x1 x2 r.val q := by
  have h := r.isLt
  simp only [val_main_v64, val_main_v59, val_main_v58, val_main_v53, val_main_v52, val_main_v48, val_main_v38, val_main_v47, val_main_v42, val_main_v41,
    val_main_v33, val_main_v32, val_main_v30, val_main_v25, val_main_v23, val_main_v22,
    val_main_v18, val_main_v16, val_main_v15, val_main_v10,
    val_main_v8, val_main_v7, val_main_v0, val_main_cst_4, val_main_cst_8, val_main_cst_12]
  pointwise
  simp only [dpF, bg]
  rw [dif_pos h, add_comm, add_comm (x2 (ix2 2 q) * _), ← add_assoc]
  refine congrArg₂ (· + ·) (congrArg₂ (· + ·) ?_ ?_) rfl
  · by_cases h2 : r.val + 2 < 4096
    · rw [dif_pos (by omega), dif_pos h2]
      exact congrArg (fun z => x2 (ix2 0 q) * z) (congrArg₂ (· * ·) (row_congr _ (by omega) _ _ _) (row_congr _ (by omega) _ _ _))
    · rw [dif_neg (by omega), dif_neg h2, mul_zero]
  · by_cases h2 : r.val + 1 < 4096
    · rw [dif_pos (by omega), dif_pos h2]
      exact congrArg (fun z => x2 (ix2 1 q) * z) (congrArg₂ (· * ·) (row_congr _ (by omega) _ _ _) (row_congr _ (by omega) _ _ _))
    · rw [dif_neg (by omega), dif_neg h2, mul_zero]

/-- The weights' gradient, padded to eight rows. -/
theorem weights_ref (r : Fin 8) (q : Fin 1024) : val_main_v69 x0 x1 (ix2 r q) = ∑ T : Fin 4096, dwT x0 x1 r T.val q := by
  simp only [val_main_v69, val_main_v62, val_main_v61, val_main_v60, val_main_v57, val_main_v56, val_main_v55, val_main_v54, val_main_v51, val_main_v50, val_main_v49,
    val_main_v46, val_main_v45, val_main_v44, val_main_v43, val_main_v39, val_main_v40, val_main_v37, val_main_v36, val_main_v35, val_main_v34,
    val_main_v30, val_main_v24, val_main_v17, val_main_v9, val_main_v5, val_main_v4, val_main_v3, val_main_v2, val_main_v1, val_main_v0, val_main_cst,
    val_main_cst_2, val_main_cst_3, val_main_cst_5, val_main_cst_6, val_main_cst_7, val_main_cst_9, val_main_cst_10, val_main_cst_11, val_main_cst_13, val_main_call0_v0, val_main_c]
  pointwise
  have h1 : ∀ x : Fin 4096, (if h : 1 + x.val < 2 then (0 : EReal) else cu x1 (1 + x.val - 2) q) = cuBack x1 1 x.val q := fun x => by
    by_cases h : 1 + x.val < 2
    · rw [dif_pos h, cuBack, if_neg (by omega)]
    · rw [dif_neg h, cuBack, if_pos (by omega)]
      exact congrArg (cu x1 · q) (show 1 + x.val - 2 = x.val - 1 by omega)
  simp only [cu_row x1, bg_row x0 x1, h1, Finset.sum_const, Finset.card_univ, Fintype.card_fin, one_smul, mul_zero, smul_zero, zero_add]
  by_cases h3 : r.val < 3
  · rw [dif_pos h3]
    simp only [dwT, if_pos h3]
    rcases (by omega : r.val = 0 ∨ r.val = 1 ∨ r.val = 2) with h | h | h
    · rw [dif_neg (by omega), dif_neg (by omega), dif_pos (by omega), h, zero_add, zero_add]
      exact sum_shift x0 x1 q
    · rw [dif_neg (by omega), dif_pos (by omega), dif_neg (by omega), h, zero_add, add_zero]
    · rw [dif_pos (by omega), dif_neg (by omega), dif_neg (by omega), h, add_zero, add_zero]
      simp only [cuBack, Nat.sub_self, Nat.zero_le, if_pos, Nat.sub_zero]
  · rw [dif_neg h3]
    simp only [dwT, if_neg h3, Finset.sum_const_zero]
    exact sitofp_zero (φ := .f32)

/-- The reference's gradient of the projection. -/
theorem proj_ref (r : Fin 4096) (k : Fin 3072) : val_main_v68 x0 x1 x2 (ix2 r k) = dprojF x0 x1 x2 r k := by
  have hu := conv_ref x1 x2 r
  have hd := back_ref x0 x1 x2 r
  simp only [val_main_v68, val_main_v67, val_main_v66, val_main_v65, val_main_v31, val_main_v1, val_main_v2]
  pointwise
  by_cases h : k.val < 1024
  · rw [dif_pos h, hu, dprojF, dif_pos h]
  · rw [dif_neg h]
    by_cases h' : k.val < 2048
    · rw [dif_pos (by omega), hd, dprojF_second x0 x1 x2 r k ⟨k.val - 1024, by omega⟩ (by dsimp only; omega)]
    · rw [dif_neg (by omega), hd, mul_comm, dprojF_third x0 x1 x2 r k ⟨k.val - 1024 - 1024, by omega⟩ (by dsimp only; omega)]

theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v68)
          = (fun i : S4096x3072.Idx => dprojF (m ((c.tc : Thread nD τ).loc main_arg0)) (m ((c.tc : Thread nD τ).loc main_arg1))
            (m ((c.tc : Thread nD τ).loc main_arg2)) (i 0) (i 1))
      ∧ r.2.mem ((c.tc : Thread nD τ).loc main_v69)
          = (fun i : S8x1024.Idx => ∑ T : Fin 4096, dwT (m ((c.tc : Thread nD τ).loc main_arg0)) (m ((c.tc : Thread nD τ).loc main_arg1))
            (i 0) T.val (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans ((val_main_v68_eq m c).trans (funext fun i => by
      rw [pair_eq (n := 4096) (k := 3072) i]; exact proj_ref _ _ _ _ _)),
    (h c).2.1.trans ((val_main_v69_eq _ _).trans (funext fun i => by
      rw [pair_eq (n := 8) (k := 1024) i]; exact weights_ref _ _ _ _)), (h c).2.2⟩) (Value.run m ρ)

end Cert.ReferenceIdeal.ConvGrad
-- ==== Proof.ConvValue.lean ====
module

public import proofs.«01_k».proof.Defs
public import proofs.«01_k».proof.Proof.ConvKernel
public import proofs.«01_k».proof.Proof.ConvRef

@[expose] public section

noncomputable section

namespace Cert.ConvGrad

open Idealize.ShloMosaic Idealize.ShloMosaic.TcCoe Idealize.SL.Sem

/-- The reference leaves its arguments as they were and every counter at zero. -/
theorem frame_ri : Cert.quiescent_ReferenceIdeal := fun m ρ _ =>
  (θ_run Cert.ReferenceIdeal.defs _ _).mono (fun r h => ⟨fun c => (h c).2.2, sem_eq_zero_of_no_sems (by decide) r.2⟩)
    (Cert.ReferenceIdeal.Value.run (F := Ideal) m ρ)

/-- The kernel of the gated convolution's gradient and the plain gradient leave the same two arrays, the gradient of the projection and that of
    the weights, over the extended reals. -/
theorem algebraic : Cert.algebraic_KernelIdeal_ReferenceIdeal := by
  pair_intro
  · run_from Cert.KernelIdeal.ConvGrad.run m g
  · run_from Cert.ReferenceIdeal.ConvGrad.run m' g'
    · rfl
    · rfl

end Cert.ConvGrad
-- ==== Proof.MatSum.lean ====
module

public import Idealize.ShloMosaic.Lib.Pipeline.ValueKit
public import Idealize.ShloMosaic.Lib.Pointwise
public import Idealize.ShloMosaic.Lib.IdealHost
public import Idealize.ShloMosaic.Lib.Tactic

@[expose] public section

noncomputable section

/-! What the products share: a sum over all terms is the sum of its two halves, and half of a sum is the sum of the halves. -/

namespace Cert.MatSum

open Idealize.ShloMosaic

/-- A sum of `n + n` terms is the first `n` and then the last `n`. -/
theorem sum_halves {N : ℕ} (n : ℕ) (h : N = n + n) (f : Fin N → EReal) :
    ∑ k, f k = (∑ k : Fin n, f ⟨k.val, by omega⟩) + ∑ k : Fin n, f ⟨n + k.val, by omega⟩ := by
  subst h
  rw [Fin.sum_univ_add]
  rfl

/-- A finite nonnegative factor goes into a sum of extended reals, infinite ones too. -/
theorem mul_sum_of_nonneg {ι : Type} (s : Finset ι) (f : ι → EReal) {a : EReal} (h0 : 0 ≤ a) (ht : a ≠ ⊤) :
    a * ∑ k ∈ s, f k = ∑ k ∈ s, a * f k := by
  classical
  induction s using Finset.induction_on with
  | empty => simp
  | insert i s hi ih => rw [Finset.sum_insert hi, Finset.sum_insert hi, EReal.left_distrib_of_nonneg_of_ne_top h0 ht, ih]

/-- A two-dimensional index is the pair of its coordinates. -/
theorem pair_eq {n k : ℕ} (x : (⟨2, ![n, k]⟩ : Shape).Idx) : x = ix2 (x 0) (x 1) := by
  funext a; fin_cases a <;> rfl

/-- The float word of one half. -/
theorem half_word : Ideal.ofBits .f32 0x3F000000#32 = (((1 : ℝ) / 2 : ℝ) : EReal) := by
  simp [Ideal.ofBits, Ideal.ieee, -EReal.coe_mul]; norm_num

/-- One half is not negative. -/
theorem half_nonneg : (0 : EReal) ≤ (((1 : ℝ) / 2 : ℝ) : EReal) := by
  rw [EReal.coe_nonneg]; norm_num

end Cert.MatSum

end
-- ==== Proof.Silu.lean ====
module

public import Idealize.ShloMosaic.Lib.Pipeline.ValueKit
public import Idealize.ShloMosaic.Lib.Pointwise
public import Idealize.ShloMosaic.Lib.IdealHost
public import Idealize.ShloMosaic.Lib.Tactic

@[expose] public section

noncomputable section

/-! The gate's function over the extended reals, `silu g = g * logistic g`, and its derivative in the two forms in which it is written. -/

namespace Cert.Silu

open Idealize.ShloMosaic

/-- The logistic function as the quotient which the programs compute. -/
theorem quotient (x : EReal) : Ideal.div 1 (1 + Ideal.exp (-x)) = Ideal.logistic x := rfl

/-- The same with the negation written as a difference from zero. -/
theorem quotient_zero_sub (x : EReal) : Ideal.div 1 (1 + Ideal.exp (0 - x)) = Ideal.logistic x := by
  rw [sub_eq_add_neg, zero_add]; rfl

/-- The derivative of `silu` times a real cotangent: gathered in one factor, or as the sum of the two terms of the product rule. The gate itself
    may be infinite. -/
theorem derivative (c : ℝ) (g : EReal) :
    (c : EReal) * (Ideal.logistic g * (1 + g * (1 - Ideal.logistic g)))
      = (c : EReal) * Ideal.logistic g + g * (c : EReal) * (Ideal.logistic g * (1 - Ideal.logistic g)) := by
  have h1 : (1 : EReal) - 1 = 0 := by rw [← EReal.coe_one, ← EReal.coe_sub, sub_self, EReal.coe_zero]
  induction g with
  | bot => simp
  | top => simp [h1]
  | coe g =>
    rw [Ideal.logistic_coe]
    norm_cast
    ring

/-- An extended real which is neither infinity. -/
def IsReal (x : EReal) : Prop := x ≠ ⊥ ∧ x ≠ ⊤

/-- The image of a real number is real. -/
theorem IsReal.coe (r : ℝ) : IsReal (r : EReal) := ⟨EReal.coe_ne_bot r, EReal.coe_ne_top r⟩

/-- It is the image of a real number. -/
theorem IsReal.eq_coe {x : EReal} (h : IsReal x) : x = (x.toReal : EReal) := (EReal.coe_toReal h.2 h.1).symm

/-- The product of two reals is real. -/
theorem IsReal.mul {x y : EReal} (hx : IsReal x) (hy : IsReal y) : IsReal (x * y) := by
  rw [hx.eq_coe, hy.eq_coe, ← EReal.coe_mul]; exact .coe _

/-- The sum of two reals is real. -/
theorem IsReal.add {x y : EReal} (hx : IsReal x) (hy : IsReal y) : IsReal (x + y) := by
  rw [hx.eq_coe, hy.eq_coe, ← EReal.coe_add]; exact .coe _

/-- The sum of finitely many reals is real. -/
theorem IsReal.sum {ι : Type} (s : Finset ι) {f : ι → EReal} (h : ∀ k, IsReal (f k)) : IsReal (∑ k ∈ s, f k) := by
  classical
  induction s using Finset.induction_on with
  | empty => exact .coe 0
  | insert i s hi ih => rw [Finset.sum_insert hi, (h i).eq_coe, ih.eq_coe, ← EReal.coe_add]; exact .coe _

/-- A value whose magnitude the largest float bounds is real. -/
theorem IsReal.of_le {x : EReal} (h : max x (-x) ≤ Ideal.ofBits .f32 0x7F7FFFFF#32) : IsReal x := by
  have ht : Ideal.ofBits .f32 0x7F7FFFFF#32 ≠ ⊤ := by
    simp only [Ideal.ofBits, Ideal.ieee]
    exact EReal.coe_ne_top _
  constructor
  · rintro rfl; simp at h; exact ht h
  · rintro rfl; simp at h; exact ht h

/-- The same with the comparison as the bit which the precondition computes. -/
theorem IsReal.of_bit {x : EReal} (h : BitVec.ofBool (decide (max x (-x) ≤ Ideal.ofBits .f32 0x7F7FFFFF#32)) = 1#1) : IsReal x :=
  .of_le (by
    by_contra hn
    rw [decide_eq_false hn] at h
    exact absurd h (by decide))

end Cert.Silu

end
-- ==== Proof.ActGrad.lean ====
module

public import proofs.«01_k».proof.Defs
public import proofs.«01_k».proof.Proof.Gen.Kernel2Ideal.Value
public import proofs.«01_k».proof.Proof.Gen.Reference2Ideal.Run
public import proofs.«01_k».proof.Proof.Gen.Pre_finite
public import proofs.«01_k».proof.Proof.MatSum
public import proofs.«01_k».proof.Proof.Silu
public import Idealize.ShloMosaic.Lib.KernelVsHost

@[expose] public section

set_option maxRecDepth 16384

noncomputable section

/-! The gradient at the gate and at the up half of the feed-forward layer, `0.5 * (silu(gate) * up) @ w_down`. -/

namespace Cert.Kernel2Ideal.ActGrad

open Cert.Kernel2Ideal Cert.Kernel2Ideal.Gen Idealize.ShloMosaic Idealize.ShloMosaic.TcCoe Idealize.SL.Sem
open Idealize.ShloMosaic.Pipeline (Dat)
open Cert.MatSum (half_word half_nonneg mul_sum_of_nonneg pair_eq)

variable (m : (ℓ : Loc nD τ sig) → Buf (Elt Ideal) ℓ)

/-- Where each window lies at each grid point. -/
theorem idx : ∀ t : Fin cfg0.N, win0_0.index t = ![t.val % 8, 0] ∧ win0_1.index t = ![t.val / 8, 0]
    ∧ win0_2.index t = ![t.val % 8, t.val / 8] ∧ win0_3.index t = ![t.val % 8, t.val / 8]
    ∧ win0_4.index t = ![t.val % 8, t.val / 8] ∧ win0_5.index t = ![t.val % 8, t.val / 8] := by
  decide +kernel

/-- The grid has sixteen points. -/
theorem lt16 (t : Fin cfg0.N) : t.val < 16 := lt_of_lt_of_eq t.isLt N_0

/-- The output's gradient. -/
abbrev aD (c : Dev nD) : S4096x1024.Idx → EReal := m ((c : Thread nD τ).loc main_arg0)
/-- The weights of the layer's last product. -/
abbrev aW (c : Dev nD) : S2816x1024.Idx → EReal := m ((c : Thread nD τ).loc main_arg1)
/-- The gate. -/
abbrev aG (c : Dev nD) : S4096x2816.Idx → EReal := m ((c : Thread nD τ).loc main_arg2)
/-- The up half. -/
abbrev aU (c : Dev nD) : S4096x2816.Idx → EReal := m ((c : Thread nD τ).loc main_arg3)

/-- The gradient at the gated product: half the output's gradient times the transposed weights. -/
def dA (c : Dev nD) : S4096x2816.Idx → EReal := fun i =>
  Ideal.ofBits .f32 0x3F000000#32 * ∑ x : Fin 1024, aD m c (ix2 (i 0) x) * aW m c (ix2 (i 1) x)

/-- The gradient at the gate. -/
def dGate (c : Dev nD) : S4096x2816.Idx → EReal := fun i =>
  dA m c i * aU m c i * (Ideal.logistic (aG m c i) * (1 + aG m c i * (1 - Ideal.logistic (aG m c i))))

/-- The gradient at the up half. -/
def dUp (c : Dev nD) : S4096x2816.Idx → EReal := fun i => dA m c i * (aG m c i * Ideal.logistic (aG m c i))

/-- The row of the arrays under a row of a point's blocks. -/
abbrev row (t : Fin cfg0.N) (r : Fin 512) : Fin 4096 := ⟨512 * (t.val % 8) + r.val, by omega⟩
/-- The column of the arrays under a column of a point's blocks. -/
abbrev col (t : Fin cfg0.N) (q : Fin 1408) : Fin 2816 := ⟨1408 * (t.val / 8) + q.val, by have := lt16 t; omega⟩

/-- The point's block of the output's gradient. -/
abbrev xD (c : Dev nD) (t : Fin cfg0.N) : S512x1024.Idx → EReal := iblk m c 0 t
/-- The point's block of the weights. -/
abbrev xW (c : Dev nD) (t : Fin cfg0.N) : S1408x1024.Idx → EReal := iblk m c 1 t
/-- The point's block of the gate. -/
abbrev xG (c : Dev nD) (t : Fin cfg0.N) : S512x1408.Idx → EReal := iblk m c 2 t
/-- The point's block of the up half. -/
abbrev xU (c : Dev nD) (t : Fin cfg0.N) : S512x1408.Idx → EReal := iblk m c 3 t

/-- A block of the output's gradient is a piece of the array. -/
theorem blk0 (c : Dev nD) (t : Fin cfg0.N) (r : Fin 512) (x : Fin 1024) : xD m c t (ix2 r x) = aD m c (ix2 (row t r) x) := by
  rw [aD, ← V_main_arg0 m c]
  blk_ext [iblk, (idx t).1]

/-- A block of the weights is a piece of the array. -/
theorem blk1 (c : Dev nD) (t : Fin cfg0.N) (q : Fin 1408) (x : Fin 1024) : xW m c t (ix2 q x) = aW m c (ix2 (col t q) x) := by
  rw [aW, ← V_main_arg1 m c]
  blk_ext [iblk, (idx t).2.1]

/-- A block of the gate is a piece of the array. -/
theorem blk2 (c : Dev nD) (t : Fin cfg0.N) (r : Fin 512) (q : Fin 1408) : xG m c t (ix2 r q) = aG m c (ix2 (row t r) (col t q)) := by
  rw [aG, ← V_main_arg2 m c]
  blk_ext [iblk, (idx t).2.2.1]

/-- A block of the up half is a piece of the array. -/
theorem blk3 (c : Dev nD) (t : Fin cfg0.N) (r : Fin 512) (q : Fin 1408) : xU m c t (ix2 r q) = aU m c (ix2 (row t r) (col t q)) := by
  rw [aU, ← V_main_arg3 m c]
  blk_ext [iblk, (idx t).2.2.2.1]

/-- The product of a point's blocks is the gradient at the gated product. -/
theorem dA_at (c : Dev nD) (t : Fin cfg0.N) (r : Fin 512) (q : Fin 1408) :
    Ideal.ofBits .f32 0x3F000000#32 * ∑ x : Fin 1024, xD m c t (ix2 r x) * xW m c t (ix2 q x) = dA m c (ix2 (row t r) (col t q)) :=
  congrArg _ (Finset.sum_congr rfl fun x _ => congrArg₂ (· * ·) (blk0 m c t r x) (blk1 m c t q x))

/-- What a point writes at the gate. -/
theorem out4_at (c : Dev nD) (t : Fin cfg0.N) (r : Fin 512) (q : Fin 1408) :
    out0_4 (iblk m c 0 t) (iblk m c 1 t) (iblk m c 2 t) (iblk m c 3 t) (ix2 r q) = dGate m c (ix2 (row t r) (col t q)) := by
  frame_out
  unfold k0_pay4 k0_pay3 k0_pay2 k0_pay1
  pointwise
  rw [Cert.Silu.quotient_zero_sub]
  exact congrArg₂ (· * ·) (congrArg₂ (· * ·) (dA_at m c t r q) (blk3 m c t r q))
    (congrArg (fun g : EReal => Ideal.logistic g * (1 + g * (1 - Ideal.logistic g))) (blk2 m c t r q))

/-- What a point writes at the up half. -/
theorem out5_at (c : Dev nD) (t : Fin cfg0.N) (r : Fin 512) (q : Fin 1408) :
    out0_5 (iblk m c 0 t) (iblk m c 1 t) (iblk m c 2 t) (iblk m c 3 t) (ix2 r q) = dUp m c (ix2 (row t r) (col t q)) := by
  frame_out
  unfold k0_pay5 k0_pay3 k0_pay2 k0_pay1
  pointwise
  rw [Cert.Silu.quotient_zero_sub]
  exact congrArg₂ (· * ·) (dA_at m c t r q) (congrArg (fun g : EReal => g * Ideal.logistic g) (blk2 m c t r q))

/-- The gradient at the gate after the run. -/
theorem arr4 (c : Dev nD) : (dats m 0 c).arrAt 4 cfg0.N = dGate m c := by
  refine (dats m 0 c).arrAt_eq_of_covers 4 (dGate m c) (by decide +kernel) (fun t _ y => ?_)
  blk_simp
  rw [after0_4]
  obtain ⟨a, b, rfl⟩ : ∃ (a : Fin 512) (b : Fin 1408), y = ix2 a b := ⟨y 0, y 1, pair_eq (n := 512) (k := 1408) y⟩
  refine (out4_at m c t a b).trans ?_
  have h2 := (idx t).2.2.2.2.1
  congr 1
  blk_ext [h2]

/-- The gradient at the up half after the run. -/
theorem arr5 (c : Dev nD) : (dats m 0 c).arrAt 5 cfg0.N = dUp m c := by
  refine (dats m 0 c).arrAt_eq_of_covers 5 (dUp m c) (by decide +kernel) (fun t _ y => ?_)
  blk_simp
  rw [after0_5]
  obtain ⟨a, b, rfl⟩ : ∃ (a : Fin 512) (b : Fin 1408), y = ix2 a b := ⟨y 0, y 1, pair_eq (n := 512) (k := 1408) y⟩
  refine (out5_at m c t a b).trans ?_
  have h2 := (idx t).2.2.2.2.2
  congr 1
  blk_ext [h2]

/-- The run of the kernel, with its results named. -/
theorem run (ρ : Dev nD → PrngReg) : θ_run defs (onTc (τ := τ) (main (F := Ideal))) ⟨m, fun _ => 0, ρ⟩ fun r => ∀ c : Dev nD,
      r.2.mem ((c : Thread nD τ).loc main_v0_0) = dGate m c
      ∧ r.2.mem ((c : Thread nD τ).loc main_v0_1) = dUp m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (arr4 m c), (h c).2.1.trans (arr5 m c), (h c).2.2⟩) (Value.run_blocks m ρ)

/-- Under the precondition the output's gradient, the weights and the up half are real. -/
theorem real_of_pre (h : Cert.Pre_Kernel2Ideal_finite m) (c : Dev nD) :
    (∀ i, Cert.Silu.IsReal (aD m c i)) ∧ (∀ i, Cert.Silu.IsReal (aW m c i)) ∧ ∀ i, Cert.Silu.IsReal (aU m c i) := by
  refine ⟨fun i => ?_, fun i => ?_, fun i => ?_⟩
  · have := congrFun (h c).1 i
    simp only [Cert.Pre_finite.fn] at this
    pointwise at this
    exact Cert.Silu.IsReal.of_bit this
  · have := congrFun (h c).2.1 i
    simp only [Cert.Pre_finite.fn] at this
    pointwise at this
    exact Cert.Silu.IsReal.of_bit this
  · have := congrFun (h c).2.2 i
    simp only [Cert.Pre_finite.fn] at this
    pointwise at this
    exact Cert.Silu.IsReal.of_bit this

/-- There the gradient at the gated product is real as well. -/
theorem dA_real (h : Cert.Pre_Kernel2Ideal_finite m) (c : Dev nD) (i : S4096x2816.Idx) : Cert.Silu.IsReal (dA m c i) := by
  obtain ⟨h0, h1, _⟩ := real_of_pre m h c
  rw [dA, half_word]
  exact (Cert.Silu.IsReal.coe _).mul (.sum _ fun k => (h0 _).mul (h1 _))

/-- There the gradient at the gate is the sum of the two terms of the product rule. -/
theorem dGate_eq (h : Cert.Pre_Kernel2Ideal_finite m) (c : Dev nD) (i : S4096x2816.Idx) :
    dGate m c i = dA m c i * aU m c i * Ideal.logistic (aG m c i)
      + aG m c i * (dA m c i * aU m c i) * (Ideal.logistic (aG m c i) * (1 - Ideal.logistic (aG m c i))) := by
  rw [dGate, ((dA_real m h c i).mul ((real_of_pre m h c).2.2 i)).eq_coe]
  exact Cert.Silu.derivative _ _

end Cert.Kernel2Ideal.ActGrad

namespace Cert.ActGrad

open Idealize.ShloMosaic Idealize.ShloMosaic.TcCoe Idealize.SL.Sem
open Cert.Reference2Ideal Cert.Reference2Ideal.Gen

/-- The factor one half may stand inside the sum. -/
theorem half_sum {n : ℕ} (f g : Fin n → EReal) : ∑ x, Ideal.ofBits .f32 0x3F000000#32 * f x * g x
    = Ideal.ofBits .f32 0x3F000000#32 * ∑ x, f x * g x := by
  rw [Cert.MatSum.half_word, Cert.MatSum.mul_sum_of_nonneg _ _ Cert.MatSum.half_nonneg (EReal.coe_ne_top _)]
  exact Finset.sum_congr rfl fun x _ => mul_assoc _ _ _

/-- The reference leaves its arguments as they were and every counter at zero. -/
theorem frame_ri : Cert.quiescent_Reference2Ideal := fun m ρ _ =>
  (θ_run Cert.Reference2Ideal.defs _ _).mono (fun r h => ⟨fun c => (h c).2.2, sem_eq_zero_of_no_sems (by decide) r.2⟩)
    (Cert.Reference2Ideal.Value.run (F := Ideal) m ρ)

/-- The call's two results and the derivative of the gated product, by the gate and by the up half, are the same arrays over the extended reals
    where the output's gradient, the weights and the up half are finite. -/
theorem algebraic : Cert.algebraic_Kernel2Ideal_Reference2Ideal_pre_finite := by
  pair_intro
  · run_from Cert.Kernel2Ideal.ActGrad.run m g
  · run_from Cert.Reference2Ideal.Value.run (F := Ideal) m' g'
    · funext i
      obtain ⟨a, b, rfl⟩ : ∃ (a : Fin 4096) (b : Fin 2816), i = ix2 a b := ⟨i 0, i 1, Cert.MatSum.pair_eq (n := 4096) (k := 2816) i⟩
      rw [Cert.Kernel2Ideal.ActGrad.dGate_eq m hpre]
      pointwise
      rw [Cert.Silu.quotient, half_sum]
      rfl
    · funext i
      obtain ⟨a, b, rfl⟩ : ∃ (a : Fin 4096) (b : Fin 2816), i = ix2 a b := ⟨i 0, i 1, Cert.MatSum.pair_eq (n := 4096) (k := 2816) i⟩
      pointwise
      rw [Cert.Silu.quotient, half_sum, mul_comm]
      rfl

end Cert.ActGrad

end
-- ==== Proof.DownGrad.lean ====
module

public import proofs.«01_k».proof.Defs
public import proofs.«01_k».proof.Proof.Gen.Kernel3Ideal.Value
public import proofs.«01_k».proof.Proof.Gen.Reference3Ideal.Run
public import proofs.«01_k».proof.Proof.MatSum
public import Idealize.ShloMosaic.Lib.Pipeline.ReadBack

@[expose] public section

set_option maxRecDepth 16384

noncomputable section

/-! The gradient of the feed-forward layer's down weights: half of the product of the activations, transposed, with the incoming gradient,
    summed over the 4096 rows in two halves. -/

namespace Cert.Kernel3Ideal.DownGrad

open Cert.Kernel3Ideal Cert.Kernel3Ideal.Gen Idealize.ShloMosaic Idealize.ShloMosaic.TcCoe Idealize.SL.Sem
open Idealize.ShloMosaic.Pipeline (Dat)
open Cert.MatSum (sum_halves half_word half_nonneg mul_sum_of_nonneg pair_eq)

variable (m : (ℓ : Loc nD τ sig) → Buf (Elt Ideal) ℓ)

/-- Where each window lies at each grid point, and which points write back. -/
theorem idx : ∀ t : Fin cfg0.N, win0_0.index t = ![t.val % 2, t.val / 2] ∧ win0_1.index t = ![t.val % 2, 0]
    ∧ win0_2.index t = ![t.val / 2, 0] ∧ ((cfg0.win 2).flush t = true → t.val % 2 = 1) := by
  decide +kernel

/-- The activations. -/
abbrev aA (c : Dev nD) : S4096x2816.Idx → EReal := m ((c : Thread nD τ).loc main_arg0)
/-- The incoming gradient. -/
abbrev aD (c : Dev nD) : S4096x1024.Idx → EReal := m ((c : Thread nD τ).loc main_arg1)

/-- The gradient of the weights. -/
def G (c : Dev nD) : S2816x1024.Idx → EReal := fun i =>
  ((1 / 2 : ℝ) : EReal) * ∑ k : Fin 4096, aA m c (ix2 k (i 0)) * aD m c (ix2 k (i 1))

/-- The grid has four points. -/
theorem lt4 (t : Fin cfg0.N) : t.val < 4 := lt_of_lt_of_eq t.isLt N_0

/-- The point's block of the activations. -/
abbrev xA (c : Dev nD) (t : Fin cfg0.N) : S2048x1408.Idx → EReal := iblk m c 0 t
/-- The point's block of the incoming gradient. -/
abbrev xD (c : Dev nD) (t : Fin cfg0.N) : S2048x1024.Idx → EReal := iblk m c 1 t

/-- A block of the activations is a piece of the array. -/
theorem blk0 (c : Dev nD) (t : Fin cfg0.N) (k : Fin 2048) (r : Fin 1408) :
    xA m c t (ix2 k r)
      = aA m c (ix2 ⟨2048 * (t.val % 2) + k.val, by omega⟩ ⟨1408 * (t.val / 2) + r.val, by have := lt4 t; omega⟩) := by
  rw [aA, ← V_main_arg0 m c]
  blk_ext [iblk, (idx t).1]

/-- A block of the incoming gradient is a piece of the array. -/
theorem blk1 (c : Dev nD) (t : Fin cfg0.N) (k : Fin 2048) (q : Fin 1024) :
    xD m c t (ix2 k q) = aD m c (ix2 ⟨2048 * (t.val % 2) + k.val, by omega⟩ q) := by
  rw [aD, ← V_main_arg1 m c]
  blk_ext [iblk, (idx t).2.1]

/-- The product of a point's blocks, read off the arrays. -/
theorem part (c : Dev nD) (t : Fin cfg0.N) (r : Fin 1408) (q : Fin 1024) (k : Fin 2048) (K : Fin 4096) (R : Fin 2816)
    (hK : K.val = 2048 * (t.val % 2) + k.val) (hR : R.val = 1408 * (t.val / 2) + r.val) :
    xA m c t (ix2 k r) * xD m c t (ix2 k q)
      = aA m c (ix2 K R) * aD m c (ix2 K q) := by
  rw [blk0, blk1]
  refine congrArg₂ (· * ·) (congrArg₂ (fun x y => aA m c (ix2 x y)) (Fin.ext hK.symm) (Fin.ext hR.symm)) (congrArg (fun x => aD m c (ix2 x q)) (Fin.ext hK.symm))

/-- An even point leaves the first half of the sum in the scratch. -/
theorem acc_at (c : Dev nD) (t : Fin cfg0.N) (h : t.val % 2 = 0) (r : Fin 1408) (q : Fin 1024) (R : Fin 2816)
    (hR : R.val = 1408 * (t.val / 2) + r.val) :
    (outsAt0 m c t.val t.isLt).2 (ix2 r q) = ∑ k : Fin 2048, aA m c (ix2 ⟨k.val, by omega⟩ R) * aD m c (ix2 ⟨k.val, by omega⟩ q) := by
  rw [outsAt0_A m c t h (by omega)]
  frame_out
  unfold k0_pay2 k0_pay1
  pointwise
  exact Finset.sum_congr rfl fun k _ => part m c t r q k _ R (by dsimp only; omega) hR

/-- An odd point adds the second half, halves the sum and writes it out. -/
theorem out_at (c : Dev nD) (t : Fin cfg0.N) (h : t.val % 2 = 1) (r : Fin 1408) (q : Fin 1024) :
    (outsAt0 m c t.val t.isLt).1 (ix2 r q) = G m c (ix2 ⟨1408 * (t.val / 2) + r.val, by have := lt4 t; omega⟩ q) := by
  rw [outsAt0_B m c t (by omega) h]
  frame_out
  unfold k0_pay4 k0_pay1
  pointwise
  rw [read_unread_whole, half_word, mul_comm, G, sum_halves (N := 4096) 2048 (by norm_num)]
  refine congrArg (_ * ·) (congrArg₂ (· + ·) ?_ ?_)
  · exact acc_at m c ⟨t.val - 1, by have := t.isLt; omega⟩ (by dsimp only; omega) r q
      ⟨1408 * (t.val / 2) + r.val, by have := lt4 t; omega⟩ (by dsimp only; omega)
  · exact Finset.sum_congr rfl fun k _ => part m c t r q k _ _ (by dsimp only; omega) rfl

/-- The result after the run. -/
theorem arr (c : Dev nD) : (dats m 0 c).arrAt 2 cfg0.N = G m c := by
  refine (dats m 0 c).arrAt_eq_of_covers 2 (G m c) (by decide +kernel) (fun t hf y => ?_)
  have h := (idx t).2.2.2 hf
  blk_simp
  rw [after0_2]
  obtain ⟨a, b, rfl⟩ : ∃ (a : Fin 1408) (b : Fin 1024), y = ix2 a b := ⟨y 0, y 1, pair_eq (n := 1408) (k := 1024) y⟩
  refine (out_at m c t h a b).trans ?_
  have h2 := (idx t).2.2.1
  congr 1
  blk_ext [h2]

/-- The run of the kernel, with its result named. -/
theorem run (ρ : Dev nD → PrngReg) : θ_run defs (onTc (τ := τ) (main (F := Ideal))) ⟨m, fun _ => 0, ρ⟩ fun r => ∀ c : Dev nD,
      r.2.mem ((c : Thread nD τ).loc main_v0) = G m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (arr m c), (h c).2⟩) (Value.run_blocks m ρ)

end Cert.Kernel3Ideal.DownGrad

namespace Cert.DownGrad

open Idealize.ShloMosaic Idealize.ShloMosaic.TcCoe Idealize.SL.Sem
open Cert.MatSum (half_word half_nonneg mul_sum_of_nonneg)

/-- The reference leaves its arguments as they were and every counter at zero. -/
theorem frame_ri : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

/-- The call of the product and the derivative of half the product by its weights are the same array over the extended reals. -/
theorem algebraic : Cert.algebraic_Kernel3Ideal_Reference3Ideal := by
  pair_intro
  · run_from Cert.Kernel3Ideal.DownGrad.run m g
  · run_from Cert.Reference3Ideal.Value.run (F := Ideal) m' g'
    funext i
    obtain ⟨a, b, rfl⟩ : ∃ (a : Fin 2816) (b : Fin 1024), i = ix2 a b := ⟨i 0, i 1, Cert.MatSum.pair_eq (n := 2816) (k := 1024) i⟩
    pointwise
    rw [half_word]
    refine Eq.trans ?_ (mul_sum_of_nonneg _ _ half_nonneg (EReal.coe_ne_top _)).symm
    exact Finset.sum_congr rfl fun k _ => (mul_assoc _ _ _).trans (congrArg _ (mul_comm _ _))

end Cert.DownGrad
-- ==== Proof.UpGrad.lean ====
module

public import proofs.«01_k».proof.Defs
public import proofs.«01_k».proof.Proof.Gen.Kernel4Ideal.Value
public import proofs.«01_k».proof.Proof.Gen.Reference4Ideal.Run
public import proofs.«01_k».proof.Proof.MatSum
public import Idealize.ShloMosaic.Lib.Pipeline.ReadBack

@[expose] public section

set_option maxRecDepth 16384

noncomputable section

/-! The gradient of the gate's weights, and of the up half's: the product of the layer's input, transposed, with the gradient at the gate, summed
    over the 4096 rows in two halves. -/

namespace Cert.Kernel4Ideal.UpGrad

open Cert.Kernel4Ideal Cert.Kernel4Ideal.Gen Idealize.ShloMosaic Idealize.ShloMosaic.TcCoe Idealize.SL.Sem
open Idealize.ShloMosaic.Pipeline (Dat)
open Cert.MatSum (sum_halves pair_eq)

variable (m : (ℓ : Loc nD τ sig) → Buf (Elt Ideal) ℓ)

/-- Where each window lies at each grid point, and which points write back. -/
theorem idx : ∀ t : Fin cfg0.N, win0_0.index t = ![t.val % 2, 0] ∧ win0_1.index t = ![t.val % 2, t.val / 2]
    ∧ win0_2.index t = ![0, t.val / 2] ∧ ((cfg0.win 2).flush t = true → t.val % 2 = 1) := by
  decide +kernel

/-- The layer's input. -/
abbrev aA (c : Dev nD) : S4096x1024.Idx → EReal := m ((c : Thread nD τ).loc main_arg0)
/-- The gradient at the gate. -/
abbrev aD (c : Dev nD) : S4096x2816.Idx → EReal := m ((c : Thread nD τ).loc main_arg1)

/-- The gradient of the weights. -/
def G (c : Dev nD) : S1024x2816.Idx → EReal := fun i =>
  ∑ k : Fin 4096, aA m c (ix2 k (i 0)) * aD m c (ix2 k (i 1))

/-- The grid has four points. -/
theorem lt4 (t : Fin cfg0.N) : t.val < 4 := lt_of_lt_of_eq t.isLt N_0

/-- The point's block of the layer's input. -/
abbrev xA (c : Dev nD) (t : Fin cfg0.N) : S2048x1024.Idx → EReal := iblk m c 0 t
/-- The point's block of the gradient at the gate. -/
abbrev xD (c : Dev nD) (t : Fin cfg0.N) : S2048x1408.Idx → EReal := iblk m c 1 t

/-- A block of the layer's input is a piece of the array. -/
theorem blk0 (c : Dev nD) (t : Fin cfg0.N) (k : Fin 2048) (r : Fin 1024) :
    xA m c t (ix2 k r)
      = aA m c (ix2 ⟨2048 * (t.val % 2) + k.val, by omega⟩ r) := by
  rw [aA, ← V_main_arg0 m c]
  blk_ext [iblk, (idx t).1]

/-- A block of the gradient at the gate is a piece of the array. -/
theorem blk1 (c : Dev nD) (t : Fin cfg0.N) (k : Fin 2048) (q : Fin 1408) :
    xD m c t (ix2 k q) = aD m c (ix2 ⟨2048 * (t.val % 2) + k.val, by omega⟩ ⟨1408 * (t.val / 2) + q.val, by have := lt4 t; omega⟩) := by
  rw [aD, ← V_main_arg1 m c]
  blk_ext [iblk, (idx t).2.1]

/-- The product of a point's blocks, read off the arrays. -/
theorem part (c : Dev nD) (t : Fin cfg0.N) (r : Fin 1024) (q : Fin 1408) (k : Fin 2048) (K : Fin 4096) (Q : Fin 2816)
    (hK : K.val = 2048 * (t.val % 2) + k.val) (hQ : Q.val = 1408 * (t.val / 2) + q.val) :
    xA m c t (ix2 k r) * xD m c t (ix2 k q)
      = aA m c (ix2 K r) * aD m c (ix2 K Q) := by
  rw [blk0, blk1]
  refine congrArg₂ (· * ·) (congrArg (fun x => aA m c (ix2 x r)) (Fin.ext hK.symm)) (congrArg₂ (fun x y => aD m c (ix2 x y)) (Fin.ext hK.symm) (Fin.ext hQ.symm))

/-- An even point leaves the first half of the sum in the scratch. -/
theorem acc_at (c : Dev nD) (t : Fin cfg0.N) (h : t.val % 2 = 0) (r : Fin 1024) (q : Fin 1408) (Q : Fin 2816)
    (hQ : Q.val = 1408 * (t.val / 2) + q.val) :
    (outsAt0 m c t.val t.isLt).2 (ix2 r q) = ∑ k : Fin 2048, aA m c (ix2 ⟨k.val, by omega⟩ r) * aD m c (ix2 ⟨k.val, by omega⟩ Q) := by
  rw [outsAt0_A m c t h (by omega)]
  frame_out
  unfold k0_pay2 k0_pay1
  pointwise
  exact Finset.sum_congr rfl fun k _ => part m c t r q k _ Q (by dsimp only; omega) hQ

/-- An odd point adds the second half and writes the sum out. -/
theorem out_at (c : Dev nD) (t : Fin cfg0.N) (h : t.val % 2 = 1) (r : Fin 1024) (q : Fin 1408) :
    (outsAt0 m c t.val t.isLt).1 (ix2 r q) = G m c (ix2 r ⟨1408 * (t.val / 2) + q.val, by have := lt4 t; omega⟩) := by
  rw [outsAt0_B m c t (by omega) h]
  frame_out
  unfold k0_pay4 k0_pay1
  pointwise
  rw [read_unread_whole, G, sum_halves (N := 4096) 2048 (by norm_num)]
  refine congrArg₂ (· + ·) ?_ ?_
  · exact acc_at m c ⟨t.val - 1, by have := t.isLt; omega⟩ (by dsimp only; omega) r q
      ⟨1408 * (t.val / 2) + q.val, by have := lt4 t; omega⟩ (by dsimp only; omega)
  · exact Finset.sum_congr rfl fun k _ => part m c t r q k _ _ (by dsimp only; omega) rfl

/-- The result after the run. -/
theorem arr (c : Dev nD) : (dats m 0 c).arrAt 2 cfg0.N = G m c := by
  refine (dats m 0 c).arrAt_eq_of_covers 2 (G m c) (by decide +kernel) (fun t hf y => ?_)
  have h := (idx t).2.2.2 hf
  blk_simp
  rw [after0_2]
  obtain ⟨a, b, rfl⟩ : ∃ (a : Fin 1024) (b : Fin 1408), y = ix2 a b := ⟨y 0, y 1, pair_eq (n := 1024) (k := 1408) y⟩
  refine (out_at m c t h a b).trans ?_
  have h2 := (idx t).2.2.1
  congr 1
  blk_ext [h2]

/-- The run of the kernel, with its result named. -/
theorem run (ρ : Dev nD → PrngReg) : θ_run defs (onTc (τ := τ) (main (F := Ideal))) ⟨m, fun _ => 0, ρ⟩ fun r => ∀ c : Dev nD,
      r.2.mem ((c : Thread nD τ).loc main_v0) = G m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (arr m c), (h c).2⟩) (Value.run_blocks m ρ)

end Cert.Kernel4Ideal.UpGrad

namespace Cert.UpGrad

open Idealize.ShloMosaic Idealize.ShloMosaic.TcCoe Idealize.SL.Sem

/-- The reference leaves its arguments as they were and every counter at zero. -/
theorem frame_ri : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

/-- The call of the product and the derivative of the product by its weights are the same array over the extended reals. -/
theorem algebraic : Cert.algebraic_Kernel4Ideal_Reference4Ideal := by
  pair_intro
  · run_from Cert.Kernel4Ideal.UpGrad.run m g
  · run_from Cert.Reference4Ideal.Value.run (F := Ideal) m' g'
    funext i
    obtain ⟨a, b, rfl⟩ : ∃ (a : Fin 1024) (b : Fin 2816), i = ix2 a b := ⟨i 0, i 1, Cert.MatSum.pair_eq (n := 1024) (k := 2816) i⟩
    pointwise
    exact Finset.sum_congr rfl fun k _ => mul_comm _ _

end Cert.UpGrad
-- ==== Proof.GateInput.lean ====
module

public import proofs.«01_k».proof.Defs
public import proofs.«01_k».proof.Proof.Gen.Kernel5Ideal.Value
public import proofs.«01_k».proof.Proof.Gen.Reference5Ideal.Run
public import proofs.«01_k».proof.Proof.MatSum
public import Idealize.ShloMosaic.Lib.Pipeline.ReadBack

@[expose] public section

set_option maxRecDepth 16384

noncomputable section

/-! The gradient at the layer's input through the gate: the product of the gradient at the gate with the gate's weights, transposed, summed over
    the 2816 columns in two halves. -/

namespace Cert.Kernel5Ideal.GateInput

open Cert.Kernel5Ideal Cert.Kernel5Ideal.Gen Idealize.ShloMosaic Idealize.ShloMosaic.TcCoe Idealize.SL.Sem
open Idealize.ShloMosaic.Pipeline (Dat)
open Cert.MatSum (sum_halves pair_eq)

variable (m : (ℓ : Loc nD τ sig) → Buf (Elt Ideal) ℓ)

/-- Where each window lies at each grid point, and which points write back. -/
theorem idx : ∀ t : Fin cfg0.N, win0_0.index t = ![t.val / 2, t.val % 2] ∧ win0_1.index t = ![0, t.val % 2]
    ∧ win0_2.index t = ![t.val / 2, 0] ∧ ((cfg0.win 2).flush t = true → t.val % 2 = 1) := by
  decide +kernel

/-- The gradient at the gate. -/
abbrev aA (c : Dev nD) : S4096x2816.Idx → EReal := m ((c : Thread nD τ).loc main_arg0)
/-- The weights of the gate and the up half. -/
abbrev aW (c : Dev nD) : S1024x5632.Idx → EReal := m ((c : Thread nD τ).loc main_arg1)

/-- The gradient at the layer's input. -/
def G (c : Dev nD) : S4096x1024.Idx → EReal := fun i =>
  ∑ k : Fin 2816, aA m c (ix2 (i 0) k) * aW m c (ix2 (i 1) ⟨k.val, by omega⟩)

/-- The grid has eight points. -/
theorem lt8 (t : Fin cfg0.N) : t.val < 8 := lt_of_lt_of_eq t.isLt N_0

/-- The point's block of the gradient at the gate. -/
abbrev xA (c : Dev nD) (t : Fin cfg0.N) : S1024x1408.Idx → EReal := iblk m c 0 t
/-- The point's block of the weights. -/
abbrev xW (c : Dev nD) (t : Fin cfg0.N) : S1024x1408.Idx → EReal := iblk m c 1 t

/-- A block of the gradient at the gate is a piece of the array. -/
theorem blk0 (c : Dev nD) (t : Fin cfg0.N) (r : Fin 1024) (k : Fin 1408) :
    xA m c t (ix2 r k)
      = aA m c (ix2 ⟨1024 * (t.val / 2) + r.val, by have := lt8 t; omega⟩ ⟨1408 * (t.val % 2) + k.val, by omega⟩) := by
  rw [aA, ← V_main_arg0 m c]
  blk_ext [iblk, (idx t).1]

/-- A block of the weights is a piece of the array. -/
theorem blk1 (c : Dev nD) (t : Fin cfg0.N) (q : Fin 1024) (k : Fin 1408) :
    xW m c t (ix2 q k) = aW m c (ix2 q ⟨1408 * (t.val % 2) + k.val, by omega⟩) := by
  rw [aW, ← V_main_arg1 m c]
  blk_ext [iblk, (idx t).2.1]

/-- The product of a point's blocks, read off the arrays. -/
theorem part (c : Dev nD) (t : Fin cfg0.N) (r : Fin 1024) (q : Fin 1024) (k : Fin 1408) (K : Fin 2816) (R : Fin 4096)
    (hK : K.val = 1408 * (t.val % 2) + k.val) (hR : R.val = 1024 * (t.val / 2) + r.val) :
    xA m c t (ix2 r k) * xW m c t (ix2 q k)
      = aA m c (ix2 R K) * aW m c (ix2 q ⟨K.val, by omega⟩) := by
  rw [blk0, blk1]
  refine congrArg₂ (· * ·) (congrArg₂ (fun x y => aA m c (ix2 x y)) (Fin.ext hR.symm) (Fin.ext hK.symm)) (congrArg (fun x => aW m c (ix2 q x)) (Fin.ext hK.symm))

/-- An even point leaves the first half of the sum in the scratch. -/
theorem acc_at (c : Dev nD) (t : Fin cfg0.N) (h : t.val % 2 = 0) (r : Fin 1024) (q : Fin 1024) (R : Fin 4096)
    (hR : R.val = 1024 * (t.val / 2) + r.val) :
    (outsAt0 m c t.val t.isLt).2 (ix2 r q) = ∑ k : Fin 1408, aA m c (ix2 R ⟨k.val, by omega⟩) * aW m c (ix2 q ⟨k.val, by omega⟩) := by
  rw [outsAt0_A m c t h (by omega)]
  frame_out
  unfold k0_pay2 k0_pay1
  pointwise
  exact Finset.sum_congr rfl fun k _ => part m c t r q k _ R (by dsimp only; omega) hR

/-- An odd point adds the second half and writes the sum out. -/
theorem out_at (c : Dev nD) (t : Fin cfg0.N) (h : t.val % 2 = 1) (r : Fin 1024) (q : Fin 1024) :
    (outsAt0 m c t.val t.isLt).1 (ix2 r q) = G m c (ix2 ⟨1024 * (t.val / 2) + r.val, by have := lt8 t; omega⟩ q) := by
  rw [outsAt0_B m c t (by omega) h]
  frame_out
  unfold k0_pay4 k0_pay1
  pointwise
  rw [read_unread_whole, G, sum_halves (N := 2816) 1408 (by norm_num)]
  refine congrArg₂ (· + ·) ?_ ?_
  · exact acc_at m c ⟨t.val - 1, by have := t.isLt; omega⟩ (by dsimp only; omega) r q
      ⟨1024 * (t.val / 2) + r.val, by have := lt8 t; omega⟩ (by dsimp only; omega)
  · exact Finset.sum_congr rfl fun k _ => part m c t r q k _ _ (by dsimp only; omega) rfl

/-- The result after the run. -/
theorem arr (c : Dev nD) : (dats m 0 c).arrAt 2 cfg0.N = G m c := by
  refine (dats m 0 c).arrAt_eq_of_covers 2 (G m c) (by decide +kernel) (fun t hf y => ?_)
  have h := (idx t).2.2.2 hf
  blk_simp
  rw [after0_2]
  obtain ⟨a, b, rfl⟩ : ∃ (a : Fin 1024) (b : Fin 1024), y = ix2 a b := ⟨y 0, y 1, pair_eq (n := 1024) (k := 1024) y⟩
  refine (out_at m c t h a b).trans ?_
  have h2 := (idx t).2.2.1
  congr 1
  blk_ext [h2]

/-- The run of the kernel, with its result named. -/
theorem run (ρ : Dev nD → PrngReg) : θ_run defs (onTc (τ := τ) (main (F := Ideal))) ⟨m, fun _ => 0, ρ⟩ fun r => ∀ c : Dev nD,
      r.2.mem ((c : Thread nD τ).loc main_v0) = G m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (arr m c), (h c).2⟩) (Value.run_blocks m ρ)

end Cert.Kernel5Ideal.GateInput

namespace Cert.GateInput

open Idealize.ShloMosaic Idealize.ShloMosaic.TcCoe Idealize.SL.Sem

/-- The reference leaves its arguments as they were and every counter at zero. -/
theorem frame_ri : Cert.quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

/-- The call of the product and the derivative of the product by its left factor are the same array over the extended reals. -/
theorem algebraic : Cert.algebraic_Kernel5Ideal_Reference5Ideal := by
  pair_intro
  · run_from Cert.Kernel5Ideal.GateInput.run m g
  · run_from Cert.Reference5Ideal.Value.run (F := Ideal) m' g'
    funext i
    obtain ⟨a, b, rfl⟩ : ∃ (a : Fin 4096) (b : Fin 1024), i = ix2 a b := ⟨i 0, i 1, Cert.MatSum.pair_eq (n := 4096) (k := 1024) i⟩
    pointwise
    rfl

end Cert.GateInput
-- ==== Proof.UpInput.lean ====
module

public import proofs.«01_k».proof.Defs
public import proofs.«01_k».proof.Proof.Gen.Kernel6Ideal.Value
public import proofs.«01_k».proof.Proof.Gen.Reference6Ideal.Run
public import proofs.«01_k».proof.Proof.MatSum
public import Idealize.ShloMosaic.Lib.Pipeline.ReadBack

@[expose] public section

set_option maxRecDepth 16384

noncomputable section

/-! The gradient at the layer's input through the up half, added to the one through the gate: the product of the gradient at the up half with the
    up half's weights, transposed, summed over the 2816 columns in two halves, plus the array given. -/

namespace Cert.Kernel6Ideal.UpInput

open Cert.Kernel6Ideal Cert.Kernel6Ideal.Gen Idealize.ShloMosaic Idealize.ShloMosaic.TcCoe Idealize.SL.Sem
open Idealize.ShloMosaic.Pipeline (Dat)
open Cert.MatSum (sum_halves pair_eq)

variable (m : (ℓ : Loc nD τ sig) → Buf (Elt Ideal) ℓ)

/-- Where each window lies at each grid point, and which points write back. -/
theorem idx : ∀ t : Fin cfg0.N, win0_0.index t = ![t.val / 2, t.val % 2] ∧ win0_1.index t = ![0, 2 + t.val % 2]
    ∧ win0_2.index t = ![t.val / 2, 0] ∧ win0_3.index t = ![t.val / 2, 0] ∧ ((cfg0.win 3).flush t = true → t.val % 2 = 1) := by
  decide +kernel

/-- The gradient at the up half. -/
abbrev aA (c : Dev nD) : S4096x2816.Idx → EReal := m ((c : Thread nD τ).loc main_arg0)
/-- The weights of the gate and the up half. -/
abbrev aW (c : Dev nD) : S1024x5632.Idx → EReal := m ((c : Thread nD τ).loc main_arg1)

/-- The gradient through the gate. -/
abbrev aR (c : Dev nD) : S4096x1024.Idx → EReal := m ((c : Thread nD τ).loc main_arg2)

/-- The gradient at the layer's input. -/
def G (c : Dev nD) : S4096x1024.Idx → EReal := fun i =>
  (∑ k : Fin 2816, aA m c (ix2 (i 0) k) * aW m c (ix2 (i 1) ⟨2816 + k.val, by omega⟩)) + aR m c i

/-- The grid has eight points. -/
theorem lt8 (t : Fin cfg0.N) : t.val < 8 := lt_of_lt_of_eq t.isLt N_0

/-- The point's block of the gradient at the up half. -/
abbrev xA (c : Dev nD) (t : Fin cfg0.N) : S1024x1408.Idx → EReal := iblk m c 0 t
/-- The point's block of the weights. -/
abbrev xW (c : Dev nD) (t : Fin cfg0.N) : S1024x1408.Idx → EReal := iblk m c 1 t

/-- A block of the gradient at the up half is a piece of the array. -/
theorem blk0 (c : Dev nD) (t : Fin cfg0.N) (r : Fin 1024) (k : Fin 1408) :
    xA m c t (ix2 r k)
      = aA m c (ix2 ⟨1024 * (t.val / 2) + r.val, by have := lt8 t; omega⟩ ⟨1408 * (t.val % 2) + k.val, by omega⟩) := by
  rw [aA, ← V_main_arg0 m c]
  blk_ext [iblk, (idx t).1]

/-- A block of the weights is a piece of the array. -/
theorem blk1 (c : Dev nD) (t : Fin cfg0.N) (q : Fin 1024) (k : Fin 1408) :
    xW m c t (ix2 q k) = aW m c (ix2 q ⟨2816 + (1408 * (t.val % 2) + k.val), by omega⟩) := by
  rw [aW, ← V_main_arg1 m c]
  blk_ext [iblk, (idx t).2.1]

/-- A block of the gradient through the gate is a piece of the array. -/
theorem blk2 (c : Dev nD) (t : Fin cfg0.N) (r : Fin 1024) (q : Fin 1024) :
    (iblk m c 2 t : S1024x1024.Idx → EReal) (ix2 r q) = aR m c (ix2 ⟨1024 * (t.val / 2) + r.val, by have := lt8 t; omega⟩ q) := by
  rw [aR, ← V_main_arg2 m c]
  blk_ext [iblk, (idx t).2.2.1]

/-- The product of a point's blocks, read off the arrays. -/
theorem part (c : Dev nD) (t : Fin cfg0.N) (r : Fin 1024) (q : Fin 1024) (k : Fin 1408) (K : Fin 2816) (R : Fin 4096)
    (hK : K.val = 1408 * (t.val % 2) + k.val) (hR : R.val = 1024 * (t.val / 2) + r.val) :
    xA m c t (ix2 r k) * xW m c t (ix2 q k)
      = aA m c (ix2 R K) * aW m c (ix2 q ⟨2816 + K.val, by omega⟩) := by
  rw [blk0, blk1]
  refine congrArg₂ (· * ·) (congrArg₂ (fun x y => aA m c (ix2 x y)) (Fin.ext hR.symm) (Fin.ext hK.symm)) (congrArg (fun x => aW m c (ix2 q x)) (Fin.ext (congrArg (2816 + ·) hK.symm)))

/-- An even point leaves the first half of the sum in the scratch. -/
theorem acc_at (c : Dev nD) (t : Fin cfg0.N) (h : t.val % 2 = 0) (r : Fin 1024) (q : Fin 1024) (R : Fin 4096)
    (hR : R.val = 1024 * (t.val / 2) + r.val) :
    (outsAt0 m c t.val t.isLt).2 (ix2 r q) = ∑ k : Fin 1408, aA m c (ix2 R ⟨k.val, by omega⟩) * aW m c (ix2 q ⟨2816 + k.val, by omega⟩) := by
  rw [outsAt0_A m c t h (by omega)]
  frame_out
  unfold k0_pay2 k0_pay1
  pointwise
  exact Finset.sum_congr rfl fun k _ => part m c t r q k _ R (by dsimp only; omega) hR

/-- An odd point adds the second half and the array given, and writes the sum out. -/
theorem out_at (c : Dev nD) (t : Fin cfg0.N) (h : t.val % 2 = 1) (r : Fin 1024) (q : Fin 1024) :
    (outsAt0 m c t.val t.isLt).1 (ix2 r q) = G m c (ix2 ⟨1024 * (t.val / 2) + r.val, by have := lt8 t; omega⟩ q) := by
  rw [outsAt0_B m c t (by omega) h]
  frame_out
  unfold k0_pay4 k0_pay1
  pointwise
  rw [read_unread_whole, G, sum_halves (N := 2816) 1408 (by norm_num)]
  refine congrArg₂ (· + ·) (congrArg₂ (· + ·) ?_ ?_) (blk2 m c t r q)
  · exact acc_at m c ⟨t.val - 1, by have := t.isLt; omega⟩ (by dsimp only; omega) r q
      ⟨1024 * (t.val / 2) + r.val, by have := lt8 t; omega⟩ (by dsimp only; omega)
  · exact Finset.sum_congr rfl fun k _ => part m c t r q k _ _ (by dsimp only; omega) rfl

/-- The result after the run. -/
theorem arr (c : Dev nD) : (dats m 0 c).arrAt 3 cfg0.N = G m c := by
  refine (dats m 0 c).arrAt_eq_of_covers 3 (G m c) (by decide +kernel) (fun t hf y => ?_)
  have h := (idx t).2.2.2.2 hf
  blk_simp
  rw [after0_3]
  obtain ⟨a, b, rfl⟩ : ∃ (a : Fin 1024) (b : Fin 1024), y = ix2 a b := ⟨y 0, y 1, pair_eq (n := 1024) (k := 1024) y⟩
  refine (out_at m c t h a b).trans ?_
  have h2 := (idx t).2.2.2.1
  congr 1
  blk_ext [h2]

/-- The run of the kernel, with its result named. -/
theorem run (ρ : Dev nD → PrngReg) : θ_run defs (onTc (τ := τ) (main (F := Ideal))) ⟨m, fun _ => 0, ρ⟩ fun r => ∀ c : Dev nD,
      r.2.mem ((c : Thread nD τ).loc main_v0) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (arr m c), (h c).2⟩) (Value.run_blocks m ρ)

end Cert.Kernel6Ideal.UpInput

namespace Cert.UpInput

open Idealize.ShloMosaic Idealize.ShloMosaic.TcCoe Idealize.SL.Sem

/-- The reference leaves its arguments as they were and every counter at zero. -/
theorem frame_ri : Cert.quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)

/-- The call of the product and the derivative of the product by its left factor, added to the array given, are the same array over the extended reals. -/
theorem algebraic : Cert.algebraic_Kernel6Ideal_Reference6Ideal := by
  pair_intro
  · run_from Cert.Kernel6Ideal.UpInput.run m g
  · run_from Cert.Reference6Ideal.Value.run (F := Ideal) m' g'
    funext i
    obtain ⟨a, b, rfl⟩ : ∃ (a : Fin 4096) (b : Fin 1024), i = ix2 a b := ⟨i 0, i 1, Cert.MatSum.pair_eq (n := 4096) (k := 1024) i⟩
    pointwise
    exact add_comm _ _

end Cert.UpInput
-- ==== Proof.UpValue.lean ====
module

public import proofs.«01_k».proof.Defs
public import proofs.«01_k».proof.Proof.Gen.Kernel7Ideal.Value
public import proofs.«01_k».proof.Proof.Gen.Reference7Ideal.Run
public import proofs.«01_k».proof.Proof.MatSum
public import proofs.«01_k».proof.Proof.Silu
public import Idealize.ShloMosaic.Lib.KernelVsHost

@[expose] public section

set_option maxRecDepth 16384

noncomputable section

/-! The feed-forward layer's first product: the gate and the up half from the two halves of the weights' columns, and the gated product
    `silu(gate) * up`. -/

namespace Cert.Kernel7Ideal.UpValue

open Cert.Kernel7Ideal Cert.Kernel7Ideal.Gen Idealize.ShloMosaic Idealize.ShloMosaic.TcCoe Idealize.SL.Sem
open Idealize.ShloMosaic.Pipeline (Dat)
open Cert.MatSum (pair_eq)

variable (m : (ℓ : Loc nD τ sig) → Buf (Elt Ideal) ℓ)

/-- Where each window lies at each grid point. -/
theorem idx : ∀ t : Fin cfg0.N, win0_0.index t = ![t.val % 8, 0] ∧ win0_1.index t = ![0, t.val / 8]
    ∧ win0_2.index t = ![0, t.val / 8 + 2] ∧ win0_3.index t = ![t.val % 8, t.val / 8]
    ∧ win0_4.index t = ![t.val % 8, t.val / 8] ∧ win0_5.index t = ![t.val % 8, t.val / 8] := by
  decide +kernel

/-- The grid has sixteen points. -/
theorem lt16 (t : Fin cfg0.N) : t.val < 16 := lt_of_lt_of_eq t.isLt N_0

/-- The layer's input. -/
abbrev aH (c : Dev nD) : S4096x1024.Idx → EReal := m ((c : Thread nD τ).loc main_arg0)
/-- The weights, the gate's columns before the up half's. -/
abbrev aW (c : Dev nD) : S1024x5632.Idx → EReal := m ((c : Thread nD τ).loc main_arg1)

/-- The gate. -/
def gate (c : Dev nD) : S4096x2816.Idx → EReal := fun i =>
  ∑ k : Fin 1024, aH m c (ix2 (i 0) k) * aW m c (ix2 k ⟨(i 1).val, lt_trans (i 1).isLt (by decide)⟩)

/-- The up half. -/
def up (c : Dev nD) : S4096x2816.Idx → EReal := fun i =>
  ∑ k : Fin 1024, aH m c (ix2 (i 0) k) * aW m c (ix2 k ⟨2816 + (i 1).val, by have : (i 1).val < 2816 := (i 1).isLt; omega⟩)

/-- The gated product. -/
def act (c : Dev nD) : S4096x2816.Idx → EReal := fun i => gate m c i * Ideal.logistic (gate m c i) * up m c i

/-- The row of the arrays under a row of a point's blocks. -/
abbrev row (t : Fin cfg0.N) (r : Fin 512) : Fin 4096 := ⟨512 * (t.val % 8) + r.val, by omega⟩
/-- The column of the arrays under a column of a point's blocks. -/
abbrev col (t : Fin cfg0.N) (q : Fin 1408) : Fin 2816 := ⟨1408 * (t.val / 8) + q.val, by have := lt16 t; omega⟩

/-- The point's block of the layer's input. -/
abbrev xH (c : Dev nD) (t : Fin cfg0.N) : S512x1024.Idx → EReal := iblk m c 0 t
/-- The point's block of the gate's weights. -/
abbrev xG (c : Dev nD) (t : Fin cfg0.N) : S1024x1408.Idx → EReal := iblk m c 1 t
/-- The point's block of the up half's weights. -/
abbrev xU (c : Dev nD) (t : Fin cfg0.N) : S1024x1408.Idx → EReal := iblk m c 2 t

/-- A block of the layer's input is a piece of the array. -/
theorem blk0 (c : Dev nD) (t : Fin cfg0.N) (r : Fin 512) (k : Fin 1024) : xH m c t (ix2 r k) = aH m c (ix2 (row t r) k) := by
  rw [aH, ← V_main_arg0 m c]
  blk_ext [iblk, (idx t).1]

/-- A block of the gate's weights is a piece of the weights. -/
theorem blk1 (c : Dev nD) (t : Fin cfg0.N) (k : Fin 1024) (q : Fin 1408) :
    xG m c t (ix2 k q) = aW m c (ix2 k ⟨(col t q).val, by omega⟩) := by
  rw [aW, ← V_main_arg1 m c]
  blk_ext [iblk, (idx t).2.1]

/-- A block of the up half's weights is a piece of the weights, further on by the width of the gate. -/
theorem blk2 (c : Dev nD) (t : Fin cfg0.N) (k : Fin 1024) (q : Fin 1408) :
    xU m c t (ix2 k q) = aW m c (ix2 k ⟨2816 + (col t q).val, by omega⟩) := by
  rw [aW, ← V_main_arg1 m c]
  blk_ext [iblk, (idx t).2.2.1]

/-- The product of a point's blocks is the gate. -/
theorem gate_at (c : Dev nD) (t : Fin cfg0.N) (r : Fin 512) (q : Fin 1408) :
    ∑ k : Fin 1024, xH m c t (ix2 r k) * xG m c t (ix2 k q) = gate m c (ix2 (row t r) (col t q)) :=
  Finset.sum_congr rfl fun k _ => congrArg₂ (· * ·) (blk0 m c t r k) (blk1 m c t k q)

/-- The product of a point's blocks is the up half. -/
theorem up_at (c : Dev nD) (t : Fin cfg0.N) (r : Fin 512) (q : Fin 1408) :
    ∑ k : Fin 1024, xH m c t (ix2 r k) * xU m c t (ix2 k q) = up m c (ix2 (row t r) (col t q)) :=
  Finset.sum_congr rfl fun k _ => congrArg₂ (· * ·) (blk0 m c t r k) (blk2 m c t k q)

/-- What a point writes at the gate. -/
theorem out3_at (c : Dev nD) (t : Fin cfg0.N) (r : Fin 512) (q : Fin 1408) :
    out0_3 (iblk m c 0 t) (iblk m c 1 t) (iblk m c 2 t) (ix2 r q) = gate m c (ix2 (row t r) (col t q)) := by
  frame_out
  unfold k0_pay3 k0_pay1
  pointwise
  exact gate_at m c t r q

/-- What a point writes at the up half. -/
theorem out4_at (c : Dev nD) (t : Fin cfg0.N) (r : Fin 512) (q : Fin 1408) :
    out0_4 (iblk m c 0 t) (iblk m c 1 t) (iblk m c 2 t) (ix2 r q) = up m c (ix2 (row t r) (col t q)) := by
  frame_out
  unfold k0_pay4 k0_pay2
  pointwise
  exact up_at m c t r q

/-- What a point writes at the gated product. -/
theorem out5_at (c : Dev nD) (t : Fin cfg0.N) (r : Fin 512) (q : Fin 1408) :
    out0_5 (iblk m c 0 t) (iblk m c 1 t) (iblk m c 2 t) (ix2 r q) = act m c (ix2 (row t r) (col t q)) := by
  frame_out
  unfold k0_pay5 k0_pay2 k0_pay1
  pointwise
  rw [Cert.Silu.quotient_zero_sub]
  exact congrArg₂ (· * ·) (congrArg (fun g : EReal => g * Ideal.logistic g) (gate_at m c t r q)) (up_at m c t r q)

/-- The gate after the run. -/
theorem arr3 (c : Dev nD) : (dats m 0 c).arrAt 3 cfg0.N = gate m c := by
  refine (dats m 0 c).arrAt_eq_of_covers 3 (gate m c) (by decide +kernel) (fun t _ y => ?_)
  blk_simp
  rw [after0_3]
  obtain ⟨a, b, rfl⟩ : ∃ (a : Fin 512) (b : Fin 1408), y = ix2 a b := ⟨y 0, y 1, pair_eq (n := 512) (k := 1408) y⟩
  refine (out3_at m c t a b).trans ?_
  have h2 := (idx t).2.2.2.1
  congr 1
  blk_ext [h2]

/-- The up half after the run. -/
theorem arr4 (c : Dev nD) : (dats m 0 c).arrAt 4 cfg0.N = up m c := by
  refine (dats m 0 c).arrAt_eq_of_covers 4 (up m c) (by decide +kernel) (fun t _ y => ?_)
  blk_simp
  rw [after0_4]
  obtain ⟨a, b, rfl⟩ : ∃ (a : Fin 512) (b : Fin 1408), y = ix2 a b := ⟨y 0, y 1, pair_eq (n := 512) (k := 1408) y⟩
  refine (out4_at m c t a b).trans ?_
  have h2 := (idx t).2.2.2.2.1
  congr 1
  blk_ext [h2]

/-- The gated product after the run. -/
theorem arr5 (c : Dev nD) : (dats m 0 c).arrAt 5 cfg0.N = act m c := by
  refine (dats m 0 c).arrAt_eq_of_covers 5 (act m c) (by decide +kernel) (fun t _ y => ?_)
  blk_simp
  rw [after0_5]
  obtain ⟨a, b, rfl⟩ : ∃ (a : Fin 512) (b : Fin 1408), y = ix2 a b := ⟨y 0, y 1, pair_eq (n := 512) (k := 1408) y⟩
  refine (out5_at m c t a b).trans ?_
  have h2 := (idx t).2.2.2.2.2
  congr 1
  blk_ext [h2]

/-- The run of the kernel, with its results named. -/
theorem run (ρ : Dev nD → PrngReg) : θ_run defs (onTc (τ := τ) (main (F := Ideal))) ⟨m, fun _ => 0, ρ⟩ fun r => ∀ c : Dev nD,
      r.2.mem ((c : Thread nD τ).loc main_v0_0) = gate m c
      ∧ r.2.mem ((c : Thread nD τ).loc main_v0_1) = up m c
      ∧ r.2.mem ((c : Thread nD τ).loc main_v0_2) = act m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (arr3 m c), (h c).2.1.trans (arr4 m c), (h c).2.2.1.trans (arr5 m c), (h c).2.2.2⟩)
    (Value.run_blocks m ρ)

end Cert.Kernel7Ideal.UpValue

namespace Cert.UpValue

open Idealize.ShloMosaic Idealize.ShloMosaic.TcCoe Idealize.SL.Sem

/-- The reference leaves its arguments as they were and every counter at zero. -/
theorem frame_ri : Cert.quiescent_Reference7Ideal := fun m ρ _ =>
  (θ_run Cert.Reference7Ideal.defs _ _).mono (fun r h => ⟨fun c => (h c).2.2.2, sem_eq_zero_of_no_sems (by decide) r.2⟩)
    (Cert.Reference7Ideal.Value.run (F := Ideal) m ρ)

/-- The call's three results and the two halves of the plain product, with their gated product, are the same arrays over the extended reals. -/
theorem algebraic : Cert.algebraic_Kernel7Ideal_Reference7Ideal := by
  pair_intro
  · run_from Cert.Kernel7Ideal.UpValue.run m g
  · run_from Cert.Reference7Ideal.Value.run (F := Ideal) m' g'
    · funext i
      obtain ⟨a, b, rfl⟩ : ∃ (a : Fin 4096) (b : Fin 2816), i = ix2 a b := ⟨i 0, i 1, Cert.MatSum.pair_eq (n := 4096) (k := 2816) i⟩
      pointwise
      rfl
    · funext i
      obtain ⟨a, b, rfl⟩ : ∃ (a : Fin 4096) (b : Fin 2816), i = ix2 a b := ⟨i 0, i 1, Cert.MatSum.pair_eq (n := 4096) (k := 2816) i⟩
      pointwise
      rfl
    · funext i
      obtain ⟨a, b, rfl⟩ : ∃ (a : Fin 4096) (b : Fin 2816), i = ix2 a b := ⟨i 0, i 1, Cert.MatSum.pair_eq (n := 4096) (k := 2816) i⟩
      pointwise
      rw [Cert.Silu.quotient]
      rfl

end Cert.UpValue

end
-- ==== Proof.DownValue.lean ====
module

public import proofs.«01_k».proof.Defs
public import proofs.«01_k».proof.Proof.Gen.Kernel8Ideal.Value
public import proofs.«01_k».proof.Proof.Gen.Reference8Ideal.Run
public import proofs.«01_k».proof.Proof.MatSum
public import Idealize.ShloMosaic.Lib.Pipeline.ReadBack

@[expose] public section

set_option maxRecDepth 16384

noncomputable section

/-! The feed-forward layer's result: half of the product of the activations with the down weights, summed over the 2816 columns in two halves, plus
    the layer's input. -/

namespace Cert.Kernel8Ideal.DownValue

open Cert.Kernel8Ideal Cert.Kernel8Ideal.Gen Idealize.ShloMosaic Idealize.ShloMosaic.TcCoe Idealize.SL.Sem
open Idealize.ShloMosaic.Pipeline (Dat)
open Cert.MatSum (sum_halves half_word pair_eq)

variable (m : (ℓ : Loc nD τ sig) → Buf (Elt Ideal) ℓ)

/-- Where each window lies at each grid point, and which points write back. -/
theorem idx : ∀ t : Fin cfg0.N, win0_0.index t = ![t.val / 2, t.val % 2] ∧ win0_1.index t = ![t.val % 2, 0]
    ∧ win0_2.index t = ![t.val / 2, 0] ∧ win0_3.index t = ![t.val / 2, 0] ∧ ((cfg0.win 3).flush t = true → t.val % 2 = 1) := by
  decide +kernel

/-- The activations. -/
abbrev aA (c : Dev nD) : S4096x2816.Idx → EReal := m ((c : Thread nD τ).loc main_arg0)
/-- The down weights. -/
abbrev aW (c : Dev nD) : S2816x1024.Idx → EReal := m ((c : Thread nD τ).loc main_arg1)

/-- The layer's input. -/
abbrev aR (c : Dev nD) : S4096x1024.Idx → EReal := m ((c : Thread nD τ).loc main_arg2)

/-- The layer's result. -/
def G (c : Dev nD) : S4096x1024.Idx → EReal := fun i =>
  ((1 / 2 : ℝ) : EReal) * (∑ k : Fin 2816, aA m c (ix2 (i 0) k) * aW m c (ix2 k (i 1))) + aR m c i

/-- The grid has eight points. -/
theorem lt8 (t : Fin cfg0.N) : t.val < 8 := lt_of_lt_of_eq t.isLt N_0

/-- The point's block of the activations. -/
abbrev xA (c : Dev nD) (t : Fin cfg0.N) : S1024x1408.Idx → EReal := iblk m c 0 t
/-- The point's block of the weights. -/
abbrev xW (c : Dev nD) (t : Fin cfg0.N) : S1408x1024.Idx → EReal := iblk m c 1 t

/-- A block of the activations is a piece of the array. -/
theorem blk0 (c : Dev nD) (t : Fin cfg0.N) (r : Fin 1024) (k : Fin 1408) :
    xA m c t (ix2 r k)
      = aA m c (ix2 ⟨1024 * (t.val / 2) + r.val, by have := lt8 t; omega⟩ ⟨1408 * (t.val % 2) + k.val, by omega⟩) := by
  rw [aA, ← V_main_arg0 m c]
  blk_ext [iblk, (idx t).1]

/-- A block of the weights is a piece of the array. -/
theorem blk1 (c : Dev nD) (t : Fin cfg0.N) (k : Fin 1408) (q : Fin 1024) :
    xW m c t (ix2 k q) = aW m c (ix2 ⟨1408 * (t.val % 2) + k.val, by omega⟩ q) := by
  rw [aW, ← V_main_arg1 m c]
  blk_ext [iblk, (idx t).2.1]

/-- A block of the layer's input is a piece of the array. -/
theorem blk2 (c : Dev nD) (t : Fin cfg0.N) (r : Fin 1024) (q : Fin 1024) :
    (iblk m c 2 t : S1024x1024.Idx → EReal) (ix2 r q) = aR m c (ix2 ⟨1024 * (t.val / 2) + r.val, by have := lt8 t; omega⟩ q) := by
  rw [aR, ← V_main_arg2 m c]
  blk_ext [iblk, (idx t).2.2.1]

/-- The product of a point's blocks, read off the arrays. -/
theorem part (c : Dev nD) (t : Fin cfg0.N) (r : Fin 1024) (q : Fin 1024) (k : Fin 1408) (K : Fin 2816) (R : Fin 4096)
    (hK : K.val = 1408 * (t.val % 2) + k.val) (hR : R.val = 1024 * (t.val / 2) + r.val) :
    xA m c t (ix2 r k) * xW m c t (ix2 k q)
      = aA m c (ix2 R K) * aW m c (ix2 K q) := by
  rw [blk0, blk1]
  refine congrArg₂ (· * ·) (congrArg₂ (fun x y => aA m c (ix2 x y)) (Fin.ext hR.symm) (Fin.ext hK.symm)) (congrArg (fun x => aW m c (ix2 x q)) (Fin.ext hK.symm))

/-- An even point leaves the first half of the sum in the scratch. -/
theorem acc_at (c : Dev nD) (t : Fin cfg0.N) (h : t.val % 2 = 0) (r : Fin 1024) (q : Fin 1024) (R : Fin 4096)
    (hR : R.val = 1024 * (t.val / 2) + r.val) :
    (outsAt0 m c t.val t.isLt).2 (ix2 r q) = ∑ k : Fin 1408, aA m c (ix2 R ⟨k.val, by omega⟩) * aW m c (ix2 ⟨k.val, by omega⟩ q) := by
  rw [outsAt0_A m c t h (by omega)]
  frame_out
  unfold k0_pay2 k0_pay1
  pointwise
  exact Finset.sum_congr rfl fun k _ => part m c t r q k _ R (by dsimp only; omega) hR

/-- An odd point adds the second half, halves the sum, adds the layer's input and writes the result out. -/
theorem out_at (c : Dev nD) (t : Fin cfg0.N) (h : t.val % 2 = 1) (r : Fin 1024) (q : Fin 1024) :
    (outsAt0 m c t.val t.isLt).1 (ix2 r q) = G m c (ix2 ⟨1024 * (t.val / 2) + r.val, by have := lt8 t; omega⟩ q) := by
  rw [outsAt0_B m c t (by omega) h]
  frame_out
  unfold k0_pay4 k0_pay1
  pointwise
  rw [read_unread_whole, half_word, mul_comm, G, sum_halves (N := 2816) 1408 (by norm_num)]
  refine congrArg₂ (· + ·) (congrArg (_ * ·) (congrArg₂ (· + ·) ?_ ?_)) (blk2 m c t r q)
  · exact acc_at m c ⟨t.val - 1, by have := t.isLt; omega⟩ (by dsimp only; omega) r q
      ⟨1024 * (t.val / 2) + r.val, by have := lt8 t; omega⟩ (by dsimp only; omega)
  · exact Finset.sum_congr rfl fun k _ => part m c t r q k _ _ (by dsimp only; omega) rfl

/-- The result after the run. -/
theorem arr (c : Dev nD) : (dats m 0 c).arrAt 3 cfg0.N = G m c := by
  refine (dats m 0 c).arrAt_eq_of_covers 3 (G m c) (by decide +kernel) (fun t hf y => ?_)
  have h := (idx t).2.2.2.2 hf
  blk_simp
  rw [after0_3]
  obtain ⟨a, b, rfl⟩ : ∃ (a : Fin 1024) (b : Fin 1024), y = ix2 a b := ⟨y 0, y 1, pair_eq (n := 1024) (k := 1024) y⟩
  refine (out_at m c t h a b).trans ?_
  have h2 := (idx t).2.2.2.1
  congr 1
  blk_ext [h2]

/-- The run of the kernel, with its result named. -/
theorem run (ρ : Dev nD → PrngReg) : θ_run defs (onTc (τ := τ) (main (F := Ideal))) ⟨m, fun _ => 0, ρ⟩ fun r => ∀ c : Dev nD,
      r.2.mem ((c : Thread nD τ).loc main_v0) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (arr m c), (h c).2⟩) (Value.run_blocks m ρ)

end Cert.Kernel8Ideal.DownValue

namespace Cert.DownValue

open Idealize.ShloMosaic Idealize.ShloMosaic.TcCoe Idealize.SL.Sem
open Cert.MatSum (half_word)

/-- The reference leaves its arguments as they were and every counter at zero. -/
theorem frame_ri : Cert.quiescent_Reference8Ideal := fun m ρ _ =>
  (θ_run Cert.Reference8Ideal.defs _ _).mono (fun r h => ⟨fun c => (h c).2, sem_eq_zero_of_no_sems (by decide) r.2⟩)
    (Cert.Reference8Ideal.Value.run (F := Ideal) m ρ)

/-- The call of the product and the layer's input plus half the whole product are the same array over the extended reals. -/
theorem algebraic : Cert.algebraic_Kernel8Ideal_Reference8Ideal := by
  pair_intro
  · run_from Cert.Kernel8Ideal.DownValue.run m g
  · run_from Cert.Reference8Ideal.Value.run (F := Ideal) m' g'
    funext i
    obtain ⟨a, b, rfl⟩ : ∃ (a : Fin 4096) (b : Fin 1024), i = ix2 a b := ⟨i 0, i 1, Cert.MatSum.pair_eq (n := 4096) (k := 1024) i⟩
    pointwise
    rw [half_word]
    exact add_comm _ _

end Cert.DownValue
-- ==== Proof.Adam.lean ====
module

public import proofs.«01_k».proof.Defs
public import proofs.«01_k».proof.Proof.Gen.Kernel11Ideal.Value
public import proofs.«01_k».proof.Proof.Gen.Reference11Ideal.Run
public import proofs.«01_k».proof.Proof.Gen.Kernel12Ideal.Value
public import proofs.«01_k».proof.Proof.Gen.Reference12Ideal.Run
public import proofs.«01_k».proof.Proof.Gen.Kernel13Ideal.Value
public import proofs.«01_k».proof.Proof.Gen.Reference13Ideal.Run
public import proofs.«01_k».proof.Proof.Gen.Kernel14Ideal.Value
public import proofs.«01_k».proof.Proof.Gen.Reference14Ideal.Run
public import proofs.«01_k».proof.Proof.Gen.Kernel15Ideal.Value
public import proofs.«01_k».proof.Proof.Gen.Reference15Ideal.Run
public import proofs.«01_k».proof.Proof.Gen.Kernel16Ideal.Value
public import proofs.«01_k».proof.Proof.Gen.Reference16Ideal.Run
public import proofs.«01_k».proof.Proof.Gen.Kernel17Ideal.Value
public import proofs.«01_k».proof.Proof.Gen.Reference17Ideal.Run
public import proofs.«01_k».proof.Proof.Gen.Kernel18Ideal.Value
public import proofs.«01_k».proof.Proof.Gen.Reference18Ideal.Run
public import Idealize.ShloMosaic.Lib.KernelVsHost
public import Idealize.ShloMosaic.Lib.Pointwise
public import Idealize.ShloMosaic.Lib.IdealHost

@[expose] public section

noncomputable section

/-! The optimiser's step. Kernel and reference do the same operations at every index, so each pair needs only its two runs. -/

namespace Cert.Adam

open Idealize.ShloMosaic Idealize.ShloMosaic.TcCoe Idealize.SL.Sem

/-- The references leave their arguments as they were and every counter at zero. -/
theorem frames : Cert.quiescent_Reference11Ideal ∧ Cert.quiescent_Reference12Ideal ∧ Cert.quiescent_Reference13Ideal
    ∧ Cert.quiescent_Reference14Ideal ∧ Cert.quiescent_Reference15Ideal ∧ Cert.quiescent_Reference16Ideal
    ∧ Cert.quiescent_Reference17Ideal ∧ Cert.quiescent_Reference18Ideal := by
  refine ⟨fun m ρ _ => (θ_run _ _ _).mono ?_ (Cert.Reference11Ideal.Value.run (F := Ideal) m ρ),
    fun m ρ _ => (θ_run _ _ _).mono ?_ (Cert.Reference12Ideal.Value.run (F := Ideal) m ρ),
    fun m ρ _ => (θ_run _ _ _).mono ?_ (Cert.Reference13Ideal.Value.run (F := Ideal) m ρ),
    fun m ρ _ => (θ_run _ _ _).mono ?_ (Cert.Reference14Ideal.Value.run (F := Ideal) m ρ),
    fun m ρ _ => (θ_run _ _ _).mono ?_ (Cert.Reference15Ideal.Value.run (F := Ideal) m ρ),
    fun m ρ _ => (θ_run _ _ _).mono ?_ (Cert.Reference16Ideal.Value.run (F := Ideal) m ρ),
    fun m ρ _ => (θ_run _ _ _).mono ?_ (Cert.Reference17Ideal.Value.run (F := Ideal) m ρ),
    fun m ρ _ => (θ_run _ _ _).mono ?_ (Cert.Reference18Ideal.Value.run (F := Ideal) m ρ)⟩
  all_goals exact fun r h => ⟨fun c => (h c).2.2.2, sem_eq_zero_of_no_sems (by decide) r.2⟩

/-- The step on the packed small weights is the same over the extended reals. -/
theorem small : Cert.algebraic_Kernel11Ideal_Reference11Ideal := by
  pair_intro
  · run_from Cert.Kernel11Ideal.Value.run (F := Ideal) m g
  · run_from Cert.Reference11Ideal.Value.run (F := Ideal) m' g' <;> rfl

/-- The step on a feed-forward layer's two matrices is the same over the extended reals. -/
theorem feed : Cert.algebraic_Kernel12Ideal_Reference12Ideal ∧ Cert.algebraic_Kernel13Ideal_Reference13Ideal := by
  constructor <;> pair_intro
  · run_from Cert.Kernel12Ideal.Value.run (F := Ideal) m g
  · run_from Cert.Reference12Ideal.Value.run (F := Ideal) m' g' <;> rfl
  · run_from Cert.Kernel13Ideal.Value.run (F := Ideal) m g
  · run_from Cert.Reference13Ideal.Value.run (F := Ideal) m' g' <;> rfl

/-- The step on the first and last projections of the attention is the same over the extended reals. The last one has the shape of the
    state-space layer's. -/
theorem attention : Cert.algebraic_Kernel14Ideal_Reference14Ideal ∧ Cert.algebraic_Kernel15Ideal_Reference15Ideal := by
  constructor <;> pair_intro
  · run_from Cert.Kernel14Ideal.Value.run (F := Ideal) m g
  · run_from Cert.Reference14Ideal.Value.run (F := Ideal) m' g' <;> rfl
  · run_from Cert.Kernel15Ideal.Value.run (F := Ideal) m g
  · run_from Cert.Reference15Ideal.Value.run (F := Ideal) m' g' <;> rfl

/-- The step on the state-space layer's first projection is the same over the extended reals. -/
theorem space : Cert.algebraic_Kernel16Ideal_Reference16Ideal := by
  pair_intro
  · run_from Cert.Kernel16Ideal.Value.run (F := Ideal) m g
  · run_from Cert.Reference16Ideal.Value.run (F := Ideal) m' g' <;> rfl

/-- The step on the short convolution's two projections is the same over the extended reals. -/
theorem conv : Cert.algebraic_Kernel17Ideal_Reference17Ideal ∧ Cert.algebraic_Kernel18Ideal_Reference18Ideal := by
  constructor <;> pair_intro
  · run_from Cert.Kernel17Ideal.Value.run (F := Ideal) m g
  · run_from Cert.Reference17Ideal.Value.run (F := Ideal) m' g' <;> rfl
  · run_from Cert.Kernel18Ideal.Value.run (F := Ideal) m g
  · run_from Cert.Reference18Ideal.Value.run (F := Ideal) m' g' <;> rfl

end Cert.Adam

end
-- ==== Proof.Norm.lean ====
module

public import proofs.«01_k».proof.Proof.MatSum
public import proofs.«01_k».proof.Proof.Silu

@[expose] public section

noncomputable section

/-! What the norm's gradients share: one over the root of a row's mean square, the gradient at a row in two forms, and sums over eight blocks
    of rows. -/

namespace Cert.Norm

open Idealize.ShloMosaic

/-- The float word of 1024. -/
theorem word_1024 : Ideal.ofBits .f32 0x44800000#32 = ((1024 : ℝ) : EReal) := by
  simp [Ideal.ofBits, Ideal.ieee, -EReal.coe_mul]; norm_num

/-- The float word of one over 1024. -/
theorem word_inv_1024 : Ideal.ofBits .f32 0x3A800000#32 = (((1 : ℝ) / 1024 : ℝ) : EReal) := by
  simp [Ideal.ofBits, Ideal.ieee, -EReal.coe_mul]; norm_num

/-- The float word of minus one half. -/
theorem word_neg_half : Ideal.ofBits .f32 0xBF000000#32 = ((-(1 : ℝ) / 2 : ℝ) : EReal) := by
  simp [Ideal.ofBits, Ideal.ieee, -EReal.coe_mul]; norm_num

/-- The float word that is added under the root is a positive real. -/
theorem word_small : ∃ e : ℝ, 0 < e ∧ Ideal.ofBits .f32 0x358637BD#32 = (e : EReal) := by
  refine ⟨8796093 / 2 ^ 43, by positivity, ?_⟩
  simp [Ideal.ofBits, Ideal.ieee, -EReal.coe_mul]; norm_num

/-- The sum of reals is the real sum. -/
theorem coe_sum {ι : Type} (s : Finset ι) (f : ι → ℝ) : ∑ k ∈ s, (f k : EReal) = ((∑ k ∈ s, f k : ℝ) : EReal) := by
  classical
  induction s using Finset.induction_on with
  | empty => simp
  | insert i s hi ih => rw [Finset.sum_insert hi, Finset.sum_insert hi, ih, EReal.coe_add]

/-- The mean square of a row of `n` numbers, with the small number; `w` is the float word of `n`. -/
def squareOf {n : ℕ} (w : BitVec 32) (x : Fin n → EReal) : EReal :=
  Ideal.div (∑ k, x k * x k) (Ideal.ofBits .f32 w) + Ideal.ofBits .f32 0x358637BD#32

/-- One over the root of the mean square. -/
def invOf {n : ℕ} (w : BitVec 32) (x : Fin n → EReal) : EReal := Ideal.rsqrt (squareOf w x)

/-- A row's mean square, with the small number. -/
abbrev square (x : Fin 1024 → EReal) : EReal := squareOf 0x44800000#32 x

/-- One over the root of a row's mean square. -/
abbrev inv (x : Fin 1024 → EReal) : EReal := invOf 0x44800000#32 x

/-- Of a real row the mean square is a positive real, and the inverse root is one too, whose square is one over it. -/
theorem inv_real {n : ℕ} {w : BitVec 32} (hn : 0 < n) (hw : Ideal.ofBits .f32 w = ((n : ℝ) : EReal)) (x : Fin n → ℝ) :
    ∃ v r : ℝ, 0 < v ∧ 0 < r ∧ r * r = 1 / v ∧ squareOf w (fun k => (x k : EReal)) = v ∧ invOf w (fun k => (x k : EReal)) = r := by
  obtain ⟨e, he, hs⟩ := word_small
  have hn' : (0 : ℝ) < n := by exact_mod_cast hn
  have hs : squareOf w (fun k => (x k : EReal)) = (((∑ k, x k * x k) / n + e : ℝ) : EReal) := by
    rw [squareOf, hw, hs, Ideal.div_coe hn'.ne']
    simp only [← EReal.coe_mul, coe_sum, ← EReal.coe_add]
    congr 2
    ring
  have hp : 0 < (∑ k, x k * x k) / n + e := by
    have : 0 ≤ ∑ k, x k * x k := Finset.sum_nonneg fun k _ => mul_self_nonneg _
    positivity
  refine ⟨_, (Real.sqrt ((∑ k, x k * x k) / n + e))⁻¹, hp, by positivity, ?_, hs, ?_⟩
  · rw [← mul_inv, Real.mul_self_sqrt hp.le, one_div]
  · rw [invOf, hs, Ideal.rsqrt_coe, if_neg (not_lt.2 hp.le), if_neg hp.ne']

/-- Of a row with an infinite number the mean square is infinite, and the inverse root zero. -/
theorem inv_top {n : ℕ} {w : BitVec 32} (hn : 0 < n) (hw : Ideal.ofBits .f32 w = ((n : ℝ) : EReal)) (x : Fin n → EReal)
    (hx : ¬ ∀ k, Cert.Silu.IsReal (x k)) : squareOf w x = ⊤ ∧ invOf w x = 0 := by
  obtain ⟨e, _, hs⟩ := word_small
  have hn' : (0 : ℝ) < n := by exact_mod_cast hn
  obtain ⟨k, hk⟩ := not_forall.1 hx
  have h1 : x k * x k = ⊤ := by
    rcases not_and_or.1 hk with h | h
    · rw [not_not.1 h]; rfl
    · rw [not_not.1 h]; rfl
  have h2 : ∑ k, x k * x k = ⊤ := by
    refine top_le_iff.1 (h1.symm.le.trans (Finset.single_le_sum (f := fun k => x k * x k) (fun i _ => ?_) (Finset.mem_univ k)))
    rcases le_total 0 (x i) with h | h
    · exact EReal.mul_nonneg h h
    · exact EReal.mul_nonneg_iff.2 (.inr ⟨h, h⟩)
  have h3 : squareOf w x = ⊤ := by
    rw [squareOf, h2, hw, hs, Ideal.div_coe hn'.ne', EReal.top_mul_coe_of_pos (by positivity), EReal.top_add_coe]
  exact ⟨h3, by rw [invOf, h3]; rfl⟩

/-- A sum of products by one nonnegative real is the sum times it. -/
theorem sum_mul_coe {ι : Type} (s : Finset ι) (f : ι → EReal) {r : ℝ} (hr : 0 ≤ r) : ∑ k ∈ s, f k * (r : EReal) = (∑ k ∈ s, f k) * r := by
  classical
  induction s using Finset.induction_on with
  | empty => simp
  | insert i s hi ih =>
    rw [Finset.sum_insert hi, Finset.sum_insert hi, ih, EReal.right_distrib_of_nonneg_of_ne_top (EReal.coe_nonneg.2 hr) (EReal.coe_ne_top r)]

/-- A product by a real, twice. -/
theorem twice (y : EReal) (t : ℝ) : y * (t : EReal) + y * (t : EReal) = y * ((2 * t : ℝ) : EReal) := by
  have h : ∀ z : EReal, z + z = z * ((2 : ℝ) : EReal) := fun z => by
    induction z with
    | bot => rw [EReal.bot_mul_coe_of_pos (by norm_num)]; rfl
    | top => rw [EReal.top_mul_coe_of_pos (by norm_num)]; rfl
    | coe z => rw [← EReal.coe_add, ← EReal.coe_mul]; congr 1; ring
  rw [h, mul_assoc, ← EReal.coe_mul, mul_comm t]

/-- The gradient at an entry of a row: the product rule's two terms on the left, the gathered form on the right. Any of the numbers may be
    infinite. -/
theorem gradOf {n : ℕ} {w : BitVec 32} (hn : 0 < n) (hw : Ideal.ofBits .f32 w = ((n : ℝ) : EReal)) (x c : Fin n → EReal) (b : Fin n) :
    let s := Ideal.div ((∑ k, x k * c k) * (Ideal.ofBits .f32 0xBF000000#32 * Ideal.div (invOf w x) (squareOf w x))) (Ideal.ofBits .f32 w)
    c b * invOf w x + x b * s + s * x b
      = invOf w x * (c b - x b * invOf w x * Ideal.div (∑ k, c k * (x k * invOf w x)) (Ideal.ofBits .f32 w)) := by
  have hn' : (0 : ℝ) < n := by exact_mod_cast hn
  intro s
  by_cases hx : ∀ k, Cert.Silu.IsReal (x k)
  · obtain ⟨x, rfl⟩ : ∃ y : Fin n → ℝ, x = fun k => (y k : EReal) := ⟨fun k => (x k).toReal, funext fun k => (hx k).eq_coe⟩
    obtain ⟨v, r, hv, hr0, hr, h1, h2⟩ := inv_real hn hw x
    have h3 : ∑ k, c k * ((x k : EReal) * (r : EReal)) = (∑ k, (x k : EReal) * c k) * r := by
      rw [← sum_mul_coe _ _ hr0.le]; exact Finset.sum_congr rfl fun k _ => by rw [← mul_assoc, mul_comm (c k)]
    simp only [s, h1, h2, h3, hw, word_neg_half, Ideal.div_coe hv.ne', Ideal.div_coe hn'.ne']
    generalize ∑ k, (x k : EReal) * c k = S
    have e1 : S * (((-1 / 2 : ℝ) : EReal) * ((r : EReal) * ((1 / v : ℝ) : EReal))) * ((1 / n : ℝ) : EReal) * (x b : EReal)
        = S * ((-1 / 2 * (r * (1 / v)) * (1 / n) * x b : ℝ) : EReal) := by
      rw [← EReal.coe_mul, ← EReal.coe_mul, mul_assoc, mul_assoc, ← EReal.coe_mul, ← EReal.coe_mul, mul_assoc (-1 / 2 * _)]
    have e2 : (x b : EReal) * (r : EReal) * (S * (r : EReal) * ((1 / n : ℝ) : EReal)) = S * ((x b * r * r * (1 / n) : ℝ) : EReal) := by
      rw [mul_assoc S, ← EReal.coe_mul, ← EReal.coe_mul, mul_left_comm, ← EReal.coe_mul]; congr 2; ring
    rw [mul_comm (x b : EReal) (S * _ * _), e1, e2, add_assoc, twice, sub_eq_add_neg,
      EReal.left_distrib_of_nonneg_of_ne_top (EReal.coe_nonneg.2 hr0.le) (EReal.coe_ne_top r), mul_comm (r : EReal) (c b), ← mul_neg,
      ← EReal.coe_neg, mul_comm (r : EReal), mul_assoc S, ← EReal.coe_mul]
    congr 3
    rw [← hr]
    ring
  · obtain ⟨h1, h2⟩ := inv_top hn hw x hx
    have h3 : Ideal.div 0 ⊤ = 0 := by rw [Ideal.div, if_neg EReal.top_ne_zero, zero_mul]
    have h4 : s = 0 := by
      simp only [s, h1, h2, h3, mul_zero]
      rw [hw, Ideal.div_coe hn'.ne', zero_mul]
    rw [h4, h2, mul_zero, mul_zero, zero_mul, zero_mul, add_zero, add_zero]

/-- The gradient is real where the gradient at the output is. -/
theorem gradOf_real {n : ℕ} {w : BitVec 32} (hn : 0 < n) (hw : Ideal.ofBits .f32 w = ((n : ℝ) : EReal)) (x c : Fin n → EReal)
    (hc : ∀ k, Cert.Silu.IsReal (c k)) (b : Fin n) :
    Cert.Silu.IsReal (invOf w x * (c b - x b * invOf w x * Ideal.div (∑ k, c k * (x k * invOf w x)) (Ideal.ofBits .f32 w))) := by
  have hn' : (0 : ℝ) < n := by exact_mod_cast hn
  by_cases hx : ∀ k, Cert.Silu.IsReal (x k)
  · obtain ⟨x, rfl⟩ : ∃ y : Fin n → ℝ, x = fun k => (y k : EReal) := ⟨fun k => (x k).toReal, funext fun k => (hx k).eq_coe⟩
    obtain ⟨c, rfl⟩ : ∃ y : Fin n → ℝ, c = fun k => (y k : EReal) := ⟨fun k => (c k).toReal, funext fun k => (hc k).eq_coe⟩
    obtain ⟨v, r, _, _, _, _, h2⟩ := inv_real hn hw x
    rw [h2, hw, Ideal.div_coe hn'.ne']
    simp only [← EReal.coe_mul, coe_sum, ← EReal.coe_sub]
    exact .coe _
  · rw [(inv_top hn hw x hx).2, zero_mul]
    exact .coe 0

/-- The same at width 1024. -/
theorem grad (x c : Fin 1024 → EReal) (b : Fin 1024) :
    let s := Ideal.div ((∑ k, x k * c k) * (Ideal.ofBits .f32 0xBF000000#32 * Ideal.div (inv x) (square x))) (Ideal.ofBits .f32 0x44800000#32)
    c b * inv x + x b * s + s * x b
      = inv x * (c b - x b * inv x * Ideal.div (∑ k, c k * (x k * inv x)) (Ideal.ofBits .f32 0x44800000#32)) :=
  gradOf (by norm_num) (by rw [word_1024]; norm_num) x c b

/-- A sum over all rows is a sum over eight blocks and their rows. -/
theorem sum_rows (f : Fin 4096 → EReal) : ∑ s : Fin 8, ∑ r : Fin 512, f ⟨512 * s.val + r.val, by omega⟩ = ∑ r, f r := by
  rw [← (finProdFinEquiv (m := 8) (n := 512)).sum_comp, Fintype.sum_prod_type]
  refine Finset.sum_congr rfl fun s _ => Finset.sum_congr rfl fun r _ => congrArg f (Fin.ext ?_)
  simp [finProdFinEquiv, Nat.add_comm]

/-- The same in 32 blocks of 128 rows. -/
theorem sum_chunks (f : Fin 4096 → EReal) : ∑ s : Fin 32, ∑ r : Fin 128, f ⟨128 * s.val + r.val, by omega⟩ = ∑ r, f r := by
  rw [← (finProdFinEquiv (m := 32) (n := 128)).sum_comp, Fintype.sum_prod_type]
  refine Finset.sum_congr rfl fun s _ => Finset.sum_congr rfl fun r _ => congrArg f (Fin.ext ?_)
  simp [finProdFinEquiv, Nat.add_comm]

end Cert.Norm

end
-- ==== Proof.RmsGrad.lean ====
module

public import proofs.«01_k».proof.Defs
public import proofs.«01_k».proof.Proof.Gen.Kernel9Ideal.Value
public import proofs.«01_k».proof.Proof.Gen.Reference9Ideal.Run
public import proofs.«01_k».proof.Proof.Norm
public import Idealize.ShloMosaic.Lib.Pipeline.ReadBack

@[expose] public section

set_option maxRecDepth 16384

noncomputable section

/-! The gradient of a norm, with the gradient that passes by it. -/

namespace Cert.Kernel9Ideal.RmsGrad

open Cert.Kernel9Ideal Cert.Kernel9Ideal.Gen Idealize.ShloMosaic Idealize.ShloMosaic.TcCoe Idealize.SL.Sem
open Idealize.ShloMosaic.Pipeline (Dat)
open Cert.MatSum (pair_eq)

variable (m : (ℓ : Loc nD τ sig) → Buf (Elt Ideal) ℓ)

/-- Where each window lies at each grid point, and which points write back. -/
theorem idx : ∀ t : Fin cfg0.N, (win0_0.index t = ![t.val, 0] ∧ win0_1.index t = ![t.val, 0] ∧ win0_2.index t = ![0, 0]
    ∧ win0_3.index t = ![t.val, 0]) ∧ win0_4.index t = ![t.val, 0] ∧ win0_5.index t = ![0, 0] ∧ ((cfg0.win 5).flush t = true → t.val = 7) := by
  decide +kernel

/-- The gradient at the norm's output. -/
abbrev aD (c : Dev nD) : S4096x1024.Idx → EReal := m ((c : Thread nD τ).loc main_arg0)
/-- The norm's input. -/
abbrev aX (c : Dev nD) : S4096x1024.Idx → EReal := m ((c : Thread nD τ).loc main_arg1)
/-- The gains. -/
abbrev aG (c : Dev nD) : S1x1024.Idx → EReal := m ((c : Thread nD τ).loc main_arg2)
/-- The gradient that passes by. -/
abbrev aR (c : Dev nD) : S4096x1024.Idx → EReal := m ((c : Thread nD τ).loc main_arg3)

/-- The grid has eight points. -/
theorem lt8 (t : Fin cfg0.N) : t.val < 8 := lt_of_lt_of_eq t.isLt N_0

/-- A point's block of the output's gradient. -/
abbrev xD (c : Dev nD) (t : Fin cfg0.N) : S512x1024.Idx → EReal := iblk m c 0 t
/-- A point's block of the norm's input. -/
abbrev xX (c : Dev nD) (t : Fin cfg0.N) : S512x1024.Idx → EReal := iblk m c 1 t
/-- A point's gains. -/
abbrev xG (c : Dev nD) (t : Fin cfg0.N) : S1x1024.Idx → EReal := iblk m c 2 t
/-- A point's block of the gradient that passes by. -/
abbrev xR (c : Dev nD) (t : Fin cfg0.N) : S512x1024.Idx → EReal := iblk m c 3 t

/-- A row of the arrays, from a point's row. -/
abbrev row (t : Fin cfg0.N) (r : Fin 512) : Fin 4096 := ⟨512 * t.val + r.val, by have := lt8 t; omega⟩

/-- The point's blocks are pieces of the arrays. -/
theorem blks (c : Dev nD) (t : Fin cfg0.N) (r : Fin 512) (q : Fin 1024) :
    xD m c t (ix2 r q) = aD m c (ix2 (row t r) q) ∧ xX m c t (ix2 r q) = aX m c (ix2 (row t r) q)
    ∧ xR m c t (ix2 r q) = aR m c (ix2 (row t r) q) ∧ xG m c t (ix2 0 q) = aG m c (ix2 0 q) := by
  have h := (idx t).1
  refine ⟨?_, ?_, ?_, ?_⟩
  · rw [aD, ← V_main_arg0 m c]; blk_ext [iblk, h.1]
  · rw [aX, ← V_main_arg1 m c]; blk_ext [iblk, h.2.1]
  · rw [aR, ← V_main_arg3 m c]; blk_ext [iblk, h.2.2.2]
  · rw [aG, ← V_main_arg2 m c]; blk_ext [iblk, h.2.2.1]

/-- One over the root of a row's mean square. -/
def inv (x : S4096x1024.Idx → EReal) (r : Fin 4096) : EReal := Cert.Norm.inv fun k => x (ix2 r k)

/-- The gradient at the norm's input, with the one that passes by. -/
def Dx (c : Dev nD) : S4096x1024.Idx → EReal := fun i =>
  inv (aX m c) (i 0) * (aD m c i * aG m c (ix2 0 (i 1)) - aX m c i * inv (aX m c) (i 0)
    * Ideal.div (∑ k : Fin 1024, aD m c (ix2 (i 0) k) * aG m c (ix2 0 k) * (aX m c (ix2 (i 0) k) * inv (aX m c) (i 0))) (Ideal.ofBits .f32 0x44800000#32))
    + aR m c i

/-- The gradient of the gains. -/
def Dg (c : Dev nD) : S1x1024.Idx → EReal := fun i =>
  ∑ r : Fin 4096, aD m c (ix2 r (i 1)) * (aX m c (ix2 r (i 1)) * inv (aX m c) r)

/-- The root at a point's row. -/
theorem pay1_at (c : Dev nD) (t : Fin cfg0.N) (r : Fin 512) : k0_pay1 (F := Ideal) (xX m c t) (ix2 r 0) = inv (aX m c) (row t r) := by
  unfold k0_pay1
  pointwise
  simp only [(blks m c t r _).2.1]
  rfl

/-- The normalised input at a point's row. -/
theorem pay2_at (c : Dev nD) (t : Fin cfg0.N) (r : Fin 512) (q : Fin 1024) :
    k0_pay2 (F := Ideal) (xX m c t) (ix2 r q) = aX m c (ix2 (row t r) q) * inv (aX m c) (row t r) := by
  unfold k0_pay2
  pointwise
  rw [← pay1_at, (blks m c t r q).2.1]

/-- What a point writes of the gradient at the norm's input. -/
theorem pay3_at (c : Dev nD) (t : Fin cfg0.N) (r : Fin 512) (q : Fin 1024) :
    k0_pay3 (F := Ideal) (xX m c t) (xD m c t) (xG m c t) (xR m c t) (ix2 r q) = Dx m c (ix2 (row t r) q) := by
  unfold k0_pay3
  pointwise
  simp only [pay2_at, pay1_at, (blks m c t r _).1, (blks m c t r _).2.2.1, (blks m c t r _).2.2.2]
  rfl

/-- What a point adds to the gradient of the gains. -/
theorem pay5_at (c : Dev nD) (t : Fin cfg0.N) (a : S1x1024.Idx → EReal) (q : Fin 1024) :
    k0_pay5 (F := Ideal) (xX m c t) (xD m c t) a (ix2 0 q)
      = a (ix2 0 q) + ∑ r : Fin 512, aD m c (ix2 (row t r) q) * (aX m c (ix2 (row t r) q) * inv (aX m c) (row t r)) := by
  unfold k0_pay5
  pointwise
  simp only [pay2_at, (blks m c t _ _).1]

/-- Every point writes its rows of the gradient at the norm's input. -/
theorem out4_at (c : Dev nD) (t : Fin cfg0.N) (r : Fin 512) (q : Fin 1024) :
    (outsAt0 m c t.val t.isLt).1 (ix2 r q) = Dx m c (ix2 (row t r) q) := by
  by_cases h : t.val % 8 = 0
  · rw [outsAt0_A m c t h]
    frame_out
    exact pay3_at m c t r q
  · rw [outsAt0_B m c t h]
    frame_out
    exact pay3_at m c t r q

/-- One row's part of the gradient of the gains. -/
abbrev term (c : Dev nD) (q : Fin 1024) (r : Fin 4096) : EReal := aD m c (ix2 r q) * (aX m c (ix2 r q) * inv (aX m c) r)

/-- After point `n` the gradient of the gains has the rows so far. -/
theorem out5_at (c : Dev nD) (q : Fin 1024) : ∀ (n : ℕ) (hn : n < cfg0.N),
    (outsAt0 m c n hn).2 (ix2 0 q) = ∑ s : Fin (n + 1), ∑ r : Fin 512, term m c q (row ⟨s.val, by omega⟩ r)
  | 0, hn => by
    rw [outsAt0_A m c ⟨0, hn⟩ rfl]
    frame_out
    refine (pay5_at m c ⟨0, hn⟩ _ q).trans ?_
    unfold k0_pay4
    pointwise
    rw [Fin.sum_univ_one]
  | n + 1, hn => by
    have h : ¬ (n + 1) % 8 = 0 := by have := lt_of_lt_of_eq hn N_0; omega
    rw [outsAt0_B m c ⟨n + 1, hn⟩ h]
    frame_out
    refine (pay5_at m c ⟨n + 1, hn⟩ _ q).trans ?_
    refine Eq.trans ?_ (Fin.sum_univ_castSucc _).symm
    exact congrArg (· + _) (out5_at c q n (by omega))

/-- The last point has all rows. -/
theorem out5_last (c : Dev nD) (t : Fin cfg0.N) (h : t.val = 7) (q : Fin 1024) : (outsAt0 m c t.val t.isLt).2 (ix2 0 q) = Dg m c (ix2 0 q) := by
  obtain ⟨t, ht⟩ := t
  obtain rfl : t = 7 := h
  exact (out5_at m c q 7 ht).trans (Cert.Norm.sum_rows (term m c q))

/-- The gradient at the norm's input after the run. -/
theorem arr4 (c : Dev nD) : (dats m 0 c).arrAt 4 cfg0.N = Dx m c := by
  refine (dats m 0 c).arrAt_eq_of_covers 4 (Dx m c) (by decide +kernel) (fun t hf y => ?_)
  blk_simp
  rw [after0_4]
  obtain ⟨a, b, rfl⟩ : ∃ (a : Fin 512) (b : Fin 1024), y = ix2 a b := ⟨y 0, y 1, pair_eq (n := 512) (k := 1024) y⟩
  refine (out4_at m c t a b).trans ?_
  have h2 := (idx t).2.1
  congr 1
  blk_ext [h2]

/-- The gradient of the gains after the run. -/
theorem arr5 (c : Dev nD) : (dats m 0 c).arrAt 5 cfg0.N = Dg m c := by
  refine (dats m 0 c).arrAt_eq_of_covers 5 (Dg m c) (by decide +kernel) (fun t hf y => ?_)
  have h := (idx t).2.2.2 hf
  blk_simp
  rw [after0_5]
  obtain ⟨b, rfl⟩ : ∃ b : Fin 1024, y = ix2 0 b := ⟨y 1, by rw [pair_eq (n := 1) (k := 1024) y]; congr 1; exact Subsingleton.elim (α := Fin 1) _ _⟩
  refine (out5_last m c t h b).trans ?_
  have h2 := (idx t).2.2.1
  congr 1
  blk_ext [h2]

/-- The run of the kernel, with its results named. -/
theorem run (ρ : Dev nD → PrngReg) : θ_run defs (onTc (τ := τ) (main (F := Ideal))) ⟨m, fun _ => 0, ρ⟩ fun r => ∀ c : Dev nD,
      r.2.mem ((c : Thread nD τ).loc main_v0_0) = Dx m c
      ∧ r.2.mem ((c : Thread nD τ).loc main_v0_1) = Dg m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (arr4 m c), (h c).2.1.trans (arr5 m c), (h c).2.2⟩) (Value.run_blocks m ρ)

end Cert.Kernel9Ideal.RmsGrad

namespace Cert.RmsGrad

open Idealize.ShloMosaic Idealize.ShloMosaic.TcCoe Idealize.SL.Sem

/-- The reference leaves its arguments as they were and every counter at zero. -/
theorem frame_ri : Cert.quiescent_Reference9Ideal := fun m ρ _ =>
  (θ_run Cert.Reference9Ideal.defs _ _).mono (fun r h => ⟨fun c => (h c).2.2, sem_eq_zero_of_no_sems (by decide) r.2⟩)
    (Cert.Reference9Ideal.Value.run (F := Ideal) m ρ)

/-- The call and the derivative of the norm give the same gradients, plus the one that passes by. -/
theorem algebraic : Cert.algebraic_Kernel9Ideal_Reference9Ideal := by
  pair_intro
  · run_from Cert.Kernel9Ideal.RmsGrad.run m g
  · refine Idealize.ShloMosaic.θ_run_mono (Cert.Reference9Ideal.Value.run (F := Ideal) m' g') ?_
    intro r hr c
    refine ⟨(hr c).1.trans ?_, (hr c).2.1.trans ?_, (hr c).2.2⟩ <;> clear hr r <;> simp only [hagree c]
    · funext i
      obtain ⟨a, b, rfl⟩ : ∃ (a : Fin 4096) (b : Fin 1024), i = ix2 a b := ⟨i 0, i 1, Cert.MatSum.pair_eq (n := 4096) (k := 1024) i⟩
      pointwise
      simp only [Fin.sum_univ_one]
      exact congrArg (· + _) (Cert.Norm.grad (fun k => Cert.Kernel9Ideal.RmsGrad.aX m c (ix2 a k))
        (fun k => Cert.Kernel9Ideal.RmsGrad.aD m c (ix2 a k) * Cert.Kernel9Ideal.RmsGrad.aG m c (ix2 0 k)) b)
    · funext i
      obtain ⟨a, b, rfl⟩ : ∃ (a : Fin 1) (b : Fin 1024), i = ix2 a b := ⟨i 0, i 1, Cert.MatSum.pair_eq (n := 1) (k := 1024) i⟩
      pointwise
      exact Finset.sum_congr rfl fun k _ => mul_comm _ _

end Cert.RmsGrad

end
-- ==== Proof.LossValue.lean ====
module

public import proofs.«01_k».proof.Defs
public import proofs.«01_k».proof.Proof.Gen.Kernel10Ideal.Value
public import proofs.«01_k».proof.Proof.Gen.Reference10Ideal.Run
public import proofs.«01_k».proof.Proof.Norm
public import Idealize.ShloMosaic.Lib.Pipeline.ReadBack

@[expose] public section

set_option maxRecDepth 16384

noncomputable section

/-! The loss, its gradient at the last layer's output and its gradient at the last norm's gains. -/

namespace Cert.Kernel10Ideal.LossValue

open Cert.Kernel10Ideal Cert.Kernel10Ideal.Gen Idealize.ShloMosaic Idealize.ShloMosaic.TcCoe Idealize.SL.Sem
open Idealize.ShloMosaic.Pipeline (Dat)
open Cert.MatSum (pair_eq half_word half_nonneg mul_sum_of_nonneg)

variable (m : (ℓ : Loc nD τ sig) → Buf (Elt Ideal) ℓ)

/-- Where each window lies at each grid point, and which points write back the windows that accumulate. -/
theorem idx : ∀ t : Fin cfg0.N, (win0_0.index t = ![t.val, 0] ∧ win0_1.index t = ![0, 0] ∧ win0_2.index t = ![t.val, 0])
    ∧ (win0_3.index t = ![0, 0] ∧ win0_4.index t = ![t.val, 0] ∧ win0_5.index t = ![0, 0])
    ∧ ((cfg0.win 3).flush t = true → t.val = 7) ∧ ((cfg0.win 5).flush t = true → t.val = 7) := by
  decide +kernel

/-- The last layer's output. -/
abbrev aX (c : Dev nD) : S4096x1024.Idx → EReal := m ((c : Thread nD τ).loc main_arg0)
/-- The gains. -/
abbrev aG (c : Dev nD) : S1x1024.Idx → EReal := m ((c : Thread nD τ).loc main_arg1)
/-- The target. -/
abbrev aT (c : Dev nD) : S4096x1024.Idx → EReal := m ((c : Thread nD τ).loc main_arg2)

/-- The grid has eight points. -/
theorem lt8 (t : Fin cfg0.N) : t.val < 8 := lt_of_lt_of_eq t.isLt N_0

/-- A point's block of the layer's output. -/
abbrev xX (c : Dev nD) (t : Fin cfg0.N) : S512x1024.Idx → EReal := iblk m c 0 t
/-- A point's gains. -/
abbrev xG (c : Dev nD) (t : Fin cfg0.N) : S1x1024.Idx → EReal := iblk m c 1 t
/-- A point's block of the target. -/
abbrev xT (c : Dev nD) (t : Fin cfg0.N) : S512x1024.Idx → EReal := iblk m c 2 t

/-- A row of the arrays, from a point's row. -/
abbrev row (t : Fin cfg0.N) (r : Fin 512) : Fin 4096 := ⟨512 * t.val + r.val, by have := lt8 t; omega⟩

/-- The point's blocks are pieces of the arrays. -/
theorem blks (c : Dev nD) (t : Fin cfg0.N) (r : Fin 512) (q : Fin 1024) :
    xX m c t (ix2 r q) = aX m c (ix2 (row t r) q) ∧ xT m c t (ix2 r q) = aT m c (ix2 (row t r) q) ∧ xG m c t (ix2 0 q) = aG m c (ix2 0 q) := by
  have h := (idx t).1
  refine ⟨?_, ?_, ?_⟩
  · rw [aX, ← V_main_arg0 m c]; blk_ext [iblk, h.1]
  · rw [aT, ← V_main_arg2 m c]; blk_ext [iblk, h.2.2]
  · rw [aG, ← V_main_arg1 m c]; blk_ext [iblk, h.2.1]

/-- One over the root of a row's mean square. -/
def inv (c : Dev nD) (r : Fin 4096) : EReal := Cert.Norm.inv fun k => aX m c (ix2 r k)

/-- The error at an entry. -/
def err (c : Dev nD) (r : Fin 4096) (q : Fin 1024) : EReal := aX m c (ix2 r q) * inv m c r * aG m c (ix2 0 q) - aT m c (ix2 r q)

/-- Half of a row's mean squared error. -/
def lossRow (c : Dev nD) (r : Fin 4096) : EReal :=
  Ideal.ofBits .f32 0x3F000000#32 * Ideal.div (∑ k : Fin 1024, err m c r k * err m c r k) (Ideal.ofBits .f32 0x44800000#32)

/-- The loss, at all 128 lanes. -/
def L (c : Dev nD) : S1x128.Idx → EReal := fun _ => ∑ r, lossRow m c r

/-- The gradient at the norm's output. -/
def dh (c : Dev nD) (r : Fin 4096) (q : Fin 1024) : EReal := err m c r q * Ideal.ofBits .f32 0x3A800000#32

/-- The gradient at the layer's output. -/
def Dx (c : Dev nD) : S4096x1024.Idx → EReal := fun i =>
  inv m c (i 0) * (dh m c (i 0) (i 1) * aG m c (ix2 0 (i 1)) - aX m c i * inv m c (i 0)
    * Ideal.div (∑ k : Fin 1024, dh m c (i 0) k * aG m c (ix2 0 k) * (aX m c (ix2 (i 0) k) * inv m c (i 0))) (Ideal.ofBits .f32 0x44800000#32))

/-- One row's part of the gradient of the gains. -/
abbrev term (c : Dev nD) (q : Fin 1024) (r : Fin 4096) : EReal := dh m c r q * (aX m c (ix2 r q) * inv m c r)

/-- The gradient of the gains. -/
def Dg (c : Dev nD) : S1x1024.Idx → EReal := fun i => ∑ r, term m c (i 1) r

/-- The root at a point's row. -/
theorem pay5_at (c : Dev nD) (t : Fin cfg0.N) (r : Fin 512) : k0_pay5 (F := Ideal) (xX m c t) (ix2 r 0) = inv m c (row t r) := by
  unfold k0_pay5
  pointwise
  simp only [(blks m c t r _).1]
  rfl

/-- The normalised output at a point's row. -/
theorem pay6_at (c : Dev nD) (t : Fin cfg0.N) (r : Fin 512) (q : Fin 1024) :
    k0_pay6 (F := Ideal) (xX m c t) (ix2 r q) = aX m c (ix2 (row t r) q) * inv m c (row t r) := by
  unfold k0_pay6
  pointwise
  rw [← pay5_at, (blks m c t r q).1]

/-- The error at a point's row. -/
theorem pay7_at (c : Dev nD) (t : Fin cfg0.N) (r : Fin 512) (q : Fin 1024) :
    k0_pay7 (F := Ideal) (xX m c t) (xG m c t) (xT m c t) (ix2 r q) = err m c (row t r) q := by
  unfold k0_pay7
  pointwise
  rw [pay6_at, (blks m c t r q).2.1, (blks m c t r q).2.2, err]

/-- A point's part of the loss. -/
theorem pay8_at (c : Dev nD) (t : Fin cfg0.N) :
    k0_pay8 (F := Ideal) (xX m c t) (xG m c t) (xT m c t) (ix2 0 0) = ∑ r : Fin 512, lossRow m c (row t r) := by
  unfold k0_pay8
  pointwise
  simp only [pay7_at]
  rw [half_word, mul_sum_of_nonneg _ _ half_nonneg (EReal.coe_ne_top _)]
  refine Finset.sum_congr rfl fun r _ => ?_
  rw [lossRow, half_word]

/-- The gradient at the norm's output, at a point's row. -/
theorem pay9_at (c : Dev nD) (t : Fin cfg0.N) (r : Fin 512) (q : Fin 1024) :
    k0_pay9 (F := Ideal) (xX m c t) (xG m c t) (xT m c t) (ix2 r q) = dh m c (row t r) q := by
  unfold k0_pay9
  pointwise
  rw [pay7_at, dh]

/-- What a point writes of the gradient at the layer's output. -/
theorem pay10_at (c : Dev nD) (t : Fin cfg0.N) (r : Fin 512) (q : Fin 1024) :
    k0_pay10 (F := Ideal) (xX m c t) (xG m c t) (xT m c t) (ix2 r q) = Dx m c (ix2 (row t r) q) := by
  unfold k0_pay10
  pointwise
  simp only [pay9_at, pay6_at, pay5_at, (blks m c t r _).2.2]
  rfl

/-- What a point adds to the gradient of the gains. -/
theorem pay3_at (c : Dev nD) (t : Fin cfg0.N) (a : S1x1024.Idx → EReal) (q : Fin 1024) :
    k0_pay3 (F := Ideal) (k0_pay6 (xX m c t)) (k0_pay9 (xX m c t) (xG m c t) (xT m c t)) a (ix2 0 q)
      = a (ix2 0 q) + ∑ r : Fin 512, term m c q (row t r) := by
  unfold k0_pay3
  pointwise
  simp only [pay6_at, pay9_at]

/-- What a point adds to the loss. -/
theorem pay4_at (c : Dev nD) (t : Fin cfg0.N) (a : S1x128.Idx → EReal) (q : Fin 128) :
    k0_pay4 (F := Ideal) (k0_pay8 (xX m c t) (xG m c t) (xT m c t)) a (ix2 0 q) = a (ix2 0 q) + ∑ r : Fin 512, lossRow m c (row t r) := by
  unfold k0_pay4
  pointwise
  rw [pay8_at]

/-- Every point writes its rows of the gradient at the layer's output. -/
theorem out4_at (c : Dev nD) (t : Fin cfg0.N) (r : Fin 512) (q : Fin 1024) :
    (outsAt0 m c t.val t.isLt).2.1 (ix2 r q) = Dx m c (ix2 (row t r) q) := by
  by_cases h : t.val % 8 = 0
  · rw [outsAt0_A m c t h]
    frame_out
    exact pay10_at m c t r q
  · rw [outsAt0_B m c t h]
    frame_out
    exact pay10_at m c t r q

/-- After point `n` the loss and the gradient of the gains have the rows so far. -/
theorem outs_at (c : Dev nD) (p : Fin 128) (q : Fin 1024) : ∀ (n : ℕ) (hn : n < cfg0.N),
    (outsAt0 m c n hn).1 (ix2 0 p) = ∑ s : Fin (n + 1), ∑ r : Fin 512, lossRow m c (row ⟨s.val, by omega⟩ r)
    ∧ (outsAt0 m c n hn).2.2 (ix2 0 q) = ∑ s : Fin (n + 1), ∑ r : Fin 512, term m c q (row ⟨s.val, by omega⟩ r)
  | 0, hn => by
    rw [outsAt0_A m c ⟨0, hn⟩ rfl]
    constructor
    · frame_out
      refine (pay4_at m c ⟨0, hn⟩ _ p).trans ?_
      unfold k0_pay2
      pointwise
      rw [Fin.sum_univ_one]
    · frame_out
      refine (pay3_at m c ⟨0, hn⟩ _ q).trans ?_
      unfold k0_pay1
      pointwise
      rw [Fin.sum_univ_one]
  | n + 1, hn => by
    have h : ¬ (n + 1) % 8 = 0 := by have := lt_of_lt_of_eq hn N_0; omega
    rw [outsAt0_B m c ⟨n + 1, hn⟩ h]
    constructor
    · frame_out
      refine (pay4_at m c ⟨n + 1, hn⟩ _ p).trans (Eq.trans ?_ (Fin.sum_univ_castSucc _).symm)
      exact congrArg (· + _) (outs_at c p q n (by omega)).1
    · frame_out
      refine (pay3_at m c ⟨n + 1, hn⟩ _ q).trans (Eq.trans ?_ (Fin.sum_univ_castSucc _).symm)
      exact congrArg (· + _) (outs_at c p q n (by omega)).2

/-- The last point has all rows. -/
theorem outs_last (c : Dev nD) (t : Fin cfg0.N) (h : t.val = 7) (p : Fin 128) (q : Fin 1024) :
    (outsAt0 m c t.val t.isLt).1 (ix2 0 p) = L m c (ix2 0 p) ∧ (outsAt0 m c t.val t.isLt).2.2 (ix2 0 q) = Dg m c (ix2 0 q) := by
  obtain ⟨t, ht⟩ := t
  obtain rfl : t = 7 := h
  exact ⟨(outs_at m c p q 7 ht).1.trans (Cert.Norm.sum_rows (lossRow m c)), (outs_at m c p q 7 ht).2.trans (Cert.Norm.sum_rows (term m c q))⟩

/-- The loss after the run. -/
theorem arr3 (c : Dev nD) : (dats m 0 c).arrAt 3 cfg0.N = L m c := by
  refine (dats m 0 c).arrAt_eq_of_covers 3 (L m c) (by decide +kernel) (fun t hf y => ?_)
  have h := (idx t).2.2.1 hf
  blk_simp
  rw [after0_3]
  obtain ⟨b, rfl⟩ : ∃ b : Fin 128, y = ix2 0 b := ⟨y 1, by rw [pair_eq (n := 1) (k := 128) y]; congr 1; exact Subsingleton.elim (α := Fin 1) _ _⟩
  exact (outs_last m c t h b 0).1

/-- The gradient at the layer's output after the run. -/
theorem arr4 (c : Dev nD) : (dats m 0 c).arrAt 4 cfg0.N = Dx m c := by
  refine (dats m 0 c).arrAt_eq_of_covers 4 (Dx m c) (by decide +kernel) (fun t hf y => ?_)
  blk_simp
  rw [after0_4]
  obtain ⟨a, b, rfl⟩ : ∃ (a : Fin 512) (b : Fin 1024), y = ix2 a b := ⟨y 0, y 1, pair_eq (n := 512) (k := 1024) y⟩
  refine (out4_at m c t a b).trans ?_
  have h2 := (idx t).2.1.2.1
  congr 1
  blk_ext [h2]

/-- The gradient of the gains after the run. -/
theorem arr5 (c : Dev nD) : (dats m 0 c).arrAt 5 cfg0.N = Dg m c := by
  refine (dats m 0 c).arrAt_eq_of_covers 5 (Dg m c) (by decide +kernel) (fun t hf y => ?_)
  have h := (idx t).2.2.2 hf
  blk_simp
  rw [after0_5]
  obtain ⟨b, rfl⟩ : ∃ b : Fin 1024, y = ix2 0 b := ⟨y 1, by rw [pair_eq (n := 1) (k := 1024) y]; congr 1; exact Subsingleton.elim (α := Fin 1) _ _⟩
  refine (outs_last m c t h 0 b).2.trans ?_
  have h2 := (idx t).2.1.2.2
  congr 1
  blk_ext [h2]

/-- The gradient at the norm's output as the derivative of the loss gives it. -/
theorem dh_eq (c : Dev nD) (a : Fin 4096) (k : Fin 1024) :
    Ideal.div (Ideal.ofBits .f32 0x3F000000#32) (Ideal.ofBits .f32 0x44800000#32)
      * (Ideal.ofBits .f32 0x40000000#32 * err m c a k) = dh m c a k := by
  have h2 : Ideal.ofBits .f32 0x40000000#32 = ((2 : ℝ) : EReal) := by simp [Ideal.ofBits, Ideal.ieee, -EReal.coe_mul]; norm_num
  rw [half_word, h2, Cert.Norm.word_1024, Ideal.div_coe (by norm_num), dh, Cert.Norm.word_inv_1024, ← mul_assoc, mul_comm]
  congr 1
  norm_cast
  norm_num

/-- The run of the kernel, with its results named. -/
theorem run (ρ : Dev nD → PrngReg) : θ_run defs (onTc (τ := τ) (main (F := Ideal))) ⟨m, fun _ => 0, ρ⟩ fun r => ∀ c : Dev nD,
      r.2.mem ((c : Thread nD τ).loc main_v0_0) = L m c
      ∧ r.2.mem ((c : Thread nD τ).loc main_v0_1) = Dx m c
      ∧ r.2.mem ((c : Thread nD τ).loc main_v0_2) = Dg m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (arr3 m c), (h c).2.1.trans (arr4 m c), (h c).2.2.1.trans (arr5 m c), (h c).2.2.2⟩)
    (Value.run_blocks m ρ)

end Cert.Kernel10Ideal.LossValue

namespace Cert.LossValue

open Idealize.ShloMosaic Idealize.ShloMosaic.TcCoe Idealize.SL.Sem
open Cert.Kernel10Ideal.LossValue (aX aG err lossRow dh dh_eq)
open Cert.MatSum (half_word half_nonneg mul_sum_of_nonneg)

/-- The reference leaves its arguments as they were and every counter at zero. -/
theorem frame_ri : Cert.quiescent_Reference10Ideal := fun m ρ _ =>
  (θ_run Cert.Reference10Ideal.defs _ _).mono (fun r h => ⟨fun c => (h c).2.2.2, sem_eq_zero_of_no_sems (by decide) r.2⟩)
    (Cert.Reference10Ideal.Value.run (F := Ideal) m ρ)

/-- The call gives the loss and its derivatives. -/
theorem algebraic : Cert.algebraic_Kernel10Ideal_Reference10Ideal := by
  pair_intro
  · run_from Cert.Kernel10Ideal.LossValue.run m g
  · refine Idealize.ShloMosaic.θ_run_mono (Cert.Reference10Ideal.Value.run (F := Ideal) m' g') ?_
    intro r hr c
    refine ⟨(hr c).1.trans ?_, (hr c).2.1.trans ?_, (hr c).2.2.1.trans ?_, (hr c).2.2.2⟩ <;> clear hr r
    · simp only [hagree c]
      funext i
      obtain ⟨a, b, rfl⟩ : ∃ (a : Fin 1) (b : Fin 128), i = ix2 a b := ⟨i 0, i 1, Cert.MatSum.pair_eq (n := 1) (k := 128) i⟩
      pointwise
      rw [half_word, mul_sum_of_nonneg _ _ half_nonneg (EReal.coe_ne_top _)]
      refine Finset.sum_congr rfl fun r _ => ?_
      rw [lossRow, half_word]
      rfl
    · unfold Cert.Reference10Ideal.Value.res_main_v48
      simp only [hagree c]
      funext i
      obtain ⟨a, b, rfl⟩ : ∃ (a : Fin 4096) (b : Fin 1024), i = ix2 a b := ⟨i 0, i 1, Cert.MatSum.pair_eq (n := 4096) (k := 1024) i⟩
      pointwise
      simp only [Fin.sum_univ_one]
      refine (Cert.Norm.grad (fun k => aX m c (ix2 a k)) (fun k => Ideal.div (Ideal.ofBits .f32 0x3F000000#32) (Ideal.ofBits .f32 0x44800000#32)
        * (Ideal.ofBits .f32 0x40000000#32 * err m c a k) * aG m c (ix2 0 k)) b).trans ?_
      simp only [dh_eq]
      rfl
    · simp only [hagree c]
      funext i
      obtain ⟨a, b, rfl⟩ : ∃ (a : Fin 1) (b : Fin 1024), i = ix2 a b := ⟨i 0, i 1, Cert.MatSum.pair_eq (n := 1) (k := 1024) i⟩
      pointwise
      refine Finset.sum_congr rfl fun k _ => (mul_comm _ _).trans (congrArg (· * _) ?_)
      exact dh_eq m c k b

end Cert.LossValue

end
-- ==== Proof.MatMul.lean ====
module

public import proofs.«01_k».proof.Proof.MatSum

@[expose] public section

noncomputable section

/-! The three products of two arrays that a layer and its gradients need. -/

namespace Cert.MatMul

open Idealize.ShloMosaic

/-- An array of extended reals with `n` rows and `k` columns. -/
abbrev Arr (n k : ℕ) := (⟨2, ![n, k]⟩ : Shape).Idx → EReal

/-- The product of two arrays. -/
def prod {n k p : ℕ} (A : Arr n k) (B : Arr k p) : Arr n p := fun i => ∑ j : Fin k, A (ix2 (i 0) j) * B (ix2 j (i 1))

/-- The product of the first array, transposed, with the second. -/
def prodTA {n k p : ℕ} (A : Arr k n) (B : Arr k p) : Arr n p := fun i => ∑ j : Fin k, A (ix2 j (i 0)) * B (ix2 j (i 1))

/-- The product of the first array with the second, transposed. -/
def prodTB {n k p : ℕ} (A : Arr n k) (B : Arr p k) : Arr n p := fun i => ∑ j : Fin k, A (ix2 (i 0) j) * B (ix2 (i 1) j)

/-- Two sums of products are equal if their factors are. -/
theorem congr {k : ℕ} {f g f' g' : Fin k → EReal} (hf : ∀ j, f j = f' j) (hg : ∀ j, g j = g' j) : ∑ j, f j * g j = ∑ j, f' j * g' j :=
  Finset.sum_congr rfl fun j _ => by rw [hf, hg]

/-- A sum of products in two halves, each with the factors of the whole. -/
theorem halves {n N : ℕ} (h : N = n + n) {f f' g g' : Fin n → EReal} {F G : Fin N → EReal} (hf : ∀ j, f j = F ⟨j.val, by omega⟩)
    (hg : ∀ j, g j = G ⟨j.val, by omega⟩) (hf' : ∀ j, f' j = F ⟨n + j.val, by omega⟩) (hg' : ∀ j, g' j = G ⟨n + j.val, by omega⟩) :
    ∑ j, f j * g j + ∑ j, f' j * g' j = ∑ j, F j * G j := by
  rw [Cert.MatSum.sum_halves n h, congr hf hg, congr hf' hg']

end Cert.MatMul

end
-- ==== Proof.MixerValue.lean ====
module

public import proofs.«01_k».proof.Defs
public import proofs.«01_k».proof.Proof.Gen.Kernel19Ideal.Value
public import proofs.«01_k».proof.Proof.Gen.Reference19Ideal.Run
public import proofs.«01_k».proof.Proof.Gen.Kernel20Ideal.Value
public import proofs.«01_k».proof.Proof.Gen.Reference20Ideal.Run
public import proofs.«01_k».proof.Proof.Gen.Kernel21Ideal.Value
public import proofs.«01_k».proof.Proof.Gen.Reference21Ideal.Run
public import proofs.«01_k».proof.Proof.MatMul
public import Idealize.ShloMosaic.Lib.Pipeline.ReadBack

@[expose] public section

set_option maxRecDepth 16384

noncomputable section

/-! The projections of the attention and of the short convolution. Each grid point writes one block of the product. -/

namespace Cert.MixerValue

open Idealize.ShloMosaic Idealize.ShloMosaic.TcCoe Idealize.SL.Sem
open Idealize.ShloMosaic.Pipeline (Dat)
open Cert.MatSum (pair_eq)
open Cert.MatMul (prod)

/-- The references leave their arguments as they were and every counter at zero. -/
theorem frames : Cert.quiescent_Reference19Ideal ∧ Cert.quiescent_Reference20Ideal ∧ Cert.quiescent_Reference21Ideal := by
  refine ⟨fun m ρ _ => (θ_run _ _ _).mono ?_ (Cert.Reference19Ideal.Value.run (F := Ideal) m ρ),
    fun m ρ _ => (θ_run _ _ _).mono ?_ (Cert.Reference20Ideal.Value.run (F := Ideal) m ρ),
    fun m ρ _ => (θ_run _ _ _).mono ?_ (Cert.Reference21Ideal.Value.run (F := Ideal) m ρ)⟩
  all_goals exact fun r h => ⟨fun c => (h c).2, sem_eq_zero_of_no_sems (by decide) r.2⟩

/-! ### The attention's first projection -/

section
open Cert.Kernel19Ideal Cert.Kernel19Ideal.Gen
variable (m : (ℓ : Loc nD τ sig) → Buf (Elt Ideal) ℓ)

/-- Where each window lies at each of the twelve grid points. -/
theorem idx_qkv : ∀ t : Fin cfg0.N, win0_0.index t = ![t.val / 3, 0] ∧ win0_1.index t = ![0, t.val % 3] ∧ win0_2.index t = ![t.val / 3, t.val % 3] := by
  decide +kernel

/-- The queries, keys and values after the run. -/
theorem arr_qkv (c : Dev nD) : (dats m 0 c).arrAt 2 cfg0.N
    = prod (n := 4096) (k := 1024) (p := 3072) (m ((c : Thread nD τ).loc main_arg0)) (m ((c : Thread nD τ).loc main_arg1)) := by
  refine (dats m 0 c).arrAt_eq_of_covers 2 _ (by decide +kernel) (fun t _ y => ?_)
  obtain ⟨h0, h1, h2⟩ := idx_qkv t
  blk_simp
  rw [after0_2]
  obtain ⟨a, b, rfl⟩ : ∃ (a : Fin 1024) (b : Fin 1024), y = ix2 a b := ⟨y 0, y 1, pair_eq (n := 1024) (k := 1024) y⟩
  frame_out
  unfold k0_pay1
  pointwise
  refine Cert.MatMul.congr (fun k => ?_) (fun k => ?_)
  · rw [← V_main_arg0 m c]; blk_ext [iblk, h0, h2]
  · rw [← V_main_arg1 m c]; blk_ext [iblk, h1, h2]

/-- The call computes the queries, keys and values. -/
theorem qkv : Cert.algebraic_Kernel19Ideal_Reference19Ideal := by
  pair_intro
  · run_from (Cert.Kernel19Ideal.Value.run_blocks m g)
  · run_from Cert.Reference19Ideal.Value.run (F := Ideal) m' g'
    rw [arr_qkv m c]
    funext i
    rw [pair_eq (n := 4096) (k := 3072) i]
    pointwise
    rfl

end

/-! ### The short convolution's first projection, the same product with a float32 result -/

section
open Cert.Kernel20Ideal Cert.Kernel20Ideal.Gen
variable (m : (ℓ : Loc nD τ sig) → Buf (Elt Ideal) ℓ)

/-- Where each window lies at each of the twelve grid points. -/
theorem idx_win : ∀ t : Fin cfg0.N, win0_0.index t = ![t.val / 3, 0] ∧ win0_1.index t = ![0, t.val % 3] ∧ win0_2.index t = ![t.val / 3, t.val % 3] := by
  decide +kernel

/-- The gates and the convolution's input after the run. -/
theorem arr_win (c : Dev nD) : (dats m 0 c).arrAt 2 cfg0.N
    = prod (n := 4096) (k := 1024) (p := 3072) (m ((c : Thread nD τ).loc main_arg0)) (m ((c : Thread nD τ).loc main_arg1)) := by
  refine (dats m 0 c).arrAt_eq_of_covers 2 _ (by decide +kernel) (fun t _ y => ?_)
  obtain ⟨h0, h1, h2⟩ := idx_win t
  blk_simp
  rw [after0_2]
  obtain ⟨a, b, rfl⟩ : ∃ (a : Fin 1024) (b : Fin 1024), y = ix2 a b := ⟨y 0, y 1, pair_eq (n := 1024) (k := 1024) y⟩
  frame_out
  unfold k0_pay1
  pointwise
  refine Cert.MatMul.congr (fun k => ?_) (fun k => ?_)
  · rw [← V_main_arg0 m c]; blk_ext [iblk, h0, h2]
  · rw [← V_main_arg1 m c]; blk_ext [iblk, h1, h2]

/-- The call computes the gates and the convolution's input. -/
theorem win : Cert.algebraic_Kernel20Ideal_Reference20Ideal := by
  pair_intro
  · run_from (Cert.Kernel20Ideal.Value.run_blocks m g)
  · run_from Cert.Reference20Ideal.Value.run (F := Ideal) m' g'
    rw [arr_win m c]
    funext i
    rw [pair_eq (n := 4096) (k := 3072) i]
    pointwise
    rfl

end

/-! ### The last projection of either, with the residual -/

section
open Cert.Kernel21Ideal Cert.Kernel21Ideal.Gen
variable (m : (ℓ : Loc nD τ sig) → Buf (Elt Ideal) ℓ)

/-- Where each window lies at each of the four grid points. -/
theorem idx_out : ∀ t : Fin cfg0.N, win0_0.index t = ![t.val, 0] ∧ win0_1.index t = ![0, 0] ∧ win0_2.index t = ![t.val, 0]
    ∧ win0_3.index t = ![t.val, 0] := by
  decide +kernel

/-- The layer's result. -/
def G_out (c : Dev nD) : S4096x1024.Idx → EReal := fun i =>
  prod (n := 4096) (k := 1024) (p := 1024) (m ((c : Thread nD τ).loc main_arg0)) (m ((c : Thread nD τ).loc main_arg1)) i
    + m ((c : Thread nD τ).loc main_arg2) i

/-- The layer's result after the run. -/
theorem arr_out (c : Dev nD) : (dats m 0 c).arrAt 3 cfg0.N = G_out m c := by
  refine (dats m 0 c).arrAt_eq_of_covers 3 _ (by decide +kernel) (fun t _ y => ?_)
  obtain ⟨h0, h1, h2, h3⟩ := idx_out t
  blk_simp
  rw [after0_3]
  obtain ⟨a, b, rfl⟩ : ∃ (a : Fin 1024) (b : Fin 1024), y = ix2 a b := ⟨y 0, y 1, pair_eq (n := 1024) (k := 1024) y⟩
  frame_out
  unfold k0_pay1
  pointwise
  refine congrArg₂ (fun x y : EReal => x + y) (Cert.MatMul.congr (fun k => ?_) (fun k => ?_)) ?_
  · rw [← V_main_arg0 m c]; blk_ext [iblk, h0, h3]
  · rw [← V_main_arg1 m c]; blk_ext [iblk, h1, h3]
  · rw [← V_main_arg2 m c]; blk_ext [iblk, h2, h3]

/-- The call adds the projection to the layer's input. -/
theorem out : Cert.algebraic_Kernel21Ideal_Reference21Ideal := by
  pair_intro
  · run_from (Cert.Kernel21Ideal.Value.run_blocks m g)
  · run_from Cert.Reference21Ideal.Value.run (F := Ideal) m' g'
    rw [arr_out m c]
    funext i
    rw [pair_eq (n := 4096) (k := 1024) i]
    pointwise
    exact add_comm _ _

end

end Cert.MixerValue

end
-- ==== Proof.MixerGrad.lean ====
module

public import proofs.«01_k».proof.Defs
public import proofs.«01_k».proof.Proof.Gen.Kernel22Ideal.Value
public import proofs.«01_k».proof.Proof.Gen.Reference22Ideal.Run
public import proofs.«01_k».proof.Proof.Gen.Kernel23Ideal.Value
public import proofs.«01_k».proof.Proof.Gen.Reference23Ideal.Run
public import proofs.«01_k».proof.Proof.Gen.Kernel24Ideal.Value
public import proofs.«01_k».proof.Proof.Gen.Reference24Ideal.Run
public import proofs.«01_k».proof.Proof.Gen.Kernel25Ideal.Value
public import proofs.«01_k».proof.Proof.Gen.Reference25Ideal.Run
public import proofs.«01_k».proof.Proof.Gen.Kernel26Ideal.Value
public import proofs.«01_k».proof.Proof.Gen.Reference26Ideal.Run
public import proofs.«01_k».proof.Proof.MatMul
public import Idealize.ShloMosaic.Lib.Pipeline.ReadBack

@[expose] public section

set_option maxRecDepth 16384

noncomputable section

/-! The gradients of the projections of the attention and of the short convolution: by the weights in two steps over the 4096 rows, by the inputs
    in one step or in two over the columns. -/

namespace Cert.MixerGrad

open Idealize.ShloMosaic Idealize.ShloMosaic.TcCoe Idealize.SL.Sem
open Idealize.ShloMosaic.Pipeline (Dat)
open Cert.MatSum (pair_eq)
open Cert.MatMul (prodTA prodTB)

/-- The references leave their arguments as they were and every counter at zero. -/
theorem frames : Cert.quiescent_Reference22Ideal ∧ Cert.quiescent_Reference23Ideal ∧ Cert.quiescent_Reference24Ideal
    ∧ Cert.quiescent_Reference25Ideal ∧ Cert.quiescent_Reference26Ideal := by
  refine ⟨fun m ρ _ => (θ_run _ _ _).mono ?_ (Cert.Reference22Ideal.Value.run (F := Ideal) m ρ),
    fun m ρ _ => (θ_run _ _ _).mono ?_ (Cert.Reference23Ideal.Value.run (F := Ideal) m ρ),
    fun m ρ _ => (θ_run _ _ _).mono ?_ (Cert.Reference24Ideal.Value.run (F := Ideal) m ρ),
    fun m ρ _ => (θ_run _ _ _).mono ?_ (Cert.Reference25Ideal.Value.run (F := Ideal) m ρ),
    fun m ρ _ => (θ_run _ _ _).mono ?_ (Cert.Reference26Ideal.Value.run (F := Ideal) m ρ)⟩
  all_goals exact fun r h => ⟨fun c => (h c).2, sem_eq_zero_of_no_sems (by decide) r.2⟩

/-! ### The last projection's weights -/

section
open Cert.Kernel22Ideal Cert.Kernel22Ideal.Gen
variable (m : (ℓ : Loc nD τ sig) → Buf (Elt Ideal) ℓ)

/-- Where each window lies at the two grid points, and which of them writes back. -/
theorem idx_dwo : ∀ t : Fin cfg0.N, win0_0.index t = ![t.val % 2, 0] ∧ win0_1.index t = ![t.val % 2, 0] ∧ win0_2.index t = ![0, 0]
    ∧ ((cfg0.win 2).flush t = true → t.val % 2 = 1) := by
  decide +kernel

/-- The first point leaves its product in the scratch. -/
theorem acc_dwo (c : Dev nD) (t : Fin cfg0.N) (h : t.val % 2 = 0) (a b : Fin 1024) : (outsAt0 m c t.val t.isLt).2 (ix2 a b)
    = prodTA (n := 1024) (k := 2048) (p := 1024) (iblk m c 0 t) (iblk m c 1 t) (ix2 a b) := by
  rw [outsAt0_A m c t h (by omega)]
  frame_out
  unfold k0_pay2 k0_pay1
  pointwise
  rfl

/-- The gradient of the last projection's weights after the run. -/
theorem arr_dwo (c : Dev nD) : (dats m 0 c).arrAt 2 cfg0.N
    = prodTA (n := 1024) (k := 4096) (p := 1024) (m ((c : Thread nD τ).loc main_arg0)) (m ((c : Thread nD τ).loc main_arg1)) := by
  refine (dats m 0 c).arrAt_eq_of_covers 2 _ (by decide +kernel) (fun t hf y => ?_)
  obtain ⟨h0, h1, h2, h⟩ := idx_dwo t
  have h := h hf
  let s : Fin cfg0.N := ⟨t.val - 1, by have := t.isLt; omega⟩
  obtain ⟨s0, s1, -, -⟩ := idx_dwo s
  have hs : s.val % 2 = 0 := by simp only [s]; omega
  blk_simp
  rw [after0_2]
  obtain ⟨a, b, rfl⟩ : ∃ (a : Fin 1024) (b : Fin 1024), y = ix2 a b := ⟨y 0, y 1, pair_eq (n := 1024) (k := 1024) y⟩
  rw [outsAt0_B m c t (by omega) h]
  frame_out
  unfold k0_pay4 k0_pay1
  pointwise
  rw [read_unread_whole]
  refine (congrArg (· + _) (acc_dwo m c s hs a b)).trans (Cert.MatMul.halves (N := 4096) rfl (fun k => ?_) (fun k => ?_) (fun k => ?_) (fun k => ?_))
  · rw [← V_main_arg0 m c]; blk_ext [iblk, s0, h2, hs]
  · rw [← V_main_arg1 m c]; blk_ext [iblk, s1, h2, hs]
  · rw [← V_main_arg0 m c]; blk_ext [iblk, h0, h2, h]
  · rw [← V_main_arg1 m c]; blk_ext [iblk, h1, h2, h]

/-- The call and the derivative by the last projection's weights are the same array. -/
theorem dwo : Cert.algebraic_Kernel22Ideal_Reference22Ideal := by
  pair_intro
  · run_from (Cert.Kernel22Ideal.Value.run_blocks m g)
  · run_from Cert.Reference22Ideal.Value.run (F := Ideal) m' g'
    rw [arr_dwo m c]
    funext i
    rw [pair_eq (n := 1024) (k := 1024) i]
    pointwise
    exact Finset.sum_congr rfl fun k _ => mul_comm _ _

end

/-! ### The last projection's input, of the attention -/

section
open Cert.Kernel23Ideal Cert.Kernel23Ideal.Gen
variable (m : (ℓ : Loc nD τ sig) → Buf (Elt Ideal) ℓ)

/-- Where each window lies at each of the four grid points. -/
theorem idx_do : ∀ t : Fin cfg0.N, win0_0.index t = ![t.val, 0] ∧ win0_1.index t = ![0, 0] ∧ win0_2.index t = ![t.val, 0] := by
  decide +kernel

/-- The gradient at the attention's output after the run. -/
theorem arr_do (c : Dev nD) : (dats m 0 c).arrAt 2 cfg0.N
    = prodTB (n := 4096) (k := 1024) (p := 1024) (m ((c : Thread nD τ).loc main_arg0)) (m ((c : Thread nD τ).loc main_arg1)) := by
  refine (dats m 0 c).arrAt_eq_of_covers 2 _ (by decide +kernel) (fun t _ y => ?_)
  obtain ⟨h0, h1, h2⟩ := idx_do t
  blk_simp
  rw [after0_2]
  obtain ⟨a, b, rfl⟩ : ∃ (a : Fin 1024) (b : Fin 1024), y = ix2 a b := ⟨y 0, y 1, pair_eq (n := 1024) (k := 1024) y⟩
  frame_out
  unfold k0_pay1
  pointwise
  refine Cert.MatMul.congr (fun k => ?_) (fun k => ?_)
  · rw [← V_main_arg0 m c]; blk_ext [iblk, h0, h2]
  · rw [← V_main_arg1 m c]; blk_ext [iblk, h1, h2]

/-- The call and the derivative by the attention's output are the same array. -/
theorem do_ : Cert.algebraic_Kernel23Ideal_Reference23Ideal := by
  pair_intro
  · run_from (Cert.Kernel23Ideal.Value.run_blocks m g)
  · run_from Cert.Reference23Ideal.Value.run (F := Ideal) m' g'
    rw [arr_do m c]
    funext i
    rw [pair_eq (n := 4096) (k := 1024) i]
    pointwise
    rfl

end

/-! ### The last projection's input, of the short convolution, with a float32 result -/

section
open Cert.Kernel24Ideal Cert.Kernel24Ideal.Gen
variable (m : (ℓ : Loc nD τ sig) → Buf (Elt Ideal) ℓ)

/-- Where each window lies at each of the four grid points. -/
theorem idx_dm : ∀ t : Fin cfg0.N, win0_0.index t = ![t.val, 0] ∧ win0_1.index t = ![0, 0] ∧ win0_2.index t = ![t.val, 0] := by
  decide +kernel

/-- The gradient at the gated convolution after the run. -/
theorem arr_dm (c : Dev nD) : (dats m 0 c).arrAt 2 cfg0.N
    = prodTB (n := 4096) (k := 1024) (p := 1024) (m ((c : Thread nD τ).loc main_arg0)) (m ((c : Thread nD τ).loc main_arg1)) := by
  refine (dats m 0 c).arrAt_eq_of_covers 2 _ (by decide +kernel) (fun t _ y => ?_)
  obtain ⟨h0, h1, h2⟩ := idx_dm t
  blk_simp
  rw [after0_2]
  obtain ⟨a, b, rfl⟩ : ∃ (a : Fin 1024) (b : Fin 1024), y = ix2 a b := ⟨y 0, y 1, pair_eq (n := 1024) (k := 1024) y⟩
  frame_out
  unfold k0_pay1
  pointwise
  refine Cert.MatMul.congr (fun k => ?_) (fun k => ?_)
  · rw [← V_main_arg0 m c]; blk_ext [iblk, h0, h2]
  · rw [← V_main_arg1 m c]; blk_ext [iblk, h1, h2]

/-- The call and the derivative by the gated convolution are the same array. -/
theorem dm : Cert.algebraic_Kernel24Ideal_Reference24Ideal := by
  pair_intro
  · run_from (Cert.Kernel24Ideal.Value.run_blocks m g)
  · run_from Cert.Reference24Ideal.Value.run (F := Ideal) m' g'
    rw [arr_dm m c]
    funext i
    rw [pair_eq (n := 4096) (k := 1024) i]
    pointwise
    rfl

end

/-! ### The first projection's weights -/

section
open Cert.Kernel25Ideal Cert.Kernel25Ideal.Gen
variable (m : (ℓ : Loc nD τ sig) → Buf (Elt Ideal) ℓ)

/-- Where each window lies at each of the six grid points, and which of them write back. -/
theorem idx_dwqkv : ∀ t : Fin cfg0.N, win0_0.index t = ![t.val % 2, 0] ∧ win0_1.index t = ![t.val % 2, t.val / 2]
    ∧ win0_2.index t = ![0, t.val / 2] ∧ ((cfg0.win 2).flush t = true → t.val % 2 = 1) := by
  decide +kernel

/-- An even point leaves its product in the scratch. -/
theorem acc_dwqkv (c : Dev nD) (t : Fin cfg0.N) (h : t.val % 2 = 0) (a b : Fin 1024) : (outsAt0 m c t.val t.isLt).2 (ix2 a b)
    = prodTA (n := 1024) (k := 2048) (p := 1024) (iblk m c 0 t) (iblk m c 1 t) (ix2 a b) := by
  rw [outsAt0_A m c t h (by omega)]
  frame_out
  unfold k0_pay2 k0_pay1
  pointwise
  rfl

/-- The gradient of the first projection's weights after the run. -/
theorem arr_dwqkv (c : Dev nD) : (dats m 0 c).arrAt 2 cfg0.N
    = prodTA (n := 1024) (k := 4096) (p := 3072) (m ((c : Thread nD τ).loc main_arg0)) (m ((c : Thread nD τ).loc main_arg1)) := by
  refine (dats m 0 c).arrAt_eq_of_covers 2 _ (by decide +kernel) (fun t hf y => ?_)
  obtain ⟨h0, h1, h2, h⟩ := idx_dwqkv t
  have h := h hf
  let s : Fin cfg0.N := ⟨t.val - 1, by have := t.isLt; omega⟩
  obtain ⟨s0, s1, -, -⟩ := idx_dwqkv s
  have hs : s.val % 2 = 0 ∧ s.val / 2 = t.val / 2 := by simp only [s]; omega
  blk_simp
  rw [after0_2]
  obtain ⟨a, b, rfl⟩ : ∃ (a : Fin 1024) (b : Fin 1024), y = ix2 a b := ⟨y 0, y 1, pair_eq (n := 1024) (k := 1024) y⟩
  rw [outsAt0_B m c t (by omega) h]
  frame_out
  unfold k0_pay4 k0_pay1
  pointwise
  rw [read_unread_whole]
  refine (congrArg (· + _) (acc_dwqkv m c s hs.1 a b)).trans (Cert.MatMul.halves (N := 4096) rfl (fun k => ?_) (fun k => ?_) (fun k => ?_) (fun k => ?_))
  · rw [← V_main_arg0 m c]; blk_ext [iblk, s0, h2, hs.1]
  · rw [← V_main_arg1 m c]; blk_ext [iblk, s1, h2, hs.1, hs.2]
  · rw [← V_main_arg0 m c]; blk_ext [iblk, h0, h2, h]
  · rw [← V_main_arg1 m c]; blk_ext [iblk, h1, h2, h]

/-- The call and the derivative by the first projection's weights are the same array. -/
theorem dwqkv : Cert.algebraic_Kernel25Ideal_Reference25Ideal := by
  pair_intro
  · run_from (Cert.Kernel25Ideal.Value.run_blocks m g)
  · run_from Cert.Reference25Ideal.Value.run (F := Ideal) m' g'
    rw [arr_dwqkv m c]
    funext i
    rw [pair_eq (n := 1024) (k := 3072) i]
    pointwise
    exact Finset.sum_congr rfl fun k _ => mul_comm _ _

end

/-! ### The first projection's input -/

section
open Cert.Kernel26Ideal Cert.Kernel26Ideal.Gen
variable (m : (ℓ : Loc nD τ sig) → Buf (Elt Ideal) ℓ)

/-- Where each window lies at each of the eight grid points, and which of them write back. -/
theorem idx_dhp : ∀ t : Fin cfg0.N, win0_0.index t = ![t.val / 2, t.val % 2] ∧ win0_1.index t = ![0, t.val % 2]
    ∧ win0_2.index t = ![t.val / 2, 0] ∧ ((cfg0.win 2).flush t = true → t.val % 2 = 1) := by
  decide +kernel

/-- An even point leaves its product in the scratch. -/
theorem acc_dhp (c : Dev nD) (t : Fin cfg0.N) (h : t.val % 2 = 0) (a b : Fin 1024) : (outsAt0 m c t.val t.isLt).2 (ix2 a b)
    = prodTB (n := 1024) (k := 1536) (p := 1024) (iblk m c 0 t) (iblk m c 1 t) (ix2 a b) := by
  rw [outsAt0_A m c t h (by omega)]
  frame_out
  unfold k0_pay2 k0_pay1
  pointwise
  rfl

/-- The gradient at the first projection's input after the run. -/
theorem arr_dhp (c : Dev nD) : (dats m 0 c).arrAt 2 cfg0.N
    = prodTB (n := 4096) (k := 3072) (p := 1024) (m ((c : Thread nD τ).loc main_arg0)) (m ((c : Thread nD τ).loc main_arg1)) := by
  refine (dats m 0 c).arrAt_eq_of_covers 2 _ (by decide +kernel) (fun t hf y => ?_)
  obtain ⟨h0, h1, h2, h⟩ := idx_dhp t
  have h := h hf
  let s : Fin cfg0.N := ⟨t.val - 1, by have := t.isLt; omega⟩
  obtain ⟨s0, s1, -, -⟩ := idx_dhp s
  have hs : s.val % 2 = 0 ∧ s.val / 2 = t.val / 2 := by simp only [s]; omega
  blk_simp
  rw [after0_2]
  obtain ⟨a, b, rfl⟩ : ∃ (a : Fin 1024) (b : Fin 1024), y = ix2 a b := ⟨y 0, y 1, pair_eq (n := 1024) (k := 1024) y⟩
  rw [outsAt0_B m c t (by omega) h]
  frame_out
  unfold k0_pay4 k0_pay1
  pointwise
  rw [read_unread_whole]
  refine (congrArg (· + _) (acc_dhp m c s hs.1 a b)).trans (Cert.MatMul.halves (N := 3072) rfl (fun k => ?_) (fun k => ?_) (fun k => ?_) (fun k => ?_))
  · rw [← V_main_arg0 m c]; blk_ext [iblk, s0, h2, hs.1, hs.2]
  · rw [← V_main_arg1 m c]; blk_ext [iblk, s1, h2, hs.1]
  · rw [← V_main_arg0 m c]; blk_ext [iblk, h0, h2, h]
  · rw [← V_main_arg1 m c]; blk_ext [iblk, h1, h2, h]

/-- The call and the derivative by the first projection's input are the same array. -/
theorem dhp : Cert.algebraic_Kernel26Ideal_Reference26Ideal := by
  pair_intro
  · run_from (Cert.Kernel26Ideal.Value.run_blocks m g)
  · run_from Cert.Reference26Ideal.Value.run (F := Ideal) m' g'
    rw [arr_dhp m c]
    funext i
    rw [pair_eq (n := 4096) (k := 1024) i]
    pointwise
    rfl

end

end Cert.MixerGrad

end
-- ==== Proof.SpaceValue.lean ====
module

public import proofs.«01_k».proof.Defs
public import proofs.«01_k».proof.Proof.Gen.Kernel27Ideal.Value
public import proofs.«01_k».proof.Proof.Gen.Reference27Ideal.Run
public import proofs.«01_k».proof.Proof.Gen.Kernel28Ideal.Value
public import proofs.«01_k».proof.Proof.Gen.Reference28Ideal.Run
public import proofs.«01_k».proof.Proof.Gen.Kernel29Ideal.Value
public import proofs.«01_k».proof.Proof.Gen.Reference29Ideal.Run
public import proofs.«01_k».proof.Proof.Gen.Kernel30Ideal.Value
public import proofs.«01_k».proof.Proof.Gen.Reference30Ideal.Run
public import proofs.«01_k».proof.Proof.MatMul
public import Idealize.ShloMosaic.Lib.Pipeline.ReadBack

@[expose] public section

set_option maxRecDepth 16384

noncomputable section

/-! The projections of the state-space layer. Each grid point writes one block of the product. -/

namespace Cert.SpaceValue

open Idealize.ShloMosaic Idealize.ShloMosaic.TcCoe Idealize.SL.Sem
open Idealize.ShloMosaic.Pipeline (Dat)
open Cert.MatSum (pair_eq)
open Cert.MatMul (prod)

/-- The references leave their arguments as they were and every counter at zero. -/
theorem frames : Cert.quiescent_Reference27Ideal ∧ Cert.quiescent_Reference28Ideal ∧ Cert.quiescent_Reference29Ideal
    ∧ Cert.quiescent_Reference30Ideal := by
  refine ⟨fun m ρ _ => (θ_run _ _ _).mono ?_ (Cert.Reference27Ideal.Value.run (F := Ideal) m ρ),
    fun m ρ _ => (θ_run _ _ _).mono ?_ (Cert.Reference28Ideal.Value.run (F := Ideal) m ρ),
    fun m ρ _ => (θ_run _ _ _).mono ?_ (Cert.Reference29Ideal.Value.run (F := Ideal) m ρ),
    fun m ρ _ => (θ_run _ _ _).mono ?_ (Cert.Reference30Ideal.Value.run (F := Ideal) m ρ)⟩
  all_goals exact fun r h => ⟨fun c => (h c).2, sem_eq_zero_of_no_sems (by decide) r.2⟩

/-! ### The gate -/

section
open Cert.Kernel27Ideal Cert.Kernel27Ideal.Gen
variable (m : (ℓ : Loc nD τ sig) → Buf (Elt Ideal) ℓ)

/-- Where each window lies at each of the eight grid points. -/
theorem idx_z : ∀ t : Fin cfg0.N, win0_0.index t = ![t.val / 2, 0] ∧ win0_1.index t = ![0, t.val % 2] ∧ win0_2.index t = ![t.val / 2, t.val % 2] := by
  decide +kernel

/-- The gate after the run. -/
theorem arr_z (c : Dev nD) : (dats m 0 c).arrAt 2 cfg0.N
    = prod (n := 4096) (k := 1024) (p := 2048) (m ((c : Thread nD τ).loc main_arg0)) (m ((c : Thread nD τ).loc main_arg1)) := by
  refine (dats m 0 c).arrAt_eq_of_covers 2 _ (by decide +kernel) (fun t _ y => ?_)
  obtain ⟨h0, h1, h2⟩ := idx_z t
  blk_simp
  rw [after0_2]
  obtain ⟨a, b, rfl⟩ : ∃ (a : Fin 1024) (b : Fin 1024), y = ix2 a b := ⟨y 0, y 1, pair_eq (n := 1024) (k := 1024) y⟩
  frame_out
  unfold k0_pay1
  pointwise
  refine Cert.MatMul.congr (fun k => ?_) (fun k => ?_)
  · rw [← V_main_arg0 m c]; blk_ext [iblk, h0, h2]
  · rw [← V_main_arg1 m c]; blk_ext [iblk, h1, h2]

/-- The call computes the gate. -/
theorem z : Cert.algebraic_Kernel27Ideal_Reference27Ideal := by
  pair_intro
  · run_from (Cert.Kernel27Ideal.Value.run_blocks m g)
  · run_from Cert.Reference27Ideal.Value.run (F := Ideal) m' g'
    rw [arr_z m c]
    funext i
    rw [pair_eq (n := 4096) (k := 2048) i]
    pointwise
    rfl

end

/-! ### The convolution's input -/

section
open Cert.Kernel28Ideal Cert.Kernel28Ideal.Gen
variable (m : (ℓ : Loc nD τ sig) → Buf (Elt Ideal) ℓ)

/-- Where each window lies at each of the sixteen grid points. -/
theorem idx_xbc : ∀ t : Fin cfg0.N, win0_0.index t = ![t.val / 4, 0] ∧ win0_1.index t = ![0, t.val % 4] ∧ win0_2.index t = ![t.val / 4, t.val % 4] := by
  decide +kernel

/-- The convolution's input after the run. -/
theorem arr_xbc (c : Dev nD) : (dats m 0 c).arrAt 2 cfg0.N
    = prod (n := 4096) (k := 1024) (p := 4096) (m ((c : Thread nD τ).loc main_arg0)) (m ((c : Thread nD τ).loc main_arg1)) := by
  refine (dats m 0 c).arrAt_eq_of_covers 2 _ (by decide +kernel) (fun t _ y => ?_)
  obtain ⟨h0, h1, h2⟩ := idx_xbc t
  blk_simp
  rw [after0_2]
  obtain ⟨a, b, rfl⟩ : ∃ (a : Fin 1024) (b : Fin 1024), y = ix2 a b := ⟨y 0, y 1, pair_eq (n := 1024) (k := 1024) y⟩
  frame_out
  unfold k0_pay1
  pointwise
  refine Cert.MatMul.congr (fun k => ?_) (fun k => ?_)
  · rw [← V_main_arg0 m c]; blk_ext [iblk, h0, h2]
  · rw [← V_main_arg1 m c]; blk_ext [iblk, h1, h2]

/-- The call computes the convolution's input. -/
theorem xbc : Cert.algebraic_Kernel28Ideal_Reference28Ideal := by
  pair_intro
  · run_from (Cert.Kernel28Ideal.Value.run_blocks m g)
  · run_from Cert.Reference28Ideal.Value.run (F := Ideal) m' g'
    rw [arr_xbc m c]
    funext i
    rw [pair_eq (n := 4096) (k := 4096) i]
    pointwise
    rfl

end

/-! ### The step sizes -/

section
open Cert.Kernel29Ideal Cert.Kernel29Ideal.Gen
variable (m : (ℓ : Loc nD τ sig) → Buf (Elt Ideal) ℓ)

/-- Where each window lies at each of the four grid points. -/
theorem idx_dt : ∀ t : Fin cfg0.N, win0_0.index t = ![t.val, 0] ∧ win0_1.index t = ![0, 0] ∧ win0_2.index t = ![t.val, 0] := by
  decide +kernel

/-- The step sizes, before their bias, after the run. -/
theorem arr_dt (c : Dev nD) : (dats m 0 c).arrAt 2 cfg0.N
    = prod (n := 4096) (k := 1024) (p := 128) (m ((c : Thread nD τ).loc main_arg0)) (m ((c : Thread nD τ).loc main_arg1)) := by
  refine (dats m 0 c).arrAt_eq_of_covers 2 _ (by decide +kernel) (fun t _ y => ?_)
  obtain ⟨h0, h1, h2⟩ := idx_dt t
  blk_simp
  rw [after0_2]
  obtain ⟨a, b, rfl⟩ : ∃ (a : Fin 1024) (b : Fin 128), y = ix2 a b := ⟨y 0, y 1, pair_eq (n := 1024) (k := 128) y⟩
  frame_out
  unfold k0_pay1
  pointwise
  refine Cert.MatMul.congr (fun k => ?_) (fun k => ?_)
  · rw [← V_main_arg0 m c]; blk_ext [iblk, h0, h2]
  · rw [← V_main_arg1 m c]; blk_ext [iblk, h1, h2]

/-- The call computes the step sizes before their bias. -/
theorem dt : Cert.algebraic_Kernel29Ideal_Reference29Ideal := by
  pair_intro
  · run_from (Cert.Kernel29Ideal.Value.run_blocks m g)
  · run_from Cert.Reference29Ideal.Value.run (F := Ideal) m' g'
    rw [arr_dt m c]
    funext i
    rw [pair_eq (n := 4096) (k := 128) i]
    pointwise
    rfl

end

/-! ### The last projection, with the residual -/

section
open Cert.Kernel30Ideal Cert.Kernel30Ideal.Gen
variable (m : (ℓ : Loc nD τ sig) → Buf (Elt Ideal) ℓ)

/-- Where each window lies at each of the four grid points. -/
theorem idx_out : ∀ t : Fin cfg0.N, win0_0.index t = ![t.val, 0] ∧ win0_1.index t = ![0, 0] ∧ win0_2.index t = ![t.val, 0]
    ∧ win0_3.index t = ![t.val, 0] := by
  decide +kernel

/-- The layer's result. -/
def G_out (c : Dev nD) : S4096x1024.Idx → EReal := fun i =>
  prod (n := 4096) (k := 2048) (p := 1024) (m ((c : Thread nD τ).loc main_arg0)) (m ((c : Thread nD τ).loc main_arg1)) i
    + m ((c : Thread nD τ).loc main_arg2) i

/-- The layer's result after the run. -/
theorem arr_out (c : Dev nD) : (dats m 0 c).arrAt 3 cfg0.N = G_out m c := by
  refine (dats m 0 c).arrAt_eq_of_covers 3 _ (by decide +kernel) (fun t _ y => ?_)
  obtain ⟨h0, h1, h2, h3⟩ := idx_out t
  blk_simp
  rw [after0_3]
  obtain ⟨a, b, rfl⟩ : ∃ (a : Fin 1024) (b : Fin 1024), y = ix2 a b := ⟨y 0, y 1, pair_eq (n := 1024) (k := 1024) y⟩
  frame_out
  unfold k0_pay1
  pointwise
  refine congrArg₂ (fun x y : EReal => x + y) (Cert.MatMul.congr (fun k => ?_) (fun k => ?_)) ?_
  · rw [← V_main_arg0 m c]; blk_ext [iblk, h0, h3]
  · rw [← V_main_arg1 m c]; blk_ext [iblk, h1, h3]
  · rw [← V_main_arg2 m c]; blk_ext [iblk, h2, h3]

/-- The call adds the projection to the layer's input. -/
theorem out : Cert.algebraic_Kernel30Ideal_Reference30Ideal := by
  pair_intro
  · run_from (Cert.Kernel30Ideal.Value.run_blocks m g)
  · run_from Cert.Reference30Ideal.Value.run (F := Ideal) m' g'
    rw [arr_out m c]
    funext i
    rw [pair_eq (n := 4096) (k := 1024) i]
    pointwise
    exact add_comm _ _

end

end Cert.SpaceValue

end
-- ==== Proof.SpaceGrad.lean ====
module

public import proofs.«01_k».proof.Defs
public import proofs.«01_k».proof.Proof.Gen.Kernel31Ideal.Value
public import proofs.«01_k».proof.Proof.Gen.Reference31Ideal.Run
public import proofs.«01_k».proof.Proof.Gen.Kernel33Ideal.Value
public import proofs.«01_k».proof.Proof.Gen.Reference33Ideal.Run
public import proofs.«01_k».proof.Proof.Gen.Kernel34Ideal.Value
public import proofs.«01_k».proof.Proof.Gen.Reference34Ideal.Run
public import proofs.«01_k».proof.Proof.Gen.Kernel35Ideal.Value
public import proofs.«01_k».proof.Proof.Gen.Reference35Ideal.Run
public import proofs.«01_k».proof.Proof.MatMul
public import Idealize.ShloMosaic.Lib.Pipeline.ReadBack

@[expose] public section

set_option maxRecDepth 16384

noncomputable section

/-! The gradients of the state-space layer's projections by their weights, each in two steps over the 4096 rows. -/

namespace Cert.SpaceGrad

open Idealize.ShloMosaic Idealize.ShloMosaic.TcCoe Idealize.SL.Sem
open Idealize.ShloMosaic.Pipeline (Dat)
open Cert.MatSum (pair_eq)
open Cert.MatMul (prodTA)

/-- The references leave their arguments as they were and every counter at zero. -/
theorem frames : Cert.quiescent_Reference31Ideal ∧ Cert.quiescent_Reference33Ideal ∧ Cert.quiescent_Reference34Ideal
    ∧ Cert.quiescent_Reference35Ideal := by
  refine ⟨fun m ρ _ => (θ_run _ _ _).mono ?_ (Cert.Reference31Ideal.Value.run (F := Ideal) m ρ),
    fun m ρ _ => (θ_run _ _ _).mono ?_ (Cert.Reference33Ideal.Value.run (F := Ideal) m ρ),
    fun m ρ _ => (θ_run _ _ _).mono ?_ (Cert.Reference34Ideal.Value.run (F := Ideal) m ρ),
    fun m ρ _ => (θ_run _ _ _).mono ?_ (Cert.Reference35Ideal.Value.run (F := Ideal) m ρ)⟩
  all_goals exact fun r h => ⟨fun c => (h c).2, sem_eq_zero_of_no_sems (by decide) r.2⟩

/-! ### The last projection -/

section
open Cert.Kernel31Ideal Cert.Kernel31Ideal.Gen
variable (m : (ℓ : Loc nD τ sig) → Buf (Elt Ideal) ℓ)

/-- Where each window lies at each of the four grid points, and which of them write back. -/
theorem idx_dwout : ∀ t : Fin cfg0.N, win0_0.index t = ![t.val % 2, t.val / 2] ∧ win0_1.index t = ![t.val % 2, 0]
    ∧ win0_2.index t = ![t.val / 2, 0] ∧ ((cfg0.win 2).flush t = true → t.val % 2 = 1) := by
  decide +kernel

/-- An even point leaves its product in the scratch. -/
theorem acc_dwout (c : Dev nD) (t : Fin cfg0.N) (h : t.val % 2 = 0) (a b : Fin 1024) : (outsAt0 m c t.val t.isLt).2 (ix2 a b)
    = prodTA (n := 1024) (k := 2048) (p := 1024) (iblk m c 0 t) (iblk m c 1 t) (ix2 a b) := by
  rw [outsAt0_A m c t h (by omega)]
  frame_out
  unfold k0_pay2 k0_pay1
  pointwise
  rfl

/-- The gradient of the last projection's weights after the run. -/
theorem arr_dwout (c : Dev nD) : (dats m 0 c).arrAt 2 cfg0.N
    = prodTA (n := 2048) (k := 4096) (p := 1024) (m ((c : Thread nD τ).loc main_arg0)) (m ((c : Thread nD τ).loc main_arg1)) := by
  refine (dats m 0 c).arrAt_eq_of_covers 2 _ (by decide +kernel) (fun t hf y => ?_)
  obtain ⟨h0, h1, h2, h⟩ := idx_dwout t
  have h := h hf
  let s : Fin cfg0.N := ⟨t.val - 1, by have := t.isLt; omega⟩
  obtain ⟨s0, s1, -, -⟩ := idx_dwout s
  have hs : s.val % 2 = 0 ∧ s.val / 2 = t.val / 2 := by simp only [s]; omega
  blk_simp
  rw [after0_2]
  obtain ⟨a, b, rfl⟩ : ∃ (a : Fin 1024) (b : Fin 1024), y = ix2 a b := ⟨y 0, y 1, pair_eq (n := 1024) (k := 1024) y⟩
  rw [outsAt0_B m c t (by omega) h]
  frame_out
  unfold k0_pay4 k0_pay1
  pointwise
  rw [read_unread_whole]
  refine (congrArg (· + _) (acc_dwout m c s hs.1 a b)).trans (Cert.MatMul.halves (N := 4096) rfl (fun k => ?_) (fun k => ?_) (fun k => ?_) (fun k => ?_))
  · rw [← V_main_arg0 m c]; blk_ext [iblk, s0, h2, hs.1, hs.2]
  · rw [← V_main_arg1 m c]; blk_ext [iblk, s1, h2, hs.1]
  · rw [← V_main_arg0 m c]; blk_ext [iblk, h0, h2, h]
  · rw [← V_main_arg1 m c]; blk_ext [iblk, h1, h2, h]

/-- The call and the derivative by the last projection's weights are the same array. -/
theorem dwout : Cert.algebraic_Kernel31Ideal_Reference31Ideal := by
  pair_intro
  · run_from (Cert.Kernel31Ideal.Value.run_blocks m g)
  · run_from Cert.Reference31Ideal.Value.run (F := Ideal) m' g'
    rw [arr_dwout m c]
    funext i
    rw [pair_eq (n := 2048) (k := 1024) i]
    pointwise
    exact Finset.sum_congr rfl fun k _ => mul_comm _ _

end

/-! ### The gate's projection -/

section
open Cert.Kernel33Ideal Cert.Kernel33Ideal.Gen
variable (m : (ℓ : Loc nD τ sig) → Buf (Elt Ideal) ℓ)

/-- Where each window lies at each of the four grid points, and which of them write back. -/
theorem idx_dwz : ∀ t : Fin cfg0.N, win0_0.index t = ![t.val % 2, 0] ∧ win0_1.index t = ![t.val % 2, t.val / 2]
    ∧ win0_2.index t = ![0, t.val / 2] ∧ ((cfg0.win 2).flush t = true → t.val % 2 = 1) := by
  decide +kernel

/-- An even point leaves its product in the scratch. -/
theorem acc_dwz (c : Dev nD) (t : Fin cfg0.N) (h : t.val % 2 = 0) (a b : Fin 1024) : (outsAt0 m c t.val t.isLt).2 (ix2 a b)
    = prodTA (n := 1024) (k := 2048) (p := 1024) (iblk m c 0 t) (iblk m c 1 t) (ix2 a b) := by
  rw [outsAt0_A m c t h (by omega)]
  frame_out
  unfold k0_pay2 k0_pay1
  pointwise
  rfl

/-- The gradient of the gate's weights after the run. -/
theorem arr_dwz (c : Dev nD) : (dats m 0 c).arrAt 2 cfg0.N
    = prodTA (n := 1024) (k := 4096) (p := 2048) (m ((c : Thread nD τ).loc main_arg0)) (m ((c : Thread nD τ).loc main_arg1)) := by
  refine (dats m 0 c).arrAt_eq_of_covers 2 _ (by decide +kernel) (fun t hf y => ?_)
  obtain ⟨h0, h1, h2, h⟩ := idx_dwz t
  have h := h hf
  let s : Fin cfg0.N := ⟨t.val - 1, by have := t.isLt; omega⟩
  obtain ⟨s0, s1, -, -⟩ := idx_dwz s
  have hs : s.val % 2 = 0 ∧ s.val / 2 = t.val / 2 := by simp only [s]; omega
  blk_simp
  rw [after0_2]
  obtain ⟨a, b, rfl⟩ : ∃ (a : Fin 1024) (b : Fin 1024), y = ix2 a b := ⟨y 0, y 1, pair_eq (n := 1024) (k := 1024) y⟩
  rw [outsAt0_B m c t (by omega) h]
  frame_out
  unfold k0_pay4 k0_pay1
  pointwise
  rw [read_unread_whole]
  refine (congrArg (· + _) (acc_dwz m c s hs.1 a b)).trans (Cert.MatMul.halves (N := 4096) rfl (fun k => ?_) (fun k => ?_) (fun k => ?_) (fun k => ?_))
  · rw [← V_main_arg0 m c]; blk_ext [iblk, s0, h2, hs.1]
  · rw [← V_main_arg1 m c]; blk_ext [iblk, s1, h2, hs.1, hs.2]
  · rw [← V_main_arg0 m c]; blk_ext [iblk, h0, h2, h]
  · rw [← V_main_arg1 m c]; blk_ext [iblk, h1, h2, h]

/-- The call and the derivative by the gate's weights are the same array. -/
theorem dwz : Cert.algebraic_Kernel33Ideal_Reference33Ideal := by
  pair_intro
  · run_from (Cert.Kernel33Ideal.Value.run_blocks m g)
  · run_from Cert.Reference33Ideal.Value.run (F := Ideal) m' g'
    rw [arr_dwz m c]
    funext i
    rw [pair_eq (n := 1024) (k := 2048) i]
    pointwise
    exact Finset.sum_congr rfl fun k _ => mul_comm _ _

end

/-! ### The projection of the convolution's input -/

section
open Cert.Kernel34Ideal Cert.Kernel34Ideal.Gen
variable (m : (ℓ : Loc nD τ sig) → Buf (Elt Ideal) ℓ)

/-- Where each window lies at each of the eight grid points, and which of them write back. -/
theorem idx_dwx : ∀ t : Fin cfg0.N, win0_0.index t = ![t.val % 2, 0] ∧ win0_1.index t = ![t.val % 2, t.val / 2]
    ∧ win0_2.index t = ![0, t.val / 2] ∧ ((cfg0.win 2).flush t = true → t.val % 2 = 1) := by
  decide +kernel

/-- An even point leaves its product in the scratch. -/
theorem acc_dwx (c : Dev nD) (t : Fin cfg0.N) (h : t.val % 2 = 0) (a b : Fin 1024) : (outsAt0 m c t.val t.isLt).2 (ix2 a b)
    = prodTA (n := 1024) (k := 2048) (p := 1024) (iblk m c 0 t) (iblk m c 1 t) (ix2 a b) := by
  rw [outsAt0_A m c t h (by omega)]
  frame_out
  unfold k0_pay2 k0_pay1
  pointwise
  rfl

/-- The gradient of the weights of the convolution's input after the run. -/
theorem arr_dwx (c : Dev nD) : (dats m 0 c).arrAt 2 cfg0.N
    = prodTA (n := 1024) (k := 4096) (p := 4096) (m ((c : Thread nD τ).loc main_arg0)) (m ((c : Thread nD τ).loc main_arg1)) := by
  refine (dats m 0 c).arrAt_eq_of_covers 2 _ (by decide +kernel) (fun t hf y => ?_)
  obtain ⟨h0, h1, h2, h⟩ := idx_dwx t
  have h := h hf
  let s : Fin cfg0.N := ⟨t.val - 1, by have := t.isLt; omega⟩
  obtain ⟨s0, s1, -, -⟩ := idx_dwx s
  have hs : s.val % 2 = 0 ∧ s.val / 2 = t.val / 2 := by simp only [s]; omega
  blk_simp
  rw [after0_2]
  obtain ⟨a, b, rfl⟩ : ∃ (a : Fin 1024) (b : Fin 1024), y = ix2 a b := ⟨y 0, y 1, pair_eq (n := 1024) (k := 1024) y⟩
  rw [outsAt0_B m c t (by omega) h]
  frame_out
  unfold k0_pay4 k0_pay1
  pointwise
  rw [read_unread_whole]
  refine (congrArg (· + _) (acc_dwx m c s hs.1 a b)).trans (Cert.MatMul.halves (N := 4096) rfl (fun k => ?_) (fun k => ?_) (fun k => ?_) (fun k => ?_))
  · rw [← V_main_arg0 m c]; blk_ext [iblk, s0, h2, hs.1]
  · rw [← V_main_arg1 m c]; blk_ext [iblk, s1, h2, hs.1, hs.2]
  · rw [← V_main_arg0 m c]; blk_ext [iblk, h0, h2, h]
  · rw [← V_main_arg1 m c]; blk_ext [iblk, h1, h2, h]

/-- The call and the derivative by the weights of the convolution's input are the same array. -/
theorem dwx : Cert.algebraic_Kernel34Ideal_Reference34Ideal := by
  pair_intro
  · run_from (Cert.Kernel34Ideal.Value.run_blocks m g)
  · run_from Cert.Reference34Ideal.Value.run (F := Ideal) m' g'
    rw [arr_dwx m c]
    funext i
    rw [pair_eq (n := 1024) (k := 4096) i]
    pointwise
    exact Finset.sum_congr rfl fun k _ => mul_comm _ _

end

/-! ### The projection of the step sizes -/

section
open Cert.Kernel35Ideal Cert.Kernel35Ideal.Gen
variable (m : (ℓ : Loc nD τ sig) → Buf (Elt Ideal) ℓ)

/-- Where each window lies at the two grid points, and which of them writes back. -/
theorem idx_dwdt : ∀ t : Fin cfg0.N, win0_0.index t = ![t.val % 2, 0] ∧ win0_1.index t = ![t.val % 2, 0] ∧ win0_2.index t = ![0, 0]
    ∧ ((cfg0.win 2).flush t = true → t.val % 2 = 1) := by
  decide +kernel

/-- The first point leaves its product in the scratch. -/
theorem acc_dwdt (c : Dev nD) (t : Fin cfg0.N) (h : t.val % 2 = 0) (a : Fin 1024) (b : Fin 128) : (outsAt0 m c t.val t.isLt).2 (ix2 a b)
    = prodTA (n := 1024) (k := 2048) (p := 128) (iblk m c 0 t) (iblk m c 1 t) (ix2 a b) := by
  rw [outsAt0_A m c t h (by omega)]
  frame_out
  unfold k0_pay2 k0_pay1
  pointwise
  rfl

/-- The gradient of the step sizes' weights after the run. -/
theorem arr_dwdt (c : Dev nD) : (dats m 0 c).arrAt 2 cfg0.N
    = prodTA (n := 1024) (k := 4096) (p := 128) (m ((c : Thread nD τ).loc main_arg0)) (m ((c : Thread nD τ).loc main_arg1)) := by
  refine (dats m 0 c).arrAt_eq_of_covers 2 _ (by decide +kernel) (fun t hf y => ?_)
  obtain ⟨h0, h1, h2, h⟩ := idx_dwdt t
  have h := h hf
  let s : Fin cfg0.N := ⟨t.val - 1, by have := t.isLt; omega⟩
  obtain ⟨s0, s1, -, -⟩ := idx_dwdt s
  have hs : s.val % 2 = 0 := by simp only [s]; omega
  blk_simp
  rw [after0_2]
  obtain ⟨a, b, rfl⟩ : ∃ (a : Fin 1024) (b : Fin 128), y = ix2 a b := ⟨y 0, y 1, pair_eq (n := 1024) (k := 128) y⟩
  rw [outsAt0_B m c t (by omega) h]
  frame_out
  unfold k0_pay4 k0_pay1
  pointwise
  rw [read_unread_whole]
  refine (congrArg (· + _) (acc_dwdt m c s hs a b)).trans (Cert.MatMul.halves (N := 4096) rfl (fun k => ?_) (fun k => ?_) (fun k => ?_) (fun k => ?_))
  · rw [← V_main_arg0 m c]; blk_ext [iblk, s0, h2, hs]
  · rw [← V_main_arg1 m c]; blk_ext [iblk, s1, h2, hs]
  · rw [← V_main_arg0 m c]; blk_ext [iblk, h0, h2, h]
  · rw [← V_main_arg1 m c]; blk_ext [iblk, h1, h2, h]

/-- The call and the derivative by the step sizes' weights are the same array. -/
theorem dwdt : Cert.algebraic_Kernel35Ideal_Reference35Ideal := by
  pair_intro
  · run_from (Cert.Kernel35Ideal.Value.run_blocks m g)
  · run_from Cert.Reference35Ideal.Value.run (F := Ideal) m' g'
    rw [arr_dwdt m c]
    funext i
    rw [pair_eq (n := 1024) (k := 128) i]
    pointwise
    exact Finset.sum_congr rfl fun k _ => mul_comm _ _

end

end Cert.SpaceGrad

end
-- ==== Proof.SpaceInput.lean ====
module

public import proofs.«01_k».proof.Defs
public import proofs.«01_k».proof.Proof.Gen.Kernel32Ideal.Value
public import proofs.«01_k».proof.Proof.Gen.Reference32Ideal.Run
public import proofs.«01_k».proof.Proof.Gen.Kernel36Ideal.Value
public import proofs.«01_k».proof.Proof.Gen.Reference36Ideal.Run
public import proofs.«01_k».proof.Proof.Gen.Kernel37Ideal.Value
public import proofs.«01_k».proof.Proof.Gen.Reference37Ideal.Run
public import proofs.«01_k».proof.Proof.Gen.Kernel38Ideal.Value
public import proofs.«01_k».proof.Proof.Gen.Reference38Ideal.Run
public import proofs.«01_k».proof.Proof.MatMul
public import Idealize.ShloMosaic.Lib.Pipeline.ReadBack

@[expose] public section

set_option maxRecDepth 16384

noncomputable section

/-! The gradients of the state-space layer's projections by their inputs. The three at the layer's input are added up, each call taking the sum of
    the calls before it. -/

namespace Cert.SpaceInput

open Idealize.ShloMosaic Idealize.ShloMosaic.TcCoe Idealize.SL.Sem
open Idealize.ShloMosaic.Pipeline (Dat)
open Cert.MatSum (pair_eq)
open Cert.MatMul (prodTB)

/-- The references leave their arguments as they were and every counter at zero. -/
theorem frames : Cert.quiescent_Reference32Ideal ∧ Cert.quiescent_Reference36Ideal ∧ Cert.quiescent_Reference37Ideal
    ∧ Cert.quiescent_Reference38Ideal := by
  refine ⟨fun m ρ _ => (θ_run _ _ _).mono ?_ (Cert.Reference32Ideal.Value.run (F := Ideal) m ρ),
    fun m ρ _ => (θ_run _ _ _).mono ?_ (Cert.Reference36Ideal.Value.run (F := Ideal) m ρ),
    fun m ρ _ => (θ_run _ _ _).mono ?_ (Cert.Reference37Ideal.Value.run (F := Ideal) m ρ),
    fun m ρ _ => (θ_run _ _ _).mono ?_ (Cert.Reference38Ideal.Value.run (F := Ideal) m ρ)⟩
  all_goals exact fun r h => ⟨fun c => (h c).2, sem_eq_zero_of_no_sems (by decide) r.2⟩

/-! ### The last projection -/

section
open Cert.Kernel32Ideal Cert.Kernel32Ideal.Gen
variable (m : (ℓ : Loc nD τ sig) → Buf (Elt Ideal) ℓ)

/-- Where each window lies at each of the eight grid points. -/
theorem idx_dyn : ∀ t : Fin cfg0.N, win0_0.index t = ![t.val / 2, 0] ∧ win0_1.index t = ![t.val % 2, 0] ∧ win0_2.index t = ![t.val / 2, t.val % 2] := by
  decide +kernel

/-- The gradient at the normalised scan after the run. -/
theorem arr_dyn (c : Dev nD) : (dats m 0 c).arrAt 2 cfg0.N
    = prodTB (n := 4096) (k := 1024) (p := 2048) (m ((c : Thread nD τ).loc main_arg0)) (m ((c : Thread nD τ).loc main_arg1)) := by
  refine (dats m 0 c).arrAt_eq_of_covers 2 _ (by decide +kernel) (fun t _ y => ?_)
  obtain ⟨h0, h1, h2⟩ := idx_dyn t
  blk_simp
  rw [after0_2]
  obtain ⟨a, b, rfl⟩ : ∃ (a : Fin 1024) (b : Fin 1024), y = ix2 a b := ⟨y 0, y 1, pair_eq (n := 1024) (k := 1024) y⟩
  frame_out
  unfold k0_pay1
  pointwise
  refine Cert.MatMul.congr (fun k => ?_) (fun k => ?_)
  · rw [← V_main_arg0 m c]; blk_ext [iblk, h0, h2]
  · rw [← V_main_arg1 m c]; blk_ext [iblk, h1, h2]

/-- The call and the derivative by the normalised scan are the same array. -/
theorem dyn : Cert.algebraic_Kernel32Ideal_Reference32Ideal := by
  pair_intro
  · run_from (Cert.Kernel32Ideal.Value.run_blocks m g)
  · run_from Cert.Reference32Ideal.Value.run (F := Ideal) m' g'
    rw [arr_dyn m c]
    funext i
    rw [pair_eq (n := 4096) (k := 2048) i]
    pointwise
    rfl

end

/-! ### The layer's input, by the gate -/

section
open Cert.Kernel36Ideal Cert.Kernel36Ideal.Gen
variable (m : (ℓ : Loc nD τ sig) → Buf (Elt Ideal) ℓ)

/-- Where each window lies at each of the four grid points. -/
theorem idx_dhz : ∀ t : Fin cfg0.N, win0_0.index t = ![t.val, 0] ∧ win0_1.index t = ![0, 0] ∧ win0_2.index t = ![t.val, 0] := by
  decide +kernel

/-- The gate's part of the gradient after the run. -/
theorem arr_dhz (c : Dev nD) : (dats m 0 c).arrAt 2 cfg0.N
    = prodTB (n := 4096) (k := 2048) (p := 1024) (m ((c : Thread nD τ).loc main_arg0)) (m ((c : Thread nD τ).loc main_arg1)) := by
  refine (dats m 0 c).arrAt_eq_of_covers 2 _ (by decide +kernel) (fun t _ y => ?_)
  obtain ⟨h0, h1, h2⟩ := idx_dhz t
  blk_simp
  rw [after0_2]
  obtain ⟨a, b, rfl⟩ : ∃ (a : Fin 1024) (b : Fin 1024), y = ix2 a b := ⟨y 0, y 1, pair_eq (n := 1024) (k := 1024) y⟩
  frame_out
  unfold k0_pay1
  pointwise
  refine Cert.MatMul.congr (fun k => ?_) (fun k => ?_)
  · rw [← V_main_arg0 m c]; blk_ext [iblk, h0, h2]
  · rw [← V_main_arg1 m c]; blk_ext [iblk, h1, h2]

/-- The call and the derivative by the layer's input, through the gate, are the same array. -/
theorem dhz : Cert.algebraic_Kernel36Ideal_Reference36Ideal := by
  pair_intro
  · run_from (Cert.Kernel36Ideal.Value.run_blocks m g)
  · run_from Cert.Reference36Ideal.Value.run (F := Ideal) m' g'
    rw [arr_dhz m c]
    funext i
    rw [pair_eq (n := 4096) (k := 1024) i]
    pointwise
    rfl

end

/-! ### The layer's input, by the convolution's input too -/

section
open Cert.Kernel37Ideal Cert.Kernel37Ideal.Gen
variable (m : (ℓ : Loc nD τ sig) → Buf (Elt Ideal) ℓ)

/-- Where each window lies at each of the eight grid points, and which of them write back. -/
theorem idx_dhx : ∀ t : Fin cfg0.N, win0_0.index t = ![t.val / 2, t.val % 2] ∧ win0_1.index t = ![0, t.val % 2]
    ∧ win0_2.index t = ![t.val / 2, 0] ∧ win0_3.index t = ![t.val / 2, 0] ∧ ((cfg0.win 3).flush t = true → t.val % 2 = 1) := by
  decide +kernel

/-- An even point leaves its product in the scratch. -/
theorem acc_dhx (c : Dev nD) (t : Fin cfg0.N) (h : t.val % 2 = 0) (a b : Fin 1024) : (outsAt0 m c t.val t.isLt).2 (ix2 a b)
    = prodTB (n := 1024) (k := 2048) (p := 1024) (iblk m c 0 t) (iblk m c 1 t) (ix2 a b) := by
  rw [outsAt0_A m c t h (by omega)]
  frame_out
  unfold k0_pay2 k0_pay1
  pointwise
  rfl

/-- The sum of the gate's part and of the convolution's. -/
def G_dhx (c : Dev nD) : S4096x1024.Idx → EReal := fun i =>
  prodTB (n := 4096) (k := 4096) (p := 1024) (m ((c : Thread nD τ).loc main_arg0)) (m ((c : Thread nD τ).loc main_arg1)) i
    + m ((c : Thread nD τ).loc main_arg2) i

/-- The sum after the run. -/
theorem arr_dhx (c : Dev nD) : (dats m 0 c).arrAt 3 cfg0.N = G_dhx m c := by
  refine (dats m 0 c).arrAt_eq_of_covers 3 _ (by decide +kernel) (fun t hf y => ?_)
  obtain ⟨h0, h1, h2, h3, h⟩ := idx_dhx t
  have h := h hf
  let s : Fin cfg0.N := ⟨t.val - 1, by have := t.isLt; omega⟩
  obtain ⟨s0, s1, -, -, -⟩ := idx_dhx s
  have hs : s.val % 2 = 0 ∧ s.val / 2 = t.val / 2 := by simp only [s]; omega
  blk_simp
  rw [after0_3]
  obtain ⟨a, b, rfl⟩ : ∃ (a : Fin 1024) (b : Fin 1024), y = ix2 a b := ⟨y 0, y 1, pair_eq (n := 1024) (k := 1024) y⟩
  rw [outsAt0_B m c t (by omega) h]
  frame_out
  unfold k0_pay4 k0_pay1
  pointwise
  rw [read_unread_whole]
  refine congrArg₂ (fun x y : EReal => x + y)
    ((congrArg (· + _) (acc_dhx m c s hs.1 a b)).trans (Cert.MatMul.halves (N := 4096) rfl (fun k => ?_) (fun k => ?_) (fun k => ?_) (fun k => ?_))) ?_
  · rw [← V_main_arg0 m c]; blk_ext [iblk, s0, h3, hs.1, hs.2]
  · rw [← V_main_arg1 m c]; blk_ext [iblk, s1, h3, hs.1]
  · rw [← V_main_arg0 m c]; blk_ext [iblk, h0, h3, h]
  · rw [← V_main_arg1 m c]; blk_ext [iblk, h1, h3, h]
  · rw [← V_main_arg2 m c]; blk_ext [iblk, h2, h3]

/-- The call adds the derivative through the convolution's input to the part before it. -/
theorem dhx : Cert.algebraic_Kernel37Ideal_Reference37Ideal := by
  pair_intro
  · run_from (Cert.Kernel37Ideal.Value.run_blocks m g)
  · run_from Cert.Reference37Ideal.Value.run (F := Ideal) m' g'
    rw [arr_dhx m c]
    funext i
    rw [pair_eq (n := 4096) (k := 1024) i]
    pointwise
    exact add_comm _ _

end

/-! ### The layer's input, by the step sizes too -/

section
open Cert.Kernel38Ideal Cert.Kernel38Ideal.Gen
variable (m : (ℓ : Loc nD τ sig) → Buf (Elt Ideal) ℓ)

/-- Where each window lies at each of the four grid points. -/
theorem idx_dhdt : ∀ t : Fin cfg0.N, win0_0.index t = ![t.val, 0] ∧ win0_1.index t = ![0, 0] ∧ win0_2.index t = ![t.val, 0]
    ∧ win0_3.index t = ![t.val, 0] := by
  decide +kernel

/-- The whole gradient at the layer's input. -/
def G_dhdt (c : Dev nD) : S4096x1024.Idx → EReal := fun i =>
  prodTB (n := 4096) (k := 128) (p := 1024) (m ((c : Thread nD τ).loc main_arg0)) (m ((c : Thread nD τ).loc main_arg1)) i
    + m ((c : Thread nD τ).loc main_arg2) i

/-- The whole gradient after the run. -/
theorem arr_dhdt (c : Dev nD) : (dats m 0 c).arrAt 3 cfg0.N = G_dhdt m c := by
  refine (dats m 0 c).arrAt_eq_of_covers 3 _ (by decide +kernel) (fun t _ y => ?_)
  obtain ⟨h0, h1, h2, h3⟩ := idx_dhdt t
  blk_simp
  rw [after0_3]
  obtain ⟨a, b, rfl⟩ : ∃ (a : Fin 1024) (b : Fin 1024), y = ix2 a b := ⟨y 0, y 1, pair_eq (n := 1024) (k := 1024) y⟩
  frame_out
  unfold k0_pay1
  pointwise
  refine congrArg₂ (fun x y : EReal => x + y) (Cert.MatMul.congr (fun k => ?_) (fun k => ?_)) ?_
  · rw [← V_main_arg0 m c]; blk_ext [iblk, h0, h3]
  · rw [← V_main_arg1 m c]; blk_ext [iblk, h1, h3]
  · rw [← V_main_arg2 m c]; blk_ext [iblk, h2, h3]

/-- The call adds the derivative through the step sizes to the part before it. -/
theorem dhdt : Cert.algebraic_Kernel38Ideal_Reference38Ideal := by
  pair_intro
  · run_from (Cert.Kernel38Ideal.Value.run_blocks m g)
  · run_from Cert.Reference38Ideal.Value.run (F := Ideal) m' g'
    rw [arr_dhdt m c]
    funext i
    rw [pair_eq (n := 4096) (k := 1024) i]
    pointwise
    exact add_comm _ _

end

end Cert.SpaceInput

end
-- ==== Proof.SpaceConv.lean ====
module

public import proofs.«01_k».proof.Defs
public import proofs.«01_k».proof.Proof.Gen.Kernel40Ideal.Value
public import proofs.«01_k».proof.Proof.Gen.Reference40Ideal.Read
public import proofs.«01_k».proof.Proof.Gen.Reference40Ideal.Run
public import proofs.«01_k».proof.Proof.Gen.Pre_finite_conv
public import proofs.«01_k».proof.Proof.ConvSpec
public import proofs.«01_k».proof.Proof.Silu
public import Idealize.ShloMosaic.Lib.KernelVsHost

@[expose] public section

set_option maxRecDepth 16384

noncomputable section

/-! The gradient of the state-space layer's convolution with its bias and its silu: of the convolution's input, its four weights and its bias. -/

namespace Cert.SpaceConv

open Idealize.ShloMosaic

abbrev S4x4096 : Shape := ⟨2, ![4, 4096]⟩
abbrev S4096x1024 : Shape := ⟨2, ![4096, 1024]⟩
abbrev S4096x2048 : Shape := ⟨2, ![4096, 2048]⟩
abbrev S4096x4096 : Shape := ⟨2, ![4096, 4096]⟩

/-- The incoming gradient at row `T`, its three parts side by side. -/
def parts (G : S4096x2048.Idx → EReal) (B C : S4096x1024.Idx → EReal) (T : Fin 4096) (q : Fin 4096) : EReal :=
  if h : q.val < 2048 then G (ix2 T ⟨q.val, h⟩)
  else if h' : q.val - 2048 < 1024 then B (ix2 T ⟨q.val - 2048, h'⟩)
  else C (ix2 T ⟨q.val - 2048 - 1024, by omega⟩)

/-- The derivative of the silu at `p`. -/
def siluSlope (p : EReal) : EReal := Ideal.logistic p * (1 + p * (1 - Ideal.logistic p))

/-- The gradient before the silu at row `T`, zero past the last row. -/
def dpre (G : S4096x2048.Idx → EReal) (B C : S4096x1024.Idx → EReal) (P : S4096x4096.Idx → EReal) (T : ℕ) (q : Fin 4096) : EReal :=
  if h : T < 4096 then parts G B C ⟨T, h⟩ q * siluSlope (P (ix2 ⟨T, h⟩ q)) else 0

/-- At a row which exists. -/
theorem dpre_row (G : S4096x2048.Idx → EReal) (B C : S4096x1024.Idx → EReal) (P : S4096x4096.Idx → EReal) {T : ℕ} (q : Fin 4096) (h : T < 4096) :
    dpre G B C P T q = parts G B C ⟨T, h⟩ q * siluSlope (P (ix2 ⟨T, h⟩ q)) := dif_pos h

/-- The convolution's input `s` rows earlier, zero before the first row. -/
def back (X : S4096x4096.Idx → EReal) (s T : ℕ) (q : Fin 4096) : EReal :=
  if s ≤ T then if h : T - s < 4096 then X (ix2 ⟨T - s, h⟩ q) else 0 else 0

/-- At a row which exists. -/
theorem back_of_le (X : S4096x4096.Idx → EReal) {s T : ℕ} (q : Fin 4096) (h : s ≤ T) (hT : T - s < 4096) : back X s T q = X (ix2 ⟨T - s, hT⟩ q) := by
  rw [back, if_pos h, dif_pos hT]

/-- The gradient of the convolution's input: each weight times the gradient at a later row. -/
def dxF (d : ℕ → Fin 4096 → EReal) (W : S4x4096.Idx → EReal) (T : ℕ) (q : Fin 4096) : EReal :=
  W (ix2 0 q) * d (T + 3) q + W (ix2 1 q) * d (T + 2) q + W (ix2 2 q) * d (T + 1) q + W (ix2 3 q) * d T q

/-- One term of the weights' gradient: the gradient at row `T` times the input `3 - row` rows earlier. -/
def dwT (d : ℕ → Fin 4096 → EReal) (X : S4096x4096.Idx → EReal) (row : Fin 8) (T : ℕ) (q : Fin 4096) : EReal :=
  if row.val < 4 then d T q * back X (3 - row.val) T q else 0

end Cert.SpaceConv

namespace Cert.Kernel40Ideal.SpaceConv

open Cert.Kernel40Ideal Cert.Kernel40Ideal.Gen Idealize.ShloMosaic Idealize.ShloMosaic.TcCoe Idealize.SL.Sem
open Idealize.ShloMosaic.Pipeline (Dat)
open Cert.ConvGrad (row_congr pair_eq sum_rows sel_slt sel_sge sel_sgt)
open Cert.SpaceConv (parts siluSlope dpre dpre_row back back_of_le dxF dwT)

variable (m : (ℓ : Loc nD τ sig) → Buf (Elt Ideal) ℓ)

theorem idx : ∀ t : Fin cfg0.N, (win0_0.index t = ![t.val, 0] ∧ win0_1.index t = ![min (32 * (t.val + 1)) 511, 0])
    ∧ (win0_2.index t = ![t.val, 0] ∧ win0_3.index t = ![min (32 * (t.val + 1)) 511, 0])
    ∧ (win0_4.index t = ![t.val, 0] ∧ win0_5.index t = ![min (32 * (t.val + 1)) 511, 0])
    ∧ (win0_6.index t = ![t.val, 0] ∧ win0_7.index t = ![min (32 * (t.val + 1)) 511, 0])
    ∧ (win0_8.index t = ![t.val, 0] ∧ win0_9.index t = ![32 * t.val - 1, 0])
    ∧ win0_10.index t = ![0, 0] ∧ win0_11.index t = ![t.val, 0] := by
  decide +kernel

/-- The grid has sixteen points. -/
theorem lt16 (t : Fin cfg0.N) : t.val < 16 := lt_of_lt_of_eq t.isLt N_0

/-- The point's coordinate is its number. -/
theorem coord (t : Fin cfg0.N) : (grid0.coords t 0).val = t.val := by
  revert t; decide +kernel

/-- The first part of the incoming gradient. -/
abbrev aG (c : Dev nD) : S4096x2048.Idx → EReal := m ((c : Thread nD τ).loc main_arg0)
/-- The second part. -/
abbrev aB (c : Dev nD) : S4096x1024.Idx → EReal := m ((c : Thread nD τ).loc main_arg1)
/-- The third part. -/
abbrev aC (c : Dev nD) : S4096x1024.Idx → EReal := m ((c : Thread nD τ).loc main_arg2)
/-- The values before the silu. -/
abbrev aP (c : Dev nD) : S4096x4096.Idx → EReal := m ((c : Thread nD τ).loc main_arg3)
/-- The convolution's input. -/
abbrev aX (c : Dev nD) : S4096x4096.Idx → EReal := m ((c : Thread nD τ).loc main_arg4)
/-- The convolution's weights. -/
abbrev aW (c : Dev nD) : S4x4096.Idx → EReal := m ((c : Thread nD τ).loc main_arg5)
/-- The gradient before the silu. -/
abbrev dP (c : Dev nD) : ℕ → Fin 4096 → EReal := dpre (aG m c) (aB m c) (aC m c) (aP m c)

/-- A row of the block which starts at row `256 t`. -/
abbrev row (t : Fin cfg0.N) (r : Fin 256) : Fin 4096 := ⟨256 * t.val + r.val, by have := lt16 t; omega⟩
/-- A row of the eight after that block, or of the last eight. -/
abbrev nextRow (t : Fin cfg0.N) (r : Fin 8) : Fin 4096 := ⟨8 * min (32 * (t.val + 1)) 511 + r.val, by have := lt16 t; omega⟩

theorem blk0 (c : Dev nD) (t : Fin cfg0.N) (r : Fin 256) (k : Fin 2048) : (iblk m c 0 t : S256x2048.Idx → EReal) (ix2 r k) = aG m c (ix2 (row t r) k) := by
  rw [aG, ← V_main_arg0 m c]
  blk_ext [iblk, (idx t).1.1]
theorem blk1 (c : Dev nD) (t : Fin cfg0.N) (r : Fin 8) (k : Fin 2048) : (iblk m c 1 t : S8x2048.Idx → EReal) (ix2 r k) = aG m c (ix2 (nextRow t r) k) := by
  rw [aG, ← V_main_arg0 m c]
  blk_ext [iblk, (idx t).1.2]
theorem blk2 (c : Dev nD) (t : Fin cfg0.N) (r : Fin 256) (k : Fin 1024) : (iblk m c 2 t : S256x1024.Idx → EReal) (ix2 r k) = aB m c (ix2 (row t r) k) := by
  rw [aB, ← V_main_arg1 m c]
  blk_ext [iblk, (idx t).2.1.1]
theorem blk3 (c : Dev nD) (t : Fin cfg0.N) (r : Fin 8) (k : Fin 1024) : (iblk m c 3 t : S8x1024.Idx → EReal) (ix2 r k) = aB m c (ix2 (nextRow t r) k) := by
  rw [aB, ← V_main_arg1 m c]
  blk_ext [iblk, (idx t).2.1.2]
theorem blk4 (c : Dev nD) (t : Fin cfg0.N) (r : Fin 256) (k : Fin 1024) : (iblk m c 4 t : S256x1024.Idx → EReal) (ix2 r k) = aC m c (ix2 (row t r) k) := by
  rw [aC, ← V_main_arg2 m c]
  blk_ext [iblk, (idx t).2.2.1.1]
theorem blk5 (c : Dev nD) (t : Fin cfg0.N) (r : Fin 8) (k : Fin 1024) : (iblk m c 5 t : S8x1024.Idx → EReal) (ix2 r k) = aC m c (ix2 (nextRow t r) k) := by
  rw [aC, ← V_main_arg2 m c]
  blk_ext [iblk, (idx t).2.2.1.2]
theorem blk6 (c : Dev nD) (t : Fin cfg0.N) (r : Fin 256) (k : Fin 4096) : (iblk m c 6 t : S256x4096.Idx → EReal) (ix2 r k) = aP m c (ix2 (row t r) k) := by
  rw [aP, ← V_main_arg3 m c]
  blk_ext [iblk, (idx t).2.2.2.1.1]
theorem blk7 (c : Dev nD) (t : Fin cfg0.N) (r : Fin 8) (k : Fin 4096) : (iblk m c 7 t : S8x4096.Idx → EReal) (ix2 r k) = aP m c (ix2 (nextRow t r) k) := by
  rw [aP, ← V_main_arg3 m c]
  blk_ext [iblk, (idx t).2.2.2.1.2]
theorem blk8 (c : Dev nD) (t : Fin cfg0.N) (r : Fin 256) (k : Fin 4096) : (iblk m c 8 t : S256x4096.Idx → EReal) (ix2 r k) = aX m c (ix2 (row t r) k) := by
  rw [aX, ← V_main_arg4 m c]
  blk_ext [iblk, (idx t).2.2.2.2.1.1]
theorem blk9 (c : Dev nD) (t : Fin cfg0.N) (r : Fin 8) (k : Fin 4096) :
    (iblk m c 9 t : S8x4096.Idx → EReal) (ix2 r k) = aX m c (ix2 ⟨8 * (32 * t.val - 1) + r.val, by have := lt16 t; omega⟩ k) := by
  rw [aX, ← V_main_arg4 m c]
  blk_ext [iblk, (idx t).2.2.2.2.1.2]
theorem blk10 (c : Dev nD) (t : Fin cfg0.N) (r : Fin 4) (k : Fin 4096) : (iblk m c 10 t : S4x4096.Idx → EReal) (ix2 r k) = aW m c (ix2 r k) := by
  rw [aW, ← V_main_arg5 m c]
  blk_ext [iblk, (idx t).2.2.2.2.2.1]

/-! ## The values of one block's body -/

/-- The gradient before the silu at the point's rows. -/
abbrev curB (c : Dev nD) (t : Fin cfg0.N) : FVec Ideal S256x4096 .f32 := k0_pay7 (iblk m c 0 t) (iblk m c 2 t) (iblk m c 4 t) (iblk m c 6 t)
/-- The same at the eight rows after. -/
abbrev nextB (c : Dev nD) (t : Fin cfg0.N) : FVec Ideal S8x4096 .f32 :=
  k0_pay10 (k0_pay6 (iblk m c 1 t) (iblk m c 3 t) (iblk m c 5 t)) (Scalar.cmpi .slt (BitVec.ofNat 32 (grid0.coords t 0).val) 15#32)
    (iblk m c 7 t) (k0_pay8 (iblk m c 7 t)) k0_pay9
/-- The input at the eight rows before. -/
abbrev prevB (c : Dev nD) (t : Fin cfg0.N) : FVec Ideal S8x4096 .f32 := k0_pay11 (BitVec.ofNat 32 (grid0.coords t 0).val) (iblk m c 9 t)

/-- The gradient before the silu, on one block. -/
theorem cur_block (c : Dev nD) (t : Fin cfg0.N) (r : Fin 256) (q : Fin 4096) : curB m c t (ix2 r q) = dP m c (256 * t.val + r.val) q := by
  have ht := lt16 t
  unfold curB k0_pay7
  pointwise
  simp only [blk0, blk2, blk4, blk6]
  rw [dP, dpre_row _ _ _ _ _ (row t r).isLt, siluSlope, Cert.Silu.quotient_zero_sub]
  rfl

/-- At the eight rows after a block: zero past the last row. -/
theorem next_block (c : Dev nD) (t : Fin cfg0.N) (r : Fin 8) (q : Fin 4096) : nextB m c t (ix2 r q) = dP m c (256 * t.val + 256 + r.val) q := by
  have ht := lt16 t
  unfold nextB k0_pay10 k0_pay6 k0_pay8 k0_pay9
  pointwise
  rw [coord, show Scalar.cmpi = @IntOp.cmpi 32 from rfl, sel_slt _ _ (by omega) (by omega)]
  simp only [blk1, blk3, blk5, blk7]
  by_cases h : t.val < 15
  · have e : nextRow t r = ⟨256 * t.val + 256 + r.val, by omega⟩ := Fin.ext (by dsimp only; omega)
    rw [if_pos h, dP, dpre_row _ _ _ _ _ (by omega), siluSlope, Cert.Silu.quotient_zero_sub, e]
    rfl
  · rw [if_neg h, dP]
    unfold dpre
    rw [dif_neg (by omega)]

/-- The eight rows before the block: zero before the first row. -/
theorem prev_block (c : Dev nD) (t : Fin cfg0.N) (r : Fin 8) (q : Fin 4096) : prevB m c t (ix2 r q) = back (aX m c) (8 - r.val) (256 * t.val) q := by
  have ht := lt16 t
  unfold prevB k0_pay11
  pointwise
  rw [coord, show Scalar.cmpi = @IntOp.cmpi 32 from rfl, sel_sgt _ _ (by omega) (by omega), blk9]
  by_cases h : 0 < t.val
  · rw [if_pos h, back_of_le _ _ (by omega) (by omega)]
    exact row_congr _ (by omega) _ _ _
  · rw [if_neg h]
    exact (if_neg (by omega)).symm

/-- The input `s` rows before a row of the block, from the block and the eight rows before. -/
theorem back_block (c : Dev nD) (t : Fin cfg0.N) (s : ℕ) (hs : s ≤ 8) (r : Fin 256) (q : Fin 4096) :
    (if h : r.val < s then prevB m c t (ix2 ⟨r.val + 8 - s, by omega⟩ q) else (iblk m c 8 t : S256x4096.Idx → EReal) (ix2 ⟨r.val - s, by omega⟩ q))
      = back (aX m c) s (256 * t.val + r.val) q := by
  have ht := lt16 t
  by_cases h : r.val < s
  · rw [dif_pos h, prev_block]
    by_cases h0 : t.val = 0
    · exact (if_neg (by dsimp only; omega)).trans (if_neg (by omega)).symm
    · rw [back_of_le _ _ (by dsimp only; omega) (by dsimp only; omega), back_of_le _ _ (by omega) (by omega)]
      exact row_congr _ (by dsimp only; omega) _ _ _
  · rw [dif_neg h, blk8, back_of_le _ _ (by omega) (by omega)]
    exact row_congr _ (by dsimp only; omega) _ _ _

/-- The gradient `s` rows after a row of the block, from the block and the eight rows after. -/
theorem ahead_block (c : Dev nD) (t : Fin cfg0.N) (s : ℕ) (hs : s ≤ 8) (r : Fin 256) (q : Fin 4096) :
    (if h : 256 - s ≤ r.val then nextB m c t (ix2 ⟨r.val + s - 256, by omega⟩ q) else curB m c t (ix2 ⟨r.val + s, by omega⟩ q))
      = dP m c (256 * t.val + r.val + s) q := by
  by_cases h : 256 - s ≤ r.val
  · rw [dif_pos h, next_block]; congr 1; dsimp only; omega
  · rw [dif_neg h, cur_block]; congr 1; dsimp only; omega

/-- The gradient of the input on one block. -/
theorem dx_block (c : Dev nD) (t : Fin cfg0.N) (w0 w1 w2 w3 : FVec Ideal S1x4096 .f32) (r : Fin 256) (q : Fin 4096) :
    k0_pay1 (curB m c t) (k0_pay15 (curB m c t) (nextB m c t)
        (k0_pay12 (k0_pay6 (iblk m c 1 t) (iblk m c 3 t) (iblk m c 5 t)) (curB m c t) (Scalar.cmpi .slt (BitVec.ofNat 32 (grid0.coords t 0).val) 15#32)
          (iblk m c 7 t) (k0_pay8 (iblk m c 7 t)) k0_pay9 w0) w1 w2) w3 (ix2 r q)
      = w0 (ix2 0 q) * dP m c (256 * t.val + r.val + 3) q + w1 (ix2 0 q) * dP m c (256 * t.val + r.val + 2) q
        + w2 (ix2 0 q) * dP m c (256 * t.val + r.val + 1) q + w3 (ix2 0 q) * dP m c (256 * t.val + r.val) q := by
  have e3 := ahead_block m c t 3 (by omega) r q
  have e2 := ahead_block m c t 2 (by omega) r q
  have e1 := ahead_block m c t 1 (by omega) r q
  have e0 := cur_block m c t r q
  unfold k0_pay12
  rw [← e3, ← e2, ← e1, ← e0]
  unfold nextB
  unfold k0_pay1 k0_pay15
  generalize k0_pay10 (F := Ideal) _ _ _ _ _ = B
  generalize curB m c t = A
  pointwise
  rw [sel_sge _ _ (by omega) (by omega), sel_sge _ _ (by omega) (by omega), sel_sge _ _ (by omega) (by omega)]
  have pick : ∀ (s : ℕ) (_ : s ≤ 8) (x y : EReal) (_ : ∀ h : 256 - s ≤ r.val, x = B (ix2 ⟨r.val + s - 256, by omega⟩ q))
      (_ : ∀ h : ¬ 256 - s ≤ r.val, y = A (ix2 ⟨r.val + s, by omega⟩ q)),
      (if 256 - s ≤ r.val then x else y)
        = if h : 256 - s ≤ r.val then B (ix2 ⟨r.val + s - 256, by omega⟩ q) else A (ix2 ⟨r.val + s, by omega⟩ q) := by
    intro s _ x y hx hy
    by_cases h : 256 - s ≤ r.val
    · rw [if_pos h, dif_pos h, hx h]
    · rw [if_neg h, dif_neg h, hy h]
  refine congrArg₂ (· + ·) (congrArg₂ (· + ·) (congrArg₂ (· + ·) (congrArg (w0 (ix2 0 q) * ·) (pick 3 (by omega) _ _ ?_ ?_))
    (congrArg (w1 (ix2 0 q) * ·) (pick 2 (by omega) _ _ ?_ ?_))) (congrArg (w2 (ix2 0 q) * ·) (pick 1 (by omega) _ _ ?_ ?_))) rfl
  all_goals intro h
  · rw [dif_neg (by omega)]; exact row_congr B (by omega) _ _ _
  · exact row_congr A (by omega) _ _ _
  · rw [dif_neg (by omega)]; exact row_congr B (by omega) _ _ _
  · exact row_congr A (by omega) _ _ _
  · rw [dif_neg (by omega)]; exact row_congr B (by omega) _ _ _
  · exact row_congr A (by omega) _ _ _

/-- A row's terms times the input three rows earlier. -/
theorem down_three (a : BitVec 32) (A X : FVec Ideal S256x4096 .f32) (P : FVec Ideal S8x4096 .f32) (q : Fin 4096) (g : Fin 256 → EReal)
    (hg : ∀ j : Fin 256, (if h : j.val < 3 then (k0_pay11 (F := Ideal) a P : S8x4096.Idx → EReal) (ix2 ⟨j.val + 8 - 3, by omega⟩ q)
      else X (ix2 ⟨j.val - 3, by omega⟩ q) : EReal) = g j) :
    k0_pay13 a A X P (ix2 0 q) = ∑ j : Fin 256, A (ix2 j q) * g j := by
  unfold k0_pay13
  generalize k0_pay11 (F := Ideal) a P = B at *
  dsimp only
  generalize hS : select _ _ _ = S
  pointwise
  refine Finset.sum_congr rfl fun j _ => congrArg (A (ix2 j q) * ·) ?_
  rw [← hg, ← hS]
  pointwise
  rw [sel_slt _ _ (by omega) (by omega)]
  by_cases h : j.val < 3
  · rw [if_pos h, dif_pos h, dif_pos (show j.val < 8 by omega)]
    exact row_congr B (by omega) _ _ _
  · rw [if_neg h, dif_neg h]
    exact row_congr X (by omega) _ _ _

/-- The same two rows earlier. -/
theorem down_two (A X : FVec Ideal S256x4096 .f32) (B : FVec Ideal S8x4096 .f32) (q : Fin 4096) (g : Fin 256 → EReal)
    (hg : ∀ j : Fin 256, (if h : j.val < 2 then B (ix2 ⟨j.val + 8 - 2, by omega⟩ q) else X (ix2 ⟨j.val - 2, by omega⟩ q) : EReal) = g j) :
    k0_pay14 A X B (ix2 0 q) = ∑ j : Fin 256, A (ix2 j q) * g j := by
  unfold k0_pay14
  dsimp only
  generalize hS : select _ _ _ = S
  pointwise
  refine Finset.sum_congr rfl fun j _ => congrArg (A (ix2 j q) * ·) ?_
  rw [← hg, ← hS]
  pointwise
  rw [sel_slt _ _ (by omega) (by omega)]
  by_cases h : j.val < 2
  · rw [if_pos h, dif_pos h, dif_pos (show j.val < 8 by omega)]
    exact row_congr B (by omega) _ _ _
  · rw [if_neg h, dif_neg h]
    exact row_congr X (by omega) _ _ _

/-- The input one row earlier. -/
theorem down_one (X : FVec Ideal S256x4096 .f32) (B : FVec Ideal S8x4096 .f32) (j : Fin 256) (q : Fin 4096) :
    Scalar.select (k0_pay17 (ix2 j q)) (k0_pay16 B (ix2 j q)) (k0_pay18 X (ix2 j q))
      = if h : j.val < 1 then B (ix2 ⟨j.val + 8 - 1, by omega⟩ q) else X (ix2 ⟨j.val - 1, by omega⟩ q) := by
  unfold k0_pay16 k0_pay17 k0_pay18
  pointwise
  rw [sel_slt _ _ (by omega) (by omega)]
  by_cases h : j.val < 1
  · rw [if_pos h, dif_pos h, dif_pos (show j.val < 8 by omega)]
    exact row_congr B (by omega) _ _ _
  · rw [if_neg h, dif_neg h]
    exact row_congr X (by omega) _ _ _

/-- One point adds its rows' terms to the weights' gradient. -/
theorem dw_step (c : Dev nD) (t : Fin cfg0.N) (prev : FVec Ideal S8x4096 .f32) (r : Fin 8) (q : Fin 4096) :
    k0_pay4 (curB m c t) (iblk m c 8 t) (k0_pay13 (BitVec.ofNat 32 (grid0.coords t 0).val) (curB m c t) (iblk m c 8 t) (iblk m c 9 t))
        (k0_pay14 (curB m c t) (iblk m c 8 t) (prevB m c t)) (k0_pay16 (prevB m c t)) k0_pay17 (k0_pay18 (iblk m c 8 t)) prev (ix2 r q)
      = prev (ix2 r q) + ∑ j : Fin 256, dwT (dP m c) (aX m c) r (256 * t.val + j.val) q := by
  have e3 := down_three (BitVec.ofNat 32 (grid0.coords t 0).val) (curB m c t) (iblk m c 8 t) (iblk m c 9 t) q _ fun j => back_block m c t 3 (by omega) j q
  have e2 := down_two (curB m c t) (iblk m c 8 t) (prevB m c t) q _ fun j => back_block m c t 2 (by omega) j q
  have e1 := fun j => (down_one (iblk m c 8 t) (prevB m c t) j q).trans (back_block m c t 1 (by omega) j q)
  have e0 := fun j => cur_block m c t j q
  have ex : ∀ j : Fin 256, (iblk m c 8 t : S256x4096.Idx → EReal) (ix2 j q) = back (aX m c) 0 (256 * t.val + j.val) q := fun j => by
    rw [blk8, back_of_le _ _ (by omega) (by have := lt16 t; omega)]; rfl
  unfold k0_pay4
  generalize k0_pay13 (F := Ideal) _ _ _ _ = R3 at *
  generalize k0_pay14 (F := Ideal) _ _ _ = R2 at *
  generalize k0_pay16 (F := Ideal) _ = R1 at *
  generalize k0_pay17 = I1 at *
  generalize k0_pay18 (F := Ideal) _ = Q1 at *
  generalize curB m c t = A at *
  pointwise
  simp only [e0] at e2 e3
  simp only [e1, e0, ex]
  congr 1
  have z : ∀ k : Fin 1, k = 0 := fun k => Subsingleton.elim (α := Fin 1) _ _
  by_cases h4 : r.val < 4
  · simp only [dwT, if_pos h4]
    rcases (by omega : r.val = 0 ∨ r.val = 1 ∨ r.val = 2 ∨ r.val = 3) with h | h | h | h
    · rw [dif_pos (by omega), z ⟨r.val, _⟩, e3, h]
    · rw [dif_neg (by omega), dif_pos (by omega), z ⟨r.val - 1, _⟩, e2, h]
    · rw [dif_neg (by omega), dif_neg (by omega), dif_pos (by omega), h]
    · rw [dif_neg (by omega), dif_neg (by omega), dif_neg (by omega), dif_pos (by omega), h]
  · rw [dif_neg (by omega), dif_neg (by omega), dif_neg (by omega), dif_neg (by omega)]
    simp [dwT, h4]

/-- One point adds its rows' gradient to the bias's. -/
theorem db_step (c : Dev nD) (t : Fin cfg0.N) (prev : FVec Ideal S1x4096 .f32) (r : Fin 1) (q : Fin 4096) :
    k0_pay5 (curB m c t) prev (ix2 r q) = prev (ix2 r q) + ∑ j : Fin 256, dP m c (256 * t.val + j.val) q := by
  have e0 := fun j => cur_block m c t j q
  unfold k0_pay5
  generalize curB m c t = A at *
  pointwise
  simp only [e0]

/-- What a point leaves in its block of the input's gradient. -/
theorem out11_at (c : Dev nD) (t : Fin cfg0.N) (r : Fin 256) (q : Fin 4096) :
    (outsAt0 m c t.val t.isLt).1 (ix2 r q) = dxF (dP m c) (aW m c) (256 * t.val + r.val) q := by
  have e := dx_block m c t (View.ld (iblk m c 10 t) (Rect.unit ![0, 0] ![1, 4096] inb_S4x4096_S1x4096_0_0))
    (View.ld (iblk m c 10 t) (Rect.unit ![1, 0] ![1, 4096] inb_S4x4096_S1x4096_1_0))
    (View.ld (iblk m c 10 t) (Rect.unit ![2, 0] ![1, 4096] inb_S4x4096_S1x4096_2_0))
    (View.ld (iblk m c 10 t) (Rect.unit ![3, 0] ![1, 4096] inb_S4x4096_S1x4096_3_0)) r q
  have w0 : (View.ld (iblk m c 10 t) (Rect.unit ![0, 0] ![1, 4096] inb_S4x4096_S1x4096_0_0) : FVec Ideal S1x4096 .f32) (ix2 0 q)
      = aW m c (ix2 0 q) := by pointwise; exact blk10 m c t 0 q
  have w1 : (View.ld (iblk m c 10 t) (Rect.unit ![1, 0] ![1, 4096] inb_S4x4096_S1x4096_1_0) : FVec Ideal S1x4096 .f32) (ix2 0 q)
      = aW m c (ix2 1 q) := by pointwise; exact blk10 m c t 1 q
  have w2 : (View.ld (iblk m c 10 t) (Rect.unit ![2, 0] ![1, 4096] inb_S4x4096_S1x4096_2_0) : FVec Ideal S1x4096 .f32) (ix2 0 q)
      = aW m c (ix2 2 q) := by pointwise; exact blk10 m c t 2 q
  have w3 : (View.ld (iblk m c 10 t) (Rect.unit ![3, 0] ![1, 4096] inb_S4x4096_S1x4096_3_0) : FVec Ideal S1x4096 .f32) (ix2 0 q)
      = aW m c (ix2 3 q) := by pointwise; exact blk10 m c t 3 q
  rw [w0, w1, w2, w3] at e
  by_cases h : t.val % 16 = 0
  · rw [Gen.outsAt0_A m c t h]
    frame_out
    exact e
  · rw [Gen.outsAt0_B m c t h]
    frame_out
    exact e

/-- The first point starts the weights' gradient from zero. -/
theorem out12_A (c : Dev nD) (t : Fin cfg0.N) (h : t.val % 16 = 0) (r : Fin 8) (q : Fin 4096) :
    (outsAt0 m c t.val t.isLt).2.1 (ix2 r q) = 0 + ∑ j : Fin 256, dwT (dP m c) (aX m c) r (256 * t.val + j.val) q := by
  rw [Gen.outsAt0_A m c t h]
  frame_out
  refine (dw_step m c t k0_pay2 r q).trans ?_
  unfold k0_pay2
  pointwise

/-- A later point adds to what the point before left. -/
theorem out12_B (c : Dev nD) (t : Fin cfg0.N) (h : ¬ t.val % 16 = 0) (r : Fin 8) (q : Fin 4096) :
    (outsAt0 m c t.val t.isLt).2.1 (ix2 r q)
      = (outsAt0 m c (t.val - 1) (by omega)).2.1 (ix2 r q) + ∑ j : Fin 256, dwT (dP m c) (aX m c) r (256 * t.val + j.val) q := by
  rw [Gen.outsAt0_B m c t h]
  frame_out
  exact dw_step m c t _ r q

/-- The first point starts the bias's gradient from zero. -/
theorem out13_A (c : Dev nD) (t : Fin cfg0.N) (h : t.val % 16 = 0) (r : Fin 1) (q : Fin 4096) :
    (outsAt0 m c t.val t.isLt).2.2 (ix2 r q) = 0 + ∑ j : Fin 256, dP m c (256 * t.val + j.val) q := by
  rw [Gen.outsAt0_A m c t h]
  frame_out
  refine (db_step m c t k0_pay3 r q).trans ?_
  unfold k0_pay3
  pointwise

/-- A later point adds to what the point before left. -/
theorem out13_B (c : Dev nD) (t : Fin cfg0.N) (h : ¬ t.val % 16 = 0) (r : Fin 1) (q : Fin 4096) :
    (outsAt0 m c t.val t.isLt).2.2 (ix2 r q)
      = (outsAt0 m c (t.val - 1) (by omega)).2.2 (ix2 r q) + ∑ j : Fin 256, dP m c (256 * t.val + j.val) q := by
  rw [Gen.outsAt0_B m c t h]
  frame_out
  exact db_step m c t _ r q

/-- Sums kept along the points, started at the first, are the sums over the rows so far. -/
theorem kept {ι : Type} (f : (n : ℕ) → n < cfg0.N → ι → EReal) (g : ℕ → ι → EReal)
    (hA : ∀ t : Fin cfg0.N, t.val % 16 = 0 → ∀ i, f t.val t.isLt i = 0 + ∑ j : Fin 256, g (256 * t.val + j.val) i)
    (hB : ∀ t : Fin cfg0.N, ¬ t.val % 16 = 0 → ∀ i, f t.val t.isLt i = f (t.val - 1) (by omega) i + ∑ j : Fin 256, g (256 * t.val + j.val) i)
    (t : Fin cfg0.N) (ht : t.val = 15) (i : ι) : f t.val t.isLt i = ∑ T : Fin 4096, g T.val i := by
  refine (Pipeline.eq_sum_of_reset_step_apply f 16 (fun _ => 0) (fun s i => ∑ j : Fin 256, g (256 * s + j.val) i) hA hB t i).trans ?_
  have h16 := lt16 t
  rw [Nat.mod_eq_of_lt h16, Nat.div_eq_of_lt h16]
  simp only [Nat.mul_zero, zero_add]
  rw [ht]
  exact sum_rows fun T => g T i

/-- The gradient of the convolution's input. -/
def D11 (c : Dev nD) : S4096x4096.Idx → EReal := fun i => dxF (dP m c) (aW m c) (i 0).val (i 1)
/-- The gradient of the weights, in eight rows. -/
def D12 (c : Dev nD) : S8x4096.Idx → EReal := fun i => ∑ T : Fin 4096, dwT (dP m c) (aX m c) (i 0) T.val (i 1)
/-- The gradient of the bias. -/
def D13 (c : Dev nD) : S1x4096.Idx → EReal := fun i => ∑ T : Fin 4096, dP m c T.val (i 1)

/-- The first result after the run. -/
theorem arr11 (c : Dev nD) : (dats m 0 c).arrAt 11 cfg0.N = D11 m c := by
  refine (dats m 0 c).arrAt_eq_of_covers 11 (D11 m c) (by decide +kernel) (fun t hf y => ?_)
  blk_simp
  rw [after0_11]
  obtain ⟨a, b, rfl⟩ : ∃ (a : Fin 256) (b : Fin 4096), y = ix2 a b := ⟨y 0, y 1, pair_eq (n := 256) (k := 4096) y⟩
  refine (out11_at m c t a b).trans ?_
  unfold D11
  have h11 := (idx t).2.2.2.2.2.2
  congr 1
  · blk_simp [h11]
    exact congrArg (· + a.val) (Nat.mul_comm _ _)
  · apply Fin.ext; blk_simp [h11]

/-- The second result after the run. -/
theorem arr12 (c : Dev nD) : (dats m 0 c).arrAt 12 cfg0.N = D12 m c := by
  obtain ⟨t, ht⟩ : ∃ t : Fin cfg0.N, t.val = 15 := ⟨⟨15, by decide +kernel⟩, rfl⟩
  have hw : (cfg0.win 12).WholeAt t := by
    obtain rfl : t = ⟨15, by decide +kernel⟩ := Fin.ext ht
    decide +kernel
  refine (dats m 0 c).arrAt_eq_of_after_last 12 t hw (D12 m c) (fun j => ?_)
  blk_simp
  rw [after0_12]
  obtain ⟨a, b, rfl⟩ : ∃ (a : Fin 8) (b : Fin 4096), j = ix2 a b := ⟨j 0, j 1, pair_eq (n := 8) (k := 4096) j⟩
  exact kept (fun n h => fun i : Fin 8 × Fin 4096 => (outsAt0 m c n h).2.1 (ix2 i.1 i.2)) (fun T i => dwT (dP m c) (aX m c) i.1 T i.2)
    (fun t h i => out12_A m c t h i.1 i.2) (fun t h i => out12_B m c t h i.1 i.2) t ht (a, b)

/-- The third result after the run. -/
theorem arr13 (c : Dev nD) : (dats m 0 c).arrAt 13 cfg0.N = D13 m c := by
  obtain ⟨t, ht⟩ : ∃ t : Fin cfg0.N, t.val = 15 := ⟨⟨15, by decide +kernel⟩, rfl⟩
  have hw : (cfg0.win 13).WholeAt t := by
    obtain rfl : t = ⟨15, by decide +kernel⟩ := Fin.ext ht
    decide +kernel
  refine (dats m 0 c).arrAt_eq_of_after_last 13 t hw (D13 m c) (fun j => ?_)
  blk_simp
  rw [after0_13]
  obtain ⟨a, b, rfl⟩ : ∃ (a : Fin 1) (b : Fin 4096), j = ix2 a b := ⟨j 0, j 1, pair_eq (n := 1) (k := 4096) j⟩
  exact kept (fun n h => fun i : Fin 1 × Fin 4096 => (outsAt0 m c n h).2.2 (ix2 i.1 i.2)) (fun T i => dP m c T i.2)
    (fun t h i => out13_A m c t h i.1 i.2) (fun t h i => out13_B m c t h i.1 i.2) t ht (a, b)

theorem run (ρ : Dev nD → PrngReg) : θ_run defs (onTc (τ := τ) (main (F := Ideal))) ⟨m, fun _ => 0, ρ⟩ fun r => ∀ c : Dev nD,
      r.2.mem ((c : Thread nD τ).loc main_v0_0) = D11 m c
      ∧ r.2.mem ((c : Thread nD τ).loc main_v0_1) = D12 m c
      ∧ r.2.mem ((c : Thread nD τ).loc main_v0_2) = D13 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c => ⟨(h c).1.trans (arr11 m c), (h c).2.1.trans (arr12 m c), (h c).2.2.1.trans (arr13 m c), (h c).2.2.2⟩)
    (Value.run_blocks m ρ)

/-- The incoming gradient is real, so each of its entries is. -/
theorem real (h : Cert.Pre_Kernel40Ideal_finite_conv m) (c : Dev nD) (T q : Fin 4096) : Cert.Silu.IsReal (parts (aG m c) (aB m c) (aC m c) T q) := by
  have h0 := fun k => congrFun (h c).1 (ix2 T k)
  have h1 := fun k => congrFun (h c).2.1 (ix2 T k)
  have h2 := fun k => congrFun (h c).2.2 (ix2 T k)
  simp only [Cert.Pre_finite_conv.fn] at h0 h1 h2
  pointwise at h0
  pointwise at h1
  pointwise at h2
  unfold parts
  split
  · exact .of_bit (h0 _)
  · split
    · exact .of_bit (h1 _)
    · exact .of_bit (h2 _)

end Cert.Kernel40Ideal.SpaceConv

namespace Cert.SpaceConv

open Cert.ConvGrad (row_congr pair_eq)
open Cert.Reference40Ideal Cert.Reference40Ideal.Gen Cert.Reference40Ideal.Read Idealize.ShloMosaic Idealize.ShloMosaic.TcCoe Idealize.SL.Sem

variable (x0 : (⟨S4096x2048, .f32⟩ : BufTy).Contents (Elt Ideal)) (x1 x2 : (⟨S4096x1024, .f32⟩ : BufTy).Contents (Elt Ideal))
  (x3 x4 : (⟨S4096x4096, .f32⟩ : BufTy).Contents (Elt Ideal)) (x5 : (⟨S4x4096, .f32⟩ : BufTy).Contents (Elt Ideal))

/-- The reference's gradient before the silu. -/
theorem dpre_ref (h : ∀ T q, Cert.Silu.IsReal (parts x0 x1 x2 T q)) (T q : Fin 4096) : val_main_v2 x0 x1 x2 x3 (ix2 T q) = dpre x0 x1 x2 x3 T.val q := by
  have e := Cert.Silu.derivative (parts x0 x1 x2 T q).toReal (x3 (ix2 T q))
  rw [← (h T q).eq_coe] at e
  rw [dpre_row _ _ _ _ _ T.isLt, siluSlope, e]
  simp only [val_main_v2, val_main_call1_v2, val_main_call1_v1, val_main_call1_v0, val_main_v1, val_main_v0_1, val_main_v0_2, val_main_call0_v7,
    val_main_call0_v6, val_main_call0_v4, val_main_call0_v3, val_main_call0_v2, val_main_call0_v1, val_main_call0_v0, val_main_call0_cst,
    val_main_call0_cst_0, val_main_call0_cst_1]
  pointwise
  rfl

/-- The reference's gradient of the input. -/
theorem dx_ref (h : ∀ T q, Cert.Silu.IsReal (parts x0 x1 x2 T q)) (r q : Fin 4096) :
    val_main_v84 x0 x1 x2 x3 x5 (ix2 r q) = dxF (dpre x0 x1 x2 x3) x5 r.val q := by
  have e := dpre_ref x0 x1 x2 x3 h
  simp only [val_main_v84, val_main_v83, val_main_v78, val_main_v77, val_main_cst_18, val_main_v72, val_main_v71, val_main_v67, val_main_v66,
    val_main_cst_14, val_main_v61, val_main_v60, val_main_v56, val_main_v55, val_main_cst_10, val_main_v50, val_main_v49, val_main_v46,
    val_main_cst_6, val_main_v41, val_main_v40, val_main_v32, val_main_v30, val_main_v29, val_main_v25, val_main_v23, val_main_v22,
    val_main_v18, val_main_v16, val_main_v15, val_main_v10, val_main_v8, val_main_v7]
  generalize val_main_v2 x0 x1 x2 x3 = A at *
  pointwise
  have pick : ∀ (w : EReal) (s n : ℕ) (p : Prop) [Decidable p] (x : p → EReal) (_ : n = r.val + s) (hp : p ↔ n < 4096)
      (_ : ∀ h : p, x h = w * A (ix2 ⟨n, hp.1 h⟩ q)), (if h : p then x h else 0) = w * dpre x0 x1 x2 x3 (r.val + s) q := by
    intro w s n p _ x hn hp hx
    subst hn
    by_cases h : p
    · rw [dif_pos h, hx h, e]
    · unfold dpre
      rw [dif_neg h, dif_neg fun h' => h (hp.2 h'), mul_zero]
  refine (congrArg₂ (· + ·) (congrArg₂ (· + ·) (congrArg₂ (· + ·) (congrArg (x5 (ix2 3 q) * ·) (e r q))
    (pick (x5 (ix2 2 q)) 1 (3 + r.val - 2) _ _ (by omega) (by omega) fun _ => rfl))
    (pick (x5 (ix2 1 q)) 2 (3 + r.val - 1) _ _ (by omega) (by omega) fun _ => rfl))
    (pick (x5 (ix2 0 q)) 3 (3 + r.val) _ _ (by omega) (by omega) fun _ => rfl)).trans ?_
  unfold dxF
  abel

/-- The reference's gradient of the weights. -/
theorem dw_ref (h : ∀ T q, Cert.Silu.IsReal (parts x0 x1 x2 T q)) (r : Fin 8) (q : Fin 4096) :
    val_main_v85 x0 x1 x2 x3 x4 (ix2 r q) = ∑ T : Fin 4096, dwT (dpre x0 x1 x2 x3) x4 r T.val q := by
  have e := dpre_ref x0 x1 x2 x3 h
  simp only [val_main_v85, val_main_call2_v0, val_main_c, val_main_v81, val_main_v80, val_main_cst_19, val_main_v79, val_main_v76, val_main_cst_17,
    val_main_v75, val_main_v74, val_main_cst_16, val_main_v73, val_main_v70, val_main_v69, val_main_cst_15, val_main_v68, val_main_v65,
    val_main_cst_13, val_main_v64, val_main_v63, val_main_cst_12, val_main_v62, val_main_v59, val_main_v58, val_main_cst_11, val_main_v57,
    val_main_v54, val_main_cst_9, val_main_v53, val_main_v52, val_main_cst_8, val_main_v51, val_main_v48, val_main_cst_7, val_main_v47,
    val_main_v45, val_main_cst_5, val_main_v44, val_main_v43, val_main_cst_4, val_main_v42, val_main_v31, val_main_v24, val_main_v17,
    val_main_v9, val_main_v5, val_main_v4, val_main_cst_0]
  generalize val_main_v2 x0 x1 x2 x3 = A at *
  pointwise
  simp only [e, Finset.univ_unique, Finset.sum_const, Finset.card_singleton, one_smul]
  have padded : ∀ (s n : ℕ) (T : Fin 4096) (_ : n + s = T.val + 3) (_ : s ≤ 3) (hb : ¬ n < 3 → n - 3 < 4096),
      (if h : n < 3 then (0 : EReal) else x4 (ix2 ⟨n - 3, hb h⟩ q)) = back x4 s T.val q := by
    intro s n T hn hs hb
    have hT := T.isLt
    by_cases h : n < 3
    · unfold back
      rw [dif_pos h, if_neg (by omega)]
    · rw [dif_neg h, back_of_le _ _ (by omega) (by omega)]
      exact row_congr _ (by omega) _ _ _
  by_cases h4 : r.val < 4
  · simp only [dwT, if_pos h4]
    rw [dif_pos h4]
    rcases (by omega : r.val = 0 ∨ r.val = 1 ∨ r.val = 2 ∨ r.val = 3) with h | h | h | h
    · rw [dif_neg (by omega), dif_neg (by omega), dif_neg (by omega), dif_pos (by omega), h]
      refine Eq.trans ?_ (Fin.sum_univ_add (a := 3) (b := 4093) fun T : Fin (3 + 4093) => dpre x0 x1 x2 x3 T.val q * back x4 3 T.val q).symm
      rw [zero_add, zero_add, zero_add]
      refine congrArg₂ (· + ·) (Finset.sum_congr rfl fun j _ => congrArg _ ?_) (Finset.sum_congr rfl fun j _ => congrArg _ ?_)
      · exact (if_neg (by have := j.isLt; simp only [Fin.val_castAdd]; omega)).symm
      · rw [back_of_le _ _ (by simp) (by have := j.isLt; simp only [Fin.val_natAdd]; omega)]
        exact row_congr _ (by simp) _ _ _
    · rw [dif_neg (by omega), dif_neg (by omega), dif_pos (by omega), dif_neg (by omega), h, zero_add, zero_add, add_zero]
      exact Finset.sum_congr rfl fun T _ => congrArg _ (padded 2 _ T (by omega) (by omega) _)
    · rw [dif_neg (by omega), dif_pos (by omega), dif_neg (by omega), dif_neg (by omega), h, zero_add, add_zero, add_zero]
      exact Finset.sum_congr rfl fun T _ => congrArg _ (padded 1 _ T (by omega) (by omega) _)
    · rw [dif_pos (by omega), dif_neg (by omega), dif_neg (by omega), dif_neg (by omega), h, add_zero, add_zero, add_zero]
      exact Finset.sum_congr rfl fun T _ => congrArg _ (back_of_le x4 (s := 0) q (Nat.zero_le _) T.isLt).symm
  · rw [dif_neg h4]
    simp only [dwT, if_neg h4, Finset.sum_const_zero]
    exact sitofp_zero (φ := .f32)

/-- The reference's gradient of the bias. -/
theorem db_ref (h : ∀ T q, Cert.Silu.IsReal (parts x0 x1 x2 T q)) (r : Fin 1) (q : Fin 4096) :
    val_main_v39 x0 x1 x2 x3 (ix2 r q) = ∑ T : Fin 4096, dpre x0 x1 x2 x3 T.val q := by
  have e := dpre_ref x0 x1 x2 x3 h
  simp only [val_main_v39, val_main_v38, val_main_cst_3]
  generalize val_main_v2 x0 x1 x2 x3 = A at *
  pointwise
  simp only [e]

/-- The reference leaves its arguments as they were and every counter at zero. -/
theorem frame_ri : Cert.quiescent_Reference40Ideal := fun m ρ _ =>
  (θ_run Cert.Reference40Ideal.defs _ _).mono (fun r h => ⟨fun c => (h c).2.2.2, sem_eq_zero_of_no_sems (by decide) r.2⟩)
    (Cert.Reference40Ideal.Value.run (F := Ideal) m ρ)

/-- The call and the derivative give the same gradients. -/
theorem algebraic : Cert.algebraic_Kernel40Ideal_Reference40Ideal_pre_finite_conv := by
  pair_intro
  · run_from Cert.Kernel40Ideal.SpaceConv.run m g
  · refine Idealize.ShloMosaic.θ_run_mono (Cert.Reference40Ideal.Value.run (F := Ideal) m' g') ?_
    intro r hr c
    have hreal := Cert.Kernel40Ideal.SpaceConv.real m hpre c
    refine ⟨(hr c).1.trans ?_, (hr c).2.1.trans ?_, (hr c).2.2.1.trans ?_, (hr c).2.2.2⟩ <;> clear hr r
    · rw [val_main_v84_eq]
      simp only [hagree c]
      funext i
      rw [pair_eq (n := 4096) (k := 4096) i]
      exact dx_ref _ _ _ _ _ hreal _ _
    · rw [val_main_v85_eq]
      simp only [hagree c]
      funext i
      rw [pair_eq (n := 8) (k := 4096) i]
      exact dw_ref _ _ _ _ _ hreal _ _
    · refine (val_main_v39_eq _ _ _ _).trans ?_
      simp only [hagree c]
      funext i
      rw [pair_eq (n := 1) (k := 4096) i]
      exact db_ref _ _ _ _ hreal _ _

end Cert.SpaceConv
-- ==== Proof.StepSizes.lean ====
module

public import proofs.«01_k».proof.Defs
public import proofs.«01_k».proof.Proof.Gen.Kernel41Ideal.Value
public import proofs.«01_k».proof.Proof.Gen.Reference41Ideal.Run
public import proofs.«01_k».proof.Proof.Gen.Pre_finite_steps
public import proofs.«01_k».proof.Proof.Silu
public import proofs.«01_k».proof.Proof.Norm
public import Idealize.ShloMosaic.Lib.Pipeline.ReadBack

@[expose] public section

set_option maxRecDepth 16384

noncomputable section

/-! The gradient of the state-space layer's step sizes: the derivative of the softplus, and of the sums along each chunk. -/

namespace Cert.StepSizes

open Idealize.ShloMosaic

/-- A fold which adds is the start plus the sum. -/
theorem foldl_add {ι : Type} (f : ι → EReal) : ∀ (l : List ι) (v : EReal), l.foldl (fun r n => r + f n) v = v + (l.map f).sum
  | [], v => (add_zero v).symm
  | a :: l, v => by rw [List.foldl_cons, foldl_add f l, List.map_cons, List.sum_cons, add_assoc]

/-- The sum over what follows, by distance or by place. -/
theorem sum_later (f : Fin 128 → EReal) (i : Fin 128) :
    ∑ k : Fin 128, (if h : i.val + k.val < 128 then f ⟨i.val + k.val, h⟩ else 0) = ∑ j : Fin 128, if i ≤ j then f j else 0 := by
  let F : ℕ → EReal := fun n => if h : n < 128 then f ⟨n, h⟩ else 0
  have hl : ∑ k : Fin 128, (if h : i.val + k.val < 128 then f ⟨i.val + k.val, h⟩ else 0) = ∑ k ∈ Finset.range 128, F (i.val + k) :=
    (Finset.sum_range fun k => F (i.val + k)).symm
  have hr : ∑ j : Fin 128, (if i ≤ j then f j else 0) = ∑ j ∈ Finset.range 128, if i.val ≤ j then F j else 0 := by
    rw [Finset.sum_range fun j => if i.val ≤ j then F j else 0]
    refine Finset.sum_congr rfl fun j _ => ?_
    simp only [F, dif_pos j.isLt, Fin.le_def]
  rw [hl, hr, ← Finset.sum_filter]
  have he : (Finset.range 128).filter (fun j => i.val ≤ j) = Finset.Ico i.val 128 := by
    ext j; simp only [Finset.mem_filter, Finset.mem_range, Finset.mem_Ico]; omega
  rw [he, Finset.sum_Ico_eq_sum_range]
  symm
  refine Finset.sum_subset (fun k => ?_) (fun k _ hk => ?_)
  · simp only [Finset.mem_range]; omega
  · simp only [Finset.mem_range] at hk
    exact dif_neg (by omega)

/-- The places of a window along the second axis. -/
def places : Fin 128 ≃ (⟨3, ![1, 128, 1]⟩ : Shape).Idx where
  toFun k := ix3 (0 : Fin 1) k (0 : Fin 1)
  invFun w := w 1
  left_inv _ := rfl
  right_inv w := by
    funext a
    match a with
    | ⟨0, _⟩ => exact Subsingleton.elim (α := Fin 1) _ _
    | ⟨1, _⟩ => rfl
    | ⟨2, _⟩ => exact Subsingleton.elim (α := Fin 1) _ _

/-- The running sum from the end of the second axis, as a window of all its places. -/
theorem later_sum (x : (⟨3, ![32, 128, 128]⟩ : Shape).Idx → EReal) (v : EReal) (hv : v = 0)
    (h : (⟨3, ![32, 128, 128]⟩ : Shape).ReduceWindows ![1, 128, 1] ![1, 1, 1] ![0, 0, 0] ![0, 127, 0] ⟨3, ![32, 128, 128]⟩) (t : Fin 32) (i q : Fin 128) :
    Ideal.hostReduceWindowAdd ![1, 128, 1] ![1, 1, 1] ![0, 0, 0] ![0, 127, 0] h x v (ix3 t i q) = ∑ j : Fin 128, if i ≤ j then x (ix3 t j q) else 0 := by
  subst hv
  let p : (⟨3, ![1, 128, 1]⟩ : Shape).Idx → Fin 3 → ℕ := fun w a => ((ix3 t i q : (⟨3, ![32, 128, 128]⟩ : Shape).Idx) a).val * (![1, 1, 1] : Fin 3 → ℕ) a + (w a).val
  let g : (⟨3, ![1, 128, 1]⟩ : Shape).Idx → EReal := fun w =>
    if hin : ∀ a, (![0, 0, 0] : Fin 3 → ℕ) a ≤ p w a ∧ p w a - (![0, 0, 0] : Fin 3 → ℕ) a < (![32, 128, 128] : Fin 3 → ℕ) a
    then x (fun a => ⟨p w a - (![0, 0, 0] : Fin 3 → ℕ) a, (hin a).2⟩) else 0
  refine Eq.trans ?_ (sum_later (fun j => x (ix3 t j q)) i)
  unfold Ideal.hostReduceWindowAdd Host.reduceWindow
  refine (foldl_add _ _ _).trans ?_
  rw [zero_add, ← List.ofFn_eq_map, List.sum_ofFn]
  refine Eq.trans (Finset.sum_congr rfl fun n _ => (?_ : _ = g ((Shape.rowMajor ⟨3, ![1, 128, 1]⟩).symm n))) ?_
  · exact dite_congr rfl (fun _ => rfl) (fun _ => rfl)
  rw [Equiv.sum_comp (Shape.rowMajor ⟨3, ![1, 128, 1]⟩).symm g]
  rw [← places.sum_comp]
  refine Finset.sum_congr rfl fun k _ => ?_
  have h0 : p (places k) 0 = t.val := by show t.val * 1 + 0 = t.val; omega
  have hk : p (places k) 1 = i.val + k.val := by show i.val * 1 + k.val = i.val + k.val; omega
  have h2 : p (places k) 2 = q.val := by show q.val * 1 + 0 = q.val; omega
  by_cases hc : i.val + k.val < 128
  · rw [dif_pos hc]
    refine (dif_pos (fun a => ?_)).trans (congrArg x (funext fun a => Fin.ext ?_))
    · match a with
      | ⟨0, _⟩ => exact ⟨Nat.zero_le _, by show p (places k) 0 - 0 < 32; rw [h0]; exact t.isLt⟩
      | ⟨1, _⟩ => exact ⟨Nat.zero_le _, by show p (places k) 1 - 0 < 128; rw [hk]; exact hc⟩
      | ⟨2, _⟩ => exact ⟨Nat.zero_le _, by show p (places k) 2 - 0 < 128; rw [h2]; exact q.isLt⟩
    · match a with
      | ⟨0, _⟩ => exact h0
      | ⟨1, _⟩ => exact hk
      | ⟨2, _⟩ => exact h2
  · rw [dif_neg hc]
    refine dif_neg fun ha => hc ?_
    have := (ha 1).2
    rw [hk] at this
    exact this

/-- The larger of two real numbers. -/
theorem coe_max (x y : ℝ) : ((max x y : ℝ) : EReal) = max (x : EReal) (y : EReal) := EReal.coe_strictMono.monotone.map_max

/-- The logarithm of one plus an exponential, as the programs compute it. -/
def softplus (x : EReal) : EReal := max x 0 + Ideal.log (1 + Ideal.exp (0 - max x (-x)))

/-- At a real number the function is a real number, and its derivative is the logistic function. -/
theorem softplus_real (x : ℝ) : ∃ s : ℝ, softplus x = s ∧ Ideal.div 1 (1 + Ideal.exp (0 - (x : EReal))) = Ideal.exp ((x : EReal) - s) := by
  have hm : max (x : EReal) (-(x : EReal)) = ((|x| : ℝ) : EReal) := by
    rw [← EReal.coe_neg, ← coe_max, abs_eq_max_neg]
  have he : (0 : ℝ) < 1 + Real.exp (0 - |x|) := by positivity
  have hs : softplus x = ((max x 0 + Real.log (1 + Real.exp (0 - |x|)) : ℝ) : EReal) := by
    unfold softplus
    rw [hm, ← EReal.coe_zero, ← EReal.coe_sub, Ideal.exp_coe, ← EReal.coe_one, ← EReal.coe_add, Ideal.log_coe, if_neg (not_le.2 he), ← coe_max, ← EReal.coe_add]
  refine ⟨_, hs, ?_⟩
  rw [Cert.Silu.quotient_zero_sub, Ideal.logistic_coe, ← EReal.coe_sub, Ideal.exp_coe]
  congr 1
  have hl : Real.exp (max x 0 + Real.log (1 + Real.exp (0 - |x|))) = 1 + Real.exp x := by
    rw [Real.exp_add, Real.exp_log he]
    rcases le_total 0 x with h | h
    · rw [max_eq_left h, abs_of_nonneg h, mul_add, mul_one, ← Real.exp_add, add_sub_cancel, Real.exp_zero, add_comm]
    · rw [max_eq_right h, abs_of_nonpos h, Real.exp_zero, one_mul, zero_sub, neg_neg]
  rw [Real.exp_sub, hl]
  have : (0 : ℝ) < Real.exp x := Real.exp_pos x
  first
    | (rw [Real.exp_neg]; field_simp; done)
    | (rw [Real.exp_neg]; field_simp; ring)

/-- The function with the logarithm of one plus a number as one operation. -/
theorem softplus_eq (x : EReal) : max x 0 + Ideal.log1p (Ideal.exp (-FloatOps.absf (F := Ideal) (φ := .f32) x)) = softplus x := by
  show max x 0 + Ideal.log (1 + Ideal.exp (-max x (-x))) = _
  unfold softplus
  rw [sub_eq_add_neg, zero_add]

/-- The word of the infinity. -/
theorem word_top : Ideal.ofBits .f32 0x7F800000#32 = ⊤ := by
  simp [Ideal.ofBits, Ideal.ieee]

/-- The reference's derivative of the function is the logistic function. -/
theorem slope {x : EReal} (hx : Cert.Silu.IsReal x) [Decidable (x = Ideal.ofBits .f32 0x7F800000#32)] [Decidable (softplus x = Ideal.ofBits .f32 0x7F800000#32)] :
    Ideal.exp ((if x = Ideal.ofBits .f32 0x7F800000#32 then 0 else x) - (if softplus x = Ideal.ofBits .f32 0x7F800000#32 then 0 else softplus x))
      = Ideal.div 1 (1 + Ideal.exp (0 - x)) := by
  obtain ⟨s, hs, hd⟩ := softplus_real x.toReal
  rw [← hx.eq_coe] at hs hd
  rw [if_neg (by rw [word_top]; exact hx.2), if_neg (by rw [word_top, hs]; exact EReal.coe_ne_top s), hs, hd]

/-- The sum over the chunks so far, when they are all. -/
theorem sum_to {n : ℕ} (h : n = 31) (f : Fin 32 → EReal) : ∑ s : Fin (n + 1), f ⟨s.val, by omega⟩ = ∑ s, f s := by
  subst h; rfl

end Cert.StepSizes

namespace Cert.Kernel41Ideal.StepSizes

open Cert.Kernel41Ideal Cert.Kernel41Ideal.Gen Idealize.ShloMosaic Idealize.ShloMosaic.TcCoe Idealize.SL.Sem
open Idealize.ShloMosaic.Pipeline (Dat)
open Cert.MatSum (pair_eq)

variable (m : (ℓ : Loc nD τ sig) → Buf (Elt Ideal) ℓ)

/-- Where each window lies at each grid point, and which points write back. -/
theorem idx : ∀ t : Fin cfg0.N, (win0_0.index t = ![t.val, 0] ∧ win0_1.index t = ![t.val, 0] ∧ win0_2.index t = ![0, t.val]
    ∧ win0_3.index t = ![0, t.val] ∧ win0_4.index t = ![t.val, 0] ∧ win0_5.index t = ![0, 0] ∧ win0_6.index t = ![0, 0]) ∧ win0_7.index t = ![t.val, 0]
    ∧ win0_8.index t = ![0, 0] ∧ win0_9.index t = ![0, 0] ∧ ((cfg0.win 8).flush t = true → t.val = 31) ∧ ((cfg0.win 9).flush t = true → t.val = 31) := by
  decide +kernel

/-- The gradient at the sums along a chunk, by columns. -/
abbrev aA (c : Dev nD) : S4096x128.Idx → EReal := m ((c : Thread nD τ).loc main_arg0)
/-- The gradient at the step sizes, by columns. -/
abbrev aD (c : Dev nD) : S4096x128.Idx → EReal := m ((c : Thread nD τ).loc main_arg1)
/-- The gradient at the sums along a chunk, by rows. -/
abbrev aAr (c : Dev nD) : S128x4096.Idx → EReal := m ((c : Thread nD τ).loc main_arg2)
/-- The gradient at the step sizes, by rows. -/
abbrev aDr (c : Dev nD) : S128x4096.Idx → EReal := m ((c : Thread nD τ).loc main_arg3)
/-- What the step sizes are made of. -/
abbrev aP (c : Dev nD) : S4096x128.Idx → EReal := m ((c : Thread nD τ).loc main_arg4)
/-- Their bias. -/
abbrev aB (c : Dev nD) : S1x128.Idx → EReal := m ((c : Thread nD τ).loc main_arg5)
/-- The logarithms of the rates. -/
abbrev aL (c : Dev nD) : S1x128.Idx → EReal := m ((c : Thread nD τ).loc main_arg6)

/-- The grid has thirty-two points. -/
theorem lt32 (t : Fin cfg0.N) : t.val < 32 := lt_of_lt_of_eq t.isLt N_0

/-- A point's block of the gradient at the sums, by columns. -/
abbrev xA (c : Dev nD) (t : Fin cfg0.N) : S128x128.Idx → EReal := iblk m c 0 t
/-- A point's block of the gradient at the step sizes, by columns. -/
abbrev xD (c : Dev nD) (t : Fin cfg0.N) : S128x128.Idx → EReal := iblk m c 1 t
/-- A point's block of the gradient at the sums, by rows. -/
abbrev xAr (c : Dev nD) (t : Fin cfg0.N) : S128x128.Idx → EReal := iblk m c 2 t
/-- A point's block of the gradient at the step sizes, by rows. -/
abbrev xDr (c : Dev nD) (t : Fin cfg0.N) : S128x128.Idx → EReal := iblk m c 3 t
/-- A point's block of what the step sizes are made of. -/
abbrev xP (c : Dev nD) (t : Fin cfg0.N) : S128x128.Idx → EReal := iblk m c 4 t
/-- A point's block of the bias. -/
abbrev xB (c : Dev nD) (t : Fin cfg0.N) : S1x128.Idx → EReal := iblk m c 5 t
/-- A point's block of the logarithms of the rates. -/
abbrev xL (c : Dev nD) (t : Fin cfg0.N) : S1x128.Idx → EReal := iblk m c 6 t

/-- A row of the arrays, from a chunk and its row. -/
abbrev row (t : Fin 32) (r : Fin 128) : Fin 4096 := ⟨128 * t.val + r.val, by omega⟩

/-- The chunk of a point. -/
abbrev chunk (t : Fin cfg0.N) : Fin 32 := ⟨t.val, lt32 t⟩

/-- The point's blocks are pieces of the arrays. -/
theorem blks (c : Dev nD) (t : Fin cfg0.N) (r q : Fin 128) :
    xA m c t (ix2 r q) = aA m c (ix2 (row (chunk t) r) q) ∧ xD m c t (ix2 r q) = aD m c (ix2 (row (chunk t) r) q)
    ∧ xAr m c t (ix2 q r) = aAr m c (ix2 q (row (chunk t) r)) ∧ xDr m c t (ix2 q r) = aDr m c (ix2 q (row (chunk t) r))
    ∧ xP m c t (ix2 r q) = aP m c (ix2 (row (chunk t) r) q) ∧ xB m c t (ix2 0 q) = aB m c (ix2 0 q) ∧ xL m c t (ix2 0 q) = aL m c (ix2 0 q) := by
  have h := (idx t).1
  refine ⟨?_, ?_, ?_, ?_, ?_, ?_, ?_⟩
  · rw [aA, ← V_main_arg0 m c]; blk_ext [iblk, h.1]
  · rw [aD, ← V_main_arg1 m c]; blk_ext [iblk, h.2.1]
  · rw [aAr, ← V_main_arg2 m c]; blk_ext [iblk, h.2.2.1]
  · rw [aDr, ← V_main_arg3 m c]; blk_ext [iblk, h.2.2.2.1]
  · rw [aP, ← V_main_arg4 m c]; blk_ext [iblk, h.2.2.2.2.1]
  · rw [aB, ← V_main_arg5 m c]; blk_ext [iblk, h.2.2.2.2.2.1]
  · rw [aL, ← V_main_arg6 m c]; blk_ext [iblk, h.2.2.2.2.2.2]

/-- The argument of the step sizes' function. -/
abbrev arg (c : Dev nD) (r : Fin 4096) (q : Fin 128) : EReal := aP m c (ix2 r q) + aB m c (ix2 0 q)

/-- The gradient at a step's decay: the gradients at the sums which it enters, its own and those later in the chunk. -/
def later (c : Dev nD) (t : Fin 32) (i q : Fin 128) : EReal :=
  ∑ j : Fin 128, if i ≤ j then aA m c (ix2 (row t j) q) + aAr m c (ix2 q (row t j)) else 0

/-- A bit as a number selects. -/
theorem mask (i j : Fin 128) (x : EReal) :
    FloatOps.sitofp (F := Ideal) FTy.f32 (BitVec.setWidth 32 (IntOp.cmpi CmpIPredicate.sge (BitVec.ofNat 32 j.val) (BitVec.ofNat 32 i.val))) * x
      = if i ≤ j then x else 0 := by
  rw [WordCmp.cmpi_sge_ofNat (by omega) (by omega)]
  by_cases h : i ≤ j
  · rw [if_pos h, decide_eq_true (by exact h)]
    refine (congrArg (· * x) (?_ : _ = (1 : EReal))).trans (one_mul x)
    show (((((BitVec.setWidth 32 (BitVec.ofBool true)).toInt : ℤ) : ℝ)) : EReal) = 1
    have : (BitVec.setWidth 32 (BitVec.ofBool true)).toInt = 1 := by decide
    rw [this]; norm_num
  · rw [if_neg h, decide_eq_false (by exact h)]
    refine (congrArg (· * x) (?_ : _ = (0 : EReal))).trans (zero_mul x)
    show (((((BitVec.setWidth 32 (BitVec.ofBool false)).toInt : ℤ) : ℝ)) : EReal) = 0
    have : (BitVec.setWidth 32 (BitVec.ofBool false)).toInt = 0 := by decide
    rw [this]; norm_num

/-- The step sizes of a point. -/
theorem pay7_at (c : Dev nD) (t : Fin cfg0.N) (r q : Fin 128) :
    k0_pay7 (F := Ideal) (xP m c t) (xB m c t) (ix2 r q) = Cert.StepSizes.softplus (arg m c (row (chunk t) r) q) := by
  unfold k0_pay7 k0_pay6
  pointwise
  rw [(blks m c t r q).2.2.2.2.1, (blks m c t r q).2.2.2.2.2.1]
  rfl

/-- The rates at a point. -/
theorem pay8_at (c : Dev nD) (t : Fin cfg0.N) (q : Fin 128) : k0_pay8 (F := Ideal) (xL m c t) (ix2 0 q) = -Ideal.exp (aL m c (ix2 0 q)) := by
  unfold k0_pay8
  pointwise
  rw [(blks m c t 0 q).2.2.2.2.2.2, sub_eq_add_neg, zero_add]

/-- The gradient at a point's decays. -/
theorem pay9_at (c : Dev nD) (t : Fin cfg0.N) (r q : Fin 128) : k0_pay9 (F := Ideal) (xA m c t) (xAr m c t) (ix2 r q) = later m c (chunk t) r q := by
  unfold k0_pay9
  pointwise
  refine Finset.sum_congr rfl fun j _ => (mask r j _).trans ?_
  rw [(blks m c t j q).1, (blks m c t j q).2.2.1]

/-- The gradient at a row's decay. -/
def decay (c : Dev nD) (r : Fin 4096) (q : Fin 128) : EReal := later m c ⟨r.val / 128, by omega⟩ ⟨r.val % 128, by omega⟩ q

/-- At a chunk's row. -/
theorem decay_row (c : Dev nD) (t : Fin 32) (r q : Fin 128) : decay m c (row t r) q = later m c t r q := by
  unfold decay
  congr 1 <;> exact Fin.ext (by simp only []; omega)

/-- The gradient at what the step sizes are made of. -/
def Dp (c : Dev nD) : S4096x128.Idx → EReal := fun i =>
  (aD m c i + aDr m c (ix2 (i 1) (i 0)) + -Ideal.exp (aL m c (ix2 0 (i 1))) * decay m c (i 0) (i 1))
    * Ideal.div 1 (1 + Ideal.exp (0 - arg m c (i 0) (i 1)))

/-- The gradient of the logarithms of the rates, chunk by chunk. -/
def Dl (c : Dev nD) : S1x128.Idx → EReal := fun i =>
  ∑ s : Fin 32, (∑ r : Fin 128, Cert.StepSizes.softplus (arg m c (row s r) (i 1)) * decay m c (row s r) (i 1)) * -Ideal.exp (aL m c (ix2 0 (i 1)))

/-- The gradient of the bias. -/
def Db (c : Dev nD) : S1x128.Idx → EReal := fun i => ∑ r : Fin 4096, Dp m c (ix2 r (i 1))

/-- The gradient at a point's step sizes. -/
theorem pay10_at (c : Dev nD) (t : Fin cfg0.N) (r q : Fin 128) :
    k0_pay10 (F := Ideal) (xL m c t) (xA m c t) (xAr m c t) (xD m c t) (xDr m c t) (ix2 r q)
      = aD m c (ix2 (row (chunk t) r) q) + aDr m c (ix2 q (row (chunk t) r)) + -Ideal.exp (aL m c (ix2 0 q)) * decay m c (row (chunk t) r) q := by
  unfold k0_pay10
  pointwise
  rw [(blks m c t r q).2.1, (blks m c t r q).2.2.2.1, pay8_at, pay9_at, decay_row]

/-- The exponential in a point's logistic function. -/
theorem pay11_at (c : Dev nD) (t : Fin cfg0.N) (r q : Fin 128) :
    k0_pay11 (F := Ideal) (xP m c t) (xB m c t) (ix2 r q) = Ideal.exp (0 - arg m c (row (chunk t) r) q) := by
  unfold k0_pay11 k0_pay6
  pointwise
  rw [(blks m c t r q).2.2.2.2.1, (blks m c t r q).2.2.2.2.2.1]

/-- What a point writes. -/
abbrev wrote (c : Dev nD) (t : Fin cfg0.N) : S128x128.Idx → EReal :=
  k0_pay1 (F := Ideal) (k0_pay10 (xL m c t) (xA m c t) (xAr m c t) (xD m c t) (xDr m c t)) (k0_pay11 (xP m c t) (xB m c t)) (Scalar.ofBits .f32 0x3F800000#32)

/-- It is its rows of the gradient. -/
theorem pay1_at (c : Dev nD) (t : Fin cfg0.N) (r q : Fin 128) : wrote m c t (ix2 r q) = Dp m c (ix2 (row (chunk t) r) q) := by
  unfold wrote k0_pay1
  pointwise
  rw [pay10_at, pay11_at]
  rfl

/-- What a point adds to the gradient of the logarithms. -/
theorem pay4_at (c : Dev nD) (t : Fin cfg0.N) (a : S1x128.Idx → EReal) (q : Fin 128) :
    k0_pay4 (F := Ideal) (k0_pay7 (xP m c t) (xB m c t)) (k0_pay8 (xL m c t)) (k0_pay9 (xA m c t) (xAr m c t)) a (ix2 0 q)
      = a (ix2 0 q) + (∑ r : Fin 128, Cert.StepSizes.softplus (arg m c (row (chunk t) r) q) * decay m c (row (chunk t) r) q) * -Ideal.exp (aL m c (ix2 0 q)) := by
  unfold k0_pay4
  pointwise
  simp only [pay7_at, pay8_at, pay9_at, decay_row]

/-- What a point adds to the gradient of the bias. -/
theorem pay5_at (c : Dev nD) (t : Fin cfg0.N) (a : S1x128.Idx → EReal) (q : Fin 128) :
    k0_pay5 (F := Ideal) (k0_pay10 (xL m c t) (xA m c t) (xAr m c t) (xD m c t) (xDr m c t)) (k0_pay11 (xP m c t) (xB m c t)) (Scalar.ofBits .f32 0x3F800000#32) a (ix2 0 q)
      = a (ix2 0 q) + ∑ r : Fin 128, Dp m c (ix2 (row (chunk t) r) q) := by
  unfold k0_pay5
  pointwise
  refine congrArg (fun z => a (ix2 0 q) + z) (Finset.sum_congr rfl fun r _ => Eq.trans ?_ (pay1_at m c t r q))
  unfold wrote k0_pay1
  pointwise

/-- Every point writes its rows. -/
theorem out7_at (c : Dev nD) (t : Fin cfg0.N) (r q : Fin 128) : (outsAt0 m c t.val t.isLt).1 (ix2 r q) = Dp m c (ix2 (row (chunk t) r) q) := by
  by_cases h : t.val % 32 = 0
  · rw [outsAt0_A m c t h]
    frame_out
    exact pay1_at m c t r q
  · rw [outsAt0_B m c t h]
    frame_out
    exact pay1_at m c t r q

/-- After point `n` the two sums have the chunks so far. -/
theorem sums_at (c : Dev nD) (q : Fin 128) : ∀ (n : ℕ) (hn : n < cfg0.N),
    (outsAt0 m c n hn).2.1 (ix2 0 q) = ∑ s : Fin (n + 1), (∑ r : Fin 128, Cert.StepSizes.softplus (arg m c (row (chunk ⟨s.val, by omega⟩) r) q)
        * decay m c (row (chunk ⟨s.val, by omega⟩) r) q) * -Ideal.exp (aL m c (ix2 0 q))
    ∧ (outsAt0 m c n hn).2.2 (ix2 0 q) = ∑ s : Fin (n + 1), ∑ r : Fin 128, Dp m c (ix2 (row (chunk ⟨s.val, by omega⟩) r) q)
  | 0, hn => by
    rw [outsAt0_A m c ⟨0, hn⟩ rfl]
    constructor
    · frame_out
      refine (pay4_at m c ⟨0, hn⟩ _ q).trans ?_
      unfold k0_pay2
      pointwise
      rw [Fin.sum_univ_one]
    · frame_out
      refine (pay5_at m c ⟨0, hn⟩ _ q).trans ?_
      unfold k0_pay3
      pointwise
      rw [Fin.sum_univ_one]
  | n + 1, hn => by
    have h : ¬ (n + 1) % 32 = 0 := by have := lt_of_lt_of_eq hn N_0; omega
    rw [outsAt0_B m c ⟨n + 1, hn⟩ h]
    constructor
    · frame_out
      refine (pay4_at m c ⟨n + 1, hn⟩ _ q).trans ?_
      refine Eq.trans ?_ (Fin.sum_univ_castSucc _).symm
      exact congrArg (· + _) (sums_at c q n (by omega)).1
    · frame_out
      refine (pay5_at m c ⟨n + 1, hn⟩ _ q).trans ?_
      refine Eq.trans ?_ (Fin.sum_univ_castSucc _).symm
      exact congrArg (· + _) (sums_at c q n (by omega)).2

/-- The last point has all chunks. -/
theorem sums_last (c : Dev nD) (t : Fin cfg0.N) (h : t.val = 31) (q : Fin 128) :
    (outsAt0 m c t.val t.isLt).2.1 (ix2 0 q) = Dl m c (ix2 0 q) ∧ (outsAt0 m c t.val t.isLt).2.2 (ix2 0 q) = Db m c (ix2 0 q) := by
  have hs := sums_at m c q t.val t.isLt
  exact ⟨hs.1.trans (Cert.StepSizes.sum_to h fun s => (∑ r : Fin 128, Cert.StepSizes.softplus (arg m c (row s r) q) * decay m c (row s r) q) * -Ideal.exp (aL m c (ix2 0 q))),
    hs.2.trans ((Cert.StepSizes.sum_to h fun s => ∑ r : Fin 128, Dp m c (ix2 (row s r) q)).trans (Cert.Norm.sum_chunks fun r => Dp m c (ix2 r q)))⟩

/-- The first gradient after the run. -/
theorem arr7 (c : Dev nD) : (dats m 0 c).arrAt 7 cfg0.N = Dp m c := by
  refine (dats m 0 c).arrAt_eq_of_covers 7 (Dp m c) (by decide +kernel) (fun t hf y => ?_)
  blk_simp
  rw [after0_7]
  obtain ⟨a, b, rfl⟩ : ∃ (a b : Fin 128), y = ix2 a b := ⟨y 0, y 1, pair_eq (n := 128) (k := 128) y⟩
  refine (out7_at m c t a b).trans ?_
  have h2 := (idx t).2.1
  congr 1
  blk_ext [h2]

/-- A column of an array of one row. -/
theorem one_row (y : S1x128.Idx) : ∃ b : Fin 128, y = ix2 0 b :=
  ⟨y 1, by rw [pair_eq (n := 1) (k := 128) y]; congr 1; exact Subsingleton.elim (α := Fin 1) _ _⟩

/-- The gradient of the logarithms after the run. -/
theorem arr8 (c : Dev nD) : (dats m 0 c).arrAt 8 cfg0.N = Dl m c := by
  refine (dats m 0 c).arrAt_eq_of_covers 8 (Dl m c) (by decide +kernel) (fun t hf y => ?_)
  have h := (idx t).2.2.2.2.1 hf
  blk_simp
  rw [after0_8]
  obtain ⟨b, rfl⟩ := one_row y
  refine (sums_last m c t h b).1.trans ?_
  have h2 := (idx t).2.2.1
  congr 1
  blk_ext [h2]

/-- The gradient of the bias after the run. -/
theorem arr9 (c : Dev nD) : (dats m 0 c).arrAt 9 cfg0.N = Db m c := by
  refine (dats m 0 c).arrAt_eq_of_covers 9 (Db m c) (by decide +kernel) (fun t hf y => ?_)
  have h := (idx t).2.2.2.2.2 hf
  blk_simp
  rw [after0_9]
  obtain ⟨b, rfl⟩ := one_row y
  refine (sums_last m c t h b).2.trans ?_
  have h2 := (idx t).2.2.2.1
  congr 1
  blk_ext [h2]

/-- What is real under the precondition. -/
theorem real (h : Cert.Pre_Kernel41Ideal_finite_steps m) (c : Dev nD) (a : Fin 4096) (q : Fin 128) :
    (Cert.Silu.IsReal (aA m c (ix2 a q)) ∧ Cert.Silu.IsReal (aAr m c (ix2 q a))) ∧ Cert.Silu.IsReal (arg m c a q) ∧ Cert.Silu.IsReal (aL m c (ix2 0 q)) := by
  have h0 := congrFun (h c).1 (ix2 a q)
  have h1 := congrFun (h c).2.1 (ix2 q a)
  have h2 := congrFun (h c).2.2.1 (ix2 a q)
  have h3 := congrFun (h c).2.2.2.1 (ix2 0 q)
  have h4 := congrFun (h c).2.2.2.2 (ix2 0 q)
  simp only [Cert.Pre_finite_steps.fn] at h0 h1 h2 h3 h4
  pointwise at h0
  pointwise at h1
  pointwise at h2
  pointwise at h3
  pointwise at h4
  exact ⟨⟨.of_bit h0, .of_bit h1⟩, .add (.of_bit h2) (.of_bit h3), .of_bit h4⟩

/-- The run of the kernel, with its results named. -/
theorem run (ρ : Dev nD → PrngReg) : θ_run defs (onTc (τ := τ) (main (F := Ideal))) ⟨m, fun _ => 0, ρ⟩ fun r => ∀ c : Dev nD,
      r.2.mem ((c : Thread nD τ).loc main_v0_0) = Dp m c
      ∧ r.2.mem ((c : Thread nD τ).loc main_v0_1) = Dl m c
      ∧ r.2.mem ((c : Thread nD τ).loc main_v0_2) = Db m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun _ h c => ⟨(h c).1.trans (arr7 m c), (h c).2.1.trans (arr8 m c), (h c).2.2.1.trans (arr9 m c), (h c).2.2.2⟩) (Value.run_blocks m ρ)

end Cert.Kernel41Ideal.StepSizes

namespace Cert.StepSizes

open Idealize.ShloMosaic Idealize.ShloMosaic.TcCoe Idealize.SL.Sem
open Cert.Kernel41Ideal.StepSizes (aA aAr aD aDr aL arg row decay Dp Dl Db)

/-- The reference leaves its arguments as they were and every counter at zero. -/
theorem frame_ri : Cert.quiescent_Reference41Ideal := fun m ρ _ =>
  (θ_run Cert.Reference41Ideal.defs _ _).mono (fun r h => ⟨fun c => (h c).2.2.2, sem_eq_zero_of_no_sems (by decide) r.2⟩)
    (Cert.Reference41Ideal.Value.run (F := Ideal) m ρ)

/-- The reference's running sum from a chunk's end is the gradient at the decay. -/
theorem window (m : (ℓ : Loc Cert.Kernel41Ideal.nD Cert.Kernel41Ideal.τ Cert.Kernel41Ideal.sig) → Buf (Elt Ideal) ℓ) (c : Dev Cert.Kernel41Ideal.nD) (a : Fin 4096) (b : Fin 128)
    (v : (⟨0, ![]⟩ : Shape).Idx → EReal) (hv : ∀ i, v i = 0) (A : Cert.Reference41Ideal.S4096x128.Idx → EReal)
    (hA : ∀ (r : Fin 4096) (q : Fin 128), A (ix2 r q) = aA m c (ix2 r q) + aAr m c (ix2 q r))  (ht : a.val / 128 < 32) (hi : a.val % 128 < 128) :
    Host.reduceWindowAdd (F := Ideal) (φ := .f32) ![1, 128, 1] ![1, 1, 1] ![0, 0, 0] ![0, 127, 0]
        (shapeCast Cert.Reference41Ideal.S32x128x128 A Cert.Reference41Ideal.Gen.shapeCasts_S4096x128_S32x128x128) v
        Cert.Reference41Ideal.Gen.reduceWindows_S32x128x128_S32x128x128_w1s1p0_0_w128s1p0_127_w1s1p0_0 Cert.Reference41Ideal.Gen.h_S_
        (ix3 ⟨a.val / 128, ht⟩ ⟨a.val % 128, hi⟩ b) = decay m c a b := by
  refine (later_sum _ _ (hv _) Cert.Reference41Ideal.Gen.reduceWindows_S32x128x128_S32x128x128_w1s1p0_0_w128s1p0_127_w1s1p0_0 _ _ _).trans ?_
  unfold decay Cert.Kernel41Ideal.StepSizes.later
  refine Finset.sum_congr rfl fun j _ => ?_
  rw [← hA]
  congr 1
  pointwise
  exact congrArg (fun r => A (ix2 r b)) (Fin.ext (by simp only []; omega))

/-- The whole sum times the rate is the sum of the chunks' sums times it, for real numbers. -/
theorem by_chunks (f : Fin 4096 → EReal) (hf : ∀ r, Cert.Silu.IsReal (f r)) {e : EReal} (he : Cert.Silu.IsReal e) :
    -(∑ r, f r) * e = ∑ s : Fin 32, (∑ r : Fin 128, f (row s r)) * -e := by
  rw [← Cert.Norm.sum_chunks f]
  have h : ∀ s : Fin 32, ∃ x : ℝ, ∑ r : Fin 128, f (row s r) = x := fun s => ⟨_, (Cert.Silu.IsReal.sum Finset.univ fun r => hf (row s r)).eq_coe⟩
  choose g hg using h
  show -(∑ s : Fin 32, ∑ r : Fin 128, f (row s r)) * e = _
  simp only [hg]
  rw [he.eq_coe, Cert.Norm.coe_sum]
  simp only [← EReal.coe_neg, ← EReal.coe_mul]
  rw [Cert.Norm.coe_sum]
  congr 1
  rw [neg_mul, Finset.sum_mul, ← Finset.sum_neg_distrib]
  exact Finset.sum_congr rfl fun s _ => by ring

/-- An exponential of a real is real. -/
theorem exp_isReal {x : EReal} (h : Cert.Silu.IsReal x) : Cert.Silu.IsReal (Ideal.exp x) := by
  rw [h.eq_coe, Ideal.exp_coe]; exact .coe _

/-- The gradient at a decay is real. -/
theorem decay_isReal (m : (ℓ : Loc Cert.Kernel41Ideal.nD Cert.Kernel41Ideal.τ Cert.Kernel41Ideal.sig) → Buf (Elt Ideal) ℓ)
    (h : Cert.Pre_Kernel41Ideal_finite_steps m) (c : Dev Cert.Kernel41Ideal.nD) (r : Fin 4096) (q : Fin 128) : Cert.Silu.IsReal (decay m c r q) := by
  unfold decay Cert.Kernel41Ideal.StepSizes.later
  refine .sum _ fun j => ?_
  split
  · exact .add (Cert.Kernel41Ideal.StepSizes.real m h c _ q).1.1 (Cert.Kernel41Ideal.StepSizes.real m h c _ q).1.2
  · exact .coe 0

/-- The call and the derivative give the same gradients. -/
theorem algebraic : Cert.algebraic_Kernel41Ideal_Reference41Ideal_pre_finite_steps := by
  pair_intro
  · run_from Cert.Kernel41Ideal.StepSizes.run m g
  · refine Idealize.ShloMosaic.θ_run_mono (Cert.Reference41Ideal.Value.run (F := Ideal) m' g') ?_
    intro r hr c
    have hreal := Cert.Kernel41Ideal.StepSizes.real m hpre c
    let given : (⟨2, ![4096, 128]⟩ : Shape).Idx → EReal := Cert.Reference41Ideal.Value.res_main_v25 m' c
    have first : ∀ (a : Fin 4096) (b : Fin 128), given (ix2 a b) = Dp m c (ix2 a b) := by
      intro a b
      show Cert.Reference41Ideal.Value.res_main_v25 m' c (ix2 a b) = _
      unfold Cert.Reference41Ideal.Value.res_main_v25
      simp only [hagree c]
      pointwise
      simp only [ne_eq, not_true_eq_false, if_false, softplus_eq]
      rw [slope (hreal a b).2.1, window m c a b]
      · exact congrArg (fun z => (_ + z) * _) (mul_comm _ _)
      · intro i; pointwise
      · intro r q; pointwise
    refine ⟨(hr c).1.trans ?_, (hr c).2.1.trans ?_, (hr c).2.2.1.trans ?_, (hr c).2.2.2⟩ <;> clear hr r
    · funext i
      obtain ⟨a, b, rfl⟩ : ∃ (a : Fin 4096) (b : Fin 128), i = ix2 a b := ⟨i 0, i 1, Cert.MatSum.pair_eq (n := 4096) (k := 128) i⟩
      exact first a b
    · simp only [hagree c]
      funext i
      obtain ⟨b, rfl⟩ := Cert.Kernel41Ideal.StepSizes.one_row i
      pointwise
      simp only [ne_eq, not_true_eq_false, if_false, softplus_eq]
      refine Eq.trans ?_ (by_chunks (fun r => softplus (arg m c r b) * decay m c r b) (fun r => ?_) (exp_isReal (hreal 0 b).2.2))
      · refine congrArg (fun z => -z * _) (Finset.sum_congr rfl fun r _ => congrArg (fun z => softplus (arg m c r b) * z) ?_)
        rw [window m c r b]
        · intro i; pointwise
        · intro r q; pointwise
      · obtain ⟨s, hs, -⟩ := softplus_real (arg m c r b).toReal
        rw [← (hreal r b).2.1.eq_coe] at hs
        rw [hs]
        exact .mul (.coe s) (decay_isReal m hpre c r b)
    · funext i
      obtain ⟨b, rfl⟩ := Cert.Kernel41Ideal.StepSizes.one_row i
      have hsum := (Finset.sum_congr rfl fun r _ => first r b : (∑ r : Fin 4096, given (ix2 r b)) = _)
      refine Eq.trans ?_ hsum
      unfold Cert.Reference41Ideal.Value.res_main_v27
      simp only [given]
      unfold Cert.Reference41Ideal.Value.res_main_v25
      pointwise

end Cert.StepSizes
end
-- ==== Proof.GateNorm.lean ====
module

public import proofs.«01_k».proof.Defs
public import proofs.«01_k».proof.Proof.Gen.Kernel39Ideal.Value
public import proofs.«01_k».proof.Proof.Gen.Reference39Ideal.Read
public import proofs.«01_k».proof.Proof.Gen.Reference39Ideal.Run
public import proofs.«01_k».proof.Proof.Gen.Pre_finite_gate
public import proofs.«01_k».proof.Proof.Norm
public import Idealize.ShloMosaic.Lib.KernelVsHost
public import Idealize.ShloMosaic.Lib.Pipeline.ReadBack

@[expose] public section

set_option maxRecDepth 16384

noncomputable section

/-! The state-space layer's gate, its norm in groups of 256 channels and its skip: the gradients at the gate, of the skip's weights and of the
    norm's gains. -/

namespace Cert.GateNorm

open Idealize.ShloMosaic

abbrev S1x2048 : Shape := ⟨2, ![1, 2048]⟩
abbrev S4096x2048 : Shape := ⟨2, ![4096, 2048]⟩
abbrev S4096x4096 : Shape := ⟨2, ![4096, 4096]⟩

/-- The float word of 256. -/
abbrev width : BitVec 32 := 0x43800000#32

/-- It is 256. -/
theorem width_eq : Ideal.ofBits .f32 width = (((256 : ℕ) : ℝ) : EReal) := by simp [width, Ideal.ofBits, Ideal.ieee, -EReal.coe_mul]; norm_num

/-- A channel, from its group and its place there. -/
abbrev ch (g : Fin 8) (k : Fin 256) : Fin 2048 := ⟨g.val * 256 + k.val, by omega⟩
/-- The same channel among the state-space layer's 4096. -/
abbrev xch (g : Fin 8) (k : Fin 256) : Fin 4096 := ⟨g.val * 256 + k.val, by omega⟩

variable (G Z Y : S4096x2048.Idx → EReal) (N : S1x2048.Idx → EReal) (X : S4096x4096.Idx → EReal)

/-- The gate's factor. -/
def gate (T : Fin 4096) (g : Fin 8) (k : Fin 256) : EReal := Z (ix2 T (ch g k)) * Ideal.logistic (Z (ix2 T (ch g k)))

/-- The gated values of a row's group. -/
def gated (T : Fin 4096) (g : Fin 8) (k : Fin 256) : EReal := Y (ix2 T (ch g k)) * gate Z T g k

/-- One over the root of their mean square. -/
def inv (T : Fin 4096) (g : Fin 8) : EReal := Cert.Norm.invOf width (gated Z Y T g)

/-- The gradient at the normed values. -/
def dnorm (T : Fin 4096) (g : Fin 8) (k : Fin 256) : EReal := G (ix2 T (ch g k)) * N (ix2 0 (ch g k))

/-- The gradient at the gated values. -/
def dgated (T : Fin 4096) (g : Fin 8) (k : Fin 256) : EReal :=
  inv Z Y T g * (dnorm G N T g k - gated Z Y T g k * inv Z Y T g
    * Ideal.div (∑ j, dnorm G N T g j * (gated Z Y T g j * inv Z Y T g)) (Ideal.ofBits .f32 width))

/-- The gradient at the gate's input. -/
def dgate (T : Fin 4096) (g : Fin 8) (k : Fin 256) : EReal :=
  dgated G Z Y N T g k * Y (ix2 T (ch g k)) * (Ideal.logistic (Z (ix2 T (ch g k))) * (1 + Z (ix2 T (ch g k)) * (1 - Ideal.logistic (Z (ix2 T (ch g k))))))

/-- The gradient at the scan's output. -/
def dscan (T : Fin 4096) (g : Fin 8) (k : Fin 256) : EReal := dgated G Z Y N T g k * gate Z T g k

/-- A row's part of the gradient of a head's skip weight; the lanes past the four heads of a group have none. -/
def dskip (T : Fin 4096) (g : Fin 8) (l : Fin 128) : EReal :=
  if h : l.val < 4 then ∑ j : Fin 64, dscan G Z Y N T g ⟨64 * l.val + j.val, by omega⟩ * X (ix2 T (xch g ⟨64 * l.val + j.val, by omega⟩)) else 0

/-- A row's part of the gradient of the gains. -/
def dgain (T : Fin 4096) (g : Fin 8) (k : Fin 256) : EReal := G (ix2 T (ch g k)) * (gated Z Y T g k * inv Z Y T g)

/-- A choice by the equality of two words is the choice by the numbers'. -/
theorem sel_eq {α : Type} (a b : ℕ) (ha : a < 2 ^ 32) (hb : b < 2 ^ 32) (x y : α) :
    Scalar.select (IntOp.cmpi .eq (BitVec.ofNat 32 a) (BitVec.ofNat 32 b)) x y = if a = b then x else y := by
  have e : (IntOp.cmpi .eq (BitVec.ofNat 32 a) (BitVec.ofNat 32 b) = 1#1) ↔ a = b := by
    rw [IntOp.cmpi_eq, ← BitVec.toNat_inj, BitVec.toNat_ofNat, BitVec.toNat_ofNat, Nat.mod_eq_of_lt ha, Nat.mod_eq_of_lt hb]
  unfold Scalar.select
  exact if_congr e rfl rfl

/-- The silu's derivative in its two forms agrees for any cotangent where the silu is zero. -/
theorem derivative_zero (c z : EReal) (h : z * Ideal.logistic z = 0) :
    c * (Ideal.logistic z * (1 + z * (1 - Ideal.logistic z))) = c * Ideal.logistic z + z * c * (Ideal.logistic z * (1 - Ideal.logistic z)) := by
  rcases mul_eq_zero.1 h with h | h
  · simp [h]
  · simp [h]

/-- The gradient at the gate's input as the product rule gives it. -/
theorem dgate_eq (hd : ∀ T g k, Cert.Silu.IsReal (dnorm G N T g k)) (T : Fin 4096) (g : Fin 8) (k : Fin 256) :
    Y (ix2 T (ch g k)) * dgated G Z Y N T g k * Ideal.logistic (Z (ix2 T (ch g k)))
        + Z (ix2 T (ch g k)) * (Y (ix2 T (ch g k)) * dgated G Z Y N T g k)
          * (Ideal.logistic (Z (ix2 T (ch g k))) * (1 - Ideal.logistic (Z (ix2 T (ch g k)))))
      = dgate G Z Y N T g k := by
  have hreal : Cert.Silu.IsReal (dgated G Z Y N T g k) := Cert.Norm.gradOf_real (by norm_num) width_eq (gated Z Y T g) (dnorm G N T g) (hd T g) k
  rw [dgate, mul_comm (Y _)]
  symm
  by_cases hy : Cert.Silu.IsReal (Y (ix2 T (ch g k)))
  · have e := Cert.Silu.derivative (dgated G Z Y N T g k * Y (ix2 T (ch g k))).toReal (Z (ix2 T (ch g k)))
    rwa [← (hreal.mul hy).eq_coe] at e
  · by_cases h0 : gate Z T g k = 0
    · exact derivative_zero _ _ h0
    · have hx : ¬ ∀ j, Cert.Silu.IsReal (gated Z Y T g j) := fun h => by
        have h1 := h k
        rcases not_and_or.1 hy with h2 | h2
        · rw [gated, not_not.1 h2] at h1
          rcases lt_or_gt_of_ne h0 with h3 | h3
          · exact h1.2 (EReal.bot_mul_of_neg h3)
          · exact h1.1 (EReal.bot_mul_of_pos h3)
        · rw [gated, not_not.1 h2] at h1
          rcases lt_or_gt_of_ne h0 with h3 | h3
          · exact h1.1 (EReal.top_mul_of_neg h3)
          · exact h1.2 (EReal.top_mul_of_pos h3)
      rw [dgated, inv, (Cert.Norm.inv_top (by norm_num) width_eq _ hx).2]
      simp only [zero_mul, mul_zero, add_zero]

end Cert.GateNorm

namespace Cert.Kernel39Ideal.GateNorm

open Cert.Kernel39Ideal Cert.Kernel39Ideal.Gen Idealize.ShloMosaic Idealize.ShloMosaic.TcCoe Idealize.SL.Sem
open Idealize.ShloMosaic.Pipeline (Dat)
open Cert.MatSum (pair_eq)
open Cert.GateNorm (ch xch gate gated inv dnorm dgated dgate dscan dskip dgain width sel_eq)

variable (m : (ℓ : Loc nD τ sig) → Buf (Elt Ideal) ℓ)

/-- Where each window lies at each grid point, and which points write back the windows that accumulate. -/
theorem idx : ∀ t : Fin cfg0.N, (win0_0.index t = ![31 - t.val % 32, t.val / 32] ∧ win0_1.index t = ![31 - t.val % 32, t.val / 32])
    ∧ (win0_4.index t = ![31 - t.val % 32, t.val / 32] ∧ win0_5.index t = ![31 - t.val % 32, t.val / 32]) ∧ win0_12.index t = ![0, t.val / 32]
    ∧ win0_16.index t = ![31 - t.val % 32, t.val / 32]
    ∧ (win0_19.index t = ![t.val / 32, 0, 0] ∧ ((cfg0.win 19).flush t = true → t.val % 32 = 31))
    ∧ win0_20.index t = ![0, t.val / 32] ∧ ((cfg0.win 20).flush t = true → t.val % 32 = 31) := by
  decide +kernel

/-- The grid has eight groups of 32 points. -/
theorem lt256 (t : Fin cfg0.N) : t.val < 256 := lt_of_lt_of_eq t.isLt N_0

/-- The gradient at the layer's output. -/
abbrev aG (c : Dev nD) : S4096x2048.Idx → EReal := m ((c : Thread nD τ).loc main_arg0)
/-- The scan's input. -/
abbrev aX (c : Dev nD) : S4096x4096.Idx → EReal := m ((c : Thread nD τ).loc main_arg1)
/-- The gate's input. -/
abbrev aZ (c : Dev nD) : S4096x2048.Idx → EReal := m ((c : Thread nD τ).loc main_arg2)
/-- The scan's output. -/
abbrev aY (c : Dev nD) : S4096x2048.Idx → EReal := m ((c : Thread nD τ).loc main_arg3)
/-- The norm's gains. -/
abbrev aN (c : Dev nD) : S1x2048.Idx → EReal := m ((c : Thread nD τ).loc main_arg10)

/-- A row of the arrays, from a point's row: a group's points take the blocks of rows from the last to the first. -/
abbrev row (n : ℕ) (r : Fin 128) : Fin 4096 := ⟨128 * (31 - n % 32) + r.val, by omega⟩
/-- A point's group. -/
abbrev grp (n : ℕ) : Fin 8 := ⟨n / 32 % 8, by omega⟩

/-- A point's group is its number over 32. -/
theorem grp_val (t : Fin cfg0.N) : t.val / 32 % 8 = t.val / 32 := by have := lt256 t; omega

theorem blk0 (c : Dev nD) (t : Fin cfg0.N) (r : Fin 128) (k : Fin 256) :
    (iblk m c 0 t : S128x256.Idx → EReal) (ix2 r k) = aG m c (ix2 (row t.val r) (ch (grp t.val) k)) := by
  rw [aG, ← V_main_arg0 m c]
  blk_ext [iblk, (idx t).1.1, grp_val t]
theorem blk1 (c : Dev nD) (t : Fin cfg0.N) (r : Fin 128) (k : Fin 256) :
    (iblk m c 1 t : S128x256.Idx → EReal) (ix2 r k) = aX m c (ix2 (row t.val r) (xch (grp t.val) k)) := by
  rw [aX, ← V_main_arg1 m c]
  blk_ext [iblk, (idx t).1.2, grp_val t]
theorem blk4 (c : Dev nD) (t : Fin cfg0.N) (r : Fin 128) (k : Fin 256) :
    (iblk m c 4 t : S128x256.Idx → EReal) (ix2 r k) = aZ m c (ix2 (row t.val r) (ch (grp t.val) k)) := by
  rw [aZ, ← V_main_arg2 m c]
  blk_ext [iblk, (idx t).2.1.1, grp_val t]
theorem blk5 (c : Dev nD) (t : Fin cfg0.N) (r : Fin 128) (k : Fin 256) :
    (iblk m c 5 t : S128x256.Idx → EReal) (ix2 r k) = aY m c (ix2 (row t.val r) (ch (grp t.val) k)) := by
  rw [aY, ← V_main_arg3 m c]
  blk_ext [iblk, (idx t).2.1.2, grp_val t]
theorem blk12 (c : Dev nD) (t : Fin cfg0.N) (k : Fin 256) : (iblk m c 12 t : S1x256.Idx → EReal) (ix2 0 k) = aN m c (ix2 0 (ch (grp t.val) k)) := by
  rw [aN, ← V_main_arg10 m c]
  blk_ext [iblk, (idx t).2.2.1, grp_val t]

/-! ## The values of one block's body -/

/-- The gate's factor on a block. -/
abbrev gateB (c : Dev nD) (t : Fin cfg0.N) : FVec Ideal S128x256 .f32 := k0_pay6 (iblk m c 4 t)
/-- The inverse roots. -/
abbrev invB (c : Dev nD) (t : Fin cfg0.N) : FVec Ideal S128x1 .f32 := k0_pay8 (iblk m c 4 t) (iblk m c 5 t)
/-- The normed values. -/
abbrev normB (c : Dev nD) (t : Fin cfg0.N) : FVec Ideal S128x256 .f32 := k0_pay9 (iblk m c 4 t) (iblk m c 5 t)
/-- The gradient at the normed values. -/
abbrev dnormB (c : Dev nD) (t : Fin cfg0.N) : FVec Ideal S128x256 .f32 := k0_pay11 (iblk m c 0 t) (iblk m c 12 t)

theorem gate_block (c : Dev nD) (t : Fin cfg0.N) (r : Fin 128) (k : Fin 256) : gateB m c t (ix2 r k) = gate (aZ m c) (row t.val r) (grp t.val) k := by
  unfold gateB k0_pay6 k0_pay5
  pointwise
  simp only [blk4, Cert.Silu.quotient_zero_sub]
  rfl

theorem gated_block (c : Dev nD) (t : Fin cfg0.N) (r : Fin 128) (k : Fin 256) :
    (k0_pay7 (iblk m c 4 t) (iblk m c 5 t) : FVec Ideal S128x256 .f32) (ix2 r k) = gated (aZ m c) (aY m c) (row t.val r) (grp t.val) k := by
  have e := gate_block m c t r k
  unfold k0_pay7
  unfold gateB at e
  generalize (k0_pay6 (iblk m c 4 t) : FVec Ideal S128x256 .f32) = A at *
  pointwise
  rw [e, blk5]
  rfl

theorem inv_block (c : Dev nD) (t : Fin cfg0.N) (r : Fin 128) : invB m c t (ix2 r 0) = inv (aZ m c) (aY m c) (row t.val r) (grp t.val) := by
  have e := gated_block m c t r
  unfold invB k0_pay8
  generalize (k0_pay7 (iblk m c 4 t) (iblk m c 5 t) : FVec Ideal S128x256 .f32) = A at *
  pointwise
  simp only [e]
  rfl

theorem norm_block (c : Dev nD) (t : Fin cfg0.N) (r : Fin 128) (k : Fin 256) :
    normB m c t (ix2 r k) = gated (aZ m c) (aY m c) (row t.val r) (grp t.val) k * inv (aZ m c) (aY m c) (row t.val r) (grp t.val) := by
  have e := gated_block m c t r k
  have e' := inv_block m c t r
  unfold normB k0_pay9
  unfold invB at e'
  generalize (k0_pay7 (iblk m c 4 t) (iblk m c 5 t) : FVec Ideal S128x256 .f32) = A at *
  generalize (k0_pay8 (iblk m c 4 t) (iblk m c 5 t) : FVec Ideal S128x1 .f32) = B at *
  pointwise
  rw [e, e']

theorem dnorm_block (c : Dev nD) (t : Fin cfg0.N) (r : Fin 128) (k : Fin 256) :
    dnormB m c t (ix2 r k) = dnorm (aG m c) (aN m c) (row t.val r) (grp t.val) k := by
  unfold dnormB k0_pay11
  pointwise
  rw [blk0, blk12]
  rfl

/-- The gradient at the gated values on a block. -/
theorem dgated_block (c : Dev nD) (t : Fin cfg0.N) (r : Fin 128) (k : Fin 256) :
    (k0_pay12 (invB m c t) (normB m c t) (dnormB m c t) : FVec Ideal S128x256 .f32) (ix2 r k)
      = dgated (aG m c) (aZ m c) (aY m c) (aN m c) (row t.val r) (grp t.val) k := by
  have e := norm_block m c t r
  have e' := inv_block m c t r
  have e'' := dnorm_block m c t r
  unfold k0_pay12
  generalize normB m c t = A at *
  generalize invB m c t = B at *
  generalize dnormB m c t = C at *
  pointwise
  simp only [e, e', e'']
  rfl

/-- The gradient at the scan's output on a block. -/
theorem dscan_block (c : Dev nD) (t : Fin cfg0.N) (r : Fin 128) (k : Fin 256) :
    (k0_pay14 (gateB m c t) (invB m c t) (normB m c t) (dnormB m c t) : FVec Ideal S128x256 .f32) (ix2 r k)
      = dscan (aG m c) (aZ m c) (aY m c) (aN m c) (row t.val r) (grp t.val) k := by
  have e := dgated_block m c t r k
  have e' := gate_block m c t r k
  unfold k0_pay14
  generalize (k0_pay12 (invB m c t) (normB m c t) (dnormB m c t) : FVec Ideal S128x256 .f32) = A at *
  generalize gateB m c t = B at *
  pointwise
  rw [e, e']
  rfl

/-- What a point leaves in its block of the gradient at the gate's input. -/
theorem out16_at (c : Dev nD) (t : Fin cfg0.N) (r : Fin 128) (k : Fin 256) :
    (outsAt0 m c t.val t.isLt).2.2.2.1 (ix2 r k) = dgate (aG m c) (aZ m c) (aY m c) (aN m c) (row t.val r) (grp t.val) k := by
  have h : (outsAt0 m c t.val t.isLt).2.2.2.1 = k0_pay13 (iblk m c 4 t) (k0_pay5 (iblk m c 4 t)) (iblk m c 5 t) (invB m c t) (normB m c t) (dnormB m c t) := by
    by_cases h : t.val % 32 = 0
    · rw [Gen.outsAt0_A m c t h]
      frame_out
    · rw [Gen.outsAt0_B m c t h]
      frame_out
  have e := dgated_block m c t r k
  rw [h]
  unfold k0_pay13 k0_pay5
  generalize (k0_pay12 (invB m c t) (normB m c t) (dnormB m c t) : FVec Ideal S128x256 .f32) = A at *
  pointwise
  simp only [e, blk4, blk5, Cert.Silu.quotient_zero_sub]
  rfl

/-- One point adds its rows' part of the gains' gradient. -/
theorem dgain_step (c : Dev nD) (t : Fin cfg0.N) (prev : FVec Ideal S1x256 .f32) (k : Fin 256) :
    k0_pay10 (iblk m c 4 t) (iblk m c 5 t) (iblk m c 0 t) prev (ix2 0 k)
      = prev (ix2 0 k) + ∑ j : Fin 128, dgain (aG m c) (aZ m c) (aY m c) (row t.val j) (grp t.val) k := by
  have e := fun j => norm_block m c t j k
  unfold k0_pay10
  unfold normB at e
  generalize (k0_pay9 (iblk m c 4 t) (iblk m c 5 t) : FVec Ideal S128x256 .f32) = A at *
  pointwise
  simp only [e, blk0]
  rfl

theorem dskip_step (c : Dev nD) (t : Fin cfg0.N) (prev : FVec Ideal S1x1x128 .f32) (l : Fin 128) :
    k0_pay1 (k0_pay178 (iota Kind.tc S1x128 32 [1] iota_S1x128_d1_w32)
        (View.ld (iblk m c 1 t) (Rect.unit ![0, 192] ![128, 64] inb_S128x256_S128x64_0_192))
        (k0_pay67 (k0_pay14 (gateB m c t) (invB m c t) (normB m c t) (dnormB m c t)))
        (k0_pay163 (iota Kind.tc S1x128 32 [1] iota_S1x128_d1_w32)
          (View.ld (iblk m c 1 t) (Rect.unit ![0, 128] ![128, 64] inb_S128x256_S128x64_0_128))
          (k0_pay66 (k0_pay14 (gateB m c t) (invB m c t) (normB m c t) (dnormB m c t)))
          (k0_pay147 (iota Kind.tc S1x128 32 [1] iota_S1x128_d1_w32)
            (View.ld (iblk m c 1 t) (Rect.unit ![0, 64] ![128, 64] inb_S128x256_S128x64_0_64))
            (k0_pay65 (k0_pay14 (gateB m c t) (invB m c t) (normB m c t) (dnormB m c t)))
            (k0_pay131 (iota Kind.tc S1x128 32 [1] iota_S1x128_d1_w32) k0_pay24
              (View.ld (iblk m c 1 t) (Rect.unit ![0, 0] ![128, 64] inb_S128x256_S128x64_0_0))
              (k0_pay64 (k0_pay14 (gateB m c t) (invB m c t) (normB m c t) (dnormB m c t)))))))
      prev (ix3 0 0 l)
      = prev (ix3 0 0 l) + ∑ j : Fin 128, dskip (aG m c) (aZ m c) (aY m c) (aN m c) (aX m c) (row t.val j) (grp t.val) l := by
  have e := dscan_block m c t
  have e' := blk1 m c t
  unfold k0_pay1 k0_pay178 k0_pay163 k0_pay147 k0_pay131 k0_pay24 k0_pay64 k0_pay65 k0_pay66 k0_pay67
  generalize (k0_pay14 (gateB m c t) (invB m c t) (normB m c t) (dnormB m c t) : FVec Ideal S128x256 .f32) = A at *
  generalize (iblk m c 1 t : S128x256.Idx → EReal) = B at *
  pointwise
  have e0 := sel_eq (α := EReal) l.val 0 (by omega) (by omega)
  have e1 := sel_eq (α := EReal) l.val 1 (by omega) (by omega)
  have e2 := sel_eq (α := EReal) l.val 2 (by omega) (by omega)
  have e3 := sel_eq (α := EReal) l.val 3 (by omega) (by omega)
  simp only [e0, e1, e2, e3, e, e']
  congr 1
  by_cases h : l.val < 4
  · simp only [dskip, dif_pos h]
    rcases (by omega : l.val = 0 ∨ l.val = 1 ∨ l.val = 2 ∨ l.val = 3) with h | h | h | h <;> simp [h]
  · simp only [dskip, dif_neg h, Finset.sum_const_zero]
    rw [if_neg (by omega), if_neg (by omega), if_neg (by omega), if_neg (by omega)]
    simp

/-- The first point of a group starts the skip's gradient from zero. -/
theorem out19_A (c : Dev nD) (t : Fin cfg0.N) (h : t.val % 32 = 0) (l : Fin 128) :
    (outsAt0 m c t.val t.isLt).2.2.2.2.2.2.1 (ix3 0 0 l)
      = 0 + ∑ j : Fin 128, dskip (aG m c) (aZ m c) (aY m c) (aN m c) (aX m c) (row t.val j) (grp t.val) l := by
  rw [Gen.outsAt0_A m c t h]
  frame_out
  refine (dskip_step m c t k0_pay3 l).trans ?_
  unfold k0_pay3
  pointwise

/-- A later point adds to what the point before left. -/
theorem out19_B (c : Dev nD) (t : Fin cfg0.N) (h : ¬ t.val % 32 = 0) (l : Fin 128) :
    (outsAt0 m c t.val t.isLt).2.2.2.2.2.2.1 (ix3 0 0 l)
      = (outsAt0 m c (t.val - 1) (by omega)).2.2.2.2.2.2.1 (ix3 0 0 l)
        + ∑ j : Fin 128, dskip (aG m c) (aZ m c) (aY m c) (aN m c) (aX m c) (row t.val j) (grp t.val) l := by
  rw [Gen.outsAt0_B m c t h]
  frame_out
  exact dskip_step m c t _ l

/-- The first point of a group starts the gains' gradient from zero. -/
theorem out20_A (c : Dev nD) (t : Fin cfg0.N) (h : t.val % 32 = 0) (k : Fin 256) :
    (outsAt0 m c t.val t.isLt).2.2.2.2.2.2.2.1 (ix2 0 k) = 0 + ∑ j : Fin 128, dgain (aG m c) (aZ m c) (aY m c) (row t.val j) (grp t.val) k := by
  rw [Gen.outsAt0_A m c t h]
  frame_out
  refine (dgain_step m c t k0_pay4 k).trans ?_
  unfold k0_pay4
  pointwise

/-- A later point adds to what the point before left. -/
theorem out20_B (c : Dev nD) (t : Fin cfg0.N) (h : ¬ t.val % 32 = 0) (k : Fin 256) :
    (outsAt0 m c t.val t.isLt).2.2.2.2.2.2.2.1 (ix2 0 k)
      = (outsAt0 m c (t.val - 1) (by omega)).2.2.2.2.2.2.2.1 (ix2 0 k)
        + ∑ j : Fin 128, dgain (aG m c) (aZ m c) (aY m c) (row t.val j) (grp t.val) k := by
  rw [Gen.outsAt0_B m c t h]
  frame_out
  exact dgain_step m c t _ k

/-- Sums kept along a group's points, started at the first, are after the last the sums over all rows. -/
theorem kept {w : ℕ} (f : (n : ℕ) → n < cfg0.N → Fin w → EReal) (F : Fin 4096 → Fin 8 → Fin w → EReal)
    (hA : ∀ t : Fin cfg0.N, t.val % 32 = 0 → ∀ i, f t.val t.isLt i = 0 + ∑ j : Fin 128, F (row t.val j) (grp t.val) i)
    (hB : ∀ t : Fin cfg0.N, ¬ t.val % 32 = 0 → ∀ i, f t.val t.isLt i = f (t.val - 1) (by omega) i + ∑ j : Fin 128, F (row t.val j) (grp t.val) i)
    (t : Fin cfg0.N) (ht : t.val % 32 = 31) (i : Fin w) : f t.val t.isLt i = ∑ T, F T (grp t.val) i := by
  refine (Pipeline.eq_sum_of_reset_step_apply f 32 (fun _ => 0) (fun s i => ∑ j : Fin 128, F (row s j) (grp s) i) hA hB t i).trans ?_
  rw [ht, zero_add, ← Cert.Norm.sum_chunks, ← Finset.sum_range_reflect, ← Fin.sum_univ_eq_sum_range
    (fun s => ∑ j : Fin 128, F (row (32 * (t.val / 32) + (31 + 1 - 1 - s)) j) (grp (32 * (t.val / 32) + (31 + 1 - 1 - s))) i)]
  refine Finset.sum_congr rfl fun s _ => Finset.sum_congr rfl fun j _ => ?_
  congr 1
  · congr 1
    exact Fin.ext (by dsimp only; omega)
  · exact Fin.ext (by dsimp only; omega)

/-- The gradient at the gate's input. -/
def D16 (c : Dev nD) : S4096x2048.Idx → EReal := fun i =>
  dgate (aG m c) (aZ m c) (aY m c) (aN m c) (i 0) ⟨(i 1).val / 256, by have : (i 1).val < 2048 := (i 1).isLt; omega⟩ ⟨(i 1).val % 256, by omega⟩
/-- The gradient of the skip's weights, a group's four in the first lanes of a row. -/
def D19 (c : Dev nD) : S8x1x128.Idx → EReal := fun i => ∑ T, dskip (aG m c) (aZ m c) (aY m c) (aN m c) (aX m c) T (i 0) (i 2)
/-- The gradient of the gains. -/
def D20 (c : Dev nD) : S1x2048.Idx → EReal := fun i =>
  ∑ T, dgain (aG m c) (aZ m c) (aY m c) T ⟨(i 1).val / 256, by have : (i 1).val < 2048 := (i 1).isLt; omega⟩ ⟨(i 1).val % 256, by omega⟩

/-- The first result after the run. -/
theorem arr16 (c : Dev nD) : (dats m 0 c).arrAt 16 cfg0.N = D16 m c := by
  refine (dats m 0 c).arrAt_eq_of_covers 16 (D16 m c) (by decide +kernel) (fun t hf y => ?_)
  have h16 := (idx t).2.2.2.1
  blk_simp
  rw [after0_16]
  obtain ⟨a, b, rfl⟩ : ∃ (a : Fin 128) (b : Fin 256), y = ix2 a b := ⟨y 0, y 1, pair_eq (n := 128) (k := 256) y⟩
  refine (out16_at m c t a b).trans ?_
  unfold D16
  congr 1
  · exact Fin.ext (by blk_simp [h16]; dsimp only [row]; omega)
  · exact Fin.ext (by blk_simp [h16]; have := grp_val t; have := b.isLt; dsimp only; omega)
  · exact Fin.ext (by blk_simp [h16]; have := b.isLt; dsimp only; omega)

/-- The second result after the run. -/
theorem arr19 (c : Dev nD) : (dats m 0 c).arrAt 19 cfg0.N = D19 m c := by
  refine (dats m 0 c).arrAt_eq_of_covers 19 (D19 m c) (by decide +kernel) (fun t hf y => ?_)
  have h19 := (idx t).2.2.2.2.1.1
  have ht := (idx t).2.2.2.2.1.2 hf
  blk_simp
  rw [after0_19]
  obtain ⟨l, rfl⟩ : ∃ l : Fin 128, y = ix3 0 0 l := ⟨y 2, by
    funext a; fin_cases a
    · exact Subsingleton.elim (α := Fin 1) _ _
    · exact Subsingleton.elim (α := Fin 1) _ _
    · rfl⟩
  refine (kept (fun n h => fun l : Fin 128 => (outsAt0 m c n h).2.2.2.2.2.2.1 (ix3 0 0 l)) (dskip (aG m c) (aZ m c) (aY m c) (aN m c) (aX m c))
    (out19_A m c) (out19_B m c) t ht l).trans ?_
  unfold D19
  refine Finset.sum_congr rfl fun T _ => ?_
  congr 1
  · exact Fin.ext (by blk_simp [h19]; have := grp_val t; omega)
  · exact Fin.ext (by blk_simp [h19])

/-- The third result after the run. -/
theorem arr20 (c : Dev nD) : (dats m 0 c).arrAt 20 cfg0.N = D20 m c := by
  refine (dats m 0 c).arrAt_eq_of_covers 20 (D20 m c) (by decide +kernel) (fun t hf y => ?_)
  have h20 := (idx t).2.2.2.2.2.1
  have ht := (idx t).2.2.2.2.2.2 hf
  blk_simp
  rw [after0_20]
  obtain ⟨b, rfl⟩ : ∃ b : Fin 256, y = ix2 0 b := ⟨y 1, by rw [pair_eq (n := 1) (k := 256) y]; congr 1; exact Subsingleton.elim (α := Fin 1) _ _⟩
  refine (kept (fun n h => fun k : Fin 256 => (outsAt0 m c n h).2.2.2.2.2.2.2.1 (ix2 0 k)) (dgain (aG m c) (aZ m c) (aY m c))
    (out20_A m c) (out20_B m c) t ht b).trans ?_
  unfold D20
  refine Finset.sum_congr rfl fun T _ => ?_
  congr 1
  · exact Fin.ext (by blk_simp [h20]; have := grp_val t; have := b.isLt; dsimp only; omega)
  · exact Fin.ext (by blk_simp [h20]; have := b.isLt; dsimp only; omega)

/-- The run of the kernel, with its results named. -/
theorem run (ρ : Dev nD → PrngReg) : θ_run defs (onTc (τ := τ) (main (F := Ideal))) ⟨m, fun _ => 0, ρ⟩ fun r => ∀ c : Dev nD,
      r.2.mem ((c : Thread nD τ).loc main_v0_3) = D16 m c
      ∧ r.2.mem ((c : Thread nD τ).loc main_v0_6) = D19 m c
      ∧ r.2.mem ((c : Thread nD τ).loc main_v0_7) = D20 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun _ h c => ⟨(h c).2.2.2.1.trans (arr16 m c), (h c).2.2.2.2.2.2.1.trans (arr19 m c), (h c).2.2.2.2.2.2.2.1.trans (arr20 m c),
    (h c).2.2.2.2.2.2.2.2⟩) (Value.run_blocks m ρ)

/-- Under the precondition the gradient at the normed values is real. -/
theorem real (h : Cert.Pre_Kernel39Ideal_finite_gate m) (c : Dev nD) (T : Fin 4096) (g : Fin 8) (k : Fin 256) :
    Cert.Silu.IsReal (dnorm (aG m c) (aN m c) T g k) := by
  have h0 := congrFun (h c).1 (ix2 T (ch g k))
  have h1 := congrFun (h c).2 (ix2 0 (ch g k))
  simp only [Cert.Pre_finite_gate.fn] at h0 h1
  pointwise at h0
  pointwise at h1
  exact (Cert.Silu.IsReal.of_bit h0).mul (.of_bit h1)

end Cert.Kernel39Ideal.GateNorm

namespace Cert.GateNorm

open Cert.MatSum (pair_eq)
open Cert.Reference39Ideal Cert.Reference39Ideal.Gen Cert.Reference39Ideal.Read Idealize.ShloMosaic Idealize.ShloMosaic.TcCoe Idealize.SL.Sem

variable (x0 x2 x3 : (⟨S4096x2048, .f32⟩ : BufTy).Contents (Elt Ideal)) (x1 : (⟨S4096x4096, .f32⟩ : BufTy).Contents (Elt Ideal))
  (x10 : (⟨S1x2048, .f32⟩ : BufTy).Contents (Elt Ideal)) (T : Fin 4096) (g : Fin 8) (k : Fin 256)

/-- The reference's gated values, in groups. -/
theorem gated_ref : val_main_v2 x2 x3 (ix3 T g k) = gated x2 x3 T g k := by
  simp only [val_main_v2, val_main_v1, val_main_v0_0, val_main_v0_2, val_main_call0_v4, val_main_call0_cst_0, val_main_call0_v3, val_main_call0_v2,
    val_main_call0_cst, val_main_call0_v1, val_main_call0_v0]
  pointwise
  rfl

/-- The reference's mean squares. -/
theorem square_ref : val_main_v9 x2 x3 (ix3 T g 0) = Cert.Norm.squareOf width (gated x2 x3 T g) := by
  have e := gated_ref x2 x3 T g
  simp only [val_main_v9, val_main_v8, val_main_cst_1, val_main_v7, val_main_v6, val_main_cst_0, val_main_v5, val_main_v4, val_main_cst, val_main_v3]
  generalize val_main_v2 x2 x3 = A at *
  pointwise
  simp only [e]
  rfl

/-- The reference's inverse roots. -/
theorem inv_ref : val_main_v10 x2 x3 (ix3 T g 0) = inv x2 x3 T g := by
  have e := square_ref x2 x3 T g
  simp only [val_main_v10]
  generalize val_main_v9 x2 x3 = A at *
  pointwise
  rw [e]
  rfl

/-- The reference's gradient at the normed values. -/
theorem dnorm_ref : val_main_v26 x0 x10 (ix3 T g k) = dnorm x0 x10 T g k := by
  simp only [val_main_v26, val_main_v25, val_main_v21, val_main_v17, val_main_v16]
  pointwise
  rfl

/-- The reference's gradient at the gated values. -/
theorem dgated_ref : val_main_v42 x0 x2 x3 x10 (ix3 T g k) = dgated x0 x2 x3 x10 T g k := by
  have e := gated_ref x2 x3 T g
  have e' := inv_ref x2 x3 T g
  have e'' := dnorm_ref x0 x10 T g
  have e9 := square_ref x2 x3 T g
  simp only [val_main_v42, val_main_v41, val_main_v40, val_main_v39, val_main_v38, val_main_v37, val_main_cst_7, val_main_v36, val_main_v35,
    val_main_cst_6, val_main_v34, val_main_v33, val_main_v32, val_main_v31, val_main_v30, val_main_cst_5, val_main_v29, val_main_v13, val_main_v12,
    val_main_cst_2, val_main_v11]
  generalize val_main_v2 x2 x3 = A at *
  generalize val_main_v26 x0 x10 = C at *
  generalize val_main_v10 x2 x3 = B at *
  generalize val_main_v9 x2 x3 = D at *
  pointwise
  simp only [Fin.sum_univ_one, e, e', e'', e9]
  exact Cert.Norm.gradOf (by norm_num) width_eq (gated x2 x3 T g) (dnorm x0 x10 T g) k

/-- A channel is the one of its group at its place. -/
theorem ch_split (q : Fin 2048) : ch ⟨q.val / 256, by omega⟩ ⟨q.val % 256, by omega⟩ = q := Fin.ext (by dsimp only; omega)

/-- The reference's gradient at the gate's input. -/
theorem dgate_ref (hd : ∀ T g k, Cert.Silu.IsReal (dnorm x0 x10 T g k)) (q : Fin 2048) :
    val_main_v65 x0 x2 x3 x10 (ix2 T q) = dgate x0 x2 x3 x10 T ⟨q.val / 256, by omega⟩ ⟨q.val % 256, by omega⟩ := by
  have e := dgated_ref x0 x2 x3 x10 T ⟨q.val / 256, by omega⟩ ⟨q.val % 256, by omega⟩
  rw [← dgate_eq x0 x2 x3 x10 hd, ch_split, ← e]
  simp only [val_main_v65, val_main_v46, val_main_call1_v2, val_main_call1_v1, val_main_call1_v0, val_main_v44, val_main_v43, val_main_v0_1,
    val_main_call0_v7, val_main_call0_v6, val_main_call0_cst_1, val_main_v0_2, val_main_call0_v4, val_main_call0_cst_0, val_main_call0_v3,
    val_main_call0_v2, val_main_call0_cst, val_main_call0_v1, val_main_call0_v0]
  generalize val_main_v42 x0 x2 x3 x10 = A at *
  pointwise
  rfl

/-- The reference's gradient of the gains. -/
theorem dgain_ref (q : Fin 2048) :
    val_main_v28 x0 x2 x3 (ix2 0 q) = ∑ T, dgain x0 x2 x3 T ⟨q.val / 256, by omega⟩ ⟨q.val % 256, by omega⟩ := by
  have e := gated_ref x2 x3
  have e' := inv_ref x2 x3
  simp only [val_main_v28, val_main_v27, val_main_cst_4, val_main_v24, val_main_v23, val_main_cst_3, val_main_v22, val_main_v21, val_main_v15,
    val_main_v14]
  generalize val_main_v2 x2 x3 = A at *
  generalize val_main_v10 x2 x3 = B at *
  pointwise
  simp only [Finset.univ_unique, Finset.sum_const, Finset.card_singleton, one_smul]
  refine Finset.sum_congr rfl fun T _ => ?_
  rw [e, e', dgain, ch_split]
  exact mul_comm _ _

/-- The reference's gradient at the scan's output. -/
theorem dscan_ref : val_main_v45 x0 x2 x3 x10 (ix2 T (ch g k)) = dscan x0 x2 x3 x10 T g k := by
  have e := dgated_ref x0 x2 x3 x10 T g k
  simp only [val_main_v45, val_main_v43, val_main_v0_0, val_main_v0_2, val_main_call0_v4, val_main_call0_cst_0, val_main_call0_v3,
    val_main_call0_v2, val_main_call0_cst, val_main_call0_v1, val_main_call0_v0]
  generalize val_main_v42 x0 x2 x3 x10 = A at *
  pointwise
  have h1 : (⟨(g.val * 256 + k.val) / 256, by omega⟩ : Fin 8) = g := Fin.ext (by dsimp only; omega)
  have h2 : (⟨(g.val * 256 + k.val) % 256, by omega⟩ : Fin 256) = k := Fin.ext (by dsimp only; omega)
  rw [h1, h2, e]
  rfl

/-- A sum over the first and the last axis of four. -/
theorem sum_outer {n0 n1 n2 n3 : ℕ} (h : (⟨4, ![n0, n1, n2, n3]⟩ : Shape).ReducesTo [0, 3] ⟨2, ![n1, n2]⟩)
    (v : (⟨4, ![n0, n1, n2, n3]⟩ : Shape).Idx → EReal) (z : EReal) (a : Fin n1) (b : Fin n2) :
    Ideal.hostReduceAdd h v z (ix2 a b) = z + ∑ k : Fin n0, ∑ j : Fin n3, v (ix4 k a b j) := by
  refine congrArg (z + ·) ?_
  refine (Finset.sum_filter_eq_sum_of_fiber _ (fun k : Fin n0 × Fin n3 => ix4 k.1 a b k.2)
    (fun _ _ e => Prod.ext (congrFun e 0) (congrFun e 3)) (fun i => ⟨fun e => ⟨(i 0, i 3), ?_⟩, ?_⟩) v).trans ?_
  · funext q
    apply Fin.ext
    match q with
    | ⟨0, _⟩ => rfl
    | ⟨1, _⟩ => exact (congrArg Fin.val (congrFun e 0)).symm
    | ⟨2, _⟩ => exact (congrArg Fin.val (congrFun e 1)).symm
    | ⟨3, _⟩ => rfl
  · rintro ⟨k, rfl⟩
    funext q
    apply Fin.ext
    match q with
    | ⟨0, _⟩ => rfl
    | ⟨1, _⟩ => rfl
  · simp only [Fintype.sum_prod_type]

/-- The reference's gradient of the skip's weights. -/
theorem dskip_ref (l : Fin 128) : val_main_v66 x0 x1 x2 x3 x10 (ix3 g 0 l) = ∑ T, dskip x0 x2 x3 x10 x1 T g l := by
  have e := dscan_ref x0 x2 x3 x10
  simp only [val_main_v66, val_main_v64, val_main_v63, val_main_cst_10, val_main_v62, val_main_v61, val_main_v60, val_main_v59, val_main_cst_9,
    val_main_v58, val_main_v57, val_main_cst_8, val_main_v56, val_main_v55, val_main_v50, val_main_v48]
  generalize val_main_v45 x0 x2 x3 x10 = A at *
  pointwise
  by_cases h : l.val < 4
  · rw [dif_pos h]
    rw [sum_outer]
    pointwise
    rw [sum_outer]
    pointwise
    simp only [Finset.univ_unique, Finset.sum_singleton]
    refine Finset.sum_congr rfl fun T _ => ?_
    rw [dskip, dif_pos h]
    refine Finset.sum_congr rfl fun j _ => ?_
    have hc : (⟨g.val * 256 + l.val * 64 + j.val, by omega⟩ : Fin 2048) = ch g ⟨64 * l.val + j.val, by omega⟩ := Fin.ext (by dsimp only; omega)
    have hx : (⟨g.val * 256 + l.val * 64 + j.val, by omega⟩ : Fin 4096) = xch g ⟨64 * l.val + j.val, by omega⟩ := Fin.ext (by dsimp only; omega)
    exact congrArg₂ (· * ·) ((congrArg (fun q => A (ix2 T q)) hc).trans (e T g _)) (congrArg (fun q => x1 (ix2 T q)) hx)
  · simp only [dif_neg h, dskip, Finset.sum_const_zero]

/-- The reference leaves its arguments as they were and every counter at zero. -/
theorem frame_ri : Cert.quiescent_Reference39Ideal := fun m ρ _ =>
  (θ_run Cert.Reference39Ideal.defs _ _).mono (fun r h => ⟨fun c => (h c).2.2.2, sem_eq_zero_of_no_sems (by decide) r.2⟩)
    (Cert.Reference39Ideal.Value.run (F := Ideal) m ρ)

/-- The call and the derivative give the same gradients. -/
theorem algebraic : Cert.algebraic_Kernel39Ideal_Reference39Ideal_pre_finite_gate := by
  pair_intro
  · run_from Cert.Kernel39Ideal.GateNorm.run m g
  · refine Idealize.ShloMosaic.θ_run_mono (Cert.Reference39Ideal.Value.run (F := Ideal) m' g') ?_
    intro r hr c
    have hreal := Cert.Kernel39Ideal.GateNorm.real m hpre c
    refine ⟨(hr c).1.trans ?_, (hr c).2.1.trans ?_, (hr c).2.2.1.trans ?_, (hr c).2.2.2⟩ <;> clear hr r
    · rw [val_main_v65_eq]
      simp only [hagree c]
      funext i
      rw [pair_eq (n := 4096) (k := 2048) i]
      exact dgate_ref _ _ _ _ _ hreal _
    · rw [val_main_v66_eq]
      simp only [hagree c]
      funext i
      obtain ⟨a, l, rfl⟩ : ∃ (a : Fin 8) (l : Fin 128), i = ix3 a 0 l := ⟨i 0, i 2, by
        funext q; fin_cases q
        · rfl
        · exact Subsingleton.elim (α := Fin 1) _ _
        · rfl⟩
      exact dskip_ref _ _ _ _ _ _ _
    · refine (val_main_v28_eq _ _ _).trans ?_
      simp only [hagree c]
      funext i
      obtain ⟨q, rfl⟩ : ∃ q : Fin 2048, i = ix2 0 q := ⟨i 1, by
        rw [pair_eq (n := 1) (k := 2048) i]; congr 1; exact Subsingleton.elim (α := Fin 1) _ _⟩
      exact dgain_ref _ _ _ _

end Cert.GateNorm

end
-- ==== Proof.RmsValue.lean ====
module

public import proofs.«01_k».proof.Defs
public import proofs.«01_k».proof.Proof.Gen.Kernel42Ideal.Value
public import proofs.«01_k».proof.Proof.Gen.Reference42Ideal.Run
public import proofs.«01_k».proof.Proof.Norm

@[expose] public section

set_option maxRecDepth 16384

noncomputable section

/-! A norm: each row over the root of its mean square, times the gains. -/

namespace Cert.Kernel42Ideal.RmsValue

open Cert.Kernel42Ideal Cert.Kernel42Ideal.Gen Idealize.ShloMosaic Idealize.ShloMosaic.TcCoe Idealize.SL.Sem
open Idealize.ShloMosaic.Pipeline (Dat)
open Cert.MatSum (pair_eq)

variable (m : (ℓ : Loc nD τ sig) → Buf (Elt Ideal) ℓ)

/-- Where each window lies at each grid point. -/
theorem idx : ∀ t : Fin cfg0.N, win0_0.index t = ![t.val, 0] ∧ win0_1.index t = ![0, 0] ∧ win0_2.index t = ![t.val, 0] := by
  decide +kernel

/-- The norm's input. -/
abbrev aX (c : Dev nD) : S4096x1024.Idx → EReal := m ((c : Thread nD τ).loc main_arg0)
/-- The gains. -/
abbrev aG (c : Dev nD) : S1x1024.Idx → EReal := m ((c : Thread nD τ).loc main_arg1)

/-- The grid has eight points. -/
theorem lt8 (t : Fin cfg0.N) : t.val < 8 := lt_of_lt_of_eq t.isLt N_0

/-- A row of the arrays, from a point's row. -/
abbrev row (t : Fin cfg0.N) (r : Fin 512) : Fin 4096 := ⟨512 * t.val + r.val, by have := lt8 t; omega⟩

/-- A point's block of the input is a piece of the array. -/
theorem blk0 (c : Dev nD) (t : Fin cfg0.N) (r : Fin 512) (q : Fin 1024) : (iblk m c 0 t : S512x1024.Idx → EReal) (ix2 r q) = aX m c (ix2 (row t r) q) := by
  have h := (idx t).1
  rw [aX, ← V_main_arg0 m c]; blk_ext [iblk, h]

/-- A point's gains are the gains. -/
theorem blk1 (c : Dev nD) (t : Fin cfg0.N) (q : Fin 1024) : (iblk m c 1 t : S1x1024.Idx → EReal) (ix2 0 q) = aG m c (ix2 0 q) := by
  have h := (idx t).2.1
  rw [aG, ← V_main_arg1 m c]; blk_ext [iblk, h]

/-- The norm. -/
def D (c : Dev nD) : S4096x1024.Idx → EReal := fun i =>
  aX m c i * (Cert.Norm.inv fun k => aX m c (ix2 (i 0) k)) * aG m c (ix2 0 (i 1))

/-- What a point writes. -/
theorem out2_at (c : Dev nD) (t : Fin cfg0.N) (r : Fin 512) (q : Fin 1024) :
    out0_2 (iblk m c 0 t) (iblk m c 1 t) (ix2 r q) = D m c (ix2 (row t r) q) := by
  frame_out
  unfold k0_pay1
  pointwise
  simp only [blk0, blk1]
  rfl

/-- The norm after the run. -/
theorem arr2 (c : Dev nD) : (dats m 0 c).arrAt 2 cfg0.N = D m c := by
  refine (dats m 0 c).arrAt_eq_of_covers 2 (D m c) (by decide +kernel) (fun t _ y => ?_)
  blk_simp
  rw [after0_2]
  obtain ⟨a, b, rfl⟩ : ∃ (a : Fin 512) (b : Fin 1024), y = ix2 a b := ⟨y 0, y 1, pair_eq (n := 512) (k := 1024) y⟩
  refine (out2_at m c t a b).trans ?_
  have h2 := (idx t).2.2
  congr 1
  blk_ext [h2]

/-- The run of the kernel, with its result named. -/
theorem run (ρ : Dev nD → PrngReg) : θ_run defs (onTc (τ := τ) (main (F := Ideal))) ⟨m, fun _ => 0, ρ⟩ fun r => ∀ c : Dev nD,
      r.2.mem ((c : Thread nD τ).loc main_v0) = D m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (arr2 m c), (h c).2⟩) (Value.run_blocks m ρ)

end Cert.Kernel42Ideal.RmsValue

namespace Cert.RmsValue

open Idealize.ShloMosaic Idealize.ShloMosaic.TcCoe Idealize.SL.Sem

/-- The reference leaves its arguments as they were and every counter at zero. -/
theorem frame_ri : Cert.quiescent_Reference42Ideal := fun m ρ _ =>
  (θ_run Cert.Reference42Ideal.defs _ _).mono (fun r h => ⟨fun c => (h c).2, sem_eq_zero_of_no_sems (by decide) r.2⟩)
    (Cert.Reference42Ideal.Value.run (F := Ideal) m ρ)

/-- The call and the norm written plainly give the same array. -/
theorem algebraic : Cert.algebraic_Kernel42Ideal_Reference42Ideal := by
  pair_intro
  · run_from Cert.Kernel42Ideal.RmsValue.run m g
  · run_from Cert.Reference42Ideal.Value.run (F := Ideal) m' g'
    funext i
    obtain ⟨a, b, rfl⟩ : ∃ (a : Fin 4096) (b : Fin 1024), i = ix2 a b := ⟨i 0, i 1, Cert.MatSum.pair_eq (n := 4096) (k := 1024) i⟩
    pointwise
    rfl

end Cert.RmsValue

end
-- ==== Proof.SpaceConvValue.lean ====
module

public import proofs.«01_k».proof.Defs
public import proofs.«01_k».proof.Proof.Gen.Kernel44Ideal.Value
public import proofs.«01_k».proof.Proof.Gen.Reference44Ideal.Run
public import proofs.«01_k».proof.Proof.SpaceConv

@[expose] public section

set_option maxRecDepth 16384

noncomputable section

/-! The state-space layer's convolution with its bias, before and after the silu. -/

namespace Cert.Kernel44Ideal.SpaceConvValue

open Cert.Kernel44Ideal Cert.Kernel44Ideal.Gen Idealize.ShloMosaic Idealize.ShloMosaic.TcCoe Idealize.SL.Sem
open Idealize.ShloMosaic.Pipeline (Dat)
open Cert.ConvGrad (row_congr pair_eq sel_slt sel_sgt)
open Cert.SpaceConv (back back_of_le)

variable (m : (ℓ : Loc nD τ sig) → Buf (Elt Ideal) ℓ)

/-- Where each window lies at each grid point. -/
theorem idx : ∀ t : Fin cfg0.N, win0_0.index t = ![t.val, 0] ∧ win0_1.index t = ![32 * t.val - 1, 0] ∧ win0_2.index t = ![0, 0]
    ∧ win0_3.index t = ![0, 0] ∧ win0_4.index t = ![t.val, 0] ∧ win0_5.index t = ![t.val, 0] := by
  decide +kernel

/-- The grid has sixteen points. -/
theorem lt16 (t : Fin cfg0.N) : t.val < 16 := lt_of_lt_of_eq t.isLt N_0

/-- The point's coordinate is its number. -/
theorem coord (t : Fin cfg0.N) : (grid0.coords t 0).val = t.val := by
  revert t; decide +kernel

/-- The convolution's input. -/
abbrev aX (c : Dev nD) : S4096x4096.Idx → EReal := m ((c : Thread nD τ).loc main_arg0)
/-- The convolution's weights. -/
abbrev aW (c : Dev nD) : S4x4096.Idx → EReal := m ((c : Thread nD τ).loc main_arg1)
/-- The bias. -/
abbrev aB (c : Dev nD) : S1x4096.Idx → EReal := m ((c : Thread nD τ).loc main_arg2)

/-- A row of the arrays, from a point's row. -/
abbrev row (t : Fin cfg0.N) (r : Fin 256) : Fin 4096 := ⟨256 * t.val + r.val, by have := lt16 t; omega⟩

/-- A block of the input. -/
theorem blk0 (c : Dev nD) (t : Fin cfg0.N) (r : Fin 256) (k : Fin 4096) : (iblk m c 0 t : S256x4096.Idx → EReal) (ix2 r k) = aX m c (ix2 (row t r) k) := by
  rw [aX, ← V_main_arg0 m c]
  blk_ext [iblk, (idx t).1]
/-- The eight rows of the input before a block, or the array's first eight. -/
theorem blk1 (c : Dev nD) (t : Fin cfg0.N) (r : Fin 8) (k : Fin 4096) :
    (iblk m c 1 t : S8x4096.Idx → EReal) (ix2 r k) = aX m c (ix2 ⟨8 * (32 * t.val - 1) + r.val, by have := lt16 t; omega⟩ k) := by
  rw [aX, ← V_main_arg0 m c]
  blk_ext [iblk, (idx t).2.1]
/-- The weights, whole at every point. -/
theorem blk2 (c : Dev nD) (t : Fin cfg0.N) (r : Fin 4) (k : Fin 4096) : (iblk m c 2 t : S4x4096.Idx → EReal) (ix2 r k) = aW m c (ix2 r k) := by
  rw [aW, ← V_main_arg1 m c]
  blk_ext [iblk, (idx t).2.2.1]
/-- The bias, whole at every point. -/
theorem blk3 (c : Dev nD) (t : Fin cfg0.N) (k : Fin 4096) : (iblk m c 3 t : S1x4096.Idx → EReal) (ix2 0 k) = aB m c (ix2 0 k) := by
  rw [aB, ← V_main_arg2 m c]
  blk_ext [iblk, (idx t).2.2.2.1]

/-- The eight rows before the block: zero before the first row. -/
theorem prev_block (c : Dev nD) (t : Fin cfg0.N) (P : FVec Ideal S8x4096 .f32) (hP : ∀ r q, P (ix2 r q) = (iblk m c 1 t : S8x4096.Idx → EReal) (ix2 r q))
    (r : Fin 8) (q : Fin 4096) : k0_pay3 (F := Ideal) (grid0.coords t) P (ix2 r q) = back (aX m c) (8 - r.val) (256 * t.val) q := by
  have ht := lt16 t
  unfold k0_pay3
  pointwise
  rw [coord, show Scalar.cmpi = @IntOp.cmpi 32 from rfl, sel_sgt _ _ (by omega) (by omega), hP, blk1]
  by_cases h : 0 < t.val
  · rw [if_pos h, back_of_le _ _ (by omega) (by omega)]
    exact row_congr _ (by omega) _ _ _
  · rw [if_neg h]
    exact (if_neg (by omega)).symm

/-- The input `s` rows before a row of the block, from the block and the eight rows before. -/
theorem back_block (c : Dev nD) (t : Fin cfg0.N) (s : ℕ) (hs : s ≤ 8) (r : Fin 256) (q : Fin 4096) (B : FVec Ideal S8x4096 .f32) (X : FVec Ideal S256x4096 .f32)
    (hB : ∀ r q, B (ix2 r q) = back (aX m c) (8 - r.val) (256 * t.val) q) (hX : ∀ r q, X (ix2 r q) = aX m c (ix2 (row t r) q)) :
    (if h : r.val < s then B (ix2 ⟨r.val + 8 - s, by omega⟩ q) else X (ix2 ⟨r.val - s, by omega⟩ q)) = back (aX m c) s (256 * t.val + r.val) q := by
  have ht := lt16 t
  by_cases h : r.val < s
  · rw [dif_pos h, hB]
    by_cases h0 : t.val = 0
    · exact (if_neg (by dsimp only; omega)).trans (if_neg (by omega)).symm
    · rw [back_of_le _ _ (by dsimp only; omega) (by dsimp only; omega), back_of_le _ _ (by omega) (by omega)]
      exact row_congr _ (by dsimp only; omega) _ _ _
  · rw [dif_neg h, hX, back_of_le _ _ (by omega) (by omega)]
    exact row_congr _ (by dsimp only; omega) _ _ _

/-- The convolution of a block with its bias: the first rows take the last of the rows before. -/
theorem conv (i : grid0.Coords) (X : FVec Ideal S256x4096 .f32) (P : FVec Ideal S8x4096 .f32) (b w0 w1 w2 w3 : FVec Ideal S1x4096 .f32)
    (B : FVec Ideal S8x4096 .f32) (hB : k0_pay3 (F := Ideal) i P = B) (r : Fin 256) (q : Fin 4096) :
    k0_pay1 X (k0_pay4 i X P b w0 w1) w2 (iota .tc S256x4096 32 [0] iota_S256x4096_d0_w32) (k0_pay5 i P) (Scalar.ofBits .f32 0x00000000#32) w3 (ix2 r q)
      = b (ix2 0 q) + w0 (ix2 0 q) * (if h : r.val < 3 then B (ix2 ⟨r.val + 8 - 3, by omega⟩ q) else X (ix2 ⟨r.val - 3, by omega⟩ q))
        + w1 (ix2 0 q) * (if h : r.val < 2 then B (ix2 ⟨r.val + 8 - 2, by omega⟩ q) else X (ix2 ⟨r.val - 2, by omega⟩ q))
        + w2 (ix2 0 q) * (if h : r.val < 1 then B (ix2 ⟨r.val + 8 - 1, by omega⟩ q) else X (ix2 ⟨r.val - 1, by omega⟩ q))
        + w3 (ix2 0 q) * X (ix2 r q) := by
  unfold k0_pay1 k0_pay4 k0_pay5
  dsimp only
  rw [hB]
  pointwise
  rw [sel_slt _ _ (by omega) (by omega), sel_slt _ _ (by omega) (by omega), sel_slt _ _ (by omega) (by omega)]
  refine congrArg (· + _) (congrArg₂ (· + ·) (congrArg₂ (· + ·) (congrArg (fun z : EReal => b (ix2 0 q) + w0 (ix2 0 q) * z) ?_)
    (congrArg (fun z : EReal => w1 (ix2 0 q) * z) ?_)) (congrArg (fun z : EReal => w2 (ix2 0 q) * z) ?_))
  · by_cases h : r.val < 3
    · rw [if_pos h, dif_pos h, dif_pos (show r.val < 8 by omega)]
      exact row_congr B (by omega) _ _ _
    · rw [if_neg h, dif_neg h]
      exact row_congr X (by omega) _ _ _
  · by_cases h : r.val < 2
    · rw [if_pos h, dif_pos h, dif_pos (show r.val < 8 by omega)]
      exact row_congr B (by omega) _ _ _
    · rw [if_neg h, dif_neg h]
      exact row_congr X (by omega) _ _ _
  · by_cases h : r.val < 1
    · rw [if_pos h, dif_pos h, dif_pos (show r.val < 8 by omega)]
      exact row_congr B (by omega) _ _ _
    · rw [if_neg h, dif_neg h]
      exact row_congr X (by omega) _ _ _

/-- The convolution with its bias. -/
def pre (c : Dev nD) : S4096x4096.Idx → EReal := fun i =>
  aB m c (ix2 0 (i 1)) + aW m c (ix2 0 (i 1)) * back (aX m c) 3 (i 0).val (i 1) + aW m c (ix2 1 (i 1)) * back (aX m c) 2 (i 0).val (i 1)
    + aW m c (ix2 2 (i 1)) * back (aX m c) 1 (i 0).val (i 1) + aW m c (ix2 3 (i 1)) * aX m c i

/-- The same after the silu. -/
def act (c : Dev nD) : S4096x4096.Idx → EReal := fun i => pre m c i * Ideal.logistic (pre m c i)

/-- The convolution at a point, with its bias. -/
theorem pre_at (c : Dev nD) (t : Fin cfg0.N) (r : Fin 256) (q : Fin 4096) :
    out0_4 (grid0.coords t) (iblk m c 0 t) (iblk m c 1 t) (iblk m c 2 t) (iblk m c 3 t) (ix2 r q) = pre m c (ix2 (row t r) q) := by
  unfold_out out0_4
  frame_out
  refine (conv _ _ _ _ _ _ _ _ _ rfl r q).trans ?_
  have hP := prev_block m c t (iblk m c 1 t) fun _ _ => rfl
  have hX := blk0 m c t
  let mul : EReal → EReal → EReal := fun x y => x * y
  let add : EReal → EReal → EReal := fun x y => x + y
  refine congrArg₂ add (congrArg₂ add (congrArg₂ add (congrArg₂ add ?_
    (congrArg₂ mul ?_ (back_block m c t 3 (by omega) r q _ _ hP hX))) (congrArg₂ mul ?_ (back_block m c t 2 (by omega) r q _ _ hP hX)))
    (congrArg₂ mul ?_ (back_block m c t 1 (by omega) r q _ _ hP hX))) (congrArg₂ mul ?_ (hX r q))
  · exact blk3 m c t q
  · pointwise; exact blk2 m c t 0 q
  · pointwise; exact blk2 m c t 1 q
  · pointwise; exact blk2 m c t 2 q
  · pointwise; exact blk2 m c t 3 q

/-- The silu of the convolution at a point. -/
theorem act_at (c : Dev nD) (t : Fin cfg0.N) (r : Fin 256) (q : Fin 4096) :
    out0_5 (grid0.coords t) (iblk m c 0 t) (iblk m c 1 t) (iblk m c 2 t) (iblk m c 3 t) (ix2 r q) = act m c (ix2 (row t r) q) := by
  have e := pre_at m c t r q
  frame_out at e
  frame_out
  unfold k0_pay2
  generalize k0_pay1 (F := Ideal) _ _ _ _ _ _ _ = A at *
  pointwise
  rw [e, Cert.Silu.quotient_zero_sub]
  rfl

/-- The convolution after the run. -/
theorem arr4 (c : Dev nD) : (dats m 0 c).arrAt 4 cfg0.N = pre m c := by
  refine (dats m 0 c).arrAt_eq_of_covers 4 (pre m c) (by decide +kernel) (fun t _ y => ?_)
  blk_simp
  rw [after0_4]
  obtain ⟨a, b, rfl⟩ : ∃ (a : Fin 256) (b : Fin 4096), y = ix2 a b := ⟨y 0, y 1, pair_eq (n := 256) (k := 4096) y⟩
  refine (pre_at m c t a b).trans ?_
  have h2 := (idx t).2.2.2.2.1
  congr 1
  blk_ext [h2]

/-- Its silu after the run. -/
theorem arr5 (c : Dev nD) : (dats m 0 c).arrAt 5 cfg0.N = act m c := by
  refine (dats m 0 c).arrAt_eq_of_covers 5 (act m c) (by decide +kernel) (fun t _ y => ?_)
  blk_simp
  rw [after0_5]
  obtain ⟨a, b, rfl⟩ : ∃ (a : Fin 256) (b : Fin 4096), y = ix2 a b := ⟨y 0, y 1, pair_eq (n := 256) (k := 4096) y⟩
  refine (act_at m c t a b).trans ?_
  have h2 := (idx t).2.2.2.2.2
  congr 1
  blk_ext [h2]

/-- The run of the kernel, with its results named. -/
theorem run (ρ : Dev nD → PrngReg) : θ_run defs (onTc (τ := τ) (main (F := Ideal))) ⟨m, fun _ => 0, ρ⟩ fun r => ∀ c : Dev nD,
      r.2.mem ((c : Thread nD τ).loc main_v0_0) = pre m c
      ∧ r.2.mem ((c : Thread nD τ).loc main_v0_1) = act m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (arr4 m c), (h c).2.1.trans (arr5 m c), (h c).2.2⟩) (Value.run_blocks m ρ)

end Cert.Kernel44Ideal.SpaceConvValue

namespace Cert.SpaceConvValue

open Idealize.ShloMosaic Idealize.ShloMosaic.TcCoe Idealize.SL.Sem
open Cert.ConvGrad (row_congr pair_eq)
open Cert.SpaceConv (back back_of_le)
open Cert.Kernel44Ideal.SpaceConvValue (aX aW aB pre act)

/-- The reference leaves its arguments as they were and every counter at zero. -/
theorem frame_ri : Cert.quiescent_Reference44Ideal := fun m ρ _ =>
  (θ_run Cert.Reference44Ideal.defs _ _).mono (fun r h => ⟨fun c => (h c).2.2, sem_eq_zero_of_no_sems (by decide) r.2⟩)
    (Cert.Reference44Ideal.Value.run (F := Ideal) m ρ)

/-- A row of the input with three rows of zeros put in front. -/
theorem padded (x : (⟨2, ![4096, 4096]⟩ : Shape).Idx → EReal) (s n T : ℕ) (q : Fin 4096) (hn : n + s = T + 3) (hs : s ≤ 3) (hT : T < 4096)
    (hb : ¬ n < 3 → n - 3 < 4096) : (if h : n < 3 then (0 : EReal) else x (ix2 ⟨n - 3, hb h⟩ q)) = back x s T q := by
  by_cases h : n < 3
  · unfold back
    rw [dif_pos h, if_neg (by omega)]
  · rw [dif_neg h, back_of_le _ _ (by omega) (by omega)]
    exact row_congr _ (by omega) _ _ _

/-- The bias may be added last or first. -/
theorem bias_first (x y z w b : EReal) : x + y + z + w + b = b + x + y + z + w := by
  rw [add_comm, ← add_assoc, ← add_assoc, ← add_assoc]

/-- The call and the convolution written plainly give the same arrays, before and after the silu. -/
theorem algebraic : Cert.algebraic_Kernel44Ideal_Reference44Ideal := by
  pair_intro
  · run_from Cert.Kernel44Ideal.SpaceConvValue.run m g
  · refine Idealize.ShloMosaic.θ_run_mono (Cert.Reference44Ideal.Value.run (F := Ideal) m' g') ?_
    intro r hr c
    have h1 := (hr c).1
    have first : r.2.mem ((c : Thread Cert.Reference44Ideal.nD Cert.Reference44Ideal.τ).loc Cert.Reference44Ideal.main_v32) = pre m c := by
      refine h1.trans ?_
      clear h1 hr
      simp only [hagree c]
      funext i
      obtain ⟨a, b, rfl⟩ : ∃ (a : Fin 4096) (b : Fin 4096), i = ix2 a b := ⟨i 0, i 1, pair_eq (n := 4096) (k := 4096) i⟩
      have h := a.isLt
      pointwise
      rw [(hagree c).1]
      rw [padded (aX m c) 3 a.val a.val b (by omega) (by omega) h fun _ => by omega,
        padded (aX m c) 2 (1 + a.val) a.val b (by omega) (by omega) h fun _ => by omega,
        padded (aX m c) 1 (2 + a.val) a.val b (by omega) (by omega) h fun _ => by omega]
      exact bias_first _ _ _ _ _
    refine ⟨first, (hr c).2.1.trans ?_, (hr c).2.2⟩
    unfold Cert.Reference44Ideal.Value.res_main_v33
    rw [← h1, first]
    funext i
    pointwise
    rfl

end Cert.SpaceConvValue

end
-- ==== Proof.StepValue.lean ====
module

public import proofs.«01_k».proof.Defs
public import proofs.«01_k».proof.Proof.Gen.Kernel45Ideal.Value
public import proofs.«01_k».proof.Proof.Gen.Reference45Ideal.Run
public import proofs.«01_k».proof.Proof.StepSizes

@[expose] public section

set_option maxRecDepth 16384

noncomputable section

/-! The state-space layer's step sizes and their sums along each chunk, by columns and by rows. -/

namespace Cert.StepValue

open Idealize.ShloMosaic

/-- The sum over what comes before and the place itself, by distance or by place. -/
theorem sum_earlier (f : Fin 128 → EReal) (i : Fin 128) :
    ∑ k : Fin 128, (if h : 127 ≤ i.val + k.val then f ⟨i.val + k.val - 127, by omega⟩ else 0) = ∑ j : Fin 128, if j ≤ i then f j else 0 := by
  let F : ℕ → EReal := fun n => if h : n < 128 then f ⟨n, h⟩ else 0
  have hl : ∑ k : Fin 128, (if h : 127 ≤ i.val + k.val then f ⟨i.val + k.val - 127, by omega⟩ else 0)
      = ∑ k ∈ Finset.range 128, if 127 ≤ i.val + k then F (i.val + k - 127) else 0 := by
    rw [Finset.sum_range fun k => if 127 ≤ i.val + k then F (i.val + k - 127) else 0]
    refine Finset.sum_congr rfl fun k _ => ?_
    by_cases h : 127 ≤ i.val + k.val
    · rw [dif_pos h, if_pos h]
      show f ⟨_, _⟩ = if h : i.val + k.val - 127 < 128 then f ⟨i.val + k.val - 127, h⟩ else 0
      rw [dif_pos]
    · rw [dif_neg h, if_neg h]
  have hr : ∑ j : Fin 128, (if j ≤ i then f j else 0) = ∑ j ∈ Finset.range 128, if j ≤ i.val then F j else 0 := by
    rw [Finset.sum_range fun j => if j ≤ i.val then F j else 0]
    refine Finset.sum_congr rfl fun j _ => ?_
    simp only [F, dif_pos j.isLt, Fin.le_def]
  have h1 : (Finset.range 128).filter (fun k => 127 ≤ i.val + k) = Finset.Ico (127 - i.val) 128 := by
    ext j; simp only [Finset.mem_filter, Finset.mem_range, Finset.mem_Ico]; omega
  have h2 : (Finset.range 128).filter (fun j => j ≤ i.val) = Finset.range (128 - (127 - i.val)) := by
    ext j; simp only [Finset.mem_filter, Finset.mem_range]; omega
  rw [hl, hr, ← Finset.sum_filter, ← Finset.sum_filter, h1, h2, Finset.sum_Ico_eq_sum_range]
  exact Finset.sum_congr rfl fun k _ => congrArg F (by omega)

/-- The running sum along the second axis, as a window of all its places. -/
theorem earlier_sum (x : (⟨3, ![32, 128, 128]⟩ : Shape).Idx → EReal) (v : EReal) (hv : v = 0)
    (h : (⟨3, ![32, 128, 128]⟩ : Shape).ReduceWindows ![1, 128, 1] ![1, 1, 1] ![0, 127, 0] ![0, 0, 0] ⟨3, ![32, 128, 128]⟩) (t : Fin 32) (i q : Fin 128) :
    Ideal.hostReduceWindowAdd ![1, 128, 1] ![1, 1, 1] ![0, 127, 0] ![0, 0, 0] h x v (ix3 t i q) = ∑ j : Fin 128, if j ≤ i then x (ix3 t j q) else 0 := by
  subst hv
  let p : (⟨3, ![1, 128, 1]⟩ : Shape).Idx → Fin 3 → ℕ := fun w a => ((ix3 t i q : (⟨3, ![32, 128, 128]⟩ : Shape).Idx) a).val * (![1, 1, 1] : Fin 3 → ℕ) a + (w a).val
  let g : (⟨3, ![1, 128, 1]⟩ : Shape).Idx → EReal := fun w =>
    if hin : ∀ a, (![0, 127, 0] : Fin 3 → ℕ) a ≤ p w a ∧ p w a - (![0, 127, 0] : Fin 3 → ℕ) a < (![32, 128, 128] : Fin 3 → ℕ) a
    then x (fun a => ⟨p w a - (![0, 127, 0] : Fin 3 → ℕ) a, (hin a).2⟩) else 0
  refine Eq.trans ?_ (sum_earlier (fun j => x (ix3 t j q)) i)
  unfold Ideal.hostReduceWindowAdd Host.reduceWindow
  refine (Cert.StepSizes.foldl_add _ _ _).trans ?_
  rw [zero_add, ← List.ofFn_eq_map, List.sum_ofFn]
  refine Eq.trans (Finset.sum_congr rfl fun n _ => (?_ : _ = g ((Shape.rowMajor ⟨3, ![1, 128, 1]⟩).symm n))) ?_
  · exact dite_congr rfl (fun _ => rfl) (fun _ => rfl)
  rw [Equiv.sum_comp (Shape.rowMajor ⟨3, ![1, 128, 1]⟩).symm g]
  rw [← Cert.StepSizes.places.sum_comp]
  refine Finset.sum_congr rfl fun k _ => ?_
  have h0 : p (Cert.StepSizes.places k) 0 = t.val := by show t.val * 1 + 0 = t.val; omega
  have hk : p (Cert.StepSizes.places k) 1 = i.val + k.val := by show i.val * 1 + k.val = i.val + k.val; omega
  have h2 : p (Cert.StepSizes.places k) 2 = q.val := by show q.val * 1 + 0 = q.val; omega
  by_cases hc : 127 ≤ i.val + k.val
  · rw [dif_pos hc]
    refine (dif_pos (fun a => ?_)).trans (congrArg x (funext fun a => Fin.ext ?_))
    · match a with
      | ⟨0, _⟩ => exact ⟨Nat.zero_le _, by show p (Cert.StepSizes.places k) 0 - 0 < 32; rw [h0]; exact t.isLt⟩
      | ⟨1, _⟩ => exact ⟨by show 127 ≤ p (Cert.StepSizes.places k) 1; rw [hk]; exact hc, by show p (Cert.StepSizes.places k) 1 - 127 < 128; rw [hk]; omega⟩
      | ⟨2, _⟩ => exact ⟨Nat.zero_le _, by show p (Cert.StepSizes.places k) 2 - 0 < 128; rw [h2]; exact q.isLt⟩
    · match a with
      | ⟨0, _⟩ => exact h0
      | ⟨1, _⟩ => exact congrArg (· - 127) hk
      | ⟨2, _⟩ => exact h2
  · rw [dif_neg hc]
    refine dif_neg fun ha => hc ?_
    have := (ha 1).1
    rw [hk] at this
    exact this

end Cert.StepValue

namespace Cert.Kernel45Ideal.StepValue

open Cert.Kernel45Ideal Cert.Kernel45Ideal.Gen Idealize.ShloMosaic Idealize.ShloMosaic.TcCoe Idealize.SL.Sem
open Idealize.ShloMosaic.Pipeline (Dat)
open Cert.MatSum (pair_eq)
open Cert.StepSizes (softplus)

variable (m : (ℓ : Loc nD τ sig) → Buf (Elt Ideal) ℓ)

/-- Where each window lies at each grid point. -/
theorem idx : ∀ t : Fin cfg0.N, (win0_0.index t = ![t.val, 0] ∧ win0_1.index t = ![0, 0] ∧ win0_2.index t = ![0, 0])
    ∧ win0_3.index t = ![t.val, 0] ∧ win0_4.index t = ![t.val, 0] ∧ win0_5.index t = ![0, t.val] ∧ win0_6.index t = ![0, t.val] := by
  decide +kernel

/-- What the step sizes are made of. -/
abbrev aP (c : Dev nD) : S4096x128.Idx → EReal := m ((c : Thread nD τ).loc main_arg0)
/-- Their bias. -/
abbrev aB (c : Dev nD) : S1x128.Idx → EReal := m ((c : Thread nD τ).loc main_arg1)
/-- The logarithms of the rates. -/
abbrev aL (c : Dev nD) : S1x128.Idx → EReal := m ((c : Thread nD τ).loc main_arg2)

/-- The grid has thirty-two points. -/
theorem lt32 (t : Fin cfg0.N) : t.val < 32 := lt_of_lt_of_eq t.isLt N_0

/-- A row of the arrays, from a chunk and its row. -/
abbrev row (t : Fin 32) (r : Fin 128) : Fin 4096 := ⟨128 * t.val + r.val, by omega⟩

/-- The chunk of a point. -/
abbrev chunk (t : Fin cfg0.N) : Fin 32 := ⟨t.val, lt32 t⟩

/-- A point's block of what the step sizes are made of. -/
abbrev xP (c : Dev nD) (t : Fin cfg0.N) : S128x128.Idx → EReal := iblk m c 0 t
/-- A point's block of the bias. -/
abbrev xB (c : Dev nD) (t : Fin cfg0.N) : S1x128.Idx → EReal := iblk m c 1 t
/-- A point's block of the logarithms of the rates. -/
abbrev xL (c : Dev nD) (t : Fin cfg0.N) : S1x128.Idx → EReal := iblk m c 2 t

/-- The point's blocks are pieces of the arrays. -/
theorem blks (c : Dev nD) (t : Fin cfg0.N) (r q : Fin 128) :
    xP m c t (ix2 r q) = aP m c (ix2 (row (chunk t) r) q) ∧ xB m c t (ix2 0 q) = aB m c (ix2 0 q) ∧ xL m c t (ix2 0 q) = aL m c (ix2 0 q) := by
  have h := (idx t).1
  refine ⟨?_, ?_, ?_⟩
  · rw [aP, ← V_main_arg0 m c]; blk_ext [iblk, h.1]
  · rw [aB, ← V_main_arg1 m c]; blk_ext [iblk, h.2.1]
  · rw [aL, ← V_main_arg2 m c]; blk_ext [iblk, h.2.2]

/-- A step size. -/
def step (c : Dev nD) (r : Fin 4096) (q : Fin 128) : EReal := softplus (aP m c (ix2 r q) + aB m c (ix2 0 q))

/-- The sum of the steps' decays so far in a chunk. -/
def sums (c : Dev nD) (t : Fin 32) (i q : Fin 128) : EReal :=
  ∑ j : Fin 128, if j ≤ i then step m c (row t j) q * -Ideal.exp (aL m c (ix2 0 q)) else 0

/-- The sum at a row of the arrays. -/
def sumAt (c : Dev nD) (r : Fin 4096) (q : Fin 128) : EReal := sums m c ⟨r.val / 128, by omega⟩ ⟨r.val % 128, by omega⟩ q

/-- At a chunk's row. -/
theorem sumAt_row (c : Dev nD) (t : Fin 32) (r q : Fin 128) : sumAt m c (row t r) q = sums m c t r q := by
  unfold sumAt
  congr 1 <;> exact Fin.ext (by simp only []; omega)

/-- A bit as a number selects. -/
theorem mask (i j : Fin 128) (x : EReal) :
    FloatOps.sitofp (F := Ideal) FTy.f32 (BitVec.setWidth 32 (IntOp.cmpi CmpIPredicate.sle (BitVec.ofNat 32 j.val) (BitVec.ofNat 32 i.val))) * x
      = if j ≤ i then x else 0 := by
  rw [WordCmp.cmpi_sle_ofNat (by omega) (by omega)]
  by_cases h : j ≤ i
  · rw [if_pos h, decide_eq_true (by exact h)]
    refine (congrArg (· * x) (?_ : _ = (1 : EReal))).trans (one_mul x)
    show (((((BitVec.setWidth 32 (BitVec.ofBool true)).toInt : ℤ) : ℝ)) : EReal) = 1
    have : (BitVec.setWidth 32 (BitVec.ofBool true)).toInt = 1 := by decide
    rw [this]; norm_num
  · rw [if_neg h, decide_eq_false (by exact h)]
    refine (congrArg (· * x) (?_ : _ = (0 : EReal))).trans (zero_mul x)
    show (((((BitVec.setWidth 32 (BitVec.ofBool false)).toInt : ℤ) : ℝ)) : EReal) = 0
    have : (BitVec.setWidth 32 (BitVec.ofBool false)).toInt = 0 := by decide
    rw [this]; norm_num

/-- The step sizes of a point. -/
theorem pay1_at (c : Dev nD) (t : Fin cfg0.N) (r q : Fin 128) : k0_pay1 (F := Ideal) (xP m c t) (xB m c t) (ix2 r q) = step m c (row (chunk t) r) q := by
  unfold k0_pay1
  pointwise
  rw [(blks m c t r q).1, (blks m c t r q).2.1]
  rfl

/-- The sums of a point. -/
theorem pay2_at (c : Dev nD) (t : Fin cfg0.N) (r q : Fin 128) :
    k0_pay2 (F := Ideal) (xP m c t) (xB m c t) (xL m c t) (ix2 r q) = sumAt m c (row (chunk t) r) q := by
  rw [sumAt_row]
  unfold k0_pay2
  pointwise
  refine Finset.sum_congr rfl fun j _ => (mask r j _).trans ?_
  rw [pay1_at, (blks m c t j q).2.2, sub_eq_add_neg, zero_add]

/-- The step sizes, by columns. -/
def Ds (c : Dev nD) : S4096x128.Idx → EReal := fun i => step m c (i 0) (i 1)
/-- The sums, by columns. -/
def Da (c : Dev nD) : S4096x128.Idx → EReal := fun i => sumAt m c (i 0) (i 1)
/-- The step sizes, by rows. -/
def DsT (c : Dev nD) : S128x4096.Idx → EReal := fun i => step m c (i 1) (i 0)
/-- The sums, by rows. -/
def DaT (c : Dev nD) : S128x4096.Idx → EReal := fun i => sumAt m c (i 1) (i 0)

/-- The step sizes after the run. -/
theorem arr3 (c : Dev nD) : (dats m 0 c).arrAt 3 cfg0.N = Ds m c := by
  refine (dats m 0 c).arrAt_eq_of_covers 3 (Ds m c) (by decide +kernel) (fun t _ y => ?_)
  blk_simp
  rw [after0_3]
  obtain ⟨a, b, rfl⟩ : ∃ a b : Fin 128, y = ix2 a b := ⟨y 0, y 1, pair_eq (n := 128) (k := 128) y⟩
  have e : out0_3 (iblk m c 0 t) (iblk m c 1 t) (iblk m c 2 t) (ix2 a b) = Ds m c (ix2 (row (chunk t) a) b) := by
    frame_out
    exact pay1_at m c t a b
  refine e.trans ?_
  have h2 := (idx t).2.1
  congr 1
  blk_ext [h2]

/-- The sums after the run. -/
theorem arr4 (c : Dev nD) : (dats m 0 c).arrAt 4 cfg0.N = Da m c := by
  refine (dats m 0 c).arrAt_eq_of_covers 4 (Da m c) (by decide +kernel) (fun t _ y => ?_)
  blk_simp
  rw [after0_4]
  obtain ⟨a, b, rfl⟩ : ∃ a b : Fin 128, y = ix2 a b := ⟨y 0, y 1, pair_eq (n := 128) (k := 128) y⟩
  have e : out0_4 (iblk m c 0 t) (iblk m c 1 t) (iblk m c 2 t) (ix2 a b) = Da m c (ix2 (row (chunk t) a) b) := by
    frame_out
    exact pay2_at m c t a b
  refine e.trans ?_
  have h2 := (idx t).2.2.1
  congr 1
  blk_ext [h2]

/-- The step sizes by rows after the run. -/
theorem arr5 (c : Dev nD) : (dats m 0 c).arrAt 5 cfg0.N = DsT m c := by
  refine (dats m 0 c).arrAt_eq_of_covers 5 (DsT m c) (by decide +kernel) (fun t _ y => ?_)
  blk_simp
  rw [after0_5]
  obtain ⟨a, b, rfl⟩ : ∃ a b : Fin 128, y = ix2 a b := ⟨y 0, y 1, pair_eq (n := 128) (k := 128) y⟩
  have e : out0_5 (iblk m c 0 t) (iblk m c 1 t) (iblk m c 2 t) (ix2 a b) = DsT m c (ix2 a (row (chunk t) b)) := by
    frame_out
    unfold k0_pay3
    pointwise
    exact pay1_at m c t b a
  refine e.trans ?_
  have h2 := (idx t).2.2.2.1
  congr 1
  blk_ext [h2]

/-- The sums by rows after the run. -/
theorem arr6 (c : Dev nD) : (dats m 0 c).arrAt 6 cfg0.N = DaT m c := by
  refine (dats m 0 c).arrAt_eq_of_covers 6 (DaT m c) (by decide +kernel) (fun t _ y => ?_)
  blk_simp
  rw [after0_6]
  obtain ⟨a, b, rfl⟩ : ∃ a b : Fin 128, y = ix2 a b := ⟨y 0, y 1, pair_eq (n := 128) (k := 128) y⟩
  have e : out0_6 (iblk m c 0 t) (iblk m c 1 t) (iblk m c 2 t) (ix2 a b) = DaT m c (ix2 a (row (chunk t) b)) := by
    frame_out
    unfold k0_pay4
    pointwise
    exact pay2_at m c t b a
  refine e.trans ?_
  have h2 := (idx t).2.2.2.2
  congr 1
  blk_ext [h2]

/-- The run of the kernel, with its results named. -/
theorem run (ρ : Dev nD → PrngReg) : θ_run defs (onTc (τ := τ) (main (F := Ideal))) ⟨m, fun _ => 0, ρ⟩ fun r => ∀ c : Dev nD,
      r.2.mem ((c : Thread nD τ).loc main_v0_0) = Ds m c
      ∧ r.2.mem ((c : Thread nD τ).loc main_v0_1) = Da m c
      ∧ r.2.mem ((c : Thread nD τ).loc main_v0_2) = DsT m c
      ∧ r.2.mem ((c : Thread nD τ).loc main_v0_3) = DaT m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (arr3 m c), (h c).2.1.trans (arr4 m c), (h c).2.2.1.trans (arr5 m c), (h c).2.2.2.1.trans (arr6 m c),
    (h c).2.2.2.2⟩) (Value.run_blocks m ρ)

end Cert.Kernel45Ideal.StepValue

namespace Cert.StepValue

open Idealize.ShloMosaic Idealize.ShloMosaic.TcCoe Idealize.SL.Sem
open Cert.Kernel45Ideal.StepValue (aP aB aL step sums sumAt Ds Da DsT DaT)

/-- The reference leaves its arguments as they were and every counter at zero. -/
theorem frame_ri : Cert.quiescent_Reference45Ideal := fun m ρ _ =>
  (θ_run Cert.Reference45Ideal.defs _ _).mono (fun r h => ⟨fun c => (h c).2.2.2.2, sem_eq_zero_of_no_sems (by decide) r.2⟩)
    (Cert.Reference45Ideal.Value.run (F := Ideal) m ρ)

/-- The reference's running sum along a chunk. -/
theorem window (m : (ℓ : Loc Cert.Kernel45Ideal.nD Cert.Kernel45Ideal.τ Cert.Kernel45Ideal.sig) → Buf (Elt Ideal) ℓ) (c : Dev Cert.Kernel45Ideal.nD) (a : Fin 4096) (b : Fin 128)
    (v : (⟨0, ![]⟩ : Shape).Idx → EReal) (hv : ∀ i, v i = 0) (A : Cert.Reference45Ideal.S4096x128.Idx → EReal)
    (hA : ∀ (r : Fin 4096) (q : Fin 128), A (ix2 r q) = step m c r q * -Ideal.exp (aL m c (ix2 0 q))) (ht : a.val / 128 < 32) (hi : a.val % 128 < 128) :
    Host.reduceWindowAdd (F := Ideal) (φ := .f32) ![1, 128, 1] ![1, 1, 1] ![0, 127, 0] ![0, 0, 0]
        (shapeCast Cert.Reference45Ideal.S32x128x128 A Cert.Reference45Ideal.Gen.shapeCasts_S4096x128_S32x128x128) v
        Cert.Reference45Ideal.Gen.reduceWindows_S32x128x128_S32x128x128_w1s1p0_0_w128s1p127_0_w1s1p0_0 Cert.Reference45Ideal.Gen.h_S_
        (ix3 ⟨a.val / 128, ht⟩ ⟨a.val % 128, hi⟩ b) = sumAt m c a b := by
  refine (earlier_sum _ _ (hv _) Cert.Reference45Ideal.Gen.reduceWindows_S32x128x128_S32x128x128_w1s1p0_0_w128s1p127_0_w1s1p0_0 _ _ _).trans ?_
  unfold sumAt Cert.Kernel45Ideal.StepValue.sums
  refine Finset.sum_congr rfl fun j _ => ?_
  rw [← hA]
  congr 1
  pointwise
  exact congrArg (fun r => A (ix2 r b)) (Fin.ext (by simp only []; omega))

/-- The call and the mathematics written plainly give the same arrays. -/
theorem algebraic : Cert.algebraic_Kernel45Ideal_Reference45Ideal := by
  pair_intro
  · run_from Cert.Kernel45Ideal.StepValue.run m g
  · refine Idealize.ShloMosaic.θ_run_mono (Cert.Reference45Ideal.Value.run (F := Ideal) m' g') ?_
    intro r hr c
    refine ⟨(hr c).1.trans ?_, (hr c).2.1.trans ?_, (hr c).2.2.1.trans ?_, (hr c).2.2.2.1.trans ?_, (hr c).2.2.2.2⟩ <;> clear hr r <;> simp only [hagree c] <;> funext i
    · obtain ⟨a, b, rfl⟩ : ∃ (a : Fin 4096) (b : Fin 128), i = ix2 a b := ⟨i 0, i 1, Cert.MatSum.pair_eq (n := 4096) (k := 128) i⟩
      pointwise
      simp only [ne_eq, not_true_eq_false, if_false, Cert.StepSizes.softplus_eq]
      rfl
    · obtain ⟨a, b, rfl⟩ : ∃ (a : Fin 4096) (b : Fin 128), i = ix2 a b := ⟨i 0, i 1, Cert.MatSum.pair_eq (n := 4096) (k := 128) i⟩
      pointwise
      refine window m c a b _ (fun i => ?_) _ (fun r q => ?_) _ _
      · pointwise
      · pointwise
        simp only [ne_eq, not_true_eq_false, if_false, Cert.StepSizes.softplus_eq]
        rfl
    · obtain ⟨b, a, rfl⟩ : ∃ (b : Fin 128) (a : Fin 4096), i = ix2 b a := ⟨i 0, i 1, Cert.MatSum.pair_eq (n := 128) (k := 4096) i⟩
      pointwise
      simp only [ne_eq, not_true_eq_false, if_false, Cert.StepSizes.softplus_eq]
      rfl
    · obtain ⟨b, a, rfl⟩ : ∃ (b : Fin 128) (a : Fin 4096), i = ix2 b a := ⟨i 0, i 1, Cert.MatSum.pair_eq (n := 128) (k := 4096) i⟩
      pointwise
      refine window m c a b _ (fun i => ?_) _ (fun r q => ?_) _ _
      · pointwise
      · pointwise
        simp only [ne_eq, not_true_eq_false, if_false, Cert.StepSizes.softplus_eq]
        rfl

end Cert.StepValue

end
-- ==== Proof.GatedConv.lean ====
module

public import proofs.«01_k».proof.Defs
public import proofs.«01_k».proof.Proof.Gen.Kernel43Ideal.Value
public import proofs.«01_k».proof.Proof.Gen.Reference43Ideal.Run
public import proofs.«01_k».proof.Proof.ConvSpec
public import Idealize.ShloMosaic.Lib.KernelVsHost

@[expose] public section

set_option maxRecDepth 16384

noncomputable section

/-! The gated short convolution, element by element. -/

namespace Cert.Kernel43Ideal.GatedConv

open Cert.Kernel43Ideal Cert.Kernel43Ideal.Gen Idealize.ShloMosaic Idealize.ShloMosaic.TcCoe Idealize.SL.Sem
open Idealize.ShloMosaic.Pipeline (Dat)
open Cert.ConvGrad (cu cuBack uF row_congr pair_eq sel_slt sel_sgt)

variable (m : (ℓ : Loc nD τ sig) → Buf (Elt Ideal) ℓ)

/-- Where each window lies at each grid point. -/
theorem idx : ∀ t : Fin cfg0.N, win0_0.index t = ![t.val, 0] ∧ win0_1.index t = ![32 * t.val - 1, 0] ∧ win0_2.index t = ![0, 0]
    ∧ win0_3.index t = ![t.val, 0] := by
  decide +kernel

/-- The grid has sixteen points. -/
theorem lt16 (t : Fin cfg0.N) : t.val < 16 := lt_of_lt_of_eq t.isLt N_0

/-- The point's coordinate is its number. -/
theorem coord (t : Fin cfg0.N) : (grid0.coords t 0).val = t.val := by
  revert t; decide +kernel

/-- The projection. -/
abbrev aP (c : Dev nD) : S4096x3072.Idx → EReal := m ((c : Thread nD τ).loc main_arg0)
/-- The convolution's weights. -/
abbrev aW (c : Dev nD) : S3x1024.Idx → EReal := m ((c : Thread nD τ).loc main_arg1)

/-- A row of the arrays, from a point's row. -/
abbrev row (t : Fin cfg0.N) (r : Fin 256) : Fin 4096 := ⟨256 * t.val + r.val, by have := lt16 t; omega⟩

/-- A block of the projection. -/
theorem blk0 (c : Dev nD) (t : Fin cfg0.N) (r : Fin 256) (k : Fin 3072) : (iblk m c 0 t : S256x3072.Idx → EReal) (ix2 r k) = aP m c (ix2 (row t r) k) := by
  rw [aP, ← V_main_arg0 m c]
  blk_ext [iblk, (idx t).1]
/-- The eight rows of the projection before a block, or the array's first eight. -/
theorem blk1 (c : Dev nD) (t : Fin cfg0.N) (r : Fin 8) (k : Fin 3072) :
    (iblk m c 1 t : S8x3072.Idx → EReal) (ix2 r k) = aP m c (ix2 ⟨8 * (32 * t.val - 1) + r.val, by have := lt16 t; omega⟩ k) := by
  rw [aP, ← V_main_arg0 m c]
  blk_ext [iblk, (idx t).2.1]
/-- The weights, whole at every point. -/
theorem blk2 (c : Dev nD) (t : Fin cfg0.N) (r : Fin 3) (k : Fin 1024) : (iblk m c 2 t : S3x1024.Idx → EReal) (ix2 r k) = aW m c (ix2 r k) := by
  rw [aW, ← V_main_arg1 m c]
  blk_ext [iblk, (idx t).2.2.1]

/-- The products of the point's rows. -/
abbrev cuB (c : Dev nD) (t : Fin cfg0.N) : FVec Ideal S256x1024 .f32 :=
  k0_pay2 (View.ld (iblk m c 0 t) (Rect.unit ![0, 1024] ![256, 1024] inb_S256x3072_S256x1024_0_1024))
    (View.ld (iblk m c 0 t) (Rect.unit ![0, 2048] ![256, 1024] inb_S256x3072_S256x1024_0_2048))
/-- The products of the eight rows before. -/
abbrev prevB (c : Dev nD) (t : Fin cfg0.N) : FVec Ideal S8x1024 .f32 :=
  Scalar.select (Scalar.cmpi .sgt (BitVec.ofNat 32 (grid0.coords t 0).val) 0#32)
    (mulf (View.ld (iblk m c 1 t) (Rect.unit ![0, 1024] ![8, 1024] inb_S8x3072_S8x1024_0_1024))
      (View.ld (iblk m c 1 t) (Rect.unit ![0, 2048] ![8, 1024] inb_S8x3072_S8x1024_0_2048)))
    (broadcast S8x1024 (Scalar.ofBits .f32 0x00000000#32))

/-- The products of one block. -/
theorem cu_block (c : Dev nD) (t : Fin cfg0.N) (r : Fin 256) (q : Fin 1024) : cuB m c t (ix2 r q) = cu (aP m c) (256 * t.val + r.val) q := by
  have ht := lt16 t
  unfold cuB k0_pay2
  pointwise
  rw [blk0, blk0, cu, dif_pos (by omega)]

/-- The eight rows before the block: zero before the first row. -/
theorem halo_prev (c : Dev nD) (t : Fin cfg0.N) (r : Fin 8) (q : Fin 1024) : prevB m c t (ix2 r q) = cuBack (aP m c) (8 - r.val) (256 * t.val) q := by
  have ht := lt16 t
  unfold prevB
  pointwise
  rw [coord, show Scalar.cmpi = @IntOp.cmpi 32 from rfl, sel_sgt _ _ (by omega) (by omega), blk1, blk1, cuBack]
  by_cases h : 0 < t.val
  · rw [if_pos h, if_pos (by omega), cu, dif_pos (by omega)]
    exact congrArg₂ (· * ·) (row_congr _ (by omega) _ _ _) (row_congr _ (by omega) _ _ _)
  · rw [if_neg h, if_neg (by omega)]

/-- The products `s` rows before a row of the block, from the block and the eight rows before. -/
theorem back_block (c : Dev nD) (t : Fin cfg0.N) (s : ℕ) (hs : s ≤ 8) (r : Fin 256) (q : Fin 1024) :
    (if h : r.val < s then prevB m c t (ix2 ⟨r.val + 8 - s, by omega⟩ q) else cuB m c t (ix2 ⟨r.val - s, by omega⟩ q))
      = cuBack (aP m c) s (256 * t.val + r.val) q := by
  by_cases h : r.val < s
  · rw [dif_pos h, halo_prev]
    by_cases h0 : t.val = 0
    · exact (if_neg (by dsimp only; omega)).trans (if_neg (by omega)).symm
    · rw [cuBack, cuBack, if_pos (by dsimp only; omega), if_pos (by omega)]
      exact congrArg (cu (aP m c) · q) (by dsimp only; omega)
  · rw [dif_neg h, cu_block, cuBack, if_pos (by omega)]
    exact congrArg (cu (aP m c) · q) (by dsimp only; omega)

/-- The two earlier rows of the block's products, weighted: the first rows take the last of the rows before. -/
theorem earlier (i : grid0.Coords) (v0 v1 : Vec Ideal S256x1024 .f32) (v4 v5 : Vec Ideal S8x1024 .f32) (w0 w1 : Vec Ideal S1x1024 .f32)
    (B : FVec Ideal S8x1024 .f32)
    (hB : Scalar.select (Scalar.cmpi .sgt (BitVec.ofNat 32 (i 0).val) 0#32) (mulf v4 v5) (broadcast S8x1024 (Scalar.ofBits .f32 0x00000000#32)) = B)
    (r : Fin 256) (q : Fin 1024) :
    k0_pay3 i v0 v1 v4 v5 w0 w1 (ix2 r q)
      = w0 (ix2 0 q) * (if h : r.val < 2 then B (ix2 ⟨r.val + 8 - 2, by omega⟩ q) else k0_pay2 v0 v1 (ix2 ⟨r.val - 2, by omega⟩ q))
        + w1 (ix2 0 q) * (if h : r.val < 1 then B (ix2 ⟨r.val + 8 - 1, by omega⟩ q) else k0_pay2 v0 v1 (ix2 ⟨r.val - 1, by omega⟩ q)) := by
  unfold k0_pay3
  dsimp only
  rw [hB]
  generalize k0_pay2 v0 v1 = A
  pointwise
  rw [sel_slt _ _ (by omega) (by omega), sel_slt _ _ (by omega) (by omega)]
  refine congrArg₂ (· + ·) (congrArg (fun z : EReal => w0 (ix2 0 q) * z) ?_) (congrArg (fun z : EReal => w1 (ix2 0 q) * z) ?_)
  · by_cases h : r.val < 2
    · rw [if_pos h, dif_pos h, dif_pos (show r.val < 8 by omega)]
      exact row_congr B (by omega) _ _ _
    · rw [if_neg h, dif_neg h]
      exact row_congr A (by omega) _ _ _
  · by_cases h : r.val < 1
    · rw [if_pos h, dif_pos h, dif_pos (show r.val < 8 by omega)]
      exact row_congr B (by omega) _ _ _
    · rw [if_neg h, dif_neg h]
      exact row_congr A (by omega) _ _ _

/-- The gated convolution. -/
def D (c : Dev nD) : S4096x1024.Idx → EReal := fun i =>
  aP m c (ix2 (i 0) ⟨(i 1).val, lt_trans (i 1).isLt (by decide)⟩) * uF (aP m c) (aW m c) (i 0).val (i 1)

/-- What a point writes. -/
theorem out3_at (c : Dev nD) (t : Fin cfg0.N) (r : Fin 256) (q : Fin 1024) :
    out0_3 (grid0.coords t) (iblk m c 0 t) (iblk m c 1 t) (iblk m c 2 t) (ix2 r q) = D m c (ix2 (row t r) q) := by
  have e := earlier (grid0.coords t) (View.ld (iblk m c 0 t) (Rect.unit ![0, 1024] ![256, 1024] inb_S256x3072_S256x1024_0_1024))
    (View.ld (iblk m c 0 t) (Rect.unit ![0, 2048] ![256, 1024] inb_S256x3072_S256x1024_0_2048))
    (View.ld (iblk m c 1 t) (Rect.unit ![0, 1024] ![8, 1024] inb_S8x3072_S8x1024_0_1024))
    (View.ld (iblk m c 1 t) (Rect.unit ![0, 2048] ![8, 1024] inb_S8x3072_S8x1024_0_2048))
    (View.ld (iblk m c 2 t) (Rect.unit ![0, 0] ![1, 1024] inb_S3x1024_S1x1024_0_0))
    (View.ld (iblk m c 2 t) (Rect.unit ![1, 0] ![1, 1024] inb_S3x1024_S1x1024_1_0)) (prevB m c t) rfl r q
  have e2 := back_block m c t 2 (by omega) r q
  have e1 := back_block m c t 1 (by omega) r q
  have e0 : k0_pay2 (F := Ideal) (View.ld (iblk m c 0 t) (Rect.unit ![0, 1024] ![256, 1024] inb_S256x3072_S256x1024_0_1024))
    (View.ld (iblk m c 0 t) (Rect.unit ![0, 2048] ![256, 1024] inb_S256x3072_S256x1024_0_2048)) (ix2 r q) = cu (aP m c) (256 * t.val + r.val) q :=
    cu_block m c t r q
  have w0 : (View.ld (iblk m c 2 t) (Rect.unit ![0, 0] ![1, 1024] inb_S3x1024_S1x1024_0_0) : FVec Ideal S1x1024 .f32) (ix2 0 q)
      = aW m c (ix2 0 q) := by pointwise; exact blk2 m c t 0 q
  have w1 : (View.ld (iblk m c 2 t) (Rect.unit ![1, 0] ![1, 1024] inb_S3x1024_S1x1024_1_0) : FVec Ideal S1x1024 .f32) (ix2 0 q)
      = aW m c (ix2 1 q) := by pointwise; exact blk2 m c t 1 q
  rw [w0, w1, e2, e1] at e
  frame_out
  unfold k0_pay1
  generalize k0_pay3 (F := Ideal) _ _ _ _ _ _ _ = E at *
  generalize k0_pay2 (F := Ideal) _ _ = A at *
  pointwise
  rw [e, e0, blk0, blk2]
  rfl

/-- The gated convolution after the run. -/
theorem arr3 (c : Dev nD) : (dats m 0 c).arrAt 3 cfg0.N = D m c := by
  refine (dats m 0 c).arrAt_eq_of_covers 3 (D m c) (by decide +kernel) (fun t _ y => ?_)
  blk_simp
  rw [after0_3]
  obtain ⟨a, b, rfl⟩ : ∃ (a : Fin 256) (b : Fin 1024), y = ix2 a b := ⟨y 0, y 1, pair_eq (n := 256) (k := 1024) y⟩
  refine (out3_at m c t a b).trans ?_
  have h2 := (idx t).2.2.2
  congr 1
  blk_ext [h2]

/-- The run of the kernel, with its result named. -/
theorem run (ρ : Dev nD → PrngReg) : θ_run defs (onTc (τ := τ) (main (F := Ideal))) ⟨m, fun _ => 0, ρ⟩ fun r => ∀ c : Dev nD,
      r.2.mem ((c : Thread nD τ).loc main_v0) = D m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (arr3 m c), (h c).2⟩) (Value.run_blocks m ρ)

end Cert.Kernel43Ideal.GatedConv

namespace Cert.GatedConv

open Idealize.ShloMosaic Idealize.ShloMosaic.TcCoe Idealize.SL.Sem
open Cert.ConvGrad (uF cu_padded cu_row pair_eq)
open Cert.Kernel43Ideal.GatedConv (aP aW)

/-- The reference leaves its arguments as they were and every counter at zero. -/
theorem frame_ri : Cert.quiescent_Reference43Ideal := fun m ρ _ =>
  (θ_run Cert.Reference43Ideal.defs _ _).mono (fun r h => ⟨fun c => (h c).2, sem_eq_zero_of_no_sems (by decide) r.2⟩)
    (Cert.Reference43Ideal.Value.run (F := Ideal) m ρ)

/-- The call and the gated convolution written plainly give the same array. -/
theorem algebraic : Cert.algebraic_Kernel43Ideal_Reference43Ideal := by
  pair_intro
  · run_from Cert.Kernel43Ideal.GatedConv.run m g
  · run_from Cert.Reference43Ideal.Value.run (F := Ideal) m' g'
    funext i
    obtain ⟨a, b, rfl⟩ : ∃ (a : Fin 4096) (b : Fin 1024), i = ix2 a b := ⟨i 0, i 1, pair_eq (n := 4096) (k := 1024) i⟩
    have h := a.isLt
    pointwise
    refine congrArg (aP m c (ix2 a ⟨b.val, by omega⟩) * ·) ?_
    show _ = uF (aP m c) (aW m c) a.val b
    rw [uF]
    exact congrArg₂ (· + ·) (congrArg₂ (· + ·)
      (congrArg (fun z => aW m c (ix2 0 b) * z) (cu_padded (aP m c) 2 a.val a.val rfl le_rfl h b fun _ => by omega))
      (congrArg (fun z => aW m c (ix2 1 b) * z) (cu_padded (aP m c) 1 a.val (1 + a.val) (by omega) (by omega) h b fun _ => by omega)))
      (congrArg (fun z => aW m c (ix2 2 b) * z) (cu_row (aP m c) a b))

end Cert.GatedConv

end
-- ==== Proof.lean ====
module

public import proofs.«01_k».proof.Proof.Gen.KernelIdeal.Value
public import proofs.«01_k».proof.Proof.Gen.ReferenceIdeal.Run
public import proofs.«01_k».proof.Proof.Gen.ReferenceIdeal.Read
public import proofs.«01_k».proof.Proof.ConvValue
public import proofs.«01_k».proof.Proof.Gen.Kernel2.Frame
public import proofs.«01_k».proof.Proof.Gen.Kernel2Ideal.Value
public import proofs.«01_k».proof.Proof.Gen.Reference2Ideal.Run
public import proofs.«01_k».proof.Proof.Gen.Kernel3.Frame
public import proofs.«01_k».proof.Proof.Gen.Kernel3Ideal.Value
public import proofs.«01_k».proof.Proof.Gen.Reference3Ideal.Run
public import proofs.«01_k».proof.Proof.Gen.Kernel4.Frame
public import proofs.«01_k».proof.Proof.Gen.Kernel4Ideal.Value
public import proofs.«01_k».proof.Proof.Gen.Reference4Ideal.Run
public import proofs.«01_k».proof.Proof.Gen.Kernel5.Frame
public import proofs.«01_k».proof.Proof.Gen.Kernel5Ideal.Value
public import proofs.«01_k».proof.Proof.Gen.Reference5Ideal.Run
public import proofs.«01_k».proof.Proof.Gen.Kernel6.Frame
public import proofs.«01_k».proof.Proof.Gen.Kernel6Ideal.Value
public import proofs.«01_k».proof.Proof.Gen.Reference6Ideal.Run
public import proofs.«01_k».proof.Proof.Gen.Kernel7.Frame
public import proofs.«01_k».proof.Proof.Gen.Kernel7Ideal.Value
public import proofs.«01_k».proof.Proof.Gen.Reference7Ideal.Run
public import proofs.«01_k».proof.Proof.Gen.Kernel8.Frame
public import proofs.«01_k».proof.Proof.Gen.Kernel8Ideal.Value
public import proofs.«01_k».proof.Proof.Gen.Reference8Ideal.Run
public import proofs.«01_k».proof.Proof.ActGrad
public import proofs.«01_k».proof.Proof.DownGrad
public import proofs.«01_k».proof.Proof.UpGrad
public import proofs.«01_k».proof.Proof.GateInput
public import proofs.«01_k».proof.Proof.UpInput
public import proofs.«01_k».proof.Proof.UpValue
public import proofs.«01_k».proof.Proof.DownValue
public import proofs.«01_k».proof.Proof.Gen.Pre_finite
public import proofs.«01_k».proof.Proof.Gen.Kernel11.Frame
public import proofs.«01_k».proof.Proof.Gen.Kernel11Ideal.Value
public import proofs.«01_k».proof.Proof.Gen.Reference11Ideal.Run
public import proofs.«01_k».proof.Proof.Gen.Kernel12.Frame
public import proofs.«01_k».proof.Proof.Gen.Kernel12Ideal.Value
public import proofs.«01_k».proof.Proof.Gen.Reference12Ideal.Run
public import proofs.«01_k».proof.Proof.Gen.Kernel13.Frame
public import proofs.«01_k».proof.Proof.Gen.Kernel13Ideal.Value
public import proofs.«01_k».proof.Proof.Gen.Reference13Ideal.Run
public import proofs.«01_k».proof.Proof.Gen.Kernel14.Frame
public import proofs.«01_k».proof.Proof.Gen.Kernel14Ideal.Value
public import proofs.«01_k».proof.Proof.Gen.Reference14Ideal.Run
public import proofs.«01_k».proof.Proof.Gen.Kernel15.Frame
public import proofs.«01_k».proof.Proof.Gen.Kernel15Ideal.Value
public import proofs.«01_k».proof.Proof.Gen.Reference15Ideal.Run
public import proofs.«01_k».proof.Proof.Gen.Kernel16.Frame
public import proofs.«01_k».proof.Proof.Gen.Kernel16Ideal.Value
public import proofs.«01_k».proof.Proof.Gen.Reference16Ideal.Run
public import proofs.«01_k».proof.Proof.Gen.Kernel17.Frame
public import proofs.«01_k».proof.Proof.Gen.Kernel17Ideal.Value
public import proofs.«01_k».proof.Proof.Gen.Reference17Ideal.Run
public import proofs.«01_k».proof.Proof.Gen.Kernel18.Frame
public import proofs.«01_k».proof.Proof.Gen.Kernel18Ideal.Value
public import proofs.«01_k».proof.Proof.Gen.Reference18Ideal.Run
public import proofs.«01_k».proof.Proof.Adam
public import proofs.«01_k».proof.Proof.Gen.Kernel9.Frame
public import proofs.«01_k».proof.Proof.Gen.Kernel9Ideal.Value
public import proofs.«01_k».proof.Proof.Gen.Reference9Ideal.Run
public import proofs.«01_k».proof.Proof.Gen.Kernel10.Frame
public import proofs.«01_k».proof.Proof.Gen.Kernel10Ideal.Value
public import proofs.«01_k».proof.Proof.Gen.Reference10Ideal.Run
public import proofs.«01_k».proof.Proof.RmsGrad
public import proofs.«01_k».proof.Proof.LossValue
public import proofs.«01_k».proof.Proof.Gen.Kernel19.Frame
public import proofs.«01_k».proof.Proof.Gen.Kernel19Ideal.Value
public import proofs.«01_k».proof.Proof.Gen.Reference19Ideal.Run
public import proofs.«01_k».proof.Proof.Gen.Kernel20.Frame
public import proofs.«01_k».proof.Proof.Gen.Kernel20Ideal.Value
public import proofs.«01_k».proof.Proof.Gen.Reference20Ideal.Run
public import proofs.«01_k».proof.Proof.Gen.Kernel21.Frame
public import proofs.«01_k».proof.Proof.Gen.Kernel21Ideal.Value
public import proofs.«01_k».proof.Proof.Gen.Reference21Ideal.Run
public import proofs.«01_k».proof.Proof.Gen.Kernel22.Frame
public import proofs.«01_k».proof.Proof.Gen.Kernel22Ideal.Value
public import proofs.«01_k».proof.Proof.Gen.Reference22Ideal.Run
public import proofs.«01_k».proof.Proof.Gen.Kernel23.Frame
public import proofs.«01_k».proof.Proof.Gen.Kernel23Ideal.Value
public import proofs.«01_k».proof.Proof.Gen.Reference23Ideal.Run
public import proofs.«01_k».proof.Proof.Gen.Kernel24.Frame
public import proofs.«01_k».proof.Proof.Gen.Kernel24Ideal.Value
public import proofs.«01_k».proof.Proof.Gen.Reference24Ideal.Run
public import proofs.«01_k».proof.Proof.Gen.Kernel25.Frame
public import proofs.«01_k».proof.Proof.Gen.Kernel25Ideal.Value
public import proofs.«01_k».proof.Proof.Gen.Reference25Ideal.Run
public import proofs.«01_k».proof.Proof.Gen.Kernel26.Frame
public import proofs.«01_k».proof.Proof.Gen.Kernel26Ideal.Value
public import proofs.«01_k».proof.Proof.Gen.Reference26Ideal.Run
public import proofs.«01_k».proof.Proof.Gen.Kernel27.Frame
public import proofs.«01_k».proof.Proof.Gen.Kernel27Ideal.Value
public import proofs.«01_k».proof.Proof.Gen.Reference27Ideal.Run
public import proofs.«01_k».proof.Proof.Gen.Kernel28.Frame
public import proofs.«01_k».proof.Proof.Gen.Kernel28Ideal.Value
public import proofs.«01_k».proof.Proof.Gen.Reference28Ideal.Run
public import proofs.«01_k».proof.Proof.Gen.Kernel29.Frame
public import proofs.«01_k».proof.Proof.Gen.Kernel29Ideal.Value
public import proofs.«01_k».proof.Proof.Gen.Reference29Ideal.Run
public import proofs.«01_k».proof.Proof.Gen.Kernel30.Frame
public import proofs.«01_k».proof.Proof.Gen.Kernel30Ideal.Value
public import proofs.«01_k».proof.Proof.Gen.Reference30Ideal.Run
public import proofs.«01_k».proof.Proof.Gen.Kernel31.Frame
public import proofs.«01_k».proof.Proof.Gen.Kernel31Ideal.Value
public import proofs.«01_k».proof.Proof.Gen.Reference31Ideal.Run
public import proofs.«01_k».proof.Proof.Gen.Kernel32.Frame
public import proofs.«01_k».proof.Proof.Gen.Kernel32Ideal.Value
public import proofs.«01_k».proof.Proof.Gen.Reference32Ideal.Run
public import proofs.«01_k».proof.Proof.Gen.Kernel33.Frame
public import proofs.«01_k».proof.Proof.Gen.Kernel33Ideal.Value
public import proofs.«01_k».proof.Proof.Gen.Reference33Ideal.Run
public import proofs.«01_k».proof.Proof.Gen.Kernel34.Frame
public import proofs.«01_k».proof.Proof.Gen.Kernel34Ideal.Value
public import proofs.«01_k».proof.Proof.Gen.Reference34Ideal.Run
public import proofs.«01_k».proof.Proof.Gen.Kernel35.Frame
public import proofs.«01_k».proof.Proof.Gen.Kernel35Ideal.Value
public import proofs.«01_k».proof.Proof.Gen.Reference35Ideal.Run
public import proofs.«01_k».proof.Proof.Gen.Kernel36.Frame
public import proofs.«01_k».proof.Proof.Gen.Kernel36Ideal.Value
public import proofs.«01_k».proof.Proof.Gen.Reference36Ideal.Run
public import proofs.«01_k».proof.Proof.Gen.Kernel37.Frame
public import proofs.«01_k».proof.Proof.Gen.Kernel37Ideal.Value
public import proofs.«01_k».proof.Proof.Gen.Reference37Ideal.Run
public import proofs.«01_k».proof.Proof.Gen.Kernel38.Frame
public import proofs.«01_k».proof.Proof.Gen.Kernel38Ideal.Value
public import proofs.«01_k».proof.Proof.Gen.Reference38Ideal.Run
public import proofs.«01_k».proof.Proof.MixerValue
public import proofs.«01_k».proof.Proof.MixerGrad
public import proofs.«01_k».proof.Proof.SpaceValue
public import proofs.«01_k».proof.Proof.SpaceGrad
public import proofs.«01_k».proof.Proof.SpaceInput
public import proofs.«01_k».proof.Proof.Gen.Kernel40.Frame
public import proofs.«01_k».proof.Proof.Gen.Kernel40Ideal.Value
public import proofs.«01_k».proof.Proof.Gen.Reference40Ideal.Run
public import proofs.«01_k».proof.Proof.Gen.Kernel41.Frame
public import proofs.«01_k».proof.Proof.Gen.Kernel41Ideal.Value
public import proofs.«01_k».proof.Proof.Gen.Reference41Ideal.Run
public import proofs.«01_k».proof.Proof.Gen.Pre_finite_conv
public import proofs.«01_k».proof.Proof.Gen.Pre_finite_steps
public import proofs.«01_k».proof.Proof.SpaceConv
public import proofs.«01_k».proof.Proof.StepSizes
public import proofs.«01_k».proof.Proof.Gen.Kernel39.Frame
public import proofs.«01_k».proof.Proof.Gen.Kernel39Ideal.Value
public import proofs.«01_k».proof.Proof.Gen.Reference39Ideal.Run
public import proofs.«01_k».proof.Proof.Gen.Pre_finite_gate
public import proofs.«01_k».proof.Proof.GateNorm
public import proofs.«01_k».proof.Proof.Gen.Kernel42.Frame
public import proofs.«01_k».proof.Proof.Gen.Kernel42Ideal.Value
public import proofs.«01_k».proof.Proof.Gen.Reference42Ideal.Run
public import proofs.«01_k».proof.Proof.Gen.Kernel43.Frame
public import proofs.«01_k».proof.Proof.Gen.Kernel43Ideal.Value
public import proofs.«01_k».proof.Proof.Gen.Reference43Ideal.Run
public import proofs.«01_k».proof.Proof.Gen.Kernel44.Frame
public import proofs.«01_k».proof.Proof.Gen.Kernel44Ideal.Value
public import proofs.«01_k».proof.Proof.Gen.Reference44Ideal.Run
public import proofs.«01_k».proof.Proof.Gen.Kernel45.Frame
public import proofs.«01_k».proof.Proof.Gen.Kernel45Ideal.Value
public import proofs.«01_k».proof.Proof.Gen.Reference45Ideal.Run
public import proofs.«01_k».proof.Proof.RmsValue
public import proofs.«01_k».proof.Proof.SpaceConvValue
public import proofs.«01_k».proof.Proof.StepValue
public import proofs.«01_k».proof.Proof.GatedConv
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import Idealize.ShloMosaic.Adequacy
public import Idealize.ShloMosaic.Init

@[expose] public section

noncomputable section

namespace Cert.Proof

open Idealize.ShloMosaic Idealize.SL.Sem Cert.Kernel

/-- Every program of the certificate leaves its arguments and counters as the frame says, and every call of the training step that is listed
    computes what its reference computes. -/
theorem claim : Cert.Claim := ⟨
  Cert.Kernel.Gen.facts, Cert.KernelIdeal.Gen.facts, Cert.ReferenceIdeal.Gen.facts, Cert.Kernel2.Gen.facts, Cert.Kernel2Ideal.Gen.facts,
  Cert.Reference2Ideal.Gen.facts, Cert.Kernel3.Gen.facts, Cert.Kernel3Ideal.Gen.facts, Cert.Reference3Ideal.Gen.facts, Cert.Kernel4.Gen.facts,
  Cert.Kernel4Ideal.Gen.facts, Cert.Reference4Ideal.Gen.facts, Cert.Kernel5.Gen.facts, Cert.Kernel5Ideal.Gen.facts, Cert.Reference5Ideal.Gen.facts,
  Cert.Kernel6.Gen.facts, Cert.Kernel6Ideal.Gen.facts, Cert.Reference6Ideal.Gen.facts, Cert.Kernel7.Gen.facts, Cert.Kernel7Ideal.Gen.facts,
  Cert.Reference7Ideal.Gen.facts, Cert.Kernel8.Gen.facts, Cert.Kernel8Ideal.Gen.facts, Cert.Reference8Ideal.Gen.facts, Cert.Kernel9.Gen.facts,
  Cert.Kernel9Ideal.Gen.facts, Cert.Reference9Ideal.Gen.facts, Cert.Kernel10.Gen.facts, Cert.Kernel10Ideal.Gen.facts,
  Cert.Reference10Ideal.Gen.facts, Cert.Kernel11.Gen.facts, Cert.Kernel11Ideal.Gen.facts, Cert.Reference11Ideal.Gen.facts, Cert.Kernel12.Gen.facts,
  Cert.Kernel12Ideal.Gen.facts, Cert.Reference12Ideal.Gen.facts, Cert.Kernel13.Gen.facts, Cert.Kernel13Ideal.Gen.facts,
  Cert.Reference13Ideal.Gen.facts, Cert.Kernel14.Gen.facts, Cert.Kernel14Ideal.Gen.facts, Cert.Reference14Ideal.Gen.facts, Cert.Kernel15.Gen.facts,
  Cert.Kernel15Ideal.Gen.facts, Cert.Reference15Ideal.Gen.facts, Cert.Kernel16.Gen.facts, Cert.Kernel16Ideal.Gen.facts,
  Cert.Reference16Ideal.Gen.facts, Cert.Kernel17.Gen.facts, Cert.Kernel17Ideal.Gen.facts, Cert.Reference17Ideal.Gen.facts, Cert.Kernel18.Gen.facts,
  Cert.Kernel18Ideal.Gen.facts, Cert.Reference18Ideal.Gen.facts, Cert.Kernel19.Gen.facts, Cert.Kernel19Ideal.Gen.facts,
  Cert.Reference19Ideal.Gen.facts, Cert.Kernel20.Gen.facts, Cert.Kernel20Ideal.Gen.facts, Cert.Reference20Ideal.Gen.facts, Cert.Kernel21.Gen.facts,
  Cert.Kernel21Ideal.Gen.facts, Cert.Reference21Ideal.Gen.facts, Cert.Kernel22.Gen.facts, Cert.Kernel22Ideal.Gen.facts,
  Cert.Reference22Ideal.Gen.facts, Cert.Kernel23.Gen.facts, Cert.Kernel23Ideal.Gen.facts, Cert.Reference23Ideal.Gen.facts, Cert.Kernel24.Gen.facts,
  Cert.Kernel24Ideal.Gen.facts, Cert.Reference24Ideal.Gen.facts, Cert.Kernel25.Gen.facts, Cert.Kernel25Ideal.Gen.facts,
  Cert.Reference25Ideal.Gen.facts, Cert.Kernel26.Gen.facts, Cert.Kernel26Ideal.Gen.facts, Cert.Reference26Ideal.Gen.facts, Cert.Kernel27.Gen.facts,
  Cert.Kernel27Ideal.Gen.facts, Cert.Reference27Ideal.Gen.facts, Cert.Kernel28.Gen.facts, Cert.Kernel28Ideal.Gen.facts,
  Cert.Reference28Ideal.Gen.facts, Cert.Kernel29.Gen.facts, Cert.Kernel29Ideal.Gen.facts, Cert.Reference29Ideal.Gen.facts, Cert.Kernel30.Gen.facts,
  Cert.Kernel30Ideal.Gen.facts, Cert.Reference30Ideal.Gen.facts, Cert.Kernel31.Gen.facts, Cert.Kernel31Ideal.Gen.facts,
  Cert.Reference31Ideal.Gen.facts, Cert.Kernel32.Gen.facts, Cert.Kernel32Ideal.Gen.facts, Cert.Reference32Ideal.Gen.facts, Cert.Kernel33.Gen.facts,
  Cert.Kernel33Ideal.Gen.facts, Cert.Reference33Ideal.Gen.facts, Cert.Kernel34.Gen.facts, Cert.Kernel34Ideal.Gen.facts,
  Cert.Reference34Ideal.Gen.facts, Cert.Kernel35.Gen.facts, Cert.Kernel35Ideal.Gen.facts, Cert.Reference35Ideal.Gen.facts, Cert.Kernel36.Gen.facts,
  Cert.Kernel36Ideal.Gen.facts, Cert.Reference36Ideal.Gen.facts, Cert.Kernel37.Gen.facts, Cert.Kernel37Ideal.Gen.facts,
  Cert.Reference37Ideal.Gen.facts, Cert.Kernel38.Gen.facts, Cert.Kernel38Ideal.Gen.facts, Cert.Reference38Ideal.Gen.facts, Cert.Kernel39.Gen.facts,
  Cert.Kernel39Ideal.Gen.facts, Cert.Reference39Ideal.Gen.facts, Cert.Kernel40.Gen.facts, Cert.Kernel40Ideal.Gen.facts,
  Cert.Reference40Ideal.Gen.facts, Cert.Kernel41.Gen.facts, Cert.Kernel41Ideal.Gen.facts, Cert.Reference41Ideal.Gen.facts, Cert.Kernel42.Gen.facts,
  Cert.Kernel42Ideal.Gen.facts, Cert.Reference42Ideal.Gen.facts, Cert.Kernel43.Gen.facts, Cert.Kernel43Ideal.Gen.facts,
  Cert.Reference43Ideal.Gen.facts, Cert.Kernel44.Gen.facts, Cert.Kernel44Ideal.Gen.facts, Cert.Reference44Ideal.Gen.facts, Cert.Kernel45.Gen.facts,
  Cert.Kernel45Ideal.Gen.facts, Cert.Reference45Ideal.Gen.facts, Cert.Pre_finite.Gen.facts, Cert.Pre_finite_gate.Gen.facts,
  Cert.Pre_finite_conv.Gen.facts, Cert.Pre_finite_steps.Gen.facts,
  fun m ρ _ => Cert.Kernel.Gen.frame m ρ, fun m ρ _ => Cert.KernelIdeal.Gen.frame m ρ, Cert.ConvGrad.frame_ri,
  fun m ρ _ => Cert.Kernel2.Gen.frame m ρ, fun m ρ _ => Cert.Kernel2Ideal.Gen.frame m ρ,
  fun m ρ _ => Cert.Kernel2Ideal.Gen.frame m ρ, Cert.ActGrad.frame_ri, fun m ρ _ => Cert.ActGrad.frame_ri m ρ trivial,
  fun m ρ _ => Cert.Kernel3.Gen.frame m ρ, fun m ρ _ => Cert.Kernel3Ideal.Gen.frame m ρ, Cert.DownGrad.frame_ri,
  fun m ρ _ => Cert.Kernel4.Gen.frame m ρ, fun m ρ _ => Cert.Kernel4Ideal.Gen.frame m ρ, Cert.UpGrad.frame_ri,
  fun m ρ _ => Cert.Kernel5.Gen.frame m ρ, fun m ρ _ => Cert.Kernel5Ideal.Gen.frame m ρ, Cert.GateInput.frame_ri,
  fun m ρ _ => Cert.Kernel6.Gen.frame m ρ, fun m ρ _ => Cert.Kernel6Ideal.Gen.frame m ρ, Cert.UpInput.frame_ri,
  fun m ρ _ => Cert.Kernel7.Gen.frame m ρ, fun m ρ _ => Cert.Kernel7Ideal.Gen.frame m ρ, Cert.UpValue.frame_ri,
  fun m ρ _ => Cert.Kernel8.Gen.frame m ρ, fun m ρ _ => Cert.Kernel8Ideal.Gen.frame m ρ, Cert.DownValue.frame_ri,
  fun m ρ _ => Cert.Kernel9.Gen.frame m ρ, fun m ρ _ => Cert.Kernel9Ideal.Gen.frame m ρ, Cert.RmsGrad.frame_ri,
  fun m ρ _ => Cert.Kernel10.Gen.frame m ρ, fun m ρ _ => Cert.Kernel10Ideal.Gen.frame m ρ, Cert.LossValue.frame_ri,
  fun m ρ _ => Cert.Kernel11.Gen.frame m ρ, fun m ρ _ => Cert.Kernel11Ideal.Gen.frame m ρ, Cert.Adam.frames.1,
  fun m ρ _ => Cert.Kernel12.Gen.frame m ρ, fun m ρ _ => Cert.Kernel12Ideal.Gen.frame m ρ, Cert.Adam.frames.2.1,
  fun m ρ _ => Cert.Kernel13.Gen.frame m ρ, fun m ρ _ => Cert.Kernel13Ideal.Gen.frame m ρ, Cert.Adam.frames.2.2.1,
  fun m ρ _ => Cert.Kernel14.Gen.frame m ρ, fun m ρ _ => Cert.Kernel14Ideal.Gen.frame m ρ, Cert.Adam.frames.2.2.2.1,
  fun m ρ _ => Cert.Kernel15.Gen.frame m ρ, fun m ρ _ => Cert.Kernel15Ideal.Gen.frame m ρ, Cert.Adam.frames.2.2.2.2.1,
  fun m ρ _ => Cert.Kernel16.Gen.frame m ρ, fun m ρ _ => Cert.Kernel16Ideal.Gen.frame m ρ, Cert.Adam.frames.2.2.2.2.2.1,
  fun m ρ _ => Cert.Kernel17.Gen.frame m ρ, fun m ρ _ => Cert.Kernel17Ideal.Gen.frame m ρ, Cert.Adam.frames.2.2.2.2.2.2.1,
  fun m ρ _ => Cert.Kernel18.Gen.frame m ρ, fun m ρ _ => Cert.Kernel18Ideal.Gen.frame m ρ, Cert.Adam.frames.2.2.2.2.2.2.2,
  fun m ρ _ => Cert.Kernel19.Gen.frame m ρ, fun m ρ _ => Cert.Kernel19Ideal.Gen.frame m ρ, Cert.MixerValue.frames.1,
  fun m ρ _ => Cert.Kernel20.Gen.frame m ρ, fun m ρ _ => Cert.Kernel20Ideal.Gen.frame m ρ, Cert.MixerValue.frames.2.1,
  fun m ρ _ => Cert.Kernel21.Gen.frame m ρ, fun m ρ _ => Cert.Kernel21Ideal.Gen.frame m ρ, Cert.MixerValue.frames.2.2,
  fun m ρ _ => Cert.Kernel22.Gen.frame m ρ, fun m ρ _ => Cert.Kernel22Ideal.Gen.frame m ρ, Cert.MixerGrad.frames.1,
  fun m ρ _ => Cert.Kernel23.Gen.frame m ρ, fun m ρ _ => Cert.Kernel23Ideal.Gen.frame m ρ, Cert.MixerGrad.frames.2.1,
  fun m ρ _ => Cert.Kernel24.Gen.frame m ρ, fun m ρ _ => Cert.Kernel24Ideal.Gen.frame m ρ, Cert.MixerGrad.frames.2.2.1,
  fun m ρ _ => Cert.Kernel25.Gen.frame m ρ, fun m ρ _ => Cert.Kernel25Ideal.Gen.frame m ρ, Cert.MixerGrad.frames.2.2.2.1,
  fun m ρ _ => Cert.Kernel26.Gen.frame m ρ, fun m ρ _ => Cert.Kernel26Ideal.Gen.frame m ρ, Cert.MixerGrad.frames.2.2.2.2,
  fun m ρ _ => Cert.Kernel27.Gen.frame m ρ, fun m ρ _ => Cert.Kernel27Ideal.Gen.frame m ρ, Cert.SpaceValue.frames.1,
  fun m ρ _ => Cert.Kernel28.Gen.frame m ρ, fun m ρ _ => Cert.Kernel28Ideal.Gen.frame m ρ, Cert.SpaceValue.frames.2.1,
  fun m ρ _ => Cert.Kernel29.Gen.frame m ρ, fun m ρ _ => Cert.Kernel29Ideal.Gen.frame m ρ, Cert.SpaceValue.frames.2.2.1,
  fun m ρ _ => Cert.Kernel30.Gen.frame m ρ, fun m ρ _ => Cert.Kernel30Ideal.Gen.frame m ρ, Cert.SpaceValue.frames.2.2.2,
  fun m ρ _ => Cert.Kernel31.Gen.frame m ρ, fun m ρ _ => Cert.Kernel31Ideal.Gen.frame m ρ, Cert.SpaceGrad.frames.1,
  fun m ρ _ => Cert.Kernel32.Gen.frame m ρ, fun m ρ _ => Cert.Kernel32Ideal.Gen.frame m ρ, Cert.SpaceInput.frames.1,
  fun m ρ _ => Cert.Kernel33.Gen.frame m ρ, fun m ρ _ => Cert.Kernel33Ideal.Gen.frame m ρ, Cert.SpaceGrad.frames.2.1,
  fun m ρ _ => Cert.Kernel34.Gen.frame m ρ, fun m ρ _ => Cert.Kernel34Ideal.Gen.frame m ρ, Cert.SpaceGrad.frames.2.2.1,
  fun m ρ _ => Cert.Kernel35.Gen.frame m ρ, fun m ρ _ => Cert.Kernel35Ideal.Gen.frame m ρ, Cert.SpaceGrad.frames.2.2.2,
  fun m ρ _ => Cert.Kernel36.Gen.frame m ρ, fun m ρ _ => Cert.Kernel36Ideal.Gen.frame m ρ, Cert.SpaceInput.frames.2.1,
  fun m ρ _ => Cert.Kernel37.Gen.frame m ρ, fun m ρ _ => Cert.Kernel37Ideal.Gen.frame m ρ, Cert.SpaceInput.frames.2.2.1,
  fun m ρ _ => Cert.Kernel38.Gen.frame m ρ, fun m ρ _ => Cert.Kernel38Ideal.Gen.frame m ρ, Cert.SpaceInput.frames.2.2.2,
  fun m ρ _ => Cert.Kernel39.Gen.frame m ρ, fun m ρ _ => Cert.Kernel39Ideal.Gen.frame m ρ,
  fun m ρ _ => Cert.Kernel39Ideal.Gen.frame m ρ, Cert.GateNorm.frame_ri, fun m ρ _ => Cert.GateNorm.frame_ri m ρ trivial,
  fun m ρ _ => Cert.Kernel40.Gen.frame m ρ, fun m ρ _ => Cert.Kernel40Ideal.Gen.frame m ρ,
  fun m ρ _ => Cert.Kernel40Ideal.Gen.frame m ρ, Cert.SpaceConv.frame_ri, fun m ρ _ => Cert.SpaceConv.frame_ri m ρ trivial,
  fun m ρ _ => Cert.Kernel41.Gen.frame m ρ, fun m ρ _ => Cert.Kernel41Ideal.Gen.frame m ρ,
  fun m ρ _ => Cert.Kernel41Ideal.Gen.frame m ρ, Cert.StepSizes.frame_ri, fun m ρ _ => Cert.StepSizes.frame_ri m ρ trivial,
  fun m ρ _ => Cert.Kernel42.Gen.frame m ρ, fun m ρ _ => Cert.Kernel42Ideal.Gen.frame m ρ, Cert.RmsValue.frame_ri,
  fun m ρ _ => Cert.Kernel43.Gen.frame m ρ, fun m ρ _ => Cert.Kernel43Ideal.Gen.frame m ρ, Cert.GatedConv.frame_ri,
  fun m ρ _ => Cert.Kernel44.Gen.frame m ρ, fun m ρ _ => Cert.Kernel44Ideal.Gen.frame m ρ, Cert.SpaceConvValue.frame_ri,
  fun m ρ _ => Cert.Kernel45.Gen.frame m ρ, fun m ρ _ => Cert.Kernel45Ideal.Gen.frame m ρ, Cert.StepValue.frame_ri,
  trivial, Cert.ConvGrad.algebraic,
  trivial, Cert.ActGrad.algebraic,
  trivial, Cert.DownGrad.algebraic,
  trivial, Cert.UpGrad.algebraic,
  trivial, Cert.GateInput.algebraic,
  trivial, Cert.UpInput.algebraic,
  trivial, Cert.UpValue.algebraic,
  trivial, Cert.DownValue.algebraic,
  trivial, Cert.RmsGrad.algebraic,
  trivial, Cert.LossValue.algebraic,
  trivial, Cert.Adam.small,
  trivial, Cert.Adam.feed.1,
  trivial, Cert.Adam.feed.2,
  trivial, Cert.Adam.attention.1,
  trivial, Cert.Adam.attention.2,
  trivial, Cert.Adam.space,
  trivial, Cert.Adam.conv.1,
  trivial, Cert.Adam.conv.2,
  trivial, Cert.MixerValue.qkv,
  trivial, Cert.MixerValue.win,
  trivial, Cert.MixerValue.out,
  trivial, Cert.MixerGrad.dwo,
  trivial, Cert.MixerGrad.do_,
  trivial, Cert.MixerGrad.dm,
  trivial, Cert.MixerGrad.dwqkv,
  trivial, Cert.MixerGrad.dhp,
  trivial, Cert.SpaceValue.z,
  trivial, Cert.SpaceValue.xbc,
  trivial, Cert.SpaceValue.dt,
  trivial, Cert.SpaceValue.out,
  trivial, Cert.SpaceGrad.dwout,
  trivial, Cert.SpaceInput.dyn,
  trivial, Cert.SpaceGrad.dwz,
  trivial, Cert.SpaceGrad.dwx,
  trivial, Cert.SpaceGrad.dwdt,
  trivial, Cert.SpaceInput.dhz,
  trivial, Cert.SpaceInput.dhx,
  trivial, Cert.SpaceInput.dhdt,
  trivial, Cert.GateNorm.algebraic,
  trivial, Cert.SpaceConv.algebraic,
  trivial, Cert.StepSizes.algebraic,
  trivial, Cert.RmsValue.algebraic,
  trivial, Cert.GatedConv.algebraic,
  trivial, Cert.SpaceConvValue.algebraic,
  trivial, Cert.StepValue.algebraic⟩

end Cert.Proof

end
